-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_OIn (m : (ℓ : Loc Cert.OIn.nD Cert.OIn.τ Cert.OIn.sig) → Buf (Elt Bits) ℓ) : Prop :=
  True

def Pre_OInIdeal (m : (ℓ : Loc Cert.OInIdeal.nD Cert.OInIdeal.τ Cert.OInIdeal.sig) → Buf (Elt Ideal) ℓ) : Prop :=
  True

def Pre_OInRefIdeal (m : (ℓ : Loc Cert.OInRefIdeal.nD Cert.OInRefIdeal.τ Cert.OInRefIdeal.sig) → Buf (Elt Ideal) ℓ) : Prop :=
  True

def Pre_OutIn (m : (ℓ : Loc Cert.OutIn.nD Cert.OutIn.τ Cert.OutIn.sig) → Buf (Elt Bits) ℓ) : Prop :=
  True

def Pre_OutInIdeal (m : (ℓ : Loc Cert.OutInIdeal.nD Cert.OutInIdeal.τ Cert.OutInIdeal.sig) → Buf (Elt Ideal) ℓ) : Prop :=
  True

def Pre_OutInRefIdeal (m : (ℓ : Loc Cert.OutInRefIdeal.nD Cert.OutInRefIdeal.τ Cert.OutInRefIdeal.sig) → Buf (Elt Ideal) ℓ) : Prop :=
  True

def Pre_KvIn (m : (ℓ : Loc Cert.KvIn.nD Cert.KvIn.τ Cert.KvIn.sig) → Buf (Elt Bits) ℓ) : Prop :=
  True

def Pre_KvInIdeal (m : (ℓ : Loc Cert.KvInIdeal.nD Cert.KvInIdeal.τ Cert.KvInIdeal.sig) → Buf (Elt Ideal) ℓ) : Prop :=
  True

def Pre_KvInRefIdeal (m : (ℓ : Loc Cert.KvInRefIdeal.nD Cert.KvInRefIdeal.τ Cert.KvInRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5))) = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemG (m : (ℓ : Loc Cert.MemG.nD Cert.MemG.τ Cert.MemG.sig) → Buf (Elt Bits) ℓ) : Prop :=
  True

def Pre_MemGIdeal (m : (ℓ : Loc Cert.MemGIdeal.nD Cert.MemGIdeal.τ Cert.MemGIdeal.sig) → Buf (Elt Ideal) ℓ) : Prop :=
  True

def Pre_MemGRefIdeal (m : (ℓ : Loc Cert.MemGRefIdeal.nD Cert.MemGRefIdeal.τ Cert.MemGRefIdeal.sig) → Buf (Elt Ideal) ℓ) : Prop :=
  True

def Pre_FfnG (m : (ℓ : Loc Cert.FfnG.nD Cert.FfnG.τ Cert.FfnG.sig) → Buf (Elt Bits) ℓ) : Prop :=
  True

def Pre_FfnGIdeal (m : (ℓ : Loc Cert.FfnGIdeal.nD Cert.FfnGIdeal.τ Cert.FfnGIdeal.sig) → Buf (Elt Ideal) ℓ) : Prop :=
  True

def Pre_FfnGRefIdeal (m : (ℓ : Loc Cert.FfnGRefIdeal.nD Cert.FfnGRefIdeal.τ Cert.FfnGRefIdeal.sig) → Buf (Elt Ideal) ℓ) : Prop :=
  True

def Pre_QIn (m : (ℓ : Loc Cert.QIn.nD Cert.QIn.τ Cert.QIn.sig) → Buf (Elt Bits) ℓ) : Prop :=
  True

def Pre_QInIdeal (m : (ℓ : Loc Cert.QInIdeal.nD Cert.QInIdeal.τ Cert.QInIdeal.sig) → Buf (Elt Ideal) ℓ) : Prop :=
  True

def Pre_QInRefIdeal (m : (ℓ : Loc Cert.QInRefIdeal.nD Cert.QInRefIdeal.τ Cert.QInRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_SumEarly (m : (ℓ : Loc Cert.SumEarly.nD Cert.SumEarly.τ Cert.SumEarly.sig) → Buf (Elt Bits) ℓ) : Prop :=
  True

def Pre_SumEarlyIdeal (m : (ℓ : Loc Cert.SumEarlyIdeal.nD Cert.SumEarlyIdeal.τ Cert.SumEarlyIdeal.sig) → Buf (Elt Ideal) ℓ) : Prop :=
  True

def Pre_SumEarlyRefIdeal (m : (ℓ : Loc Cert.SumEarlyRefIdeal.nD Cert.SumEarlyRefIdeal.τ Cert.SumEarlyRefIdeal.sig) → Buf (Elt Ideal) ℓ) : Prop :=
  True

def Pre_SumLate (m : (ℓ : Loc Cert.SumLate.nD Cert.SumLate.τ Cert.SumLate.sig) → Buf (Elt Bits) ℓ) : Prop :=
  True

def Pre_SumLateIdeal (m : (ℓ : Loc Cert.SumLateIdeal.nD Cert.SumLateIdeal.τ Cert.SumLateIdeal.sig) → Buf (Elt Ideal) ℓ) : Prop :=
  True

def Pre_SumLateRefIdeal (m : (ℓ : Loc Cert.SumLateRefIdeal.nD Cert.SumLateRefIdeal.τ Cert.SumLateRefIdeal.sig) → Buf (Elt Ideal) ℓ) : Prop :=
  True

def Pre_SmallAdamw (m : (ℓ : Loc Cert.SmallAdamw.nD Cert.SmallAdamw.τ Cert.SmallAdamw.sig) → Buf (Elt Bits) ℓ) : Prop :=
  True

def Pre_SmallAdamwIdeal (m : (ℓ : Loc Cert.SmallAdamwIdeal.nD Cert.SmallAdamwIdeal.τ Cert.SmallAdamwIdeal.sig) → Buf (Elt Ideal) ℓ) : Prop :=
  True

def Pre_SmallAdamwRefIdeal (m : (ℓ : Loc Cert.SmallAdamwRefIdeal.nD Cert.SmallAdamwRefIdeal.τ Cert.SmallAdamwRefIdeal.sig) → Buf (Elt Ideal) ℓ) : Prop :=
  True

def Pre_FinSquare [hPre_chip_square : Cert.Pre_chip_square.Facts] (m : (ℓ : Loc Cert.FinSquare.nD Cert.FinSquare.τ Cert.FinSquare.sig) → Buf (Elt Bits) ℓ) : Prop :=
  ∀ c : Dev Cert.FinSquare.nD,
    (Cert.Pre_chip_square.fn (F := Bits) (m ((c.tc : Thread Cert.FinSquare.nD Cert.FinSquare.τ).loc Cert.FinSquare.main_arg0)) (m ((c.tc : Thread Cert.FinSquare.nD Cert.FinSquare.τ).loc Cert.FinSquare.main_arg1)) (m ((c.tc : Thread Cert.FinSquare.nD Cert.FinSquare.τ).loc Cert.FinSquare.main_arg2)) (m ((c.tc : Thread Cert.FinSquare.nD Cert.FinSquare.τ).loc Cert.FinSquare.main_arg3)) (m ((c.tc : Thread Cert.FinSquare.nD Cert.FinSquare.τ).loc Cert.FinSquare.main_arg4)) (m ((c.tc : Thread Cert.FinSquare.nD Cert.FinSquare.τ).loc Cert.FinSquare.main_arg5))) = (fun _ => 1#1)

def Pre_FinSquareIdeal [hPre_chip_square : Cert.Pre_chip_square.Facts] (m : (ℓ : Loc Cert.FinSquareIdeal.nD Cert.FinSquareIdeal.τ Cert.FinSquareIdeal.sig) → Buf (Elt Ideal) ℓ) : Prop :=
  ∀ c : Dev Cert.FinSquareIdeal.nD,
    (Cert.Pre_chip_square.fn (F := Ideal) (m ((c.tc : Thread Cert.FinSquareIdeal.nD Cert.FinSquareIdeal.τ).loc Cert.FinSquareIdeal.main_arg0)) (m ((c.tc : Thread Cert.FinSquareIdeal.nD Cert.FinSquareIdeal.τ).loc Cert.FinSquareIdeal.main_arg1)) (m ((c.tc : Thread Cert.FinSquareIdeal.nD Cert.FinSquareIdeal.τ).loc Cert.FinSquareIdeal.main_arg2)) (m ((c.tc : Thread Cert.FinSquareIdeal.nD Cert.FinSquareIdeal.τ).loc Cert.FinSquareIdeal.main_arg3)) (m ((c.tc : Thread Cert.FinSquareIdeal.nD Cert.FinSquareIdeal.τ).loc Cert.FinSquareIdeal.main_arg4)) (m ((c.tc : Thread Cert.FinSquareIdeal.nD Cert.FinSquareIdeal.τ).loc Cert.FinSquareIdeal.main_arg5))) = (fun _ => 1#1)

def Pre_FinSquareRefIdeal (m : (ℓ : Loc Cert.FinSquareRefIdeal.nD Cert.FinSquareRefIdeal.τ Cert.FinSquareRefIdeal.sig) → Buf (Elt Ideal) ℓ) : Prop :=
  True

def Pre_FinSquareRefIdeal_chip_square [hPre_chip_square : Cert.Pre_chip_square.Facts] (m : (ℓ : Loc Cert.FinSquareRefIdeal.nD Cert.FinSquareRefIdeal.τ Cert.FinSquareRefIdeal.sig) → Buf (Elt Ideal) ℓ) : Prop :=
  ∀ c : Dev Cert.FinSquareRefIdeal.nD,
    (Cert.Pre_chip_square.fn (F := Ideal) (m ((c.tc : Thread Cert.FinSquareRefIdeal.nD Cert.FinSquareRefIdeal.τ).loc Cert.FinSquareRefIdeal.main_arg0)) (m ((c.tc : Thread Cert.FinSquareRefIdeal.nD Cert.FinSquareRefIdeal.τ).loc Cert.FinSquareRefIdeal.main_arg1)) (m ((c.tc : Thread Cert.FinSquareRefIdeal.nD Cert.FinSquareRefIdeal.τ).loc Cert.FinSquareRefIdeal.main_arg2)) (m ((c.tc : Thread Cert.FinSquareRefIdeal.nD Cert.FinSquareRefIdeal.τ).loc Cert.FinSquareRefIdeal.main_arg3)) (m ((c.tc : Thread Cert.FinSquareRefIdeal.nD Cert.FinSquareRefIdeal.τ).loc Cert.FinSquareRefIdeal.main_arg4)) (m ((c.tc : Thread Cert.FinSquareRefIdeal.nD Cert.FinSquareRefIdeal.τ).loc Cert.FinSquareRefIdeal.main_arg5))) = (fun _ => 1#1)

def Pre_FinFfn [hPre_chip_ffn : Cert.Pre_chip_ffn.Facts] (m : (ℓ : Loc Cert.FinFfn.nD Cert.FinFfn.τ Cert.FinFfn.sig) → Buf (Elt Bits) ℓ) : Prop :=
  ∀ c : Dev Cert.FinFfn.nD,
    (Cert.Pre_chip_ffn.fn (F := Bits) (m ((c.tc : Thread Cert.FinFfn.nD Cert.FinFfn.τ).loc Cert.FinFfn.main_arg0)) (m ((c.tc : Thread Cert.FinFfn.nD Cert.FinFfn.τ).loc Cert.FinFfn.main_arg1)) (m ((c.tc : Thread Cert.FinFfn.nD Cert.FinFfn.τ).loc Cert.FinFfn.main_arg2)) (m ((c.tc : Thread Cert.FinFfn.nD Cert.FinFfn.τ).loc Cert.FinFfn.main_arg3)) (m ((c.tc : Thread Cert.FinFfn.nD Cert.FinFfn.τ).loc Cert.FinFfn.main_arg4)) (m ((c.tc : Thread Cert.FinFfn.nD Cert.FinFfn.τ).loc Cert.FinFfn.main_arg5))) = (fun _ => 1#1)

def Pre_FinFfnIdeal [hPre_chip_ffn : Cert.Pre_chip_ffn.Facts] (m : (ℓ : Loc Cert.FinFfnIdeal.nD Cert.FinFfnIdeal.τ Cert.FinFfnIdeal.sig) → Buf (Elt Ideal) ℓ) : Prop :=
  ∀ c : Dev Cert.FinFfnIdeal.nD,
    (Cert.Pre_chip_ffn.fn (F := Ideal) (m ((c.tc : Thread Cert.FinFfnIdeal.nD Cert.FinFfnIdeal.τ).loc Cert.FinFfnIdeal.main_arg0)) (m ((c.tc : Thread Cert.FinFfnIdeal.nD Cert.FinFfnIdeal.τ).loc Cert.FinFfnIdeal.main_arg1)) (m ((c.tc : Thread Cert.FinFfnIdeal.nD Cert.FinFfnIdeal.τ).loc Cert.FinFfnIdeal.main_arg2)) (m ((c.tc : Thread Cert.FinFfnIdeal.nD Cert.FinFfnIdeal.τ).loc Cert.FinFfnIdeal.main_arg3)) (m ((c.tc : Thread Cert.FinFfnIdeal.nD Cert.FinFfnIdeal.τ).loc Cert.FinFfnIdeal.main_arg4)) (m ((c.tc : Thread Cert.FinFfnIdeal.nD Cert.FinFfnIdeal.τ).loc Cert.FinFfnIdeal.main_arg5))) = (fun _ => 1#1)

def Pre_FinFfnRefIdeal (m : (ℓ : Loc Cert.FinFfnRefIdeal.nD Cert.FinFfnRefIdeal.τ Cert.FinFfnRefIdeal.sig) → Buf (Elt Ideal) ℓ) : Prop :=
  True

def Pre_FinFfnRefIdeal_chip_ffn [hPre_chip_ffn : Cert.Pre_chip_ffn.Facts] (m : (ℓ : Loc Cert.FinFfnRefIdeal.nD Cert.FinFfnRefIdeal.τ Cert.FinFfnRefIdeal.sig) → Buf (Elt Ideal) ℓ) : Prop :=
  ∀ c : Dev Cert.FinFfnRefIdeal.nD,
    (Cert.Pre_chip_ffn.fn (F := Ideal) (m ((c.tc : Thread Cert.FinFfnRefIdeal.nD Cert.FinFfnRefIdeal.τ).loc Cert.FinFfnRefIdeal.main_arg0)) (m ((c.tc : Thread Cert.FinFfnRefIdeal.nD Cert.FinFfnRefIdeal.τ).loc Cert.FinFfnRefIdeal.main_arg1)) (m ((c.tc : Thread Cert.FinFfnRefIdeal.nD Cert.FinFfnRefIdeal.τ).loc Cert.FinFfnRefIdeal.main_arg2)) (m ((c.tc : Thread Cert.FinFfnRefIdeal.nD Cert.FinFfnRefIdeal.τ).loc Cert.FinFfnRefIdeal.main_arg3)) (m ((c.tc : Thread Cert.FinFfnRefIdeal.nD Cert.FinFfnRefIdeal.τ).loc Cert.FinFfnRefIdeal.main_arg4)) (m ((c.tc : Thread Cert.FinFfnRefIdeal.nD Cert.FinFfnRefIdeal.τ).loc Cert.FinFfnRefIdeal.main_arg5))) = (fun _ => 1#1)

def Pre_FinPool [hPre_chip_pool : Cert.Pre_chip_pool.Facts] (m : (ℓ : Loc Cert.FinPool.nD Cert.FinPool.τ Cert.FinPool.sig) → Buf (Elt Bits) ℓ) : Prop :=
  ∀ c : Dev Cert.FinPool.nD,
    (Cert.Pre_chip_pool.fn (F := Bits) (m ((c.tc : Thread Cert.FinPool.nD Cert.FinPool.τ).loc Cert.FinPool.main_arg0)) (m ((c.tc : Thread Cert.FinPool.nD Cert.FinPool.τ).loc Cert.FinPool.main_arg1)) (m ((c.tc : Thread Cert.FinPool.nD Cert.FinPool.τ).loc Cert.FinPool.main_arg2)) (m ((c.tc : Thread Cert.FinPool.nD Cert.FinPool.τ).loc Cert.FinPool.main_arg3)) (m ((c.tc : Thread Cert.FinPool.nD Cert.FinPool.τ).loc Cert.FinPool.main_arg4)) (m ((c.tc : Thread Cert.FinPool.nD Cert.FinPool.τ).loc Cert.FinPool.main_arg5))) = (fun _ => 1#1)

def Pre_FinPoolIdeal [hPre_chip_pool : Cert.Pre_chip_pool.Facts] (m : (ℓ : Loc Cert.FinPoolIdeal.nD Cert.FinPoolIdeal.τ Cert.FinPoolIdeal.sig) → Buf (Elt Ideal) ℓ) : Prop :=
  ∀ c : Dev Cert.FinPoolIdeal.nD,
    (Cert.Pre_chip_pool.fn (F := Ideal) (m ((c.tc : Thread Cert.FinPoolIdeal.nD Cert.FinPoolIdeal.τ).loc Cert.FinPoolIdeal.main_arg0)) (m ((c.tc : Thread Cert.FinPoolIdeal.nD Cert.FinPoolIdeal.τ).loc Cert.FinPoolIdeal.main_arg1)) (m ((c.tc : Thread Cert.FinPoolIdeal.nD Cert.FinPoolIdeal.τ).loc Cert.FinPoolIdeal.main_arg2)) (m ((c.tc : Thread Cert.FinPoolIdeal.nD Cert.FinPoolIdeal.τ).loc Cert.FinPoolIdeal.main_arg3)) (m ((c.tc : Thread Cert.FinPoolIdeal.nD Cert.FinPoolIdeal.τ).loc Cert.FinPoolIdeal.main_arg4)) (m ((c.tc : Thread Cert.FinPoolIdeal.nD Cert.FinPoolIdeal.τ).loc Cert.FinPoolIdeal.main_arg5))) = (fun _ => 1#1)

def Pre_FinPoolRefIdeal (m : (ℓ : Loc Cert.FinPoolRefIdeal.nD Cert.FinPoolRefIdeal.τ Cert.FinPoolRefIdeal.sig) → Buf (Elt Ideal) ℓ) : Prop :=
  True

def Pre_FinPoolRefIdeal_chip_pool [hPre_chip_pool : Cert.Pre_chip_pool.Facts] (m : (ℓ : Loc Cert.FinPoolRefIdeal.nD Cert.FinPoolRefIdeal.τ Cert.FinPoolRefIdeal.sig) → Buf (Elt Ideal) ℓ) : Prop :=
  ∀ c : Dev Cert.FinPoolRefIdeal.nD,
    (Cert.Pre_chip_pool.fn (F := Ideal) (m ((c.tc : Thread Cert.FinPoolRefIdeal.nD Cert.FinPoolRefIdeal.τ).loc Cert.FinPoolRefIdeal.main_arg0)) (m ((c.tc : Thread Cert.FinPoolRefIdeal.nD Cert.FinPoolRefIdeal.τ).loc Cert.FinPoolRefIdeal.main_arg1)) (m ((c.tc : Thread Cert.FinPoolRefIdeal.nD Cert.FinPoolRefIdeal.τ).loc Cert.FinPoolRefIdeal.main_arg2)) (m ((c.tc : Thread Cert.FinPoolRefIdeal.nD Cert.FinPoolRefIdeal.τ).loc Cert.FinPoolRefIdeal.main_arg3)) (m ((c.tc : Thread Cert.FinPoolRefIdeal.nD Cert.FinPoolRefIdeal.τ).loc Cert.FinPoolRefIdeal.main_arg4)) (m ((c.tc : Thread Cert.FinPoolRefIdeal.nD Cert.FinPoolRefIdeal.τ).loc Cert.FinPoolRefIdeal.main_arg5))) = (fun _ => 1#1)

def Pre_FinIn [hPre_chip_in : Cert.Pre_chip_in.Facts] (m : (ℓ : Loc Cert.FinIn.nD Cert.FinIn.τ Cert.FinIn.sig) → Buf (Elt Bits) ℓ) : Prop :=
  ∀ c : Dev Cert.FinIn.nD,
    (Cert.Pre_chip_in.fn (F := Bits) (m ((c.tc : Thread Cert.FinIn.nD Cert.FinIn.τ).loc Cert.FinIn.main_arg0)) (m ((c.tc : Thread Cert.FinIn.nD Cert.FinIn.τ).loc Cert.FinIn.main_arg1)) (m ((c.tc : Thread Cert.FinIn.nD Cert.FinIn.τ).loc Cert.FinIn.main_arg2)) (m ((c.tc : Thread Cert.FinIn.nD Cert.FinIn.τ).loc Cert.FinIn.main_arg3)) (m ((c.tc : Thread Cert.FinIn.nD Cert.FinIn.τ).loc Cert.FinIn.main_arg4)) (m ((c.tc : Thread Cert.FinIn.nD Cert.FinIn.τ).loc Cert.FinIn.main_arg5))) = (fun _ => 1#1)

def Pre_FinInIdeal [hPre_chip_in : Cert.Pre_chip_in.Facts] (m : (ℓ : Loc Cert.FinInIdeal.nD Cert.FinInIdeal.τ Cert.FinInIdeal.sig) → Buf (Elt Ideal) ℓ) : Prop :=
  ∀ c : Dev Cert.FinInIdeal.nD,
    (Cert.Pre_chip_in.fn (F := Ideal) (m ((c.tc : Thread Cert.FinInIdeal.nD Cert.FinInIdeal.τ).loc Cert.FinInIdeal.main_arg0)) (m ((c.tc : Thread Cert.FinInIdeal.nD Cert.FinInIdeal.τ).loc Cert.FinInIdeal.main_arg1)) (m ((c.tc : Thread Cert.FinInIdeal.nD Cert.FinInIdeal.τ).loc Cert.FinInIdeal.main_arg2)) (m ((c.tc : Thread Cert.FinInIdeal.nD Cert.FinInIdeal.τ).loc Cert.FinInIdeal.main_arg3)) (m ((c.tc : Thread Cert.FinInIdeal.nD Cert.FinInIdeal.τ).loc Cert.FinInIdeal.main_arg4)) (m ((c.tc : Thread Cert.FinInIdeal.nD Cert.FinInIdeal.τ).loc Cert.FinInIdeal.main_arg5))) = (fun _ => 1#1)

def Pre_FinInRefIdeal (m : (ℓ : Loc Cert.FinInRefIdeal.nD Cert.FinInRefIdeal.τ Cert.FinInRefIdeal.sig) → Buf (Elt Ideal) ℓ) : Prop :=
  True

def Pre_FinInRefIdeal_chip_in [hPre_chip_in : Cert.Pre_chip_in.Facts] (m : (ℓ : Loc Cert.FinInRefIdeal.nD Cert.FinInRefIdeal.τ Cert.FinInRefIdeal.sig) → Buf (Elt Ideal) ℓ) : Prop :=
  ∀ c : Dev Cert.FinInRefIdeal.nD,
    (Cert.Pre_chip_in.fn (F := Ideal) (m ((c.tc : Thread Cert.FinInRefIdeal.nD Cert.FinInRefIdeal.τ).loc Cert.FinInRefIdeal.main_arg0)) (m ((c.tc : Thread Cert.FinInRefIdeal.nD Cert.FinInRefIdeal.τ).loc Cert.FinInRefIdeal.main_arg1)) (m ((c.tc : Thread Cert.FinInRefIdeal.nD Cert.FinInRefIdeal.τ).loc Cert.FinInRefIdeal.main_arg2)) (m ((c.tc : Thread Cert.FinInRefIdeal.nD Cert.FinInRefIdeal.τ).loc Cert.FinInRefIdeal.main_arg3)) (m ((c.tc : Thread Cert.FinInRefIdeal.nD Cert.FinInRefIdeal.τ).loc Cert.FinInRefIdeal.main_arg4)) (m ((c.tc : Thread Cert.FinInRefIdeal.nD Cert.FinInRefIdeal.τ).loc Cert.FinInRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1))
      ∧ r.2.sem = fun _ => 0)

def quiescent_OIn [hOIn : Cert.OIn.Facts] : Prop :=
  ∀ (m : (ℓ : Loc Cert.OIn.nD Cert.OIn.τ Cert.OIn.sig) → Buf (Elt Bits) ℓ) (g : Dev Cert.OIn.nD → PrngReg), Pre_OIn m →
    θ_run (Cert.OIn.defs (F := Bits)) (onTc (τ := Cert.OIn.τ) (Cert.OIn.main (F := Bits))) ⟨m, fun _ => 0, g⟩ (fun r => (∀ c : Dev Cert.OIn.nD,
      r.2.mem ((c.tc : Thread Cert.OIn.nD Cert.OIn.τ).loc Cert.OIn.main_arg0) = m ((c.tc : Thread Cert.OIn.nD Cert.OIn.τ).loc Cert.OIn.main_arg0)
      ∧ r.2.mem ((c.tc : Thread Cert.OIn.nD Cert.OIn.τ).loc Cert.OIn.main_arg1) = m ((c.tc : Thread Cert.OIn.nD Cert.OIn.τ).loc Cert.OIn.main_arg1))
      ∧ r.2.sem = fun _ => 0)

def quiescent_OInIdeal [hOInIdeal : Cert.OInIdeal.Facts] : Prop :=
  ∀ (m : (ℓ : Loc Cert.OInIdeal.nD Cert.OInIdeal.τ Cert.OInIdeal.sig) → Buf (Elt Ideal) ℓ) (g : Dev Cert.OInIdeal.nD → PrngReg), Pre_OInIdeal m →
    θ_run (Cert.OInIdeal.defs (F := Ideal)) (onTc (τ := Cert.OInIdeal.τ) (Cert.OInIdeal.main (F := Ideal))) ⟨m, fun _ => 0, g⟩ (fun r => (∀ c : Dev Cert.OInIdeal.nD,
      r.2.mem ((c.tc : Thread Cert.OInIdeal.nD Cert.OInIdeal.τ).loc Cert.OInIdeal.main_arg0) = m ((c.tc : Thread Cert.OInIdeal.nD Cert.OInIdeal.τ).loc Cert.OInIdeal.main_arg0)
      ∧ r.2.mem ((c.tc : Thread Cert.OInIdeal.nD Cert.OInIdeal.τ).loc Cert.OInIdeal.main_arg1) = m ((c.tc : Thread Cert.OInIdeal.nD Cert.OInIdeal.τ).loc Cert.OInIdeal.main_arg1))
      ∧ r.2.sem = fun _ => 0)

def quiescent_OInRefIdeal [hOInRefIdeal : Cert.OInRefIdeal.Facts] : Prop :=
  ∀ (m : (ℓ : Loc Cert.OInRefIdeal.nD Cert.OInRefIdeal.τ Cert.OInRefIdeal.sig) → Buf (Elt Ideal) ℓ) (g : Dev Cert.OInRefIdeal.nD → PrngReg), Pre_OInRefIdeal m →
    θ_run (Cert.OInRefIdeal.defs (F := Ideal)) (onTc (τ := Cert.OInRefIdeal.τ) (Cert.OInRefIdeal.main (F := Ideal))) ⟨m, fun _ => 0, g⟩ (fun r => (∀ c : Dev Cert.OInRefIdeal.nD,
      r.2.mem ((c.tc : Thread Cert.OInRefIdeal.nD Cert.OInRefIdeal.τ).loc Cert.OInRefIdeal.main_arg0) = m ((c.tc : Thread Cert.OInRefIdeal.nD Cert.OInRefIdeal.τ).loc Cert.OInRefIdeal.main_arg0)
      ∧ r.2.mem ((c.tc : Thread Cert.OInRefIdeal.nD Cert.OInRefIdeal.τ).loc Cert.OInRefIdeal.main_arg1) = m ((c.tc : Thread Cert.OInRefIdeal.nD Cert.OInRefIdeal.τ).loc Cert.OInRefIdeal.main_arg1))
      ∧ r.2.sem = fun _ => 0)

def quiescent_OutIn [hOutIn : Cert.OutIn.Facts] : Prop :=
  ∀ (m : (ℓ : Loc Cert.OutIn.nD Cert.OutIn.τ Cert.OutIn.sig) → Buf (Elt Bits) ℓ) (g : Dev Cert.OutIn.nD → PrngReg), Pre_OutIn m →
    θ_run (Cert.OutIn.defs (F := Bits)) (onTc (τ := Cert.OutIn.τ) (Cert.OutIn.main (F := Bits))) ⟨m, fun _ => 0, g⟩ (fun r => (∀ c : Dev Cert.OutIn.nD,
      r.2.mem ((c.tc : Thread Cert.OutIn.nD Cert.OutIn.τ).loc Cert.OutIn.main_arg0) = m ((c.tc : Thread Cert.OutIn.nD Cert.OutIn.τ).loc Cert.OutIn.main_arg0)
      ∧ r.2.mem ((c.tc : Thread Cert.OutIn.nD Cert.OutIn.τ).loc Cert.OutIn.main_arg1) = m ((c.tc : Thread Cert.OutIn.nD Cert.OutIn.τ).loc Cert.OutIn.main_arg1))
      ∧ r.2.sem = fun _ => 0)

def quiescent_OutInIdeal [hOutInIdeal : Cert.OutInIdeal.Facts] : Prop :=
  ∀ (m : (ℓ : Loc Cert.OutInIdeal.nD Cert.OutInIdeal.τ Cert.OutInIdeal.sig) → Buf (Elt Ideal) ℓ) (g : Dev Cert.OutInIdeal.nD → PrngReg), Pre_OutInIdeal m →
    θ_run (Cert.OutInIdeal.defs (F := Ideal)) (onTc (τ := Cert.OutInIdeal.τ) (Cert.OutInIdeal.main (F := Ideal))) ⟨m, fun _ => 0, g⟩ (fun r => (∀ c : Dev Cert.OutInIdeal.nD,
      r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
      ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1))
      ∧ r.2.sem = fun _ => 0)

def quiescent_OutInRefIdeal [hOutInRefIdeal : Cert.OutInRefIdeal.Facts] : Prop :=
  ∀ (m : (ℓ : Loc Cert.OutInRefIdeal.nD Cert.OutInRefIdeal.τ Cert.OutInRefIdeal.sig) → Buf (Elt Ideal) ℓ) (g : Dev Cert.OutInRefIdeal.nD → PrngReg), Pre_OutInRefIdeal m →
    θ_run (Cert.OutInRefIdeal.defs (F := Ideal)) (onTc (τ := Cert.OutInRefIdeal.τ) (Cert.OutInRefIdeal.main (F := Ideal))) ⟨m, fun _ => 0, g⟩ (fun r => (∀ c : Dev Cert.OutInRefIdeal.nD,
      r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1))
      ∧ r.2.sem = fun _ => 0)

def quiescent_KvIn [hKvIn : Cert.KvIn.Facts] : Prop :=
  ∀ (m : (ℓ : Loc Cert.KvIn.nD Cert.KvIn.τ Cert.KvIn.sig) → Buf (Elt Bits) ℓ) (g : Dev Cert.KvIn.nD → PrngReg), Pre_KvIn m →
    θ_run (Cert.KvIn.defs (F := Bits)) (onTc (τ := Cert.KvIn.τ) (Cert.KvIn.main (F := Bits))) ⟨m, fun _ => 0, g⟩ (fun r => (∀ c : Dev Cert.KvIn.nD,
      r.2.mem ((c.tc : Thread Cert.KvIn.nD Cert.KvIn.τ).loc Cert.KvIn.main_arg0) = m ((c.tc : Thread Cert.KvIn.nD Cert.KvIn.τ).loc Cert.KvIn.main_arg0)
      ∧ r.2.mem ((c.tc : Thread Cert.KvIn.nD Cert.KvIn.τ).loc Cert.KvIn.main_arg1) = m ((c.tc : Thread Cert.KvIn.nD Cert.KvIn.τ).loc Cert.KvIn.main_arg1)
      ∧ r.2.mem ((c.tc : Thread Cert.KvIn.nD Cert.KvIn.τ).loc Cert.KvIn.main_arg2) = m ((c.tc : Thread Cert.KvIn.nD Cert.KvIn.τ).loc Cert.KvIn.main_arg2)
      ∧ r.2.mem ((c.tc : Thread Cert.KvIn.nD Cert.KvIn.τ).loc Cert.KvIn.main_arg3) = m ((c.tc : Thread Cert.KvIn.nD Cert.KvIn.τ).loc Cert.KvIn.main_arg3))
      ∧ r.2.sem = fun _ => 0)

def quiescent_KvInIdeal [hKvInIdeal : Cert.KvInIdeal.Facts] : Prop :=
  ∀ (m : (ℓ : Loc Cert.KvInIdeal.nD Cert.KvInIdeal.τ Cert.KvInIdeal.sig) → Buf (Elt Ideal) ℓ) (g : Dev Cert.KvInIdeal.nD → PrngReg), Pre_KvInIdeal m →
    θ_run (Cert.KvInIdeal.defs (F := Ideal)) (onTc (τ := Cert.KvInIdeal.τ) (Cert.KvInIdeal.main (F := Ideal))) ⟨m, fun _ => 0, g⟩ (fun r => (∀ c : Dev Cert.KvInIdeal.nD,
      r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
      ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1)
      ∧ r.2.mem ((c.tc : Thread Cert.KvInIdeal.nD Cert.KvInIdeal.τ).loc Cert.KvInIdeal.main_arg2) = m ((c.tc : Thread Cert.KvInIdeal.nD Cert.KvInIdeal.τ).loc Cert.KvInIdeal.main_arg2)
      ∧ r.2.mem ((c.tc : Thread Cert.KvInIdeal.nD Cert.KvInIdeal.τ).loc Cert.KvInIdeal.main_arg3) = m ((c.tc : Thread Cert.KvInIdeal.nD Cert.KvInIdeal.τ).loc Cert.KvInIdeal.main_arg3))
      ∧ r.2.sem = fun _ => 0)

def quiescent_KvInRefIdeal [hKvInRefIdeal : Cert.KvInRefIdeal.Facts] : Prop :=
  ∀ (m : (ℓ : Loc Cert.KvInRefIdeal.nD Cert.KvInRefIdeal.τ Cert.KvInRefIdeal.sig) → Buf (Elt Ideal) ℓ) (g : Dev Cert.KvInRefIdeal.nD → PrngReg), Pre_KvInRefIdeal m →
    θ_run (Cert.KvInRefIdeal.defs (F := Ideal)) (onTc (τ := Cert.KvInRefIdeal.τ) (Cert.KvInRefIdeal.main (F := Ideal))) ⟨m, fun _ => 0, g⟩ (fun r => (∀ c : Dev Cert.KvInRefIdeal.nD,
      r.2.mem ((c.tc : Thread Cert.KvInRefIdeal.nD Cert.KvInRefIdeal.τ).loc Cert.KvInRefIdeal.main_arg0) = m ((c.tc : Thread Cert.KvInRefIdeal.nD Cert.KvInRefIdeal.τ).loc Cert.KvInRefIdeal.main_arg0)
      ∧ r.2.mem ((c.tc : Thread Cert.KvInRefIdeal.nD Cert.KvInRefIdeal.τ).loc Cert.KvInRefIdeal.main_arg1) = m ((c.tc : Thread Cert.KvInRefIdeal.nD Cert.KvInRefIdeal.τ).loc Cert.KvInRefIdeal.main_arg1)
      ∧ r.2.mem ((c.tc : Thread Cert.KvInRefIdeal.nD Cert.KvInRefIdeal.τ).loc Cert.KvInRefIdeal.main_arg2) = m ((c.tc : Thread Cert.KvInRefIdeal.nD Cert.KvInRefIdeal.τ).loc Cert.KvInRefIdeal.main_arg2)
      ∧ r.2.mem ((c.tc : Thread Cert.KvInRefIdeal.nD Cert.KvInRefIdeal.τ).loc Cert.KvInRefIdeal.main_arg3) = m ((c.tc : Thread Cert.KvInRefIdeal.nD Cert.KvInRefIdeal.τ).loc Cert.KvInRefIdeal.main_arg3))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1)
      ∧ r.2.mem ((c.tc : Thread Cert.ProjKv.nD Cert.ProjKv.τ).loc Cert.ProjKv.main_arg2) = m ((c.tc : Thread Cert.ProjKv.nD Cert.ProjKv.τ).loc Cert.ProjKv.main_arg2))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
      ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1)
      ∧ r.2.mem ((c.tc : Thread Cert.ProjKvRefIdeal.nD Cert.ProjKvRefIdeal.τ).loc Cert.ProjKvRefIdeal.main_arg2) = m ((c.tc : Thread Cert.ProjKvRefIdeal.nD Cert.ProjKvRefIdeal.τ).loc Cert.ProjKvRefIdeal.main_arg2))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemG [hMemG : Cert.MemG.Facts] : Prop :=
  ∀ (m : (ℓ : Loc Cert.MemG.nD Cert.MemG.τ Cert.MemG.sig) → Buf (Elt Bits) ℓ) (g : Dev Cert.MemG.nD → PrngReg), Pre_MemG m →
    θ_run (Cert.MemG.defs (F := Bits)) (onTc (τ := Cert.MemG.τ) (Cert.MemG.main (F := Bits))) ⟨m, fun _ => 0, g⟩ (fun r => (∀ c : Dev Cert.MemG.nD,
      r.2.mem ((c.tc : Thread Cert.MemG.nD Cert.MemG.τ).loc Cert.MemG.main_arg0) = m ((c.tc : Thread Cert.MemG.nD Cert.MemG.τ).loc Cert.MemG.main_arg0)
      ∧ r.2.mem ((c.tc : Thread Cert.MemG.nD Cert.MemG.τ).loc Cert.MemG.main_arg1) = m ((c.tc : Thread Cert.MemG.nD Cert.MemG.τ).loc Cert.MemG.main_arg1)
      ∧ r.2.mem ((c.tc : Thread Cert.MemG.nD Cert.MemG.τ).loc Cert.MemG.main_arg2) = m ((c.tc : Thread Cert.MemG.nD Cert.MemG.τ).loc Cert.MemG.main_arg2))
      ∧ r.2.sem = fun _ => 0)

def quiescent_MemGIdeal [hMemGIdeal : Cert.MemGIdeal.Facts] : Prop :=
  ∀ (m : (ℓ : Loc Cert.MemGIdeal.nD Cert.MemGIdeal.τ Cert.MemGIdeal.sig) → Buf (Elt Ideal) ℓ) (g : Dev Cert.MemGIdeal.nD → PrngReg), Pre_MemGIdeal m →
    θ_run (Cert.MemGIdeal.defs (F := Ideal)) (onTc (τ := Cert.MemGIdeal.τ) (Cert.MemGIdeal.main (F := Ideal))) ⟨m, fun _ => 0, g⟩ (fun r => (∀ c : Dev Cert.MemGIdeal.nD,
      r.2.mem ((c.tc : Thread Cert.MemGIdeal.nD Cert.MemGIdeal.τ).loc Cert.MemGIdeal.main_arg0) = m ((c.tc : Thread Cert.MemGIdeal.nD Cert.MemGIdeal.τ).loc Cert.MemGIdeal.main_arg0)
      ∧ r.2.mem ((c.tc : Thread Cert.MemGIdeal.nD Cert.MemGIdeal.τ).loc Cert.MemGIdeal.main_arg1) = m ((c.tc : Thread Cert.MemGIdeal.nD Cert.MemGIdeal.τ).loc Cert.MemGIdeal.main_arg1)
      ∧ r.2.mem ((c.tc : Thread Cert.MemGIdeal.nD Cert.MemGIdeal.τ).loc Cert.MemGIdeal.main_arg2) = m ((c.tc : Thread Cert.MemGIdeal.nD Cert.MemGIdeal.τ).loc Cert.MemGIdeal.main_arg2))
      ∧ r.2.sem = fun _ => 0)

def quiescent_MemGRefIdeal [hMemGRefIdeal : Cert.MemGRefIdeal.Facts] : Prop :=
  ∀ (m : (ℓ : Loc Cert.MemGRefIdeal.nD Cert.MemGRefIdeal.τ Cert.MemGRefIdeal.sig) → Buf (Elt Ideal) ℓ) (g : Dev Cert.MemGRefIdeal.nD → PrngReg), Pre_MemGRefIdeal m →
    θ_run (Cert.MemGRefIdeal.defs (F := Ideal)) (onTc (τ := Cert.MemGRefIdeal.τ) (Cert.MemGRefIdeal.main (F := Ideal))) ⟨m, fun _ => 0, g⟩ (fun r => (∀ c : Dev Cert.MemGRefIdeal.nD,
      r.2.mem ((c.tc : Thread Cert.MemGRefIdeal.nD Cert.MemGRefIdeal.τ).loc Cert.MemGRefIdeal.main_arg0) = m ((c.tc : Thread Cert.MemGRefIdeal.nD Cert.MemGRefIdeal.τ).loc Cert.MemGRefIdeal.main_arg0)
      ∧ r.2.mem ((c.tc : Thread Cert.MemGRefIdeal.nD Cert.MemGRefIdeal.τ).loc Cert.MemGRefIdeal.main_arg1) = m ((c.tc : Thread Cert.MemGRefIdeal.nD Cert.MemGRefIdeal.τ).loc Cert.MemGRefIdeal.main_arg1)
      ∧ r.2.mem ((c.tc : Thread Cert.MemGRefIdeal.nD Cert.MemGRefIdeal.τ).loc Cert.MemGRefIdeal.main_arg2) = m ((c.tc : Thread Cert.MemGRefIdeal.nD Cert.MemGRefIdeal.τ).loc Cert.MemGRefIdeal.main_arg2))
      ∧ r.2.sem = fun _ => 0)

def quiescent_FfnG [hFfnG : Cert.FfnG.Facts] : Prop :=
  ∀ (m : (ℓ : Loc Cert.FfnG.nD Cert.FfnG.τ Cert.FfnG.sig) → Buf (Elt Bits) ℓ) (g : Dev Cert.FfnG.nD → PrngReg), Pre_FfnG m →
    θ_run (Cert.FfnG.defs (F := Bits)) (onTc (τ := Cert.FfnG.τ) (Cert.FfnG.main (F := Bits))) ⟨m, fun _ => 0, g⟩ (fun r => (∀ c : Dev Cert.FfnG.nD,
      r.2.mem ((c.tc : Thread Cert.FfnG.nD Cert.FfnG.τ).loc Cert.FfnG.main_arg0) = m ((c.tc : Thread Cert.FfnG.nD Cert.FfnG.τ).loc Cert.FfnG.main_arg0)
      ∧ r.2.mem ((c.tc : Thread Cert.FfnG.nD Cert.FfnG.τ).loc Cert.FfnG.main_arg1) = m ((c.tc : Thread Cert.FfnG.nD Cert.FfnG.τ).loc Cert.FfnG.main_arg1)
      ∧ r.2.mem ((c.tc : Thread Cert.FfnG.nD Cert.FfnG.τ).loc Cert.FfnG.main_arg2) = m ((c.tc : Thread Cert.FfnG.nD Cert.FfnG.τ).loc Cert.FfnG.main_arg2)
      ∧ r.2.mem ((c.tc : Thread Cert.FfnG.nD Cert.FfnG.τ).loc Cert.FfnG.main_arg3) = m ((c.tc : Thread Cert.FfnG.nD Cert.FfnG.τ).loc Cert.FfnG.main_arg3))
      ∧ r.2.sem = fun _ => 0)

def quiescent_FfnGIdeal [hFfnGIdeal : Cert.FfnGIdeal.Facts] : Prop :=
  ∀ (m : (ℓ : Loc Cert.FfnGIdeal.nD Cert.FfnGIdeal.τ Cert.FfnGIdeal.sig) → Buf (Elt Ideal) ℓ) (g : Dev Cert.FfnGIdeal.nD → PrngReg), Pre_FfnGIdeal m →
    θ_run (Cert.FfnGIdeal.defs (F := Ideal)) (onTc (τ := Cert.FfnGIdeal.τ) (Cert.FfnGIdeal.main (F := Ideal))) ⟨m, fun _ => 0, g⟩ (fun r => (∀ c : Dev Cert.FfnGIdeal.nD,
      r.2.mem ((c.tc : Thread Cert.FfnGIdeal.nD Cert.FfnGIdeal.τ).loc Cert.FfnGIdeal.main_arg0) = m ((c.tc : Thread Cert.FfnGIdeal.nD Cert.FfnGIdeal.τ).loc Cert.FfnGIdeal.main_arg0)
      ∧ r.2.mem ((c.tc : Thread Cert.FfnGIdeal.nD Cert.FfnGIdeal.τ).loc Cert.FfnGIdeal.main_arg1) = m ((c.tc : Thread Cert.FfnGIdeal.nD Cert.FfnGIdeal.τ).loc Cert.FfnGIdeal.main_arg1)
      ∧ r.2.mem ((c.tc : Thread Cert.FfnGIdeal.nD Cert.FfnGIdeal.τ).loc Cert.FfnGIdeal.main_arg2) = m ((c.tc : Thread Cert.FfnGIdeal.nD Cert.FfnGIdeal.τ).loc Cert.FfnGIdeal.main_arg2)
      ∧ r.2.mem ((c.tc : Thread Cert.FfnGIdeal.nD Cert.FfnGIdeal.τ).loc Cert.FfnGIdeal.main_arg3) = m ((c.tc : Thread Cert.FfnGIdeal.nD Cert.FfnGIdeal.τ).loc Cert.FfnGIdeal.main_arg3))
      ∧ r.2.sem = fun _ => 0)

def quiescent_FfnGRefIdeal [hFfnGRefIdeal : Cert.FfnGRefIdeal.Facts] : Prop :=
  ∀ (m : (ℓ : Loc Cert.FfnGRefIdeal.nD Cert.FfnGRefIdeal.τ Cert.FfnGRefIdeal.sig) → Buf (Elt Ideal) ℓ) (g : Dev Cert.FfnGRefIdeal.nD → PrngReg), Pre_FfnGRefIdeal m →
    θ_run (Cert.FfnGRefIdeal.defs (F := Ideal)) (onTc (τ := Cert.FfnGRefIdeal.τ) (Cert.FfnGRefIdeal.main (F := Ideal))) ⟨m, fun _ => 0, g⟩ (fun r => (∀ c : Dev Cert.FfnGRefIdeal.nD,
      r.2.mem ((c.tc : Thread Cert.FfnGRefIdeal.nD Cert.FfnGRefIdeal.τ).loc Cert.FfnGRefIdeal.main_arg0) = m ((c.tc : Thread Cert.FfnGRefIdeal.nD Cert.FfnGRefIdeal.τ).loc Cert.FfnGRefIdeal.main_arg0)
      ∧ r.2.mem ((c.tc : Thread Cert.FfnGRefIdeal.nD Cert.FfnGRefIdeal.τ).loc Cert.FfnGRefIdeal.main_arg1) = m ((c.tc : Thread Cert.FfnGRefIdeal.nD Cert.FfnGRefIdeal.τ).loc Cert.FfnGRefIdeal.main_arg1)
      ∧ r.2.mem ((c.tc : Thread Cert.FfnGRefIdeal.nD Cert.FfnGRefIdeal.τ).loc Cert.FfnGRefIdeal.main_arg2) = m ((c.tc : Thread Cert.FfnGRefIdeal.nD Cert.FfnGRefIdeal.τ).loc Cert.FfnGRefIdeal.main_arg2)
      ∧ r.2.mem ((c.tc : Thread Cert.FfnGRefIdeal.nD Cert.FfnGRefIdeal.τ).loc Cert.FfnGRefIdeal.main_arg3) = m ((c.tc : Thread Cert.FfnGRefIdeal.nD Cert.FfnGRefIdeal.τ).loc Cert.FfnGRefIdeal.main_arg3))
      ∧ r.2.sem = fun _ => 0)

def quiescent_QIn [hQIn : Cert.QIn.Facts] : Prop :=
  ∀ (m : (ℓ : Loc Cert.QIn.nD Cert.QIn.τ Cert.QIn.sig) → Buf (Elt Bits) ℓ) (g : Dev Cert.QIn.nD → PrngReg), Pre_QIn m →
    θ_run (Cert.QIn.defs (F := Bits)) (onTc (τ := Cert.QIn.τ) (Cert.QIn.main (F := Bits))) ⟨m, fun _ => 0, g⟩ (fun r => (∀ c : Dev Cert.QIn.nD,
      r.2.mem ((c.tc : Thread Cert.QIn.nD Cert.QIn.τ).loc Cert.QIn.main_arg0) = m ((c.tc : Thread Cert.QIn.nD Cert.QIn.τ).loc Cert.QIn.main_arg0)
      ∧ r.2.mem ((c.tc : Thread Cert.QIn.nD Cert.QIn.τ).loc Cert.QIn.main_arg1) = m ((c.tc : Thread Cert.QIn.nD Cert.QIn.τ).loc Cert.QIn.main_arg1)
      ∧ r.2.mem ((c.tc : Thread Cert.QIn.nD Cert.QIn.τ).loc Cert.QIn.main_arg2) = m ((c.tc : Thread Cert.QIn.nD Cert.QIn.τ).loc Cert.QIn.main_arg2)
      ∧ r.2.mem ((c.tc : Thread Cert.QIn.nD Cert.QIn.τ).loc Cert.QIn.main_arg3) = m ((c.tc : Thread Cert.QIn.nD Cert.QIn.τ).loc Cert.QIn.main_arg3)
      ∧ r.2.mem ((c.tc : Thread Cert.QIn.nD Cert.QIn.τ).loc Cert.QIn.main_arg4) = m ((c.tc : Thread Cert.QIn.nD Cert.QIn.τ).loc Cert.QIn.main_arg4))
      ∧ r.2.sem = fun _ => 0)

def quiescent_QInIdeal [hQInIdeal : Cert.QInIdeal.Facts] : Prop :=
  ∀ (m : (ℓ : Loc Cert.QInIdeal.nD Cert.QInIdeal.τ Cert.QInIdeal.sig) → Buf (Elt Ideal) ℓ) (g : Dev Cert.QInIdeal.nD → PrngReg), Pre_QInIdeal m →
    θ_run (Cert.QInIdeal.defs (F := Ideal)) (onTc (τ := Cert.QInIdeal.τ) (Cert.QInIdeal.main (F := Ideal))) ⟨m, fun _ => 0, g⟩ (fun r => (∀ c : Dev Cert.QInIdeal.nD,
      r.2.mem ((c.tc : Thread Cert.QInIdeal.nD Cert.QInIdeal.τ).loc Cert.QInIdeal.main_arg0) = m ((c.tc : Thread Cert.QInIdeal.nD Cert.QInIdeal.τ).loc Cert.QInIdeal.main_arg0)
      ∧ r.2.mem ((c.tc : Thread Cert.QInIdeal.nD Cert.QInIdeal.τ).loc Cert.QInIdeal.main_arg1) = m ((c.tc : Thread Cert.QInIdeal.nD Cert.QInIdeal.τ).loc Cert.QInIdeal.main_arg1)
      ∧ r.2.mem ((c.tc : Thread Cert.QInIdeal.nD Cert.QInIdeal.τ).loc Cert.QInIdeal.main_arg2) = m ((c.tc : Thread Cert.QInIdeal.nD Cert.QInIdeal.τ).loc Cert.QInIdeal.main_arg2)
      ∧ r.2.mem ((c.tc : Thread Cert.QInIdeal.nD Cert.QInIdeal.τ).loc Cert.QInIdeal.main_arg3) = m ((c.tc : Thread Cert.QInIdeal.nD Cert.QInIdeal.τ).loc Cert.QInIdeal.main_arg3)
      ∧ r.2.mem ((c.tc : Thread Cert.QInIdeal.nD Cert.QInIdeal.τ).loc Cert.QInIdeal.main_arg4) = m ((c.tc : Thread Cert.QInIdeal.nD Cert.QInIdeal.τ).loc Cert.QInIdeal.main_arg4))
      ∧ r.2.sem = fun _ => 0)

def quiescent_QInRefIdeal [hQInRefIdeal : Cert.QInRefIdeal.Facts] : Prop :=
  ∀ (m : (ℓ : Loc Cert.QInRefIdeal.nD Cert.QInRefIdeal.τ Cert.QInRefIdeal.sig) → Buf (Elt Ideal) ℓ) (g : Dev Cert.QInRefIdeal.nD → PrngReg), Pre_QInRefIdeal m →
    θ_run (Cert.QInRefIdeal.defs (F := Ideal)) (onTc (τ := Cert.QInRefIdeal.τ) (Cert.QInRefIdeal.main (F := Ideal))) ⟨m, fun _ => 0, g⟩ (fun r => (∀ c : Dev Cert.QInRefIdeal.nD,
      r.2.mem ((c.tc : Thread Cert.QInRefIdeal.nD Cert.QInRefIdeal.τ).loc Cert.QInRefIdeal.main_arg0) = m ((c.tc : Thread Cert.QInRefIdeal.nD Cert.QInRefIdeal.τ).loc Cert.QInRefIdeal.main_arg0)
      ∧ r.2.mem ((c.tc : Thread Cert.QInRefIdeal.nD Cert.QInRefIdeal.τ).loc Cert.QInRefIdeal.main_arg1) = m ((c.tc : Thread Cert.QInRefIdeal.nD Cert.QInRefIdeal.τ).loc Cert.QInRefIdeal.main_arg1)
      ∧ r.2.mem ((c.tc : Thread Cert.QInRefIdeal.nD Cert.QInRefIdeal.τ).loc Cert.QInRefIdeal.main_arg2) = m ((c.tc : Thread Cert.QInRefIdeal.nD Cert.QInRefIdeal.τ).loc Cert.QInRefIdeal.main_arg2)
      ∧ r.2.mem ((c.tc : Thread Cert.QInRefIdeal.nD Cert.QInRefIdeal.τ).loc Cert.QInRefIdeal.main_arg3) = m ((c.tc : Thread Cert.QInRefIdeal.nD Cert.QInRefIdeal.τ).loc Cert.QInRefIdeal.main_arg3)
      ∧ r.2.mem ((c.tc : Thread Cert.QInRefIdeal.nD Cert.QInRefIdeal.τ).loc Cert.QInRefIdeal.main_arg4) = m ((c.tc : Thread Cert.QInRefIdeal.nD Cert.QInRefIdeal.τ).loc Cert.QInRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_SumEarly [hSumEarly : Cert.SumEarly.Facts] : Prop :=
  ∀ (m : (ℓ : Loc Cert.SumEarly.nD Cert.SumEarly.τ Cert.SumEarly.sig) → Buf (Elt Bits) ℓ) (g : Dev Cert.SumEarly.nD → PrngReg), Pre_SumEarly m →
    θ_run (Cert.SumEarly.defs (F := Bits)) (onTc (τ := Cert.SumEarly.τ) (Cert.SumEarly.main (F := Bits))) ⟨m, fun _ => 0, g⟩ (fun r => (∀ c : Dev Cert.SumEarly.nD,
      r.2.mem ((c.tc : Thread Cert.SumEarly.nD Cert.SumEarly.τ).loc Cert.SumEarly.main_arg0) = m ((c.tc : Thread Cert.SumEarly.nD Cert.SumEarly.τ).loc Cert.SumEarly.main_arg0))
      ∧ r.2.sem = fun _ => 0)

def quiescent_SumEarlyIdeal [hSumEarlyIdeal : Cert.SumEarlyIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg), Pre_SumEarlyIdeal m →
    θ_run (Cert.SumEarlyIdeal.defs (F := Ideal)) (onTc (τ := Cert.SumEarlyIdeal.τ) (Cert.SumEarlyIdeal.main (F := Ideal))) ⟨m, fun _ => 0, g⟩ (fun r => (∀ c : Dev Cert.SumEarlyIdeal.nD,
      r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ r.2.sem = fun _ => 0)

def quiescent_SumEarlyRefIdeal [hSumEarlyRefIdeal : Cert.SumEarlyRefIdeal.Facts] : Prop :=
  ∀ (m : (ℓ : Loc Cert.SumEarlyRefIdeal.nD Cert.SumEarlyRefIdeal.τ Cert.SumEarlyRefIdeal.sig) → Buf (Elt Ideal) ℓ) (g : Dev Cert.SumEarlyRefIdeal.nD → PrngReg), Pre_SumEarlyRefIdeal m →
    θ_run (Cert.SumEarlyRefIdeal.defs (F := Ideal)) (onTc (τ := Cert.SumEarlyRefIdeal.τ) (Cert.SumEarlyRefIdeal.main (F := Ideal))) ⟨m, fun _ => 0, g⟩ (fun r => (∀ c : Dev Cert.SumEarlyRefIdeal.nD,
      r.2.mem ((c.tc : Thread Cert.SumEarlyRefIdeal.nD Cert.SumEarlyRefIdeal.τ).loc Cert.SumEarlyRefIdeal.main_arg0) = m ((c.tc : Thread Cert.SumEarlyRefIdeal.nD Cert.SumEarlyRefIdeal.τ).loc Cert.SumEarlyRefIdeal.main_arg0))
      ∧ r.2.sem = fun _ => 0)

def quiescent_SumLate [hSumLate : Cert.SumLate.Facts] : Prop :=
  ∀ (m : (ℓ : Loc Cert.SumLate.nD Cert.SumLate.τ Cert.SumLate.sig) → Buf (Elt Bits) ℓ) (g : Dev Cert.SumLate.nD → PrngReg), Pre_SumLate m →
    θ_run (Cert.SumLate.defs (F := Bits)) (onTc (τ := Cert.SumLate.τ) (Cert.SumLate.main (F := Bits))) ⟨m, fun _ => 0, g⟩ (fun r => (∀ c : Dev Cert.SumLate.nD,
      r.2.mem ((c.tc : Thread Cert.SumLate.nD Cert.SumLate.τ).loc Cert.SumLate.main_arg0) = m ((c.tc : Thread Cert.SumLate.nD Cert.SumLate.τ).loc Cert.SumLate.main_arg0))
      ∧ r.2.sem = fun _ => 0)

def quiescent_SumLateIdeal [hSumLateIdeal : Cert.SumLateIdeal.Facts] : Prop :=
  ∀ (m : (ℓ : Loc Cert.SumLateIdeal.nD Cert.SumLateIdeal.τ Cert.SumLateIdeal.sig) → Buf (Elt Ideal) ℓ) (g : Dev Cert.SumLateIdeal.nD → PrngReg), Pre_SumLateIdeal m →
    θ_run (Cert.SumLateIdeal.defs (F := Ideal)) (onTc (τ := Cert.SumLateIdeal.τ) (Cert.SumLateIdeal.main (F := Ideal))) ⟨m, fun _ => 0, g⟩ (fun r => (∀ c : Dev Cert.SumLateIdeal.nD,
      r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ r.2.sem = fun _ => 0)

def quiescent_SumLateRefIdeal [hSumLateRefIdeal : Cert.SumLateRefIdeal.Facts] : Prop :=
  ∀ (m : (ℓ : Loc Cert.SumLateRefIdeal.nD Cert.SumLateRefIdeal.τ Cert.SumLateRefIdeal.sig) → Buf (Elt Ideal) ℓ) (g : Dev Cert.SumLateRefIdeal.nD → PrngReg), Pre_SumLateRefIdeal m →
    θ_run (Cert.SumLateRefIdeal.defs (F := Ideal)) (onTc (τ := Cert.SumLateRefIdeal.τ) (Cert.SumLateRefIdeal.main (F := Ideal))) ⟨m, fun _ => 0, g⟩ (fun r => (∀ c : Dev Cert.SumLateRefIdeal.nD,
      r.2.mem ((c.tc : Thread Cert.SumLateRefIdeal.nD Cert.SumLateRefIdeal.τ).loc Cert.SumLateRefIdeal.main_arg0) = m ((c.tc : Thread Cert.SumLateRefIdeal.nD Cert.SumLateRefIdeal.τ).loc Cert.SumLateRefIdeal.main_arg0))
      ∧ r.2.sem = fun _ => 0)

def quiescent_SmallAdamw [hSmallAdamw : Cert.SmallAdamw.Facts] : Prop :=
  ∀ (m : (ℓ : Loc Cert.SmallAdamw.nD Cert.SmallAdamw.τ Cert.SmallAdamw.sig) → Buf (Elt Bits) ℓ) (g : Dev Cert.SmallAdamw.nD → PrngReg), Pre_SmallAdamw m →
    θ_run (Cert.SmallAdamw.defs (F := Bits)) (onTc (τ := Cert.SmallAdamw.τ) (Cert.SmallAdamw.main (F := Bits))) ⟨m, fun _ => 0, g⟩ (fun r => (∀ c : Dev Cert.SmallAdamw.nD,
      r.2.mem ((c.tc : Thread Cert.SmallAdamw.nD Cert.SmallAdamw.τ).loc Cert.SmallAdamw.main_arg0) = m ((c.tc : Thread Cert.SmallAdamw.nD Cert.SmallAdamw.τ).loc Cert.SmallAdamw.main_arg0)
      ∧ r.2.mem ((c.tc : Thread Cert.SmallAdamw.nD Cert.SmallAdamw.τ).loc Cert.SmallAdamw.main_arg1) = m ((c.tc : Thread Cert.SmallAdamw.nD Cert.SmallAdamw.τ).loc Cert.SmallAdamw.main_arg1)
      ∧ r.2.mem ((c.tc : Thread Cert.SmallAdamw.nD Cert.SmallAdamw.τ).loc Cert.SmallAdamw.main_arg2) = m ((c.tc : Thread Cert.SmallAdamw.nD Cert.SmallAdamw.τ).loc Cert.SmallAdamw.main_arg2)
      ∧ r.2.mem ((c.tc : Thread Cert.SmallAdamw.nD Cert.SmallAdamw.τ).loc Cert.SmallAdamw.main_arg3) = m ((c.tc : Thread Cert.SmallAdamw.nD Cert.SmallAdamw.τ).loc Cert.SmallAdamw.main_arg3))
      ∧ r.2.sem = fun _ => 0)

def quiescent_SmallAdamwIdeal [hSmallAdamwIdeal : Cert.SmallAdamwIdeal.Facts] : Prop :=
  ∀ (m : (ℓ : Loc Cert.SmallAdamwIdeal.nD Cert.SmallAdamwIdeal.τ Cert.SmallAdamwIdeal.sig) → Buf (Elt Ideal) ℓ) (g : Dev Cert.SmallAdamwIdeal.nD → PrngReg), Pre_SmallAdamwIdeal m →
    θ_run (Cert.SmallAdamwIdeal.defs (F := Ideal)) (onTc (τ := Cert.SmallAdamwIdeal.τ) (Cert.SmallAdamwIdeal.main (F := Ideal))) ⟨m, fun _ => 0, g⟩ (fun r => (∀ c : Dev Cert.SmallAdamwIdeal.nD,
      r.2.mem ((c.tc : Thread Cert.SmallAdamwIdeal.nD Cert.SmallAdamwIdeal.τ).loc Cert.SmallAdamwIdeal.main_arg0) = m ((c.tc : Thread Cert.SmallAdamwIdeal.nD Cert.SmallAdamwIdeal.τ).loc Cert.SmallAdamwIdeal.main_arg0)
      ∧ r.2.mem ((c.tc : Thread Cert.SmallAdamwIdeal.nD Cert.SmallAdamwIdeal.τ).loc Cert.SmallAdamwIdeal.main_arg1) = m ((c.tc : Thread Cert.SmallAdamwIdeal.nD Cert.SmallAdamwIdeal.τ).loc Cert.SmallAdamwIdeal.main_arg1)
      ∧ r.2.mem ((c.tc : Thread Cert.SmallAdamwIdeal.nD Cert.SmallAdamwIdeal.τ).loc Cert.SmallAdamwIdeal.main_arg2) = m ((c.tc : Thread Cert.SmallAdamwIdeal.nD Cert.SmallAdamwIdeal.τ).loc Cert.SmallAdamwIdeal.main_arg2)
      ∧ r.2.mem ((c.tc : Thread Cert.SmallAdamwIdeal.nD Cert.SmallAdamwIdeal.τ).loc Cert.SmallAdamwIdeal.main_arg3) = m ((c.tc : Thread Cert.SmallAdamwIdeal.nD Cert.SmallAdamwIdeal.τ).loc Cert.SmallAdamwIdeal.main_arg3))
      ∧ r.2.sem = fun _ => 0)

def quiescent_SmallAdamwRefIdeal [hSmallAdamwRefIdeal : Cert.SmallAdamwRefIdeal.Facts] : Prop :=
  ∀ (m : (ℓ : Loc Cert.SmallAdamwRefIdeal.nD Cert.SmallAdamwRefIdeal.τ Cert.SmallAdamwRefIdeal.sig) → Buf (Elt Ideal) ℓ) (g : Dev Cert.SmallAdamwRefIdeal.nD → PrngReg), Pre_SmallAdamwRefIdeal m →
    θ_run (Cert.SmallAdamwRefIdeal.defs (F := Ideal)) (onTc (τ := Cert.SmallAdamwRefIdeal.τ) (Cert.SmallAdamwRefIdeal.main (F := Ideal))) ⟨m, fun _ => 0, g⟩ (fun r => (∀ c : Dev Cert.SmallAdamwRefIdeal.nD,
      r.2.mem ((c.tc : Thread Cert.SmallAdamwRefIdeal.nD Cert.SmallAdamwRefIdeal.τ).loc Cert.SmallAdamwRefIdeal.main_arg0) = m ((c.tc : Thread Cert.SmallAdamwRefIdeal.nD Cert.SmallAdamwRefIdeal.τ).loc Cert.SmallAdamwRefIdeal.main_arg0)
      ∧ r.2.mem ((c.tc : Thread Cert.SmallAdamwRefIdeal.nD Cert.SmallAdamwRefIdeal.τ).loc Cert.SmallAdamwRefIdeal.main_arg1) = m ((c.tc : Thread Cert.SmallAdamwRefIdeal.nD Cert.SmallAdamwRefIdeal.τ).loc Cert.SmallAdamwRefIdeal.main_arg1)
      ∧ r.2.mem ((c.tc : Thread Cert.SmallAdamwRefIdeal.nD Cert.SmallAdamwRefIdeal.τ).loc Cert.SmallAdamwRefIdeal.main_arg2) = m ((c.tc : Thread Cert.SmallAdamwRefIdeal.nD Cert.SmallAdamwRefIdeal.τ).loc Cert.SmallAdamwRefIdeal.main_arg2)
      ∧ r.2.mem ((c.tc : Thread Cert.SmallAdamwRefIdeal.nD Cert.SmallAdamwRefIdeal.τ).loc Cert.SmallAdamwRefIdeal.main_arg3) = m ((c.tc : Thread Cert.SmallAdamwRefIdeal.nD Cert.SmallAdamwRefIdeal.τ).loc Cert.SmallAdamwRefIdeal.main_arg3))
      ∧ r.2.sem = fun _ => 0)

def quiescent_FinSquare [hFinSquare : Cert.FinSquare.Facts] [hPre_chip_square : Cert.Pre_chip_square.Facts] : Prop :=
  ∀ (m : (ℓ : Loc Cert.FinSquare.nD Cert.FinSquare.τ Cert.FinSquare.sig) → Buf (Elt Bits) ℓ) (g : Dev Cert.FinSquare.nD → PrngReg), Pre_FinSquare m →
    θ_run (Cert.FinSquare.defs (F := Bits)) (onTc (τ := Cert.FinSquare.τ) (Cert.FinSquare.main (F := Bits))) ⟨m, fun _ => 0, g⟩ (fun r => (∀ c : Dev Cert.FinSquare.nD,
      r.2.mem ((c.tc : Thread Cert.FinSquare.nD Cert.FinSquare.τ).loc Cert.FinSquare.main_arg0) = m ((c.tc : Thread Cert.FinSquare.nD Cert.FinSquare.τ).loc Cert.FinSquare.main_arg0)
      ∧ r.2.mem ((c.tc : Thread Cert.FinSquare.nD Cert.FinSquare.τ).loc Cert.FinSquare.main_arg1) = m ((c.tc : Thread Cert.FinSquare.nD Cert.FinSquare.τ).loc Cert.FinSquare.main_arg1)
      ∧ r.2.mem ((c.tc : Thread Cert.FinSquare.nD Cert.FinSquare.τ).loc Cert.FinSquare.main_arg2) = m ((c.tc : Thread Cert.FinSquare.nD Cert.FinSquare.τ).loc Cert.FinSquare.main_arg2)
      ∧ r.2.mem ((c.tc : Thread Cert.FinSquare.nD Cert.FinSquare.τ).loc Cert.FinSquare.main_arg3) = m ((c.tc : Thread Cert.FinSquare.nD Cert.FinSquare.τ).loc Cert.FinSquare.main_arg3)
      ∧ r.2.mem ((c.tc : Thread Cert.FinSquare.nD Cert.FinSquare.τ).loc Cert.FinSquare.main_arg4) = m ((c.tc : Thread Cert.FinSquare.nD Cert.FinSquare.τ).loc Cert.FinSquare.main_arg4)
      ∧ r.2.mem ((c.tc : Thread Cert.FinSquare.nD Cert.FinSquare.τ).loc Cert.FinSquare.main_arg5) = m ((c.tc : Thread Cert.FinSquare.nD Cert.FinSquare.τ).loc Cert.FinSquare.main_arg5))
      ∧ r.2.sem = fun _ => 0)

def quiescent_FinSquareIdeal [hFinSquareIdeal : Cert.FinSquareIdeal.Facts] [hPre_chip_square : Cert.Pre_chip_square.Facts] : Prop :=
  ∀ (m : (ℓ : Loc Cert.FinSquareIdeal.nD Cert.FinSquareIdeal.τ Cert.FinSquareIdeal.sig) → Buf (Elt Ideal) ℓ) (g : Dev Cert.FinSquareIdeal.nD → PrngReg), Pre_FinSquareIdeal m →
    θ_run (Cert.FinSquareIdeal.defs (F := Ideal)) (onTc (τ := Cert.FinSquareIdeal.τ) (Cert.FinSquareIdeal.main (F := Ideal))) ⟨m, fun _ => 0, g⟩ (fun r => (∀ c : Dev Cert.FinSquareIdeal.nD,
      r.2.mem ((c.tc : Thread Cert.FinSquareIdeal.nD Cert.FinSquareIdeal.τ).loc Cert.FinSquareIdeal.main_arg0) = m ((c.tc : Thread Cert.FinSquareIdeal.nD Cert.FinSquareIdeal.τ).loc Cert.FinSquareIdeal.main_arg0)
      ∧ r.2.mem ((c.tc : Thread Cert.FinSquareIdeal.nD Cert.FinSquareIdeal.τ).loc Cert.FinSquareIdeal.main_arg1) = m ((c.tc : Thread Cert.FinSquareIdeal.nD Cert.FinSquareIdeal.τ).loc Cert.FinSquareIdeal.main_arg1)
      ∧ r.2.mem ((c.tc : Thread Cert.FinSquareIdeal.nD Cert.FinSquareIdeal.τ).loc Cert.FinSquareIdeal.main_arg2) = m ((c.tc : Thread Cert.FinSquareIdeal.nD Cert.FinSquareIdeal.τ).loc Cert.FinSquareIdeal.main_arg2)
      ∧ r.2.mem ((c.tc : Thread Cert.FinSquareIdeal.nD Cert.FinSquareIdeal.τ).loc Cert.FinSquareIdeal.main_arg3) = m ((c.tc : Thread Cert.FinSquareIdeal.nD Cert.FinSquareIdeal.τ).loc Cert.FinSquareIdeal.main_arg3)
      ∧ r.2.mem ((c.tc : Thread Cert.FinSquareIdeal.nD Cert.FinSquareIdeal.τ).loc Cert.FinSquareIdeal.main_arg4) = m ((c.tc : Thread Cert.FinSquareIdeal.nD Cert.FinSquareIdeal.τ).loc Cert.FinSquareIdeal.main_arg4)
      ∧ r.2.mem ((c.tc : Thread Cert.FinSquareIdeal.nD Cert.FinSquareIdeal.τ).loc Cert.FinSquareIdeal.main_arg5) = m ((c.tc : Thread Cert.FinSquareIdeal.nD Cert.FinSquareIdeal.τ).loc Cert.FinSquareIdeal.main_arg5))
      ∧ r.2.sem = fun _ => 0)

def quiescent_FinSquareRefIdeal [hFinSquareRefIdeal : Cert.FinSquareRefIdeal.Facts] : Prop :=
  ∀ (m : (ℓ : Loc Cert.FinSquareRefIdeal.nD Cert.FinSquareRefIdeal.τ Cert.FinSquareRefIdeal.sig) → Buf (Elt Ideal) ℓ) (g : Dev Cert.FinSquareRefIdeal.nD → PrngReg), Pre_FinSquareRefIdeal m →
    θ_run (Cert.FinSquareRefIdeal.defs (F := Ideal)) (onTc (τ := Cert.FinSquareRefIdeal.τ) (Cert.FinSquareRefIdeal.main (F := Ideal))) ⟨m, fun _ => 0, g⟩ (fun r => (∀ c : Dev Cert.FinSquareRefIdeal.nD,
      r.2.mem ((c.tc : Thread Cert.FinSquareRefIdeal.nD Cert.FinSquareRefIdeal.τ).loc Cert.FinSquareRefIdeal.main_arg0) = m ((c.tc : Thread Cert.FinSquareRefIdeal.nD Cert.FinSquareRefIdeal.τ).loc Cert.FinSquareRefIdeal.main_arg0)
      ∧ r.2.mem ((c.tc : Thread Cert.FinSquareRefIdeal.nD Cert.FinSquareRefIdeal.τ).loc Cert.FinSquareRefIdeal.main_arg1) = m ((c.tc : Thread Cert.FinSquareRefIdeal.nD Cert.FinSquareRefIdeal.τ).loc Cert.FinSquareRefIdeal.main_arg1)
      ∧ r.2.mem ((c.tc : Thread Cert.FinSquareRefIdeal.nD Cert.FinSquareRefIdeal.τ).loc Cert.FinSquareRefIdeal.main_arg2) = m ((c.tc : Thread Cert.FinSquareRefIdeal.nD Cert.FinSquareRefIdeal.τ).loc Cert.FinSquareRefIdeal.main_arg2)
      ∧ r.2.mem ((c.tc : Thread Cert.FinSquareRefIdeal.nD Cert.FinSquareRefIdeal.τ).loc Cert.FinSquareRefIdeal.main_arg3) = m ((c.tc : Thread Cert.FinSquareRefIdeal.nD Cert.FinSquareRefIdeal.τ).loc Cert.FinSquareRefIdeal.main_arg3)
      ∧ r.2.mem ((c.tc : Thread Cert.FinSquareRefIdeal.nD Cert.FinSquareRefIdeal.τ).loc Cert.FinSquareRefIdeal.main_arg4) = m ((c.tc : Thread Cert.FinSquareRefIdeal.nD Cert.FinSquareRefIdeal.τ).loc Cert.FinSquareRefIdeal.main_arg4)
      ∧ r.2.mem ((c.tc : Thread Cert.FinSquareRefIdeal.nD Cert.FinSquareRefIdeal.τ).loc Cert.FinSquareRefIdeal.main_arg5) = m ((c.tc : Thread Cert.FinSquareRefIdeal.nD Cert.FinSquareRefIdeal.τ).loc Cert.FinSquareRefIdeal.main_arg5))
      ∧ r.2.sem = fun _ => 0)

def quiescent_FinSquareRefIdeal_pre_chip_square [hFinSquareRefIdeal : Cert.FinSquareRefIdeal.Facts] [hPre_chip_square : Cert.Pre_chip_square.Facts] : Prop :=
  ∀ (m : (ℓ : Loc Cert.FinSquareRefIdeal.nD Cert.FinSquareRefIdeal.τ Cert.FinSquareRefIdeal.sig) → Buf (Elt Ideal) ℓ) (g : Dev Cert.FinSquareRefIdeal.nD → PrngReg), Pre_FinSquareRefIdeal_chip_square m →
    θ_run (Cert.FinSquareRefIdeal.defs (F := Ideal)) (onTc (τ := Cert.FinSquareRefIdeal.τ) (Cert.FinSquareRefIdeal.main (F := Ideal))) ⟨m, fun _ => 0, g⟩ (fun r => (∀ c : Dev Cert.FinSquareRefIdeal.nD,
      r.2.mem ((c.tc : Thread Cert.FinSquareRefIdeal.nD Cert.FinSquareRefIdeal.τ).loc Cert.FinSquareRefIdeal.main_arg0) = m ((c.tc : Thread Cert.FinSquareRefIdeal.nD Cert.FinSquareRefIdeal.τ).loc Cert.FinSquareRefIdeal.main_arg0)
      ∧ r.2.mem ((c.tc : Thread Cert.FinSquareRefIdeal.nD Cert.FinSquareRefIdeal.τ).loc Cert.FinSquareRefIdeal.main_arg1) = m ((c.tc : Thread Cert.FinSquareRefIdeal.nD Cert.FinSquareRefIdeal.τ).loc Cert.FinSquareRefIdeal.main_arg1)
      ∧ r.2.mem ((c.tc : Thread Cert.FinSquareRefIdeal.nD Cert.FinSquareRefIdeal.τ).loc Cert.FinSquareRefIdeal.main_arg2) = m ((c.tc : Thread Cert.FinSquareRefIdeal.nD Cert.FinSquareRefIdeal.τ).loc Cert.FinSquareRefIdeal.main_arg2)
      ∧ r.2.mem ((c.tc : Thread Cert.FinSquareRefIdeal.nD Cert.FinSquareRefIdeal.τ).loc Cert.FinSquareRefIdeal.main_arg3) = m ((c.tc : Thread Cert.FinSquareRefIdeal.nD Cert.FinSquareRefIdeal.τ).loc Cert.FinSquareRefIdeal.main_arg3)
      ∧ r.2.mem ((c.tc : Thread Cert.FinSquareRefIdeal.nD Cert.FinSquareRefIdeal.τ).loc Cert.FinSquareRefIdeal.main_arg4) = m ((c.tc : Thread Cert.FinSquareRefIdeal.nD Cert.FinSquareRefIdeal.τ).loc Cert.FinSquareRefIdeal.main_arg4)
      ∧ r.2.mem ((c.tc : Thread Cert.FinSquareRefIdeal.nD Cert.FinSquareRefIdeal.τ).loc Cert.FinSquareRefIdeal.main_arg5) = m ((c.tc : Thread Cert.FinSquareRefIdeal.nD Cert.FinSquareRefIdeal.τ).loc Cert.FinSquareRefIdeal.main_arg5))
      ∧ r.2.sem = fun _ => 0)

def quiescent_FinFfn [hFinFfn : Cert.FinFfn.Facts] [hPre_chip_ffn : Cert.Pre_chip_ffn.Facts] : Prop :=
  ∀ (m : (ℓ : Loc Cert.FinFfn.nD Cert.FinFfn.τ Cert.FinFfn.sig) → Buf (Elt Bits) ℓ) (g : Dev Cert.FinFfn.nD → PrngReg), Pre_FinFfn m →
    θ_run (Cert.FinFfn.defs (F := Bits)) (onTc (τ := Cert.FinFfn.τ) (Cert.FinFfn.main (F := Bits))) ⟨m, fun _ => 0, g⟩ (fun r => (∀ c : Dev Cert.FinFfn.nD,
      r.2.mem ((c.tc : Thread Cert.FinFfn.nD Cert.FinFfn.τ).loc Cert.FinFfn.main_arg0) = m ((c.tc : Thread Cert.FinFfn.nD Cert.FinFfn.τ).loc Cert.FinFfn.main_arg0)
      ∧ r.2.mem ((c.tc : Thread Cert.FinFfn.nD Cert.FinFfn.τ).loc Cert.FinFfn.main_arg1) = m ((c.tc : Thread Cert.FinFfn.nD Cert.FinFfn.τ).loc Cert.FinFfn.main_arg1)
      ∧ r.2.mem ((c.tc : Thread Cert.FinFfn.nD Cert.FinFfn.τ).loc Cert.FinFfn.main_arg2) = m ((c.tc : Thread Cert.FinFfn.nD Cert.FinFfn.τ).loc Cert.FinFfn.main_arg2)
      ∧ r.2.mem ((c.tc : Thread Cert.FinFfn.nD Cert.FinFfn.τ).loc Cert.FinFfn.main_arg3) = m ((c.tc : Thread Cert.FinFfn.nD Cert.FinFfn.τ).loc Cert.FinFfn.main_arg3)
      ∧ r.2.mem ((c.tc : Thread Cert.FinFfn.nD Cert.FinFfn.τ).loc Cert.FinFfn.main_arg4) = m ((c.tc : Thread Cert.FinFfn.nD Cert.FinFfn.τ).loc Cert.FinFfn.main_arg4)
      ∧ r.2.mem ((c.tc : Thread Cert.FinFfn.nD Cert.FinFfn.τ).loc Cert.FinFfn.main_arg5) = m ((c.tc : Thread Cert.FinFfn.nD Cert.FinFfn.τ).loc Cert.FinFfn.main_arg5))
      ∧ r.2.sem = fun _ => 0)

def quiescent_FinFfnIdeal [hFinFfnIdeal : Cert.FinFfnIdeal.Facts] [hPre_chip_ffn : Cert.Pre_chip_ffn.Facts] : Prop :=
  ∀ (m : (ℓ : Loc Cert.FinFfnIdeal.nD Cert.FinFfnIdeal.τ Cert.FinFfnIdeal.sig) → Buf (Elt Ideal) ℓ) (g : Dev Cert.FinFfnIdeal.nD → PrngReg), Pre_FinFfnIdeal m →
    θ_run (Cert.FinFfnIdeal.defs (F := Ideal)) (onTc (τ := Cert.FinFfnIdeal.τ) (Cert.FinFfnIdeal.main (F := Ideal))) ⟨m, fun _ => 0, g⟩ (fun r => (∀ c : Dev Cert.FinFfnIdeal.nD,
      r.2.mem ((c.tc : Thread Cert.FinFfnIdeal.nD Cert.FinFfnIdeal.τ).loc Cert.FinFfnIdeal.main_arg0) = m ((c.tc : Thread Cert.FinFfnIdeal.nD Cert.FinFfnIdeal.τ).loc Cert.FinFfnIdeal.main_arg0)
      ∧ r.2.mem ((c.tc : Thread Cert.FinFfnIdeal.nD Cert.FinFfnIdeal.τ).loc Cert.FinFfnIdeal.main_arg1) = m ((c.tc : Thread Cert.FinFfnIdeal.nD Cert.FinFfnIdeal.τ).loc Cert.FinFfnIdeal.main_arg1)
      ∧ r.2.mem ((c.tc : Thread Cert.FinFfnIdeal.nD Cert.FinFfnIdeal.τ).loc Cert.FinFfnIdeal.main_arg2) = m ((c.tc : Thread Cert.FinFfnIdeal.nD Cert.FinFfnIdeal.τ).loc Cert.FinFfnIdeal.main_arg2)
      ∧ r.2.mem ((c.tc : Thread Cert.FinFfnIdeal.nD Cert.FinFfnIdeal.τ).loc Cert.FinFfnIdeal.main_arg3) = m ((c.tc : Thread Cert.FinFfnIdeal.nD Cert.FinFfnIdeal.τ).loc Cert.FinFfnIdeal.main_arg3)
      ∧ r.2.mem ((c.tc : Thread Cert.FinFfnIdeal.nD Cert.FinFfnIdeal.τ).loc Cert.FinFfnIdeal.main_arg4) = m ((c.tc : Thread Cert.FinFfnIdeal.nD Cert.FinFfnIdeal.τ).loc Cert.FinFfnIdeal.main_arg4)
      ∧ r.2.mem ((c.tc : Thread Cert.FinFfnIdeal.nD Cert.FinFfnIdeal.τ).loc Cert.FinFfnIdeal.main_arg5) = m ((c.tc : Thread Cert.FinFfnIdeal.nD Cert.FinFfnIdeal.τ).loc Cert.FinFfnIdeal.main_arg5))
      ∧ r.2.sem = fun _ => 0)

def quiescent_FinFfnRefIdeal [hFinFfnRefIdeal : Cert.FinFfnRefIdeal.Facts] : Prop :=
  ∀ (m : (ℓ : Loc Cert.FinFfnRefIdeal.nD Cert.FinFfnRefIdeal.τ Cert.FinFfnRefIdeal.sig) → Buf (Elt Ideal) ℓ) (g : Dev Cert.FinFfnRefIdeal.nD → PrngReg), Pre_FinFfnRefIdeal m →
    θ_run (Cert.FinFfnRefIdeal.defs (F := Ideal)) (onTc (τ := Cert.FinFfnRefIdeal.τ) (Cert.FinFfnRefIdeal.main (F := Ideal))) ⟨m, fun _ => 0, g⟩ (fun r => (∀ c : Dev Cert.FinFfnRefIdeal.nD,
      r.2.mem ((c.tc : Thread Cert.FinFfnRefIdeal.nD Cert.FinFfnRefIdeal.τ).loc Cert.FinFfnRefIdeal.main_arg0) = m ((c.tc : Thread Cert.FinFfnRefIdeal.nD Cert.FinFfnRefIdeal.τ).loc Cert.FinFfnRefIdeal.main_arg0)
      ∧ r.2.mem ((c.tc : Thread Cert.FinFfnRefIdeal.nD Cert.FinFfnRefIdeal.τ).loc Cert.FinFfnRefIdeal.main_arg1) = m ((c.tc : Thread Cert.FinFfnRefIdeal.nD Cert.FinFfnRefIdeal.τ).loc Cert.FinFfnRefIdeal.main_arg1)
      ∧ r.2.mem ((c.tc : Thread Cert.FinFfnRefIdeal.nD Cert.FinFfnRefIdeal.τ).loc Cert.FinFfnRefIdeal.main_arg2) = m ((c.tc : Thread Cert.FinFfnRefIdeal.nD Cert.FinFfnRefIdeal.τ).loc Cert.FinFfnRefIdeal.main_arg2)
      ∧ r.2.mem ((c.tc : Thread Cert.FinFfnRefIdeal.nD Cert.FinFfnRefIdeal.τ).loc Cert.FinFfnRefIdeal.main_arg3) = m ((c.tc : Thread Cert.FinFfnRefIdeal.nD Cert.FinFfnRefIdeal.τ).loc Cert.FinFfnRefIdeal.main_arg3)
      ∧ r.2.mem ((c.tc : Thread Cert.FinFfnRefIdeal.nD Cert.FinFfnRefIdeal.τ).loc Cert.FinFfnRefIdeal.main_arg4) = m ((c.tc : Thread Cert.FinFfnRefIdeal.nD Cert.FinFfnRefIdeal.τ).loc Cert.FinFfnRefIdeal.main_arg4)
      ∧ r.2.mem ((c.tc : Thread Cert.FinFfnRefIdeal.nD Cert.FinFfnRefIdeal.τ).loc Cert.FinFfnRefIdeal.main_arg5) = m ((c.tc : Thread Cert.FinFfnRefIdeal.nD Cert.FinFfnRefIdeal.τ).loc Cert.FinFfnRefIdeal.main_arg5))
      ∧ r.2.sem = fun _ => 0)

def quiescent_FinFfnRefIdeal_pre_chip_ffn [hFinFfnRefIdeal : Cert.FinFfnRefIdeal.Facts] [hPre_chip_ffn : Cert.Pre_chip_ffn.Facts] : Prop :=
  ∀ (m : (ℓ : Loc Cert.FinFfnRefIdeal.nD Cert.FinFfnRefIdeal.τ Cert.FinFfnRefIdeal.sig) → Buf (Elt Ideal) ℓ) (g : Dev Cert.FinFfnRefIdeal.nD → PrngReg), Pre_FinFfnRefIdeal_chip_ffn m →
    θ_run (Cert.FinFfnRefIdeal.defs (F := Ideal)) (onTc (τ := Cert.FinFfnRefIdeal.τ) (Cert.FinFfnRefIdeal.main (F := Ideal))) ⟨m, fun _ => 0, g⟩ (fun r => (∀ c : Dev Cert.FinFfnRefIdeal.nD,
      r.2.mem ((c.tc : Thread Cert.FinFfnRefIdeal.nD Cert.FinFfnRefIdeal.τ).loc Cert.FinFfnRefIdeal.main_arg0) = m ((c.tc : Thread Cert.FinFfnRefIdeal.nD Cert.FinFfnRefIdeal.τ).loc Cert.FinFfnRefIdeal.main_arg0)
      ∧ r.2.mem ((c.tc : Thread Cert.FinFfnRefIdeal.nD Cert.FinFfnRefIdeal.τ).loc Cert.FinFfnRefIdeal.main_arg1) = m ((c.tc : Thread Cert.FinFfnRefIdeal.nD Cert.FinFfnRefIdeal.τ).loc Cert.FinFfnRefIdeal.main_arg1)
      ∧ r.2.mem ((c.tc : Thread Cert.FinFfnRefIdeal.nD Cert.FinFfnRefIdeal.τ).loc Cert.FinFfnRefIdeal.main_arg2) = m ((c.tc : Thread Cert.FinFfnRefIdeal.nD Cert.FinFfnRefIdeal.τ).loc Cert.FinFfnRefIdeal.main_arg2)
      ∧ r.2.mem ((c.tc : Thread Cert.FinFfnRefIdeal.nD Cert.FinFfnRefIdeal.τ).loc Cert.FinFfnRefIdeal.main_arg3) = m ((c.tc : Thread Cert.FinFfnRefIdeal.nD Cert.FinFfnRefIdeal.τ).loc Cert.FinFfnRefIdeal.main_arg3)
      ∧ r.2.mem ((c.tc : Thread Cert.FinFfnRefIdeal.nD Cert.FinFfnRefIdeal.τ).loc Cert.FinFfnRefIdeal.main_arg4) = m ((c.tc : Thread Cert.FinFfnRefIdeal.nD Cert.FinFfnRefIdeal.τ).loc Cert.FinFfnRefIdeal.main_arg4)
      ∧ r.2.mem ((c.tc : Thread Cert.FinFfnRefIdeal.nD Cert.FinFfnRefIdeal.τ).loc Cert.FinFfnRefIdeal.main_arg5) = m ((c.tc : Thread Cert.FinFfnRefIdeal.nD Cert.FinFfnRefIdeal.τ).loc Cert.FinFfnRefIdeal.main_arg5))
      ∧ r.2.sem = fun _ => 0)

def quiescent_FinPool [hFinPool : Cert.FinPool.Facts] [hPre_chip_pool : Cert.Pre_chip_pool.Facts] : Prop :=
  ∀ (m : (ℓ : Loc Cert.FinPool.nD Cert.FinPool.τ Cert.FinPool.sig) → Buf (Elt Bits) ℓ) (g : Dev Cert.FinPool.nD → PrngReg), Pre_FinPool m →
    θ_run (Cert.FinPool.defs (F := Bits)) (onTc (τ := Cert.FinPool.τ) (Cert.FinPool.main (F := Bits))) ⟨m, fun _ => 0, g⟩ (fun r => (∀ c : Dev Cert.FinPool.nD,
      r.2.mem ((c.tc : Thread Cert.FinPool.nD Cert.FinPool.τ).loc Cert.FinPool.main_arg0) = m ((c.tc : Thread Cert.FinPool.nD Cert.FinPool.τ).loc Cert.FinPool.main_arg0)
      ∧ r.2.mem ((c.tc : Thread Cert.FinPool.nD Cert.FinPool.τ).loc Cert.FinPool.main_arg1) = m ((c.tc : Thread Cert.FinPool.nD Cert.FinPool.τ).loc Cert.FinPool.main_arg1)
      ∧ r.2.mem ((c.tc : Thread Cert.FinPool.nD Cert.FinPool.τ).loc Cert.FinPool.main_arg2) = m ((c.tc : Thread Cert.FinPool.nD Cert.FinPool.τ).loc Cert.FinPool.main_arg2)
      ∧ r.2.mem ((c.tc : Thread Cert.FinPool.nD Cert.FinPool.τ).loc Cert.FinPool.main_arg3) = m ((c.tc : Thread Cert.FinPool.nD Cert.FinPool.τ).loc Cert.FinPool.main_arg3)
      ∧ r.2.mem ((c.tc : Thread Cert.FinPool.nD Cert.FinPool.τ).loc Cert.FinPool.main_arg4) = m ((c.tc : Thread Cert.FinPool.nD Cert.FinPool.τ).loc Cert.FinPool.main_arg4)
      ∧ r.2.mem ((c.tc : Thread Cert.FinPool.nD Cert.FinPool.τ).loc Cert.FinPool.main_arg5) = m ((c.tc : Thread Cert.FinPool.nD Cert.FinPool.τ).loc Cert.FinPool.main_arg5))
      ∧ r.2.sem = fun _ => 0)

def quiescent_FinPoolIdeal [hFinPoolIdeal : Cert.FinPoolIdeal.Facts] [hPre_chip_pool : Cert.Pre_chip_pool.Facts] : Prop :=
  ∀ (m : (ℓ : Loc Cert.FinPoolIdeal.nD Cert.FinPoolIdeal.τ Cert.FinPoolIdeal.sig) → Buf (Elt Ideal) ℓ) (g : Dev Cert.FinPoolIdeal.nD → PrngReg), Pre_FinPoolIdeal m →
    θ_run (Cert.FinPoolIdeal.defs (F := Ideal)) (onTc (τ := Cert.FinPoolIdeal.τ) (Cert.FinPoolIdeal.main (F := Ideal))) ⟨m, fun _ => 0, g⟩ (fun r => (∀ c : Dev Cert.FinPoolIdeal.nD,
      r.2.mem ((c.tc : Thread Cert.FinPoolIdeal.nD Cert.FinPoolIdeal.τ).loc Cert.FinPoolIdeal.main_arg0) = m ((c.tc : Thread Cert.FinPoolIdeal.nD Cert.FinPoolIdeal.τ).loc Cert.FinPoolIdeal.main_arg0)
      ∧ r.2.mem ((c.tc : Thread Cert.FinPoolIdeal.nD Cert.FinPoolIdeal.τ).loc Cert.FinPoolIdeal.main_arg1) = m ((c.tc : Thread Cert.FinPoolIdeal.nD Cert.FinPoolIdeal.τ).loc Cert.FinPoolIdeal.main_arg1)
      ∧ r.2.mem ((c.tc : Thread Cert.FinPoolIdeal.nD Cert.FinPoolIdeal.τ).loc Cert.FinPoolIdeal.main_arg2) = m ((c.tc : Thread Cert.FinPoolIdeal.nD Cert.FinPoolIdeal.τ).loc Cert.FinPoolIdeal.main_arg2)
      ∧ r.2.mem ((c.tc : Thread Cert.FinPoolIdeal.nD Cert.FinPoolIdeal.τ).loc Cert.FinPoolIdeal.main_arg3) = m ((c.tc : Thread Cert.FinPoolIdeal.nD Cert.FinPoolIdeal.τ).loc Cert.FinPoolIdeal.main_arg3)
      ∧ r.2.mem ((c.tc : Thread Cert.FinPoolIdeal.nD Cert.FinPoolIdeal.τ).loc Cert.FinPoolIdeal.main_arg4) = m ((c.tc : Thread Cert.FinPoolIdeal.nD Cert.FinPoolIdeal.τ).loc Cert.FinPoolIdeal.main_arg4)
      ∧ r.2.mem ((c.tc : Thread Cert.FinPoolIdeal.nD Cert.FinPoolIdeal.τ).loc Cert.FinPoolIdeal.main_arg5) = m ((c.tc : Thread Cert.FinPoolIdeal.nD Cert.FinPoolIdeal.τ).loc Cert.FinPoolIdeal.main_arg5))
      ∧ r.2.sem = fun _ => 0)

def quiescent_FinPoolRefIdeal [hFinPoolRefIdeal : Cert.FinPoolRefIdeal.Facts] : Prop :=
  ∀ (m : (ℓ : Loc Cert.FinPoolRefIdeal.nD Cert.FinPoolRefIdeal.τ Cert.FinPoolRefIdeal.sig) → Buf (Elt Ideal) ℓ) (g : Dev Cert.FinPoolRefIdeal.nD → PrngReg), Pre_FinPoolRefIdeal m →
    θ_run (Cert.FinPoolRefIdeal.defs (F := Ideal)) (onTc (τ := Cert.FinPoolRefIdeal.τ) (Cert.FinPoolRefIdeal.main (F := Ideal))) ⟨m, fun _ => 0, g⟩ (fun r => (∀ c : Dev Cert.FinPoolRefIdeal.nD,
      r.2.mem ((c.tc : Thread Cert.FinPoolRefIdeal.nD Cert.FinPoolRefIdeal.τ).loc Cert.FinPoolRefIdeal.main_arg0) = m ((c.tc : Thread Cert.FinPoolRefIdeal.nD Cert.FinPoolRefIdeal.τ).loc Cert.FinPoolRefIdeal.main_arg0)
      ∧ r.2.mem ((c.tc : Thread Cert.FinPoolRefIdeal.nD Cert.FinPoolRefIdeal.τ).loc Cert.FinPoolRefIdeal.main_arg1) = m ((c.tc : Thread Cert.FinPoolRefIdeal.nD Cert.FinPoolRefIdeal.τ).loc Cert.FinPoolRefIdeal.main_arg1)
      ∧ r.2.mem ((c.tc : Thread Cert.FinPoolRefIdeal.nD Cert.FinPoolRefIdeal.τ).loc Cert.FinPoolRefIdeal.main_arg2) = m ((c.tc : Thread Cert.FinPoolRefIdeal.nD Cert.FinPoolRefIdeal.τ).loc Cert.FinPoolRefIdeal.main_arg2)
      ∧ r.2.mem ((c.tc : Thread Cert.FinPoolRefIdeal.nD Cert.FinPoolRefIdeal.τ).loc Cert.FinPoolRefIdeal.main_arg3) = m ((c.tc : Thread Cert.FinPoolRefIdeal.nD Cert.FinPoolRefIdeal.τ).loc Cert.FinPoolRefIdeal.main_arg3)
      ∧ r.2.mem ((c.tc : Thread Cert.FinPoolRefIdeal.nD Cert.FinPoolRefIdeal.τ).loc Cert.FinPoolRefIdeal.main_arg4) = m ((c.tc : Thread Cert.FinPoolRefIdeal.nD Cert.FinPoolRefIdeal.τ).loc Cert.FinPoolRefIdeal.main_arg4)
      ∧ r.2.mem ((c.tc : Thread Cert.FinPoolRefIdeal.nD Cert.FinPoolRefIdeal.τ).loc Cert.FinPoolRefIdeal.main_arg5) = m ((c.tc : Thread Cert.FinPoolRefIdeal.nD Cert.FinPoolRefIdeal.τ).loc Cert.FinPoolRefIdeal.main_arg5))
      ∧ r.2.sem = fun _ => 0)

def quiescent_FinPoolRefIdeal_pre_chip_pool [hFinPoolRefIdeal : Cert.FinPoolRefIdeal.Facts] [hPre_chip_pool : Cert.Pre_chip_pool.Facts] : Prop :=
  ∀ (m : (ℓ : Loc Cert.FinPoolRefIdeal.nD Cert.FinPoolRefIdeal.τ Cert.FinPoolRefIdeal.sig) → Buf (Elt Ideal) ℓ) (g : Dev Cert.FinPoolRefIdeal.nD → PrngReg), Pre_FinPoolRefIdeal_chip_pool m →
    θ_run (Cert.FinPoolRefIdeal.defs (F := Ideal)) (onTc (τ := Cert.FinPoolRefIdeal.τ) (Cert.FinPoolRefIdeal.main (F := Ideal))) ⟨m, fun _ => 0, g⟩ (fun r => (∀ c : Dev Cert.FinPoolRefIdeal.nD,
      r.2.mem ((c.tc : Thread Cert.FinPoolRefIdeal.nD Cert.FinPoolRefIdeal.τ).loc Cert.FinPoolRefIdeal.main_arg0) = m ((c.tc : Thread Cert.FinPoolRefIdeal.nD Cert.FinPoolRefIdeal.τ).loc Cert.FinPoolRefIdeal.main_arg0)
      ∧ r.2.mem ((c.tc : Thread Cert.FinPoolRefIdeal.nD Cert.FinPoolRefIdeal.τ).loc Cert.FinPoolRefIdeal.main_arg1) = m ((c.tc : Thread Cert.FinPoolRefIdeal.nD Cert.FinPoolRefIdeal.τ).loc Cert.FinPoolRefIdeal.main_arg1)
      ∧ r.2.mem ((c.tc : Thread Cert.FinPoolRefIdeal.nD Cert.FinPoolRefIdeal.τ).loc Cert.FinPoolRefIdeal.main_arg2) = m ((c.tc : Thread Cert.FinPoolRefIdeal.nD Cert.FinPoolRefIdeal.τ).loc Cert.FinPoolRefIdeal.main_arg2)
      ∧ r.2.mem ((c.tc : Thread Cert.FinPoolRefIdeal.nD Cert.FinPoolRefIdeal.τ).loc Cert.FinPoolRefIdeal.main_arg3) = m ((c.tc : Thread Cert.FinPoolRefIdeal.nD Cert.FinPoolRefIdeal.τ).loc Cert.FinPoolRefIdeal.main_arg3)
      ∧ r.2.mem ((c.tc : Thread Cert.FinPoolRefIdeal.nD Cert.FinPoolRefIdeal.τ).loc Cert.FinPoolRefIdeal.main_arg4) = m ((c.tc : Thread Cert.FinPoolRefIdeal.nD Cert.FinPoolRefIdeal.τ).loc Cert.FinPoolRefIdeal.main_arg4)
      ∧ r.2.mem ((c.tc : Thread Cert.FinPoolRefIdeal.nD Cert.FinPoolRefIdeal.τ).loc Cert.FinPoolRefIdeal.main_arg5) = m ((c.tc : Thread Cert.FinPoolRefIdeal.nD Cert.FinPoolRefIdeal.τ).loc Cert.FinPoolRefIdeal.main_arg5))
      ∧ r.2.sem = fun _ => 0)

def quiescent_FinIn [hFinIn : Cert.FinIn.Facts] [hPre_chip_in : Cert.Pre_chip_in.Facts] : Prop :=
  ∀ (m : (ℓ : Loc Cert.FinIn.nD Cert.FinIn.τ Cert.FinIn.sig) → Buf (Elt Bits) ℓ) (g : Dev Cert.FinIn.nD → PrngReg), Pre_FinIn m →
    θ_run (Cert.FinIn.defs (F := Bits)) (onTc (τ := Cert.FinIn.τ) (Cert.FinIn.main (F := Bits))) ⟨m, fun _ => 0, g⟩ (fun r => (∀ c : Dev Cert.FinIn.nD,
      r.2.mem ((c.tc : Thread Cert.FinIn.nD Cert.FinIn.τ).loc Cert.FinIn.main_arg0) = m ((c.tc : Thread Cert.FinIn.nD Cert.FinIn.τ).loc Cert.FinIn.main_arg0)
      ∧ r.2.mem ((c.tc : Thread Cert.FinIn.nD Cert.FinIn.τ).loc Cert.FinIn.main_arg1) = m ((c.tc : Thread Cert.FinIn.nD Cert.FinIn.τ).loc Cert.FinIn.main_arg1)
      ∧ r.2.mem ((c.tc : Thread Cert.FinIn.nD Cert.FinIn.τ).loc Cert.FinIn.main_arg2) = m ((c.tc : Thread Cert.FinIn.nD Cert.FinIn.τ).loc Cert.FinIn.main_arg2)
      ∧ r.2.mem ((c.tc : Thread Cert.FinIn.nD Cert.FinIn.τ).loc Cert.FinIn.main_arg3) = m ((c.tc : Thread Cert.FinIn.nD Cert.FinIn.τ).loc Cert.FinIn.main_arg3)
      ∧ r.2.mem ((c.tc : Thread Cert.FinIn.nD Cert.FinIn.τ).loc Cert.FinIn.main_arg4) = m ((c.tc : Thread Cert.FinIn.nD Cert.FinIn.τ).loc Cert.FinIn.main_arg4)
      ∧ r.2.mem ((c.tc : Thread Cert.FinIn.nD Cert.FinIn.τ).loc Cert.FinIn.main_arg5) = m ((c.tc : Thread Cert.FinIn.nD Cert.FinIn.τ).loc Cert.FinIn.main_arg5))
      ∧ r.2.sem = fun _ => 0)

def quiescent_FinInIdeal [hFinInIdeal : Cert.FinInIdeal.Facts] [hPre_chip_in : Cert.Pre_chip_in.Facts] : Prop :=
  ∀ (m : (ℓ : Loc Cert.FinInIdeal.nD Cert.FinInIdeal.τ Cert.FinInIdeal.sig) → Buf (Elt Ideal) ℓ) (g : Dev Cert.FinInIdeal.nD → PrngReg), Pre_FinInIdeal m →
    θ_run (Cert.FinInIdeal.defs (F := Ideal)) (onTc (τ := Cert.FinInIdeal.τ) (Cert.FinInIdeal.main (F := Ideal))) ⟨m, fun _ => 0, g⟩ (fun r => (∀ c : Dev Cert.FinInIdeal.nD,
      r.2.mem ((c.tc : Thread Cert.FinInIdeal.nD Cert.FinInIdeal.τ).loc Cert.FinInIdeal.main_arg0) = m ((c.tc : Thread Cert.FinInIdeal.nD Cert.FinInIdeal.τ).loc Cert.FinInIdeal.main_arg0)
      ∧ r.2.mem ((c.tc : Thread Cert.FinInIdeal.nD Cert.FinInIdeal.τ).loc Cert.FinInIdeal.main_arg1) = m ((c.tc : Thread Cert.FinInIdeal.nD Cert.FinInIdeal.τ).loc Cert.FinInIdeal.main_arg1)
      ∧ r.2.mem ((c.tc : Thread Cert.FinInIdeal.nD Cert.FinInIdeal.τ).loc Cert.FinInIdeal.main_arg2) = m ((c.tc : Thread Cert.FinInIdeal.nD Cert.FinInIdeal.τ).loc Cert.FinInIdeal.main_arg2)
      ∧ r.2.mem ((c.tc : Thread Cert.FinInIdeal.nD Cert.FinInIdeal.τ).loc Cert.FinInIdeal.main_arg3) = m ((c.tc : Thread Cert.FinInIdeal.nD Cert.FinInIdeal.τ).loc Cert.FinInIdeal.main_arg3)
      ∧ r.2.mem ((c.tc : Thread Cert.FinInIdeal.nD Cert.FinInIdeal.τ).loc Cert.FinInIdeal.main_arg4) = m ((c.tc : Thread Cert.FinInIdeal.nD Cert.FinInIdeal.τ).loc Cert.FinInIdeal.main_arg4)
      ∧ r.2.mem ((c.tc : Thread Cert.FinInIdeal.nD Cert.FinInIdeal.τ).loc Cert.FinInIdeal.main_arg5) = m ((c.tc : Thread Cert.FinInIdeal.nD Cert.FinInIdeal.τ).loc Cert.FinInIdeal.main_arg5))
      ∧ r.2.sem = fun _ => 0)

def quiescent_FinInRefIdeal [hFinInRefIdeal : Cert.FinInRefIdeal.Facts] : Prop :=
  ∀ (m : (ℓ : Loc Cert.FinInRefIdeal.nD Cert.FinInRefIdeal.τ Cert.FinInRefIdeal.sig) → Buf (Elt Ideal) ℓ) (g : Dev Cert.FinInRefIdeal.nD → PrngReg), Pre_FinInRefIdeal m →
    θ_run (Cert.FinInRefIdeal.defs (F := Ideal)) (onTc (τ := Cert.FinInRefIdeal.τ) (Cert.FinInRefIdeal.main (F := Ideal))) ⟨m, fun _ => 0, g⟩ (fun r => (∀ c : Dev Cert.FinInRefIdeal.nD,
      r.2.mem ((c.tc : Thread Cert.FinInRefIdeal.nD Cert.FinInRefIdeal.τ).loc Cert.FinInRefIdeal.main_arg0) = m ((c.tc : Thread Cert.FinInRefIdeal.nD Cert.FinInRefIdeal.τ).loc Cert.FinInRefIdeal.main_arg0)
      ∧ r.2.mem ((c.tc : Thread Cert.FinInRefIdeal.nD Cert.FinInRefIdeal.τ).loc Cert.FinInRefIdeal.main_arg1) = m ((c.tc : Thread Cert.FinInRefIdeal.nD Cert.FinInRefIdeal.τ).loc Cert.FinInRefIdeal.main_arg1)
      ∧ r.2.mem ((c.tc : Thread Cert.FinInRefIdeal.nD Cert.FinInRefIdeal.τ).loc Cert.FinInRefIdeal.main_arg2) = m ((c.tc : Thread Cert.FinInRefIdeal.nD Cert.FinInRefIdeal.τ).loc Cert.FinInRefIdeal.main_arg2)
      ∧ r.2.mem ((c.tc : Thread Cert.FinInRefIdeal.nD Cert.FinInRefIdeal.τ).loc Cert.FinInRefIdeal.main_arg3) = m ((c.tc : Thread Cert.FinInRefIdeal.nD Cert.FinInRefIdeal.τ).loc Cert.FinInRefIdeal.main_arg3)
      ∧ r.2.mem ((c.tc : Thread Cert.FinInRefIdeal.nD Cert.FinInRefIdeal.τ).loc Cert.FinInRefIdeal.main_arg4) = m ((c.tc : Thread Cert.FinInRefIdeal.nD Cert.FinInRefIdeal.τ).loc Cert.FinInRefIdeal.main_arg4)
      ∧ r.2.mem ((c.tc : Thread Cert.FinInRefIdeal.nD Cert.FinInRefIdeal.τ).loc Cert.FinInRefIdeal.main_arg5) = m ((c.tc : Thread Cert.FinInRefIdeal.nD Cert.FinInRefIdeal.τ).loc Cert.FinInRefIdeal.main_arg5))
      ∧ r.2.sem = fun _ => 0)

def quiescent_FinInRefIdeal_pre_chip_in [hFinInRefIdeal : Cert.FinInRefIdeal.Facts] [hPre_chip_in : Cert.Pre_chip_in.Facts] : Prop :=
  ∀ (m : (ℓ : Loc Cert.FinInRefIdeal.nD Cert.FinInRefIdeal.τ Cert.FinInRefIdeal.sig) → Buf (Elt Ideal) ℓ) (g : Dev Cert.FinInRefIdeal.nD → PrngReg), Pre_FinInRefIdeal_chip_in m →
    θ_run (Cert.FinInRefIdeal.defs (F := Ideal)) (onTc (τ := Cert.FinInRefIdeal.τ) (Cert.FinInRefIdeal.main (F := Ideal))) ⟨m, fun _ => 0, g⟩ (fun r => (∀ c : Dev Cert.FinInRefIdeal.nD,
      r.2.mem ((c.tc : Thread Cert.FinInRefIdeal.nD Cert.FinInRefIdeal.τ).loc Cert.FinInRefIdeal.main_arg0) = m ((c.tc : Thread Cert.FinInRefIdeal.nD Cert.FinInRefIdeal.τ).loc Cert.FinInRefIdeal.main_arg0)
      ∧ r.2.mem ((c.tc : Thread Cert.FinInRefIdeal.nD Cert.FinInRefIdeal.τ).loc Cert.FinInRefIdeal.main_arg1) = m ((c.tc : Thread Cert.FinInRefIdeal.nD Cert.FinInRefIdeal.τ).loc Cert.FinInRefIdeal.main_arg1)
      ∧ r.2.mem ((c.tc : Thread Cert.FinInRefIdeal.nD Cert.FinInRefIdeal.τ).loc Cert.FinInRefIdeal.main_arg2) = m ((c.tc : Thread Cert.FinInRefIdeal.nD Cert.FinInRefIdeal.τ).loc Cert.FinInRefIdeal.main_arg2)
      ∧ r.2.mem ((c.tc : Thread Cert.FinInRefIdeal.nD Cert.FinInRefIdeal.τ).loc Cert.FinInRefIdeal.main_arg3) = m ((c.tc : Thread Cert.FinInRefIdeal.nD Cert.FinInRefIdeal.τ).loc Cert.FinInRefIdeal.main_arg3)
      ∧ r.2.mem ((c.tc : Thread Cert.FinInRefIdeal.nD Cert.FinInRefIdeal.τ).loc Cert.FinInRefIdeal.main_arg4) = m ((c.tc : Thread Cert.FinInRefIdeal.nD Cert.FinInRefIdeal.τ).loc Cert.FinInRefIdeal.main_arg4)
      ∧ r.2.mem ((c.tc : Thread Cert.FinInRefIdeal.nD Cert.FinInRefIdeal.τ).loc Cert.FinInRefIdeal.main_arg5) = m ((c.tc : Thread Cert.FinInRefIdeal.nD Cert.FinInRefIdeal.τ).loc Cert.FinInRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_v11) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v6) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v7) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v0)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v0) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v5) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1))

def preserves_OIn_OInIdeal : Prop :=
  True

def algebraic_OInIdeal_OInRefIdeal [hOInIdeal : Cert.OInIdeal.Facts] [hOInRefIdeal : Cert.OInRefIdeal.Facts] : Prop :=
  ∀ (m : (ℓ : Loc Cert.OInIdeal.nD Cert.OInIdeal.τ Cert.OInIdeal.sig) → Buf (Elt Ideal) ℓ) (g : Dev Cert.OInIdeal.nD → PrngReg)
    (m' : (ℓ : Loc Cert.OInRefIdeal.nD Cert.OInRefIdeal.τ Cert.OInRefIdeal.sig) → Buf (Elt Ideal) ℓ) (g' : Dev Cert.OInRefIdeal.nD → PrngReg), Pre_OInIdeal m →
    (∀ c : Dev Cert.OInIdeal.nD,
      m' ((c.tc : Thread Cert.OInRefIdeal.nD Cert.OInRefIdeal.τ).loc Cert.OInRefIdeal.main_arg0) = m ((c.tc : Thread Cert.OInIdeal.nD Cert.OInIdeal.τ).loc Cert.OInIdeal.main_arg0)
      ∧ m' ((c.tc : Thread Cert.OInRefIdeal.nD Cert.OInRefIdeal.τ).loc Cert.OInRefIdeal.main_arg1) = m ((c.tc : Thread Cert.OInIdeal.nD Cert.OInIdeal.τ).loc Cert.OInIdeal.main_arg1)) →
    ∃ (v0 : (c : Dev Cert.OInIdeal.nD) → Buf (Elt Ideal) ((c.tc : Thread Cert.OInIdeal.nD Cert.OInIdeal.τ).loc Cert.OInIdeal.main_v1)),
      θ_run (Cert.OInIdeal.defs (F := Ideal)) (onTc (τ := Cert.OInIdeal.τ) (Cert.OInIdeal.main (F := Ideal))) ⟨m, fun _ => 0, g⟩ (fun r => ∀ c : Dev Cert.OInIdeal.nD,
          r.2.mem ((c.tc : Thread Cert.OInIdeal.nD Cert.OInIdeal.τ).loc Cert.OInIdeal.main_v1) = v0 c
          ∧ r.2.mem ((c.tc : Thread Cert.OInIdeal.nD Cert.OInIdeal.τ).loc Cert.OInIdeal.main_arg0) = m ((c.tc : Thread Cert.OInIdeal.nD Cert.OInIdeal.τ).loc Cert.OInIdeal.main_arg0)
          ∧ r.2.mem ((c.tc : Thread Cert.OInIdeal.nD Cert.OInIdeal.τ).loc Cert.OInIdeal.main_arg1) = m ((c.tc : Thread Cert.OInIdeal.nD Cert.OInIdeal.τ).loc Cert.OInIdeal.main_arg1))
      ∧ θ_run (Cert.OInRefIdeal.defs (F := Ideal)) (onTc (τ := Cert.OInRefIdeal.τ) (Cert.OInRefIdeal.main (F := Ideal))) ⟨m', fun _ => 0, g'⟩ (fun r => ∀ c : Dev Cert.OInRefIdeal.nD,
          r.2.mem ((c.tc : Thread Cert.OInRefIdeal.nD Cert.OInRefIdeal.τ).loc Cert.OInRefIdeal.main_v4) = v0 c
          ∧ r.2.mem ((c.tc : Thread Cert.OInRefIdeal.nD Cert.OInRefIdeal.τ).loc Cert.OInRefIdeal.main_arg0) = m' ((c.tc : Thread Cert.OInRefIdeal.nD Cert.OInRefIdeal.τ).loc Cert.OInRefIdeal.main_arg0)
          ∧ r.2.mem ((c.tc : Thread Cert.OInRefIdeal.nD Cert.OInRefIdeal.τ).loc Cert.OInRefIdeal.main_arg1) = m' ((c.tc : Thread Cert.OInRefIdeal.nD Cert.OInRefIdeal.τ).loc Cert.OInRefIdeal.main_arg1))

def preserves_OutIn_OutInIdeal : Prop :=
  True

def algebraic_OutInIdeal_OutInRefIdeal [hOutInIdeal : Cert.OutInIdeal.Facts] [hOutInRefIdeal : Cert.OutInRefIdeal.Facts] : Prop :=
  ∀ (m : (ℓ : Loc Cert.OutInIdeal.nD Cert.OutInIdeal.τ Cert.OutInIdeal.sig) → Buf (Elt Ideal) ℓ) (g : Dev Cert.OutInIdeal.nD → PrngReg)
    (m' : (ℓ : Loc Cert.OutInRefIdeal.nD Cert.OutInRefIdeal.τ Cert.OutInRefIdeal.sig) → Buf (Elt Ideal) ℓ) (g' : Dev Cert.OutInRefIdeal.nD → PrngReg), Pre_OutInIdeal m →
    (∀ c : Dev Cert.OutInIdeal.nD,
      m' ((c.tc : Thread Cert.OutInRefIdeal.nD Cert.OutInRefIdeal.τ).loc Cert.OutInRefIdeal.main_arg0) = m ((c.tc : Thread Cert.OutInIdeal.nD Cert.OutInIdeal.τ).loc Cert.OutInIdeal.main_arg0)
      ∧ m' ((c.tc : Thread Cert.OutInRefIdeal.nD Cert.OutInRefIdeal.τ).loc Cert.OutInRefIdeal.main_arg1) = m ((c.tc : Thread Cert.OutInIdeal.nD Cert.OutInIdeal.τ).loc Cert.OutInIdeal.main_arg1)) →
    ∃ (v0 : (c : Dev Cert.OutInIdeal.nD) → Buf (Elt Ideal) ((c.tc : Thread Cert.OutInIdeal.nD Cert.OutInIdeal.τ).loc Cert.OutInIdeal.main_v1)),
      θ_run (Cert.OutInIdeal.defs (F := Ideal)) (onTc (τ := Cert.OutInIdeal.τ) (Cert.OutInIdeal.main (F := Ideal))) ⟨m, fun _ => 0, g⟩ (fun r => ∀ c : Dev Cert.OutInIdeal.nD,
          r.2.mem ((c.tc : Thread Cert.OutInIdeal.nD Cert.OutInIdeal.τ).loc Cert.OutInIdeal.main_v1) = v0 c
          ∧ r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
          ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1))
      ∧ θ_run (Cert.OutInRefIdeal.defs (F := Ideal)) (onTc (τ := Cert.OutInRefIdeal.τ) (Cert.OutInRefIdeal.main (F := Ideal))) ⟨m', fun _ => 0, g'⟩ (fun r => ∀ c : Dev Cert.OutInRefIdeal.nD,
          r.2.mem ((c.tc : Thread Cert.OutInRefIdeal.nD Cert.OutInRefIdeal.τ).loc Cert.OutInRefIdeal.main_v3) = v0 c
          ∧ r.2.mem ((c.tc : Thread Cert.OutInRefIdeal.nD Cert.OutInRefIdeal.τ).loc Cert.OutInRefIdeal.main_arg0) = m' ((c.tc : Thread Cert.OutInRefIdeal.nD Cert.OutInRefIdeal.τ).loc Cert.OutInRefIdeal.main_arg0)
          ∧ r.2.mem ((c.tc : Thread Cert.OutInRefIdeal.nD Cert.OutInRefIdeal.τ).loc Cert.OutInRefIdeal.main_arg1) = m' ((c.tc : Thread Cert.OutInRefIdeal.nD Cert.OutInRefIdeal.τ).loc Cert.OutInRefIdeal.main_arg1))

def preserves_KvIn_KvInIdeal : Prop :=
  True

def algebraic_KvInIdeal_KvInRefIdeal [hKvInIdeal : Cert.KvInIdeal.Facts] [hKvInRefIdeal : Cert.KvInRefIdeal.Facts] : Prop :=
  ∀ (m : (ℓ : Loc Cert.KvInIdeal.nD Cert.KvInIdeal.τ Cert.KvInIdeal.sig) → Buf (Elt Ideal) ℓ) (g : Dev Cert.KvInIdeal.nD → PrngReg)
    (m' : (ℓ : Loc Cert.KvInRefIdeal.nD Cert.KvInRefIdeal.τ Cert.KvInRefIdeal.sig) → Buf (Elt Ideal) ℓ) (g' : Dev Cert.KvInRefIdeal.nD → PrngReg), Pre_KvInIdeal m →
    (∀ c : Dev Cert.KvInIdeal.nD,
      m' ((c.tc : Thread Cert.KvInRefIdeal.nD Cert.KvInRefIdeal.τ).loc Cert.KvInRefIdeal.main_arg0) = m ((c.tc : Thread Cert.KvInIdeal.nD Cert.KvInIdeal.τ).loc Cert.KvInIdeal.main_arg0)
      ∧ m' ((c.tc : Thread Cert.KvInRefIdeal.nD Cert.KvInRefIdeal.τ).loc Cert.KvInRefIdeal.main_arg1) = m ((c.tc : Thread Cert.KvInIdeal.nD Cert.KvInIdeal.τ).loc Cert.KvInIdeal.main_arg1)
      ∧ m' ((c.tc : Thread Cert.KvInRefIdeal.nD Cert.KvInRefIdeal.τ).loc Cert.KvInRefIdeal.main_arg2) = m ((c.tc : Thread Cert.KvInIdeal.nD Cert.KvInIdeal.τ).loc Cert.KvInIdeal.main_arg2)
      ∧ m' ((c.tc : Thread Cert.KvInRefIdeal.nD Cert.KvInRefIdeal.τ).loc Cert.KvInRefIdeal.main_arg3) = m ((c.tc : Thread Cert.KvInIdeal.nD Cert.KvInIdeal.τ).loc Cert.KvInIdeal.main_arg3)) →
    ∃ (v0 : (c : Dev Cert.KvInIdeal.nD) → Buf (Elt Ideal) ((c.tc : Thread Cert.KvInIdeal.nD Cert.KvInIdeal.τ).loc Cert.KvInIdeal.main_v2)),
      θ_run (Cert.KvInIdeal.defs (F := Ideal)) (onTc (τ := Cert.KvInIdeal.τ) (Cert.KvInIdeal.main (F := Ideal))) ⟨m, fun _ => 0, g⟩ (fun r => ∀ c : Dev Cert.KvInIdeal.nD,
          r.2.mem ((c.tc : Thread Cert.KvInIdeal.nD Cert.KvInIdeal.τ).loc Cert.KvInIdeal.main_v2) = v0 c
          ∧ r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
          ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1)
          ∧ r.2.mem ((c.tc : Thread Cert.KvInIdeal.nD Cert.KvInIdeal.τ).loc Cert.KvInIdeal.main_arg2) = m ((c.tc : Thread Cert.KvInIdeal.nD Cert.KvInIdeal.τ).loc Cert.KvInIdeal.main_arg2)
          ∧ r.2.mem ((c.tc : Thread Cert.KvInIdeal.nD Cert.KvInIdeal.τ).loc Cert.KvInIdeal.main_arg3) = m ((c.tc : Thread Cert.KvInIdeal.nD Cert.KvInIdeal.τ).loc Cert.KvInIdeal.main_arg3))
      ∧ θ_run (Cert.KvInRefIdeal.defs (F := Ideal)) (onTc (τ := Cert.KvInRefIdeal.τ) (Cert.KvInRefIdeal.main (F := Ideal))) ⟨m', fun _ => 0, g'⟩ (fun r => ∀ c : Dev Cert.KvInRefIdeal.nD,
          r.2.mem ((c.tc : Thread Cert.KvInRefIdeal.nD Cert.KvInRefIdeal.τ).loc Cert.KvInRefIdeal.main_v5) = v0 c
          ∧ r.2.mem ((c.tc : Thread Cert.KvInRefIdeal.nD Cert.KvInRefIdeal.τ).loc Cert.KvInRefIdeal.main_arg0) = m' ((c.tc : Thread Cert.KvInRefIdeal.nD Cert.KvInRefIdeal.τ).loc Cert.KvInRefIdeal.main_arg0)
          ∧ r.2.mem ((c.tc : Thread Cert.KvInRefIdeal.nD Cert.KvInRefIdeal.τ).loc Cert.KvInRefIdeal.main_arg1) = m' ((c.tc : Thread Cert.KvInRefIdeal.nD Cert.KvInRefIdeal.τ).loc Cert.KvInRefIdeal.main_arg1)
          ∧ r.2.mem ((c.tc : Thread Cert.KvInRefIdeal.nD Cert.KvInRefIdeal.τ).loc Cert.KvInRefIdeal.main_arg2) = m' ((c.tc : Thread Cert.KvInRefIdeal.nD Cert.KvInRefIdeal.τ).loc Cert.KvInRefIdeal.main_arg2)
          ∧ r.2.mem ((c.tc : Thread Cert.KvInRefIdeal.nD Cert.KvInRefIdeal.τ).loc Cert.KvInRefIdeal.main_arg3) = m' ((c.tc : Thread Cert.KvInRefIdeal.nD Cert.KvInRefIdeal.τ).loc Cert.KvInRefIdeal.main_arg3))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v2) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v1) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v1)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v1) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v2) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)
      ∧ m' ((c.tc : Thread Cert.ProjKvRefIdeal.nD Cert.ProjKvRefIdeal.τ).loc Cert.ProjKvRefIdeal.main_arg2) = m ((c.tc : Thread Cert.ProjKvIdeal.nD Cert.ProjKvIdeal.τ).loc Cert.ProjKvIdeal.main_arg2)) →
    ∃ (v0 : (c : Dev Cert.ProjKvIdeal.nD) → Buf (Elt Ideal) ((c.tc : Thread Cert.ProjKvIdeal.nD Cert.ProjKvIdeal.τ).loc Cert.ProjKvIdeal.main_v2_0)) (v1 : (c : Dev Cert.ProjKvIdeal.nD) → Buf (Elt Ideal) ((c.tc : Thread Cert.ProjKvIdeal.nD Cert.ProjKvIdeal.τ).loc Cert.ProjKvIdeal.main_v2_1)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v2_0) = v0 c
          ∧ r.2.mem ((c.tc : Thread Cert.ProjKvIdeal.nD Cert.ProjKvIdeal.τ).loc Cert.ProjKvIdeal.main_v2_1) = v1 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
          ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v2) = v0 c
          ∧ r.2.mem ((c.tc : Thread Cert.ProjKvRefIdeal.nD Cert.ProjKvRefIdeal.τ).loc Cert.ProjKvRefIdeal.main_v4) = v1 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1)
          ∧ r.2.mem ((c.tc : Thread Cert.ProjKvRefIdeal.nD Cert.ProjKvRefIdeal.τ).loc Cert.ProjKvRefIdeal.main_arg2) = m' ((c.tc : Thread Cert.ProjKvRefIdeal.nD Cert.ProjKvRefIdeal.τ).loc Cert.ProjKvRefIdeal.main_arg2))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v2)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v2) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v1) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)) (v2 : (c : Dev Cert.FfnUpIdeal.nD) → Buf (Elt Ideal) ((c.tc : Thread Cert.FfnUpIdeal.nD Cert.FfnUpIdeal.τ).loc Cert.FfnUpIdeal.main_v2_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_v2_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_v3) = v1 c
          ∧ r.2.mem ((c.tc : Thread Cert.FfnUpRefIdeal.nD Cert.FfnUpRefIdeal.τ).loc Cert.FfnUpRefIdeal.main_v6) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Mixer_MixerIdeal : Prop :=
  True

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)) →
    ∃ (v0 : (c : Dev Cert.MixerIdeal.nD) → Buf (Elt Ideal) ((c.tc : Thread Cert.MixerIdeal.nD Cert.MixerIdeal.τ).loc Cert.MixerIdeal.main_v15_0)) (v1 : (c : Dev Cert.MixerIdeal.nD) → Buf (Elt Ideal) ((c.tc : Thread Cert.MixerIdeal.nD Cert.MixerIdeal.τ).loc Cert.MixerIdeal.main_v15_1)) (v2 : (c : Dev Cert.MixerIdeal.nD) → Buf (Elt Ideal) ((c.tc : Thread Cert.MixerIdeal.nD Cert.MixerIdeal.τ).loc Cert.MixerIdeal.main_v15_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v15_0) = v0 c
          ∧ r.2.mem ((c.tc : Thread Cert.MixerIdeal.nD Cert.MixerIdeal.τ).loc Cert.MixerIdeal.main_v15_1) = v1 c
          ∧ r.2.mem ((c.tc : Thread Cert.MixerIdeal.nD Cert.MixerIdeal.τ).loc Cert.MixerIdeal.main_v15_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v86) = v0 c
          ∧ r.2.mem ((c.tc : Thread Cert.MixerRefIdeal.nD Cert.MixerRefIdeal.τ).loc Cert.MixerRefIdeal.main_v87) = v1 c
          ∧ r.2.mem ((c.tc : Thread Cert.MixerRefIdeal.nD Cert.MixerRefIdeal.τ).loc Cert.MixerRefIdeal.main_v88) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v1_0)) (v1 : (c : Dev Cert.OutFwdIdeal.nD) → Buf (Elt Ideal) ((c.tc : Thread Cert.OutFwdIdeal.nD Cert.OutFwdIdeal.τ).loc Cert.OutFwdIdeal.main_v1_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1_0) = v0 c
          ∧ r.2.mem ((c.tc : Thread Cert.OutFwdIdeal.nD Cert.OutFwdIdeal.τ).loc Cert.OutFwdIdeal.main_v1_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_v17) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)) →
    ∃ (v0 : (c : Dev Cert.MixNormIdeal.nD) → Buf (Elt Ideal) ((c.tc : Thread Cert.MixNormIdeal.nD Cert.MixNormIdeal.τ).loc Cert.MixNormIdeal.main_v0)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v0) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v14) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v14) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemG_MemGIdeal : Prop :=
  True

def algebraic_MemGIdeal_MemGRefIdeal [hMemGIdeal : Cert.MemGIdeal.Facts] [hMemGRefIdeal : Cert.MemGRefIdeal.Facts] : Prop :=
  ∀ (m : (ℓ : Loc Cert.MemGIdeal.nD Cert.MemGIdeal.τ Cert.MemGIdeal.sig) → Buf (Elt Ideal) ℓ) (g : Dev Cert.MemGIdeal.nD → PrngReg)
    (m' : (ℓ : Loc Cert.MemGRefIdeal.nD Cert.MemGRefIdeal.τ Cert.MemGRefIdeal.sig) → Buf (Elt Ideal) ℓ) (g' : Dev Cert.MemGRefIdeal.nD → PrngReg), Pre_MemGIdeal m →
    (∀ c : Dev Cert.MemGIdeal.nD,
      m' ((c.tc : Thread Cert.MemGRefIdeal.nD Cert.MemGRefIdeal.τ).loc Cert.MemGRefIdeal.main_arg0) = m ((c.tc : Thread Cert.MemGIdeal.nD Cert.MemGIdeal.τ).loc Cert.MemGIdeal.main_arg0)
      ∧ m' ((c.tc : Thread Cert.MemGRefIdeal.nD Cert.MemGRefIdeal.τ).loc Cert.MemGRefIdeal.main_arg1) = m ((c.tc : Thread Cert.MemGIdeal.nD Cert.MemGIdeal.τ).loc Cert.MemGIdeal.main_arg1)
      ∧ m' ((c.tc : Thread Cert.MemGRefIdeal.nD Cert.MemGRefIdeal.τ).loc Cert.MemGRefIdeal.main_arg2) = m ((c.tc : Thread Cert.MemGIdeal.nD Cert.MemGIdeal.τ).loc Cert.MemGIdeal.main_arg2)) →
    ∃ (v0 : (c : Dev Cert.MemGIdeal.nD) → Buf (Elt Ideal) ((c.tc : Thread Cert.MemGIdeal.nD Cert.MemGIdeal.τ).loc Cert.MemGIdeal.main_v0)),
      θ_run (Cert.MemGIdeal.defs (F := Ideal)) (onTc (τ := Cert.MemGIdeal.τ) (Cert.MemGIdeal.main (F := Ideal))) ⟨m, fun _ => 0, g⟩ (fun r => ∀ c : Dev Cert.MemGIdeal.nD,
          r.2.mem ((c.tc : Thread Cert.MemGIdeal.nD Cert.MemGIdeal.τ).loc Cert.MemGIdeal.main_v0) = v0 c
          ∧ r.2.mem ((c.tc : Thread Cert.MemGIdeal.nD Cert.MemGIdeal.τ).loc Cert.MemGIdeal.main_arg0) = m ((c.tc : Thread Cert.MemGIdeal.nD Cert.MemGIdeal.τ).loc Cert.MemGIdeal.main_arg0)
          ∧ r.2.mem ((c.tc : Thread Cert.MemGIdeal.nD Cert.MemGIdeal.τ).loc Cert.MemGIdeal.main_arg1) = m ((c.tc : Thread Cert.MemGIdeal.nD Cert.MemGIdeal.τ).loc Cert.MemGIdeal.main_arg1)
          ∧ r.2.mem ((c.tc : Thread Cert.MemGIdeal.nD Cert.MemGIdeal.τ).loc Cert.MemGIdeal.main_arg2) = m ((c.tc : Thread Cert.MemGIdeal.nD Cert.MemGIdeal.τ).loc Cert.MemGIdeal.main_arg2))
      ∧ θ_run (Cert.MemGRefIdeal.defs (F := Ideal)) (onTc (τ := Cert.MemGRefIdeal.τ) (Cert.MemGRefIdeal.main (F := Ideal))) ⟨m', fun _ => 0, g'⟩ (fun r => ∀ c : Dev Cert.MemGRefIdeal.nD,
          r.2.mem ((c.tc : Thread Cert.MemGRefIdeal.nD Cert.MemGRefIdeal.τ).loc Cert.MemGRefIdeal.main_v18) = v0 c
          ∧ r.2.mem ((c.tc : Thread Cert.MemGRefIdeal.nD Cert.MemGRefIdeal.τ).loc Cert.MemGRefIdeal.main_arg0) = m' ((c.tc : Thread Cert.MemGRefIdeal.nD Cert.MemGRefIdeal.τ).loc Cert.MemGRefIdeal.main_arg0)
          ∧ r.2.mem ((c.tc : Thread Cert.MemGRefIdeal.nD Cert.MemGRefIdeal.τ).loc Cert.MemGRefIdeal.main_arg1) = m' ((c.tc : Thread Cert.MemGRefIdeal.nD Cert.MemGRefIdeal.τ).loc Cert.MemGRefIdeal.main_arg1)
          ∧ r.2.mem ((c.tc : Thread Cert.MemGRefIdeal.nD Cert.MemGRefIdeal.τ).loc Cert.MemGRefIdeal.main_arg2) = m' ((c.tc : Thread Cert.MemGRefIdeal.nD Cert.MemGRefIdeal.τ).loc Cert.MemGRefIdeal.main_arg2))

def preserves_FfnG_FfnGIdeal : Prop :=
  True

def algebraic_FfnGIdeal_FfnGRefIdeal [hFfnGIdeal : Cert.FfnGIdeal.Facts] [hFfnGRefIdeal : Cert.FfnGRefIdeal.Facts] : Prop :=
  ∀ (m : (ℓ : Loc Cert.FfnGIdeal.nD Cert.FfnGIdeal.τ Cert.FfnGIdeal.sig) → Buf (Elt Ideal) ℓ) (g : Dev Cert.FfnGIdeal.nD → PrngReg)
    (m' : (ℓ : Loc Cert.FfnGRefIdeal.nD Cert.FfnGRefIdeal.τ Cert.FfnGRefIdeal.sig) → Buf (Elt Ideal) ℓ) (g' : Dev Cert.FfnGRefIdeal.nD → PrngReg), Pre_FfnGIdeal m →
    (∀ c : Dev Cert.FfnGIdeal.nD,
      m' ((c.tc : Thread Cert.FfnGRefIdeal.nD Cert.FfnGRefIdeal.τ).loc Cert.FfnGRefIdeal.main_arg0) = m ((c.tc : Thread Cert.FfnGIdeal.nD Cert.FfnGIdeal.τ).loc Cert.FfnGIdeal.main_arg0)
      ∧ m' ((c.tc : Thread Cert.FfnGRefIdeal.nD Cert.FfnGRefIdeal.τ).loc Cert.FfnGRefIdeal.main_arg1) = m ((c.tc : Thread Cert.FfnGIdeal.nD Cert.FfnGIdeal.τ).loc Cert.FfnGIdeal.main_arg1)
      ∧ m' ((c.tc : Thread Cert.FfnGRefIdeal.nD Cert.FfnGRefIdeal.τ).loc Cert.FfnGRefIdeal.main_arg2) = m ((c.tc : Thread Cert.FfnGIdeal.nD Cert.FfnGIdeal.τ).loc Cert.FfnGIdeal.main_arg2)
      ∧ m' ((c.tc : Thread Cert.FfnGRefIdeal.nD Cert.FfnGRefIdeal.τ).loc Cert.FfnGRefIdeal.main_arg3) = m ((c.tc : Thread Cert.FfnGIdeal.nD Cert.FfnGIdeal.τ).loc Cert.FfnGIdeal.main_arg3)) →
    ∃ (v0 : (c : Dev Cert.FfnGIdeal.nD) → Buf (Elt Ideal) ((c.tc : Thread Cert.FfnGIdeal.nD Cert.FfnGIdeal.τ).loc Cert.FfnGIdeal.main_v0_0)) (v1 : (c : Dev Cert.FfnGIdeal.nD) → Buf (Elt Ideal) ((c.tc : Thread Cert.FfnGIdeal.nD Cert.FfnGIdeal.τ).loc Cert.FfnGIdeal.main_v0_1)) (v2 : (c : Dev Cert.FfnGIdeal.nD) → Buf (Elt Ideal) ((c.tc : Thread Cert.FfnGIdeal.nD Cert.FfnGIdeal.τ).loc Cert.FfnGIdeal.main_v0_2)),
      θ_run (Cert.FfnGIdeal.defs (F := Ideal)) (onTc (τ := Cert.FfnGIdeal.τ) (Cert.FfnGIdeal.main (F := Ideal))) ⟨m, fun _ => 0, g⟩ (fun r => ∀ c : Dev Cert.FfnGIdeal.nD,
          r.2.mem ((c.tc : Thread Cert.FfnGIdeal.nD Cert.FfnGIdeal.τ).loc Cert.FfnGIdeal.main_v0_0) = v0 c
          ∧ r.2.mem ((c.tc : Thread Cert.FfnGIdeal.nD Cert.FfnGIdeal.τ).loc Cert.FfnGIdeal.main_v0_1) = v1 c
          ∧ r.2.mem ((c.tc : Thread Cert.FfnGIdeal.nD Cert.FfnGIdeal.τ).loc Cert.FfnGIdeal.main_v0_2) = v2 c
          ∧ r.2.mem ((c.tc : Thread Cert.FfnGIdeal.nD Cert.FfnGIdeal.τ).loc Cert.FfnGIdeal.main_arg0) = m ((c.tc : Thread Cert.FfnGIdeal.nD Cert.FfnGIdeal.τ).loc Cert.FfnGIdeal.main_arg0)
          ∧ r.2.mem ((c.tc : Thread Cert.FfnGIdeal.nD Cert.FfnGIdeal.τ).loc Cert.FfnGIdeal.main_arg1) = m ((c.tc : Thread Cert.FfnGIdeal.nD Cert.FfnGIdeal.τ).loc Cert.FfnGIdeal.main_arg1)
          ∧ r.2.mem ((c.tc : Thread Cert.FfnGIdeal.nD Cert.FfnGIdeal.τ).loc Cert.FfnGIdeal.main_arg2) = m ((c.tc : Thread Cert.FfnGIdeal.nD Cert.FfnGIdeal.τ).loc Cert.FfnGIdeal.main_arg2)
          ∧ r.2.mem ((c.tc : Thread Cert.FfnGIdeal.nD Cert.FfnGIdeal.τ).loc Cert.FfnGIdeal.main_arg3) = m ((c.tc : Thread Cert.FfnGIdeal.nD Cert.FfnGIdeal.τ).loc Cert.FfnGIdeal.main_arg3))
      ∧ θ_run (Cert.FfnGRefIdeal.defs (F := Ideal)) (onTc (τ := Cert.FfnGRefIdeal.τ) (Cert.FfnGRefIdeal.main (F := Ideal))) ⟨m', fun _ => 0, g'⟩ (fun r => ∀ c : Dev Cert.FfnGRefIdeal.nD,
          r.2.mem ((c.tc : Thread Cert.FfnGRefIdeal.nD Cert.FfnGRefIdeal.τ).loc Cert.FfnGRefIdeal.main_v37) = v0 c
          ∧ r.2.mem ((c.tc : Thread Cert.FfnGRefIdeal.nD Cert.FfnGRefIdeal.τ).loc Cert.FfnGRefIdeal.main_v39) = v1 c
          ∧ r.2.mem ((c.tc : Thread Cert.FfnGRefIdeal.nD Cert.FfnGRefIdeal.τ).loc Cert.FfnGRefIdeal.main_v38) = v2 c
          ∧ r.2.mem ((c.tc : Thread Cert.FfnGRefIdeal.nD Cert.FfnGRefIdeal.τ).loc Cert.FfnGRefIdeal.main_arg0) = m' ((c.tc : Thread Cert.FfnGRefIdeal.nD Cert.FfnGRefIdeal.τ).loc Cert.FfnGRefIdeal.main_arg0)
          ∧ r.2.mem ((c.tc : Thread Cert.FfnGRefIdeal.nD Cert.FfnGRefIdeal.τ).loc Cert.FfnGRefIdeal.main_arg1) = m' ((c.tc : Thread Cert.FfnGRefIdeal.nD Cert.FfnGRefIdeal.τ).loc Cert.FfnGRefIdeal.main_arg1)
          ∧ r.2.mem ((c.tc : Thread Cert.FfnGRefIdeal.nD Cert.FfnGRefIdeal.τ).loc Cert.FfnGRefIdeal.main_arg2) = m' ((c.tc : Thread Cert.FfnGRefIdeal.nD Cert.FfnGRefIdeal.τ).loc Cert.FfnGRefIdeal.main_arg2)
          ∧ r.2.mem ((c.tc : Thread Cert.FfnGRefIdeal.nD Cert.FfnGRefIdeal.τ).loc Cert.FfnGRefIdeal.main_arg3) = m' ((c.tc : Thread Cert.FfnGRefIdeal.nD Cert.FfnGRefIdeal.τ).loc Cert.FfnGRefIdeal.main_arg3))

def preserves_QIn_QInIdeal : Prop :=
  True

def algebraic_QInIdeal_QInRefIdeal [hQInIdeal : Cert.QInIdeal.Facts] [hQInRefIdeal : Cert.QInRefIdeal.Facts] : Prop :=
  ∀ (m : (ℓ : Loc Cert.QInIdeal.nD Cert.QInIdeal.τ Cert.QInIdeal.sig) → Buf (Elt Ideal) ℓ) (g : Dev Cert.QInIdeal.nD → PrngReg)
    (m' : (ℓ : Loc Cert.QInRefIdeal.nD Cert.QInRefIdeal.τ Cert.QInRefIdeal.sig) → Buf (Elt Ideal) ℓ) (g' : Dev Cert.QInRefIdeal.nD → PrngReg), Pre_QInIdeal m →
    (∀ c : Dev Cert.QInIdeal.nD,
      m' ((c.tc : Thread Cert.QInRefIdeal.nD Cert.QInRefIdeal.τ).loc Cert.QInRefIdeal.main_arg0) = m ((c.tc : Thread Cert.QInIdeal.nD Cert.QInIdeal.τ).loc Cert.QInIdeal.main_arg0)
      ∧ m' ((c.tc : Thread Cert.QInRefIdeal.nD Cert.QInRefIdeal.τ).loc Cert.QInRefIdeal.main_arg1) = m ((c.tc : Thread Cert.QInIdeal.nD Cert.QInIdeal.τ).loc Cert.QInIdeal.main_arg1)
      ∧ m' ((c.tc : Thread Cert.QInRefIdeal.nD Cert.QInRefIdeal.τ).loc Cert.QInRefIdeal.main_arg2) = m ((c.tc : Thread Cert.QInIdeal.nD Cert.QInIdeal.τ).loc Cert.QInIdeal.main_arg2)
      ∧ m' ((c.tc : Thread Cert.QInRefIdeal.nD Cert.QInRefIdeal.τ).loc Cert.QInRefIdeal.main_arg3) = m ((c.tc : Thread Cert.QInIdeal.nD Cert.QInIdeal.τ).loc Cert.QInIdeal.main_arg3)
      ∧ m' ((c.tc : Thread Cert.QInRefIdeal.nD Cert.QInRefIdeal.τ).loc Cert.QInRefIdeal.main_arg4) = m ((c.tc : Thread Cert.QInIdeal.nD Cert.QInIdeal.τ).loc Cert.QInIdeal.main_arg4)) →
    ∃ (v0 : (c : Dev Cert.QInIdeal.nD) → Buf (Elt Ideal) ((c.tc : Thread Cert.QInIdeal.nD Cert.QInIdeal.τ).loc Cert.QInIdeal.main_v1_0)) (v1 : (c : Dev Cert.QInIdeal.nD) → Buf (Elt Ideal) ((c.tc : Thread Cert.QInIdeal.nD Cert.QInIdeal.τ).loc Cert.QInIdeal.main_v1_1)) (v2 : (c : Dev Cert.QInIdeal.nD) → Buf (Elt Ideal) ((c.tc : Thread Cert.QInIdeal.nD Cert.QInIdeal.τ).loc Cert.QInIdeal.main_v1_2)),
      θ_run (Cert.QInIdeal.defs (F := Ideal)) (onTc (τ := Cert.QInIdeal.τ) (Cert.QInIdeal.main (F := Ideal))) ⟨m, fun _ => 0, g⟩ (fun r => ∀ c : Dev Cert.QInIdeal.nD,
          r.2.mem ((c.tc : Thread Cert.QInIdeal.nD Cert.QInIdeal.τ).loc Cert.QInIdeal.main_v1_0) = v0 c
          ∧ r.2.mem ((c.tc : Thread Cert.QInIdeal.nD Cert.QInIdeal.τ).loc Cert.QInIdeal.main_v1_1) = v1 c
          ∧ r.2.mem ((c.tc : Thread Cert.QInIdeal.nD Cert.QInIdeal.τ).loc Cert.QInIdeal.main_v1_2) = v2 c
          ∧ r.2.mem ((c.tc : Thread Cert.QInIdeal.nD Cert.QInIdeal.τ).loc Cert.QInIdeal.main_arg0) = m ((c.tc : Thread Cert.QInIdeal.nD Cert.QInIdeal.τ).loc Cert.QInIdeal.main_arg0)
          ∧ r.2.mem ((c.tc : Thread Cert.QInIdeal.nD Cert.QInIdeal.τ).loc Cert.QInIdeal.main_arg1) = m ((c.tc : Thread Cert.QInIdeal.nD Cert.QInIdeal.τ).loc Cert.QInIdeal.main_arg1)
          ∧ r.2.mem ((c.tc : Thread Cert.QInIdeal.nD Cert.QInIdeal.τ).loc Cert.QInIdeal.main_arg2) = m ((c.tc : Thread Cert.QInIdeal.nD Cert.QInIdeal.τ).loc Cert.QInIdeal.main_arg2)
          ∧ r.2.mem ((c.tc : Thread Cert.QInIdeal.nD Cert.QInIdeal.τ).loc Cert.QInIdeal.main_arg3) = m ((c.tc : Thread Cert.QInIdeal.nD Cert.QInIdeal.τ).loc Cert.QInIdeal.main_arg3)
          ∧ r.2.mem ((c.tc : Thread Cert.QInIdeal.nD Cert.QInIdeal.τ).loc Cert.QInIdeal.main_arg4) = m ((c.tc : Thread Cert.QInIdeal.nD Cert.QInIdeal.τ).loc Cert.QInIdeal.main_arg4))
      ∧ θ_run (Cert.QInRefIdeal.defs (F := Ideal)) (onTc (τ := Cert.QInRefIdeal.τ) (Cert.QInRefIdeal.main (F := Ideal))) ⟨m', fun _ => 0, g'⟩ (fun r => ∀ c : Dev Cert.QInRefIdeal.nD,
          r.2.mem ((c.tc : Thread Cert.QInRefIdeal.nD Cert.QInRefIdeal.τ).loc Cert.QInRefIdeal.main_v41) = v0 c
          ∧ r.2.mem ((c.tc : Thread Cert.QInRefIdeal.nD Cert.QInRefIdeal.τ).loc Cert.QInRefIdeal.main_v43) = v1 c
          ∧ r.2.mem ((c.tc : Thread Cert.QInRefIdeal.nD Cert.QInRefIdeal.τ).loc Cert.QInRefIdeal.main_v42) = v2 c
          ∧ r.2.mem ((c.tc : Thread Cert.QInRefIdeal.nD Cert.QInRefIdeal.τ).loc Cert.QInRefIdeal.main_arg0) = m' ((c.tc : Thread Cert.QInRefIdeal.nD Cert.QInRefIdeal.τ).loc Cert.QInRefIdeal.main_arg0)
          ∧ r.2.mem ((c.tc : Thread Cert.QInRefIdeal.nD Cert.QInRefIdeal.τ).loc Cert.QInRefIdeal.main_arg1) = m' ((c.tc : Thread Cert.QInRefIdeal.nD Cert.QInRefIdeal.τ).loc Cert.QInRefIdeal.main_arg1)
          ∧ r.2.mem ((c.tc : Thread Cert.QInRefIdeal.nD Cert.QInRefIdeal.τ).loc Cert.QInRefIdeal.main_arg2) = m' ((c.tc : Thread Cert.QInRefIdeal.nD Cert.QInRefIdeal.τ).loc Cert.QInRefIdeal.main_arg2)
          ∧ r.2.mem ((c.tc : Thread Cert.QInRefIdeal.nD Cert.QInRefIdeal.τ).loc Cert.QInRefIdeal.main_arg3) = m' ((c.tc : Thread Cert.QInRefIdeal.nD Cert.QInRefIdeal.τ).loc Cert.QInRefIdeal.main_arg3)
          ∧ r.2.mem ((c.tc : Thread Cert.QInRefIdeal.nD Cert.QInRefIdeal.τ).loc Cert.QInRefIdeal.main_arg4) = m' ((c.tc : Thread Cert.QInRefIdeal.nD Cert.QInRefIdeal.τ).loc Cert.QInRefIdeal.main_arg4))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v2_0)) (v1 : (c : Dev Cert.MixInIdeal.nD) → Buf (Elt Ideal) ((c.tc : Thread Cert.MixInIdeal.nD Cert.MixInIdeal.τ).loc Cert.MixInIdeal.main_v2_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v40) = v0 c
          ∧ r.2.mem ((c.tc : Thread Cert.MixInRefIdeal.nD Cert.MixInRefIdeal.τ).loc Cert.MixInRefIdeal.main_v41) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)) (v3 : (c : Dev Cert.DownIdeal.nD) → Buf (Elt Ideal) ((c.tc : Thread Cert.DownIdeal.nD Cert.DownIdeal.τ).loc Cert.DownIdeal.main_v1_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_v1_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v54) = v0 c
          ∧ r.2.mem ((c.tc : Thread Cert.DownRefIdeal.nD Cert.DownRefIdeal.τ).loc Cert.DownRefIdeal.main_v56) = v1 c
          ∧ r.2.mem ((c.tc : Thread Cert.DownRefIdeal.nD Cert.DownRefIdeal.τ).loc Cert.DownRefIdeal.main_v55) = v2 c
          ∧ r.2.mem ((c.tc : Thread Cert.DownRefIdeal.nD Cert.DownRefIdeal.τ).loc Cert.DownRefIdeal.main_v57) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_SumEarly_SumEarlyIdeal : Prop :=
  True

def algebraic_SumEarlyIdeal_SumEarlyRefIdeal [hSumEarlyIdeal : Cert.SumEarlyIdeal.Facts] [hSumEarlyRefIdeal : Cert.SumEarlyRefIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg)
    (m' : (ℓ : Loc Cert.SumEarlyRefIdeal.nD Cert.SumEarlyRefIdeal.τ Cert.SumEarlyRefIdeal.sig) → Buf (Elt Ideal) ℓ) (g' : Dev Cert.SumEarlyRefIdeal.nD → PrngReg), Pre_SumEarlyIdeal m →
    (∀ c : Dev Cert.SumEarlyIdeal.nD,
      m' ((c.tc : Thread Cert.SumEarlyRefIdeal.nD Cert.SumEarlyRefIdeal.τ).loc Cert.SumEarlyRefIdeal.main_arg0) = m ((c.tc : Thread Cert.SumEarlyIdeal.nD Cert.SumEarlyIdeal.τ).loc Cert.SumEarlyIdeal.main_arg0)) →
    ∃ (v0 : (c : Dev Cert.SumEarlyIdeal.nD) → Buf (Elt Ideal) ((c.tc : Thread Cert.SumEarlyIdeal.nD Cert.SumEarlyIdeal.τ).loc Cert.SumEarlyIdeal.main_v0)),
      θ_run (Cert.SumEarlyIdeal.defs (F := Ideal)) (onTc (τ := Cert.SumEarlyIdeal.τ) (Cert.SumEarlyIdeal.main (F := Ideal))) ⟨m, fun _ => 0, g⟩ (fun r => ∀ c : Dev Cert.SumEarlyIdeal.nD,
          r.2.mem ((c.tc : Thread Cert.SumEarlyIdeal.nD Cert.SumEarlyIdeal.τ).loc Cert.SumEarlyIdeal.main_v0) = v0 c
          ∧ r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ θ_run (Cert.SumEarlyRefIdeal.defs (F := Ideal)) (onTc (τ := Cert.SumEarlyRefIdeal.τ) (Cert.SumEarlyRefIdeal.main (F := Ideal))) ⟨m', fun _ => 0, g'⟩ (fun r => ∀ c : Dev Cert.SumEarlyRefIdeal.nD,
          r.2.mem ((c.tc : Thread Cert.SumEarlyRefIdeal.nD Cert.SumEarlyRefIdeal.τ).loc Cert.SumEarlyRefIdeal.main_v0) = v0 c
          ∧ r.2.mem ((c.tc : Thread Cert.SumEarlyRefIdeal.nD Cert.SumEarlyRefIdeal.τ).loc Cert.SumEarlyRefIdeal.main_arg0) = m' ((c.tc : Thread Cert.SumEarlyRefIdeal.nD Cert.SumEarlyRefIdeal.τ).loc Cert.SumEarlyRefIdeal.main_arg0))

def preserves_SumLate_SumLateIdeal : Prop :=
  True

def algebraic_SumLateIdeal_SumLateRefIdeal [hSumLateIdeal : Cert.SumLateIdeal.Facts] [hSumLateRefIdeal : Cert.SumLateRefIdeal.Facts] : Prop :=
  ∀ (m : (ℓ : Loc Cert.SumLateIdeal.nD Cert.SumLateIdeal.τ Cert.SumLateIdeal.sig) → Buf (Elt Ideal) ℓ) (g : Dev Cert.SumLateIdeal.nD → PrngReg)
    (m' : (ℓ : Loc Cert.SumLateRefIdeal.nD Cert.SumLateRefIdeal.τ Cert.SumLateRefIdeal.sig) → Buf (Elt Ideal) ℓ) (g' : Dev Cert.SumLateRefIdeal.nD → PrngReg), Pre_SumLateIdeal m →
    (∀ c : Dev Cert.SumLateIdeal.nD,
      m' ((c.tc : Thread Cert.SumLateRefIdeal.nD Cert.SumLateRefIdeal.τ).loc Cert.SumLateRefIdeal.main_arg0) = m ((c.tc : Thread Cert.SumLateIdeal.nD Cert.SumLateIdeal.τ).loc Cert.SumLateIdeal.main_arg0)) →
    ∃ (v0 : (c : Dev Cert.SumLateIdeal.nD) → Buf (Elt Ideal) ((c.tc : Thread Cert.SumLateIdeal.nD Cert.SumLateIdeal.τ).loc Cert.SumLateIdeal.main_v0)),
      θ_run (Cert.SumLateIdeal.defs (F := Ideal)) (onTc (τ := Cert.SumLateIdeal.τ) (Cert.SumLateIdeal.main (F := Ideal))) ⟨m, fun _ => 0, g⟩ (fun r => ∀ c : Dev Cert.SumLateIdeal.nD,
          r.2.mem ((c.tc : Thread Cert.SumLateIdeal.nD Cert.SumLateIdeal.τ).loc Cert.SumLateIdeal.main_v0) = v0 c
          ∧ r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ θ_run (Cert.SumLateRefIdeal.defs (F := Ideal)) (onTc (τ := Cert.SumLateRefIdeal.τ) (Cert.SumLateRefIdeal.main (F := Ideal))) ⟨m', fun _ => 0, g'⟩ (fun r => ∀ c : Dev Cert.SumLateRefIdeal.nD,
          r.2.mem ((c.tc : Thread Cert.SumLateRefIdeal.nD Cert.SumLateRefIdeal.τ).loc Cert.SumLateRefIdeal.main_v0) = v0 c
          ∧ r.2.mem ((c.tc : Thread Cert.SumLateRefIdeal.nD Cert.SumLateRefIdeal.τ).loc Cert.SumLateRefIdeal.main_arg0) = m' ((c.tc : Thread Cert.SumLateRefIdeal.nD Cert.SumLateRefIdeal.τ).loc Cert.SumLateRefIdeal.main_arg0))

def preserves_SmallAdamw_SmallAdamwIdeal : Prop :=
  True

def algebraic_SmallAdamwIdeal_SmallAdamwRefIdeal [hSmallAdamwIdeal : Cert.SmallAdamwIdeal.Facts] [hSmallAdamwRefIdeal : Cert.SmallAdamwRefIdeal.Facts] : Prop :=
  ∀ (m : (ℓ : Loc Cert.SmallAdamwIdeal.nD Cert.SmallAdamwIdeal.τ Cert.SmallAdamwIdeal.sig) → Buf (Elt Ideal) ℓ) (g : Dev Cert.SmallAdamwIdeal.nD → PrngReg)
    (m' : (ℓ : Loc Cert.SmallAdamwRefIdeal.nD Cert.SmallAdamwRefIdeal.τ Cert.SmallAdamwRefIdeal.sig) → Buf (Elt Ideal) ℓ) (g' : Dev Cert.SmallAdamwRefIdeal.nD → PrngReg), Pre_SmallAdamwIdeal m →
    (∀ c : Dev Cert.SmallAdamwIdeal.nD,
      m' ((c.tc : Thread Cert.SmallAdamwRefIdeal.nD Cert.SmallAdamwRefIdeal.τ).loc Cert.SmallAdamwRefIdeal.main_arg0) = m ((c.tc : Thread Cert.SmallAdamwIdeal.nD Cert.SmallAdamwIdeal.τ).loc Cert.SmallAdamwIdeal.main_arg0)
      ∧ m' ((c.tc : Thread Cert.SmallAdamwRefIdeal.nD Cert.SmallAdamwRefIdeal.τ).loc Cert.SmallAdamwRefIdeal.main_arg1) = m ((c.tc : Thread Cert.SmallAdamwIdeal.nD Cert.SmallAdamwIdeal.τ).loc Cert.SmallAdamwIdeal.main_arg1)
      ∧ m' ((c.tc : Thread Cert.SmallAdamwRefIdeal.nD Cert.SmallAdamwRefIdeal.τ).loc Cert.SmallAdamwRefIdeal.main_arg2) = m ((c.tc : Thread Cert.SmallAdamwIdeal.nD Cert.SmallAdamwIdeal.τ).loc Cert.SmallAdamwIdeal.main_arg2)
      ∧ m' ((c.tc : Thread Cert.SmallAdamwRefIdeal.nD Cert.SmallAdamwRefIdeal.τ).loc Cert.SmallAdamwRefIdeal.main_arg3) = m ((c.tc : Thread Cert.SmallAdamwIdeal.nD Cert.SmallAdamwIdeal.τ).loc Cert.SmallAdamwIdeal.main_arg3)) →
    ∃ (v0 : (c : Dev Cert.SmallAdamwIdeal.nD) → Buf (Elt Ideal) ((c.tc : Thread Cert.SmallAdamwIdeal.nD Cert.SmallAdamwIdeal.τ).loc Cert.SmallAdamwIdeal.main_v0_0)) (v1 : (c : Dev Cert.SmallAdamwIdeal.nD) → Buf (Elt Ideal) ((c.tc : Thread Cert.SmallAdamwIdeal.nD Cert.SmallAdamwIdeal.τ).loc Cert.SmallAdamwIdeal.main_v0_1)) (v2 : (c : Dev Cert.SmallAdamwIdeal.nD) → Buf (Elt Ideal) ((c.tc : Thread Cert.SmallAdamwIdeal.nD Cert.SmallAdamwIdeal.τ).loc Cert.SmallAdamwIdeal.main_v0_2)),
      θ_run (Cert.SmallAdamwIdeal.defs (F := Ideal)) (onTc (τ := Cert.SmallAdamwIdeal.τ) (Cert.SmallAdamwIdeal.main (F := Ideal))) ⟨m, fun _ => 0, g⟩ (fun r => ∀ c : Dev Cert.SmallAdamwIdeal.nD,
          r.2.mem ((c.tc : Thread Cert.SmallAdamwIdeal.nD Cert.SmallAdamwIdeal.τ).loc Cert.SmallAdamwIdeal.main_v0_0) = v0 c
          ∧ r.2.mem ((c.tc : Thread Cert.SmallAdamwIdeal.nD Cert.SmallAdamwIdeal.τ).loc Cert.SmallAdamwIdeal.main_v0_1) = v1 c
          ∧ r.2.mem ((c.tc : Thread Cert.SmallAdamwIdeal.nD Cert.SmallAdamwIdeal.τ).loc Cert.SmallAdamwIdeal.main_v0_2) = v2 c
          ∧ r.2.mem ((c.tc : Thread Cert.SmallAdamwIdeal.nD Cert.SmallAdamwIdeal.τ).loc Cert.SmallAdamwIdeal.main_arg0) = m ((c.tc : Thread Cert.SmallAdamwIdeal.nD Cert.SmallAdamwIdeal.τ).loc Cert.SmallAdamwIdeal.main_arg0)
          ∧ r.2.mem ((c.tc : Thread Cert.SmallAdamwIdeal.nD Cert.SmallAdamwIdeal.τ).loc Cert.SmallAdamwIdeal.main_arg1) = m ((c.tc : Thread Cert.SmallAdamwIdeal.nD Cert.SmallAdamwIdeal.τ).loc Cert.SmallAdamwIdeal.main_arg1)
          ∧ r.2.mem ((c.tc : Thread Cert.SmallAdamwIdeal.nD Cert.SmallAdamwIdeal.τ).loc Cert.SmallAdamwIdeal.main_arg2) = m ((c.tc : Thread Cert.SmallAdamwIdeal.nD Cert.SmallAdamwIdeal.τ).loc Cert.SmallAdamwIdeal.main_arg2)
          ∧ r.2.mem ((c.tc : Thread Cert.SmallAdamwIdeal.nD Cert.SmallAdamwIdeal.τ).loc Cert.SmallAdamwIdeal.main_arg3) = m ((c.tc : Thread Cert.SmallAdamwIdeal.nD Cert.SmallAdamwIdeal.τ).loc Cert.SmallAdamwIdeal.main_arg3))
      ∧ θ_run (Cert.SmallAdamwRefIdeal.defs (F := Ideal)) (onTc (τ := Cert.SmallAdamwRefIdeal.τ) (Cert.SmallAdamwRefIdeal.main (F := Ideal))) ⟨m', fun _ => 0, g'⟩ (fun r => ∀ c : Dev Cert.SmallAdamwRefIdeal.nD,
          r.2.mem ((c.tc : Thread Cert.SmallAdamwRefIdeal.nD Cert.SmallAdamwRefIdeal.τ).loc Cert.SmallAdamwRefIdeal.main_v23) = v0 c
          ∧ r.2.mem ((c.tc : Thread Cert.SmallAdamwRefIdeal.nD Cert.SmallAdamwRefIdeal.τ).loc Cert.SmallAdamwRefIdeal.main_v4) = v1 c
          ∧ r.2.mem ((c.tc : Thread Cert.SmallAdamwRefIdeal.nD Cert.SmallAdamwRefIdeal.τ).loc Cert.SmallAdamwRefIdeal.main_v10) = v2 c
          ∧ r.2.mem ((c.tc : Thread Cert.SmallAdamwRefIdeal.nD Cert.SmallAdamwRefIdeal.τ).loc Cert.SmallAdamwRefIdeal.main_arg0) = m' ((c.tc : Thread Cert.SmallAdamwRefIdeal.nD Cert.SmallAdamwRefIdeal.τ).loc Cert.SmallAdamwRefIdeal.main_arg0)
          ∧ r.2.mem ((c.tc : Thread Cert.SmallAdamwRefIdeal.nD Cert.SmallAdamwRefIdeal.τ).loc Cert.SmallAdamwRefIdeal.main_arg1) = m' ((c.tc : Thread Cert.SmallAdamwRefIdeal.nD Cert.SmallAdamwRefIdeal.τ).loc Cert.SmallAdamwRefIdeal.main_arg1)
          ∧ r.2.mem ((c.tc : Thread Cert.SmallAdamwRefIdeal.nD Cert.SmallAdamwRefIdeal.τ).loc Cert.SmallAdamwRefIdeal.main_arg2) = m' ((c.tc : Thread Cert.SmallAdamwRefIdeal.nD Cert.SmallAdamwRefIdeal.τ).loc Cert.SmallAdamwRefIdeal.main_arg2)
          ∧ r.2.mem ((c.tc : Thread Cert.SmallAdamwRefIdeal.nD Cert.SmallAdamwRefIdeal.τ).loc Cert.SmallAdamwRefIdeal.main_arg3) = m' ((c.tc : Thread Cert.SmallAdamwRefIdeal.nD Cert.SmallAdamwRefIdeal.τ).loc Cert.SmallAdamwRefIdeal.main_arg3))

def preserves_FinSquare_FinSquareIdeal : Prop :=
  True

def algebraic_FinSquareIdeal_FinSquareRefIdeal [hFinSquareIdeal : Cert.FinSquareIdeal.Facts] [hFinSquareRefIdeal : Cert.FinSquareRefIdeal.Facts] [hPre_chip_square : Cert.Pre_chip_square.Facts] : Prop :=
  ∀ (m : (ℓ : Loc Cert.FinSquareIdeal.nD Cert.FinSquareIdeal.τ Cert.FinSquareIdeal.sig) → Buf (Elt Ideal) ℓ) (g : Dev Cert.FinSquareIdeal.nD → PrngReg)
    (m' : (ℓ : Loc Cert.FinSquareRefIdeal.nD Cert.FinSquareRefIdeal.τ Cert.FinSquareRefIdeal.sig) → Buf (Elt Ideal) ℓ) (g' : Dev Cert.FinSquareRefIdeal.nD → PrngReg), Pre_FinSquareIdeal m →
    (∀ c : Dev Cert.FinSquareIdeal.nD,
      m' ((c.tc : Thread Cert.FinSquareRefIdeal.nD Cert.FinSquareRefIdeal.τ).loc Cert.FinSquareRefIdeal.main_arg0) = m ((c.tc : Thread Cert.FinSquareIdeal.nD Cert.FinSquareIdeal.τ).loc Cert.FinSquareIdeal.main_arg0)
      ∧ m' ((c.tc : Thread Cert.FinSquareRefIdeal.nD Cert.FinSquareRefIdeal.τ).loc Cert.FinSquareRefIdeal.main_arg1) = m ((c.tc : Thread Cert.FinSquareIdeal.nD Cert.FinSquareIdeal.τ).loc Cert.FinSquareIdeal.main_arg1)
      ∧ m' ((c.tc : Thread Cert.FinSquareRefIdeal.nD Cert.FinSquareRefIdeal.τ).loc Cert.FinSquareRefIdeal.main_arg2) = m ((c.tc : Thread Cert.FinSquareIdeal.nD Cert.FinSquareIdeal.τ).loc Cert.FinSquareIdeal.main_arg2)
      ∧ m' ((c.tc : Thread Cert.FinSquareRefIdeal.nD Cert.FinSquareRefIdeal.τ).loc Cert.FinSquareRefIdeal.main_arg3) = m ((c.tc : Thread Cert.FinSquareIdeal.nD Cert.FinSquareIdeal.τ).loc Cert.FinSquareIdeal.main_arg3)
      ∧ m' ((c.tc : Thread Cert.FinSquareRefIdeal.nD Cert.FinSquareRefIdeal.τ).loc Cert.FinSquareRefIdeal.main_arg4) = m ((c.tc : Thread Cert.FinSquareIdeal.nD Cert.FinSquareIdeal.τ).loc Cert.FinSquareIdeal.main_arg4)
      ∧ m' ((c.tc : Thread Cert.FinSquareRefIdeal.nD Cert.FinSquareRefIdeal.τ).loc Cert.FinSquareRefIdeal.main_arg5) = m ((c.tc : Thread Cert.FinSquareIdeal.nD Cert.FinSquareIdeal.τ).loc Cert.FinSquareIdeal.main_arg5)) →
    ∃ (v0 : (c : Dev Cert.FinSquareIdeal.nD) → Buf (Elt Ideal) ((c.tc : Thread Cert.FinSquareIdeal.nD Cert.FinSquareIdeal.τ).loc Cert.FinSquareIdeal.main_v0_0)) (v1 : (c : Dev Cert.FinSquareIdeal.nD) → Buf (Elt Ideal) ((c.tc : Thread Cert.FinSquareIdeal.nD Cert.FinSquareIdeal.τ).loc Cert.FinSquareIdeal.main_v0_1)) (v2 : (c : Dev Cert.FinSquareIdeal.nD) → Buf (Elt Ideal) ((c.tc : Thread Cert.FinSquareIdeal.nD Cert.FinSquareIdeal.τ).loc Cert.FinSquareIdeal.main_v0_2)) (v3 : (c : Dev Cert.FinSquareIdeal.nD) → Buf (Elt Ideal) ((c.tc : Thread Cert.FinSquareIdeal.nD Cert.FinSquareIdeal.τ).loc Cert.FinSquareIdeal.main_v0_3)),
      θ_run (Cert.FinSquareIdeal.defs (F := Ideal)) (onTc (τ := Cert.FinSquareIdeal.τ) (Cert.FinSquareIdeal.main (F := Ideal))) ⟨m, fun _ => 0, g⟩ (fun r => ∀ c : Dev Cert.FinSquareIdeal.nD,
          r.2.mem ((c.tc : Thread Cert.FinSquareIdeal.nD Cert.FinSquareIdeal.τ).loc Cert.FinSquareIdeal.main_v0_0) = v0 c
          ∧ r.2.mem ((c.tc : Thread Cert.FinSquareIdeal.nD Cert.FinSquareIdeal.τ).loc Cert.FinSquareIdeal.main_v0_1) = v1 c
          ∧ r.2.mem ((c.tc : Thread Cert.FinSquareIdeal.nD Cert.FinSquareIdeal.τ).loc Cert.FinSquareIdeal.main_v0_2) = v2 c
          ∧ r.2.mem ((c.tc : Thread Cert.FinSquareIdeal.nD Cert.FinSquareIdeal.τ).loc Cert.FinSquareIdeal.main_v0_3) = v3 c
          ∧ r.2.mem ((c.tc : Thread Cert.FinSquareIdeal.nD Cert.FinSquareIdeal.τ).loc Cert.FinSquareIdeal.main_arg0) = m ((c.tc : Thread Cert.FinSquareIdeal.nD Cert.FinSquareIdeal.τ).loc Cert.FinSquareIdeal.main_arg0)
          ∧ r.2.mem ((c.tc : Thread Cert.FinSquareIdeal.nD Cert.FinSquareIdeal.τ).loc Cert.FinSquareIdeal.main_arg1) = m ((c.tc : Thread Cert.FinSquareIdeal.nD Cert.FinSquareIdeal.τ).loc Cert.FinSquareIdeal.main_arg1)
          ∧ r.2.mem ((c.tc : Thread Cert.FinSquareIdeal.nD Cert.FinSquareIdeal.τ).loc Cert.FinSquareIdeal.main_arg2) = m ((c.tc : Thread Cert.FinSquareIdeal.nD Cert.FinSquareIdeal.τ).loc Cert.FinSquareIdeal.main_arg2)
          ∧ r.2.mem ((c.tc : Thread Cert.FinSquareIdeal.nD Cert.FinSquareIdeal.τ).loc Cert.FinSquareIdeal.main_arg3) = m ((c.tc : Thread Cert.FinSquareIdeal.nD Cert.FinSquareIdeal.τ).loc Cert.FinSquareIdeal.main_arg3)
          ∧ r.2.mem ((c.tc : Thread Cert.FinSquareIdeal.nD Cert.FinSquareIdeal.τ).loc Cert.FinSquareIdeal.main_arg4) = m ((c.tc : Thread Cert.FinSquareIdeal.nD Cert.FinSquareIdeal.τ).loc Cert.FinSquareIdeal.main_arg4)
          ∧ r.2.mem ((c.tc : Thread Cert.FinSquareIdeal.nD Cert.FinSquareIdeal.τ).loc Cert.FinSquareIdeal.main_arg5) = m ((c.tc : Thread Cert.FinSquareIdeal.nD Cert.FinSquareIdeal.τ).loc Cert.FinSquareIdeal.main_arg5))
      ∧ θ_run (Cert.FinSquareRefIdeal.defs (F := Ideal)) (onTc (τ := Cert.FinSquareRefIdeal.τ) (Cert.FinSquareRefIdeal.main (F := Ideal))) ⟨m', fun _ => 0, g'⟩ (fun r => ∀ c : Dev Cert.FinSquareRefIdeal.nD,
          r.2.mem ((c.tc : Thread Cert.FinSquareRefIdeal.nD Cert.FinSquareRefIdeal.τ).loc Cert.FinSquareRefIdeal.main_v8) = v0 c
          ∧ r.2.mem ((c.tc : Thread Cert.FinSquareRefIdeal.nD Cert.FinSquareRefIdeal.τ).loc Cert.FinSquareRefIdeal.main_v32) = v1 c
          ∧ r.2.mem ((c.tc : Thread Cert.FinSquareRefIdeal.nD Cert.FinSquareRefIdeal.τ).loc Cert.FinSquareRefIdeal.main_v13) = v2 c
          ∧ r.2.mem ((c.tc : Thread Cert.FinSquareRefIdeal.nD Cert.FinSquareRefIdeal.τ).loc Cert.FinSquareRefIdeal.main_v19) = v3 c
          ∧ r.2.mem ((c.tc : Thread Cert.FinSquareRefIdeal.nD Cert.FinSquareRefIdeal.τ).loc Cert.FinSquareRefIdeal.main_arg0) = m' ((c.tc : Thread Cert.FinSquareRefIdeal.nD Cert.FinSquareRefIdeal.τ).loc Cert.FinSquareRefIdeal.main_arg0)
          ∧ r.2.mem ((c.tc : Thread Cert.FinSquareRefIdeal.nD Cert.FinSquareRefIdeal.τ).loc Cert.FinSquareRefIdeal.main_arg1) = m' ((c.tc : Thread Cert.FinSquareRefIdeal.nD Cert.FinSquareRefIdeal.τ).loc Cert.FinSquareRefIdeal.main_arg1)
          ∧ r.2.mem ((c.tc : Thread Cert.FinSquareRefIdeal.nD Cert.FinSquareRefIdeal.τ).loc Cert.FinSquareRefIdeal.main_arg2) = m' ((c.tc : Thread Cert.FinSquareRefIdeal.nD Cert.FinSquareRefIdeal.τ).loc Cert.FinSquareRefIdeal.main_arg2)
          ∧ r.2.mem ((c.tc : Thread Cert.FinSquareRefIdeal.nD Cert.FinSquareRefIdeal.τ).loc Cert.FinSquareRefIdeal.main_arg3) = m' ((c.tc : Thread Cert.FinSquareRefIdeal.nD Cert.FinSquareRefIdeal.τ).loc Cert.FinSquareRefIdeal.main_arg3)
          ∧ r.2.mem ((c.tc : Thread Cert.FinSquareRefIdeal.nD Cert.FinSquareRefIdeal.τ).loc Cert.FinSquareRefIdeal.main_arg4) = m' ((c.tc : Thread Cert.FinSquareRefIdeal.nD Cert.FinSquareRefIdeal.τ).loc Cert.FinSquareRefIdeal.main_arg4)
          ∧ r.2.mem ((c.tc : Thread Cert.FinSquareRefIdeal.nD Cert.FinSquareRefIdeal.τ).loc Cert.FinSquareRefIdeal.main_arg5) = m' ((c.tc : Thread Cert.FinSquareRefIdeal.nD Cert.FinSquareRefIdeal.τ).loc Cert.FinSquareRefIdeal.main_arg5))

def preserves_FinFfn_FinFfnIdeal : Prop :=
  True

def algebraic_FinFfnIdeal_FinFfnRefIdeal [hFinFfnIdeal : Cert.FinFfnIdeal.Facts] [hFinFfnRefIdeal : Cert.FinFfnRefIdeal.Facts] [hPre_chip_ffn : Cert.Pre_chip_ffn.Facts] : Prop :=
  ∀ (m : (ℓ : Loc Cert.FinFfnIdeal.nD Cert.FinFfnIdeal.τ Cert.FinFfnIdeal.sig) → Buf (Elt Ideal) ℓ) (g : Dev Cert.FinFfnIdeal.nD → PrngReg)
    (m' : (ℓ : Loc Cert.FinFfnRefIdeal.nD Cert.FinFfnRefIdeal.τ Cert.FinFfnRefIdeal.sig) → Buf (Elt Ideal) ℓ) (g' : Dev Cert.FinFfnRefIdeal.nD → PrngReg), Pre_FinFfnIdeal m →
    (∀ c : Dev Cert.FinFfnIdeal.nD,
      m' ((c.tc : Thread Cert.FinFfnRefIdeal.nD Cert.FinFfnRefIdeal.τ).loc Cert.FinFfnRefIdeal.main_arg0) = m ((c.tc : Thread Cert.FinFfnIdeal.nD Cert.FinFfnIdeal.τ).loc Cert.FinFfnIdeal.main_arg0)
      ∧ m' ((c.tc : Thread Cert.FinFfnRefIdeal.nD Cert.FinFfnRefIdeal.τ).loc Cert.FinFfnRefIdeal.main_arg1) = m ((c.tc : Thread Cert.FinFfnIdeal.nD Cert.FinFfnIdeal.τ).loc Cert.FinFfnIdeal.main_arg1)
      ∧ m' ((c.tc : Thread Cert.FinFfnRefIdeal.nD Cert.FinFfnRefIdeal.τ).loc Cert.FinFfnRefIdeal.main_arg2) = m ((c.tc : Thread Cert.FinFfnIdeal.nD Cert.FinFfnIdeal.τ).loc Cert.FinFfnIdeal.main_arg2)
      ∧ m' ((c.tc : Thread Cert.FinFfnRefIdeal.nD Cert.FinFfnRefIdeal.τ).loc Cert.FinFfnRefIdeal.main_arg3) = m ((c.tc : Thread Cert.FinFfnIdeal.nD Cert.FinFfnIdeal.τ).loc Cert.FinFfnIdeal.main_arg3)
      ∧ m' ((c.tc : Thread Cert.FinFfnRefIdeal.nD Cert.FinFfnRefIdeal.τ).loc Cert.FinFfnRefIdeal.main_arg4) = m ((c.tc : Thread Cert.FinFfnIdeal.nD Cert.FinFfnIdeal.τ).loc Cert.FinFfnIdeal.main_arg4)
      ∧ m' ((c.tc : Thread Cert.FinFfnRefIdeal.nD Cert.FinFfnRefIdeal.τ).loc Cert.FinFfnRefIdeal.main_arg5) = m ((c.tc : Thread Cert.FinFfnIdeal.nD Cert.FinFfnIdeal.τ).loc Cert.FinFfnIdeal.main_arg5)) →
    ∃ (v0 : (c : Dev Cert.FinFfnIdeal.nD) → Buf (Elt Ideal) ((c.tc : Thread Cert.FinFfnIdeal.nD Cert.FinFfnIdeal.τ).loc Cert.FinFfnIdeal.main_v0_0)) (v1 : (c : Dev Cert.FinFfnIdeal.nD) → Buf (Elt Ideal) ((c.tc : Thread Cert.FinFfnIdeal.nD Cert.FinFfnIdeal.τ).loc Cert.FinFfnIdeal.main_v0_1)) (v2 : (c : Dev Cert.FinFfnIdeal.nD) → Buf (Elt Ideal) ((c.tc : Thread Cert.FinFfnIdeal.nD Cert.FinFfnIdeal.τ).loc Cert.FinFfnIdeal.main_v0_2)) (v3 : (c : Dev Cert.FinFfnIdeal.nD) → Buf (Elt Ideal) ((c.tc : Thread Cert.FinFfnIdeal.nD Cert.FinFfnIdeal.τ).loc Cert.FinFfnIdeal.main_v0_3)),
      θ_run (Cert.FinFfnIdeal.defs (F := Ideal)) (onTc (τ := Cert.FinFfnIdeal.τ) (Cert.FinFfnIdeal.main (F := Ideal))) ⟨m, fun _ => 0, g⟩ (fun r => ∀ c : Dev Cert.FinFfnIdeal.nD,
          r.2.mem ((c.tc : Thread Cert.FinFfnIdeal.nD Cert.FinFfnIdeal.τ).loc Cert.FinFfnIdeal.main_v0_0) = v0 c
          ∧ r.2.mem ((c.tc : Thread Cert.FinFfnIdeal.nD Cert.FinFfnIdeal.τ).loc Cert.FinFfnIdeal.main_v0_1) = v1 c
          ∧ r.2.mem ((c.tc : Thread Cert.FinFfnIdeal.nD Cert.FinFfnIdeal.τ).loc Cert.FinFfnIdeal.main_v0_2) = v2 c
          ∧ r.2.mem ((c.tc : Thread Cert.FinFfnIdeal.nD Cert.FinFfnIdeal.τ).loc Cert.FinFfnIdeal.main_v0_3) = v3 c
          ∧ r.2.mem ((c.tc : Thread Cert.FinFfnIdeal.nD Cert.FinFfnIdeal.τ).loc Cert.FinFfnIdeal.main_arg0) = m ((c.tc : Thread Cert.FinFfnIdeal.nD Cert.FinFfnIdeal.τ).loc Cert.FinFfnIdeal.main_arg0)
          ∧ r.2.mem ((c.tc : Thread Cert.FinFfnIdeal.nD Cert.FinFfnIdeal.τ).loc Cert.FinFfnIdeal.main_arg1) = m ((c.tc : Thread Cert.FinFfnIdeal.nD Cert.FinFfnIdeal.τ).loc Cert.FinFfnIdeal.main_arg1)
          ∧ r.2.mem ((c.tc : Thread Cert.FinFfnIdeal.nD Cert.FinFfnIdeal.τ).loc Cert.FinFfnIdeal.main_arg2) = m ((c.tc : Thread Cert.FinFfnIdeal.nD Cert.FinFfnIdeal.τ).loc Cert.FinFfnIdeal.main_arg2)
          ∧ r.2.mem ((c.tc : Thread Cert.FinFfnIdeal.nD Cert.FinFfnIdeal.τ).loc Cert.FinFfnIdeal.main_arg3) = m ((c.tc : Thread Cert.FinFfnIdeal.nD Cert.FinFfnIdeal.τ).loc Cert.FinFfnIdeal.main_arg3)
          ∧ r.2.mem ((c.tc : Thread Cert.FinFfnIdeal.nD Cert.FinFfnIdeal.τ).loc Cert.FinFfnIdeal.main_arg4) = m ((c.tc : Thread Cert.FinFfnIdeal.nD Cert.FinFfnIdeal.τ).loc Cert.FinFfnIdeal.main_arg4)
          ∧ r.2.mem ((c.tc : Thread Cert.FinFfnIdeal.nD Cert.FinFfnIdeal.τ).loc Cert.FinFfnIdeal.main_arg5) = m ((c.tc : Thread Cert.FinFfnIdeal.nD Cert.FinFfnIdeal.τ).loc Cert.FinFfnIdeal.main_arg5))
      ∧ θ_run (Cert.FinFfnRefIdeal.defs (F := Ideal)) (onTc (τ := Cert.FinFfnRefIdeal.τ) (Cert.FinFfnRefIdeal.main (F := Ideal))) ⟨m', fun _ => 0, g'⟩ (fun r => ∀ c : Dev Cert.FinFfnRefIdeal.nD,
          r.2.mem ((c.tc : Thread Cert.FinFfnRefIdeal.nD Cert.FinFfnRefIdeal.τ).loc Cert.FinFfnRefIdeal.main_v8) = v0 c
          ∧ r.2.mem ((c.tc : Thread Cert.FinFfnRefIdeal.nD Cert.FinFfnRefIdeal.τ).loc Cert.FinFfnRefIdeal.main_v32) = v1 c
          ∧ r.2.mem ((c.tc : Thread Cert.FinFfnRefIdeal.nD Cert.FinFfnRefIdeal.τ).loc Cert.FinFfnRefIdeal.main_v13) = v2 c
          ∧ r.2.mem ((c.tc : Thread Cert.FinFfnRefIdeal.nD Cert.FinFfnRefIdeal.τ).loc Cert.FinFfnRefIdeal.main_v19) = v3 c
          ∧ r.2.mem ((c.tc : Thread Cert.FinFfnRefIdeal.nD Cert.FinFfnRefIdeal.τ).loc Cert.FinFfnRefIdeal.main_arg0) = m' ((c.tc : Thread Cert.FinFfnRefIdeal.nD Cert.FinFfnRefIdeal.τ).loc Cert.FinFfnRefIdeal.main_arg0)
          ∧ r.2.mem ((c.tc : Thread Cert.FinFfnRefIdeal.nD Cert.FinFfnRefIdeal.τ).loc Cert.FinFfnRefIdeal.main_arg1) = m' ((c.tc : Thread Cert.FinFfnRefIdeal.nD Cert.FinFfnRefIdeal.τ).loc Cert.FinFfnRefIdeal.main_arg1)
          ∧ r.2.mem ((c.tc : Thread Cert.FinFfnRefIdeal.nD Cert.FinFfnRefIdeal.τ).loc Cert.FinFfnRefIdeal.main_arg2) = m' ((c.tc : Thread Cert.FinFfnRefIdeal.nD Cert.FinFfnRefIdeal.τ).loc Cert.FinFfnRefIdeal.main_arg2)
          ∧ r.2.mem ((c.tc : Thread Cert.FinFfnRefIdeal.nD Cert.FinFfnRefIdeal.τ).loc Cert.FinFfnRefIdeal.main_arg3) = m' ((c.tc : Thread Cert.FinFfnRefIdeal.nD Cert.FinFfnRefIdeal.τ).loc Cert.FinFfnRefIdeal.main_arg3)
          ∧ r.2.mem ((c.tc : Thread Cert.FinFfnRefIdeal.nD Cert.FinFfnRefIdeal.τ).loc Cert.FinFfnRefIdeal.main_arg4) = m' ((c.tc : Thread Cert.FinFfnRefIdeal.nD Cert.FinFfnRefIdeal.τ).loc Cert.FinFfnRefIdeal.main_arg4)
          ∧ r.2.mem ((c.tc : Thread Cert.FinFfnRefIdeal.nD Cert.FinFfnRefIdeal.τ).loc Cert.FinFfnRefIdeal.main_arg5) = m' ((c.tc : Thread Cert.FinFfnRefIdeal.nD Cert.FinFfnRefIdeal.τ).loc Cert.FinFfnRefIdeal.main_arg5))

def preserves_FinPool_FinPoolIdeal : Prop :=
  True

def algebraic_FinPoolIdeal_FinPoolRefIdeal [hFinPoolIdeal : Cert.FinPoolIdeal.Facts] [hFinPoolRefIdeal : Cert.FinPoolRefIdeal.Facts] [hPre_chip_pool : Cert.Pre_chip_pool.Facts] : Prop :=
  ∀ (m : (ℓ : Loc Cert.FinPoolIdeal.nD Cert.FinPoolIdeal.τ Cert.FinPoolIdeal.sig) → Buf (Elt Ideal) ℓ) (g : Dev Cert.FinPoolIdeal.nD → PrngReg)
    (m' : (ℓ : Loc Cert.FinPoolRefIdeal.nD Cert.FinPoolRefIdeal.τ Cert.FinPoolRefIdeal.sig) → Buf (Elt Ideal) ℓ) (g' : Dev Cert.FinPoolRefIdeal.nD → PrngReg), Pre_FinPoolIdeal m →
    (∀ c : Dev Cert.FinPoolIdeal.nD,
      m' ((c.tc : Thread Cert.FinPoolRefIdeal.nD Cert.FinPoolRefIdeal.τ).loc Cert.FinPoolRefIdeal.main_arg0) = m ((c.tc : Thread Cert.FinPoolIdeal.nD Cert.FinPoolIdeal.τ).loc Cert.FinPoolIdeal.main_arg0)
      ∧ m' ((c.tc : Thread Cert.FinPoolRefIdeal.nD Cert.FinPoolRefIdeal.τ).loc Cert.FinPoolRefIdeal.main_arg1) = m ((c.tc : Thread Cert.FinPoolIdeal.nD Cert.FinPoolIdeal.τ).loc Cert.FinPoolIdeal.main_arg1)
      ∧ m' ((c.tc : Thread Cert.FinPoolRefIdeal.nD Cert.FinPoolRefIdeal.τ).loc Cert.FinPoolRefIdeal.main_arg2) = m ((c.tc : Thread Cert.FinPoolIdeal.nD Cert.FinPoolIdeal.τ).loc Cert.FinPoolIdeal.main_arg2)
      ∧ m' ((c.tc : Thread Cert.FinPoolRefIdeal.nD Cert.FinPoolRefIdeal.τ).loc Cert.FinPoolRefIdeal.main_arg3) = m ((c.tc : Thread Cert.FinPoolIdeal.nD Cert.FinPoolIdeal.τ).loc Cert.FinPoolIdeal.main_arg3)
      ∧ m' ((c.tc : Thread Cert.FinPoolRefIdeal.nD Cert.FinPoolRefIdeal.τ).loc Cert.FinPoolRefIdeal.main_arg4) = m ((c.tc : Thread Cert.FinPoolIdeal.nD Cert.FinPoolIdeal.τ).loc Cert.FinPoolIdeal.main_arg4)
      ∧ m' ((c.tc : Thread Cert.FinPoolRefIdeal.nD Cert.FinPoolRefIdeal.τ).loc Cert.FinPoolRefIdeal.main_arg5) = m ((c.tc : Thread Cert.FinPoolIdeal.nD Cert.FinPoolIdeal.τ).loc Cert.FinPoolIdeal.main_arg5)) →
    ∃ (v0 : (c : Dev Cert.FinPoolIdeal.nD) → Buf (Elt Ideal) ((c.tc : Thread Cert.FinPoolIdeal.nD Cert.FinPoolIdeal.τ).loc Cert.FinPoolIdeal.main_v0_0)) (v1 : (c : Dev Cert.FinPoolIdeal.nD) → Buf (Elt Ideal) ((c.tc : Thread Cert.FinPoolIdeal.nD Cert.FinPoolIdeal.τ).loc Cert.FinPoolIdeal.main_v0_1)) (v2 : (c : Dev Cert.FinPoolIdeal.nD) → Buf (Elt Ideal) ((c.tc : Thread Cert.FinPoolIdeal.nD Cert.FinPoolIdeal.τ).loc Cert.FinPoolIdeal.main_v0_2)) (v3 : (c : Dev Cert.FinPoolIdeal.nD) → Buf (Elt Ideal) ((c.tc : Thread Cert.FinPoolIdeal.nD Cert.FinPoolIdeal.τ).loc Cert.FinPoolIdeal.main_v0_3)),
      θ_run (Cert.FinPoolIdeal.defs (F := Ideal)) (onTc (τ := Cert.FinPoolIdeal.τ) (Cert.FinPoolIdeal.main (F := Ideal))) ⟨m, fun _ => 0, g⟩ (fun r => ∀ c : Dev Cert.FinPoolIdeal.nD,
          r.2.mem ((c.tc : Thread Cert.FinPoolIdeal.nD Cert.FinPoolIdeal.τ).loc Cert.FinPoolIdeal.main_v0_0) = v0 c
          ∧ r.2.mem ((c.tc : Thread Cert.FinPoolIdeal.nD Cert.FinPoolIdeal.τ).loc Cert.FinPoolIdeal.main_v0_1) = v1 c
          ∧ r.2.mem ((c.tc : Thread Cert.FinPoolIdeal.nD Cert.FinPoolIdeal.τ).loc Cert.FinPoolIdeal.main_v0_2) = v2 c
          ∧ r.2.mem ((c.tc : Thread Cert.FinPoolIdeal.nD Cert.FinPoolIdeal.τ).loc Cert.FinPoolIdeal.main_v0_3) = v3 c
          ∧ r.2.mem ((c.tc : Thread Cert.FinPoolIdeal.nD Cert.FinPoolIdeal.τ).loc Cert.FinPoolIdeal.main_arg0) = m ((c.tc : Thread Cert.FinPoolIdeal.nD Cert.FinPoolIdeal.τ).loc Cert.FinPoolIdeal.main_arg0)
          ∧ r.2.mem ((c.tc : Thread Cert.FinPoolIdeal.nD Cert.FinPoolIdeal.τ).loc Cert.FinPoolIdeal.main_arg1) = m ((c.tc : Thread Cert.FinPoolIdeal.nD Cert.FinPoolIdeal.τ).loc Cert.FinPoolIdeal.main_arg1)
          ∧ r.2.mem ((c.tc : Thread Cert.FinPoolIdeal.nD Cert.FinPoolIdeal.τ).loc Cert.FinPoolIdeal.main_arg2) = m ((c.tc : Thread Cert.FinPoolIdeal.nD Cert.FinPoolIdeal.τ).loc Cert.FinPoolIdeal.main_arg2)
          ∧ r.2.mem ((c.tc : Thread Cert.FinPoolIdeal.nD Cert.FinPoolIdeal.τ).loc Cert.FinPoolIdeal.main_arg3) = m ((c.tc : Thread Cert.FinPoolIdeal.nD Cert.FinPoolIdeal.τ).loc Cert.FinPoolIdeal.main_arg3)
          ∧ r.2.mem ((c.tc : Thread Cert.FinPoolIdeal.nD Cert.FinPoolIdeal.τ).loc Cert.FinPoolIdeal.main_arg4) = m ((c.tc : Thread Cert.FinPoolIdeal.nD Cert.FinPoolIdeal.τ).loc Cert.FinPoolIdeal.main_arg4)
          ∧ r.2.mem ((c.tc : Thread Cert.FinPoolIdeal.nD Cert.FinPoolIdeal.τ).loc Cert.FinPoolIdeal.main_arg5) = m ((c.tc : Thread Cert.FinPoolIdeal.nD Cert.FinPoolIdeal.τ).loc Cert.FinPoolIdeal.main_arg5))
      ∧ θ_run (Cert.FinPoolRefIdeal.defs (F := Ideal)) (onTc (τ := Cert.FinPoolRefIdeal.τ) (Cert.FinPoolRefIdeal.main (F := Ideal))) ⟨m', fun _ => 0, g'⟩ (fun r => ∀ c : Dev Cert.FinPoolRefIdeal.nD,
          r.2.mem ((c.tc : Thread Cert.FinPoolRefIdeal.nD Cert.FinPoolRefIdeal.τ).loc Cert.FinPoolRefIdeal.main_v8) = v0 c
          ∧ r.2.mem ((c.tc : Thread Cert.FinPoolRefIdeal.nD Cert.FinPoolRefIdeal.τ).loc Cert.FinPoolRefIdeal.main_v32) = v1 c
          ∧ r.2.mem ((c.tc : Thread Cert.FinPoolRefIdeal.nD Cert.FinPoolRefIdeal.τ).loc Cert.FinPoolRefIdeal.main_v13) = v2 c
          ∧ r.2.mem ((c.tc : Thread Cert.FinPoolRefIdeal.nD Cert.FinPoolRefIdeal.τ).loc Cert.FinPoolRefIdeal.main_v19) = v3 c
          ∧ r.2.mem ((c.tc : Thread Cert.FinPoolRefIdeal.nD Cert.FinPoolRefIdeal.τ).loc Cert.FinPoolRefIdeal.main_arg0) = m' ((c.tc : Thread Cert.FinPoolRefIdeal.nD Cert.FinPoolRefIdeal.τ).loc Cert.FinPoolRefIdeal.main_arg0)
          ∧ r.2.mem ((c.tc : Thread Cert.FinPoolRefIdeal.nD Cert.FinPoolRefIdeal.τ).loc Cert.FinPoolRefIdeal.main_arg1) = m' ((c.tc : Thread Cert.FinPoolRefIdeal.nD Cert.FinPoolRefIdeal.τ).loc Cert.FinPoolRefIdeal.main_arg1)
          ∧ r.2.mem ((c.tc : Thread Cert.FinPoolRefIdeal.nD Cert.FinPoolRefIdeal.τ).loc Cert.FinPoolRefIdeal.main_arg2) = m' ((c.tc : Thread Cert.FinPoolRefIdeal.nD Cert.FinPoolRefIdeal.τ).loc Cert.FinPoolRefIdeal.main_arg2)
          ∧ r.2.mem ((c.tc : Thread Cert.FinPoolRefIdeal.nD Cert.FinPoolRefIdeal.τ).loc Cert.FinPoolRefIdeal.main_arg3) = m' ((c.tc : Thread Cert.FinPoolRefIdeal.nD Cert.FinPoolRefIdeal.τ).loc Cert.FinPoolRefIdeal.main_arg3)
          ∧ r.2.mem ((c.tc : Thread Cert.FinPoolRefIdeal.nD Cert.FinPoolRefIdeal.τ).loc Cert.FinPoolRefIdeal.main_arg4) = m' ((c.tc : Thread Cert.FinPoolRefIdeal.nD Cert.FinPoolRefIdeal.τ).loc Cert.FinPoolRefIdeal.main_arg4)
          ∧ r.2.mem ((c.tc : Thread Cert.FinPoolRefIdeal.nD Cert.FinPoolRefIdeal.τ).loc Cert.FinPoolRefIdeal.main_arg5) = m' ((c.tc : Thread Cert.FinPoolRefIdeal.nD Cert.FinPoolRefIdeal.τ).loc Cert.FinPoolRefIdeal.main_arg5))

def preserves_FinIn_FinInIdeal : Prop :=
  True

def algebraic_FinInIdeal_FinInRefIdeal [hFinInIdeal : Cert.FinInIdeal.Facts] [hFinInRefIdeal : Cert.FinInRefIdeal.Facts] [hPre_chip_in : Cert.Pre_chip_in.Facts] : Prop :=
  ∀ (m : (ℓ : Loc Cert.FinInIdeal.nD Cert.FinInIdeal.τ Cert.FinInIdeal.sig) → Buf (Elt Ideal) ℓ) (g : Dev Cert.FinInIdeal.nD → PrngReg)
    (m' : (ℓ : Loc Cert.FinInRefIdeal.nD Cert.FinInRefIdeal.τ Cert.FinInRefIdeal.sig) → Buf (Elt Ideal) ℓ) (g' : Dev Cert.FinInRefIdeal.nD → PrngReg), Pre_FinInIdeal m →
    (∀ c : Dev Cert.FinInIdeal.nD,
      m' ((c.tc : Thread Cert.FinInRefIdeal.nD Cert.FinInRefIdeal.τ).loc Cert.FinInRefIdeal.main_arg0) = m ((c.tc : Thread Cert.FinInIdeal.nD Cert.FinInIdeal.τ).loc Cert.FinInIdeal.main_arg0)
      ∧ m' ((c.tc : Thread Cert.FinInRefIdeal.nD Cert.FinInRefIdeal.τ).loc Cert.FinInRefIdeal.main_arg1) = m ((c.tc : Thread Cert.FinInIdeal.nD Cert.FinInIdeal.τ).loc Cert.FinInIdeal.main_arg1)
      ∧ m' ((c.tc : Thread Cert.FinInRefIdeal.nD Cert.FinInRefIdeal.τ).loc Cert.FinInRefIdeal.main_arg2) = m ((c.tc : Thread Cert.FinInIdeal.nD Cert.FinInIdeal.τ).loc Cert.FinInIdeal.main_arg2)
      ∧ m' ((c.tc : Thread Cert.FinInRefIdeal.nD Cert.FinInRefIdeal.τ).loc Cert.FinInRefIdeal.main_arg3) = m ((c.tc : Thread Cert.FinInIdeal.nD Cert.FinInIdeal.τ).loc Cert.FinInIdeal.main_arg3)
      ∧ m' ((c.tc : Thread Cert.FinInRefIdeal.nD Cert.FinInRefIdeal.τ).loc Cert.FinInRefIdeal.main_arg4) = m ((c.tc : Thread Cert.FinInIdeal.nD Cert.FinInIdeal.τ).loc Cert.FinInIdeal.main_arg4)
      ∧ m' ((c.tc : Thread Cert.FinInRefIdeal.nD Cert.FinInRefIdeal.τ).loc Cert.FinInRefIdeal.main_arg5) = m ((c.tc : Thread Cert.FinInIdeal.nD Cert.FinInIdeal.τ).loc Cert.FinInIdeal.main_arg5)) →
    ∃ (v0 : (c : Dev Cert.FinInIdeal.nD) → Buf (Elt Ideal) ((c.tc : Thread Cert.FinInIdeal.nD Cert.FinInIdeal.τ).loc Cert.FinInIdeal.main_v0_0)) (v1 : (c : Dev Cert.FinInIdeal.nD) → Buf (Elt Ideal) ((c.tc : Thread Cert.FinInIdeal.nD Cert.FinInIdeal.τ).loc Cert.FinInIdeal.main_v0_1)) (v2 : (c : Dev Cert.FinInIdeal.nD) → Buf (Elt Ideal) ((c.tc : Thread Cert.FinInIdeal.nD Cert.FinInIdeal.τ).loc Cert.FinInIdeal.main_v0_2)) (v3 : (c : Dev Cert.FinInIdeal.nD) → Buf (Elt Ideal) ((c.tc : Thread Cert.FinInIdeal.nD Cert.FinInIdeal.τ).loc Cert.FinInIdeal.main_v0_3)),
      θ_run (Cert.FinInIdeal.defs (F := Ideal)) (onTc (τ := Cert.FinInIdeal.τ) (Cert.FinInIdeal.main (F := Ideal))) ⟨m, fun _ => 0, g⟩ (fun r => ∀ c : Dev Cert.FinInIdeal.nD,
          r.2.mem ((c.tc : Thread Cert.FinInIdeal.nD Cert.FinInIdeal.τ).loc Cert.FinInIdeal.main_v0_0) = v0 c
          ∧ r.2.mem ((c.tc : Thread Cert.FinInIdeal.nD Cert.FinInIdeal.τ).loc Cert.FinInIdeal.main_v0_1) = v1 c
          ∧ r.2.mem ((c.tc : Thread Cert.FinInIdeal.nD Cert.FinInIdeal.τ).loc Cert.FinInIdeal.main_v0_2) = v2 c
          ∧ r.2.mem ((c.tc : Thread Cert.FinInIdeal.nD Cert.FinInIdeal.τ).loc Cert.FinInIdeal.main_v0_3) = v3 c
          ∧ r.2.mem ((c.tc : Thread Cert.FinInIdeal.nD Cert.FinInIdeal.τ).loc Cert.FinInIdeal.main_arg0) = m ((c.tc : Thread Cert.FinInIdeal.nD Cert.FinInIdeal.τ).loc Cert.FinInIdeal.main_arg0)
          ∧ r.2.mem ((c.tc : Thread Cert.FinInIdeal.nD Cert.FinInIdeal.τ).loc Cert.FinInIdeal.main_arg1) = m ((c.tc : Thread Cert.FinInIdeal.nD Cert.FinInIdeal.τ).loc Cert.FinInIdeal.main_arg1)
          ∧ r.2.mem ((c.tc : Thread Cert.FinInIdeal.nD Cert.FinInIdeal.τ).loc Cert.FinInIdeal.main_arg2) = m ((c.tc : Thread Cert.FinInIdeal.nD Cert.FinInIdeal.τ).loc Cert.FinInIdeal.main_arg2)
          ∧ r.2.mem ((c.tc : Thread Cert.FinInIdeal.nD Cert.FinInIdeal.τ).loc Cert.FinInIdeal.main_arg3) = m ((c.tc : Thread Cert.FinInIdeal.nD Cert.FinInIdeal.τ).loc Cert.FinInIdeal.main_arg3)
          ∧ r.2.mem ((c.tc : Thread Cert.FinInIdeal.nD Cert.FinInIdeal.τ).loc Cert.FinInIdeal.main_arg4) = m ((c.tc : Thread Cert.FinInIdeal.nD Cert.FinInIdeal.τ).loc Cert.FinInIdeal.main_arg4)
          ∧ r.2.mem ((c.tc : Thread Cert.FinInIdeal.nD Cert.FinInIdeal.τ).loc Cert.FinInIdeal.main_arg5) = m ((c.tc : Thread Cert.FinInIdeal.nD Cert.FinInIdeal.τ).loc Cert.FinInIdeal.main_arg5))
      ∧ θ_run (Cert.FinInRefIdeal.defs (F := Ideal)) (onTc (τ := Cert.FinInRefIdeal.τ) (Cert.FinInRefIdeal.main (F := Ideal))) ⟨m', fun _ => 0, g'⟩ (fun r => ∀ c : Dev Cert.FinInRefIdeal.nD,
          r.2.mem ((c.tc : Thread Cert.FinInRefIdeal.nD Cert.FinInRefIdeal.τ).loc Cert.FinInRefIdeal.main_v9) = v0 c
          ∧ r.2.mem ((c.tc : Thread Cert.FinInRefIdeal.nD Cert.FinInRefIdeal.τ).loc Cert.FinInRefIdeal.main_v33) = v1 c
          ∧ r.2.mem ((c.tc : Thread Cert.FinInRefIdeal.nD Cert.FinInRefIdeal.τ).loc Cert.FinInRefIdeal.main_v14) = v2 c
          ∧ r.2.mem ((c.tc : Thread Cert.FinInRefIdeal.nD Cert.FinInRefIdeal.τ).loc Cert.FinInRefIdeal.main_v20) = v3 c
          ∧ r.2.mem ((c.tc : Thread Cert.FinInRefIdeal.nD Cert.FinInRefIdeal.τ).loc Cert.FinInRefIdeal.main_arg0) = m' ((c.tc : Thread Cert.FinInRefIdeal.nD Cert.FinInRefIdeal.τ).loc Cert.FinInRefIdeal.main_arg0)
          ∧ r.2.mem ((c.tc : Thread Cert.FinInRefIdeal.nD Cert.FinInRefIdeal.τ).loc Cert.FinInRefIdeal.main_arg1) = m' ((c.tc : Thread Cert.FinInRefIdeal.nD Cert.FinInRefIdeal.τ).loc Cert.FinInRefIdeal.main_arg1)
          ∧ r.2.mem ((c.tc : Thread Cert.FinInRefIdeal.nD Cert.FinInRefIdeal.τ).loc Cert.FinInRefIdeal.main_arg2) = m' ((c.tc : Thread Cert.FinInRefIdeal.nD Cert.FinInRefIdeal.τ).loc Cert.FinInRefIdeal.main_arg2)
          ∧ r.2.mem ((c.tc : Thread Cert.FinInRefIdeal.nD Cert.FinInRefIdeal.τ).loc Cert.FinInRefIdeal.main_arg3) = m' ((c.tc : Thread Cert.FinInRefIdeal.nD Cert.FinInRefIdeal.τ).loc Cert.FinInRefIdeal.main_arg3)
          ∧ r.2.mem ((c.tc : Thread Cert.FinInRefIdeal.nD Cert.FinInRefIdeal.τ).loc Cert.FinInRefIdeal.main_arg4) = m' ((c.tc : Thread Cert.FinInRefIdeal.nD Cert.FinInRefIdeal.τ).loc Cert.FinInRefIdeal.main_arg4)
          ∧ r.2.mem ((c.tc : Thread Cert.FinInRefIdeal.nD Cert.FinInRefIdeal.τ).loc Cert.FinInRefIdeal.main_arg5) = m' ((c.tc : Thread Cert.FinInRefIdeal.nD Cert.FinInRefIdeal.τ).loc Cert.FinInRefIdeal.main_arg5))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hDownW : Cert.DownW.Facts) (hDownWIdeal : Cert.DownWIdeal.Facts) (hDownWRefIdeal : Cert.DownWRefIdeal.Facts) (hInW : Cert.InW.Facts) (hInWIdeal : Cert.InWIdeal.Facts) (hInWRefIdeal : Cert.InWRefIdeal.Facts) (hOutW : Cert.OutW.Facts) (hOutWIdeal : Cert.OutWIdeal.Facts) (hOutWRefIdeal : Cert.OutWRefIdeal.Facts) (hKvW : Cert.KvW.Facts) (hKvWIdeal : Cert.KvWIdeal.Facts) (hKvWRefIdeal : Cert.KvWRefIdeal.Facts) (hOIn : Cert.OIn.Facts) (hOInIdeal : Cert.OInIdeal.Facts) (hOInRefIdeal : Cert.OInRefIdeal.Facts) (hOutIn : Cert.OutIn.Facts) (hOutInIdeal : Cert.OutInIdeal.Facts) (hOutInRefIdeal : Cert.OutInRefIdeal.Facts) (hKvIn : Cert.KvIn.Facts) (hKvInIdeal : Cert.KvInIdeal.Facts) (hKvInRefIdeal : Cert.KvInRefIdeal.Facts) (hProjIn : Cert.ProjIn.Facts) (hProjInIdeal : Cert.ProjInIdeal.Facts) (hProjInRefIdeal : Cert.ProjInRefIdeal.Facts) (hProjQ : Cert.ProjQ.Facts) (hProjQIdeal : Cert.ProjQIdeal.Facts) (hProjQRefIdeal : Cert.ProjQRefIdeal.Facts) (hProjKv : Cert.ProjKv.Facts) (hProjKvIdeal : Cert.ProjKvIdeal.Facts) (hProjKvRefIdeal : Cert.ProjKvRefIdeal.Facts) (hFfnGate : Cert.FfnGate.Facts) (hFfnGateIdeal : Cert.FfnGateIdeal.Facts) (hFfnGateRefIdeal : Cert.FfnGateRefIdeal.Facts) (hFfnUp : Cert.FfnUp.Facts) (hFfnUpIdeal : Cert.FfnUpIdeal.Facts) (hFfnUpRefIdeal : Cert.FfnUpRefIdeal.Facts) (hAttnFwd : Cert.AttnFwd.Facts) (hAttnFwdIdeal : Cert.AttnFwdIdeal.Facts) (hAttnFwdRefIdeal : Cert.AttnFwdRefIdeal.Facts) (hMixer : Cert.Mixer.Facts) (hMixerIdeal : Cert.MixerIdeal.Facts) (hMixerRefIdeal : Cert.MixerRefIdeal.Facts) (hOutFwd : Cert.OutFwd.Facts) (hOutFwdIdeal : Cert.OutFwdIdeal.Facts) (hOutFwdRefIdeal : Cert.OutFwdRefIdeal.Facts) (hMixNorm : Cert.MixNorm.Facts) (hMixNormIdeal : Cert.MixNormIdeal.Facts) (hMixNormRefIdeal : Cert.MixNormRefIdeal.Facts) (hMemNorm : Cert.MemNorm.Facts) (hMemNormIdeal : Cert.MemNormIdeal.Facts) (hMemNormRefIdeal : Cert.MemNormRefIdeal.Facts) (hMemG : Cert.MemG.Facts) (hMemGIdeal : Cert.MemGIdeal.Facts) (hMemGRefIdeal : Cert.MemGRefIdeal.Facts) (hFfnG : Cert.FfnG.Facts) (hFfnGIdeal : Cert.FfnGIdeal.Facts) (hFfnGRefIdeal : Cert.FfnGRefIdeal.Facts) (hQIn : Cert.QIn.Facts) (hQInIdeal : Cert.QInIdeal.Facts) (hQInRefIdeal : Cert.QInRefIdeal.Facts) (hMixIn : Cert.MixIn.Facts) (hMixInIdeal : Cert.MixInIdeal.Facts) (hMixInRefIdeal : Cert.MixInRefIdeal.Facts) (hDown : Cert.Down.Facts) (hDownIdeal : Cert.DownIdeal.Facts) (hDownRefIdeal : Cert.DownRefIdeal.Facts) (hSumEarly : Cert.SumEarly.Facts) (hSumEarlyIdeal : Cert.SumEarlyIdeal.Facts) (hSumEarlyRefIdeal : Cert.SumEarlyRefIdeal.Facts) (hSumLate : Cert.SumLate.Facts) (hSumLateIdeal : Cert.SumLateIdeal.Facts) (hSumLateRefIdeal : Cert.SumLateRefIdeal.Facts) (hSmallAdamw : Cert.SmallAdamw.Facts) (hSmallAdamwIdeal : Cert.SmallAdamwIdeal.Facts) (hSmallAdamwRefIdeal : Cert.SmallAdamwRefIdeal.Facts) (hFinSquare : Cert.FinSquare.Facts) (hFinSquareIdeal : Cert.FinSquareIdeal.Facts) (hFinSquareRefIdeal : Cert.FinSquareRefIdeal.Facts) (hFinFfn : Cert.FinFfn.Facts) (hFinFfnIdeal : Cert.FinFfnIdeal.Facts) (hFinFfnRefIdeal : Cert.FinFfnRefIdeal.Facts) (hFinPool : Cert.FinPool.Facts) (hFinPoolIdeal : Cert.FinPoolIdeal.Facts) (hFinPoolRefIdeal : Cert.FinPoolRefIdeal.Facts) (hFinIn : Cert.FinIn.Facts) (hFinInIdeal : Cert.FinInIdeal.Facts) (hFinInRefIdeal : Cert.FinInRefIdeal.Facts) (hPre_finite : Cert.Pre_finite.Facts) (hPre_gate_finite : Cert.Pre_gate_finite.Facts) (hPre_mixer_finite : Cert.Pre_mixer_finite.Facts) (hPre_chip_square : Cert.Pre_chip_square.Facts) (hPre_chip_ffn : Cert.Pre_chip_ffn.Facts) (hPre_chip_pool : Cert.Pre_chip_pool.Facts) (hPre_chip_in : Cert.Pre_chip_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Up (hUp := hUp)
    ∧ quiescent_UpIdeal (hUpIdeal := hUpIdeal)
    ∧ quiescent_UpRefIdeal (hUpRefIdeal := hUpRefIdeal)
    ∧ quiescent_DownW (hDownW := hDownW)
    ∧ quiescent_DownWIdeal (hDownWIdeal := hDownWIdeal)
    ∧ quiescent_DownWRefIdeal (hDownWRefIdeal := hDownWRefIdeal)
    ∧ quiescent_InW (hInW := hInW)
    ∧ quiescent_InWIdeal (hInWIdeal := hInWIdeal)
    ∧ quiescent_InWRefIdeal (hInWRefIdeal := hInWRefIdeal)
    ∧ quiescent_OutW (hOutW := hOutW)
    ∧ quiescent_OutWIdeal (hOutWIdeal := hOutWIdeal)
    ∧ quiescent_OutWRefIdeal (hOutWRefIdeal := hOutWRefIdeal)
    ∧ quiescent_KvW (hKvW := hKvW)
    ∧ quiescent_KvWIdeal (hKvWIdeal := hKvWIdeal)
    ∧ quiescent_KvWRefIdeal (hKvWRefIdeal := hKvWRefIdeal)
    ∧ quiescent_OIn (hOIn := hOIn)
    ∧ quiescent_OInIdeal (hOInIdeal := hOInIdeal)
    ∧ quiescent_OInRefIdeal (hOInRefIdeal := hOInRefIdeal)
    ∧ quiescent_OutIn (hOutIn := hOutIn)
    ∧ quiescent_OutInIdeal (hOutInIdeal := hOutInIdeal)
    ∧ quiescent_OutInRefIdeal (hOutInRefIdeal := hOutInRefIdeal)
    ∧ quiescent_KvIn (hKvIn := hKvIn)
    ∧ quiescent_KvInIdeal (hKvInIdeal := hKvInIdeal)
    ∧ quiescent_KvInRefIdeal (hKvInRefIdeal := hKvInRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemG (hMemG := hMemG)
    ∧ quiescent_MemGIdeal (hMemGIdeal := hMemGIdeal)
    ∧ quiescent_MemGRefIdeal (hMemGRefIdeal := hMemGRefIdeal)
    ∧ quiescent_FfnG (hFfnG := hFfnG)
    ∧ quiescent_FfnGIdeal (hFfnGIdeal := hFfnGIdeal)
    ∧ quiescent_FfnGRefIdeal (hFfnGRefIdeal := hFfnGRefIdeal)
    ∧ quiescent_QIn (hQIn := hQIn)
    ∧ quiescent_QInIdeal (hQInIdeal := hQInIdeal)
    ∧ quiescent_QInRefIdeal (hQInRefIdeal := hQInRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Down (hDown := hDown)
    ∧ quiescent_DownIdeal (hDownIdeal := hDownIdeal)
    ∧ quiescent_DownRefIdeal (hDownRefIdeal := hDownRefIdeal)
    ∧ quiescent_SumEarly (hSumEarly := hSumEarly)
    ∧ quiescent_SumEarlyIdeal (hSumEarlyIdeal := hSumEarlyIdeal)
    ∧ quiescent_SumEarlyRefIdeal (hSumEarlyRefIdeal := hSumEarlyRefIdeal)
    ∧ quiescent_SumLate (hSumLate := hSumLate)
    ∧ quiescent_SumLateIdeal (hSumLateIdeal := hSumLateIdeal)
    ∧ quiescent_SumLateRefIdeal (hSumLateRefIdeal := hSumLateRefIdeal)
    ∧ quiescent_SmallAdamw (hSmallAdamw := hSmallAdamw)
    ∧ quiescent_SmallAdamwIdeal (hSmallAdamwIdeal := hSmallAdamwIdeal)
    ∧ quiescent_SmallAdamwRefIdeal (hSmallAdamwRefIdeal := hSmallAdamwRefIdeal)
    ∧ quiescent_FinSquare (hFinSquare := hFinSquare) (hPre_chip_square := hPre_chip_square)
    ∧ quiescent_FinSquareIdeal (hFinSquareIdeal := hFinSquareIdeal) (hPre_chip_square := hPre_chip_square)
    ∧ quiescent_FinSquareRefIdeal (hFinSquareRefIdeal := hFinSquareRefIdeal)
    ∧ quiescent_FinSquareRefIdeal_pre_chip_square (hFinSquareRefIdeal := hFinSquareRefIdeal) (hPre_chip_square := hPre_chip_square)
    ∧ quiescent_FinFfn (hFinFfn := hFinFfn) (hPre_chip_ffn := hPre_chip_ffn)
    ∧ quiescent_FinFfnIdeal (hFinFfnIdeal := hFinFfnIdeal) (hPre_chip_ffn := hPre_chip_ffn)
    ∧ quiescent_FinFfnRefIdeal (hFinFfnRefIdeal := hFinFfnRefIdeal)
    ∧ quiescent_FinFfnRefIdeal_pre_chip_ffn (hFinFfnRefIdeal := hFinFfnRefIdeal) (hPre_chip_ffn := hPre_chip_ffn)
    ∧ quiescent_FinPool (hFinPool := hFinPool) (hPre_chip_pool := hPre_chip_pool)
    ∧ quiescent_FinPoolIdeal (hFinPoolIdeal := hFinPoolIdeal) (hPre_chip_pool := hPre_chip_pool)
    ∧ quiescent_FinPoolRefIdeal (hFinPoolRefIdeal := hFinPoolRefIdeal)
    ∧ quiescent_FinPoolRefIdeal_pre_chip_pool (hFinPoolRefIdeal := hFinPoolRefIdeal) (hPre_chip_pool := hPre_chip_pool)
    ∧ quiescent_FinIn (hFinIn := hFinIn) (hPre_chip_in := hPre_chip_in)
    ∧ quiescent_FinInIdeal (hFinInIdeal := hFinInIdeal) (hPre_chip_in := hPre_chip_in)
    ∧ quiescent_FinInRefIdeal (hFinInRefIdeal := hFinInRefIdeal)
    ∧ quiescent_FinInRefIdeal_pre_chip_in (hFinInRefIdeal := hFinInRefIdeal) (hPre_chip_in := hPre_chip_in)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Up_UpIdeal
    ∧ algebraic_UpIdeal_UpRefIdeal (hUpIdeal := hUpIdeal) (hUpRefIdeal := hUpRefIdeal)
    ∧ preserves_DownW_DownWIdeal
    ∧ algebraic_DownWIdeal_DownWRefIdeal (hDownWIdeal := hDownWIdeal) (hDownWRefIdeal := hDownWRefIdeal)
    ∧ preserves_InW_InWIdeal
    ∧ algebraic_InWIdeal_InWRefIdeal (hInWIdeal := hInWIdeal) (hInWRefIdeal := hInWRefIdeal)
    ∧ preserves_OutW_OutWIdeal
    ∧ algebraic_OutWIdeal_OutWRefIdeal (hOutWIdeal := hOutWIdeal) (hOutWRefIdeal := hOutWRefIdeal)
    ∧ preserves_KvW_KvWIdeal
    ∧ algebraic_KvWIdeal_KvWRefIdeal (hKvWIdeal := hKvWIdeal) (hKvWRefIdeal := hKvWRefIdeal)
    ∧ preserves_OIn_OInIdeal
    ∧ algebraic_OInIdeal_OInRefIdeal (hOInIdeal := hOInIdeal) (hOInRefIdeal := hOInRefIdeal)
    ∧ preserves_OutIn_OutInIdeal
    ∧ algebraic_OutInIdeal_OutInRefIdeal (hOutInIdeal := hOutInIdeal) (hOutInRefIdeal := hOutInRefIdeal)
    ∧ preserves_KvIn_KvInIdeal
    ∧ algebraic_KvInIdeal_KvInRefIdeal (hKvInIdeal := hKvInIdeal) (hKvInRefIdeal := hKvInRefIdeal)
    ∧ preserves_ProjIn_ProjInIdeal
    ∧ algebraic_ProjInIdeal_ProjInRefIdeal (hProjInIdeal := hProjInIdeal) (hProjInRefIdeal := hProjInRefIdeal)
    ∧ preserves_ProjQ_ProjQIdeal
    ∧ algebraic_ProjQIdeal_ProjQRefIdeal (hProjQIdeal := hProjQIdeal) (hProjQRefIdeal := hProjQRefIdeal)
    ∧ preserves_ProjKv_ProjKvIdeal
    ∧ algebraic_ProjKvIdeal_ProjKvRefIdeal (hProjKvIdeal := hProjKvIdeal) (hProjKvRefIdeal := hProjKvRefIdeal)
    ∧ preserves_FfnGate_FfnGateIdeal
    ∧ algebraic_FfnGateIdeal_FfnGateRefIdeal (hFfnGateIdeal := hFfnGateIdeal) (hFfnGateRefIdeal := hFfnGateRefIdeal)
    ∧ preserves_FfnUp_FfnUpIdeal
    ∧ algebraic_FfnUpIdeal_FfnUpRefIdeal (hFfnUpIdeal := hFfnUpIdeal) (hFfnUpRefIdeal := hFfnUpRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_OutFwd_OutFwdIdeal
    ∧ algebraic_OutFwdIdeal_OutFwdRefIdeal (hOutFwdIdeal := hOutFwdIdeal) (hOutFwdRefIdeal := hOutFwdRefIdeal)
    ∧ preserves_MixNorm_MixNormIdeal
    ∧ algebraic_MixNormIdeal_MixNormRefIdeal (hMixNormIdeal := hMixNormIdeal) (hMixNormRefIdeal := hMixNormRefIdeal)
    ∧ preserves_MemNorm_MemNormIdeal
    ∧ algebraic_MemNormIdeal_MemNormRefIdeal (hMemNormIdeal := hMemNormIdeal) (hMemNormRefIdeal := hMemNormRefIdeal)
    ∧ preserves_MemG_MemGIdeal
    ∧ algebraic_MemGIdeal_MemGRefIdeal (hMemGIdeal := hMemGIdeal) (hMemGRefIdeal := hMemGRefIdeal)
    ∧ preserves_FfnG_FfnGIdeal
    ∧ algebraic_FfnGIdeal_FfnGRefIdeal (hFfnGIdeal := hFfnGIdeal) (hFfnGRefIdeal := hFfnGRefIdeal)
    ∧ preserves_QIn_QInIdeal
    ∧ algebraic_QInIdeal_QInRefIdeal (hQInIdeal := hQInIdeal) (hQInRefIdeal := hQInRefIdeal)
    ∧ preserves_MixIn_MixInIdeal
    ∧ algebraic_MixInIdeal_MixInRefIdeal (hMixInIdeal := hMixInIdeal) (hMixInRefIdeal := hMixInRefIdeal)
    ∧ preserves_Down_DownIdeal
    ∧ algebraic_DownIdeal_DownRefIdeal (hDownIdeal := hDownIdeal) (hDownRefIdeal := hDownRefIdeal)
    ∧ preserves_SumEarly_SumEarlyIdeal
    ∧ algebraic_SumEarlyIdeal_SumEarlyRefIdeal (hSumEarlyIdeal := hSumEarlyIdeal) (hSumEarlyRefIdeal := hSumEarlyRefIdeal)
    ∧ preserves_SumLate_SumLateIdeal
    ∧ algebraic_SumLateIdeal_SumLateRefIdeal (hSumLateIdeal := hSumLateIdeal) (hSumLateRefIdeal := hSumLateRefIdeal)
    ∧ preserves_SmallAdamw_SmallAdamwIdeal
    ∧ algebraic_SmallAdamwIdeal_SmallAdamwRefIdeal (hSmallAdamwIdeal := hSmallAdamwIdeal) (hSmallAdamwRefIdeal := hSmallAdamwRefIdeal)
    ∧ preserves_FinSquare_FinSquareIdeal
    ∧ algebraic_FinSquareIdeal_FinSquareRefIdeal (hFinSquareIdeal := hFinSquareIdeal) (hFinSquareRefIdeal := hFinSquareRefIdeal) (hPre_chip_square := hPre_chip_square)
    ∧ preserves_FinFfn_FinFfnIdeal
    ∧ algebraic_FinFfnIdeal_FinFfnRefIdeal (hFinFfnIdeal := hFinFfnIdeal) (hFinFfnRefIdeal := hFinFfnRefIdeal) (hPre_chip_ffn := hPre_chip_ffn)
    ∧ preserves_FinPool_FinPoolIdeal
    ∧ algebraic_FinPoolIdeal_FinPoolRefIdeal (hFinPoolIdeal := hFinPoolIdeal) (hFinPoolRefIdeal := hFinPoolRefIdeal) (hPre_chip_pool := hPre_chip_pool)
    ∧ preserves_FinIn_FinInIdeal
    ∧ algebraic_FinInIdeal_FinInRefIdeal (hFinInIdeal := hFinInIdeal) (hFinInRefIdeal := hFinInRefIdeal) (hPre_chip_in := hPre_chip_in)
-- ==== Pre_chip_ffn.lean ====
abbrev S2 : Shape := ⟨1, ![2]⟩
abbrev S4x704x2048 : Shape := ⟨3, ![4, 704, 2048]⟩
abbrev S704x2048 : Shape := ⟨2, ![704, 2048]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x704x2048 .bf16) (main_arg2 : FVec F S4x704x2048 .bf16) (main_arg3 : FVec F S704x2048 .f32) (main_arg4 : FVec F S704x2048 .f32) (main_arg5 : FVec F S704x2048 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  main_v6
-- ==== Pre_chip_in.lean ====
abbrev S2 : Shape := ⟨1, ![2]⟩
abbrev S4x384x2048 : Shape := ⟨3, ![4, 384, 2048]⟩
abbrev S2048x384 : Shape := ⟨2, ![2048, 384]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x384x2048 .bf16) (main_arg2 : FVec F S4x384x2048 .bf16) (main_arg3 : FVec F S2048x384 .f32) (main_arg4 : FVec F S2048x384 .f32) (main_arg5 : FVec F S2048x384 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  main_v6
-- ==== Pre_chip_pool.lean ====
abbrev S2 : Shape := ⟨1, ![2]⟩
abbrev S4x128x256 : Shape := ⟨3, ![4, 128, 256]⟩
abbrev S128x256 : Shape := ⟨2, ![128, 256]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x128x256 .bf16) (main_arg2 : FVec F S4x128x256 .bf16) (main_arg3 : FVec F S128x256 .f32) (main_arg4 : FVec F S128x256 .f32) (main_arg5 : FVec F S128x256 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  main_v6
-- ==== Pre_chip_square.lean ====
abbrev S2 : Shape := ⟨1, ![2]⟩
abbrev S4x256x2048 : Shape := ⟨3, ![4, 256, 2048]⟩
abbrev S256x2048 : Shape := ⟨2, ![256, 2048]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x256x2048 .bf16) (main_arg2 : FVec F S4x256x2048 .bf16) (main_arg3 : FVec F S256x2048 .f32) (main_arg4 : FVec F S256x2048 .f32) (main_arg5 : FVec F S256x2048 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  main_v6
-- ==== Pre_finite.lean ====
abbrev S4096x2048 : Shape := ⟨2, ![4096, 2048]⟩
abbrev S256x2048 : Shape := ⟨2, ![256, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S256x2048 : S_.BroadcastsInDim S256x2048 (![] : Fin 0 → Fin S256x2048.rank)

variable [Facts]

def fn {F : FTy → Type} [FloatOps F] (main_arg0 : FVec F S4096x2048 .bf16) (main_arg1 : FVec F S256x2048 .bf16) (main_arg2 : FVec F S256x2048 .bf16) (main_arg3 : FVec F S4096x2048 .bf16) : IVec S4096x2048 1 × IVec S256x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v3, main_v7)
-- ==== Pre_gate_finite.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .f32) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_v7 : FVec F S4096x5632 .f32 := (extf .f32 · bitsLt_bf16_f32) main_arg3
  let main_v8 : FVec F S4096x5632 .f32 := Host.absf main_v7
  let main_cst_1 : FVec F S_ .f32 := constant S_ .f32 0x7F800000#32
  let main_v9 : FVec F S4096x5632 .f32 := broadcastInDim S4096x5632 ![] bcast_S_S4096x5632 main_cst_1
  let main_v10 : IVec S4096x5632 1 := cmpf .olt main_v8 main_v9
  (main_v3, main_v6, main_v10)
-- ==== Pre_mixer_finite.lean ====
abbrev S4096x3072 : Shape := ⟨2, ![4096, 3072]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩

class Facts : Prop where
  slices_S4096x3072_S4096x1024_0_0 : S4096x3072.Slices ![0, 0] S4096x1024
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S4x256x256 .f32) (main_arg2 : FVec F S1x1024 .f32) (main_arg3 : FVec F S1x1024 .f32) (main_arg4 : FVec F S8x128x128 .f32) (main_arg5 : FVec F S8x128 .f32) : IVec S4096x1024 1 :=
  let main_v0 : FVec F S4096x1024 .f32 := (extractStridedSlice S4096x1024 ![0, 0] · slices_S4096x3072_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== Kernel.lean ====
abbrev S4096x2048 : Shape := ⟨2, ![4096, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .bf16⟩
  | .hbm, ⟨5, _⟩ => ⟨S256x2048, .f32⟩
  | .hbm, ⟨6, _⟩ => ⟨S256x2048, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S256x2048, .f32⟩
  | .local _ .vmem, ⟨9, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x2048 : Shape := ⟨2, ![4096, 2048]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .f32⟩
  | .hbm, ⟨5, _⟩ => ⟨S256x2048, .f32⟩
  | .hbm, ⟨6, _⟩ => ⟨S256x2048, .f32⟩
  | .hbm, ⟨7, _⟩ => ⟨S4096x2048, .f32⟩
  | .hbm, ⟨8, _⟩ => ⟨S4096x4x512, .f32⟩
  | .hbm, ⟨9, _⟩ => ⟨S256x4x512, .f32⟩
  | .hbm, ⟨10, _⟩ => ⟨S256x4x512, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x512x4096, .f32⟩
  | .hbm, ⟨54, _⟩ => ⟨S4096x4x512, .f32⟩
  | .hbm, ⟨55, _⟩ => ⟨S4096x2048, .f32⟩
  | .hbm, ⟨56, _⟩ => ⟨S4096x4x512, .f32⟩
  | .hbm, ⟨57, _⟩ => ⟨S4x512x4096, .f32⟩
  | .hbm, ⟨58, _⟩ => ⟨S4x4096x256, .f32⟩
  | .hbm, ⟨59, _⟩ => ⟨S4x512x256, .f32⟩
  | .hbm, ⟨60, _⟩ => ⟨S256x4x512, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x512, .f32⟩
  | .hbm, ⟨79, _⟩ => ⟨S256x4x512, .f32⟩
  | .hbm, ⟨80, _⟩ => ⟨S4x4096x512, .f32⟩
  | .hbm, ⟨81, _⟩ => ⟨S4096x4x512, .f32⟩
  | .hbm, ⟨82, _⟩ => ⟨S256x2048, .f32⟩
  | .hbm, ⟨83, _⟩ => ⟨S256x2048, .f32⟩
  | .hbm, ⟨84, _⟩ => ⟨S4096x2048, .f32⟩
  | .hbm, ⟨85, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Gate.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S5632x2048, .bf16⟩
  | .hbm, ⟨5, _⟩ => ⟨S4096x5632, .bf16⟩
  | .hbm, ⟨6, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Up.lean ====
abbrev S4096x5632 : Shape := ⟨2, ![4096, 5632]⟩
abbrev S2048x5632 : Shape := ⟨2, ![2048, 5632]⟩
abbrev S5632x2048 : Shape := ⟨2, ![5632, 2048]⟩
abbrev S4096x2048 : Shape := ⟨2, ![4096, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S5632x2048, .bf16⟩
  | .hbm, ⟨6, _⟩ => ⟨S5632x2048, .f32⟩
  | .hbm, ⟨7, _⟩ => ⟨S5632x2048, .bf16⟩
  | .hbm, ⟨8, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S5632x512, .bf16⟩
  | .local _ .vmem, ⟨5, _⟩ => ⟨S5632x512, .bf16⟩
  | .local _ .vmem, ⟨6, _⟩ => ⟨S5632x512, .bf16⟩
  | .local _ .vmem, ⟨7, _⟩ => ⟨S5632x512, .bf16⟩
  | .local _ .vmem, ⟨8, _⟩ => ⟨S512x512, .f32⟩
  | .local _ .vmem, ⟨9, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S5632x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DownW.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InW.lean ====
abbrev S4096x2048 : Shape := ⟨2, ![4096, 2048]⟩
abbrev S4096x3072 : Shape := ⟨2, ![4096, 3072]⟩
abbrev S3072x2048 : Shape := ⟨2, ![3072, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S3072x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S3072x2048, .f32⟩
  | .hbm, ⟨10, _⟩ => ⟨S3072x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvW.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWRefIdeal.lean ====
abbrev S256x2048 : Shape := ⟨2, ![256, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OIn.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OInRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutIn.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvIn.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S256x1024, .f32⟩
  | .local _ .vmem, ⟨7, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvInRefIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== ProjIn.lean ====
abbrev S4096x2048 : Shape := ⟨2, ![4096, 2048]⟩
abbrev S2048x3072 : Shape := ⟨2, ![2048, 3072]⟩
abbrev S3072x2048 : Shape := ⟨2, ![3072, 2048]⟩
abbrev S4096x3072 : Shape := ⟨2, ![4096, 3072]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .f32⟩
  | .hbm, ⟨2, _⟩ => ⟨S3072x2048, .f32⟩
  | .hbm, ⟨3, _⟩ => ⟨S3072x2048, .bf16⟩
  | .hbm, ⟨4, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .f32⟩
  | .hbm, ⟨2, _⟩ => ⟨S4096x2048, .f32⟩
  | .hbm, ⟨3, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjQ.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjKv.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S256x2048, .bf16⟩
  | .hbm, ⟨6, _⟩ => ⟨S256x2048, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjKvRefIdeal.lean ====
abbrev S256x2048 : Shape := ⟨2, ![256, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S256x2048, .f32⟩
  | .hbm, ⟨5, _⟩ => ⟨S256x2048, .bf16⟩
  | .hbm, ⟨6, _⟩ => ⟨S256x2048, .f32⟩
  | .hbm, ⟨7, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnGate.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S5632x2048, .f32⟩
  | .hbm, ⟨3, _⟩ => ⟨S5632x2048, .bf16⟩
  | .hbm, ⟨4, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGateRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x2048, .f32⟩
  | .hbm, ⟨3, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnUp.lean ====
abbrev S4096x2048 : Shape := ⟨2, ![4096, 2048]⟩
abbrev S2048x5632 : Shape := ⟨2, ![2048, 5632]⟩
abbrev S4096x5632 : Shape := ⟨2, ![4096, 5632]⟩
abbrev S5632x2048 : Shape := ⟨2, ![5632, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x5632, .f32⟩
  | .hbm, ⟨3, _⟩ => ⟨S5632x2048, .f32⟩
  | .hbm, ⟨4, _⟩ => ⟨S5632x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnUpRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x5632, .f32⟩
  | .hbm, ⟨3, _⟩ => ⟨S4096x2048, .f32⟩
  | .hbm, ⟨4, _⟩ => ⟨S4096x5632, .f32⟩
  | .hbm, ⟨5, _⟩ => ⟨S4096x5632, .bf16⟩
  | .hbm, ⟨6, _⟩ => ⟨S4096x5632, .bf16⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== AttnFwd.lean ====
abbrev S4096x2048 : Shape := ⟨2, ![4096, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S4096x2048 : Shape := ⟨2, ![4096, 2048]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .f32⟩
  | .hbm, ⟨4, _⟩ => ⟨S256x2048, .f32⟩
  | .hbm, ⟨5, _⟩ => ⟨S256x2048, .f32⟩
  | .hbm, ⟨6, _⟩ => ⟨S4096x4x512, .f32⟩
  | .hbm, ⟨7, _⟩ => ⟨S256x4x512, .f32⟩
  | .hbm, ⟨8, _⟩ => ⟨S256x4x512, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x512x4096, .f32⟩
  | .hbm, ⟨28, _⟩ => ⟨S4096x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Mixer.lean ====
abbrev S4096x3072 : Shape := ⟨2, ![4096, 3072]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S4096x2048 : Shape := ⟨2, ![4096, 2048]⟩
abbrev S4096x1024 : Shape := ⟨2, ![4096, 1024]⟩
abbrev S512x3072 : Shape := ⟨2, ![512, 3072]⟩
abbrev S16x1024 : Shape := ⟨2, ![16, 1024]⟩
abbrev S512x2048 : Shape := ⟨2, ![512, 2048]⟩
abbrev S512x1024 : Shape := ⟨2, ![512, 1024]⟩
abbrev S528x1024 : Shape := ⟨2, ![528, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩

abbrev nBuf : Space → Nat
  | .hbm => 62
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4x256x256, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S128, .i32⟩
  | .hbm, ⟨7, _⟩ => ⟨S1x128, .i32⟩
  | .hbm, ⟨8, _⟩ => ⟨S_, .i32⟩
  | .hbm, ⟨9, _⟩ => ⟨S_, .i32⟩
  | .hbm, ⟨10, _⟩ => ⟨S1x128, .i32⟩
  | .hbm, ⟨11, _⟩ => ⟨S1x128, .i32⟩
  | .hbm, ⟨12, _⟩ => ⟨S1x128, .i32⟩
  | .hbm, ⟨13, _⟩ => ⟨S_, .i32⟩
  | .hbm, ⟨14, _⟩ => ⟨S1x128, .i32⟩
  | .hbm, ⟨15, _⟩ => ⟨S1x128, .i1⟩
  | .hbm, ⟨16, _⟩ => ⟨S1x128, .i32⟩
  | .hbm, ⟨17, _⟩ => ⟨S1x128, .i32⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S1x128, .i1⟩
  | .hbm, ⟨22, _⟩ => ⟨S_, .i32⟩
  | .hbm, ⟨23, _⟩ => ⟨S1x128, .i32⟩
  | .hbm, ⟨24, _⟩ => ⟨S1x128, .i32⟩
  | .hbm, ⟨25, _⟩ => ⟨S1x128, .i32⟩
  | .hbm, ⟨26, _⟩ => ⟨S128x1, .i32⟩
  | .hbm, ⟨27, _⟩ => ⟨S_, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i1⟩
  | .hbm, ⟨35, _⟩ => ⟨S128x1, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i1⟩
  | .hbm, ⟨40, _⟩ => ⟨S128x1, .i1⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S1x128x128, .i1⟩
  | .hbm, ⟨49, _⟩ => ⟨S_, .f32⟩
  | .hbm, ⟨50, _⟩ => ⟨S_, .f32⟩
  | .hbm, ⟨51, _⟩ => ⟨S8x128x128, .i1⟩
  | .hbm, ⟨52, _⟩ => ⟨S8x128x128, .f32⟩
  | .hbm, ⟨53, _⟩ => ⟨S8x128x128, .f32⟩
  | .hbm, ⟨54, _⟩ => ⟨S8x128x128, .bf16⟩
  | .hbm, ⟨55, _⟩ => ⟨S128x8, .f32⟩
  | .hbm, ⟨56, _⟩ => ⟨S128x8x128, .f32⟩
  | .hbm, ⟨57, _⟩ => ⟨S128x1024, .f32⟩
  | .hbm, ⟨58, _⟩ => ⟨S4x256x256, .bf16⟩
  | .hbm, ⟨59, _⟩ => ⟨S4096x2048, .bf16⟩
  | .hbm, ⟨60, _⟩ => ⟨S4096x1024, .bf16⟩
  | .hbm, ⟨61, _⟩ => ⟨S4096x1024, .bf16⟩
  | .local _ .vmem, ⟨0, _⟩ => ⟨S512x3072, .f32⟩
  | .local _ .vmem, ⟨1, _⟩ => ⟨S512x3072, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S8x128x128, .bf16⟩
  | .local _ .vmem, ⟨8, _⟩ => ⟨S128x1024, .f32⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S528x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15_0 : Ref sig .tc := ⟨.hbm, 59, rfl⟩
abbrev main_v15_1 : Ref sig .tc := ⟨.hbm, 60, rfl⟩
abbrev main_v15_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixerRefIdeal.lean ====
abbrev S4096x3072 : Shape := ⟨2, ![4096, 3072]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4112x1024 : Shape := ⟨2, ![4112, 1024]⟩
abbrev S4096 : Shape := ⟨1, ![4096]⟩
abbrev S4096x1 : Shape := ⟨2, ![4096, 1]⟩
abbrev S4096x256 : Shape := ⟨2, ![4096, 256]⟩
abbrev S4096x4x256 : Shape := ⟨3, ![4096, 4, 256]⟩
abbrev S4x256x4096 : Shape := ⟨3, ![4, 256, 4096]⟩
abbrev S1024 : Shape := ⟨1, ![1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x2048 : Shape := ⟨2, ![4096, 2048]⟩

abbrev nBuf : Space → Nat
  | .hbm => 112
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x256x256, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S_, .f32⟩
  | .hbm, ⟨11, _⟩ => ⟨S4096x1024, .f32⟩
  | .hbm, ⟨12, _⟩ => ⟨S_, .i32⟩
  | .hbm, ⟨13, _⟩ => ⟨S_, .f32⟩
  | .hbm, ⟨14, _⟩ => ⟨S4112x1024, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x1024, .f32⟩
  | .hbm, ⟨61, _⟩ => ⟨S4096x4x256, .f32⟩
  | .hbm, ⟨62, _⟩ => ⟨S4x256x4096, .f32⟩
  | .hbm, ⟨63, _⟩ => ⟨S4096x4x256, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S1x128, .i32⟩
  | .hbm, ⟨89, _⟩ => ⟨S128x1, .i32⟩
  | .hbm, ⟨90, _⟩ => ⟨S128x128, .i32⟩
  | .hbm, ⟨91, _⟩ => ⟨S128x128, .i32⟩
  | .hbm, ⟨92, _⟩ => ⟨S128x128, .i1⟩
  | .hbm, ⟨93, _⟩ => ⟨S1x128x128, .i1⟩
  | .hbm, ⟨94, _⟩ => ⟨S_, .f32⟩
  | .hbm, ⟨95, _⟩ => ⟨S_, .f32⟩
  | .hbm, ⟨96, _⟩ => ⟨S8x128x128, .i1⟩
  | .hbm, ⟨97, _⟩ => ⟨S8x128x128, .f32⟩
  | .hbm, ⟨98, _⟩ => ⟨S8x128x128, .f32⟩
  | .hbm, ⟨99, _⟩ => ⟨S32x128x8x128, .f32⟩
  | .hbm, ⟨100, _⟩ => ⟨S8x32x128x128, .f32⟩
  | .hbm, ⟨101, _⟩ => ⟨S32x128x8x128, .f32⟩
  | .hbm, ⟨102, _⟩ => ⟨S128x8, .f32⟩
  | .hbm, ⟨103, _⟩ => ⟨S1x128x8x1, .f32⟩
  | .hbm, ⟨104, _⟩ => ⟨S32x128x8x128, .f32⟩
  | .hbm, ⟨105, _⟩ => ⟨S32x128x8x128, .f32⟩
  | .hbm, ⟨106, _⟩ => ⟨S4096x1024, .f32⟩
  | .hbm, ⟨107, _⟩ => ⟨S4096x1024, .f32⟩
  | .hbm, ⟨108, _⟩ => ⟨S4096x2048, .f32⟩
  | .hbm, ⟨109, _⟩ => ⟨S4096x2048, .bf16⟩
  | .hbm, ⟨110, _⟩ => ⟨S4096x1024, .bf16⟩
  | .hbm, ⟨111, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_cst : Ref sig .tc := ⟨.hbm, 9, rfl⟩
abbrev main_call0_call0_v0 : Ref sig .tc := ⟨.hbm, 10, rfl⟩
abbrev main_v3 : Ref sig .tc := ⟨.hbm, 11, rfl⟩
abbrev main_c : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_7 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_8 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S2048x2048, .bf16⟩
  | .hbm, ⟨5, _⟩ => ⟨S4096x2048, .f32⟩
  | .hbm, ⟨6, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutFwdRefIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MixNorm.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixNormRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemNorm.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemG.lean ====
abbrev S256x2048 : Shape := ⟨2, ![256, 2048]⟩
abbrev S1x2048 : Shape := ⟨2, ![1, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S8x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond3 (i : grid0.Coords) : BitVec 1 :=
  let arg0 : BitVec 32 := BitVec.ofNat 32 (i 0).val
  let c0_i32_9 : BitVec 32 := 0#32
  let v21 : BitVec 1 := Scalar.cmpi .eq arg0 c0_i32_9
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemGRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S2048, .f32⟩
  | .hbm, ⟨26, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfnG.lean ====
abbrev S4096x2048 : Shape := ⟨2, ![4096, 2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnGRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== QIn.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048x2048, .bf16⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg0 : BitVec 32 := BitVec.ofNat 32 (i 0).val
  let c7_i32 : BitVec 32 := 7#32
  let v142 : BitVec 1 := Scalar.cmpi .eq arg0 c7_i32
  let v143 : BitVec 32 := Scalar.extui v142
  let c0_i32_61 : BitVec 32 := 0#32
  let v144 : BitVec 1 := Scalar.cmpi .ne v143 c0_i32_61
  v144

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== QInRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S1x2048, .f32⟩
  | .hbm, ⟨58, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== MixIn.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S3072x2048 : Shape := ⟨2, ![3072, 2048]⟩
abbrev S256x3072 : Shape := ⟨2, ![256, 3072]⟩
abbrev S256x2048 : Shape := ⟨2, ![256, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S2048 : Shape := ⟨1, ![2048]⟩

abbrev nBuf : Space → Nat
  | .hbm => 9
  | .vmem => 12
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S3072x2048, .f32⟩
  | .hbm, ⟨6, _⟩ => ⟨S3072x2048, .bf16⟩
  | .hbm, ⟨7, _⟩ => ⟨S4096x2048, .f32⟩
  | .hbm, ⟨8, _⟩ => ⟨S1x2048, .f32⟩
  | .local _ .vmem, ⟨0, _⟩ => ⟨S256x3072, .bf16⟩
  | .local _ .vmem, ⟨1, _⟩ => ⟨S256x3072, .bf16⟩
  | .local _ .vmem, ⟨2, _⟩ => ⟨S3072x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S8x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg0 : BitVec 32 := BitVec.ofNat 32 (i 0).val
  let c15_i32 : BitVec 32 := 15#32
  let v72 : BitVec 1 := Scalar.cmpi .eq arg0 c15_i32
  let v73 : BitVec 32 := Scalar.extui v72
  let c0_i32_31 : BitVec 32 := 0#32
  let v74 : BitVec 1 := Scalar.cmpi .ne v73 c0_i32_31
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MixInRefIdeal.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x3072, .f32⟩
  | .hbm, ⟨27, _⟩ => ⟨S4096x3072, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S1x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1x1 : Shape := ⟨2, ![1, 1]⟩
abbrev S256x5632 : Shape := ⟨2, ![256, 5632]⟩
abbrev S256x2048 : Shape := ⟨2, ![256, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S2048 : Shape := ⟨1, ![2048]⟩
abbrev S1 : Shape := ⟨1, ![1]⟩

abbrev nBuf : Space → Nat
  | .hbm => 10
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S5632x2048, .bf16⟩
  | .hbm, ⟨6, _⟩ => ⟨S4096x2048, .f32⟩
  | .hbm, ⟨7, _⟩ => ⟨S4096x2048, .bf16⟩
  | .hbm, ⟨8, _⟩ => ⟨S1x2048, .f32⟩
  | .hbm, ⟨9, _⟩ => ⟨S1x1, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x1, .f32⟩
  | .local _ .vmem, ⟨14, _⟩ => ⟨S8x2048, .f32⟩
  | .local _ .vmem, ⟨15, _⟩ => ⟨S8x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_41 : BitVec 32 := 0#32
  let v99 : BitVec 1 := Scalar.cmpi .ne v98 c0_i32_41
  v99

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S1x2048, .f32⟩
  | .hbm, ⟨78, _⟩ => ⟨S4096x2048, .bf16⟩
  | .hbm, ⟨79, _⟩ => ⟨S1x1, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== SumEarly.lean ====
abbrev S8x1536x128 : Shape := ⟨3, ![8, 1536, 128]⟩
abbrev S1536x128 : Shape := ⟨2, ![1536, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1536x128, .f32⟩
  | .hbm, ⟨1, _⟩ => ⟨S1536x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumEarlyRefIdeal.lean ====
abbrev S8x1536x128 : Shape := ⟨3, ![8, 1536, 128]⟩
abbrev S_ : Shape := ⟨0, ![]⟩
abbrev S1536x128 : Shape := ⟨2, ![1536, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1536x128, .f32⟩
  | .hbm, ⟨1, _⟩ => ⟨S_, .f32⟩
  | .hbm, ⟨2, _⟩ => ⟨S1536x128, .f32⟩
  | _, _ => ⟨S8x1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumLate.lean ====
abbrev S8x24x128 : Shape := ⟨3, ![8, 24, 128]⟩
abbrev S24x128 : Shape := ⟨2, ![24, 128]⟩
abbrev S1x24x128 : Shape := ⟨3, ![1, 24, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x24x128, .f32⟩
  | .hbm, ⟨1, _⟩ => ⟨S24x128, .f32⟩
  | .local _ .vmem, ⟨0, _⟩ => ⟨S8x24x128, .f32⟩
  | .local _ .vmem, ⟨1, _⟩ => ⟨S24x128, .f32⟩
  | _, _ => ⟨S8x24x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumLateRefIdeal.lean ====
abbrev S8x24x128 : Shape := ⟨3, ![8, 24, 128]⟩
abbrev S_ : Shape := ⟨0, ![]⟩
abbrev S24x128 : Shape := ⟨2, ![24, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x24x128, .f32⟩
  | .hbm, ⟨1, _⟩ => ⟨S_, .f32⟩
  | .hbm, ⟨2, _⟩ => ⟨S24x128, .f32⟩
  | _, _ => ⟨S8x24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SmallAdamw.lean ====
abbrev S1536x128 : Shape := ⟨2, ![1536, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1536x128, .f32⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S1536x128, .f32⟩
  | .hbm, ⟨5, _⟩ => ⟨S1536x128, .f32⟩
  | .hbm, ⟨6, _⟩ => ⟨S1536x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SmallAdamwRefIdeal.lean ====
abbrev S1536x128 : Shape := ⟨2, ![1536, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x128, .f32⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S_, .f32⟩
  | .hbm, ⟨5, _⟩ => ⟨S1536x128, .f32⟩
  | .hbm, ⟨6, _⟩ => ⟨S1536x128, .f32⟩
  | .hbm, ⟨7, _⟩ => ⟨S_, .f32⟩
  | .hbm, ⟨8, _⟩ => ⟨S1536x128, .f32⟩
  | .hbm, ⟨9, _⟩ => ⟨S1536x128, .f32⟩
  | .hbm, ⟨10, _⟩ => ⟨S1536x128, .f32⟩
  | .hbm, ⟨11, _⟩ => ⟨S_, .f32⟩
  | .hbm, ⟨12, _⟩ => ⟨S1536x128, .f32⟩
  | .hbm, ⟨13, _⟩ => ⟨S1536x128, .f32⟩
  | .hbm, ⟨14, _⟩ => ⟨S1536x128, .f32⟩
  | .hbm, ⟨15, _⟩ => ⟨S_, .f32⟩
  | .hbm, ⟨16, _⟩ => ⟨S1536x128, .f32⟩
  | .hbm, ⟨17, _⟩ => ⟨S1536x128, .f32⟩
  | .hbm, ⟨18, _⟩ => ⟨S1536x128, .f32⟩
  | .hbm, ⟨19, _⟩ => ⟨S_, .f32⟩
  | .hbm, ⟨20, _⟩ => ⟨S1536x128, .f32⟩
  | .hbm, ⟨21, _⟩ => ⟨S1536x128, .f32⟩
  | .hbm, ⟨22, _⟩ => ⟨S_, .f32⟩
  | .hbm, ⟨23, _⟩ => ⟨S1536x128, .f32⟩
  | .hbm, ⟨24, _⟩ => ⟨S1536x128, .f32⟩
  | .hbm, ⟨25, _⟩ => ⟨S1536x128, .f32⟩
  | .hbm, ⟨26, _⟩ => ⟨S_, .f32⟩
  | .hbm, ⟨27, _⟩ => ⟨S1536x128, .f32⟩
  | .hbm, ⟨28, _⟩ => ⟨S1536x128, .f32⟩
  | .hbm, ⟨29, _⟩ => ⟨S1536x128, .f32⟩
  | .hbm, ⟨30, _⟩ => ⟨S_, .f32⟩
  | .hbm, ⟨31, _⟩ => ⟨S1536x128, .f32⟩
  | .hbm, ⟨32, _⟩ => ⟨S1536x128, .f32⟩
  | .hbm, ⟨33, _⟩ => ⟨S1536x128, .f32⟩
  | .hbm, ⟨34, _⟩ => ⟨S_, .f32⟩
  | .hbm, ⟨35, _⟩ => ⟨S1536x128, .f32⟩
  | .hbm, ⟨36, _⟩ => ⟨S1536x128, .f32⟩
  | _, _ => ⟨S1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FinSquare.lean ====
abbrev S2 : Shape := ⟨1, ![2]⟩
abbrev S4x256x2048 : Shape := ⟨3, ![4, 256, 2048]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 9
  | .vmem => 11
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .smem, ⟨0, _⟩ => ⟨S2, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let v1 : BitVec 1 := Scalar.cmpi .eq arg1 v0
  let c1_i32 : BitVec 32 := 1#32
  let v2 : BitVec 32 := Scalar.addi arg1 c1_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let v13 : BitVec 32 := Scalar.select v1 v12 arg1
  let c0_i32_4 : BitVec 32 := 0#32
  let c0_i32_5 : BitVec 32 := 0#32
  ![v13.toNat, arg0.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== FinSquareRefIdeal.lean ====
abbrev S2 : Shape := ⟨1, ![2]⟩
abbrev S4x256x2048 : Shape := ⟨3, ![4, 256, 2048]⟩
abbrev S256x2048 : Shape := ⟨2, ![256, 2048]⟩
abbrev S4 : Shape := ⟨1, ![4]⟩
abbrev S4x1x1 : Shape := ⟨3, ![4, 1, 1]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x256x2048, .bf16⟩
  | .hbm, ⟨2, _⟩ => ⟨S4x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S4, .i32⟩
  | .hbm, ⟨7, _⟩ => ⟨S4x1x1, .i32⟩
  | .hbm, ⟨8, _⟩ => ⟨S1, .i32⟩
  | .hbm, ⟨9, _⟩ => ⟨S_, .i32⟩
  | .hbm, ⟨10, _⟩ => ⟨S4x1x1, .i32⟩
  | .hbm, ⟨11, _⟩ => ⟨S4x1x1, .i1⟩
  | .hbm, ⟨12, _⟩ => ⟨S4x256x2048, .i1⟩
  | .hbm, ⟨13, _⟩ => ⟨S4x256x2048, .bf16⟩
  | .hbm, ⟨14, _⟩ => ⟨S4x256x2048, .f32⟩
  | .hbm, ⟨15, _⟩ => ⟨S_, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== FinFfn.lean ====
abbrev S2 : Shape := ⟨1, ![2]⟩
abbrev S4x704x2048 : Shape := ⟨3, ![4, 704, 2048]⟩
abbrev S704x2048 : Shape := ⟨2, ![704, 2048]⟩
abbrev S1x352x2048 : Shape := ⟨3, ![1, 352, 2048]⟩
abbrev S1 : Shape := ⟨1, ![1]⟩
abbrev S352x2048 : Shape := ⟨2, ![352, 2048]⟩

abbrev nBuf : Space → Nat
  | .hbm => 9
  | .vmem => 19
  | .smem => 1
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S1x352x2048, .bf16⟩
  | .local _ .vmem, ⟨1, _⟩ => ⟨S1x352x2048, .bf16⟩
  | .local _ .vmem, ⟨2, _⟩ => ⟨S1x352x2048, .bf16⟩
  | .local _ .vmem, ⟨3, _⟩ => ⟨S1x352x2048, .bf16⟩
  | .local _ .vmem, ⟨4, _⟩ => ⟨S352x2048, .f32⟩
  | .local _ .vmem, ⟨5, _⟩ => ⟨S352x2048, .f32⟩
  | .local _ .vmem, ⟨6, _⟩ => ⟨S352x2048, .f32⟩
  | .local _ .vmem, ⟨7, _⟩ => ⟨S352x2048, .f32⟩
  | .local _ .vmem, ⟨8, _⟩ => ⟨S352x2048, .f32⟩
  | .local _ .vmem, ⟨9, _⟩ => ⟨S352x2048, .f32⟩
  | .local _ .vmem, ⟨10, _⟩ => ⟨S352x2048, .f32⟩
  | .local _ .vmem, ⟨11, _⟩ => ⟨S352x2048, .f32⟩
  | .local _ .vmem, ⟨12, _⟩ => ⟨S352x2048, .f32⟩
  | .local _ .vmem, ⟨13, _⟩ => ⟨S352x2048, .f32⟩
  | .local _ .vmem, ⟨14, _⟩ => ⟨S352x2048, .f32⟩
  | .local _ .vmem, ⟨15, _⟩ => ⟨S352x2048, .f32⟩
  | .local _ .vmem, ⟨16, _⟩ => ⟨S352x2048, .f32⟩
  | .local _ .vmem, ⟨17, _⟩ => ⟨S352x2048, .f32⟩
  | .local _ .vmem, ⟨18, _⟩ => ⟨S352x2048, .f32⟩
  | .local _ .smem, ⟨0, _⟩ => ⟨S2, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let v1 : BitVec 1 := Scalar.cmpi .eq arg1 v0
  let c1_i32 : BitVec 32 := 1#32
  let v2 : BitVec 32 := Scalar.addi arg1 c1_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let v13 : BitVec 32 := Scalar.select v1 v12 arg1
  let c0_i32_4 : BitVec 32 := 0#32
  let c0_i32_5 : BitVec 32 := 0#32
  ![v13.toNat, arg0.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S352x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S352x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S352x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S352x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FinFfnRefIdeal.lean ====
abbrev S2 : Shape := ⟨1, ![2]⟩
abbrev S4x704x2048 : Shape := ⟨3, ![4, 704, 2048]⟩
abbrev S704x2048 : Shape := ⟨2, ![704, 2048]⟩
abbrev S4 : Shape := ⟨1, ![4]⟩
abbrev S4x1x1 : Shape := ⟨3, ![4, 1, 1]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x704x2048, .bf16⟩
  | .hbm, ⟨2, _⟩ => ⟨S4x704x2048, .bf16⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S4, .i32⟩
  | .hbm, ⟨7, _⟩ => ⟨S4x1x1, .i32⟩
  | .hbm, ⟨8, _⟩ => ⟨S1, .i32⟩
  | .hbm, ⟨9, _⟩ => ⟨S_, .i32⟩
  | .hbm, ⟨10, _⟩ => ⟨S4x1x1, .i32⟩
  | .hbm, ⟨11, _⟩ => ⟨S4x1x1, .i1⟩
  | .hbm, ⟨12, _⟩ => ⟨S4x704x2048, .i1⟩
  | .hbm, ⟨13, _⟩ => ⟨S4x704x2048, .bf16⟩
  | .hbm, ⟨14, _⟩ => ⟨S4x704x2048, .f32⟩
  | .hbm, ⟨15, _⟩ => ⟨S_, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== FinPool.lean ====
abbrev S2 : Shape := ⟨1, ![2]⟩
abbrev S4x128x256 : Shape := ⟨3, ![4, 128, 256]⟩
abbrev S128x256 : Shape := ⟨2, ![128, 256]⟩
abbrev S1x128x256 : Shape := ⟨3, ![1, 128, 256]⟩
abbrev S1 : Shape := ⟨1, ![1]⟩

abbrev nBuf : Space → Nat
  | .hbm => 9
  | .vmem => 11
  | .smem => 1
  | _ => 0

abbrev bufTy : (tb : Table) → Fin (tcTables nBuf tb) → BufTy
  | .hbm, ⟨0, _⟩ => ⟨S4x128x256, .bf16⟩
  | .hbm, ⟨1, _⟩ => ⟨S4x128x256, .bf16⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .smem, ⟨0, _⟩ => ⟨S2, .i32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let v1 : BitVec 1 := Scalar.cmpi .eq arg1 v0
  let c1_i32 : BitVec 32 := 1#32
  let v2 : BitVec 32 := Scalar.addi arg1 c1_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let v13 : BitVec 32 := Scalar.select v1 v12 arg1
  let c0_i32_4 : BitVec 32 := 0#32
  let c0_i32_5 : BitVec 32 := 0#32
  ![v13.toNat, arg0.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== FinPoolRefIdeal.lean ====
abbrev S2 : Shape := ⟨1, ![2]⟩
abbrev S4x128x256 : Shape := ⟨3, ![4, 128, 256]⟩
abbrev S128x256 : Shape := ⟨2, ![128, 256]⟩
abbrev S4 : Shape := ⟨1, ![4]⟩
abbrev S4x1x1 : Shape := ⟨3, ![4, 1, 1]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x128x256, .bf16⟩
  | .hbm, ⟨2, _⟩ => ⟨S4x128x256, .bf16⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S4, .i32⟩
  | .hbm, ⟨7, _⟩ => ⟨S4x1x1, .i32⟩
  | .hbm, ⟨8, _⟩ => ⟨S1, .i32⟩
  | .hbm, ⟨9, _⟩ => ⟨S_, .i32⟩
  | .hbm, ⟨10, _⟩ => ⟨S4x1x1, .i32⟩
  | .hbm, ⟨11, _⟩ => ⟨S4x1x1, .i1⟩
  | .hbm, ⟨12, _⟩ => ⟨S4x128x256, .i1⟩
  | .hbm, ⟨13, _⟩ => ⟨S4x128x256, .bf16⟩
  | .hbm, ⟨14, _⟩ => ⟨S4x128x256, .f32⟩
  | .hbm, ⟨15, _⟩ => ⟨S_, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S128x256, .f32⟩
  | .hbm, ⟨39, _⟩ => ⟨S_, .f32⟩
  | .hbm, ⟨40, _⟩ => ⟨S128x256, .f32⟩
  | .hbm, ⟨41, _⟩ => ⟨S128x256, .f32⟩
  | .hbm, ⟨42, _⟩ => ⟨S128x256, .f32⟩
  | .hbm, ⟨43, _⟩ => ⟨S_, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S_, .f32⟩
  | .hbm, ⟨48, _⟩ => ⟨S128x256, .f32⟩
  | .hbm, ⟨49, _⟩ => ⟨S128x256, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== FinIn.lean ====
abbrev S2 : Shape := ⟨1, ![2]⟩
abbrev S4x384x2048 : Shape := ⟨3, ![4, 384, 2048]⟩
abbrev S2048x384 : Shape := ⟨2, ![2048, 384]⟩
abbrev S1x384x512 : Shape := ⟨3, ![1, 384, 512]⟩
abbrev S1 : Shape := ⟨1, ![1]⟩
abbrev S512x384 : Shape := ⟨2, ![512, 384]⟩
abbrev S384x512 : Shape := ⟨2, ![384, 512]⟩

abbrev nBuf : Space → Nat
  | .hbm => 9
  | .vmem => 20
  | .smem => 1
  | _ => 0

abbrev bufTy : (tb : Table) → Fin (tcTables nBuf tb) → BufTy
  | .hbm, ⟨0, _⟩ => ⟨S4x384x2048, .bf16⟩
  | .hbm, ⟨1, _⟩ => ⟨S4x384x2048, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S1x384x512, .bf16⟩
  | .local _ .vmem, ⟨1, _⟩ => ⟨S1x384x512, .bf16⟩
  | .local _ .vmem, ⟨2, _⟩ => ⟨S1x384x512, .bf16⟩
  | .local _ .vmem, ⟨3, _⟩ => ⟨S1x384x512, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S384x512, .f32⟩
  | .local _ .vmem, ⟨19, _⟩ => ⟨S512x384, .f32⟩
  | .local _ .smem, ⟨0, _⟩ => ⟨S2, .i32⟩
  | _, _ => ⟨S4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, c0_i32.toNat, arg0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let v1 : BitVec 1 := Scalar.cmpi .eq arg1 v0
  let c1_i32 : BitVec 32 := 1#32
  let v2 : BitVec 32 := Scalar.addi arg1 c1_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let v13 : BitVec 32 := Scalar.select v1 v12 arg1
  let c0_i32_4 : BitVec 32 := 0#32
  let c0_i32_5 : BitVec 32 := 0#32
  ![v13.toNat, c0_i32_4.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FinInRefIdeal.lean ====
abbrev S2 : Shape := ⟨1, ![2]⟩
abbrev S4x384x2048 : Shape := ⟨3, ![4, 384, 2048]⟩
abbrev S2048x384 : Shape := ⟨2, ![2048, 384]⟩
abbrev S4 : Shape := ⟨1, ![4]⟩
abbrev S4x1x1 : Shape := ⟨3, ![4, 1, 1]⟩
abbrev S1 : Shape := ⟨1, ![1]⟩
abbrev S_ : Shape := ⟨0, ![]⟩
abbrev S384x2048 : Shape := ⟨2, ![384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x384x2048, .bf16⟩
  | .hbm, ⟨2, _⟩ => ⟨S4x384x2048, .bf16⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S4, .i32⟩
  | .hbm, ⟨7, _⟩ => ⟨S4x1x1, .i32⟩
  | .hbm, ⟨8, _⟩ => ⟨S1, .i32⟩
  | .hbm, ⟨9, _⟩ => ⟨S_, .i32⟩
  | .hbm, ⟨10, _⟩ => ⟨S4x1x1, .i32⟩
  | .hbm, ⟨11, _⟩ => ⟨S4x1x1, .i1⟩
  | .hbm, ⟨12, _⟩ => ⟨S4x384x2048, .i1⟩
  | .hbm, ⟨13, _⟩ => ⟨S4x384x2048, .bf16⟩
  | .hbm, ⟨14, _⟩ => ⟨S4x384x2048, .f32⟩
  | .hbm, ⟨15, _⟩ => ⟨S_, .f32⟩
  | .hbm, ⟨16, _⟩ => ⟨S384x2048, .f32⟩
  | .hbm, ⟨17, _⟩ => ⟨S2048x384, .f32⟩
  | .hbm, ⟨18, _⟩ => ⟨S_, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S_, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S_, .f32⟩
  | .hbm, ⟨41, _⟩ => ⟨S2048x384, .f32⟩
  | .hbm, ⟨42, _⟩ => ⟨S2048x384, .f32⟩
  | .hbm, ⟨43, _⟩ => ⟨S2048x384, .f32⟩
  | .hbm, ⟨44, _⟩ => ⟨S_, .f32⟩
  | .hbm, ⟨45, _⟩ => ⟨S2048x384, .f32⟩
  | .hbm, ⟨46, _⟩ => ⟨S2048x384, .f32⟩
  | .hbm, ⟨47, _⟩ => ⟨S2048x384, .f32⟩
  | .hbm, ⟨48, _⟩ => ⟨S_, .f32⟩
  | .hbm, ⟨49, _⟩ => ⟨S2048x384, .f32⟩
  | .hbm, ⟨50, _⟩ => ⟨S2048x384, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proof.AttnMaths.lean ====
/-
  The gradient of one attention head, written down: scores, softmax weights, the cotangent of the scores, and the
  three gradients as sums. Everything here is over the extended reals; no program is mentioned.
-/
module

public import Idealize.ShloMosaic.PureOps.Ideal
public import Idealize.ShloMosaic.Lib.Pointwise

@[expose] public section

noncomputable section

namespace Cert.Attn

open Idealize.ShloMosaic

/-- The factor `512 ^ (-1/2)` of the scores, as the binary32 word both programs hold. -/
def κ : EReal := Ideal.ofBits .f32 0x3D3504F3#32

/-- Column `d` of head `h` among the 2048 columns of a row. -/
def hc (h : Fin 4) (d : Fin 512) : Fin 2048 := ⟨512 * h.val + d.val, by omega⟩

/-- The head a column belongs to. -/
def headOf (c : Fin 2048) : Fin 4 := ⟨c.val / 512, by omega⟩

/-- The place of a column within its head. -/
def within (c : Fin 2048) : Fin 512 := ⟨c.val % 512, by omega⟩

theorem headOf_hc (h : Fin 4) (d : Fin 512) : headOf (hc h d) = h := by
  apply Fin.ext; simp only [headOf, hc]; omega

theorem within_hc (h : Fin 4) (d : Fin 512) : within (hc h d) = d := by
  apply Fin.ext; simp only [within, hc]; omega

theorem hc_headOf (c : Fin 2048) : hc (headOf c) (within c) = c := by
  apply Fin.ext; simp only [headOf, hc, within]; omega

/-- The columns of head `h` of a row. -/
def hd (h : Fin 4) (x : Fin 2048 → EReal) : Fin 512 → EReal := fun d => x (hc h d)

/-- The scaled scores of one query row against the 256 keys of its head. -/
def scores (a : Fin 512 → EReal) (b : Fin 256 → Fin 512 → EReal) (j : Fin 256) : EReal := (∑ d, a d * b j d) * κ

/-- The largest of 256 scores (from `-∞`). -/
def top (s : Fin 256 → EReal) : EReal := Finset.univ.fold max (Ideal.ofBits .f32 0xFF800000#32) s

/-- The exponential of a score less the row's largest. -/
def expo (s : Fin 256 → EReal) (j : Fin 256) : EReal := Ideal.exp (s j - top s)

/-- The softmax weight. -/
def soft (s : Fin 256 → EReal) (j : Fin 256) : EReal := Ideal.div (expo s j) (∑ i, expo s i)

/-- The cotangent of the weights: the output's cotangent against the values. -/
def dprob (c : Fin 512 → EReal) (v : Fin 256 → Fin 512 → EReal) (j : Fin 256) : EReal := ∑ d, c d * v j d

/-- The cotangent of the unscaled scores, from the scores and the weights' cotangent. -/
def dscore (s p : Fin 256 → EReal) (j : Fin 256) : EReal := soft s j * (p j - ∑ i, p i * soft s i) * κ

/-- The weights of query row `q` in head `h`. -/
def prob (h : Fin 4) (q : Fin 2048 → EReal) (k : Fin 256 → Fin 2048 → EReal) : Fin 256 → EReal :=
  soft (scores (hd h q) (fun i => hd h (k i)))

/-- The scores' cotangent of query row `q` in head `h`. -/
def dsig (h : Fin 4) (q : Fin 2048 → EReal) (k : Fin 256 → Fin 2048 → EReal) (o : Fin 2048 → EReal)
    (v : Fin 256 → Fin 2048 → EReal) : Fin 256 → EReal :=
  dscore (scores (hd h q) (fun i => hd h (k i))) (dprob (hd h o) (fun i => hd h (v i)))

/-- The query's gradient at column `c` of a row. -/
def dqAt (q : Fin 2048 → EReal) (k : Fin 256 → Fin 2048 → EReal) (o : Fin 2048 → EReal)
    (v : Fin 256 → Fin 2048 → EReal) (c : Fin 2048) : EReal := ∑ j, dsig (headOf c) q k o v j * k j c

/-- One row's part of the key's gradient at key `j`, column `c`. -/
def dkTerm (q : Fin 2048 → EReal) (k : Fin 256 → Fin 2048 → EReal) (o : Fin 2048 → EReal)
    (v : Fin 256 → Fin 2048 → EReal) (j : Fin 256) (c : Fin 2048) : EReal := dsig (headOf c) q k o v j * q c

/-- One row's part of the value's gradient at key `j`, column `c`. -/
def dvTerm (q : Fin 2048 → EReal) (k : Fin 256 → Fin 2048 → EReal) (o : Fin 2048 → EReal)
    (j : Fin 256) (c : Fin 2048) : EReal := prob (headOf c) q k j * o c

/-- Row `r` of an array of 2048 columns. -/
def row {n : Nat} (x : (⟨2, ![n, 2048]⟩ : Shape).Idx → EReal) (r : Fin n) : Fin 2048 → EReal := fun c => x (ix2 r c)

end Cert.Attn

end
-- ==== Proof.AttnBlock.lean ====
/-
  One grid point of the attention's backward kernel: what the body leaves in its three output blocks, as the sums
  of `AttnMaths`, from the blocks of the queries, keys, values and cotangent it loads.
-/
module

public import proofs.«01_k».proof.Proof.Gen.KernelIdeal.Value
public import proofs.«01_k».proof.Proof.AttnMaths
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attn

open Idealize.ShloMosaic Idealize.SL.Sem Cert.KernelIdeal Cert.KernelIdeal.Gen

/-! ## The payloads, read at an index -/

section Payloads

variable (a : Vec Ideal S1024x512 .bf16) (b : Vec Ideal S256x512 .bf16) (o : Vec Ideal S1024x512 .bf16)
  (v : Vec Ideal S256x512 .bf16) (acc : Vec Ideal S256x512 .f32)

/-- The weights of head-wide blocks `a`, `b`. -/
def pblk (r : Fin 1024) : Fin 256 → EReal := soft (scores (fun d => a (ix2 r d)) (fun i d => b (ix2 i d)))

/-- The scores' cotangent of head-wide blocks. -/
def dblk (r : Fin 1024) : Fin 256 → EReal :=
  dscore (scores (fun d => a (ix2 r d)) (fun i d => b (ix2 i d))) (dprob (fun d => o (ix2 r d)) (fun i d => v (ix2 i d)))

theorem p8 (r : Fin 1024) (j : Fin 256) : k0_pay8 (F := Ideal) a b (ix2 r j) = pblk a b r j := by
  pointwise [k0_pay8]; rfl
theorem p14 (r : Fin 1024) (j : Fin 256) : k0_pay14 (F := Ideal) a b (ix2 r j) = pblk a b r j := by
  pointwise [k0_pay14]; rfl
theorem p19 (r : Fin 1024) (j : Fin 256) : k0_pay19 (F := Ideal) a b (ix2 r j) = pblk a b r j := by
  pointwise [k0_pay19]; rfl
theorem p26 (r : Fin 1024) (j : Fin 256) : k0_pay1 (F := Ideal) (k0_pay26 a b) (ix2 r j) = pblk a b r j := by
  pointwise [k0_pay1, k0_pay26]; rfl

theorem d9 (r : Fin 1024) (j : Fin 256) : k0_pay9 (F := Ideal) a b o v (ix2 r j) = dblk a b o v r j := by
  pointwise [k0_pay9]; simp only [p8]; rfl
theorem d15 (r : Fin 1024) (j : Fin 256) : k0_pay15 (F := Ideal) a b o v (ix2 r j) = dblk a b o v r j := by
  pointwise [k0_pay15]; simp only [p14]; rfl
theorem d22 (r : Fin 1024) (j : Fin 256) :
    k0_pay22 (F := Ideal) (k0_pay19 a b) (k0_pay20 o v) (k0_pay21 a b o v) (ix2 r j) = dblk a b o v r j := by
  pointwise [k0_pay22, k0_pay20, k0_pay21]; simp only [p19]; rfl
theorem d2 (r : Fin 1024) (j : Fin 256) : k0_pay2 (F := Ideal) o (k0_pay26 a b) v (ix2 r j) = dblk a b o v r j := by
  pointwise [k0_pay2]; simp only [p26]; rfl

theorem q10 (r : Fin 1024) (d : Fin 512) :
    k0_pay10 (F := Ideal) a b o v (ix2 r d) = ∑ j, dblk a b o v r j * b (ix2 j d) := by
  pointwise [k0_pay10]; simp only [d9]
theorem q16 (r : Fin 1024) (d : Fin 512) :
    k0_pay16 (F := Ideal) b (k0_pay15 a b o v) (constant S1024x512 .f32 0#32) (ix2 r d) = ∑ j, dblk a b o v r j * b (ix2 j d) := by
  pointwise [k0_pay16]; simp only [d15]
theorem q23 (r : Fin 1024) (d : Fin 512) :
    k0_pay23 (F := Ideal) b (k0_pay19 a b) (k0_pay20 o v) (k0_pay21 a b o v) (ix2 r d) = ∑ j, dblk a b o v r j * b (ix2 j d) := by
  pointwise [k0_pay23]; simp only [d22]
theorem q3 (r : Fin 1024) (d : Fin 512) :
    k0_pay3 (F := Ideal) b o (k0_pay26 a b) v (ix2 r d) = ∑ j, dblk a b o v r j * b (ix2 j d) := by
  pointwise [k0_pay3]; simp only [d2]

theorem k12 (j : Fin 256) (d : Fin 512) :
    k0_pay12 (F := Ideal) a (k0_pay9 a b o v) (k0_pay11 acc) (constant S256x512 .f32 0#32) (ix2 j d)
      = acc (ix2 j d) + ∑ r, dblk a b o v r j * a (ix2 r d) := by
  pointwise [k0_pay12, k0_pay11]; simp only [d9]
theorem k17 (j : Fin 256) (d : Fin 512) :
    k0_pay17 (F := Ideal) a (k0_pay15 a b o v) acc (ix2 j d) = acc (ix2 j d) + ∑ r, dblk a b o v r j * a (ix2 r d) := by
  pointwise [k0_pay17]; simp only [d15]
theorem k24 (j : Fin 256) (d : Fin 512) :
    k0_pay24 (F := Ideal) a (k0_pay19 a b) (k0_pay20 o v) (k0_pay21 a b o v) acc (ix2 j d)
      = acc (ix2 j d) + ∑ r, dblk a b o v r j * a (ix2 r d) := by
  pointwise [k0_pay24]; simp only [d22]
theorem k4 (j : Fin 256) (d : Fin 512) :
    k0_pay4 (F := Ideal) a o (k0_pay26 a b) v acc (ix2 j d) = acc (ix2 j d) + ∑ r, dblk a b o v r j * a (ix2 r d) := by
  pointwise [k0_pay4]; simp only [d2]

theorem v13 (j : Fin 256) (d : Fin 512) :
    k0_pay13 (F := Ideal) o (k0_pay8 a b) acc (ix2 j d) = acc (ix2 j d) + ∑ r, pblk a b r j * o (ix2 r d) := by
  pointwise [k0_pay13]; simp only [p8]
theorem v18 (j : Fin 256) (d : Fin 512) :
    k0_pay18 (F := Ideal) o (k0_pay14 a b) acc (ix2 j d) = acc (ix2 j d) + ∑ r, pblk a b r j * o (ix2 r d) := by
  pointwise [k0_pay18]; simp only [p14]
theorem v25 (j : Fin 256) (d : Fin 512) :
    k0_pay25 (F := Ideal) o (k0_pay19 a b) acc (ix2 j d) = acc (ix2 j d) + ∑ r, pblk a b r j * o (ix2 r d) := by
  pointwise [k0_pay25]; simp only [p19]
theorem v5 (j : Fin 256) (d : Fin 512) :
    k0_pay5 (F := Ideal) o (k0_pay26 a b) acc (ix2 j d) = acc (ix2 j d) + ∑ r, pblk a b r j * o (ix2 r d) := by
  pointwise [k0_pay5]; simp only [p26]

theorem z6 (j : S256x2048.Idx) : k0_pay6 (F := Ideal) j = 0 := by pointwise [k0_pay6]
theorem z7 (j : S256x2048.Idx) : k0_pay7 (F := Ideal) j = 0 := by pointwise [k0_pay7]

end Payloads

/-! ## From head-wide blocks to the blocks the point holds -/

/-- The index a load or store of head `h`'s columns reaches, from its offset literals. -/
theorem emb_head {n : Nat} (h : Fin 4) (off : Nat) (ho : off = 512 * h.val) (inb)
    (x : (Rect.unit (s := ⟨2, ![n, 2048]⟩) ![0, off] ![n, 512] inb).shape.Idx) :
    (Rect.unit (s := ⟨2, ![n, 2048]⟩) ![0, off] ![n, 512] inb).emb x = ix2 (n0 := n) (x 0) (hc h (x 1)) := by
  subst ho
  refine funext fun i => ?_
  match i with
  | 0 => exact Fin.ext (by simp [Rect.emb, Rect.unit])
  | 1 => exact Fin.ext (by simp [Rect.emb, Rect.unit]; rfl)

section Blocks

variable (x0 : Vec Ideal S1024x2048 .bf16) (x1 x2 : Vec Ideal S256x2048 .bf16) (x3 : Vec Ideal S1024x2048 .bf16)
  (z : Vec Ideal S256x2048 .f32)

/-- The block of the query's gradient. -/
def dqBlk (y : S1024x2048.Idx) : EReal := dqAt (row x0 (y 0)) (row x1) (row x3 (y 0)) (row x2) (y 1)

/-- What a point adds to the key's gradient. -/
def dkBlk (y : S256x2048.Idx) : EReal := ∑ r : Fin 1024, dkTerm (row x0 r) (row x1) (row x3 r) (row x2) (y 0) (y 1)

/-- What a point adds to the value's gradient. -/
def dvBlk (y : S256x2048.Idx) : EReal := ∑ r : Fin 1024, dvTerm (row x0 r) (row x1) (row x3 r) (y 0) (y 1)

/-- The key's gradient after a point, from what the block held. -/
def dkAcc (y : S256x2048.Idx) : EReal := z y + dkBlk x0 x1 x2 x3 y

/-- The value's gradient after a point, from what the block held. -/
def dvAcc (y : S256x2048.Idx) : EReal := z y + dvBlk x0 x1 x3 y

variable {x0 x1 x2 x3 z} (h : Fin 4) {a o : Vec Ideal S1024x512 .bf16} {b v : Vec Ideal S256x512 .bf16} {acc : Vec Ideal S256x512 .f32}

/-- `a` holds head `h`'s columns of `x`. -/
def IsHead {n : Nat} (a : (⟨2, ![n, 512]⟩ : Shape).Idx → EReal) (x : (⟨2, ![n, 2048]⟩ : Shape).Idx → EReal) : Prop :=
  ∀ (r : Fin n) (d : Fin 512), a (ix2 r d) = x (ix2 r (hc h d))

/-- A load of head `h`'s columns holds them. -/
theorem isHead_ld {n : Nat} (off : Nat) (ho : off = 512 * h.val) (inb) (x : (⟨2, ![n, 2048]⟩ : Shape).Idx → Elt Ideal .f32) :
    IsHead h (View.ld (Val := Elt Ideal) (e' := .f32) x (Rect.unit (s := ⟨2, ![n, 2048]⟩) ![0, off] ![n, 512] inb)) x :=
  fun r d => congrArg x (emb_head h off ho inb (ix2 r d))

variable (ha : IsHead h a x0) (hb : IsHead h b x1) (ho : IsHead h o x3) (hv : IsHead h v x2) (hz : IsHead h acc z)

include ha hb in
theorem pblk_head (r : Fin 1024) : pblk a b r = prob h (row x0 r) (row x1) := by
  unfold pblk prob
  have e1 : (fun d => a (ix2 r d)) = hd h (row x0 r) := funext fun d => ha r d
  have e2 : (fun i d => b (ix2 i d)) = fun i => hd h (row x1 i) := funext fun i => funext fun d => hb i d
  rw [e1, e2]

include ha hb ho hv in
theorem dblk_head (r : Fin 1024) : dblk a b o v r = dsig h (row x0 r) (row x1) (row x3 r) (row x2) := by
  unfold dblk dsig
  have e1 : (fun d => a (ix2 r d)) = hd h (row x0 r) := funext fun d => ha r d
  have e2 : (fun i d => b (ix2 i d)) = fun i => hd h (row x1 i) := funext fun i => funext fun d => hb i d
  have e3 : (fun d => o (ix2 r d)) = hd h (row x3 r) := funext fun d => ho r d
  have e4 : (fun i d => v (ix2 i d)) = fun i => hd h (row x2 i) := funext fun i => funext fun d => hv i d
  rw [e1, e2, e3, e4]

include ha hb ho hv in
/-- Head `h`'s part of the query's gradient. -/
theorem dq_piece {pay : Vec Ideal S1024x512 .bf16} (hp : ∀ r d, pay (ix2 r d) = ∑ j, dblk a b o v r j * b (ix2 j d))
    (r : Fin 1024) (d : Fin 512) : pay (ix2 r d) = dqBlk x0 x1 x2 x3 (ix2 r (hc h d)) := by
  rw [hp, dblk_head h ha hb ho hv]
  unfold dqBlk dqAt
  simp only [ix2_0, ix2_1, headOf_hc]
  exact Finset.sum_congr rfl fun j _ => congrArg _ (hb j d)

include ha hb ho hv hz in
/-- Head `h`'s part of the key's gradient, added to what the block held. -/
theorem dk_piece {pay : Vec Ideal S256x512 .f32} (hp : ∀ j d, pay (ix2 j d) = acc (ix2 j d) + ∑ r, dblk a b o v r j * a (ix2 r d))
    (j : Fin 256) (d : Fin 512) : pay (ix2 j d) = dkAcc x0 x1 x2 x3 z (ix2 j (hc h d)) := by
  rw [hp]
  unfold dkAcc dkBlk dkTerm
  simp only [dblk_head h ha hb ho hv, ix2_0, ix2_1, headOf_hc]
  exact congrArg₂ _ (hz j d) (Finset.sum_congr rfl fun r _ => congrArg _ (ha r d))

include ha hb ho hz in
/-- Head `h`'s part of the value's gradient, added to what the block held. -/
theorem dv_piece {pay : Vec Ideal S256x512 .f32} (hp : ∀ j d, pay (ix2 j d) = acc (ix2 j d) + ∑ r, pblk a b r j * o (ix2 r d))
    (j : Fin 256) (d : Fin 512) : pay (ix2 j d) = dvAcc x0 x1 x3 z (ix2 j (hc h d)) := by
  rw [hp]
  unfold dvAcc dvBlk dvTerm
  simp only [pblk_head h ha hb, ix2_0, ix2_1, headOf_hc]
  exact congrArg₂ _ (hz j d) (Finset.sum_congr rfl fun r _ => congrArg _ (ho r d))

end Blocks

/-- A store of one head's columns whose payload is `G` there is a block of `G`. -/
theorem store_head {n : Nat} (h : Fin 4) (off : Nat) (ho : off = 512 * h.val) (inb)
    (G : (⟨2, ![n, 2048]⟩ : Shape).Idx → EReal) (pay : (⟨2, ![n, 512]⟩ : Shape).Idx → EReal)
    (hp : ∀ (r : Fin n) (d : Fin 512), pay (ix2 r d) = G (ix2 r (hc h d)))
    (x : (Rect.unit (s := ⟨2, ![n, 2048]⟩) ![0, off] ![n, 512] inb).shape.Idx) :
    pay x = G ((Rect.unit (s := ⟨2, ![n, 2048]⟩) ![0, off] ![n, 512] inb).emb x) :=
  (congrArg pay (ix2_eta (n0 := n) (n1 := 512) x).symm).trans
    ((hp (x 0) (x 1)).trans (congrArg G (emb_head h off ho inb x)).symm)

/-! ## A grid point's three output blocks -/

section Outs

variable (m : (ℓ : Loc nD τ sig) → Buf (Elt Ideal) ℓ) (c : Dev nD) (t : Fin cfg0.N)

/-- The queries, keys, values and cotangent a point loads. -/
abbrev inQ : Vec Ideal S1024x2048 .bf16 := iblk m c 0 t
abbrev inK : Vec Ideal S256x2048 .bf16 := iblk m c 1 t
abbrev inV : Vec Ideal S256x2048 .bf16 := iblk m c 2 t
abbrev inO : Vec Ideal S1024x2048 .bf16 := iblk m c 3 t

/-- The query's gradient at the first point. -/
theorem outs4_A (h : t.val % 4 = 0) (y : S1024x2048.Idx) :
    (outsAt0 m c t.val t.isLt).1 y = dqBlk (inQ m c t) (inK m c t) (inV m c t) (inO m c t) y := by
  rw [outsAt0_A m c t h]
  frame_open
  simp (disch := decide) only [↓ View.readCov_skip, ↓ View.readCov_cons_toLoadRect, ↓ View.readCov_fill]
  frame_out
  refine View.canon_append_of_piecesOf (Val := Elt Ideal) (e := .bf16) (dqBlk (inQ m c t) (inK m c t) (inV m c t) (inO m c t)) [] [_, _, _, _] ⟨?_, ?_, ?_, ?_, trivial⟩ y ?_
  · exact store_head 3 1536 rfl inb_S1024x2048_S1024x512_0_1536 _ _ (dq_piece 3 (isHead_ld 3 1536 rfl _ _) (isHead_ld 3 1536 rfl _ _) (isHead_ld 3 1536 rfl _ _) (isHead_ld 3 1536 rfl _ _) (q3 _ _ _ _))
  · exact store_head 2 1024 rfl inb_S1024x2048_S1024x512_0_1024 _ _ (dq_piece 2 (isHead_ld 2 1024 rfl _ _) (isHead_ld 2 1024 rfl _ _) (isHead_ld 2 1024 rfl _ _) (isHead_ld 2 1024 rfl _ _) (q23 _ _ _ _))
  · exact store_head 1 512 rfl inb_S1024x2048_S1024x512_0_512 _ _ (dq_piece 1 (isHead_ld 1 512 rfl _ _) (isHead_ld 1 512 rfl _ _) (isHead_ld 1 512 rfl _ _) (isHead_ld 1 512 rfl _ _) (q16 _ _ _ _))
  · exact store_head 0 0 rfl inb_S1024x2048_S1024x512_0_0 _ _ (dq_piece 0 (isHead_ld 0 0 rfl _ _) (isHead_ld 0 0 rfl _ _) (isHead_ld 0 0 rfl _ _) (isHead_ld 0 0 rfl _ _) (q10 _ _ _ _))
  · exact View.cover_of_tiledL _ ![1024, 512] (by rfl) y

/-- The query's gradient at a later point. -/
theorem outs4_B (h : ¬t.val % 4 = 0) (y : S1024x2048.Idx) :
    (outsAt0 m c t.val t.isLt).1 y = dqBlk (inQ m c t) (inK m c t) (inV m c t) (inO m c t) y := by
  rw [outsAt0_B m c t h]
  frame_open
  simp (disch := decide) only [↓ View.readCov_skip, ↓ View.readCov_cons_toLoadRect, ↓ View.readCov_fill]
  frame_out
  refine View.canon_append_of_piecesOf (Val := Elt Ideal) (e := .bf16) (dqBlk (inQ m c t) (inK m c t) (inV m c t) (inO m c t)) [] [_, _, _, _] ⟨?_, ?_, ?_, ?_, trivial⟩ y ?_
  · exact store_head 3 1536 rfl inb_S1024x2048_S1024x512_0_1536 _ _ (dq_piece 3 (isHead_ld 3 1536 rfl _ _) (isHead_ld 3 1536 rfl _ _) (isHead_ld 3 1536 rfl _ _) (isHead_ld 3 1536 rfl _ _) (q3 _ _ _ _))
  · exact store_head 2 1024 rfl inb_S1024x2048_S1024x512_0_1024 _ _ (dq_piece 2 (isHead_ld 2 1024 rfl _ _) (isHead_ld 2 1024 rfl _ _) (isHead_ld 2 1024 rfl _ _) (isHead_ld 2 1024 rfl _ _) (q23 _ _ _ _))
  · exact store_head 1 512 rfl inb_S1024x2048_S1024x512_0_512 _ _ (dq_piece 1 (isHead_ld 1 512 rfl _ _) (isHead_ld 1 512 rfl _ _) (isHead_ld 1 512 rfl _ _) (isHead_ld 1 512 rfl _ _) (q16 _ _ _ _))
  · exact store_head 0 0 rfl inb_S1024x2048_S1024x512_0_0 _ _ (dq_piece 0 (isHead_ld 0 0 rfl _ _) (isHead_ld 0 0 rfl _ _) (isHead_ld 0 0 rfl _ _) (isHead_ld 0 0 rfl _ _) (q10 _ _ _ _))
  · exact View.cover_of_tiledL _ ![1024, 512] (by rfl) y

/-- The key's gradient after the first point: that point's part, over zeros. -/
theorem outs5_A (h : t.val % 4 = 0) (y : S256x2048.Idx) :
    (outsAt0 m c t.val t.isLt).2.1 y = dkAcc (inQ m c t) (inK m c t) (inV m c t) (inO m c t) (k0_pay6 (F := Ideal)) y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (dkAcc (inQ m c t) (inK m c t) (inV m c t) (inO m c t) (k0_pay6 (F := Ideal))) [⟨Rect.unit ![0, 0] ![256, 2048] _, k0_pay6 (F := Ideal)⟩] [_, _, _, _] ⟨?_, ?_, ?_, ?_, trivial⟩ y ?_
  · exact store_head 3 1536 rfl inb_S256x2048_S256x512_0_1536 _ _ (dk_piece 3 (isHead_ld 3 1536 rfl _ _) (isHead_ld 3 1536 rfl _ _) (isHead_ld 3 1536 rfl _ _) (isHead_ld 3 1536 rfl _ _) (isHead_ld 3 1536 rfl _ _) (k4 _ _ _ _ _))
  · exact store_head 2 1024 rfl inb_S256x2048_S256x512_0_1024 _ _ (dk_piece 2 (isHead_ld 2 1024 rfl _ _) (isHead_ld 2 1024 rfl _ _) (isHead_ld 2 1024 rfl _ _) (isHead_ld 2 1024 rfl _ _) (isHead_ld 2 1024 rfl _ _) (k24 _ _ _ _ _))
  · exact store_head 1 512 rfl inb_S256x2048_S256x512_0_512 _ _ (dk_piece 1 (isHead_ld 1 512 rfl _ _) (isHead_ld 1 512 rfl _ _) (isHead_ld 1 512 rfl _ _) (isHead_ld 1 512 rfl _ _) (isHead_ld 1 512 rfl _ _) (k17 _ _ _ _ _))
  · exact store_head 0 0 rfl inb_S256x2048_S256x512_0_0 _ _ (dk_piece 0 (isHead_ld 0 0 rfl _ _) (isHead_ld 0 0 rfl _ _) (isHead_ld 0 0 rfl _ _) (isHead_ld 0 0 rfl _ _) (isHead_ld 0 0 rfl _ _) (k12 _ _ _ _ _))
  · exact View.cover_of_tiledL _ ![256, 512] (by rfl) y

/-- The key's gradient after a later point: what it was, and that point's part. -/
theorem outs5_B (h : ¬t.val % 4 = 0) (y : S256x2048.Idx) :
    (outsAt0 m c t.val t.isLt).2.1 y = dkAcc (inQ m c t) (inK m c t) (inV m c t) (inO m c t) ((outsAt0 m c (t.val - 1) (Nat.lt_of_le_of_lt (Nat.sub_le _ _) t.isLt)).2.1) y := by
  rw [outsAt0_B m c t h]
  frame_open
  simp (disch := decide) only [↓ View.readCov_skip, ↓ View.readCov_cons_toLoadRect, ↓ View.readCov_fill]
  frame_out
  refine View.canon_append_of_piecesOf (Val := Elt Ideal) (e := .f32) (dkAcc (inQ m c t) (inK m c t) (inV m c t) (inO m c t) ((outsAt0 m c (t.val - 1) (Nat.lt_of_le_of_lt (Nat.sub_le _ _) t.isLt)).2.1)) [] [_, _, _, _] ⟨?_, ?_, ?_, ?_, trivial⟩ y ?_
  · exact store_head 3 1536 rfl inb_S256x2048_S256x512_0_1536 _ _ (dk_piece 3 (isHead_ld 3 1536 rfl _ _) (isHead_ld 3 1536 rfl _ _) (isHead_ld 3 1536 rfl _ _) (isHead_ld 3 1536 rfl _ _) (isHead_ld 3 1536 rfl _ _) (k4 _ _ _ _ _))
  · exact store_head 2 1024 rfl inb_S256x2048_S256x512_0_1024 _ _ (dk_piece 2 (isHead_ld 2 1024 rfl _ _) (isHead_ld 2 1024 rfl _ _) (isHead_ld 2 1024 rfl _ _) (isHead_ld 2 1024 rfl _ _) (isHead_ld 2 1024 rfl _ _) (k24 _ _ _ _ _))
  · exact store_head 1 512 rfl inb_S256x2048_S256x512_0_512 _ _ (dk_piece 1 (isHead_ld 1 512 rfl _ _) (isHead_ld 1 512 rfl _ _) (isHead_ld 1 512 rfl _ _) (isHead_ld 1 512 rfl _ _) (isHead_ld 1 512 rfl _ _) (k17 _ _ _ _ _))
  · exact store_head 0 0 rfl inb_S256x2048_S256x512_0_0 _ _ (dk_piece 0 (isHead_ld 0 0 rfl _ _) (isHead_ld 0 0 rfl _ _) (isHead_ld 0 0 rfl _ _) (isHead_ld 0 0 rfl _ _) (isHead_ld 0 0 rfl _ _) (k12 _ _ _ _ _))
  · exact View.cover_of_tiledL _ ![256, 512] (by rfl) y

/-- The value's gradient after the first point: that point's part, over zeros. -/
theorem outs6_A (h : t.val % 4 = 0) (y : S256x2048.Idx) :
    (outsAt0 m c t.val t.isLt).2.2 y = dvAcc (inQ m c t) (inK m c t) (inO m c t) (k0_pay7 (F := Ideal)) y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (dvAcc (inQ m c t) (inK m c t) (inO m c t) (k0_pay7 (F := Ideal))) [⟨Rect.unit ![0, 0] ![256, 2048] _, k0_pay7 (F := Ideal)⟩] [_, _, _, _] ⟨?_, ?_, ?_, ?_, trivial⟩ y ?_
  · exact store_head 3 1536 rfl inb_S256x2048_S256x512_0_1536 _ _ (dv_piece 3 (isHead_ld 3 1536 rfl _ _) (isHead_ld 3 1536 rfl _ _) (isHead_ld 3 1536 rfl _ _) (isHead_ld 3 1536 rfl _ _) (v5 _ _ _ _))
  · exact store_head 2 1024 rfl inb_S256x2048_S256x512_0_1024 _ _ (dv_piece 2 (isHead_ld 2 1024 rfl _ _) (isHead_ld 2 1024 rfl _ _) (isHead_ld 2 1024 rfl _ _) (isHead_ld 2 1024 rfl _ _) (v25 _ _ _ _))
  · exact store_head 1 512 rfl inb_S256x2048_S256x512_0_512 _ _ (dv_piece 1 (isHead_ld 1 512 rfl _ _) (isHead_ld 1 512 rfl _ _) (isHead_ld 1 512 rfl _ _) (isHead_ld 1 512 rfl _ _) (v18 _ _ _ _))
  · exact store_head 0 0 rfl inb_S256x2048_S256x512_0_0 _ _ (dv_piece 0 (isHead_ld 0 0 rfl _ _) (isHead_ld 0 0 rfl _ _) (isHead_ld 0 0 rfl _ _) (isHead_ld 0 0 rfl _ _) (v13 _ _ _ _))
  · exact View.cover_of_tiledL _ ![256, 512] (by rfl) y

/-- The value's gradient after a later point: what it was, and that point's part. -/
theorem outs6_B (h : ¬t.val % 4 = 0) (y : S256x2048.Idx) :
    (outsAt0 m c t.val t.isLt).2.2 y = dvAcc (inQ m c t) (inK m c t) (inO m c t) ((outsAt0 m c (t.val - 1) (Nat.lt_of_le_of_lt (Nat.sub_le _ _) t.isLt)).2.2) y := by
  rw [outsAt0_B m c t h]
  frame_open
  simp (disch := decide) only [↓ View.readCov_skip, ↓ View.readCov_cons_toLoadRect, ↓ View.readCov_fill]
  frame_out
  refine View.canon_append_of_piecesOf (Val := Elt Ideal) (e := .f32) (dvAcc (inQ m c t) (inK m c t) (inO m c t) ((outsAt0 m c (t.val - 1) (Nat.lt_of_le_of_lt (Nat.sub_le _ _) t.isLt)).2.2)) [] [_, _, _, _] ⟨?_, ?_, ?_, ?_, trivial⟩ y ?_
  · exact store_head 3 1536 rfl inb_S256x2048_S256x512_0_1536 _ _ (dv_piece 3 (isHead_ld 3 1536 rfl _ _) (isHead_ld 3 1536 rfl _ _) (isHead_ld 3 1536 rfl _ _) (isHead_ld 3 1536 rfl _ _) (v5 _ _ _ _))
  · exact store_head 2 1024 rfl inb_S256x2048_S256x512_0_1024 _ _ (dv_piece 2 (isHead_ld 2 1024 rfl _ _) (isHead_ld 2 1024 rfl _ _) (isHead_ld 2 1024 rfl _ _) (isHead_ld 2 1024 rfl _ _) (v25 _ _ _ _))
  · exact store_head 1 512 rfl inb_S256x2048_S256x512_0_512 _ _ (dv_piece 1 (isHead_ld 1 512 rfl _ _) (isHead_ld 1 512 rfl _ _) (isHead_ld 1 512 rfl _ _) (isHead_ld 1 512 rfl _ _) (v18 _ _ _ _))
  · exact store_head 0 0 rfl inb_S256x2048_S256x512_0_0 _ _ (dv_piece 0 (isHead_ld 0 0 rfl _ _) (isHead_ld 0 0 rfl _ _) (isHead_ld 0 0 rfl _ _) (isHead_ld 0 0 rfl _ _) (v13 _ _ _ _))
  · exact View.cover_of_tiledL _ ![256, 512] (by rfl) y

end Outs

end Cert.Attn
end
-- ==== Proof.AttnArrays.lean ====
/-
  The three arrays after the backward kernel's run: every row block of the query's gradient, and the key's and the
  value's gradients summed over all 4096 rows.
-/
module

public import proofs.«01_k».proof.Proof.AttnBlock

@[expose] public section

set_option maxRecDepth 16384

noncomputable section

namespace Cert.Attn

open Idealize.ShloMosaic Idealize.SL.Sem Cert.KernelIdeal Cert.KernelIdeal.Gen

variable (m : (ℓ : Loc nD τ sig) → Buf (Elt Ideal) ℓ) (c : Dev nD)

/-- The four arguments. -/
abbrev argQ : S4096x2048.Idx → EReal := m ((c.tc : Thread nD τ).loc main_arg0)
abbrev argK : S256x2048.Idx → EReal := m ((c.tc : Thread nD τ).loc main_arg1)
abbrev argV : S256x2048.Idx → EReal := m ((c.tc : Thread nD τ).loc main_arg2)
abbrev argO : S4096x2048.Idx → EReal := m ((c.tc : Thread nD τ).loc main_arg3)

/-- Which block each window holds at a point. -/
theorem idx (t : Fin cfg0.N) : win0_0.index t = ![t.val, 0] ∧ win0_1.index t = ![0, 0] ∧ win0_2.index t = ![0, 0]
    ∧ win0_3.index t = ![t.val, 0] ∧ win0_4.index t = ![t.val, 0] := by
  revert t; decide +kernel

theorem inQ_apply (t : Fin cfg0.N) (r : Fin 1024) (d : Fin 2048) (h : t.val * 1024 + r.val < 4096) :
    iblk m c 0 t (ix2 r d : S1024x2048.Idx) = m ((c.tc : Thread nD τ).loc main_arg0) (ix2 ⟨t.val * 1024 + r.val, h⟩ d : S4096x2048.Idx) := by
  blk_ext [iblk, V, idx t]

theorem inO_apply (t : Fin cfg0.N) (r : Fin 1024) (d : Fin 2048) (h : t.val * 1024 + r.val < 4096) :
    iblk m c 3 t (ix2 r d : S1024x2048.Idx) = m ((c.tc : Thread nD τ).loc main_arg3) (ix2 ⟨t.val * 1024 + r.val, h⟩ d : S4096x2048.Idx) := by
  blk_ext [iblk, V, idx t]

theorem inK_apply (t : Fin cfg0.N) (r : Fin 256) (d : Fin 2048) :
    iblk m c 1 t (ix2 r d : S256x2048.Idx) = m ((c.tc : Thread nD τ).loc main_arg1) (ix2 r d : S256x2048.Idx) := by
  blk_ext [iblk, V, idx t]

theorem inV_apply (t : Fin cfg0.N) (r : Fin 256) (d : Fin 2048) :
    iblk m c 2 t (ix2 r d : S256x2048.Idx) = m ((c.tc : Thread nD τ).loc main_arg2) (ix2 r d : S256x2048.Idx) := by
  blk_ext [iblk, V, idx t]

theorem row_inQ (t : Fin cfg0.N) (r : Fin 1024) (h : t.val * 1024 + r.val < 4096) :
    row (inQ m c t) r = row (argQ m c) ⟨t.val * 1024 + r.val, h⟩ := funext fun d => inQ_apply m c t r d h

theorem row_inO (t : Fin cfg0.N) (r : Fin 1024) (h : t.val * 1024 + r.val < 4096) :
    row (inO m c t) r = row (argO m c) ⟨t.val * 1024 + r.val, h⟩ := funext fun d => inO_apply m c t r d h

theorem row_inK (t : Fin cfg0.N) : row (inK m c t) = row (argK m c) := funext fun r => funext fun d => inK_apply m c t r d

theorem row_inV (t : Fin cfg0.N) : row (inV m c t) = row (argV m c) := funext fun r => funext fun d => inV_apply m c t r d

/-- The query's gradient at every point. -/
theorem outs4 (t : Fin cfg0.N) (y : S1024x2048.Idx) :
    (outsAt0 m c t.val t.isLt).1 y = dqBlk (inQ m c t) (inK m c t) (inV m c t) (inO m c t) y := by
  by_cases h : t.val % 4 = 0
  · exact outs4_A m c t h y
  · exact outs4_B m c t h y

/-- The array of the query's gradient. -/
def dqArr : S4096x2048.Idx → EReal := fun i => dqAt (row (argQ m c) (i 0)) (row (argK m c)) (row (argO m c) (i 0)) (row (argV m c)) (i 1)

/-- The array of the key's gradient. -/
def dkArr : S256x2048.Idx → EReal := fun i =>
  ∑ r : Fin 4096, dkTerm (row (argQ m c) r) (row (argK m c)) (row (argO m c) r) (row (argV m c)) (i 0) (i 1)

/-- The array of the value's gradient. -/
def dvArr : S256x2048.Idx → EReal := fun i =>
  ∑ r : Fin 4096, dvTerm (row (argQ m c) r) (row (argK m c)) (row (argO m c) r) (i 0) (i 1)

theorem dqBlk_eq (t : Fin cfg0.N) (r : Fin 1024) (d : Fin 2048) (h : t.val * 1024 + r.val < 4096) :
    dqBlk (inQ m c t) (inK m c t) (inV m c t) (inO m c t) (ix2 r d) = dqArr m c (ix2 ⟨t.val * 1024 + r.val, h⟩ d) := by
  unfold dqBlk dqArr
  simp only [ix2_0, ix2_1, row_inK, row_inV, row_inQ m c t r h, row_inO m c t r h]

/-- The query's gradient after the run. -/
theorem arr4 : (dats m 0 c).arrAt 4 cfg0.N = dqArr m c := by
  refine (dats m 0 c).arrAt_eq_of_covers 4 _ (by decide +kernel) fun t hf y => ?_
  blk_simp
  rw [after0_4, outs4]
  have hy : y = (ix2 (y 0) (y 1) : S1024x2048.Idx) := (ix2_eta (n0 := 1024) (n1 := 2048) y).symm
  have ht : t.val < 4 := t.isLt
  have hr : (y 0).val < 1024 := (y 0).isLt
  have hb : t.val * 1024 + (y 0).val < 4096 := by omega
  refine (congrArg _ hy).trans ((dqBlk_eq m c t (y 0) (y 1) hb).trans (congrArg (dqArr m c) ?_))
  blk_ext [idx t]

/-- A sum over the points' rows is the sum over all rows. -/
theorem rows_sum (F : Fin cfg0.N → Fin 1024 → EReal) (f : Fin 4096 → EReal)
    (h : ∀ (t : Fin cfg0.N) (r : Fin 1024) (hl : t.val * 1024 + r.val < 4096), F t r = f ⟨t.val * 1024 + r.val, hl⟩) :
    ∑ t, ∑ r, F t r = ∑ r, f r :=
  Fin.sum_mul_add_congr (S := 4) (n := 1024) (L := 4096) (F := F) h

/-- The key's gradient after the run. -/
theorem arr5 : (dats m 0 c).arrAt 5 cfg0.N = dkArr m c := by
  refine (dats m 0 c).arrAt_eq_of_after_last 5 t0_3 (by decide +kernel) _ fun j => ?_
  blk_simp
  rw [after0_5]
  rw [Pipeline.eq_sum_fin_of_reset_step_apply_last (fun n h => (outsAt0 m c n h).2.1) 4 (fun _ => (0 : EReal))
    (fun t => dkBlk (inQ m c t) (inK m c t) (inV m c t) (inO m c t))
    (fun t h y => by rw [outs5_A m c t h y]; exact congrArg (· + _) (z6 y))
    (fun t h y => outs5_B m c t h y) (le_of_eq rfl) t0_3 rfl, zero_add]
  refine rows_sum _ _ fun t r h => ?_
  rw [row_inK m c t, row_inV m c t, row_inQ m c t r h, row_inO m c t r h]

/-- The value's gradient after the run. -/
theorem arr6 : (dats m 0 c).arrAt 6 cfg0.N = dvArr m c := by
  refine (dats m 0 c).arrAt_eq_of_after_last 6 t0_3 (by decide +kernel) _ fun j => ?_
  blk_simp
  rw [after0_6]
  rw [Pipeline.eq_sum_fin_of_reset_step_apply_last (fun n h => (outsAt0 m c n h).2.2) 4 (fun _ => (0 : EReal))
    (fun t => dvBlk (inQ m c t) (inK m c t) (inO m c t))
    (fun t h y => by rw [outs6_A m c t h y]; exact congrArg (· + _) (z7 y))
    (fun t h y => outs6_B m c t h y) (le_of_eq rfl) t0_3 rfl, zero_add]
  refine rows_sum _ _ fun t r h => ?_
  rw [row_inK m c t, row_inQ m c t r h, row_inO m c t r h]

end Cert.Attn
end
-- ==== Proof.AttnGradient.lean ====
/-
  The softmax's gradient in its two forms. With real scores the weights are positive reals over a positive real sum,
  so the division by that sum passes through the row's total — whatever the weights' cotangent holds, infinities too.
-/
module

public import proofs.«01_k».proof.Proof.AttnMaths

@[expose] public section

noncomputable section

namespace Cert.Attn

open Idealize.ShloMosaic

theorem negInf : Ideal.ofBits .f32 0xFF800000#32 = ⊥ := by simp [Ideal.ofBits, Ideal.ieee]

theorem posInf : Ideal.ofBits .f32 0x7F800000#32 = ⊤ := by simp [Ideal.ofBits, Ideal.ieee]

/-- `κ` is a real. -/
theorem κ_real : ∃ x : ℝ, κ = x := by
  unfold κ
  simp only [Ideal.ofBits, Ideal.ieee]
  rw [if_neg (by decide), if_neg (by decide)]
  exact ⟨_, rfl⟩

/-- The sum of reals, among the extended reals. -/
theorem sum_coe {n : Nat} (g : Fin n → ℝ) : ∑ i, (g i : EReal) = ((∑ i, g i : ℝ) : EReal) := by
  classical
  induction (Finset.univ : Finset (Fin n)) using Finset.induction_on with
  | empty => simp
  | insert a s ha ih => rw [Finset.sum_insert ha, Finset.sum_insert ha, ih, EReal.coe_add]

/-- A sum of reals is a real. -/
theorem sum_real {n : Nat} (f : Fin n → EReal) (h : ∀ i, ∃ x : ℝ, f i = x) : ∃ x : ℝ, ∑ i, f i = x := by
  choose g hg using h
  exact ⟨∑ i, g i, by rw [Finset.sum_congr rfl fun i _ => hg i, sum_coe]⟩

/-- The largest of 256 reals is a real. -/
theorem top_real (s : Fin 256 → EReal) (h : ∀ i, ∃ x : ℝ, s i = x) : ∃ x : ℝ, top s = x := by
  choose g hg using h
  have hs : s = fun i => (g i : EReal) := funext hg
  have e : top s = Finset.univ.sup s := by unfold top; rw [negInf]; rfl
  obtain ⟨i, -, hi⟩ := Finset.exists_mem_eq_sup Finset.univ ⟨(0 : Fin 256), Finset.mem_univ _⟩ s
  exact ⟨g i, by rw [e, hi, hg]⟩

/-- A real factor that is not negative goes into a sum. -/
theorem sum_mul_real {n : Nat} (f : Fin n → EReal) (c : ℝ) (hc : 0 ≤ c) : (∑ i, f i) * (c : EReal) = ∑ i, f i * (c : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- Division by a real that is not zero. -/
theorem div_real (x : EReal) (l : ℝ) (hl : l ≠ 0) : Ideal.div x (l : EReal) = x * ((l⁻¹ : ℝ) : EReal) := by
  unfold Ideal.div
  rw [if_neg (by exact_mod_cast hl), EReal.coe_inv]

/-- The reverse pass of the softmax as it is derived — the quotient's two cotangents, the sum's cotangent spread over
    the row — is the weight times what its cotangent exceeds the weighted mean by. -/
theorem dscore_eq (s p : Fin 256 → EReal) (h : ∀ i, ∃ x : ℝ, s i = x) (j : Fin 256) :
    (Ideal.div (p j) (∑ i, expo s i) + -∑ i, p i * Ideal.div 1 ((∑ i, expo s i) * ∑ i, expo s i) * expo s i) * expo s j * κ
      = dscore s p j := by
  obtain ⟨t, ht⟩ := top_real s h
  choose g hg using h
  have he : ∀ i, expo s i = ((Real.exp (g i - t) : ℝ) : EReal) := fun i => by
    unfold expo; rw [hg, ht, ← EReal.coe_sub]; rfl
  generalize ha : (fun i => Real.exp (g i - t)) = a
  have he : ∀ i, expo s i = (a i : EReal) := fun i => by rw [he, ← ha]
  have hpos : ∀ i, 0 < a i := fun i => by rw [← ha]; exact Real.exp_pos _
  have hL : ∑ i, expo s i = ((∑ i, a i : ℝ) : EReal) := by
    rw [Finset.sum_congr rfl fun i _ => he i, sum_coe]
  have hl : 0 < ∑ i, a i := Finset.sum_pos (fun i _ => hpos i) ⟨0, Finset.mem_univ _⟩
  unfold dscore soft
  rw [hL]
  generalize (∑ i, a i) = l at hl
  have hl0 : l ≠ 0 := hl.ne'
  have hc : (0 : ℝ) ≤ l⁻¹ := (inv_pos.mpr hl).le
  simp only [he]
  rw [← EReal.coe_mul]
  simp only [div_real _ l hl0, div_real _ (l * l) (mul_ne_zero hl0 hl0), one_mul]
  have hsum : ∑ i, p i * (((l * l)⁻¹ : ℝ) : EReal) * (a i : EReal) = (∑ i, p i * ((a i : EReal) * ((l⁻¹ : ℝ) : EReal))) * ((l⁻¹ : ℝ) : EReal) := by
    rw [sum_mul_real _ _ hc]
    refine Finset.sum_congr rfl fun i _ => ?_
    rw [mul_inv, EReal.coe_mul]; ac_rfl
  rw [hsum, ← EReal.neg_mul, ← EReal.right_distrib_of_nonneg_of_ne_top (EReal.coe_nonneg.mpr hc) (EReal.coe_ne_top _), ← sub_eq_add_neg]
  ac_rfl

/-- Scores of real queries and keys are reals. -/
theorem scores_real (a : Fin 512 → EReal) (b : Fin 256 → Fin 512 → EReal) (ha : ∀ d, ∃ x : ℝ, a d = x)
    (hb : ∀ i d, ∃ x : ℝ, b i d = x) (j : Fin 256) : ∃ x : ℝ, scores a b j = x := by
  obtain ⟨k, hk⟩ := κ_real
  obtain ⟨t, ht⟩ := sum_real (fun d => a d * b j d) fun d => by
    obtain ⟨x, hx⟩ := ha d; obtain ⟨y, hy⟩ := hb j d
    exact ⟨x * y, by rw [hx, hy, EReal.coe_mul]⟩
  exact ⟨t * k, by unfold scores; rw [ht, hk, EReal.coe_mul]⟩

/-- An extended real whose absolute value is below `+∞` is a real. -/
theorem real_of_abs_lt (x : EReal) (h : Ideal.cmp .olt (max x (-x)) (Ideal.ofBits .f32 0x7F800000#32) = 1#1) : ∃ y : ℝ, x = y := by
  induction x using EReal.rec with
  | bot => simp [posInf, Ideal.cmp] at h
  | top => simp [posInf, Ideal.cmp] at h
  | coe y => exact ⟨y, rfl⟩

end Cert.Attn

end
-- ==== Proof.AttnReference.lean ====
/-
  The reference's three results, stage by stage, as the sums of `AttnMaths`.
-/
module

public import proofs.«01_k».proof.Proof.Gen.ReferenceIdeal.Read
public import proofs.«01_k».proof.Proof.AttnGradient
public import Idealize.ShloMosaic.Lib.Pointwise

@[expose] public section

set_option maxRecDepth 16384

noncomputable section

namespace Cert.Attn

open Idealize.ShloMosaic Idealize.SL.Sem Cert.ReferenceIdeal Cert.ReferenceIdeal.Gen Cert.ReferenceIdeal.Read

variable (X0 : S4096x2048.Idx → EReal) (X1 X2 : S256x2048.Idx → EReal) (X3 : S4096x2048.Idx → EReal)

/-- The scores of row `r` of `X0` against `X1` in head `h`. -/
abbrev sc (h : Fin 4) (r : Fin 4096) : Fin 256 → EReal := scores (hd h (row X0 r)) (fun i => hd h (row X1 i))

/-- The weights' cotangent of row `r` in head `h`. -/
abbrev pc (h : Fin 4) (r : Fin 4096) : Fin 256 → EReal := dprob (hd h (row X3 r)) (fun i => hd h (row X2 i))

/-- A column of a head, as the row-major flattening of a row's heads numbers it. -/
theorem hc_flat (h : Fin 4) (d : Fin 512) (p : h.val * 512 + d.val < 2048) : (⟨h.val * 512 + d.val, p⟩ : Fin 2048) = hc h d :=
  Fin.ext (by simp only [hc]; omega)

theorem r9 (h : Fin 4) (r : Fin 4096) (j : Fin 256) : val_main_v9 (F := Ideal) X0 X1 (ix3 h r j) = sc X0 X1 h r j := by
  pointwise [val_main_v9, val_main_v7, val_main_v8, val_main_v4, val_main_v5, val_main_v0, val_main_v1, val_main_cst]
  simp only [hc_flat]; rfl

theorem r10 (h : Fin 4) (r : Fin 4096) : val_main_v10 (F := Ideal) X0 X1 (ix2 h r) = top (sc X0 X1 h r) := by
  have e : val_main_v9 (F := Ideal) X0 X1 = fun i : S4x4096x256.Idx => sc X0 X1 (i 0) (i 1) (i 2) := by
    funext i; idx_vars i; exact r9 X0 X1 _ _ _
  unfold val_main_v10
  rw [e]
  pointwise
  rfl

theorem r30 (h : Fin 4) (r : Fin 4096) (j : Fin 256) : val_main_v30 (F := Ideal) X0 X1 (ix3 h r j) = expo (sc X0 X1 h r) j := by
  have e9 : val_main_v9 (F := Ideal) X0 X1 = fun i : S4x4096x256.Idx => sc X0 X1 (i 0) (i 1) (i 2) := by
    funext i; idx_vars i; exact r9 X0 X1 _ _ _
  have e10 : val_main_v10 (F := Ideal) X0 X1 = fun i : S4x4096.Idx => top (sc X0 X1 (i 0) (i 1)) := by
    funext i; idx_vars i; exact r10 X0 X1 _ _
  unfold val_main_v30 val_main_v29 val_main_v28 val_main_v27 val_main_v17 val_main_v16 val_main_cst_2
  rw [e9, e10]
  pointwise
  simp only [negInf]
  rw [max_eq_right bot_le]; rfl

theorem r31 (h : Fin 4) (r : Fin 4096) : val_main_v31 (F := Ideal) X0 X1 (ix2 h r) = ∑ i, expo (sc X0 X1 h r) i := by
  pointwise [val_main_v31, val_main_cst_8]
  simp only [r30]

theorem r34 (h : Fin 4) (r : Fin 4096) (j : Fin 256) : val_main_v34 (F := Ideal) X0 X1 (ix3 h r j) = soft (sc X0 X1 h r) j := by
  pointwise [val_main_v34, val_main_v33, val_main_v32]
  simp only [r30, r31]; rfl

theorem r43 (h : Fin 4) (r : Fin 4096) (j : Fin 256) : val_main_v43 (F := Ideal) X2 X3 (ix3 h r j) = pc X2 X3 h r j := by
  pointwise [val_main_v43, val_main_v42, val_main_v41, val_main_v6, val_main_v2, val_main_v3]
  simp only [hc_flat]; rfl

/-- The queries and keys are reals. -/
abbrev Reals : Prop := (∀ i, ∃ x : ℝ, X0 i = x) ∧ ∀ i, ∃ x : ℝ, X1 i = x

theorem r59 (hf : Reals X0 X1) (h : Fin 4) (r : Fin 4096) (j : Fin 256) :
    val_main_v59 (F := Ideal) X0 X1 X2 X3 (ix3 h r j) = dscore (sc X0 X1 h r) (pc X2 X3 h r) j := by
  pointwise [val_main_v59, val_main_v58, val_main_v57, val_main_v56, val_main_v55, val_main_v54, val_main_v53, val_main_v52,
    val_main_v51, val_main_v50, val_main_v49, val_main_v48, val_main_v47, val_main_v46, val_main_v37, val_main_v36,
    val_main_v35, val_main_v32, val_main_cst_10, val_main_cst_11, val_main_cst_12, val_main_cst_9]
  simp only [r30, r31, r43, Finset.univ_unique, Finset.sum_singleton]
  exact dscore_eq _ _ (scores_real _ _ (fun d => hf.1 _) (fun i d => hf.2 _)) j

/-- The query's gradient. -/
theorem ref_dq (hf : Reals X0 X1) (r : Fin 4096) (d : Fin 2048) :
    val_main_v67 (F := Ideal) X0 X1 X2 X3 (ix2 r d) = dqAt (row X0 r) (row X1) (row X3 r) (row X2) d := by
  pointwise [val_main_v67, val_main_v66, val_main_v63, val_main_v62, val_main_v5, val_main_v1]
  simp only [r59 X0 X1 X2 X3 hf]; rfl

/-- The key's gradient. -/
theorem ref_dk (hf : Reals X0 X1) (j : Fin 256) (d : Fin 2048) :
    val_main_v65 (F := Ideal) X0 X1 X2 X3 (ix2 j d) = ∑ r : Fin 4096, dkTerm (row X0 r) (row X1) (row X3 r) (row X2) j d := by
  pointwise [val_main_v65, val_main_v61, val_main_v60, val_main_v4, val_main_v0]
  simp only [r59 X0 X1 X2 X3 hf]; rfl

/-- The value's gradient. -/
theorem ref_dv (j : Fin 256) (d : Fin 2048) :
    val_main_v64 (F := Ideal) X0 X1 X3 (ix2 j d) = ∑ r : Fin 4096, dvTerm (row X0 r) (row X1) (row X3 r) j d := by
  pointwise [val_main_v64, val_main_v45, val_main_v44, val_main_v42, val_main_v41, val_main_v3]
  simp only [r34]
  exact Finset.sum_congr rfl fun r _ => mul_comm _ _

end Cert.Attn

end
-- ==== Proof.AttnClaim.lean ====
/-
  The claims on the attention's backward pass: the frames of the kernel, of its idealization and of the reference, and
  the equality of the three gradients.
-/
module

public import proofs.«01_k».proof.Proof.AttnArrays
public import proofs.«01_k».proof.Proof.AttnReference
public import proofs.«01_k».proof.Proof.Gen.Kernel.Frame
public import proofs.«01_k».proof.Defs

@[expose] public section

set_option maxRecDepth 16384

noncomputable section

namespace Cert.Attn

open Idealize.ShloMosaic Idealize.SL.Sem

/-- The precondition's side conditions. -/
theorem finiteFacts : Cert.Pre_finite.Facts := ⟨by decide, by decide, by decide⟩

/-- The kernel terminates without a fault and keeps its arguments. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- The reference terminates and keeps its arguments; it has no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The precondition says that the queries and the keys are real numbers. -/
theorem reals_of_pre {q : FVec Ideal Cert.Pre_finite.S4096x2048 .bf16} {k v : FVec Ideal Cert.Pre_finite.S256x2048 .bf16}
    {o : FVec Ideal Cert.Pre_finite.S4096x2048 .bf16}
    (h : (@Cert.Pre_finite.fn finiteFacts Ideal _ q k v o).1 = (fun _ => 1#1) ∧ (@Cert.Pre_finite.fn finiteFacts Ideal _ q k v o).2 = (fun _ => 1#1)) :
    Reals q k :=
  ⟨fun i => real_of_abs_lt _ (congrFun h.1 i), fun i => real_of_abs_lt _ (congrFun h.2 i)⟩

/-- The three gradients the kernel's idealization ends with are the reference's. -/
theorem algebraic : Cert.algebraic_KernelIdeal_ReferenceIdeal_pre_finite (hPre_finite := finiteFacts) := by
  intro m g m' g' hpre hagree
  refine ⟨fun c => dqArr m c, fun c => dkArr m c, fun c => dvArr m c, ?_, ?_⟩
  · refine (θ_run Cert.KernelIdeal.defs _ _).mono (fun r h c => ?_) (Cert.KernelIdeal.Value.run_blocks m g)
    have e := h c
    rw [arr4, arr5, arr6] at e
    exact e
  · refine (θ_run Cert.ReferenceIdeal.defs _ _).mono (fun r h c => ?_) (Cert.ReferenceIdeal.Value.run (F := Ideal) m' g')
    have hf := reals_of_pre (hpre c)
    obtain ⟨h0, h1, h2, h3⟩ := hagree c
    obtain ⟨e0, e1, e2, e3⟩ := h c
    refine ⟨e0.trans ?_, e1.trans ?_, e2.trans ?_, e3⟩
    · rw [Cert.ReferenceIdeal.Read.val_main_v67_eq m' c, h0, h1, h2, h3]
      funext j
      idx_vars j
      exact ref_dq _ _ _ _ hf _ _
    · rw [Cert.ReferenceIdeal.Read.val_main_v65_eq m' c, h0, h1, h2, h3]
      funext j
      idx_vars j
      exact ref_dk _ _ _ _ hf _ _
    · rw [Cert.ReferenceIdeal.Read.val_main_v64_eq, h0, h1, h3]
      funext j
      idx_vars j
      exact ref_dv _ _ _ _ _

end Cert.Attn

end
-- ==== Proof.Silu.lean ====
/-
  The gate function of the feed-forward block, the product of its argument and the logistic function, and its derivative.
  The logistic function of an extended real is a real number.
-/
module

public import proofs.«01_k».proof.Proof.AttnGradient

@[expose] public section

set_option maxRecDepth 16384

noncomputable section

namespace Cert.Silu

open Idealize.ShloMosaic Idealize.SL.Sem Cert.Attn

/-- The product of two reals is a real. -/
theorem mul_real {x y : EReal} (hx : ∃ a : ℝ, x = a) (hy : ∃ b : ℝ, y = b) : ∃ c : ℝ, x * y = c := by
  obtain ⟨a, rfl⟩ := hx
  obtain ⟨b, rfl⟩ := hy
  exact ⟨a * b, by push_cast; rfl⟩

/-- The logistic function. -/
def expit (g : EReal) : EReal := Ideal.div 1 (1 + Ideal.exp (-g))

/-- A real number's logistic function is a real number. -/
theorem expit_coe (x : ℝ) : expit (x : EReal) = ((1 / (1 + Real.exp (-x)) : ℝ) : EReal) := by
  have h : (1 : ℝ) + Real.exp (-x) ≠ 0 := by have := Real.exp_pos (-x); positivity
  have e : (1 : EReal) + Ideal.exp (-(x : EReal)) = ((1 + Real.exp (-x) : ℝ) : EReal) := by
    rw [← EReal.coe_neg, show Ideal.exp ((-x : ℝ) : EReal) = ((Real.exp (-x) : ℝ) : EReal) from rfl]; norm_cast
  rw [expit, e, div_real _ _ h, one_mul, one_div]

/-- At the two ends it is nought and one. -/
theorem expit_top : expit ⊤ = 1 := by
  rw [expit, EReal.neg_top, show Ideal.exp ⊥ = 0 from rfl]
  simp [Ideal.div]

theorem expit_bot : expit ⊥ = 0 := by
  rw [expit, EReal.neg_bot, show Ideal.exp ⊤ = ⊤ from rfl, show (1 : EReal) + ⊤ = ⊤ from EReal.coe_add_top 1]
  simp [Ideal.div]

/-- The two ways to write the derivative agree at a real cotangent, for every extended real argument. -/
theorem derivative (t : ℝ) (g : EReal) :
    (t : EReal) * expit g + g * t * (expit g * (1 - expit g)) = t * (expit g * (1 + g * (1 - expit g))) := by
  induction g using EReal.rec with
  | bot => rw [expit_bot]; simp
  | top =>
    have : (1 : EReal) - 1 = 0 := by rw [← EReal.coe_one, ← EReal.coe_sub, sub_self, EReal.coe_zero]
    rw [expit_top, this]; simp
  | coe x =>
    rw [expit_coe]
    generalize 1 / (1 + Real.exp (-x)) = s
    norm_cast
    congr 1
    ring

end Cert.Silu

end
-- ==== Proof.GateArrays.lean ====
/-
  The gradients of the gate's two arrays after the kernel's run, as sums over the model's columns.
-/
module

public import proofs.«01_k».proof.Proof.Gen.GateIdeal.Value
public import proofs.«01_k».proof.Proof.Silu
public import Idealize.ShloMosaic.Lib.Pipeline.ValueKit
public import Idealize.ShloMosaic.Lib.Pointwise

@[expose] public section

set_option maxRecDepth 16384

noncomputable section

namespace Cert.GateGrad

open Idealize.ShloMosaic Idealize.SL.Sem Cert.GateIdeal Cert.GateIdeal.Gen Cert.Silu

variable (m : (ℓ : Loc nD τ sig) → Buf (Elt Ideal) ℓ) (c : Dev nD)

/-- The four arguments: the cotangent, the down projection, the gate and the up product. -/
abbrev argO : S4096x2048.Idx → EReal := m ((c.tc : Thread nD τ).loc main_arg0)
abbrev argW : S5632x2048.Idx → EReal := m ((c.tc : Thread nD τ).loc main_arg1)
abbrev argG : S4096x5632.Idx → EReal := m ((c.tc : Thread nD τ).loc main_arg2)
abbrev argU : S4096x5632.Idx → EReal := m ((c.tc : Thread nD τ).loc main_arg3)

/-- Which block each window holds at a point. -/
theorem idx (t : Fin cfg0.N) : win0_0.index t = ![t.val / 4, 0] ∧ win0_1.index t = ![t.val % 4, 0] ∧ win0_2.index t = ![t.val / 4, t.val % 4]
    ∧ win0_3.index t = ![t.val / 4, t.val % 4] ∧ win0_4.index t = ![t.val / 4, t.val % 4] ∧ win0_5.index t = ![t.val / 4, t.val % 4] := by
  revert t; decide +kernel

/-- The gradient of the gate. -/
theorem arr4 : (dats m 0 c).arrAt 4 cfg0.N = fun i : S4096x5632.Idx =>
    (∑ k : Fin 2048, argO m c (ix2 (i 0) k) * argW m c (ix2 (i 1) k)) * argU m c i
      * (expit (argG m c i) * (1 + argG m c i * (1 - expit (argG m c i)))) := by
  unfold expit
  refine (dats m 0 c).arrAt_eq_of_covers 4 _ (by decide +kernel) fun t hf y => ?_
  blk_simp
  rw [after0_4]
  frame_out
  have hy : y = (ix2 (y 0) (y 1) : S1024x1408.Idx) := (ix2_eta (n0 := 1024) (n1 := 1408) y).symm
  rw [hy]
  pointwise [k0_pay4, k0_pay1, k0_pay2, k0_pay3]
  simp only [zero_sub]
  blk_point [iblk, V, idx t]

/-- The gradient of the up product. -/
theorem arr5 : (dats m 0 c).arrAt 5 cfg0.N = fun i : S4096x5632.Idx =>
    (∑ k : Fin 2048, argO m c (ix2 (i 0) k) * argW m c (ix2 (i 1) k)) * (argG m c i * expit (argG m c i)) := by
  unfold expit
  refine (dats m 0 c).arrAt_eq_of_covers 5 _ (by decide +kernel) fun t hf y => ?_
  blk_simp
  rw [after0_5]
  frame_out
  have hy : y = (ix2 (y 0) (y 1) : S1024x1408.Idx) := (ix2_eta (n0 := 1024) (n1 := 1408) y).symm
  rw [hy]
  pointwise [k0_pay5, k0_pay1, k0_pay2, k0_pay3]
  simp only [zero_sub]
  blk_point [iblk, V, idx t]

end Cert.GateGrad

end
-- ==== Proof.GateClaim.lean ====
/-
  The claims on the gradients of the gate and of the up product.
-/
module

public import proofs.«01_k».proof.Proof.GateArrays
public import proofs.«01_k».proof.Proof.Silu
public import proofs.«01_k».proof.Proof.AttnGradient
public import proofs.«01_k».proof.Proof.Gen.GateRefIdeal.Read
public import proofs.«01_k».proof.Proof.Gen.GateRefIdeal.Run
public import proofs.«01_k».proof.Proof.Gen.Gate.Frame
public import proofs.«01_k».proof.Defs
public import Idealize.ShloMosaic.Lib.Pipeline.ValueKit
public import Idealize.ShloMosaic.Lib.Pointwise

@[expose] public section

set_option maxRecDepth 16384

noncomputable section

namespace Cert.GateGrad

open Idealize.ShloMosaic Idealize.SL.Sem

/-- The kernel terminates without a fault and keeps its arguments. -/
theorem frame_p : Cert.quiescent_Gate := fun m ρ _ => Cert.Gate.Gen.frame m ρ

/-- So does its idealization. -/
theorem frame_pi : Cert.quiescent_GateIdeal := fun m ρ _ => Cert.GateIdeal.Gen.frame m ρ

/-- The reference terminates and keeps its arguments; it has no semaphore. -/
theorem frame_ri : Cert.quiescent_GateRefIdeal := fun m ρ _ =>
  (θ_run Cert.GateRefIdeal.defs _ _).mono (fun r h => ⟨fun c => (h c).2.2,
      Idealize.ShloMosaic.sem_eq_zero_of_no_sems (by decide) r.2⟩)
    (Cert.GateRefIdeal.Value.run (F := Ideal) m ρ)

open Cert.Silu Cert.Attn

open Cert.GateRefIdeal.Read in
/-- The reference's gradient of the up product. -/
theorem ref_up (x0 : FVec Ideal Cert.GateRefIdeal.S4096x2048 .bf16) (x1 : FVec Ideal Cert.GateRefIdeal.S5632x2048 .f32)
    (x2 : FVec Ideal Cert.GateRefIdeal.S4096x5632 .bf16) (i : Fin 4096) (j : Fin 5632) :
    val_main_v11 (F := Ideal) x0 x1 x2 (ix2 i j)
      = (∑ k : Fin 2048, x0 (ix2 i k) * x1 (ix2 j k)) * (x2 (ix2 i j) * expit (x2 (ix2 i j))) := by
  refine Eq.trans ?_ (mul_comm _ _)
  pointwise [val_main_v11, val_main_v7, val_main_v3_0, val_main_v3_2, val_main_call0_v4, val_main_call0_cst_0, val_main_call0_v3,
    val_main_call0_v2, val_main_call0_cst, val_main_call0_v1, val_main_call0_v0, val_main_v1, val_main_v6, val_main_v0]
  rfl

open Cert.GateRefIdeal.Read in
/-- The reference's gradient of the gate, a sum of the product rule's two parts. -/
theorem ref_gate (x0 : FVec Ideal Cert.GateRefIdeal.S4096x2048 .bf16) (x1 : FVec Ideal Cert.GateRefIdeal.S5632x2048 .f32)
    (x2 x3 : FVec Ideal Cert.GateRefIdeal.S4096x5632 .bf16) (i : Fin 4096) (j : Fin 5632) :
    val_main_v10 (F := Ideal) x0 x1 x2 x3 (ix2 i j)
      = (∑ k : Fin 2048, x0 (ix2 i k) * x1 (ix2 j k)) * x3 (ix2 i j) * expit (x2 (ix2 i j))
        + x2 (ix2 i j) * ((∑ k : Fin 2048, x0 (ix2 i k) * x1 (ix2 j k)) * x3 (ix2 i j)) * (expit (x2 (ix2 i j)) * (1 - expit (x2 (ix2 i j)))) := by
  pointwise [val_main_v10, val_main_v9, val_main_call1_v2, val_main_call1_v1, val_main_call1_v0, val_main_v8, val_main_v3_1, val_main_call0_v7,
    val_main_call0_v6, val_main_call0_cst_1, val_main_v2, val_main_v3_2, val_main_call0_v4, val_main_call0_cst_0, val_main_call0_v3,
    val_main_call0_v2, val_main_call0_cst, val_main_call0_v1, val_main_call0_v0, val_main_v1, val_main_v6, val_main_v0]
  rfl

/-- The precondition's side conditions. -/
theorem gateFiniteFacts : Cert.Pre_gate_finite.Facts := ⟨by decide, by decide, by decide, by decide⟩

/-- The two gradients the kernel's idealization ends with are the reference's. -/
theorem algebraic : Cert.algebraic_GateIdeal_GateRefIdeal_pre_gate_finite (hPre_gate_finite := gateFiniteFacts) := by
  intro m g m' g' hpre hagree
  refine ⟨fun c => (Cert.GateIdeal.Gen.dats m 0 c).arrAt 4 Cert.GateIdeal.cfg0.N, fun c => (Cert.GateIdeal.Gen.dats m 0 c).arrAt 5 Cert.GateIdeal.cfg0.N,
    Cert.GateIdeal.Value.run_blocks m g, ?_⟩
  refine (θ_run Cert.GateRefIdeal.defs _ _).mono (fun r h c => ?_) (Cert.GateRefIdeal.Value.run (F := Ideal) m' g')
  obtain ⟨h0, h1, h2, h3⟩ := hagree c
  obtain ⟨p0, p1, p3⟩ := hpre c
  refine ⟨(h c).1.trans ?_, (h c).2.1.trans ?_, (h c).2.2⟩
  · rw [Cert.GateRefIdeal.Read.val_main_v10_eq, h0, h1, h2, h3]
    refine Eq.trans ?_ (arr4 m c).symm
    funext j
    idx_vars j
    refine (ref_gate _ _ _ _ _ _).trans ?_
    obtain ⟨t, ht⟩ : ∃ t : ℝ, (∑ k : Fin 2048, argO m c (ix2 j0 k) * argW m c (ix2 j1 k)) * argU m c (ix2 j0 j1) = t :=
      mul_real (sum_real _ fun k => mul_real (real_of_abs_lt _ (congrFun p0 (ix2 j0 k))) (real_of_abs_lt _ (congrFun p1 (ix2 j1 k))))
        (real_of_abs_lt _ (congrFun p3 (ix2 j0 j1)))
    have e := derivative t (argG m c (ix2 j0 j1))
    rw [← ht] at e
    exact e
  · rw [Cert.GateRefIdeal.Read.val_main_v11_eq, h0, h1, h2]
    refine Eq.trans ?_ (arr5 m c).symm
    funext j
    idx_vars j
    exact ref_up _ _ _ _ _

end Cert.GateGrad

end
-- ==== Proof.UpArrays.lean ====
/-
  The gradient of the feed-forward input after the kernel's run, as two sums over the hidden columns.
-/
module

public import proofs.«01_k».proof.Proof.Gen.UpIdeal.Value
public import Idealize.ShloMosaic.Lib.Pipeline.ValueKit
public import Idealize.ShloMosaic.Lib.Pointwise

@[expose] public section

set_option maxRecDepth 16384

noncomputable section

namespace Cert.UpGrad

open Idealize.ShloMosaic Idealize.SL.Sem Cert.UpIdeal Cert.UpIdeal.Gen

variable (m : (ℓ : Loc nD τ sig) → Buf (Elt Ideal) ℓ) (c : Dev nD)

/-- The four arguments: the cotangents of the gate and of the up product, and their two weights. -/
abbrev argG : S4096x5632.Idx → EReal := m ((c.tc : Thread nD τ).loc main_arg0)
abbrev argU : S4096x5632.Idx → EReal := m ((c.tc : Thread nD τ).loc main_arg1)
abbrev argWg : S2048x5632.Idx → EReal := m ((c.tc : Thread nD τ).loc main_arg2)
abbrev argWu : S2048x5632.Idx → EReal := m ((c.tc : Thread nD τ).loc main_arg3)

/-- Which block each window holds at a point. -/
theorem idx (t : Fin cfg0.N) : win0_0.index t = ![t.val / 4, 0] ∧ win0_1.index t = ![t.val / 4, 0] ∧ win0_2.index t = ![0, t.val % 4]
    ∧ win0_3.index t = ![0, t.val % 4] ∧ win0_4.index t = ![t.val / 4, t.val % 4] := by
  revert t; decide +kernel

/-- The result: the gate's part and the up product's part. -/
theorem arr4 : (dats m 0 c).arrAt 4 cfg0.N = fun i : S4096x2048.Idx =>
    (∑ k : Fin 5632, argG m c (ix2 (i 0) k) * argWg m c (ix2 (i 1) k)) + ∑ k : Fin 5632, argU m c (ix2 (i 0) k) * argWu m c (ix2 (i 1) k) := by
  refine (dats m 0 c).arrAt_eq_of_covers 4 _ (by decide +kernel) fun t hf y => ?_
  blk_simp
  rw [after0_4]
  frame_out
  have hy : y = (ix2 (y 0) (y 1) : S512x512.Idx) := (ix2_eta (n0 := 512) (n1 := 512) y).symm
  rw [hy]
  pointwise [k0_pay1]
  blk_point [iblk, V, idx t]

end Cert.UpGrad

end
-- ==== Proof.UpClaim.lean ====
/-
  The claims on the gradient of the feed-forward input.
-/
module

public import proofs.«01_k».proof.Proof.UpArrays
public import proofs.«01_k».proof.Proof.Gen.UpRefIdeal.Read
public import proofs.«01_k».proof.Proof.Gen.UpRefIdeal.Run
public import proofs.«01_k».proof.Proof.Gen.Up.Frame
public import proofs.«01_k».proof.Defs
public import Idealize.ShloMosaic.Lib.Pipeline.ValueKit
public import Idealize.ShloMosaic.Lib.Pointwise

@[expose] public section

set_option maxRecDepth 16384

noncomputable section

namespace Cert.UpGrad

open Idealize.ShloMosaic Idealize.SL.Sem

/-- The kernel terminates without a fault and keeps its arguments. -/
theorem frame_p : Cert.quiescent_Up := fun m ρ _ => Cert.Up.Gen.frame m ρ

/-- So does its idealization. -/
theorem frame_pi : Cert.quiescent_UpIdeal := fun m ρ _ => Cert.UpIdeal.Gen.frame m ρ

/-- The reference terminates and keeps its arguments; it has no semaphore. -/
theorem frame_ri : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)

open Cert.UpRefIdeal.Read in
/-- The reference's result, as two sums over the hidden columns. -/
theorem ref_up (x0 x1 : FVec Ideal Cert.UpRefIdeal.S4096x5632 .bf16) (x2 x3 : FVec Ideal Cert.UpRefIdeal.S2048x5632 .f32) (i : Fin 4096) (j : Fin 2048) :
    val_main_v7 (F := Ideal) x0 x1 x2 x3 (ix2 i j) = (∑ k : Fin 5632, x0 (ix2 i k) * x2 (ix2 j k)) + ∑ k : Fin 5632, x1 (ix2 i k) * x3 (ix2 j k) := by
  refine Eq.trans ?_ (add_comm _ _)
  pointwise [val_main_v7, val_main_v6, val_main_v5, val_main_v4, val_main_v3]

/-- The two sums the kernel's idealization ends with are the reference's, in the other order. -/
theorem algebraic : Cert.algebraic_UpIdeal_UpRefIdeal := by
  intro m g m' g' _ hagree
  refine ⟨fun c => (Cert.UpIdeal.Gen.dats m 0 c).arrAt 4 Cert.UpIdeal.cfg0.N, Cert.UpIdeal.Value.run_blocks m g, ?_⟩
  refine (θ_run Cert.UpRefIdeal.defs _ _).mono (fun r h c => ?_) (Cert.UpRefIdeal.Value.run (F := Ideal) m' g')
  obtain ⟨h0, h1, h2, h3⟩ := hagree c
  refine ⟨(h c).1.trans ?_, (h c).2⟩
  rw [Cert.UpRefIdeal.Read.val_main_v7_eq, h0, h1, h2, h3]
  refine Eq.trans ?_ (arr4 m c).symm
  funext j
  idx_vars j
  exact ref_up _ _ _ _ _ _

end Cert.UpGrad

end
-- ==== Proof.WeightArrays.lean ====
/-
  The gradient of a feed-forward weight after the kernel's run. A block is finished in two points: the first starts the
  sum with the upper half of the rows, the second adds the lower half.
-/
module

public import proofs.«01_k».proof.Proof.Gen.DownWIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WeightGrad

open Idealize.ShloMosaic Idealize.SL.Sem Cert.DownWIdeal Cert.DownWIdeal.Gen

variable (m : (ℓ : Loc nD τ sig) → Buf (Elt Ideal) ℓ) (c : Dev nD)

/-- The two arguments: the product's left factor and the cotangent. -/
abbrev argA : S4096x5632.Idx → EReal := m ((c.tc : Thread nD τ).loc main_arg0)
abbrev argB : S4096x2048.Idx → EReal := m ((c.tc : Thread nD τ).loc main_arg1)

/-- Which block each window holds at a point. -/
theorem idx (t : Fin cfg0.N) : win0_0.index t = ![t.val % 2, t.val / 4] ∧ win0_1.index t = ![t.val % 2, t.val / 2 % 2]
    ∧ win0_2.index t = ![t.val / 4, t.val / 2 % 2] := by
  revert t; decide +kernel

/-- The rows a point sums over. -/
abbrev row (t : Fin cfg0.N) (k : Fin 2048) : Fin 4096 := ⟨t.val % 2 * 2048 + k.val, by omega⟩
abbrev colA (t : Fin cfg0.N) (i : Fin 1408) : Fin 5632 := ⟨t.val / 4 * 1408 + i.val, by have := t.isLt; have : cfg0.N = 16 := N_0; omega⟩
abbrev colB (t : Fin cfg0.N) (j : Fin 1024) : Fin 2048 := ⟨t.val / 2 % 2 * 1024 + j.val, by omega⟩

/-- A point's product of blocks. -/
theorem product (t : Fin cfg0.N) (i : Fin 1408) (j : Fin 1024) :
    k0_pay1 (F := Ideal) (iblk m c 0 t) (iblk m c 1 t) (ix2 i j) = ∑ k : Fin 2048, argA m c (ix2 (row t k) (colA t i)) * argB m c (ix2 (row t k) (colB t j)) := by
  pointwise [k0_pay1]
  blk_point [iblk, V, idx t]

/-- The first point of a block leaves its own product in the scratch buffer. -/
theorem first (t : Fin cfg0.N) (h : t.val % 2 = 0) (i : Fin 1408) (j : Fin 1024) :
    (outsAt0 m c t.val t.isLt).2 (ix2 i j) = k0_pay1 (F := Ideal) (iblk m c 0 t) (iblk m c 1 t) (ix2 i j) := by
  rw [outsAt0_A m c t h (by omega) (by omega)]
  frame_open
  frame_out
  pointwise [k0_pay2]

/-- What the second point writes back: its own product over what the first left. -/
theorem second (x : Vec Ideal S2048x1408 .bf16) (x' : Vec Ideal S2048x1024 .bf16) (a : Vec Ideal S1408x1024 .f32) (i : Fin 1408) (j : Fin 1024) :
    k0_pay4 (F := Ideal) (k0_pay3 (F := Ideal) x x' a) (ix2 i j) = a (ix2 i j) + k0_pay1 (F := Ideal) x x' (ix2 i j) := by
  pointwise [k0_pay4, k0_pay3]

/-- The result: each element sums over all the rows. -/
theorem arr2 : (dats m 0 c).arrAt 2 cfg0.N = fun i : S5632x2048.Idx => ∑ k : Fin 4096, argA m c (ix2 k (i 0)) * argB m c (ix2 k (i 1)) := by
  refine (dats m 0 c).arrAt_eq_of_covers 2 _ (by decide +kernel) fun t hf y => ?_
  have ht : t.val % 2 = 1 := (flush0_2 t).mp hf
  obtain ⟨i, j, rfl⟩ : ∃ (i : Fin 1408) (j : Fin 1024), y = (ix2 i j : S1408x1024.Idx) :=
    ⟨y 0, y 1, (ix2_eta (n0 := 1408) (n1 := 1024) y).symm⟩
  blk_simp
  rw [after0_2, outsAt0_B m c t (by omega) ht ht]
  frame_open
  frame_out
  rw [read_unread_whole]
  refine (second _ _ _ i j).trans ?_
  rw [first m c ⟨t.val - 1, Nat.lt_of_le_of_lt (Nat.sub_le _ _) t.isLt⟩ (by show (t.val - 1) % 2 = 0; have := ht; omega), product, product]
  refine Eq.trans ?_ (Fin.sum_mul_add_fin 2 2048 _ (by decide))
  rw [Fin.sum_univ_two]
  have h2 : (t.val - 1) % 2 = 0 ∧ (t.val - 1) / 2 = t.val / 2 ∧ (t.val - 1) / 4 = t.val / 4 := by have := ht; omega
  refine congrArg₂ (· + ·) (Finset.sum_congr rfl fun k _ => ?_) (Finset.sum_congr rfl fun k _ => ?_)
  · blk_point [idx t, h2]
  · blk_point [idx t, ht]

end Cert.WeightGrad

end
-- ==== Proof.WeightClaim.lean ====
/-
  The claims on the gradient of a feed-forward weight.
-/
module

public import proofs.«01_k».proof.Proof.WeightArrays
public import proofs.«01_k».proof.Proof.Gen.DownWRefIdeal.Read
public import proofs.«01_k».proof.Proof.Gen.DownWRefIdeal.Run
public import proofs.«01_k».proof.Proof.Gen.DownW.Frame
public import proofs.«01_k».proof.Defs
public import Idealize.ShloMosaic.Lib.Pipeline.ValueKit
public import Idealize.ShloMosaic.Lib.Pointwise

@[expose] public section

set_option maxRecDepth 16384

noncomputable section

namespace Cert.WeightGrad

open Idealize.ShloMosaic Idealize.SL.Sem

/-- The kernel terminates without a fault and keeps its arguments. -/
theorem frame_p : Cert.quiescent_DownW := fun m ρ _ => Cert.DownW.Gen.frame m ρ

/-- So does its idealization. -/
theorem frame_pi : Cert.quiescent_DownWIdeal := fun m ρ _ => Cert.DownWIdeal.Gen.frame m ρ

/-- The reference terminates and keeps its arguments; it has no semaphore. -/
theorem frame_ri : Cert.quiescent_DownWRefIdeal := fun m ρ _ =>
  (θ_run Cert.DownWRefIdeal.defs _ _).mono (fun r h => ⟨fun c => (h c).2,
      Idealize.ShloMosaic.sem_eq_zero_of_no_sems (by decide) r.2⟩)
    (Cert.DownWRefIdeal.Value.run (F := Ideal) m ρ)

open Cert.DownWRefIdeal.Read in
/-- The reference's result, as a sum over the rows. -/
theorem ref_weight (x0 : FVec Ideal Cert.DownWRefIdeal.S4096x5632 .bf16) (x1 : FVec Ideal Cert.DownWRefIdeal.S4096x2048 .bf16) (i : Fin 5632) (j : Fin 2048) :
    val_main_v6 (F := Ideal) x0 x1 (ix2 i j) = ∑ k : Fin 4096, x0 (ix2 k i) * x1 (ix2 k j) := by
  pointwise [val_main_v6, val_main_v5, val_main_v4, val_main_v3, val_main_v1]
  exact Finset.sum_congr rfl fun k _ => mul_comm _ _

/-- The sum over the rows the kernel's idealization ends with is the reference's. -/
theorem algebraic : Cert.algebraic_DownWIdeal_DownWRefIdeal := by
  intro m g m' g' _ hagree
  refine ⟨fun c => (Cert.DownWIdeal.Gen.dats m 0 c).arrAt 2 Cert.DownWIdeal.cfg0.N, Cert.DownWIdeal.Value.run_blocks m g, ?_⟩
  refine (θ_run Cert.DownWRefIdeal.defs _ _).mono (fun r h c => ?_) (Cert.DownWRefIdeal.Value.run (F := Ideal) m' g')
  obtain ⟨h0, h1⟩ := hagree c
  refine ⟨(h c).1.trans ?_, (h c).2⟩
  rw [Cert.DownWRefIdeal.Read.val_main_v6_eq, h0, h1]
  refine Eq.trans ?_ (arr2 m c).symm
  funext j
  idx_vars j
  exact ref_weight _ _ _ _

end Cert.WeightGrad

end
-- ==== Proof.InputWeight.lean ====
/-
  One device's part of the gradient of the combined input projection's weight, stored transposed.
-/
module

public import proofs.«01_k».proof.Proof.Gen.InW.Frame
public import proofs.«01_k».proof.Proof.Gen.InWIdeal.Value
public import proofs.«01_k».proof.Proof.Gen.InWRefIdeal.Read
public import proofs.«01_k».proof.Proof.Gen.InWRefIdeal.Run
public import proofs.«01_k».proof.Defs
public import Idealize.ShloMosaic.Lib.Pipeline.ValueKit
public import Idealize.ShloMosaic.Lib.Pointwise

@[expose] public section

set_option maxRecDepth 16384

noncomputable section

namespace Cert.InputWeight

open Idealize.ShloMosaic Idealize.SL.Sem

/-- The kernel terminates without a fault and keeps its arguments. -/
theorem frame_p : Cert.quiescent_InW := fun m ρ _ => Cert.InW.Gen.frame m ρ

/-- So does its idealization. -/
theorem frame_pi : Cert.quiescent_InWIdeal := fun m ρ _ => Cert.InWIdeal.Gen.frame m ρ

/-- The reference terminates and keeps its arguments; it has no semaphore. -/
theorem frame_ri : Cert.quiescent_InWRefIdeal := fun m ρ _ =>
  (θ_run Cert.InWRefIdeal.defs _ _).mono (fun r h => ⟨fun c => (h c).2,
      Idealize.ShloMosaic.sem_eq_zero_of_no_sems (by decide) r.2⟩)
    (Cert.InWRefIdeal.Value.run (F := Ideal) m ρ)

section

open Cert.InWIdeal Cert.InWIdeal.Gen

variable (m : (ℓ : Loc nD τ sig) → Buf (Elt Ideal) ℓ) (c : Dev nD)

/-- The arguments: the normed input and the projection's cotangent. -/
abbrev h : S4096x2048.Idx → EReal := m ((c.tc : Thread nD τ).loc main_arg0)
abbrev d : S4096x3072.Idx → EReal := m ((c.tc : Thread nD τ).loc main_arg1)

/-- Which block each window holds at a point. -/
theorem idx (t : Fin cfg0.N) : win0_0.index t = ![0, t.val / 2] ∧ win0_1.index t = ![0, t.val % 2] ∧ win0_2.index t = ![t.val / 2, t.val % 2] := by
  revert t; decide +kernel

/-- Each element sums over the rows. -/
theorem arr2 : (dats m 0 c).arrAt 2 cfg0.N = fun i : S3072x2048.Idx => ∑ k : Fin 4096, d m c (ix2 k (i 0)) * h m c (ix2 k (i 1)) := by
  refine (dats m 0 c).arrAt_eq_of_covers 2 _ (by decide +kernel) fun t hf y => ?_
  blk_simp
  rw [after0_2]
  frame_out
  have hy : y = (ix2 (y 0) (y 1) : S1024x1024.Idx) := (ix2_eta (n0 := 1024) (n1 := 1024) y).symm
  rw [hy]
  pointwise [k0_pay1]
  blk_point [iblk, V, idx t]

end

open Cert.InWRefIdeal.Read in
/-- The reference's result at an element. -/
theorem ref2 (h : FVec Ideal Cert.InWRefIdeal.S4096x2048 .bf16) (d : FVec Ideal Cert.InWRefIdeal.S4096x3072 .bf16) (i : Fin 3072) (j : Fin 2048) :
    val_main_v7 (F := Ideal) h d (ix2 i j) = ∑ k : Fin 4096, d (ix2 k i) * h (ix2 k j) := by
  pointwise [val_main_v7, val_main_v6, val_main_v5, val_main_v4, val_main_v3, val_main_v2, val_main_v1]

/-- What the kernel's idealization ends with is the reference's result. -/
theorem algebraic : Cert.algebraic_InWIdeal_InWRefIdeal := by
  intro m g m' g' _ hagree
  refine ⟨fun c => (Cert.InWIdeal.Gen.dats m 0 c).arrAt 2 Cert.InWIdeal.cfg0.N, Cert.InWIdeal.Value.run_blocks m g, ?_⟩
  refine (θ_run Cert.InWRefIdeal.defs _ _).mono (fun r h c => ?_) (Cert.InWRefIdeal.Value.run (F := Ideal) m' g')
  obtain ⟨h0, h1⟩ := hagree c
  refine ⟨(h c).1.trans ?_, (h c).2⟩
  rw [Cert.InWRefIdeal.Read.val_main_v7_eq, h0, h1]
  refine Eq.trans ?_ (arr2 m c).symm
  funext j
  idx_vars j
  exact ref2 _ _ _ _

end Cert.InputWeight

end
-- ==== Proof.SquareWeight.lean ====
/-
  One device's part of the gradient of a square projection's weight.
-/
module

public import proofs.«01_k».proof.Proof.Gen.OutW.Frame
public import proofs.«01_k».proof.Proof.Gen.OutWIdeal.Value
public import proofs.«01_k».proof.Proof.Gen.OutWRefIdeal.Read
public import proofs.«01_k».proof.Proof.Gen.OutWRefIdeal.Run
public import proofs.«01_k».proof.Defs
public import Idealize.ShloMosaic.Lib.Pipeline.ValueKit
public import Idealize.ShloMosaic.Lib.Pointwise

@[expose] public section

set_option maxRecDepth 16384

noncomputable section

namespace Cert.SquareWeight

open Idealize.ShloMosaic Idealize.SL.Sem

/-- The kernel terminates without a fault and keeps its arguments. -/
theorem frame_p : Cert.quiescent_OutW := fun m ρ _ => Cert.OutW.Gen.frame m ρ

/-- So does its idealization. -/
theorem frame_pi : Cert.quiescent_OutWIdeal := fun m ρ _ => Cert.OutWIdeal.Gen.frame m ρ

/-- The reference terminates and keeps its arguments; it has no semaphore. -/
theorem frame_ri : Cert.quiescent_OutWRefIdeal := fun m ρ _ =>
  (θ_run Cert.OutWRefIdeal.defs _ _).mono (fun r h => ⟨fun c => (h c).2,
      Idealize.ShloMosaic.sem_eq_zero_of_no_sems (by decide) r.2⟩)
    (Cert.OutWRefIdeal.Value.run (F := Ideal) m ρ)

section

open Cert.OutWIdeal Cert.OutWIdeal.Gen

variable (m : (ℓ : Loc nD τ sig) → Buf (Elt Ideal) ℓ) (c : Dev nD)

/-- The arguments: the projection's input and its cotangent. -/
abbrev a : S4096x2048.Idx → EReal := m ((c.tc : Thread nD τ).loc main_arg0)
abbrev d : S4096x2048.Idx → EReal := m ((c.tc : Thread nD τ).loc main_arg1)

/-- Which block each window holds at a point. -/
theorem idx (t : Fin cfg0.N) : win0_0.index t = ![0, t.val / 2] ∧ win0_1.index t = ![0, t.val % 2] ∧ win0_2.index t = ![t.val / 2, t.val % 2] := by
  revert t; decide +kernel

/-- Each element sums over the rows. -/
theorem arr2 : (dats m 0 c).arrAt 2 cfg0.N = fun i : S2048x2048.Idx => ∑ k : Fin 4096, a m c (ix2 k (i 0)) * d m c (ix2 k (i 1)) := by
  refine (dats m 0 c).arrAt_eq_of_covers 2 _ (by decide +kernel) fun t hf y => ?_
  blk_simp
  rw [after0_2]
  frame_out
  have hy : y = (ix2 (y 0) (y 1) : S1024x1024.Idx) := (ix2_eta (n0 := 1024) (n1 := 1024) y).symm
  rw [hy]
  pointwise [k0_pay1]
  blk_point [iblk, V, idx t]

end

open Cert.OutWRefIdeal.Read in
/-- The reference's result at an element. -/
theorem ref2 (a : FVec Ideal Cert.OutWRefIdeal.S4096x2048 .bf16) (d : FVec Ideal Cert.OutWRefIdeal.S4096x2048 .bf16) (i : Fin 2048) (j : Fin 2048) :
    val_main_v6 (F := Ideal) a d (ix2 i j) = ∑ k : Fin 4096, a (ix2 k i) * d (ix2 k j) := by
  pointwise [val_main_v6, val_main_v5, val_main_v4, val_main_v3, val_main_v2, val_main_v1]
  exact Finset.sum_congr rfl fun k _ => mul_comm _ _

/-- What the kernel's idealization ends with is the reference's result. -/
theorem algebraic : Cert.algebraic_OutWIdeal_OutWRefIdeal := by
  intro m g m' g' _ hagree
  refine ⟨fun c => (Cert.OutWIdeal.Gen.dats m 0 c).arrAt 2 Cert.OutWIdeal.cfg0.N, Cert.OutWIdeal.Value.run_blocks m g, ?_⟩
  refine (θ_run Cert.OutWRefIdeal.defs _ _).mono (fun r h c => ?_) (Cert.OutWRefIdeal.Value.run (F := Ideal) m' g')
  obtain ⟨h0, h1⟩ := hagree c
  refine ⟨(h c).1.trans ?_, (h c).2⟩
  rw [Cert.OutWRefIdeal.Read.val_main_v6_eq, h0, h1]
  refine Eq.trans ?_ (arr2 m c).symm
  funext j
  idx_vars j
  exact ref2 _ _ _ _

end Cert.SquareWeight

end
-- ==== Proof.MemoryWeight.lean ====
/-
  One device's part of the gradient of the weight of the keys or of the values.
-/
module

public import proofs.«01_k».proof.Proof.Gen.KvW.Frame
public import proofs.«01_k».proof.Proof.Gen.KvWIdeal.Value
public import proofs.«01_k».proof.Proof.Gen.KvWRefIdeal.Read
public import proofs.«01_k».proof.Proof.Gen.KvWRefIdeal.Run
public import proofs.«01_k».proof.Defs
public import Idealize.ShloMosaic.Lib.Pipeline.ValueKit
public import Idealize.ShloMosaic.Lib.Pointwise

@[expose] public section

set_option maxRecDepth 16384

noncomputable section

namespace Cert.MemoryWeight

open Idealize.ShloMosaic Idealize.SL.Sem

/-- The kernel terminates without a fault and keeps its arguments. -/
theorem frame_p : Cert.quiescent_KvW := fun m ρ _ => Cert.KvW.Gen.frame m ρ

/-- So does its idealization. -/
theorem frame_pi : Cert.quiescent_KvWIdeal := fun m ρ _ => Cert.KvWIdeal.Gen.frame m ρ

/-- The reference terminates and keeps its arguments; it has no semaphore. -/
theorem frame_ri : Cert.quiescent_KvWRefIdeal := fun m ρ _ =>
  (θ_run Cert.KvWRefIdeal.defs _ _).mono (fun r h => ⟨fun c => (h c).2,
      Idealize.ShloMosaic.sem_eq_zero_of_no_sems (by decide) r.2⟩)
    (Cert.KvWRefIdeal.Value.run (F := Ideal) m ρ)

section

open Cert.KvWIdeal Cert.KvWIdeal.Gen

variable (m : (ℓ : Loc nD τ sig) → Buf (Elt Ideal) ℓ) (c : Dev nD)

/-- The arguments: the normed memory and the cotangent of the keys or values. -/
abbrev a : S256x2048.Idx → EReal := m ((c.tc : Thread nD τ).loc main_arg0)
abbrev d : S256x2048.Idx → EReal := m ((c.tc : Thread nD τ).loc main_arg1)

/-- Which block each window holds at a point. -/
theorem idx (t : Fin cfg0.N) : win0_0.index t = ![0, t.val / 2] ∧ win0_1.index t = ![0, t.val % 2] ∧ win0_2.index t = ![t.val / 2, t.val % 2] := by
  revert t; decide +kernel

/-- Each element sums over the memory's tokens. -/
theorem arr2 : (dats m 0 c).arrAt 2 cfg0.N = fun i : S2048x2048.Idx => ∑ k : Fin 256, a m c (ix2 k (i 0)) * d m c (ix2 k (i 1)) := by
  refine (dats m 0 c).arrAt_eq_of_covers 2 _ (by decide +kernel) fun t hf y => ?_
  blk_simp
  rw [after0_2]
  frame_out
  have hy : y = (ix2 (y 0) (y 1) : S1024x1024.Idx) := (ix2_eta (n0 := 1024) (n1 := 1024) y).symm
  rw [hy]
  pointwise [k0_pay1]
  blk_point [iblk, V, idx t]

end

open Cert.KvWRefIdeal.Read in
/-- The reference's result at an element. -/
theorem ref2 (a : FVec Ideal Cert.KvWRefIdeal.S256x2048 .bf16) (d : FVec Ideal Cert.KvWRefIdeal.S256x2048 .f32) (i : Fin 2048) (j : Fin 2048) :
    val_main_v5 (F := Ideal) a d (ix2 i j) = ∑ k : Fin 256, a (ix2 k i) * d (ix2 k j) := by
  pointwise [val_main_v5, val_main_v4, val_main_v3, val_main_v2, val_main_v1]
  exact Finset.sum_congr rfl fun k _ => mul_comm _ _

/-- What the kernel's idealization ends with is the reference's result. -/
theorem algebraic : Cert.algebraic_KvWIdeal_KvWRefIdeal := by
  intro m g m' g' _ hagree
  refine ⟨fun c => (Cert.KvWIdeal.Gen.dats m 0 c).arrAt 2 Cert.KvWIdeal.cfg0.N, Cert.KvWIdeal.Value.run_blocks m g, ?_⟩
  refine (θ_run Cert.KvWRefIdeal.defs _ _).mono (fun r h c => ?_) (Cert.KvWRefIdeal.Value.run (F := Ideal) m' g')
  obtain ⟨h0, h1⟩ := hagree c
  refine ⟨(h c).1.trans ?_, (h c).2⟩
  rw [Cert.KvWRefIdeal.Read.val_main_v5_eq, h0, h1]
  refine Eq.trans ?_ (arr2 m c).symm
  funext j
  idx_vars j
  exact ref2 _ _ _ _

end Cert.MemoryWeight

end
-- ==== Proof.HeadsInput.lean ====
/-
  The cotangent of the attention's output, through the projection after it.
-/
module

public import proofs.«01_k».proof.Proof.Gen.OIn.Frame
public import proofs.«01_k».proof.Proof.Gen.OInIdeal.Value
public import proofs.«01_k».proof.Proof.Gen.OInRefIdeal.Read
public import proofs.«01_k».proof.Proof.Gen.OInRefIdeal.Run
public import proofs.«01_k».proof.Defs
public import Idealize.ShloMosaic.Lib.Pipeline.ValueKit
public import Idealize.ShloMosaic.Lib.Pointwise

@[expose] public section

set_option maxRecDepth 16384

noncomputable section

namespace Cert.HeadsInput

open Idealize.ShloMosaic Idealize.SL.Sem

/-- The kernel terminates without a fault and keeps its arguments. -/
theorem frame_p : Cert.quiescent_OIn := fun m ρ _ => Cert.OIn.Gen.frame m ρ

/-- So does its idealization. -/
theorem frame_pi : Cert.quiescent_OInIdeal := fun m ρ _ => Cert.OInIdeal.Gen.frame m ρ

/-- The reference terminates and keeps its arguments; it has no semaphore. -/
theorem frame_ri : Cert.quiescent_OInRefIdeal := fun m ρ _ =>
  (θ_run Cert.OInRefIdeal.defs _ _).mono (fun r h => ⟨fun c => (h c).2,
      Idealize.ShloMosaic.sem_eq_zero_of_no_sems (by decide) r.2⟩)
    (Cert.OInRefIdeal.Value.run (F := Ideal) m ρ)

section

open Cert.OInIdeal Cert.OInIdeal.Gen

variable (m : (ℓ : Loc nD τ sig) → Buf (Elt Ideal) ℓ) (c : Dev nD)

/-- The arguments: the cotangent and the weight. -/
abbrev d : S4096x2048.Idx → EReal := m ((c.tc : Thread nD τ).loc main_arg0)
abbrev w : S2048x2048.Idx → EReal := m ((c.tc : Thread nD τ).loc main_arg1)

/-- Which block each window holds at a point. -/
theorem idx (t : Fin cfg0.N) : win0_0.index t = ![t.val / 2, 0] ∧ win0_1.index t = ![t.val % 2, 0] ∧ win0_2.index t = ![t.val / 2, t.val % 2] := by
  revert t; decide +kernel

/-- Each element sums over the model's columns. -/
theorem arr2 : (dats m 0 c).arrAt 2 cfg0.N = fun i : S4096x2048.Idx => ∑ k : Fin 2048, d m c (ix2 (i 0) k) * w m c (ix2 (i 1) k) := by
  refine (dats m 0 c).arrAt_eq_of_covers 2 _ (by decide +kernel) fun t hf y => ?_
  blk_simp
  rw [after0_2]
  frame_out
  have hy : y = (ix2 (y 0) (y 1) : S1024x1024.Idx) := (ix2_eta (n0 := 1024) (n1 := 1024) y).symm
  rw [hy]
  pointwise [k0_pay1]
  blk_point [iblk, V, idx t]

end

open Cert.OInRefIdeal.Read in
/-- The reference's result at an element. -/
theorem ref2 (d : FVec Ideal Cert.OInRefIdeal.S4096x2048 .bf16) (w : FVec Ideal Cert.OInRefIdeal.S2048x2048 .f32) (i : Fin 4096) (j : Fin 2048) :
    val_main_v4 (F := Ideal) d w (ix2 i j) = ∑ k : Fin 2048, d (ix2 i k) * w (ix2 j k) := by
  pointwise [val_main_v4, val_main_v3, val_main_v2, val_main_v1]

/-- What the kernel's idealization ends with is the reference's result. -/
theorem algebraic : Cert.algebraic_OInIdeal_OInRefIdeal := by
  intro m g m' g' _ hagree
  refine ⟨fun c => (Cert.OInIdeal.Gen.dats m 0 c).arrAt 2 Cert.OInIdeal.cfg0.N, Cert.OInIdeal.Value.run_blocks m g, ?_⟩
  refine (θ_run Cert.OInRefIdeal.defs _ _).mono (fun r h c => ?_) (Cert.OInRefIdeal.Value.run (F := Ideal) m' g')
  obtain ⟨h0, h1⟩ := hagree c
  refine ⟨(h c).1.trans ?_, (h c).2⟩
  rw [Cert.OInRefIdeal.Read.val_main_v4_eq, h0, h1]
  refine Eq.trans ?_ (arr2 m c).symm
  funext j
  idx_vars j
  exact ref2 _ _ _ _

end Cert.HeadsInput

end
-- ==== Proof.MixInput.lean ====
/-
  The cotangent of the two mixers' output, through the projection after them.
-/
module

public import proofs.«01_k».proof.Proof.Gen.OutIn.Frame
public import proofs.«01_k».proof.Proof.Gen.OutInIdeal.Value
public import proofs.«01_k».proof.Proof.Gen.OutInRefIdeal.Read
public import proofs.«01_k».proof.Proof.Gen.OutInRefIdeal.Run
public import proofs.«01_k».proof.Defs
public import Idealize.ShloMosaic.Lib.Pipeline.ValueKit
public import Idealize.ShloMosaic.Lib.Pointwise

@[expose] public section

set_option maxRecDepth 16384

noncomputable section

namespace Cert.MixInput

open Idealize.ShloMosaic Idealize.SL.Sem

/-- The kernel terminates without a fault and keeps its arguments. -/
theorem frame_p : Cert.quiescent_OutIn := fun m ρ _ => Cert.OutIn.Gen.frame m ρ

/-- So does its idealization. -/
theorem frame_pi : Cert.quiescent_OutInIdeal := fun m ρ _ => Cert.OutInIdeal.Gen.frame m ρ

/-- The reference terminates and keeps its arguments; it has no semaphore. -/
theorem frame_ri : Cert.quiescent_OutInRefIdeal := fun m ρ _ =>
  (θ_run Cert.OutInRefIdeal.defs _ _).mono (fun r h => ⟨fun c => (h c).2,
      Idealize.ShloMosaic.sem_eq_zero_of_no_sems (by decide) r.2⟩)
    (Cert.OutInRefIdeal.Value.run (F := Ideal) m ρ)

section

open Cert.OutInIdeal Cert.OutInIdeal.Gen

variable (m : (ℓ : Loc nD τ sig) → Buf (Elt Ideal) ℓ) (c : Dev nD)

/-- The arguments: the cotangent and the weight. -/
abbrev d : S4096x2048.Idx → EReal := m ((c.tc : Thread nD τ).loc main_arg0)
abbrev w : S2048x2048.Idx → EReal := m ((c.tc : Thread nD τ).loc main_arg1)

/-- Which block each window holds at a point. -/
theorem idx (t : Fin cfg0.N) : win0_0.index t = ![t.val / 2, 0] ∧ win0_1.index t = ![t.val % 2, 0] ∧ win0_2.index t = ![t.val / 2, t.val % 2] := by
  revert t; decide +kernel

/-- Each element sums over the model's columns. -/
theorem arr2 : (dats m 0 c).arrAt 2 cfg0.N = fun i : S4096x2048.Idx => ∑ k : Fin 2048, d m c (ix2 (i 0) k) * w m c (ix2 (i 1) k) := by
  refine (dats m 0 c).arrAt_eq_of_covers 2 _ (by decide +kernel) fun t hf y => ?_
  blk_simp
  rw [after0_2]
  frame_out
  have hy : y = (ix2 (y 0) (y 1) : S1024x1024.Idx) := (ix2_eta (n0 := 1024) (n1 := 1024) y).symm
  rw [hy]
  pointwise [k0_pay1]
  blk_point [iblk, V, idx t]

end

open Cert.OutInRefIdeal.Read in
/-- The reference's result at an element. -/
theorem ref2 (d : FVec Ideal Cert.OutInRefIdeal.S4096x2048 .bf16) (w : FVec Ideal Cert.OutInRefIdeal.S2048x2048 .f32) (i : Fin 4096) (j : Fin 2048) :
    val_main_v3 (F := Ideal) d w (ix2 i j) = ∑ k : Fin 2048, d (ix2 i k) * w (ix2 j k) := by
  pointwise [val_main_v3, val_main_v2, val_main_v1]

/-- What the kernel's idealization ends with is the reference's result. -/
theorem algebraic : Cert.algebraic_OutInIdeal_OutInRefIdeal := by
  intro m g m' g' _ hagree
  refine ⟨fun c => (Cert.OutInIdeal.Gen.dats m 0 c).arrAt 2 Cert.OutInIdeal.cfg0.N, Cert.OutInIdeal.Value.run_blocks m g, ?_⟩
  refine (θ_run Cert.OutInRefIdeal.defs _ _).mono (fun r h c => ?_) (Cert.OutInRefIdeal.Value.run (F := Ideal) m' g')
  obtain ⟨h0, h1⟩ := hagree c
  refine ⟨(h c).1.trans ?_, (h c).2⟩
  rw [Cert.OutInRefIdeal.Read.val_main_v3_eq, h0, h1]
  refine Eq.trans ?_ (arr2 m c).symm
  funext j
  idx_vars j
  exact ref2 _ _ _ _

end Cert.MixInput

end
-- ==== Proof.MemoryInput.lean ====
/-
  The cotangent of the normed memory, from the keys and from the values.
-/
module

public import proofs.«01_k».proof.Proof.Gen.KvIn.Frame
public import proofs.«01_k».proof.Proof.Gen.KvInIdeal.Value
public import proofs.«01_k».proof.Proof.Gen.KvInRefIdeal.Read
public import proofs.«01_k».proof.Proof.Gen.KvInRefIdeal.Run
public import proofs.«01_k».proof.Defs
public import Idealize.ShloMosaic.Lib.Pipeline.ValueKit
public import Idealize.ShloMosaic.Lib.Pointwise

@[expose] public section

set_option maxRecDepth 16384

noncomputable section

namespace Cert.MemoryInput

open Idealize.ShloMosaic Idealize.SL.Sem

/-- The kernel terminates without a fault and keeps its arguments. -/
theorem frame_p : Cert.quiescent_KvIn := fun m ρ _ => Cert.KvIn.Gen.frame m ρ

/-- So does its idealization. -/
theorem frame_pi : Cert.quiescent_KvInIdeal := fun m ρ _ => Cert.KvInIdeal.Gen.frame m ρ

/-- The reference terminates and keeps its arguments; it has no semaphore. -/
theorem frame_ri : Cert.quiescent_KvInRefIdeal := fun m ρ _ =>
  (θ_run Cert.KvInRefIdeal.defs _ _).mono (fun r h => ⟨fun c => (h c).2,
      Idealize.ShloMosaic.sem_eq_zero_of_no_sems (by decide) r.2⟩)
    (Cert.KvInRefIdeal.Value.run (F := Ideal) m ρ)

section

open Cert.KvInIdeal Cert.KvInIdeal.Gen

variable (m : (ℓ : Loc nD τ sig) → Buf (Elt Ideal) ℓ) (c : Dev nD)

/-- The arguments: the two cotangents and the two weights. -/
abbrev dk : S256x2048.Idx → EReal := m ((c.tc : Thread nD τ).loc main_arg0)
abbrev dv : S256x2048.Idx → EReal := m ((c.tc : Thread nD τ).loc main_arg1)
abbrev wk : S2048x2048.Idx → EReal := m ((c.tc : Thread nD τ).loc main_arg2)
abbrev wv : S2048x2048.Idx → EReal := m ((c.tc : Thread nD τ).loc main_arg3)

/-- Which block each window holds at a point. -/
theorem idx (t : Fin cfg0.N) : win0_0.index t = ![0, 0] ∧ win0_1.index t = ![0, 0] ∧ win0_2.index t = ![t.val, 0] ∧ win0_3.index t = ![t.val, 0] ∧ win0_4.index t = ![0, t.val] := by
  revert t; decide +kernel

/-- The keys' part and the values' part. -/
theorem arr4 : (dats m 0 c).arrAt 4 cfg0.N = fun i : S256x2048.Idx => (∑ k : Fin 2048, dk m c (ix2 (i 0) k) * wk m c (ix2 (i 1) k)) + ∑ k : Fin 2048, dv m c (ix2 (i 0) k) * wv m c (ix2 (i 1) k) := by
  refine (dats m 0 c).arrAt_eq_of_covers 4 _ (by decide +kernel) fun t hf y => ?_
  blk_simp
  rw [after0_4]
  frame_out
  have hy : y = (ix2 (y 0) (y 1) : S256x1024.Idx) := (ix2_eta (n0 := 256) (n1 := 1024) y).symm
  rw [hy]
  pointwise [k0_pay1]
  blk_point [iblk, V, idx t]

end

open Cert.KvInRefIdeal.Read in
/-- The reference's result at an element. -/
theorem ref4 (dk : FVec Ideal Cert.KvInRefIdeal.S256x2048 .f32) (dv : FVec Ideal Cert.KvInRefIdeal.S256x2048 .f32) (wk : FVec Ideal Cert.KvInRefIdeal.S2048x2048 .f32) (wv : FVec Ideal Cert.KvInRefIdeal.S2048x2048 .f32) (i : Fin 256) (j : Fin 2048) :
    val_main_v5 (F := Ideal) dk dv wk wv (ix2 i j) = (∑ k : Fin 2048, dk (ix2 i k) * wk (ix2 j k)) + ∑ k : Fin 2048, dv (ix2 i k) * wv (ix2 j k) := by
  refine Eq.trans ?_ (add_comm _ _)
  pointwise [val_main_v5, val_main_v4, val_main_v3, val_main_v2, val_main_v1]

/-- What the kernel's idealization ends with is the reference's result. -/
theorem algebraic : Cert.algebraic_KvInIdeal_KvInRefIdeal := by
  intro m g m' g' _ hagree
  refine ⟨fun c => (Cert.KvInIdeal.Gen.dats m 0 c).arrAt 4 Cert.KvInIdeal.cfg0.N, Cert.KvInIdeal.Value.run_blocks m g, ?_⟩
  refine (θ_run Cert.KvInRefIdeal.defs _ _).mono (fun r h c => ?_) (Cert.KvInRefIdeal.Value.run (F := Ideal) m' g')
  obtain ⟨h0, h1, h2, h3⟩ := hagree c
  refine ⟨(h c).1.trans ?_, (h c).2⟩
  rw [Cert.KvInRefIdeal.Read.val_main_v5_eq, h0, h1, h2, h3]
  refine Eq.trans ?_ (arr4 m c).symm
  funext j
  idx_vars j
  exact ref4 _ _ _ _ _ _

end Cert.MemoryInput

end
-- ==== Proof.InputForward.lean ====
/-
  The combined input projection.
-/
module

public import proofs.«01_k».proof.Proof.Gen.ProjIn.Frame
public import proofs.«01_k».proof.Proof.Gen.ProjInIdeal.Value
public import proofs.«01_k».proof.Proof.Gen.ProjInRefIdeal.Read
public import proofs.«01_k».proof.Proof.Gen.ProjInRefIdeal.Run
public import proofs.«01_k».proof.Defs
public import Idealize.ShloMosaic.Lib.Pipeline.ValueKit
public import Idealize.ShloMosaic.Lib.Pointwise

@[expose] public section

set_option maxRecDepth 16384

noncomputable section

namespace Cert.InputForward

open Idealize.ShloMosaic Idealize.SL.Sem

/-- The kernel terminates without a fault and keeps its arguments. -/
theorem frame_p : Cert.quiescent_ProjIn := fun m ρ _ => Cert.ProjIn.Gen.frame m ρ

/-- So does its idealization. -/
theorem frame_pi : Cert.quiescent_ProjInIdeal := fun m ρ _ => Cert.ProjInIdeal.Gen.frame m ρ

/-- The reference terminates and keeps its arguments; it has no semaphore. -/
theorem frame_ri : Cert.quiescent_ProjInRefIdeal := fun m ρ _ =>
  (θ_run Cert.ProjInRefIdeal.defs _ _).mono (fun r h => ⟨fun c => (h c).2,
      Idealize.ShloMosaic.sem_eq_zero_of_no_sems (by decide) r.2⟩)
    (Cert.ProjInRefIdeal.Value.run (F := Ideal) m ρ)

section

open Cert.ProjInIdeal Cert.ProjInIdeal.Gen

variable (m : (ℓ : Loc nD τ sig) → Buf (Elt Ideal) ℓ) (c : Dev nD)

/-- The arguments: the normed input and the weight. -/
abbrev h : S4096x2048.Idx → EReal := m ((c.tc : Thread nD τ).loc main_arg0)
abbrev w : S2048x3072.Idx → EReal := m ((c.tc : Thread nD τ).loc main_arg1)

/-- Which block each window holds at a point. -/
theorem idx (t : Fin cfg0.N) : win0_0.index t = ![t.val / 3, 0] ∧ win0_1.index t = ![t.val % 3, 0] ∧ win0_2.index t = ![t.val / 3, t.val % 3] := by
  revert t; decide +kernel

/-- Each element sums over the model's columns. -/
theorem arr2 : (dats m 0 c).arrAt 2 cfg0.N = fun i : S4096x3072.Idx => ∑ k : Fin 2048, h m c (ix2 (i 0) k) * w m c (ix2 k (i 1)) := by
  refine (dats m 0 c).arrAt_eq_of_covers 2 _ (by decide +kernel) fun t hf y => ?_
  blk_simp
  rw [after0_2]
  frame_out
  have hy : y = (ix2 (y 0) (y 1) : S1024x1024.Idx) := (ix2_eta (n0 := 1024) (n1 := 1024) y).symm
  rw [hy]
  pointwise [k0_pay1]
  blk_point [iblk, V, idx t]

end

open Cert.ProjInRefIdeal.Read in
/-- The reference's result at an element. -/
theorem ref2 (h : FVec Ideal Cert.ProjInRefIdeal.S4096x2048 .bf16) (w : FVec Ideal Cert.ProjInRefIdeal.S2048x3072 .f32) (i : Fin 4096) (j : Fin 3072) :
    val_main_v1 (F := Ideal) h w (ix2 i j) = ∑ k : Fin 2048, h (ix2 i k) * w (ix2 k j) := by
  pointwise [val_main_v1, val_main_v0]

/-- What the kernel's idealization ends with is the reference's result. -/
theorem algebraic : Cert.algebraic_ProjInIdeal_ProjInRefIdeal := by
  intro m g m' g' _ hagree
  refine ⟨fun c => (Cert.ProjInIdeal.Gen.dats m 0 c).arrAt 2 Cert.ProjInIdeal.cfg0.N, Cert.ProjInIdeal.Value.run_blocks m g, ?_⟩
  refine (θ_run Cert.ProjInRefIdeal.defs _ _).mono (fun r h c => ?_) (Cert.ProjInRefIdeal.Value.run (F := Ideal) m' g')
  obtain ⟨h0, h1⟩ := hagree c
  refine ⟨(h c).1.trans ?_, (h c).2⟩
  rw [Cert.ProjInRefIdeal.Read.val_main_v1_eq, h0, h1]
  refine Eq.trans ?_ (arr2 m c).symm
  funext j
  idx_vars j
  exact ref2 _ _ _ _

end Cert.InputForward

end
-- ==== Proof.QueryForward.lean ====
/-
  The queries' projection.
-/
module

public import proofs.«01_k».proof.Proof.Gen.ProjQ.Frame
public import proofs.«01_k».proof.Proof.Gen.ProjQIdeal.Value
public import proofs.«01_k».proof.Proof.Gen.ProjQRefIdeal.Read
public import proofs.«01_k».proof.Proof.Gen.ProjQRefIdeal.Run
public import proofs.«01_k».proof.Defs
public import Idealize.ShloMosaic.Lib.Pipeline.ValueKit
public import Idealize.ShloMosaic.Lib.Pointwise

@[expose] public section

set_option maxRecDepth 16384

noncomputable section

namespace Cert.QueryForward

open Idealize.ShloMosaic Idealize.SL.Sem

/-- The kernel terminates without a fault and keeps its arguments. -/
theorem frame_p : Cert.quiescent_ProjQ := fun m ρ _ => Cert.ProjQ.Gen.frame m ρ

/-- So does its idealization. -/
theorem frame_pi : Cert.quiescent_ProjQIdeal := fun m ρ _ => Cert.ProjQIdeal.Gen.frame m ρ

/-- The reference terminates and keeps its arguments; it has no semaphore. -/
theorem frame_ri : Cert.quiescent_ProjQRefIdeal := fun m ρ _ =>
  (θ_run Cert.ProjQRefIdeal.defs _ _).mono (fun r h => ⟨fun c => (h c).2,
      Idealize.ShloMosaic.sem_eq_zero_of_no_sems (by decide) r.2⟩)
    (Cert.ProjQRefIdeal.Value.run (F := Ideal) m ρ)

section

open Cert.ProjQIdeal Cert.ProjQIdeal.Gen

variable (m : (ℓ : Loc nD τ sig) → Buf (Elt Ideal) ℓ) (c : Dev nD)

/-- The arguments: the normed input and the weight. -/
abbrev h : S4096x2048.Idx → EReal := m ((c.tc : Thread nD τ).loc main_arg0)
abbrev w : S2048x2048.Idx → EReal := m ((c.tc : Thread nD τ).loc main_arg1)

/-- Which block each window holds at a point. -/
theorem idx (t : Fin cfg0.N) : win0_0.index t = ![t.val / 2, 0] ∧ win0_1.index t = ![0, t.val % 2] ∧ win0_2.index t = ![t.val / 2, t.val % 2] := by
  revert t; decide +kernel

/-- Each element sums over the model's columns. -/
theorem arr2 : (dats m 0 c).arrAt 2 cfg0.N = fun i : S4096x2048.Idx => ∑ k : Fin 2048, h m c (ix2 (i 0) k) * w m c (ix2 k (i 1)) := by
  refine (dats m 0 c).arrAt_eq_of_covers 2 _ (by decide +kernel) fun t hf y => ?_
  blk_simp
  rw [after0_2]
  frame_out
  have hy : y = (ix2 (y 0) (y 1) : S1024x1024.Idx) := (ix2_eta (n0 := 1024) (n1 := 1024) y).symm
  rw [hy]
  pointwise [k0_pay1]
  blk_point [iblk, V, idx t]

end

open Cert.ProjQRefIdeal.Read in
/-- The reference's result at an element. -/
theorem ref2 (h : FVec Ideal Cert.ProjQRefIdeal.S4096x2048 .bf16) (w : FVec Ideal Cert.ProjQRefIdeal.S2048x2048 .f32) (i : Fin 4096) (j : Fin 2048) :
    val_main_v2 (F := Ideal) h w (ix2 i j) = ∑ k : Fin 2048, h (ix2 i k) * w (ix2 k j) := by
  pointwise [val_main_v2, val_main_v1, val_main_v0]

/-- What the kernel's idealization ends with is the reference's result. -/
theorem algebraic : Cert.algebraic_ProjQIdeal_ProjQRefIdeal := by
  intro m g m' g' _ hagree
  refine ⟨fun c => (Cert.ProjQIdeal.Gen.dats m 0 c).arrAt 2 Cert.ProjQIdeal.cfg0.N, Cert.ProjQIdeal.Value.run_blocks m g, ?_⟩
  refine (θ_run Cert.ProjQRefIdeal.defs _ _).mono (fun r h c => ?_) (Cert.ProjQRefIdeal.Value.run (F := Ideal) m' g')
  obtain ⟨h0, h1⟩ := hagree c
  refine ⟨(h c).1.trans ?_, (h c).2⟩
  rw [Cert.ProjQRefIdeal.Read.val_main_v2_eq, h0, h1]
  refine Eq.trans ?_ (arr2 m c).symm
  funext j
  idx_vars j
  exact ref2 _ _ _ _

end Cert.QueryForward

end
-- ==== Proof.MemoryForward.lean ====
/-
  The projections of the keys and of the values.
-/
module

public import proofs.«01_k».proof.Proof.Gen.ProjKv.Frame
public import proofs.«01_k».proof.Proof.Gen.ProjKvIdeal.Value
public import proofs.«01_k».proof.Proof.Gen.ProjKvRefIdeal.Read
public import proofs.«01_k».proof.Proof.Gen.ProjKvRefIdeal.Run
public import proofs.«01_k».proof.Defs
public import Idealize.ShloMosaic.Lib.Pipeline.ValueKit
public import Idealize.ShloMosaic.Lib.Pointwise

@[expose] public section

set_option maxRecDepth 16384

noncomputable section

namespace Cert.MemoryForward

open Idealize.ShloMosaic Idealize.SL.Sem

/-- The kernel terminates without a fault and keeps its arguments. -/
theorem frame_p : Cert.quiescent_ProjKv := fun m ρ _ => Cert.ProjKv.Gen.frame m ρ

/-- So does its idealization. -/
theorem frame_pi : Cert.quiescent_ProjKvIdeal := fun m ρ _ => Cert.ProjKvIdeal.Gen.frame m ρ

/-- The reference terminates and keeps its arguments; it has no semaphore. -/
theorem frame_ri : Cert.quiescent_ProjKvRefIdeal := fun m ρ _ =>
  (θ_run Cert.ProjKvRefIdeal.defs _ _).mono (fun r h => ⟨fun c => (h c).2.2,
      Idealize.ShloMosaic.sem_eq_zero_of_no_sems (by decide) r.2⟩)
    (Cert.ProjKvRefIdeal.Value.run (F := Ideal) m ρ)

section

open Cert.ProjKvIdeal Cert.ProjKvIdeal.Gen

variable (m : (ℓ : Loc nD τ sig) → Buf (Elt Ideal) ℓ) (c : Dev nD)

/-- The arguments: the normed memory and the two weights. -/
abbrev h : S256x2048.Idx → EReal := m ((c.tc : Thread nD τ).loc main_arg0)
abbrev wk : S2048x2048.Idx → EReal := m ((c.tc : Thread nD τ).loc main_arg1)
abbrev wv : S2048x2048.Idx → EReal := m ((c.tc : Thread nD τ).loc main_arg2)

/-- Which block each window holds at a point. -/
theorem idx (t : Fin cfg0.N) : win0_0.index t = ![0, 0] ∧ win0_1.index t = ![0, t.val] ∧ win0_2.index t = ![0, t.val] ∧ win0_3.index t = ![0, t.val] ∧ win0_4.index t = ![0, t.val] := by
  revert t; decide +kernel

/-- The keys. -/
theorem arr3 : (dats m 0 c).arrAt 3 cfg0.N = fun i : S256x2048.Idx => ∑ k : Fin 2048, h m c (ix2 (i 0) k) * wk m c (ix2 k (i 1)) := by
  refine (dats m 0 c).arrAt_eq_of_covers 3 _ (by decide +kernel) fun t hf y => ?_
  blk_simp
  rw [after0_3]
  frame_out
  have hy : y = (ix2 (y 0) (y 1) : S256x1024.Idx) := (ix2_eta (n0 := 256) (n1 := 1024) y).symm
  rw [hy]
  pointwise [k0_pay1, k0_pay2]
  blk_point [iblk, V, idx t]

/-- The values. -/
theorem arr4 : (dats m 0 c).arrAt 4 cfg0.N = fun i : S256x2048.Idx => ∑ k : Fin 2048, h m c (ix2 (i 0) k) * wv m c (ix2 k (i 1)) := by
  refine (dats m 0 c).arrAt_eq_of_covers 4 _ (by decide +kernel) fun t hf y => ?_
  blk_simp
  rw [after0_4]
  frame_out
  have hy : y = (ix2 (y 0) (y 1) : S256x1024.Idx) := (ix2_eta (n0 := 256) (n1 := 1024) y).symm
  rw [hy]
  pointwise [k0_pay1, k0_pay2]
  blk_point [iblk, V, idx t]

end

open Cert.ProjKvRefIdeal.Read in
/-- The reference's result at an element. -/
theorem ref3 (h : FVec Ideal Cert.ProjKvRefIdeal.S256x2048 .bf16) (wk : FVec Ideal Cert.ProjKvRefIdeal.S2048x2048 .f32) (i : Fin 256) (j : Fin 2048) :
    val_main_v2 (F := Ideal) h wk (ix2 i j) = ∑ k : Fin 2048, h (ix2 i k) * wk (ix2 k j) := by
  pointwise [val_main_v2, val_main_v1, val_main_v0]

open Cert.ProjKvRefIdeal.Read in
/-- The reference's result at an element. -/
theorem ref4 (h : FVec Ideal Cert.ProjKvRefIdeal.S256x2048 .bf16) (wv : FVec Ideal Cert.ProjKvRefIdeal.S2048x2048 .f32) (i : Fin 256) (j : Fin 2048) :
    val_main_v4 (F := Ideal) h wv (ix2 i j) = ∑ k : Fin 2048, h (ix2 i k) * wv (ix2 k j) := by
  pointwise [val_main_v4, val_main_v3, val_main_v0]

/-- What the kernel's idealization ends with is the reference's result. -/
theorem algebraic : Cert.algebraic_ProjKvIdeal_ProjKvRefIdeal := by
  intro m g m' g' _ hagree
  refine ⟨fun c => (Cert.ProjKvIdeal.Gen.dats m 0 c).arrAt 3 Cert.ProjKvIdeal.cfg0.N,
    fun c => (Cert.ProjKvIdeal.Gen.dats m 0 c).arrAt 4 Cert.ProjKvIdeal.cfg0.N, Cert.ProjKvIdeal.Value.run_blocks m g, ?_⟩
  refine (θ_run Cert.ProjKvRefIdeal.defs _ _).mono (fun r h c => ?_) (Cert.ProjKvRefIdeal.Value.run (F := Ideal) m' g')
  obtain ⟨h0, h1, h2⟩ := hagree c
  refine ⟨(h c).1.trans ?_, (h c).2.1.trans ?_, (h c).2.2⟩
  · rw [Cert.ProjKvRefIdeal.Read.val_main_v2_eq, h0, h1]
    refine Eq.trans ?_ (arr3 m c).symm
    funext j
    idx_vars j
    exact ref3 _ _ _ _
  · rw [Cert.ProjKvRefIdeal.Read.val_main_v4_eq, h0, h2]
    refine Eq.trans ?_ (arr4 m c).symm
    funext j
    idx_vars j
    exact ref4 _ _ _ _

end Cert.MemoryForward

end
-- ==== Proof.GateForward.lean ====
/-
  The feed-forward gate's product.
-/
module

public import proofs.«01_k».proof.Proof.Gen.FfnGate.Frame
public import proofs.«01_k».proof.Proof.Gen.FfnGateIdeal.Value
public import proofs.«01_k».proof.Proof.Gen.FfnGateRefIdeal.Read
public import proofs.«01_k».proof.Proof.Gen.FfnGateRefIdeal.Run
public import proofs.«01_k».proof.Defs
public import Idealize.ShloMosaic.Lib.Pipeline.ValueKit
public import Idealize.ShloMosaic.Lib.Pointwise

@[expose] public section

set_option maxRecDepth 16384

noncomputable section

namespace Cert.GateForward

open Idealize.ShloMosaic Idealize.SL.Sem

/-- The kernel terminates without a fault and keeps its arguments. -/
theorem frame_p : Cert.quiescent_FfnGate := fun m ρ _ => Cert.FfnGate.Gen.frame m ρ

/-- So does its idealization. -/
theorem frame_pi : Cert.quiescent_FfnGateIdeal := fun m ρ _ => Cert.FfnGateIdeal.Gen.frame m ρ

/-- The reference terminates and keeps its arguments; it has no semaphore. -/
theorem frame_ri : Cert.quiescent_FfnGateRefIdeal := fun m ρ _ =>
  (θ_run Cert.FfnGateRefIdeal.defs _ _).mono (fun r h => ⟨fun c => (h c).2,
      Idealize.ShloMosaic.sem_eq_zero_of_no_sems (by decide) r.2⟩)
    (Cert.FfnGateRefIdeal.Value.run (F := Ideal) m ρ)

section

open Cert.FfnGateIdeal Cert.FfnGateIdeal.Gen

variable (m : (ℓ : Loc nD τ sig) → Buf (Elt Ideal) ℓ) (c : Dev nD)

/-- The arguments: the normed input and the weight. -/
abbrev h : S4096x2048.Idx → EReal := m ((c.tc : Thread nD τ).loc main_arg0)
abbrev w : S2048x5632.Idx → EReal := m ((c.tc : Thread nD τ).loc main_arg1)

/-- Which block each window holds at a point. -/
theorem idx (t : Fin cfg0.N) : win0_0.index t = ![t.val / 4, 0] ∧ win0_1.index t = ![t.val % 4, 0] ∧ win0_2.index t = ![t.val / 4, t.val % 4] := by
  revert t; decide +kernel

/-- Each element sums over the model's columns. -/
theorem arr2 : (dats m 0 c).arrAt 2 cfg0.N = fun i : S4096x5632.Idx => ∑ k : Fin 2048, h m c (ix2 (i 0) k) * w m c (ix2 k (i 1)) := by
  refine (dats m 0 c).arrAt_eq_of_covers 2 _ (by decide +kernel) fun t hf y => ?_
  blk_simp
  rw [after0_2]
  frame_out
  have hy : y = (ix2 (y 0) (y 1) : S1024x1408.Idx) := (ix2_eta (n0 := 1024) (n1 := 1408) y).symm
  rw [hy]
  pointwise [k0_pay1]
  blk_point [iblk, V, idx t]

end

open Cert.FfnGateRefIdeal.Read in
/-- The reference's result at an element. -/
theorem ref2 (h : FVec Ideal Cert.FfnGateRefIdeal.S4096x2048 .bf16) (w : FVec Ideal Cert.FfnGateRefIdeal.S2048x5632 .f32) (i : Fin 4096) (j : Fin 5632) :
    val_main_v1 (F := Ideal) h w (ix2 i j) = ∑ k : Fin 2048, h (ix2 i k) * w (ix2 k j) := by
  pointwise [val_main_v1, val_main_v0]

/-- What the kernel's idealization ends with is the reference's result. -/
theorem algebraic : Cert.algebraic_FfnGateIdeal_FfnGateRefIdeal := by
  intro m g m' g' _ hagree
  refine ⟨fun c => (Cert.FfnGateIdeal.Gen.dats m 0 c).arrAt 2 Cert.FfnGateIdeal.cfg0.N, Cert.FfnGateIdeal.Value.run_blocks m g, ?_⟩
  refine (θ_run Cert.FfnGateRefIdeal.defs _ _).mono (fun r h c => ?_) (Cert.FfnGateRefIdeal.Value.run (F := Ideal) m' g')
  obtain ⟨h0, h1⟩ := hagree c
  refine ⟨(h c).1.trans ?_, (h c).2⟩
  rw [Cert.FfnGateRefIdeal.Read.val_main_v1_eq, h0, h1]
  refine Eq.trans ?_ (arr2 m c).symm
  funext j
  idx_vars j
  exact ref2 _ _ _ _

end Cert.GateForward

end
-- ==== Proof.UpForward.lean ====
/-
  The feed-forward's up product and its activation by the gate.
-/
module

public import proofs.«01_k».proof.Proof.Silu
public import proofs.«01_k».proof.Proof.Gen.FfnUp.Frame
public import proofs.«01_k».proof.Proof.Gen.FfnUpIdeal.Value
public import proofs.«01_k».proof.Proof.Gen.FfnUpRefIdeal.Read
public import proofs.«01_k».proof.Proof.Gen.FfnUpRefIdeal.Run
public import proofs.«01_k».proof.Defs
public import Idealize.ShloMosaic.Lib.Pipeline.ValueKit
public import Idealize.ShloMosaic.Lib.Pointwise

@[expose] public section

set_option maxRecDepth 16384

noncomputable section

namespace Cert.UpForward

open Idealize.ShloMosaic Idealize.SL.Sem Cert.Silu

/-- The kernel terminates without a fault and keeps its arguments. -/
theorem frame_p : Cert.quiescent_FfnUp := fun m ρ _ => Cert.FfnUp.Gen.frame m ρ

/-- So does its idealization. -/
theorem frame_pi : Cert.quiescent_FfnUpIdeal := fun m ρ _ => Cert.FfnUpIdeal.Gen.frame m ρ

/-- The reference terminates and keeps its arguments; it has no semaphore. -/
theorem frame_ri : Cert.quiescent_FfnUpRefIdeal := fun m ρ _ =>
  (θ_run Cert.FfnUpRefIdeal.defs _ _).mono (fun r h => ⟨fun c => (h c).2.2.2,
      Idealize.ShloMosaic.sem_eq_zero_of_no_sems (by decide) r.2⟩)
    (Cert.FfnUpRefIdeal.Value.run (F := Ideal) m ρ)

section

open Cert.FfnUpIdeal Cert.FfnUpIdeal.Gen

variable (m : (ℓ : Loc nD τ sig) → Buf (Elt Ideal) ℓ) (c : Dev nD)

/-- The arguments: the normed input, the weight and the gate. -/
abbrev h : S4096x2048.Idx → EReal := m ((c.tc : Thread nD τ).loc main_arg0)
abbrev w : S2048x5632.Idx → EReal := m ((c.tc : Thread nD τ).loc main_arg1)
abbrev gt : S4096x5632.Idx → EReal := m ((c.tc : Thread nD τ).loc main_arg2)

/-- Which block each window holds at a point. -/
theorem idx (t : Fin cfg0.N) : win0_0.index t = ![t.val / 4, 0] ∧ win0_1.index t = ![t.val % 4, 0] ∧ win0_2.index t = ![t.val / 4, t.val % 4] ∧ win0_3.index t = ![t.val / 4, t.val % 4] ∧ win0_4.index t = ![t.val / 4, t.val % 4] ∧ win0_5.index t = ![t.val / 4, t.val % 4] := by
  revert t; decide +kernel

/-- The gate goes through. -/
theorem arr3 : (dats m 0 c).arrAt 3 cfg0.N = fun i : S4096x5632.Idx => gt m c i := by
  refine (dats m 0 c).arrAt_eq_of_covers 3 _ (by decide +kernel) fun t hf y => ?_
  blk_simp
  rw [after0_3]
  frame_out
  have hy : y = (ix2 (y 0) (y 1) : S1024x1408.Idx) := (ix2_eta (n0 := 1024) (n1 := 1408) y).symm
  rw [hy]
  pointwise [k0_pay2, k0_pay1]
  blk_point [iblk, V, idx t]

/-- The up product. -/
theorem arr4 : (dats m 0 c).arrAt 4 cfg0.N = fun i : S4096x5632.Idx => ∑ k : Fin 2048, h m c (ix2 (i 0) k) * w m c (ix2 k (i 1)) := by
  refine (dats m 0 c).arrAt_eq_of_covers 4 _ (by decide +kernel) fun t hf y => ?_
  blk_simp
  rw [after0_4]
  frame_out
  have hy : y = (ix2 (y 0) (y 1) : S1024x1408.Idx) := (ix2_eta (n0 := 1024) (n1 := 1408) y).symm
  rw [hy]
  pointwise [k0_pay3, k0_pay1]
  blk_point [iblk, V, idx t]

/-- The activation. -/
theorem arr5 : (dats m 0 c).arrAt 5 cfg0.N = fun i : S4096x5632.Idx => gt m c i * expit (gt m c i) * ∑ k : Fin 2048, h m c (ix2 (i 0) k) * w m c (ix2 k (i 1)) := by
  unfold expit
  refine (dats m 0 c).arrAt_eq_of_covers 5 _ (by decide +kernel) fun t hf y => ?_
  blk_simp
  rw [after0_5]
  frame_out
  have hy : y = (ix2 (y 0) (y 1) : S1024x1408.Idx) := (ix2_eta (n0 := 1024) (n1 := 1408) y).symm
  rw [hy]
  pointwise [k0_pay4, k0_pay3, k0_pay2, k0_pay1]
  simp only [zero_sub]
  blk_point [iblk, V, idx t]

end

open Cert.FfnUpRefIdeal.Read in
/-- The reference's result at an element. -/
theorem ref3 (gt : FVec Ideal Cert.FfnUpRefIdeal.S4096x5632 .f32) (i : Fin 4096) (j : Fin 5632) :
    val_main_v2 (F := Ideal) gt (ix2 i j) = gt (ix2 i j) := by
  pointwise [val_main_v2]

open Cert.FfnUpRefIdeal.Read in
/-- The reference's result at an element. -/
theorem ref4 (h : FVec Ideal Cert.FfnUpRefIdeal.S4096x2048 .bf16) (w : FVec Ideal Cert.FfnUpRefIdeal.S2048x5632 .f32) (i : Fin 4096) (j : Fin 5632) :
    val_main_v3 (F := Ideal) h w (ix2 i j) = ∑ k : Fin 2048, h (ix2 i k) * w (ix2 k j) := by
  pointwise [val_main_v3, val_main_v1, val_main_v0]

open Cert.FfnUpRefIdeal.Read in
/-- The reference's result at an element. -/
theorem ref5 (h : FVec Ideal Cert.FfnUpRefIdeal.S4096x2048 .bf16) (w : FVec Ideal Cert.FfnUpRefIdeal.S2048x5632 .f32) (gt : FVec Ideal Cert.FfnUpRefIdeal.S4096x5632 .f32) (i : Fin 4096) (j : Fin 5632) :
    val_main_v6 (F := Ideal) h w gt (ix2 i j) = gt (ix2 i j) * expit (gt (ix2 i j)) * ∑ k : Fin 2048, h (ix2 i k) * w (ix2 k j) := by
  pointwise [val_main_v6, val_main_v5, val_main_call0_v5, val_main_call0_v4, val_main_call0_cst_0, val_main_call0_v3, val_main_call0_v2, val_main_call0_cst, val_main_call0_v1, val_main_call0_v0, val_main_v4, val_main_v3, val_main_v1, val_main_v0]
  rfl

/-- What the kernel's idealization ends with is the reference's result. -/
theorem algebraic : Cert.algebraic_FfnUpIdeal_FfnUpRefIdeal := by
  intro m g m' g' _ hagree
  refine ⟨fun c => (Cert.FfnUpIdeal.Gen.dats m 0 c).arrAt 3 Cert.FfnUpIdeal.cfg0.N,
    fun c => (Cert.FfnUpIdeal.Gen.dats m 0 c).arrAt 4 Cert.FfnUpIdeal.cfg0.N,
    fun c => (Cert.FfnUpIdeal.Gen.dats m 0 c).arrAt 5 Cert.FfnUpIdeal.cfg0.N, Cert.FfnUpIdeal.Value.run_blocks m g, ?_⟩
  refine (θ_run Cert.FfnUpRefIdeal.defs _ _).mono (fun r h c => ?_) (Cert.FfnUpRefIdeal.Value.run (F := Ideal) m' g')
  obtain ⟨h0, h1, h2⟩ := hagree c
  refine ⟨(h c).1.trans ?_, (h c).2.1.trans ?_, (h c).2.2.1.trans ?_, (h c).2.2.2⟩
  · rw [Cert.FfnUpRefIdeal.Read.val_main_v2_eq, h2]
    refine Eq.trans ?_ (arr3 m c).symm
    funext j
    idx_vars j
    exact ref3 _ _ _
  · rw [Cert.FfnUpRefIdeal.Read.val_main_v3_eq, h0, h1]
    refine Eq.trans ?_ (arr4 m c).symm
    funext j
    idx_vars j
    exact ref4 _ _ _ _
  · rw [Cert.FfnUpRefIdeal.Read.val_main_v6_eq, h0, h1, h2]
    refine Eq.trans ?_ (arr5 m c).symm
    funext j
    idx_vars j
    exact ref5 _ _ _ _ _

end Cert.UpForward

end
-- ==== Proof.AttnForward.lean ====
/-
  The attention's forward pass: each row of queries against the 256 keys of its head, the softmax of the scores, and
  the values weighted by it.
-/
module

public import proofs.«01_k».proof.Proof.Gen.AttnFwd.Frame
public import proofs.«01_k».proof.Proof.Gen.AttnFwdIdeal.Value
public import proofs.«01_k».proof.Proof.Gen.AttnFwdRefIdeal.Read
public import proofs.«01_k».proof.Proof.Gen.AttnFwdRefIdeal.Run
public import proofs.«01_k».proof.Defs
public import proofs.«01_k».proof.Proof.AttnBlock
public import proofs.«01_k».proof.Proof.AttnReference

@[expose] public section

set_option maxRecDepth 16384

noncomputable section

namespace Cert.AttnForward

open Idealize.ShloMosaic Idealize.SL.Sem Cert.Attn

/-- The kernel terminates without a fault and keeps its arguments. -/
theorem frame_p : Cert.quiescent_AttnFwd := fun m ρ _ => Cert.AttnFwd.Gen.frame m ρ

/-- So does its idealization. -/
theorem frame_pi : Cert.quiescent_AttnFwdIdeal := fun m ρ _ => Cert.AttnFwdIdeal.Gen.frame m ρ

/-- The reference terminates and keeps its arguments; it has no semaphore. -/
theorem frame_ri : Cert.quiescent_AttnFwdRefIdeal := fun m ρ _ =>
  (θ_run Cert.AttnFwdRefIdeal.defs _ _).mono (fun r h => ⟨fun c => (h c).2,
      Idealize.ShloMosaic.sem_eq_zero_of_no_sems (by decide) r.2⟩)
    (Cert.AttnFwdRefIdeal.Value.run (F := Ideal) m ρ)

/-- The attention's output at column `c` of a row: the values weighted by the softmax of the column's head. -/
def attended (q : Fin 2048 → EReal) (k v : Fin 256 → Fin 2048 → EReal) (c : Fin 2048) : EReal :=
  ∑ j, prob (headOf c) q k j * v j c

section

open Cert.AttnFwdIdeal Cert.AttnFwdIdeal.Gen

section Payloads

variable (a : Vec Ideal S1024x512 .bf16) (b v : Vec Ideal S256x512 .bf16)

/-- The weights of the second head. -/
theorem w3 (r : Fin 1024) (j : Fin 256) : k0_pay3 (F := Ideal) a b (ix2 r j) = pblk a b r j := by
  pointwise [k0_pay3]; rfl

/-- What each head stores, at an element: the weighted values. -/
theorem o0 (r : Fin 1024) (d : Fin 512) : k0_pay2 (F := Ideal) a b v (ix2 r d) = ∑ j, pblk a b r j * v (ix2 j d) := by
  pointwise [k0_pay2]; rfl
theorem o1 (r : Fin 1024) (d : Fin 512) : k0_pay4 (F := Ideal) (k0_pay3 a b) v (ix2 r d) = ∑ j, pblk a b r j * v (ix2 j d) := by
  pointwise [k0_pay4]; simp only [w3]
theorem o2 (r : Fin 1024) (d : Fin 512) : k0_pay5 (F := Ideal) a b v (ix2 r d) = ∑ j, pblk a b r j * v (ix2 j d) := by
  pointwise [k0_pay5]; rfl
theorem o3 (r : Fin 1024) (d : Fin 512) :
    k0_pay1 (F := Ideal) (k0_pay6 a b) (k0_pay7 a b) v (ix2 r d) = ∑ j, pblk a b r j * v (ix2 j d) := by
  pointwise [k0_pay1, k0_pay6, k0_pay7]; rfl

end Payloads

/-- The output of a row block. -/
def outBlk (x0 : Vec Ideal S1024x2048 .bf16) (x1 x2 : Vec Ideal S256x2048 .bf16) (y : S1024x2048.Idx) : EReal :=
  attended (row x0 (y 0)) (row x1) (row x2) (y 1)

/-- Head `h`'s part of the output. -/
theorem piece {x0 : Vec Ideal S1024x2048 .bf16} {x1 x2 : Vec Ideal S256x2048 .bf16} (h : Fin 4)
    {a : Vec Ideal S1024x512 .bf16} {b v : Vec Ideal S256x512 .bf16} (ha : IsHead h a x0) (hb : IsHead h b x1) (hv : IsHead h v x2)
    {pay : Vec Ideal S1024x512 .bf16} (hp : ∀ r d, pay (ix2 r d) = ∑ j, pblk a b r j * v (ix2 j d))
    (r : Fin 1024) (d : Fin 512) : pay (ix2 r d) = outBlk x0 x1 x2 (ix2 r (hc h d)) := by
  rw [hp, pblk_head h ha hb]
  unfold outBlk attended
  simp only [ix2_0, ix2_1, headOf_hc]
  exact Finset.sum_congr rfl fun j _ => congrArg _ (hv j d)

/-- What a point leaves in the output's block. -/
theorem out_eq (x0 : Vec Ideal S1024x2048 .bf16) (x1 x2 : Vec Ideal S256x2048 .bf16) (y : S1024x2048.Idx) :
    out0_3 (F := Ideal) x0 x1 x2 y = outBlk x0 x1 x2 y := by
  refine View.canon_append_of_piecesOf (Val := Elt Ideal) (e := .bf16) (outBlk x0 x1 x2) [] [_, _, _, _] ⟨?_, ?_, ?_, ?_, trivial⟩ y ?_
  · exact store_head 3 1536 rfl inb_S1024x2048_S1024x512_0_1536 _ _ (piece 3 (isHead_ld 3 1536 rfl _ _) (isHead_ld 3 1536 rfl _ _) (isHead_ld 3 1536 rfl _ _) (o3 _ _ _))
  · exact store_head 2 1024 rfl inb_S1024x2048_S1024x512_0_1024 _ _ (piece 2 (isHead_ld 2 1024 rfl _ _) (isHead_ld 2 1024 rfl _ _) (isHead_ld 2 1024 rfl _ _) (o2 _ _ _))
  · exact store_head 1 512 rfl inb_S1024x2048_S1024x512_0_512 _ _ (piece 1 (isHead_ld 1 512 rfl _ _) (isHead_ld 1 512 rfl _ _) (isHead_ld 1 512 rfl _ _) (o1 _ _ _))
  · exact store_head 0 0 rfl inb_S1024x2048_S1024x512_0_0 _ _ (piece 0 (isHead_ld 0 0 rfl _ _) (isHead_ld 0 0 rfl _ _) (isHead_ld 0 0 rfl _ _) (o0 _ _ _))
  · exact View.cover_of_tiledL _ ![1024, 512] (by rfl) y

variable (m : (ℓ : Loc nD τ sig) → Buf (Elt Ideal) ℓ) (c : Dev nD)

/-- The arguments: queries, keys and values. -/
abbrev q : S4096x2048.Idx → EReal := m ((c.tc : Thread nD τ).loc main_arg0)
abbrev k : S256x2048.Idx → EReal := m ((c.tc : Thread nD τ).loc main_arg1)
abbrev v : S256x2048.Idx → EReal := m ((c.tc : Thread nD τ).loc main_arg2)

/-- Which block each window holds at a point. -/
theorem idx (t : Fin cfg0.N) : win0_0.index t = ![t.val, 0] ∧ win0_1.index t = ![0, 0] ∧ win0_2.index t = ![0, 0]
    ∧ win0_3.index t = ![t.val, 0] := by
  revert t; decide +kernel

/-- A row of a point's queries is a row of the argument. -/
theorem rowQ (t : Fin cfg0.N) (r : Fin 1024) (h : t.val * 1024 + r.val < 4096) :
    row (n := 1024) (iblk m c 0 t) r = row (q m c) ⟨t.val * 1024 + r.val, h⟩ := by
  funext d
  show iblk m c 0 t (ix2 r d : S1024x2048.Idx) = m ((c.tc : Thread nD τ).loc main_arg0) (ix2 ⟨t.val * 1024 + r.val, h⟩ d : S4096x2048.Idx)
  blk_ext [iblk, V, idx t]

/-- Every point sees all the keys. -/
theorem rowK (t : Fin cfg0.N) : row (n := 256) (iblk m c 1 t) = row (k m c) := by
  funext r d
  show iblk m c 1 t (ix2 r d : S256x2048.Idx) = m ((c.tc : Thread nD τ).loc main_arg1) (ix2 r d : S256x2048.Idx)
  blk_ext [iblk, V, idx t]

/-- Every point sees all the values. -/
theorem rowV (t : Fin cfg0.N) : row (n := 256) (iblk m c 2 t) = row (v m c) := by
  funext r d
  show iblk m c 2 t (ix2 r d : S256x2048.Idx) = m ((c.tc : Thread nD τ).loc main_arg2) (ix2 r d : S256x2048.Idx)
  blk_ext [iblk, V, idx t]

/-- The output's array. -/
def outArr : S4096x2048.Idx → EReal := fun i => attended (row (q m c) (i 0)) (row (k m c)) (row (v m c)) (i 1)

/-- A point's block of the output is a block of the array. -/
theorem outBlk_eq (t : Fin cfg0.N) (r : Fin 1024) (d : Fin 2048) (h : t.val * 1024 + r.val < 4096) :
    outBlk (iblk m c 0 t) (iblk m c 1 t) (iblk m c 2 t) (ix2 r d) = outArr m c (ix2 ⟨t.val * 1024 + r.val, h⟩ d) := by
  unfold outBlk outArr
  simp only [ix2_0, ix2_1]
  rw [rowQ m c t r h, rowK, rowV]

/-- The output after the run. -/
theorem arr3 : (dats m 0 c).arrAt 3 cfg0.N = outArr m c := by
  refine (dats m 0 c).arrAt_eq_of_covers 3 _ (by decide +kernel) fun t hf y => ?_
  blk_simp
  rw [after0_3, out_eq]
  have hy : y = (ix2 (y 0) (y 1) : S1024x2048.Idx) := (ix2_eta (n0 := 1024) (n1 := 2048) y).symm
  have ht : t.val < 4 := t.isLt
  have hr : (y 0).val < 1024 := (y 0).isLt
  have hb : t.val * 1024 + (y 0).val < 4096 := by omega
  refine (congrArg _ hy).trans ((outBlk_eq m c t (y 0) (y 1) hb).trans (congrArg (outArr m c) ?_))
  blk_ext [idx t]

end

section

open Cert.AttnFwdRefIdeal Cert.AttnFwdRefIdeal.Read

variable (X0 : S4096x2048.Idx → EReal) (X1 X2 : S256x2048.Idx → EReal)

/-- The reference's scores. -/
theorem r8 : val_main_v8 (F := Ideal) X0 X1 = fun i : S4x4096x256.Idx => sc X0 X1 (i 0) (i 1) (i 2) := by
  funext i
  idx_vars i
  pointwise [val_main_v8, val_main_v7, val_main_v6, val_main_v4, val_main_v3, val_main_v1, val_main_v0, val_main_cst]
  simp only [hc_flat]; rfl

/-- The largest score of each row. -/
theorem r9 : val_main_v9 (F := Ideal) X0 X1 = fun i : S4x4096.Idx => top (sc X0 X1 (i 0) (i 1)) := by
  funext i
  idx_vars i
  unfold val_main_v9
  rw [r8]
  pointwise
  rfl

/-- The exponentials. -/
theorem r15 (h : Fin 4) (r : Fin 4096) (j : Fin 256) : val_main_v15 (F := Ideal) X0 X1 (ix3 h r j) = expo (sc X0 X1 h r) j := by
  unfold val_main_v15 val_main_v14 val_main_v13 val_main_v12 val_main_v11 val_main_v10 val_main_cst_1
  rw [r8, r9]
  pointwise
  simp only [negInf]
  rw [max_eq_right bot_le]; rfl

/-- Their sum over each row. -/
theorem r16 (h : Fin 4) (r : Fin 4096) : val_main_v16 (F := Ideal) X0 X1 (ix2 h r) = ∑ i, expo (sc X0 X1 h r) i := by
  pointwise [val_main_v16, val_main_cst_2]
  simp only [Cert.AttnForward.r15]

/-- The weights. -/
theorem r19 (h : Fin 4) (r : Fin 4096) (j : Fin 256) : val_main_v19 (F := Ideal) X0 X1 (ix3 h r j) = soft (sc X0 X1 h r) j := by
  pointwise [val_main_v19, val_main_v18, val_main_v17]
  simp only [Cert.AttnForward.r15, Cert.AttnForward.r16]; rfl

/-- The reference's result at an element. -/
theorem r23 (r : Fin 4096) (d : Fin 2048) :
    val_main_v23 (F := Ideal) X0 X1 X2 (ix2 r d) = attended (row X0 r) (row X1) (row X2) d := by
  pointwise [val_main_v23, val_main_v22, val_main_v21, val_main_v20, val_main_v5, val_main_v2]
  simp only [Cert.AttnForward.r19]
  unfold attended
  refine Finset.sum_congr rfl fun j _ => (mul_comm _ _).trans ?_
  rfl

end

/-- What the kernel's idealization ends with is the reference's result. -/
theorem algebraic : Cert.algebraic_AttnFwdIdeal_AttnFwdRefIdeal := by
  intro m g m' g' _ hagree
  refine ⟨fun c => (Cert.AttnFwdIdeal.Gen.dats m 0 c).arrAt 3 Cert.AttnFwdIdeal.cfg0.N, Cert.AttnFwdIdeal.Value.run_blocks m g, ?_⟩
  refine (θ_run Cert.AttnFwdRefIdeal.defs _ _).mono (fun r h c => ?_) (Cert.AttnFwdRefIdeal.Value.run (F := Ideal) m' g')
  obtain ⟨h0, h1, h2⟩ := hagree c
  refine ⟨(h c).1.trans ?_, (h c).2⟩
  rw [Cert.AttnFwdRefIdeal.Read.val_main_v23_eq, h0, h1, h2]
  refine Eq.trans ?_ (arr3 m c).symm
  funext j
  idx_vars j
  exact Cert.AttnForward.r23 _ _ _ _ _

end Cert.AttnForward

end
-- ==== Proof.RunningSum.lean ====
/-
  A running sum down the rows of an array, and the sum of the last few rows as a difference of two running sums.
-/
module

public import Idealize.ShloMosaic.Lib.Pipeline.ValueKit
public import Idealize.ShloMosaic.Lib.Pointwise
public import Idealize.ShloMosaic.Lib.Routing.Ops

@[expose] public section

set_option maxRecDepth 16384

noncomputable section

namespace Cert.RunningSum

open Idealize.ShloMosaic

/-- The sum of the first `k` terms. -/
def pre (f : Nat → EReal) (k : Nat) : EReal := ∑ i ∈ Finset.range k, f i

/-- The sum of the `w` terms ending at term `R`, or of as many as there are. -/
def window (f : Nat → EReal) (w R : Nat) : EReal := ∑ j ∈ Finset.range w, if j ≤ R then f (R - j) else 0

/-- A window and the terms before it make up the running sum. -/
theorem window_add (f : Nat → EReal) (R w : Nat) : window f w R + pre f (R + 1 - w) = pre f (R + 1) := by
  induction w with
  | zero => simp [window]
  | succ w ih =>
    unfold window at ih ⊢
    rw [Finset.sum_range_succ, ← ih, add_assoc]
    congr 1
    by_cases h : w ≤ R
    · rw [if_pos h, show R + 1 - w = (R - w) + 1 by omega, show R + 1 - (w + 1) = R - w by omega]
      unfold pre
      rw [Finset.sum_range_succ, add_comm]
    · rw [if_neg h, show R + 1 - w = 0 by omega, show R + 1 - (w + 1) = 0 by omega, zero_add]

/-- A sum of finite terms is finite. -/
theorem pre_real (f : Nat → EReal) (g : Nat → ℝ) (h : ∀ i, f i = (g i : EReal)) (k : Nat) :
    pre f k = ((∑ i ∈ Finset.range k, g i : ℝ) : EReal) := by
  induction k with
  | zero => simp [pre]
  | succ k ih =>
    unfold pre at ih ⊢
    rw [Finset.sum_range_succ, Finset.sum_range_succ, ih, h, EReal.coe_add]

/-- Where the terms are finite, a difference of running sums is the window between them. -/
theorem pre_sub (f : Nat → EReal) (g : Nat → ℝ) (h : ∀ i, f i = (g i : EReal)) (R w : Nat) :
    pre f (R + 1) - pre f (R + 1 - w) = window f w R := by
  rw [← window_add f R w, pre_real f g h, EReal.add_sub_cancel_right]

/-- A running sum read backwards from its last term. -/
theorem pre_reflect (f : Nat → EReal) (N R : Nat) (h : R < N) :
    ∑ n ∈ Finset.range N, (if N - 1 ≤ R + n then f (R + n - (N - 1)) else 0) = pre f (R + 1) := by
  rw [← window_add f R N, show R + 1 - N = 0 by omega]
  unfold pre window
  rw [Finset.range_zero, Finset.sum_empty, add_zero, ← Finset.sum_range_reflect]
  refine Finset.sum_congr rfl fun j hj => ?_
  have := Finset.mem_range.1 hj
  by_cases hR : j ≤ R
  · rw [if_pos (by omega), if_pos hR]
    congr 1
    omega
  · rw [if_neg (by omega), if_neg hR]

/-- Folding exact addition over the first `n` positions adds them up. -/
theorem foldl_add {N : Nat} (g : Fin N → EReal) (z : EReal) :
    (List.finRange N).foldl (fun r n => r + g n) z = z + ∑ n, g n := by
  have key : ∀ (l : List (Fin N)) (z : EReal), l.foldl (fun r n => r + g n) z = z + (l.map g).sum := by
    intro l
    induction l with
    | nil => simp
    | cons a l ih => intro z; rw [List.foldl_cons, ih, List.map_cons, List.sum_cons, add_assoc]
  rw [key, ← List.ofFn_eq_map, List.sum_ofFn]

/-- Column `c` of an array as a sequence of rows, zero past the last. -/
def col {N C : Nat} (x : (⟨2, ![N, C]⟩ : Shape).Idx → EReal) (c : Fin C) (r : Nat) : EReal :=
  if h : r < N then x (ix2 ⟨r, h⟩ c) else 0

/-- A shape of one column has as many elements as rows. -/
theorem numel_col (N : Nat) : (⟨2, ![N, 1]⟩ : Shape).numel = N := by simp [Shape.numel]

/-- Index `n` of a shape of one column is row `n`. -/
theorem symm_col {N : Nat} (n : Fin (⟨2, ![N, 1]⟩ : Shape).numel) :
    (⟨2, ![N, 1]⟩ : Shape).rowMajor.symm n = ix2 (n.cast (numel_col N)) (0 : Fin 1) := by
  rw [Equiv.symm_apply_eq]
  refine Fin.ext ?_
  rw [Shape.rowMajor_val_two]
  show n.val = n.val * 1 + 0
  omega

/-- The running sum of an array's rows, as it is written: a window as tall as the array, padded above by one row less. -/
theorem cumsum_rows {N C Nm1 : Nat} (hN : Nm1 + 1 = N) (x : (⟨2, ![N, C]⟩ : Shape).Idx → EReal) (init : (⟨0, ![]⟩ : Shape).Idx → EReal)
    (hi : ∀ i, init i = 0) (h : (⟨2, ![N, C]⟩ : Shape).ReduceWindows (![N, 1] : Fin 2 → Nat) ![1, 1] ![Nm1, 0] ![0, 0] ⟨2, ![N, C]⟩)
    (hu : 0 < (⟨0, ![]⟩ : Shape).numel) (r : Fin N) (c : Fin C) :
    Host.reduceWindowAdd (F := Ideal) (φ := .f32) ![N, 1] ![1, 1] ![Nm1, 0] ![0, 0] x init h hu (ix2 r c) = pre (col x c) (r.val + 1) := by
  show Host.reduceWindow (· + ·) ![N, 1] ![1, 1] ![Nm1, 0] ![0, 0] x (fun _ : (⟨0, ![]⟩ : Shape).Idx => init (Shape.Idx.first hu)) h (by decide) (ix2 r c) = _
  unfold Host.reduceWindow
  dsimp only
  rw [foldl_add, hi, zero_add, ← pre_reflect _ N r.val r.isLt, Finset.sum_range]
  refine Fintype.sum_equiv (finCongr (numel_col N)) _ _ fun n => ?_
  have h0 : ((⟨2, ![N, 1]⟩ : Shape).rowMajor.symm n 0).val = n.val := by rw [symm_col]; rfl
  have h1 : ((⟨2, ![N, 1]⟩ : Shape).rowMajor.symm n 1).val = 0 := by rw [symm_col]; rfl
  have hc := c.isLt
  have hr := r.isLt
  have hnl : n.val < N := (n.cast (numel_col N)).isLt
  split
  · next hin =>
    have hin0 := hin 0
    change Nm1 ≤ r.val * 1 + ((⟨2, ![N, 1]⟩ : Shape).rowMajor.symm n 0).val ∧ r.val * 1 + ((⟨2, ![N, 1]⟩ : Shape).rowMajor.symm n 0).val - Nm1 < N at hin0
    rw [h0] at hin0
    rw [if_pos (by show N - 1 ≤ r.val + n.val; omega)]
    have hlt : r.val + n.val - (N - 1) < N := by omega
    show _ = col x c (r.val + n.val - (N - 1))
    unfold col
    rw [dif_pos hlt]
    refine congrArg x (funext fun a => Fin.ext ?_)
    match a with
    | ⟨0, _⟩ => show r.val * 1 + ((⟨2, ![N, 1]⟩ : Shape).rowMajor.symm n 0).val - Nm1 = r.val + n.val - (N - 1); rw [h0]; omega
    | ⟨1, _⟩ => show c.val * 1 + ((⟨2, ![N, 1]⟩ : Shape).rowMajor.symm n 1).val - 0 = c.val; rw [h1]; omega
  · next hin =>
    rw [if_neg]
    intro hle
    replace hle : N - 1 ≤ r.val + n.val := hle
    refine hin fun a => ?_
    match a with
    | ⟨0, _⟩ => show Nm1 ≤ r.val * 1 + ((⟨2, ![N, 1]⟩ : Shape).rowMajor.symm n 0).val ∧ r.val * 1 + ((⟨2, ![N, 1]⟩ : Shape).rowMajor.symm n 0).val - Nm1 < N; rw [h0]; omega
    | ⟨1, _⟩ => show 0 ≤ c.val * 1 + ((⟨2, ![N, 1]⟩ : Shape).rowMajor.symm n 1).val ∧ c.val * 1 + ((⟨2, ![N, 1]⟩ : Shape).rowMajor.symm n 1).val - 0 < C; rw [h1]; omega

end Cert.RunningSum

end
-- ==== Proof.MixerBlock.lean ====
/-
  What a grid point of the mixer's forward pass computes: the pooled differences of a few rows, the normed gate, and the
  gated sums over a segment.
-/
module

public import proofs.«01_k».proof.Proof.Gen.MixerIdeal.Value
public import proofs.«01_k».proof.Proof.RunningSum
public import proofs.«01_k».proof.Proof.AttnMaths
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mixing

open Idealize.ShloMosaic Idealize.SL.Sem Cert.MixerIdeal Cert.MixerIdeal.Gen

/-- Row `q` of the scratch: sixteen rows of halo, then the block. -/
def extN (h : S16x1024.Idx → EReal) (a : S512x1024.Idx → EReal) (q : Nat) (c : Fin 1024) : EReal :=
  if hq : q < 16 then h (ix2 ⟨q, hq⟩ c) else if hq' : q - 16 < 512 then a (ix2 ⟨q - 16, hq'⟩ c) else 0

/-- The scratch once both stores are in it. -/
def ext (h : S16x1024.Idx → EReal) (a : S512x1024.Idx → EReal) (y : S528x1024.Idx) : EReal := extN h a (y 0).val (y 1)

/-- The scratch's stores are blocks of it. -/
theorem ext_halo (h : S16x1024.Idx → EReal) (a : S512x1024.Idx → EReal) (x : (Rect.unit (s := S528x1024) ![0, 0] S16x1024.size inb_S528x1024_S16x1024_0_0).shape.Idx) :
    h x = ext h a ((Rect.unit (s := S528x1024) ![0, 0] S16x1024.size inb_S528x1024_S16x1024_0_0).emb x) := by
  have e : (Rect.unit (s := S528x1024) ![0, 0] S16x1024.size inb_S528x1024_S16x1024_0_0).emb x
      = (ix2 ⟨(x 0).val, lt_trans (x 0).isLt (by decide)⟩ (x 1) : S528x1024.Idx) := by
    refine funext fun i => ?_
    match i with
    | 0 => exact Fin.ext (by simp [Rect.emb, Rect.unit])
    | 1 => exact Fin.ext (by simp [Rect.emb, Rect.unit])
  rw [e]
  refine Eq.trans ?_ (dif_pos (show (x 0).val < 16 from (x 0).isLt)).symm
  exact congrArg h (ix2_eta (n0 := 16) (n1 := 1024) x).symm
theorem ext_body (h : S16x1024.Idx → EReal) (a : S512x1024.Idx → EReal) (x : (Rect.unit (s := S528x1024) ![16, 0] S512x1024.size inb_S528x1024_S512x1024_16_0).shape.Idx) :
    a x = ext h a ((Rect.unit (s := S528x1024) ![16, 0] S512x1024.size inb_S528x1024_S512x1024_16_0).emb x) := by
  have hx : (x 0).val < 512 := (x 0).isLt
  have e : (Rect.unit (s := S528x1024) ![16, 0] S512x1024.size inb_S528x1024_S512x1024_16_0).emb x
      = (ix2 ⟨16 + (x 0).val, by omega⟩ (x 1) : S528x1024.Idx) := by
    refine funext fun i => ?_
    match i with
    | 0 => exact Fin.ext (by simp [Rect.emb, Rect.unit])
    | 1 => exact Fin.ext (by simp [Rect.emb, Rect.unit])
  rw [e]
  refine Eq.trans ?_ ((dif_neg (show ¬16 + (x 0).val < 16 by omega)).trans (dif_pos (show 16 + (x 0).val - 16 < 512 by omega))).symm
  refine congrArg a ((ix2_eta (n0 := 512) (n1 := 1024) x).symm.trans ?_)
  exact congrArg (fun q : Fin 512 => (ix2 q (x 1) : S512x1024.Idx)) (Fin.ext (by show (x 0).val = 16 + (x 0).val - 16; omega))

/-- 512 rows of the scratch from row `o`, 256 columns from column `off`. -/
def sh (h : S16x1024.Idx → EReal) (a : S512x1024.Idx → EReal) (o off : Nat)
    (inb : ∀ x, (![o, off] : Fin 2 → Nat) x + S512x256.size x ≤ S528x1024.size x) : S512x256.Idx → EReal :=
  fun j => ext h a ((Rect.unit (s := S528x1024) ![o, off] S512x256.size inb).toLoadRect.idx j)

/-- Its elements. -/
theorem sh_apply (h : S16x1024.Idx → EReal) (a : S512x1024.Idx → EReal) (o off : Nat) (inb) (r : Fin 512) (d : Fin 256) (hd : off + d.val < 1024) :
    sh h a o off inb (ix2 r d) = extN h a (o + r.val) ⟨off + d.val, hd⟩ := by
  unfold sh ext
  congr 1
  · simp [Rect.toLoadRect, LoadRect.idx, Rect.unit]
  · exact Fin.ext (by simp [Rect.toLoadRect, LoadRect.idx, Rect.unit])

/-- A load of the scratch reads the halo and the block. -/
theorem readCov_ext {κ : Kind} {sp : Space} (v : View sig κ sp S528x1024 .f32) (h : Vec Ideal S16x1024 .f32) (a : Vec Ideal S512x1024 .f32)
    (o off : Nat) (inb) :
    v.readCov (Val := Elt Ideal) [⟨Rect.unit ![16, 0] S512x1024.size inb_S528x1024_S512x1024_16_0, a⟩,
      ⟨Rect.unit ![0, 0] S16x1024.size inb_S528x1024_S16x1024_0_0, h⟩] (Rect.unit (s := S528x1024) ![o, off] S512x256.size inb).toLoadRect = sh h a o off inb := by
  rw [View.readCov_eq_canon']
  funext j
  refine View.canon_append_of_piecesOf (Val := Elt Ideal) (e := .f32) (ext h a) [] [_, _] ⟨ext_body h a, ext_halo h a, trivial⟩ _ ?_
  exact View.cover_of_tiledBy _ ![16, 1024] (by sl_kernel_rfl) _

/-! ## Pooling -/

/-- The windows' lengths, and the same as numbers. -/
def wlen : Fin 4 → Nat := ![2, 4, 8, 16]
def wlit : Fin 4 → EReal := ![Ideal.ofBits .f32 1073741824#32, Ideal.ofBits .f32 1082130432#32, Ideal.ofBits .f32 1090519040#32, Ideal.ofBits .f32 1098907648#32]

/-- How many rows there are up to row `R`. -/
def pos (R : Nat) : EReal := (((R + 1 : Nat) : ℝ) : EReal)

/-- The mean of a window's rows, less the row itself. -/
def pooledOf (g : Fin 4) (f : Nat → EReal) (R : Nat) : EReal := Ideal.div (RunningSum.window f (wlen g) R) (min (pos R) (wlit g)) - f R

/-- A small word's number. -/
theorem sitofp_ofNat (n : Nat) (hn : n < 8192) : FloatOps.sitofp (F := Ideal) .f32 (BitVec.ofNat 32 n) = (((n : Nat) : ℝ) : EReal) := by
  show ((((BitVec.ofNat 32 n).toInt : ℤ) : ℝ) : EReal) = _
  rw [BitVec.toInt_eq_toNat_of_lt (by rw [BitVec.toNat_ofNat]; omega), BitVec.toNat_ofNat, Nat.mod_eq_of_lt (by omega)]
  rfl

/-- The rows counted by a grid point. -/
theorem pos_eq (i : grid0.Coords) (r : Fin 512) : k0_pay3 (F := Ideal) i (ix2 r 0) = pos ((i 0).val * 512 + r.val) := by
  have hi : (i 0).val < 8 := (i 0).isLt
  pointwise [k0_pay3]
  have e : IntOp.addi (IntOp.addi (Scalar.muli (BitVec.ofNat 32 (i 0).val) 512#32) (BitVec.ofNat 32 r.val)) 1#32
      = BitVec.ofNat 32 ((i 0).val * 512 + r.val + 1) := by
    rw [BitVec.ofNat_add, BitVec.ofNat_add, BitVec.ofNat_mul]; rfl
  rw [e, sitofp_ofNat _ (by omega)]
  rfl

/-- The halo is zeros at the first point. -/
theorem halo_eq (i : grid0.Coords) (h : Vec Ideal S16x1024 .f32) (r : Fin 16) (d : Fin 1024) :
    k0_pay1 (F := Ideal) i h (ix2 r d) = if 0 < (i 0).val then h (ix2 r d) else 0 := by
  have hi : (i 0).val < 8 := (i 0).isLt
  pointwise [k0_pay1]
  have e : ∀ n < 8, Scalar.cmpi .sgt (BitVec.ofNat 32 n) 0#32 = if 0 < n then 1#1 else 0#1 := by decide
  rw [e _ hi]
  by_cases h0 : 0 < (i 0).val
  · rw [if_pos h0, if_pos h0]; rfl
  · rw [if_neg h0, if_neg h0]; rfl

/-- The block keeps its rows. -/
theorem body_eq (v : Vec Ideal S512x1024 .f32) (r : Fin 512) (d : Fin 1024) : k0_pay2 (F := Ideal) v (ix2 r d) = v (ix2 r d) := by
  pointwise [k0_pay2]

/-- Column `d` of group `g`. -/
def gc (g : Fin 4) (d : Fin 256) : Fin 1024 := ⟨256 * g.val + d.val, by omega⟩

section Groups

variable (i : grid0.Coords) (v : Vec Ideal S512x1024 .f32) (h : Vec Ideal S16x1024 .f32) (a : Vec Ideal S512x1024 .f32) (f : Fin 1024 → Nat → EReal) (r : Fin 512)

/-- What the scratch holds at a point: the sixteen rows before each row, zero before the first. -/
def Shifts : Prop := (∀ c, v (ix2 r c) = f c ((i 0).val * 512 + r.val)) ∧
  ∀ o, o ≤ 16 → ∀ c, extN h a (o + r.val) c = if 16 - o ≤ (i 0).val * 512 + r.val then f c ((i 0).val * 512 + r.val - (16 - o)) else 0

variable (hs : Shifts i v h a f r)

include hs in
/-- A shifted load's element. -/
theorem sh_eq (j o off : Nat) (hj : o + j = 16) (g : Fin 4) (hg : off = 256 * g.val) (inb) (d : Fin 256) :
    sh h a o off inb (ix2 r d) = if j ≤ (i 0).val * 512 + r.val then f (gc g d) ((i 0).val * 512 + r.val - j) else 0 := by
  subst hg
  rw [sh_apply _ _ _ _ _ _ _ (by omega), hs.2 o (by omega), show 16 - o = j by omega]
  rfl

include hs in
/-- The pooled differences of each group. -/
theorem group0 (d : Fin 256) : k0_pay4 (F := Ideal) i v (sh h a 15 0 inb_S528x1024_S512x256_15_0) (ix2 r d)
    = pooledOf 0 (f (gc 0 d)) ((i 0).val * 512 + r.val) := by
  have hc : v (ix2 r (gc 0 d)) = _ := hs.1 (gc 0 d)
  pointwise [k0_pay4]
  rw [pos_eq]
  rw [sh_eq i v h a f r hs 1 15 0 rfl 0 rfl]
  rw [show (⟨d.val, by omega⟩ : Fin 1024) = gc 0 d from Fin.ext (by simp [gc]), hc]
  unfold pooledOf RunningSum.window wlen wlit
  simp [Finset.sum_range_succ]
include hs in
theorem group1 (d : Fin 256) : k0_pay7 (F := Ideal) v (k0_pay3 i) (sh h a 15 256 inb_S528x1024_S512x256_15_256) (sh h a 14 256 inb_S528x1024_S512x256_14_256) (sh h a 13 256 inb_S528x1024_S512x256_13_256) (ix2 r d)
    = pooledOf 1 (f (gc 1 d)) ((i 0).val * 512 + r.val) := by
  have hc : v (ix2 r ⟨256 + d.val, by omega⟩) = f (gc 1 d) _ := hs.1 (gc 1 d)
  pointwise [k0_pay7]
  rw [pos_eq]
  rw [sh_eq i v h a f r hs 1 15 256 rfl 1 rfl, sh_eq i v h a f r hs 2 14 256 rfl 1 rfl, sh_eq i v h a f r hs 3 13 256 rfl 1 rfl]
  rw [hc]
  unfold pooledOf RunningSum.window wlen wlit
  simp [Finset.sum_range_succ]
include hs in
theorem group2 (d : Fin 256) : k0_pay10 (F := Ideal) v (k0_pay3 i) (k0_pay9 v (sh h a 15 512 inb_S528x1024_S512x256_15_512) (sh h a 14 512 inb_S528x1024_S512x256_14_512)) (sh h a 13 512 inb_S528x1024_S512x256_13_512) (sh h a 12 512 inb_S528x1024_S512x256_12_512) (sh h a 11 512 inb_S528x1024_S512x256_11_512) (sh h a 10 512 inb_S528x1024_S512x256_10_512) (sh h a 9 512 inb_S528x1024_S512x256_9_512) (ix2 r d)
    = pooledOf 2 (f (gc 2 d)) ((i 0).val * 512 + r.val) := by
  have hc : v (ix2 r ⟨512 + d.val, by omega⟩) = f (gc 2 d) _ := hs.1 (gc 2 d)
  pointwise [k0_pay10, k0_pay9]
  rw [pos_eq]
  rw [sh_eq i v h a f r hs 1 15 512 rfl 2 rfl, sh_eq i v h a f r hs 2 14 512 rfl 2 rfl, sh_eq i v h a f r hs 3 13 512 rfl 2 rfl, sh_eq i v h a f r hs 4 12 512 rfl 2 rfl, sh_eq i v h a f r hs 5 11 512 rfl 2 rfl, sh_eq i v h a f r hs 6 10 512 rfl 2 rfl, sh_eq i v h a f r hs 7 9 512 rfl 2 rfl]
  rw [hc]
  unfold pooledOf RunningSum.window wlen wlit
  simp [Finset.sum_range_succ]
include hs in
theorem group3 (d : Fin 256) : k0_pay13 (F := Ideal) v (k0_pay3 i) (k0_pay12 v (sh h a 15 768 inb_S528x1024_S512x256_15_768) (sh h a 14 768 inb_S528x1024_S512x256_14_768) (sh h a 13 768 inb_S528x1024_S512x256_13_768)) (sh h a 12 768 inb_S528x1024_S512x256_12_768) (sh h a 11 768 inb_S528x1024_S512x256_11_768) (sh h a 10 768 inb_S528x1024_S512x256_10_768) (sh h a 9 768 inb_S528x1024_S512x256_9_768) (sh h a 8 768 inb_S528x1024_S512x256_8_768) (sh h a 7 768 inb_S528x1024_S512x256_7_768) (sh h a 6 768 inb_S528x1024_S512x256_6_768) (sh h a 5 768 inb_S528x1024_S512x256_5_768) (sh h a 4 768 inb_S528x1024_S512x256_4_768) (sh h a 3 768 inb_S528x1024_S512x256_3_768) (sh h a 2 768 inb_S528x1024_S512x256_2_768) (sh h a 1 768 inb_S528x1024_S512x256_1_768) (ix2 r d)
    = pooledOf 3 (f (gc 3 d)) ((i 0).val * 512 + r.val) := by
  have hc : v (ix2 r ⟨768 + d.val, by omega⟩) = f (gc 3 d) _ := hs.1 (gc 3 d)
  pointwise [k0_pay13, k0_pay12]
  rw [pos_eq]
  rw [sh_eq i v h a f r hs 1 15 768 rfl 3 rfl, sh_eq i v h a f r hs 2 14 768 rfl 3 rfl, sh_eq i v h a f r hs 3 13 768 rfl 3 rfl, sh_eq i v h a f r hs 4 12 768 rfl 3 rfl, sh_eq i v h a f r hs 5 11 768 rfl 3 rfl, sh_eq i v h a f r hs 6 10 768 rfl 3 rfl, sh_eq i v h a f r hs 7 9 768 rfl 3 rfl, sh_eq i v h a f r hs 8 8 768 rfl 3 rfl, sh_eq i v h a f r hs 9 7 768 rfl 3 rfl, sh_eq i v h a f r hs 10 6 768 rfl 3 rfl, sh_eq i v h a f r hs 11 5 768 rfl 3 rfl, sh_eq i v h a f r hs 12 4 768 rfl 3 rfl, sh_eq i v h a f r hs 13 3 768 rfl 3 rfl, sh_eq i v h a f r hs 14 2 768 rfl 3 rfl, sh_eq i v h a f r hs 15 1 768 rfl 3 rfl]
  rw [hc]
  unfold pooledOf RunningSum.window wlen wlit
  simp [Finset.sum_range_succ]

end Groups

/-! ## Loads and stores by their offsets -/

section Offsets

variable {N M n k : Nat} (o0 o1 : Nat) (inb : ∀ x, (![o0, o1] : Fin 2 → Nat) x + (![n, k] : Fin 2 → Nat) x ≤ (⟨2, ![N, M]⟩ : Shape).size x)

/-- The index a load or store reaches. -/
theorem emb_at (r : Fin n) (d : Fin k) (h0 : o0 + r.val < N) (h1 : o1 + d.val < M) :
    (Rect.unit (s := ⟨2, ![N, M]⟩) ![o0, o1] ![n, k] inb).emb (ix2 r d) = (ix2 ⟨o0 + r.val, h0⟩ ⟨o1 + d.val, h1⟩ : (⟨2, ![N, M]⟩ : Shape).Idx) := by
  refine funext fun i => ?_
  match i with
  | 0 => exact Fin.ext (by simp [Rect.emb, Rect.unit])
  | 1 => exact Fin.ext (by simp [Rect.emb, Rect.unit])

/-- An element of a load. -/
theorem ld_at {e : EltTy} (x : (⟨2, ![N, M]⟩ : Shape).Idx → Elt Ideal e) (r : Fin n) (d : Fin k) (h0 : o0 + r.val < N) (h1 : o1 + d.val < M) :
    View.ld (Val := Elt Ideal) (e' := e) x (Rect.unit (s := ⟨2, ![N, M]⟩) ![o0, o1] ![n, k] inb) (ix2 r d) = x (ix2 ⟨o0 + r.val, h0⟩ ⟨o1 + d.val, h1⟩) :=
  congrArg x (emb_at o0 o1 inb r d h0 h1)

include inb in
theorem lt0 (r : Fin n) : o0 + r.val < N := lt_of_lt_of_le (Nat.add_lt_add_left r.isLt o0) (inb 0)
include inb in
theorem lt1 (d : Fin k) : o1 + d.val < M := lt_of_lt_of_le (Nat.add_lt_add_left d.isLt o1) (inb 1)

/-- A store whose payload is `G` there is a block of `G`. -/
theorem store_at (G : (⟨2, ![N, M]⟩ : Shape).Idx → EReal) (pay : (⟨2, ![n, k]⟩ : Shape).Idx → EReal)
    (hp : ∀ (r : Fin n) (d : Fin k), pay (ix2 r d) = G (ix2 ⟨o0 + r.val, lt0 o0 o1 inb r⟩ ⟨o1 + d.val, lt1 o0 o1 inb d⟩))
    (x : (Rect.unit (s := ⟨2, ![N, M]⟩) ![o0, o1] ![n, k] inb).shape.Idx) :
    pay x = G ((Rect.unit (s := ⟨2, ![N, M]⟩) ![o0, o1] ![n, k] inb).emb x) := by
  have e : x = (ix2 (x 0) (x 1) : (⟨2, ![n, k]⟩ : Shape).Idx) := (ix2_eta (n0 := n) (n1 := k) x).symm
  refine (congrArg pay e).trans ((hp (x 0) (x 1)).trans (congrArg G ?_))
  exact (emb_at o0 o1 inb (x 0) (x 1) _ _).symm.trans (congrArg _ e.symm)

end Offsets

/-! ## The forward mixer over the whole arrays -/

section Arrays

variable (P : S4096x3072.Idx → EReal) (pw : S4x256x256.Idx → EReal) (sc g : S1x1024.Idx → EReal) (ws : S8x128x128.Idx → EReal) (bs : S8x128.Idx → EReal)

/-- The group and the place in it, of a column. -/
def grp (c : Fin 1024) : Fin 4 := ⟨c.val / 256, by omega⟩
def inGrp (c : Fin 1024) : Fin 256 := ⟨c.val % 256, by omega⟩

theorem grp_gc (q : Fin 4) (d : Fin 256) : grp (gc q d) = q := Fin.ext (by simp only [grp, gc]; omega)
theorem inGrp_gc (q : Fin 4) (d : Fin 256) : inGrp (gc q d) = d := Fin.ext (by simp only [inGrp, gc]; omega)

/-- The three thirds of the projection's columns: what is pooled, the gate's factor, and what is normed. -/
def cA (c : Fin 1024) : Fin 3072 := ⟨c.val, by omega⟩
def cU (c : Fin 1024) : Fin 3072 := ⟨1024 + c.val, by omega⟩
def cV (c : Fin 1024) : Fin 3072 := ⟨2048 + c.val, by omega⟩

/-- A pooled column as a sequence of rows. -/
def fcol (c : Fin 1024) : Nat → EReal := RunningSum.col (N := 4096) (C := 3072) P (cA c)

/-- The pooled difference at row `R`. -/
def pooledAt (R : Nat) (c : Fin 1024) : EReal := pooledOf (grp c) (fcol P c) R

/-- The pooling's result. -/
def mixedAt (R : Nat) (c : Fin 1024) : EReal :=
  (∑ d, pooledAt P R (gc (grp c) d) * pw (ix3 (grp c) d (inGrp c))) * sc (ix2 0 c)

/-- The normed gate. -/
def vnAt (R : Fin 4096) (c : Fin 1024) : EReal :=
  P (ix2 R (cV c)) * Ideal.rsqrt (Ideal.div (∑ j, P (ix2 R (cV j)) * P (ix2 R (cV j))) (Ideal.ofBits .f32 1149239296#32) + Ideal.ofBits .f32 897988541#32)
    * g (ix2 0 c)

/-- The segment of a row, and a row of it. -/
def segRow (R : Fin 4096) (s : Fin 128) : Fin 4096 := ⟨128 * (R.val / 128) + s.val, by omega⟩
def inSeg (R : Fin 4096) : Fin 128 := ⟨R.val % 128, by omega⟩
def headOf (c : Fin 1024) : Fin 8 := ⟨c.val / 128, by omega⟩

/-- The gated sum over a row's segment. -/
def gatedAt (R : Fin 4096) (c : Fin 1024) : EReal :=
  P (ix2 R (cU c)) * (∑ s, ws (ix3 (headOf c) (inSeg R) s) * vnAt P g (segRow R s) c + bs (ix2 (headOf c) (inSeg R)))

/-- The mixer's result: the pooling in the first half of the columns, the gated sums in the second. -/
def outAt (R : Fin 4096) (c : Fin 2048) : EReal :=
  if h : c.val < 1024 then mixedAt P pw sc R.val ⟨c.val, h⟩ else gatedAt P g ws bs R ⟨c.val - 1024, by omega⟩

end Arrays

/-- Its two halves. -/
theorem outAt_lo (P : S4096x3072.Idx → EReal) (pw : S4x256x256.Idx → EReal) (sc g : S1x1024.Idx → EReal) (ws : S8x128x128.Idx → EReal)
    (bs : S8x128.Idx → EReal) (R : Fin 4096) (c : Fin 2048) (h : c.val < 1024) : outAt P pw sc g ws bs R c = mixedAt P pw sc R.val ⟨c.val, h⟩ :=
  dif_pos h
theorem outAt_hi (P : S4096x3072.Idx → EReal) (pw : S4x256x256.Idx → EReal) (sc g : S1x1024.Idx → EReal) (ws : S8x128x128.Idx → EReal)
    (bs : S8x128.Idx → EReal) (R : Fin 4096) (c : Fin 2048) (h : ¬c.val < 1024) :
    outAt P pw sc g ws bs R c = gatedAt P g ws bs R ⟨c.val - 1024, by omega⟩ :=
  dif_neg h

/-! ## A grid point -/

section Point

variable (P : S4096x3072.Idx → EReal) (pw : S4x256x256.Idx → EReal) (sc g : S1x1024.Idx → EReal) (ws : S8x128x128.Idx → EReal) (bs : S8x128.Idx → EReal)
  (i : grid0.Coords) (x0 : Vec Ideal S512x3072 .f32) (x1 : Vec Ideal S16x1024 .f32) (x6 : Vec Ideal S128x1024 .f32)

/-- Row `r` of the point's block, among all the rows. -/
def rowOf (r : Fin 512) : Fin 4096 := ⟨(i 0).val * 512 + r.val, by have : (i 0).val < 8 := (i 0).isLt; omega⟩

/-- The point's blocks of the projection: its rows, and the sixteen before them. -/
structure Blocks : Prop where
  body : ∀ r c, x0 (ix2 r c) = P (ix2 (rowOf i r) c)
  halo : 0 < (i 0).val → ∀ (q : Fin 16) (c : Fin 1024) (h : (i 0).val * 512 - 16 + q.val < 4096), x1 (ix2 q c) = P (ix2 ⟨(i 0).val * 512 - 16 + q.val, h⟩ (cA c))
  bias : ∀ r c, x6 (ix2 r c) = bs (ix2 (headOf c) r)

variable (hb : Blocks P bs i x0 x1 x6)

/-- The pooled columns of the point's block. -/
abbrev ldA : Vec Ideal S512x1024 .f32 := View.ld (Val := Elt Ideal) (e' := .f32) x0 (Rect.unit ![0, 0] S512x1024.size inb_S512x3072_S512x1024_0_0)
abbrev ldV : Vec Ideal S512x1024 .f32 := View.ld (Val := Elt Ideal) (e' := .f32) x0 (Rect.unit ![0, 2048] S512x1024.size inb_S512x3072_S512x1024_0_2048)

include hb in
theorem ldA_eq (r : Fin 512) (c : Fin 1024) : ldA x0 (ix2 r c) = P (ix2 (rowOf i r) (cA c)) := by
  refine (ld_at 0 0 inb_S512x3072_S512x1024_0_0 x0 r c (by omega) (by omega)).trans ((hb.body _ _).trans ?_)
  congr 2 <;> exact Fin.ext (by simp [rowOf, cA])

include hb in
theorem ldV_eq (r : Fin 512) (c : Fin 1024) : ldV x0 (ix2 r c) = P (ix2 (rowOf i r) (cV c)) := by
  refine (ld_at 0 2048 inb_S512x3072_S512x1024_0_2048 x0 r c (by omega) (by omega)).trans ((hb.body _ _).trans ?_)
  congr 2 <;> exact Fin.ext (by simp [rowOf, cV])

include hb in
/-- The scratch holds the rows up to each row. -/
theorem shifts (r : Fin 512) : Shifts i (ldA x0) (k0_pay1 i x1) (k0_pay2 (ldA x0)) (fcol P) r := by
  have hi : (i 0).val < 8 := (i 0).isLt
  refine ⟨fun c => ?_, fun o ho c => ?_⟩
  · rw [ldA_eq P bs i x0 x1 x6 hb]
    unfold fcol RunningSum.col
    rw [dif_pos (by omega)]
    rfl
  · unfold extN
    by_cases hq : o + r.val < 16
    · rw [dif_pos hq, halo_eq]
      by_cases h0 : 0 < (i 0).val
      · rw [if_pos h0, if_pos (by omega), hb.halo h0 _ _ (by show (i 0).val * 512 - 16 + (o + r.val) < 4096; omega)]
        unfold fcol RunningSum.col
        rw [dif_pos (by omega)]
        congr 2
        exact Fin.ext (by show (i 0).val * 512 - 16 + (o + r.val) = (i 0).val * 512 + r.val - (16 - o); omega)
      · rw [if_neg h0, if_neg (by omega)]
    · rw [dif_neg hq, dif_pos (by omega), body_eq, ldA_eq P bs i x0 x1 x6 hb, if_pos (by omega)]
      unfold fcol RunningSum.col
      rw [dif_pos (by omega)]
      congr 2
      exact Fin.ext (by show (i 0).val * 512 + (o + r.val - 16) = (i 0).val * 512 + r.val - (16 - o); omega)

include hb in
/-- The normed gate's block. -/
theorem vn_eq (r : Fin 512) (c : Fin 1024) : k0_pay15 (F := Ideal) (ldV x0) g (ix2 r c) = vnAt P g (rowOf i r) c := by
  pointwise [k0_pay15]
  simp only [ldV_eq P bs i x0 x1 x6 hb]
  rfl

/-- The blocks the point leaves. -/
def blkP (y : S512x1024.Idx) : EReal := pooledAt P (rowOf i (y 0)).val (y 1)
def blkV (y : S512x1024.Idx) : EReal := vnAt P g (rowOf i (y 0)) (y 1)
def blkY (y : S512x2048.Idx) : EReal := outAt P pw sc g ws bs (rowOf i (y 0)) (y 1)

/-- A group's store of the pooled differences. -/
theorem store_pooled (q : Fin 4) (off : Nat) (ho : off = 256 * q.val) (inb) (pay : S512x256.Idx → EReal)
    (hp : ∀ r d, pay (ix2 r d) = pooledOf q (fcol P (gc q d)) ((i 0).val * 512 + r.val))
    (x : (Rect.unit (s := S512x1024) ![0, off] S512x256.size inb).shape.Idx) :
    pay x = blkP P i ((Rect.unit (s := S512x1024) ![0, off] S512x256.size inb).emb x) := by
  subst ho
  refine store_at 0 (256 * q.val) inb (blkP P i) pay (fun r d => (hp r d).trans ?_) x
  have e : pooledAt P ((i 0).val * 512 + r.val) (gc q d) = pooledOf q (fcol P (gc q d)) ((i 0).val * 512 + r.val) := by
    unfold pooledAt; rw [grp_gc]
  refine e.symm.trans ?_
  unfold blkP rowOf
  simp only [ix2_0, ix2_1, Nat.zero_add]
  rfl

/-- A group's store of the pooling's result. -/
theorem store_mixed (q : Fin 4) (off : Nat) (ho : off = 256 * q.val) (inb) (pay : S512x256.Idx → EReal)
    (p : S512x256.Idx → EReal) (w : S1x256x256.Idx → EReal) (s : S1x256.Idx → EReal)
    (hp : ∀ r d, p (ix2 r d) = pooledOf q (fcol P (gc q d)) ((i 0).val * 512 + r.val))
    (hw : ∀ d k, w (ix3 0 d k) = pw (ix3 q d k)) (hs : ∀ d, s (ix2 0 d) = sc (ix2 0 (gc q d)))
    (hy : ∀ r d, pay (ix2 r d) = (∑ k, p (ix2 r k) * w (ix3 0 k d)) * s (ix2 0 d))
    (x : (Rect.unit (s := S512x2048) ![0, off] S512x256.size inb).shape.Idx) :
    pay x = blkY P pw sc g ws bs i ((Rect.unit (s := S512x2048) ![0, off] S512x256.size inb).emb x) := by
  subst ho
  refine store_at 0 (256 * q.val) inb (blkY P pw sc g ws bs i) pay (fun r d => (hy r d).trans ?_) x
  have hlt : 256 * q.val + d.val < 1024 := by omega
  refine Eq.trans ?_ (outAt_lo P pw sc g ws bs (rowOf i ⟨0 + r.val, by omega⟩) ⟨256 * q.val + d.val, by omega⟩ hlt).symm
  show _ = mixedAt P pw sc _ (gc q d)
  unfold mixedAt
  rw [grp_gc, inGrp_gc, hs]
  congr 1
  refine Finset.sum_congr rfl fun k _ => ?_
  rw [hp, hw]
  unfold pooledAt rowOf
  rw [grp_gc]
  simp only [Nat.zero_add]

include hb in
/-- A segment's store of one head's gated sums. -/
theorem store_gated (n : Fin 4) (h : Fin 8) (o0 o1 ov : Nat) (e0 : o0 = 128 * n.val) (e1 : o1 = 1024 + ov) (ev : ov = 128 * h.val) (inb inb0 inbv inb6)
    (pay : S128x128.Idx → EReal) (w : S1x128x128.Idx → EReal) (hw : ∀ r s, w (ix3 0 r s) = ws (ix3 h r s))
    (hp : ∀ r d, pay (ix2 r d) = View.ld (Val := Elt Ideal) (e' := .f32) x0 (Rect.unit (s := S512x3072) ![o0, o1] ![128, 128] inb0) (ix2 r d)
      * (∑ s, w (ix3 0 r s) * View.ld (Val := Elt Ideal) (e' := .bf16) (k0_pay15 (F := Ideal) (ldV x0) g) (Rect.unit (s := S512x1024) ![o0, ov] ![128, 128] inbv) (ix2 s d)
        + View.ld (Val := Elt Ideal) (e' := .f32) x6 (Rect.unit (s := S128x1024) ![0, ov] ![128, 128] inb6) (ix2 r d)))
    (x : (Rect.unit (s := S512x2048) ![o0, o1] ![128, 128] inb).shape.Idx) :
    pay x = blkY P pw sc g ws bs i ((Rect.unit (s := S512x2048) ![o0, o1] ![128, 128] inb).emb x) := by
  subst e0 e1 ev
  have hi : (i 0).val < 8 := (i 0).isLt
  refine store_at _ _ inb (blkY P pw sc g ws bs i) pay (fun r d => (hp r d).trans ?_) x
  refine Eq.trans ?_ (outAt_hi P pw sc g ws bs (rowOf i ⟨128 * n.val + r.val, by omega⟩) ⟨1024 + 128 * h.val + d.val, by omega⟩
    (by show ¬1024 + 128 * h.val + d.val < 1024; omega)).symm
  unfold gatedAt
  rw [ld_at (n := 128) (k := 128) _ _ inb0 x0 r d (by omega) (by omega), hb.body, ld_at (n := 128) (k := 128) _ _ inb6 x6 r d (by omega) (by omega), hb.bias]
  have eh : ∀ (z : Fin 1024), z.val = 128 * h.val + d.val → headOf z = h := fun z hz => Fin.ext (by simp only [headOf]; omega)
  have es : inSeg (rowOf i ⟨128 * n.val + r.val, by omega⟩) = r := Fin.ext (by simp only [inSeg, rowOf]; omega)
  rw [eh _ rfl, eh _ (by show 1024 + 128 * h.val + d.val - 1024 = _; omega), es]
  refine congrArg₂ (· * ·) (congrArg P (congrArg (ix2 _) (Fin.ext ?_))) (congrArg₂ (· + ·) (Finset.sum_congr rfl fun s _ => ?_) ?_)
  · simp only [cU]; omega
  · rw [hw, ld_at (n := 128) (k := 128) _ _ inbv _ s d (by omega) (by omega), vn_eq P g bs i x0 x1 x6 hb]
    refine congrArg _ (congrArg₂ (vnAt P g) (Fin.ext ?_) (Fin.ext ?_))
    · simp only [rowOf, segRow]; omega
    · show 128 * h.val + d.val = 1024 + 128 * h.val + d.val - 1024; omega
  · refine congrArg (fun z => bs (ix2 h z)) (Fin.ext (Nat.zero_add _))

end Point

end Cert.Mixing

end
-- ==== Proof.MixerStored.lean ====
/-
  What one point of the forward mixer's kernel leaves in its three blocks: the pooled differences, the normed gate,
  and the pooling's product beside the gated sums over a segment.
-/
module

public import proofs.«01_k».proof.Proof.Gen.MixerIdeal.Value
public import proofs.«01_k».proof.Proof.MixerBlock

@[expose] public section

set_option maxRecDepth 16384

noncomputable section

namespace Cert.Mixing

open Idealize.ShloMosaic Idealize.SL.Sem

section

open Cert.MixerIdeal Cert.MixerIdeal.Gen

section Loads

variable (pw : S4x256x256.Idx → EReal) (sc : S1x1024.Idx → EReal) (ws : S8x128x128.Idx → EReal)

/-- A load of one head's weights. -/
theorem ldW (h : Fin 8) (inb) (r s : Fin 128) :
    View.ld (Val := Elt Ideal) (e' := .bf16) ws (Rect.unit (s := S8x128x128) ![h.val, 0, 0] ![1, 128, 128] inb) (ix3 0 r s) = ws (ix3 h r s) := by
  refine congrArg ws (funext fun i => ?_)
  match i with
  | 0 => exact Fin.ext (by simp [Rect.emb, Rect.unit])
  | 1 => exact Fin.ext (by simp [Rect.emb, Rect.unit])
  | 2 => exact Fin.ext (by simp [Rect.emb, Rect.unit])

/-- A load of one group's pooling weights. -/
theorem ldPw (q : Fin 4) (inb) (d k : Fin 256) :
    View.ld (Val := Elt Ideal) (e' := .bf16) pw (Rect.unit (s := S4x256x256) ![q.val, 0, 0] ![1, 256, 256] inb) (ix3 0 d k) = pw (ix3 q d k) := by
  refine congrArg pw (funext fun i => ?_)
  match i with
  | 0 => exact Fin.ext (by simp [Rect.emb, Rect.unit])
  | 1 => exact Fin.ext (by simp [Rect.emb, Rect.unit])
  | 2 => exact Fin.ext (by simp [Rect.emb, Rect.unit])

/-- A load of one group's scales. -/
theorem ldSc (q : Fin 4) (off : Nat) (ho : off = 256 * q.val) (inb) (d : Fin 256) :
    View.ld (Val := Elt Ideal) (e' := .f32) sc (Rect.unit (s := S1x1024) ![0, off] ![1, 256] inb) (ix2 0 d) = sc (ix2 0 (gc q d)) := by
  subst ho
  exact ld_at (e := .f32) 0 (256 * q.val) inb sc 0 d (by decide) (gc q d).isLt

end Loads

variable (m : (ℓ : Loc nD τ sig) → Buf (Elt Ideal) ℓ) (c : Dev nD) (t : Fin cfg0.N)

section Outs

variable (P : S4096x3072.Idx → EReal) (pw : S4x256x256.Idx → EReal) (sc g : S1x1024.Idx → EReal) (ws : S8x128x128.Idx → EReal) (bs : S8x128.Idx → EReal)

/-- What a point leaves in the pooled differences' block. -/
theorem outs8 (hb : Blocks P bs (grid0.coords t) (iblk m c 0 t) (iblk m c 1 t) (iblk m c 6 t)) (y : S512x1024.Idx) :
    (outsAt0 m c t).2.1 y = blkP P (grid0.coords t) y := by
  unfold outsAt0
  dsimp only
  frame_open
  simp only [↓ readCov_ext]
  frame_out
  revert hb
  generalize grid0.coords t = i
  generalize iblk m c 0 t = x0
  generalize iblk m c 1 t = x1
  generalize iblk m c 6 t = x6
  intro hb
  refine View.canon_append_of_piecesOf (Val := Elt Ideal) (e := .bf16) (blkP P i) [] [_, _, _, _] ⟨?_, ?_, ?_, ?_, trivial⟩ y ?_
  · exact store_pooled P i 3 768 rfl inb_S512x1024_S512x256_0_768 _ (fun r d => group3 i _ _ _ _ r (shifts P bs i x0 x1 x6 hb r) d)
  · exact store_pooled P i 2 512 rfl inb_S512x1024_S512x256_0_512 _ (fun r d => group2 i _ _ _ _ r (shifts P bs i x0 x1 x6 hb r) d)
  · exact store_pooled P i 1 256 rfl inb_S512x1024_S512x256_0_256 _ (fun r d => group1 i _ _ _ _ r (shifts P bs i x0 x1 x6 hb r) d)
  · exact store_pooled P i 0 0 rfl inb_S512x1024_S512x256_0_0 _ (fun r d => group0 i _ _ _ _ r (shifts P bs i x0 x1 x6 hb r) d)
  · exact View.cover_of_tiledL _ ![512, 256] (by rfl) y

/-- What a point leaves in the normed gate's block. -/
theorem outs9 (hb : Blocks P bs (grid0.coords t) (iblk m c 0 t) (iblk m c 1 t) (iblk m c 6 t)) (hg : iblk m c 4 t = g) (y : S512x1024.Idx) :
    (outsAt0 m c t).2.2 y = blkV P g (grid0.coords t) y := by
  unfold outsAt0
  dsimp only
  frame_open
  frame_out
  rw [hg]
  exact (congrArg _ (ix2_eta (n0 := 512) (n1 := 1024) y).symm).trans (vn_eq P g bs (grid0.coords t) _ _ _ hb (y 0) (y 1))

/-- What a point leaves in the result's block. -/
theorem outs7 (hb : Blocks P bs (grid0.coords t) (iblk m c 0 t) (iblk m c 1 t) (iblk m c 6 t)) (hpw : iblk m c 2 t = pw) (hsc : iblk m c 3 t = sc)
    (hg : iblk m c 4 t = g) (hws : iblk m c 5 t = ws) (y : S512x2048.Idx) :
    (outsAt0 m c t).1 y = blkY P pw sc g ws bs (grid0.coords t) y := by
  unfold outsAt0
  dsimp only
  rw [hpw, hsc, hg, hws]
  frame_open
  simp (disch := decide) only [↓ readCov_ext, ↓ View.readCov_skip, ↓ View.readCov_cons_toLoadRect, ↓ View.readCov_fill]
  frame_out
  revert hb
  generalize grid0.coords t = i
  generalize iblk m c 0 t = x0
  generalize iblk m c 1 t = x1
  generalize iblk m c 6 t = x6
  intro hb
  refine View.canon_append_of_piecesOf (Val := Elt Ideal) (e := .bf16) (blkY P pw sc g ws bs i) [] [_, _, _, _, _, _, _, _, _, _, _, _, _, _, _, _, _, _, _, _, _, _, _, _, _, _, _, _, _, _, _, _, _, _, _, _] ?_ y ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact store_gated P pw sc g ws bs i x0 x1 x6 hb 3 7 384 1920 896 rfl rfl rfl inb_S512x2048_S128x128_384_1920 inb_S512x3072_S128x128_384_1920 inb_S512x1024_S128x128_384_896 inb_S128x1024_S128x128_0_896 _ _ (ldW ws 7 inb_S8x128x128_S1x128x128_7_0_0) (fun r d => by pointwise [k0_pay55])
  · exact store_gated P pw sc g ws bs i x0 x1 x6 hb 3 6 384 1792 768 rfl rfl rfl inb_S512x2048_S128x128_384_1792 inb_S512x3072_S128x128_384_1792 inb_S512x1024_S128x128_384_768 inb_S128x1024_S128x128_0_768 _ _ (ldW ws 6 inb_S8x128x128_S1x128x128_6_0_0) (fun r d => by pointwise [k0_pay54])
  · exact store_gated P pw sc g ws bs i x0 x1 x6 hb 3 5 384 1664 640 rfl rfl rfl inb_S512x2048_S128x128_384_1664 inb_S512x3072_S128x128_384_1664 inb_S512x1024_S128x128_384_640 inb_S128x1024_S128x128_0_640 _ _ (ldW ws 5 inb_S8x128x128_S1x128x128_5_0_0) (fun r d => by pointwise [k0_pay53, k0_pay52])
  · exact store_gated P pw sc g ws bs i x0 x1 x6 hb 3 4 384 1536 512 rfl rfl rfl inb_S512x2048_S128x128_384_1536 inb_S512x3072_S128x128_384_1536 inb_S512x1024_S128x128_384_512 inb_S128x1024_S128x128_0_512 _ _ (ldW ws 4 inb_S8x128x128_S1x128x128_4_0_0) (fun r d => by pointwise [k0_pay51])
  · exact store_gated P pw sc g ws bs i x0 x1 x6 hb 3 3 384 1408 384 rfl rfl rfl inb_S512x2048_S128x128_384_1408 inb_S512x3072_S128x128_384_1408 inb_S512x1024_S128x128_384_384 inb_S128x1024_S128x128_0_384 _ _ (ldW ws 3 inb_S8x128x128_S1x128x128_3_0_0) (fun r d => by pointwise [k0_pay50])
  · exact store_gated P pw sc g ws bs i x0 x1 x6 hb 3 2 384 1280 256 rfl rfl rfl inb_S512x2048_S128x128_384_1280 inb_S512x3072_S128x128_384_1280 inb_S512x1024_S128x128_384_256 inb_S128x1024_S128x128_0_256 _ _ (ldW ws 2 inb_S8x128x128_S1x128x128_2_0_0) (fun r d => by pointwise [k0_pay49])
  · exact store_gated P pw sc g ws bs i x0 x1 x6 hb 3 1 384 1152 128 rfl rfl rfl inb_S512x2048_S128x128_384_1152 inb_S512x3072_S128x128_384_1152 inb_S512x1024_S128x128_384_128 inb_S128x1024_S128x128_0_128 _ _ (ldW ws 1 inb_S8x128x128_S1x128x128_1_0_0) (fun r d => by pointwise [k0_pay48])
  · exact store_gated P pw sc g ws bs i x0 x1 x6 hb 3 0 384 1024 0 rfl rfl rfl inb_S512x2048_S128x128_384_1024 inb_S512x3072_S128x128_384_1024 inb_S512x1024_S128x128_384_0 inb_S128x1024_S128x128_0_0 _ _ (ldW ws 0 inb_S8x128x128_S1x128x128_0_0_0) (fun r d => by pointwise [k0_pay47, k0_pay46])
  · exact store_gated P pw sc g ws bs i x0 x1 x6 hb 2 7 256 1920 896 rfl rfl rfl inb_S512x2048_S128x128_256_1920 inb_S512x3072_S128x128_256_1920 inb_S512x1024_S128x128_256_896 inb_S128x1024_S128x128_0_896 _ _ (ldW ws 7 inb_S8x128x128_S1x128x128_7_0_0) (fun r d => by pointwise [k0_pay45])
  · exact store_gated P pw sc g ws bs i x0 x1 x6 hb 2 6 256 1792 768 rfl rfl rfl inb_S512x2048_S128x128_256_1792 inb_S512x3072_S128x128_256_1792 inb_S512x1024_S128x128_256_768 inb_S128x1024_S128x128_0_768 _ _ (ldW ws 6 inb_S8x128x128_S1x128x128_6_0_0) (fun r d => by pointwise [k0_pay44, k0_pay43])
  · exact store_gated P pw sc g ws bs i x0 x1 x6 hb 2 5 256 1664 640 rfl rfl rfl inb_S512x2048_S128x128_256_1664 inb_S512x3072_S128x128_256_1664 inb_S512x1024_S128x128_256_640 inb_S128x1024_S128x128_0_640 _ _ (ldW ws 5 inb_S8x128x128_S1x128x128_5_0_0) (fun r d => by pointwise [k0_pay42])
  · exact store_gated P pw sc g ws bs i x0 x1 x6 hb 2 4 256 1536 512 rfl rfl rfl inb_S512x2048_S128x128_256_1536 inb_S512x3072_S128x128_256_1536 inb_S512x1024_S128x128_256_512 inb_S128x1024_S128x128_0_512 _ _ (ldW ws 4 inb_S8x128x128_S1x128x128_4_0_0) (fun r d => by pointwise [k0_pay41])
  · exact store_gated P pw sc g ws bs i x0 x1 x6 hb 2 3 256 1408 384 rfl rfl rfl inb_S512x2048_S128x128_256_1408 inb_S512x3072_S128x128_256_1408 inb_S512x1024_S128x128_256_384 inb_S128x1024_S128x128_0_384 _ _ (ldW ws 3 inb_S8x128x128_S1x128x128_3_0_0) (fun r d => by pointwise [k0_pay40])
  · exact store_gated P pw sc g ws bs i x0 x1 x6 hb 2 2 256 1280 256 rfl rfl rfl inb_S512x2048_S128x128_256_1280 inb_S512x3072_S128x128_256_1280 inb_S512x1024_S128x128_256_256 inb_S128x1024_S128x128_0_256 _ _ (ldW ws 2 inb_S8x128x128_S1x128x128_2_0_0) (fun r d => by pointwise [k0_pay39])
  · exact store_gated P pw sc g ws bs i x0 x1 x6 hb 2 1 256 1152 128 rfl rfl rfl inb_S512x2048_S128x128_256_1152 inb_S512x3072_S128x128_256_1152 inb_S512x1024_S128x128_256_128 inb_S128x1024_S128x128_0_128 _ _ (ldW ws 1 inb_S8x128x128_S1x128x128_1_0_0) (fun r d => by pointwise [k0_pay38, k0_pay37])
  · exact store_gated P pw sc g ws bs i x0 x1 x6 hb 2 0 256 1024 0 rfl rfl rfl inb_S512x2048_S128x128_256_1024 inb_S512x3072_S128x128_256_1024 inb_S512x1024_S128x128_256_0 inb_S128x1024_S128x128_0_0 _ _ (ldW ws 0 inb_S8x128x128_S1x128x128_0_0_0) (fun r d => by pointwise [k0_pay36])
  · exact store_gated P pw sc g ws bs i x0 x1 x6 hb 1 7 128 1920 896 rfl rfl rfl inb_S512x2048_S128x128_128_1920 inb_S512x3072_S128x128_128_1920 inb_S512x1024_S128x128_128_896 inb_S128x1024_S128x128_0_896 _ _ (ldW ws 7 inb_S8x128x128_S1x128x128_7_0_0) (fun r d => by pointwise [k0_pay35])
  · exact store_gated P pw sc g ws bs i x0 x1 x6 hb 1 6 128 1792 768 rfl rfl rfl inb_S512x2048_S128x128_128_1792 inb_S512x3072_S128x128_128_1792 inb_S512x1024_S128x128_128_768 inb_S128x1024_S128x128_0_768 _ _ (ldW ws 6 inb_S8x128x128_S1x128x128_6_0_0) (fun r d => by pointwise [k0_pay34])
  · exact store_gated P pw sc g ws bs i x0 x1 x6 hb 1 5 128 1664 640 rfl rfl rfl inb_S512x2048_S128x128_128_1664 inb_S512x3072_S128x128_128_1664 inb_S512x1024_S128x128_128_640 inb_S128x1024_S128x128_0_640 _ _ (ldW ws 5 inb_S8x128x128_S1x128x128_5_0_0) (fun r d => by pointwise [k0_pay33])
  · exact store_gated P pw sc g ws bs i x0 x1 x6 hb 1 4 128 1536 512 rfl rfl rfl inb_S512x2048_S128x128_128_1536 inb_S512x3072_S128x128_128_1536 inb_S512x1024_S128x128_128_512 inb_S128x1024_S128x128_0_512 _ _ (ldW ws 4 inb_S8x128x128_S1x128x128_4_0_0) (fun r d => by pointwise [k0_pay32, k0_pay31])
  · exact store_gated P pw sc g ws bs i x0 x1 x6 hb 1 3 128 1408 384 rfl rfl rfl inb_S512x2048_S128x128_128_1408 inb_S512x3072_S128x128_128_1408 inb_S512x1024_S128x128_128_384 inb_S128x1024_S128x128_0_384 _ _ (ldW ws 3 inb_S8x128x128_S1x128x128_3_0_0) (fun r d => by pointwise [k0_pay30])
  · exact store_gated P pw sc g ws bs i x0 x1 x6 hb 1 2 128 1280 256 rfl rfl rfl inb_S512x2048_S128x128_128_1280 inb_S512x3072_S128x128_128_1280 inb_S512x1024_S128x128_128_256 inb_S128x1024_S128x128_0_256 _ _ (ldW ws 2 inb_S8x128x128_S1x128x128_2_0_0) (fun r d => by pointwise [k0_pay29, k0_pay28])
  · exact store_gated P pw sc g ws bs i x0 x1 x6 hb 1 1 128 1152 128 rfl rfl rfl inb_S512x2048_S128x128_128_1152 inb_S512x3072_S128x128_128_1152 inb_S512x1024_S128x128_128_128 inb_S128x1024_S128x128_0_128 _ _ (ldW ws 1 inb_S8x128x128_S1x128x128_1_0_0) (fun r d => by pointwise [k0_pay27])
  · exact store_gated P pw sc g ws bs i x0 x1 x6 hb 1 0 128 1024 0 rfl rfl rfl inb_S512x2048_S128x128_128_1024 inb_S512x3072_S128x128_128_1024 inb_S512x1024_S128x128_128_0 inb_S128x1024_S128x128_0_0 _ _ (ldW ws 0 inb_S8x128x128_S1x128x128_0_0_0) (fun r d => by pointwise [k0_pay26])
  · exact store_gated P pw sc g ws bs i x0 x1 x6 hb 0 7 0 1920 896 rfl rfl rfl inb_S512x2048_S128x128_0_1920 inb_S512x3072_S128x128_0_1920 inb_S512x1024_S128x128_0_896 inb_S128x1024_S128x128_0_896 _ _ (ldW ws 7 inb_S8x128x128_S1x128x128_7_0_0) (fun r d => by pointwise [k0_pay25])
  · exact store_gated P pw sc g ws bs i x0 x1 x6 hb 0 6 0 1792 768 rfl rfl rfl inb_S512x2048_S128x128_0_1792 inb_S512x3072_S128x128_0_1792 inb_S512x1024_S128x128_0_768 inb_S128x1024_S128x128_0_768 _ _ (ldW ws 6 inb_S8x128x128_S1x128x128_6_0_0) (fun r d => by pointwise [k0_pay24])
  · exact store_gated P pw sc g ws bs i x0 x1 x6 hb 0 5 0 1664 640 rfl rfl rfl inb_S512x2048_S128x128_0_1664 inb_S512x3072_S128x128_0_1664 inb_S512x1024_S128x128_0_640 inb_S128x1024_S128x128_0_640 _ _ (ldW ws 5 inb_S8x128x128_S1x128x128_5_0_0) (fun r d => by pointwise [k0_pay23, k0_pay22])
  · exact store_gated P pw sc g ws bs i x0 x1 x6 hb 0 4 0 1536 512 rfl rfl rfl inb_S512x2048_S128x128_0_1536 inb_S512x3072_S128x128_0_1536 inb_S512x1024_S128x128_0_512 inb_S128x1024_S128x128_0_512 _ _ (ldW ws 4 inb_S8x128x128_S1x128x128_4_0_0) (fun r d => by pointwise [k0_pay21])
  · exact store_gated P pw sc g ws bs i x0 x1 x6 hb 0 3 0 1408 384 rfl rfl rfl inb_S512x2048_S128x128_0_1408 inb_S512x3072_S128x128_0_1408 inb_S512x1024_S128x128_0_384 inb_S128x1024_S128x128_0_384 _ _ (ldW ws 3 inb_S8x128x128_S1x128x128_3_0_0) (fun r d => by pointwise [k0_pay20])
  · exact store_gated P pw sc g ws bs i x0 x1 x6 hb 0 2 0 1280 256 rfl rfl rfl inb_S512x2048_S128x128_0_1280 inb_S512x3072_S128x128_0_1280 inb_S512x1024_S128x128_0_256 inb_S128x1024_S128x128_0_256 _ _ (ldW ws 2 inb_S8x128x128_S1x128x128_2_0_0) (fun r d => by pointwise [k0_pay19])
  · exact store_gated P pw sc g ws bs i x0 x1 x6 hb 0 1 0 1152 128 rfl rfl rfl inb_S512x2048_S128x128_0_1152 inb_S512x3072_S128x128_0_1152 inb_S512x1024_S128x128_0_128 inb_S128x1024_S128x128_0_128 _ _ (ldW ws 1 inb_S8x128x128_S1x128x128_1_0_0) (fun r d => by pointwise [k0_pay18])
  · exact store_gated P pw sc g ws bs i x0 x1 x6 hb 0 0 0 1024 0 rfl rfl rfl inb_S512x2048_S128x128_0_1024 inb_S512x3072_S128x128_0_1024 inb_S512x1024_S128x128_0_0 inb_S128x1024_S128x128_0_0 _ _ (ldW ws 0 inb_S8x128x128_S1x128x128_0_0_0) (fun r d => by pointwise [k0_pay17, k0_pay16])
  · exact store_mixed P pw sc g ws bs i 3 768 rfl inb_S512x2048_S512x256_0_768 _ _ _ _ (fun r d => group3 i _ _ _ _ r (shifts P bs i x0 x1 x6 hb r) d) (ldPw pw 3 inb_S4x256x256_S1x256x256_3_0_0) (ldSc sc 3 768 rfl inb_S1x1024_S1x256_0_768) (fun r d => by pointwise [k0_pay14])
  · exact store_mixed P pw sc g ws bs i 2 512 rfl inb_S512x2048_S512x256_0_512 _ _ _ _ (fun r d => group2 i _ _ _ _ r (shifts P bs i x0 x1 x6 hb r) d) (ldPw pw 2 inb_S4x256x256_S1x256x256_2_0_0) (ldSc sc 2 512 rfl inb_S1x1024_S1x256_0_512) (fun r d => by pointwise [k0_pay11])
  · exact store_mixed P pw sc g ws bs i 1 256 rfl inb_S512x2048_S512x256_0_256 _ _ _ _ (fun r d => group1 i _ _ _ _ r (shifts P bs i x0 x1 x6 hb r) d) (ldPw pw 1 inb_S4x256x256_S1x256x256_1_0_0) (ldSc sc 1 256 rfl inb_S1x1024_S1x256_0_256) (fun r d => by pointwise [k0_pay8])
  · exact store_mixed P pw sc g ws bs i 0 0 rfl inb_S512x2048_S512x256_0_0 _ _ _ _ (fun r d => group0 i _ _ _ _ r (shifts P bs i x0 x1 x6 hb r) d) (ldPw pw 0 inb_S4x256x256_S1x256x256_0_0_0) (ldSc sc 0 0 rfl inb_S1x1024_S1x256_0_0) (fun r d => by pointwise [k0_pay6, k0_pay5])
  · exact View.cover_of_tiledBy _ ![128, 128] (by sl_kernel_rfl) y

end Outs

end

end Cert.Mixing

end
-- ==== Proof.MixerReference.lean ====
/-
  The reference's forward mixer at an index: its running sums' differences are the windows' sums where the pooled
  columns are finite, and its products and its norm are the kernel's.
-/
module

public import proofs.«01_k».proof.Proof.Gen.MixerRefIdeal.Read
public import proofs.«01_k».proof.Proof.MixerBlock

@[expose] public section

set_option maxRecDepth 16384

noncomputable section

namespace Cert.MixingRef

open Idealize.ShloMosaic Cert.Mixing Cert.MixerRefIdeal Cert.MixerRefIdeal.Read

variable (X0 : S4096x3072.Idx → EReal) (X1 : S4x256x256.Idx → EReal) (X2 X3 : S1x1024.Idx → EReal) (X4 : S8x128x128.Idx → EReal) (X5 : S8x128.Idx → EReal)

/-- A column of the slice the running sums are taken of. -/
theorem col0 (c : Fin 1024) : RunningSum.col (N := 4096) (C := 1024) (val_main_v0 (F := Ideal) X0) c = fcol X0 c := by
  funext R
  unfold fcol RunningSum.col
  by_cases h : R < 4096
  · rw [dif_pos h, dif_pos h]
    pointwise [val_main_v0]
    rfl
  · rw [dif_neg h, dif_neg h]

/-- The running sums. -/
theorem r3 (r : Fin 4096) (c : Fin 1024) : val_main_v3 (F := Ideal) X0 (ix2 r c) = RunningSum.pre (fcol X0 c) (r.val + 1) := by
  unfold val_main_v3
  refine (RunningSum.cumsum_rows (N := 4096) (C := 1024) (Nm1 := 4095) rfl _ _ (fun i => ?_) _ _ r c).trans ?_
  · pointwise [val_main_call0_call0_v0, val_main_call0_call0_cst]
  · rw [col0]

/-- The running sums, later by sixteen rows. -/
theorem r4 (r : Fin 4112) (c : Fin 1024) : val_main_v4 (F := Ideal) X0 (ix2 r c) = RunningSum.pre (fcol X0 c) (r.val + 1 - 16) := by
  pointwise [val_main_v4]
  by_cases h : 16 ≤ r.val
  · refine (dif_pos ⟨h, by omega⟩).trans ((r3 X0 _ c).trans ?_)
    congr 1
    show r.val - 16 + 1 = _
    omega
  · refine (dif_neg (fun hh => h hh.1)).trans ?_
    rw [show r.val + 1 - 16 = 0 by omega]
    pointwise [val_main_call1_v0, val_main_c]
    exact (sitofp_ofNat 0 (by omega)).trans (by simp [RunningSum.pre])

/-- The position of a row, from one. -/
theorem r8 (r : Fin 4096) : val_main_v8 (F := Ideal) (ix2 r 0) = pos r.val := by
  pointwise [val_main_v8, val_main_v7, val_main_v6, val_main_v5, val_main_cst]
  rw [sitofp_ofNat _ (by omega), ← EReal.coe_one, ← EReal.coe_add]
  unfold pos
  push_cast
  rw [add_comm]

/-- The normed gate. -/
theorem r65 (r : Fin 4096) (c : Fin 1024) : val_main_v65 (F := Ideal) X0 X3 (ix2 r c) = vnAt X0 X3 r c := by
  pointwise [val_main_v65, val_main_v64, val_main_v63, val_main_v62, val_main_v61, val_main_v60, val_main_v59, val_main_v58, val_main_v57,
    val_main_v56, val_main_v55, val_main_v54, val_main_v53, val_main_v52, val_main_v2, val_main_cst_4, val_main_cst_5, val_main_cst_6]
  rfl

/-- The pooled columns hold real numbers. -/
def Finite : Prop := ∀ (r : Fin 4096) (c : Fin 1024), ∃ z : ℝ, X0 (ix2 r (cA c)) = (z : EReal)

/-- A pooled column is then a sequence of real numbers. -/
theorem real (hf : Finite X0) (c : Fin 1024) : ∃ g : Nat → ℝ, ∀ i, fcol X0 c i = (g i : EReal) := by
  refine ⟨fun i => if h : i < 4096 then (hf ⟨i, h⟩ c).choose else 0, fun i => ?_⟩
  unfold fcol RunningSum.col
  by_cases h : i < 4096
  · simp only [dif_pos h]
    exact (hf ⟨i, h⟩ c).choose_spec
  · simp only [dif_neg h]
    rfl

/-- A group's pooled difference, from two rows of the running sums. -/
theorem diff (hf : Finite X0) (q : Fin 4) (r : Fin 4096) (c : Fin 1024) (s : Fin 4112) (hs : s.val = 16 - wlen q + r.val) :
    Ideal.div (val_main_v3 (F := Ideal) X0 (ix2 r c) - val_main_v4 (F := Ideal) X0 (ix2 s c)) (min (val_main_v8 (F := Ideal) (ix2 r 0)) (wlit q))
      - X0 (ix2 r (cA c)) = pooledOf q (fcol X0 c) r.val := by
  obtain ⟨g, hg⟩ := real X0 hf c
  have hw : wlen q ≤ 16 := by clear hs; revert q; decide
  rw [r3, r4, r8, show s.val + 1 - 16 = r.val + 1 - wlen q by omega, RunningSum.pre_sub _ g hg]
  have e : X0 (ix2 r (cA c)) = fcol X0 c r.val := by
    unfold fcol RunningSum.col
    rw [dif_pos r.isLt]
  rw [e]
  rfl

section Groups

variable (hf : Finite X0) (r : Fin 4096) (d : Fin 256)
include hf

theorem r17 : val_main_v17 (F := Ideal) X0 (ix2 r d) = pooledOf 0 (fcol X0 (gc 0 d)) r.val := by
  rw [← diff X0 hf 0 r (gc 0 d) ⟨14 + r.val, by omega⟩ rfl, show gc 0 d = ⟨d.val, by omega⟩ from Fin.ext (by simp [gc])]
  pointwise [val_main_v17, val_main_v16, val_main_v15, val_main_v14, val_main_v13, val_main_v12, val_main_v11, val_main_v10, val_main_v9, val_main_v0, val_main_cst_0]
  rfl

theorem r26 : val_main_v26 (F := Ideal) X0 (ix2 r d) = pooledOf 1 (fcol X0 (gc 1 d)) r.val := by
  rw [← diff X0 hf 1 r (gc 1 d) ⟨12 + r.val, by omega⟩ rfl]
  pointwise [val_main_v26, val_main_v25, val_main_v24, val_main_v23, val_main_v22, val_main_v21, val_main_v20, val_main_v19, val_main_v18, val_main_v0, val_main_cst_1]
  rfl

theorem r35 : val_main_v35 (F := Ideal) X0 (ix2 r d) = pooledOf 2 (fcol X0 (gc 2 d)) r.val := by
  rw [← diff X0 hf 2 r (gc 2 d) ⟨8 + r.val, by omega⟩ rfl]
  pointwise [val_main_v35, val_main_v34, val_main_v33, val_main_v32, val_main_v31, val_main_v30, val_main_v29, val_main_v28, val_main_v27, val_main_v0, val_main_cst_2]
  rfl

theorem r44 : val_main_v44 (F := Ideal) X0 (ix2 r d) = pooledOf 3 (fcol X0 (gc 3 d)) r.val := by
  rw [← diff X0 hf 3 r (gc 3 d) ⟨0 + r.val, by omega⟩ rfl]
  pointwise [val_main_v44, val_main_v43, val_main_v42, val_main_v41, val_main_v40, val_main_v39, val_main_v38, val_main_v37, val_main_v36, val_main_v0, val_main_cst_3]
  rfl

end Groups

/-- The pooled differences. -/
theorem r45 (hf : Finite X0) (r : Fin 4096) (c : Fin 1024) : val_main_v45 (F := Ideal) X0 (ix2 r c) = pooledAt X0 r.val c := by
  have key : ∀ (q : Fin 4) (d : Fin 256), c.val = 256 * q.val + d.val → pooledOf q (fcol X0 (gc q d)) r.val = pooledAt X0 r.val c := by
    intro q d h
    rw [show c = gc q d from Fin.ext h]
    unfold pooledAt
    rw [grp_gc]
  pointwise [val_main_v45]
  by_cases h0 : c.val < 256
  · exact (dif_pos h0).trans ((r17 X0 hf r _).trans (key 0 ⟨c.val, h0⟩ (by show c.val = 256 * 0 + c.val; omega)))
  refine (dif_neg h0).trans ?_
  by_cases h1 : c.val - 256 < 256
  · exact (dif_pos h1).trans ((r26 X0 hf r _).trans (key 1 ⟨c.val - 256, h1⟩ (by show c.val = 256 * 1 + (c.val - 256); omega)))
  refine (dif_neg h1).trans ?_
  by_cases h2 : c.val - 256 - 256 < 256
  · exact (dif_pos h2).trans ((r35 X0 hf r _).trans (key 2 ⟨c.val - 256 - 256, h2⟩ (by show c.val = 256 * 2 + (c.val - 256 - 256); omega)))
  exact (dif_neg h2).trans ((r44 X0 hf r _).trans (key 3 ⟨c.val - 256 - 256 - 256, by omega⟩ (by show c.val = 256 * 3 + (c.val - 256 - 256 - 256); omega)))

/-- The pooling's result. -/
theorem r51 (hf : Finite X0) (r : Fin 4096) (c : Fin 1024) : val_main_v51 (F := Ideal) X0 X1 X2 (ix2 r c) = mixedAt X0 X1 X2 r.val c := by
  pointwise [val_main_v51, val_main_v50, val_main_v49, val_main_v48, val_main_v47, val_main_v46]
  unfold mixedAt
  congr 1
  refine Finset.sum_congr rfl fun x _ => (mul_comm _ _).trans ?_
  congr 1
  refine (r45 X0 hf r _).trans (congrArg _ (Fin.ext ?_))
  show c.val / 256 * 256 + x.val = 256 * (c.val / 256) + x.val
  omega

/-- The gated sums. -/
theorem r84 (r : Fin 4096) (c : Fin 1024) : val_main_v84 (F := Ideal) X0 X3 X4 X5 (ix2 r c) = gatedAt X0 X3 (val_main_v75 (F := Ideal) X4) X5 r c := by
  pointwise [val_main_v84, val_main_v83, val_main_v82, val_main_v81, val_main_v80, val_main_v79, val_main_v78, val_main_v77, val_main_v76, val_main_v1]
  unfold gatedAt
  refine congrArg₂ _ rfl (congrArg₂ _ (Finset.sum_congr rfl fun x _ => (mul_comm _ _).trans (congrArg₂ _ rfl ?_)) rfl)
  refine (r65 X0 X3 _ c).trans (congrArg (fun z => vnAt X0 X3 z c) (Fin.ext ?_))
  show r.val / 128 * 128 + x.val = 128 * (r.val / 128) + x.val
  omega

/-- The result. -/
theorem r85 (hf : Finite X0) (r : Fin 4096) (c : Fin 2048) :
    val_main_v85 (F := Ideal) X0 X1 X2 X3 X4 X5 (ix2 r c) = outAt X0 X1 X2 X3 (val_main_v75 (F := Ideal) X4) X5 r c := by
  pointwise [val_main_v85]
  by_cases h : c.val < 1024
  · exact (dif_pos h).trans ((r51 X0 X1 X2 hf r _).trans (outAt_lo _ _ _ _ _ _ r c h).symm)
  · exact (dif_neg h).trans ((r84 X0 X3 X4 X5 r _).trans (outAt_hi _ _ _ _ _ _ r c h).symm)

end Cert.MixingRef

end
-- ==== Proof.MixerArrays.lean ====
/-
  The forward mixer's three results after the kernel's run, as functions of the arguments.
-/
module

public import proofs.«01_k».proof.Proof.MixerStored
public import proofs.«01_k».proof.Proof.MixerReference

@[expose] public section

set_option maxRecDepth 16384

noncomputable section

namespace Cert.Mixing

open Idealize.ShloMosaic Idealize.ShloMosaic.TcCoe Idealize.ShloMosaic.StableHlo Idealize.SL.Sem Cert.MixerIdeal Cert.MixerIdeal.Gen

variable (m : (ℓ : Loc nD τ sig) → Buf (Elt Ideal) ℓ) (c : Dev nD)

/-- The arguments: the projection, the pooling's weights and scales, the norm's scales, the segment's weights and biases. -/
abbrev argP : S4096x3072.Idx → EReal := m ((c.tc : Thread nD τ).loc main_arg0)
abbrev argW : S4x256x256.Idx → EReal := m ((c.tc : Thread nD τ).loc main_arg1)
abbrev argS : S1x1024.Idx → EReal := m ((c.tc : Thread nD τ).loc main_arg2)
abbrev argG : S1x1024.Idx → EReal := m ((c.tc : Thread nD τ).loc main_arg3)
abbrev argM : S8x128x128.Idx → EReal := m ((c.tc : Thread nD τ).loc main_arg4)
abbrev argB : S8x128.Idx → EReal := m ((c.tc : Thread nD τ).loc main_arg5)

/-- The segment's weights with the later chunks left out. -/
abbrev masked : S8x128x128.Idx → EReal := Cert.MixerRefIdeal.Read.val_main_v75 (F := Ideal) (argM m c)

/-- Which block each window holds at a point. -/
theorem idx (t : Fin cfg0.N) : win0_0.index t = ![t.val, 0] ∧ win0_1.index t = ![32 * t.val - 1, 0] ∧ win0_2.index t = ![0, 0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0] ∧ (grid0.coords t 0).val = t.val := by
  revert t; decide +kernel

/-- A quotient by sixty-four as a floor division computes it: one less where the signs differ and something remains. -/
def floored (w : BitVec 32) : BitVec 32 :=
  Scalar.select
    (IntOp.andi (IntOp.cmpi .ne (if w = 0 then (0 : BitVec 32) else if w.msb = true then -1 else 1)
        (if (64#32 : BitVec 32) = 0 then (0 : BitVec 32) else if (64#32 : BitVec 32).msb = true then -1 else 1))
      (IntOp.cmpi .ne (IntOp.remsi .host w 64#32) 0#32))
    (IntOp.subi (IntOp.divsi .host w 64#32) 1#32) (IntOp.divsi .host w 64#32)

/-- Of a row of a segment it is the plain quotient. -/
theorem floored_eq (n : Fin 128) : floored (BitVec.ofNat 32 n.val) = IntOp.divsi .host (BitVec.ofNat 32 n.val) 64#32 := by
  revert n; decide +kernel

/-- The pooling's weights as the region finds them. -/
theorem V14 : V m c main_v14 = argW m c := by
  simp only [V, hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp
  rfl

/-- The biases. -/
theorem V13 (r : Fin 128) (d : Fin 1024) : V m c main_v13 (ix2 r d : S128x1024.Idx) = argB m c (ix2 (headOf d) r) := by
  simp only [V, hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp
  pointwise
  rfl

/-- The segment's weights. -/
theorem V10 (h : Fin 8) (r s : Fin 128) : V m c main_v10 (ix3 h r s : S8x128x128.Idx) = masked m c (ix3 h r s) := by
  simp only [V, hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp
  unfold masked
  pointwise [Cert.MixerRefIdeal.Read.val_main_v75, Cert.MixerRefIdeal.Read.val_main_call2_v2, Cert.MixerRefIdeal.Read.val_main_call2_v1, Cert.MixerRefIdeal.Read.val_main_call2_v0,
    Cert.MixerRefIdeal.Read.val_main_cst_8, Cert.MixerRefIdeal.Read.val_main_v74, Cert.MixerRefIdeal.Read.val_main_v73, Cert.MixerRefIdeal.Read.val_main_v72, Cert.MixerRefIdeal.Read.val_main_v71,
    Cert.MixerRefIdeal.Read.val_main_v70, Cert.MixerRefIdeal.Read.val_main_v69, Cert.MixerRefIdeal.Read.val_main_v68, Cert.MixerRefIdeal.Read.val_main_v67, Cert.MixerRefIdeal.Read.val_main_c_7, Cert.MixerRefIdeal.Read.val_main_v66]
  show Scalar.select (IntOp.cmpi .sle (floored (BitVec.ofNat 32 s.val)) (floored (BitVec.ofNat 32 r.val))) _ _ = _
  rw [floored_eq, floored_eq]

variable (t : Fin cfg0.N)

/-- The point's blocks of the projection and of the biases. -/
theorem blocks : Blocks (argP m c) (argB m c) (grid0.coords t) (iblk m c 0 t) (iblk m c 1 t) (iblk m c 6 t) := by
  have hi := (idx t).2.2.2.2.2.2.2.2.2.2
  have ht : t.val < 8 := t.isLt
  refine ⟨fun r d => ?_, fun hpos q d h => ?_, fun r d => ?_⟩
  · unfold rowOf
    blk_ext [iblk, V_main_arg0, idx t]
  · blk_ext [iblk, V_main_arg0, idx t]
    rfl
  · refine Eq.trans ?_ (V13 m c r d)
    blk_ext [iblk, idx t]

/-- The other windows hold whole arrays. -/
theorem win2 : iblk m c 2 t = argW m c := by
  rw [← V14]
  funext y
  blk_ext [iblk, idx t]
theorem win3 : iblk m c 3 t = argS m c := by
  funext y
  blk_ext [iblk, V_main_arg2, idx t]
theorem win4 : iblk m c 4 t = argG m c := by
  funext y
  blk_ext [iblk, V_main_arg3, idx t]
theorem win5 : iblk m c 5 t = masked m c := by
  funext y
  have e : y = (ix3 (y 0) (y 1) (y 2) : S8x128x128.Idx) := (ix3_eta (n0 := 8) (n1 := 128) (n2 := 128) y).symm
  rw [e, ← V10 m c (y 0) (y 1) (y 2)]
  blk_ext [iblk, idx t]

/-- The result after the run. -/
def resY (i : S4096x2048.Idx) : EReal := outAt (argP m c) (argW m c) (argS m c) (argG m c) (masked m c) (argB m c) (i 0) (i 1)
theorem arr7 : (dats m 0 c).arrAt 7 cfg0.N = resY m c := by
  refine (dats m 0 c).arrAt_eq_of_covers 7 _ (by decide +kernel) fun t hf y => ?_
  blk_simp
  rw [after0_7, outs7 m c t _ _ _ _ _ _ (blocks m c t) (win2 m c t) (win3 m c t) (win4 m c t) (win5 m c t)]
  have hi := (idx t).2.2.2.2.2.2.2.2.2.2
  refine Eq.trans (b := resY m c (ix2 (rowOf (grid0.coords t) (y 0)) (y 1))) rfl (congrArg (resY m c) ?_)
  unfold rowOf
  blk_ext [idx t]

/-- The pooled differences after the run. -/
def resP (i : S4096x1024.Idx) : EReal := pooledAt (argP m c) (i 0).val (i 1)
theorem arr8 : (dats m 0 c).arrAt 8 cfg0.N = resP m c := by
  refine (dats m 0 c).arrAt_eq_of_covers 8 _ (by decide +kernel) fun t hf y => ?_
  blk_simp
  rw [after0_8, outs8 m c t _ _ (blocks m c t)]
  have hi := (idx t).2.2.2.2.2.2.2.2.2.2
  refine Eq.trans (b := resP m c (ix2 (rowOf (grid0.coords t) (y 0)) (y 1))) rfl (congrArg (resP m c) ?_)
  unfold rowOf
  blk_ext [idx t]

/-- The normed gate after the run. -/
def resV (i : S4096x1024.Idx) : EReal := vnAt (argP m c) (argG m c) (i 0) (i 1)
theorem arr9 : (dats m 0 c).arrAt 9 cfg0.N = resV m c := by
  refine (dats m 0 c).arrAt_eq_of_covers 9 _ (by decide +kernel) fun t hf y => ?_
  blk_simp
  rw [after0_9, outs9 m c t _ _ _ (blocks m c t) (win4 m c t)]
  have hi := (idx t).2.2.2.2.2.2.2.2.2.2
  refine Eq.trans (b := resV m c (ix2 (rowOf (grid0.coords t) (y 0)) (y 1))) rfl (congrArg (resV m c) ?_)
  unfold rowOf
  blk_ext [idx t]

end Cert.Mixing

end
-- ==== Proof.Pooling.lean ====
/-
  The claims on the forward mixer, a pooling of a few rows beside a gate normed and summed over a segment.
-/
module

public import proofs.«01_k».proof.Proof.MixerArrays
public import proofs.«01_k».proof.Proof.Gen.Mixer.Frame
public import proofs.«01_k».proof.Proof.Gen.MixerRefIdeal.Run
public import proofs.«01_k».proof.Defs
public import proofs.«01_k».proof.Proof.AttnGradient

@[expose] public section

set_option maxRecDepth 16384

noncomputable section

namespace Cert.Pooling

open Idealize.ShloMosaic Idealize.SL.Sem Cert.Mixing

/-- The kernel terminates without a fault and keeps its arguments. -/
theorem frame_p : Cert.quiescent_Mixer := fun m ρ _ => Cert.Mixer.Gen.frame m ρ

/-- So does its idealization. -/
theorem frame_pi : Cert.quiescent_MixerIdeal := fun m ρ _ => Cert.MixerIdeal.Gen.frame m ρ

/-- The reference terminates and keeps its arguments; it has no semaphore. -/
theorem frame_ri : Cert.quiescent_MixerRefIdeal := fun m ρ _ =>
  (θ_run Cert.MixerRefIdeal.defs _ _).mono (fun r h => ⟨fun c => (h c).2.2.2,
      Idealize.ShloMosaic.sem_eq_zero_of_no_sems (by decide) r.2⟩)
    (Cert.MixerRefIdeal.Value.run (F := Ideal) m ρ)

/-- The precondition's side conditions. -/
theorem mixerFiniteFacts : Cert.Pre_mixer_finite.Facts := ⟨by decide, by decide⟩

/-- Where the precondition holds the pooled columns are real. -/
theorem finite_of (m : (ℓ : Loc Cert.MixerIdeal.nD Cert.MixerIdeal.τ Cert.MixerIdeal.sig) → Buf (Elt Ideal) ℓ)
    (h : Cert.Pre_MixerIdeal_mixer_finite (hPre_mixer_finite := mixerFiniteFacts) m) (c : Dev Cert.MixerIdeal.nD) :
    Cert.MixingRef.Finite (argP m c) := fun r d => by
  have e := congrFun (h c) (ix2 r d)
  refine Cert.Attn.real_of_abs_lt _ (Eq.trans ?_ e)
  letI := mixerFiniteFacts
  pointwise [Cert.Pre_mixer_finite.fn]
  rfl

/-- The three results the kernel's idealization ends with are the reference's. -/
theorem algebraic : Cert.algebraic_MixerIdeal_MixerRefIdeal_pre_mixer_finite (hPre_mixer_finite := mixerFiniteFacts) := by
  intro m g m' g' hpre hagree
  refine ⟨fun c => (Cert.MixerIdeal.Gen.dats m 0 c).arrAt 7 Cert.MixerIdeal.cfg0.N, fun c => (Cert.MixerIdeal.Gen.dats m 0 c).arrAt 8 Cert.MixerIdeal.cfg0.N,
    fun c => (Cert.MixerIdeal.Gen.dats m 0 c).arrAt 9 Cert.MixerIdeal.cfg0.N, Cert.MixerIdeal.Value.run_blocks m g, ?_⟩
  refine (θ_run Cert.MixerRefIdeal.defs _ _).mono (fun r h c => ?_) (Cert.MixerRefIdeal.Value.run (F := Ideal) m' g')
  obtain ⟨h0, h1, h2, h3, h4, h5⟩ := hagree c
  have hf := finite_of m hpre c
  refine ⟨(h c).1.trans ?_, (h c).2.1.trans ?_, (h c).2.2.1.trans ?_, (h c).2.2.2⟩
  · rw [Cert.MixerRefIdeal.Read.val_main_v86_eq, h0, h1, h2, h3, h4, h5]
    refine Eq.trans ?_ (arr7 m c).symm
    funext j
    idx_vars j
    exact Cert.MixingRef.r85 _ _ _ _ _ _ hf _ _
  · rw [Cert.MixerRefIdeal.Read.val_main_v87_eq, h0]
    refine Eq.trans ?_ (arr8 m c).symm
    funext j
    idx_vars j
    exact Cert.MixingRef.r45 _ hf _ _
  · rw [Cert.MixerRefIdeal.Read.val_main_v88_eq, h0, h3]
    refine Eq.trans ?_ (arr9 m c).symm
    funext j
    idx_vars j
    exact Cert.MixingRef.r65 _ _ _ _

end Cert.Pooling

end
-- ==== Proof.Rows.lean ====
/-
  Loads and stores of a band of an array's rows.
-/
module

public import Idealize.ShloMosaic.Lib.Pipeline.ValueKit
public import Idealize.ShloMosaic.Lib.Pointwise

@[expose] public section

noncomputable section

namespace Cert.Rows

open Idealize.ShloMosaic Idealize.SL.Sem

variable {L n w : Nat} (off : Nat) (inb : ∀ i, (![off, 0] : Fin 2 → Nat) i + (![n, w] : Fin 2 → Nat) i ≤ (⟨2, ![L, w]⟩ : Shape).size i)

include inb in
theorem lt (r : Fin n) : off + r.val < L := by
  have h := inb 0
  simp at h
  have hr := r.isLt
  omega

/-- The index a load or store of the rows from `off` on reaches. -/
theorem emb_rows (x : (Rect.unit (s := ⟨2, ![L, w]⟩) ![off, 0] ![n, w] inb).shape.Idx) :
    (Rect.unit (s := ⟨2, ![L, w]⟩) ![off, 0] ![n, w] inb).emb x = ix2 (n0 := L) (n1 := w) ⟨off + (x 0).val, lt off inb (x 0)⟩ (x 1) := by
  refine funext fun i => ?_
  match i with
  | 0 => exact Fin.ext (by simp [Rect.emb, Rect.unit])
  | 1 => exact Fin.ext (by simp [Rect.emb, Rect.unit])

/-- A load of the rows from `off` on holds them. -/
theorem ld_rows {e : EltTy} (x : (⟨2, ![L, w]⟩ : Shape).Idx → Elt Ideal e) (r : Fin n) (d : Fin w) :
    View.ld (Val := Elt Ideal) (e' := e) x (Rect.unit (s := ⟨2, ![L, w]⟩) ![off, 0] ![n, w] inb) (ix2 r d)
      = x (ix2 ⟨off + r.val, lt off inb r⟩ d) :=
  congrArg x (emb_rows off inb (ix2 r d))

/-- A store of those rows agrees with a whole array's value when its payload does row by row. -/
theorem store_rows (G : (⟨2, ![L, w]⟩ : Shape).Idx → EReal) (pay : (⟨2, ![n, w]⟩ : Shape).Idx → EReal)
    (hp : ∀ (r : Fin n) (d : Fin w), pay (ix2 r d) = G (ix2 ⟨off + r.val, lt off inb r⟩ d))
    (x : (Rect.unit (s := ⟨2, ![L, w]⟩) ![off, 0] ![n, w] inb).shape.Idx) :
    pay x = G ((Rect.unit (s := ⟨2, ![L, w]⟩) ![off, 0] ![n, w] inb).emb x) :=
  (congrArg pay (ix2_eta (n0 := n) (n1 := w) x).symm).trans
    ((hp (x 0) (x 1)).trans (congrArg G (emb_rows off inb x)).symm)

/-- A row of an array. -/
abbrev row {n : Nat} (x : (⟨2, ![n, w]⟩ : Shape).Idx → EReal) (i : Fin n) : Fin w → EReal := fun k => x (ix2 i k)

/-- The sum over a band's rows, taken eight rows apart first. -/
theorem fold128 (F : Fin 128 → EReal) :
    ∑ r : Fin 8, ∑ q : Fin 16, F ⟨q.val * 8 + r.val, by omega⟩ = ∑ i, F i := by
  rw [Finset.sum_comm]
  exact Fin.sum_mul_add_congr (S := 16) (n := 8) (L := 128) (fun s k hl => rfl)

/-- Two bands' sums, taken eight rows apart first, are the block's. -/
theorem fold256 (F : Fin 256 → EReal) :
    ∑ r : Fin 8, (∑ q : Fin 16, F ⟨q.val * 8 + r.val, by omega⟩ + ∑ q : Fin 16, F ⟨128 + (q.val * 8 + r.val), by omega⟩) = ∑ i, F i := by
  rw [Finset.sum_add_distrib, fold128 (fun i => F ⟨i.val, by omega⟩), fold128 (fun i => F ⟨128 + i.val, by omega⟩)]
  refine Eq.trans ?_ (Fin.sum_mul_add_congr (S := 2) (n := 128) (L := 256) (F := fun s k => F ⟨s.val * 128 + k.val, by omega⟩) (fun s k hl => rfl))
  rw [Fin.sum_univ_two]
  simp

/-- Four bands' sums, taken eight rows apart first, are the block's. -/
theorem fold512 (F : Fin 512 → EReal) :
    ∑ r : Fin 8, (∑ q : Fin 16, F ⟨q.val * 8 + r.val, by omega⟩ + ∑ q : Fin 16, F ⟨128 + (q.val * 8 + r.val), by omega⟩
      + ∑ q : Fin 16, F ⟨256 + (q.val * 8 + r.val), by omega⟩ + ∑ q : Fin 16, F ⟨384 + (q.val * 8 + r.val), by omega⟩) = ∑ i, F i := by
  rw [Finset.sum_add_distrib, Finset.sum_add_distrib, Finset.sum_add_distrib, fold128 (fun i => F ⟨i.val, by omega⟩), fold128 (fun i => F ⟨128 + i.val, by omega⟩),
    fold128 (fun i => F ⟨256 + i.val, by omega⟩), fold128 (fun i => F ⟨384 + i.val, by omega⟩)]
  refine Eq.trans ?_ (Fin.sum_mul_add_congr (S := 4) (n := 128) (L := 512) (F := fun s k => F ⟨s.val * 128 + k.val, by omega⟩) (fun s k hl => rfl))
  rw [Fin.sum_univ_four]
  simp

/-- All rows of a block, taken eight rows apart first. -/
theorem fold32 (F : Fin 256 → EReal) :
    ∑ r : Fin 8, ∑ q : Fin 32, F ⟨q.val * 8 + r.val, by omega⟩ = ∑ i, F i := by
  rw [Finset.sum_comm]
  exact Fin.sum_mul_add_congr (S := 32) (n := 8) (L := 256) (fun s k hl => rfl)

theorem fold64 (F : Fin 512 → EReal) :
    ∑ r : Fin 8, ∑ q : Fin 64, F ⟨q.val * 8 + r.val, by omega⟩ = ∑ i, F i := by
  rw [Finset.sum_comm]
  exact Fin.sum_mul_add_congr (S := 64) (n := 8) (L := 512) (fun s k hl => rfl)

end Cert.Rows

end
-- ==== Proof.NormGradient.lean ====
/-
  The root-mean-square norm's gradient in its two forms. The mean square of a row plus a positive constant is a positive
  real, or it is infinite and its inverse root is nought; so nothing is asked of the row or of its cotangent.
-/
module

public import proofs.«01_k».proof.Proof.AttnGradient

@[expose] public section

noncomputable section

namespace Cert.Norm

open Idealize.ShloMosaic Cert.Attn

/-- The number of a row's elements and the constant added to the mean square, as the programs spell them. -/
abbrev cnt : EReal := Ideal.ofBits .f32 0x45000000#32
abbrev eps : EReal := Ideal.ofBits .f32 0x358637BD#32

/-- Minus one half. -/
abbrev mhalf : EReal := Ideal.ofBits .f32 0xBF000000#32

theorem cnt_eq : cnt = ((2048 : ℝ) : EReal) := by
  simp [Ideal.ofBits, Ideal.ieee]
  norm_cast
  norm_num

theorem mhalf_eq : mhalf = ((-(1 / 2) : ℝ) : EReal) := by
  simp [Ideal.ofBits, Ideal.ieee]
  norm_cast
  norm_num

theorem eps_pos : ∃ e : ℝ, 0 < e ∧ eps = e := by
  simp only [Ideal.ofBits, Ideal.ieee]
  rw [if_neg (by decide), if_neg (by decide)]
  rw [if_neg (by decide)]
  exact ⟨_, by positivity, rfl⟩

/-- A row's mean square plus the constant, and its inverse root. -/
def ms (x : Fin 2048 → EReal) : EReal := Ideal.div (∑ k, x k * x k) cnt + eps
def inv (x : Fin 2048 → EReal) : EReal := Ideal.rsqrt (ms x)

/-- A row times its inverse root mean square and the gain. -/
def normed (x : Fin 2048 → EReal) (g : Fin 2048 → EReal) : Fin 2048 → EReal := fun j => x j * inv x * g j

/-- A row of the norm's backward pass, with the residual stream's cotangent `a` and the normed row's cotangent `d`. -/
def back (a x d : Fin 2048 → EReal) : Fin 2048 → EReal := fun j =>
  a j + inv x * (d j - x j * inv x * Ideal.div (∑ k, d k * (x k * inv x)) cnt)

/-- A square is not negative. -/
theorem sq_nonneg' (x : EReal) : 0 ≤ x * x := by
  induction x using EReal.rec with
  | bot => simp
  | top => simp
  | coe x => exact_mod_cast mul_self_nonneg x

/-- Either the mean square is infinite, or the row's elements are reals and the mean square is a positive one. -/
theorem inv_cases (x : Fin 2048 → EReal) :
    ms x = ⊤ ∧ inv x = 0 ∨
      ∃ v : ℝ, 0 < v ∧ ms x = v ∧ inv x = ((Real.sqrt v)⁻¹ : ℝ) ∧ ∀ k, ∃ y : ℝ, x k = y := by
  obtain ⟨e, he, hE⟩ := eps_pos
  by_cases h : ∀ k, ∃ y : ℝ, x k = y
  · right
    choose g hg using h
    have hv : ms x = (((∑ k, g k * g k) * (2048 : ℝ)⁻¹ + e : ℝ) : EReal) := by
      unfold ms
      rw [hE, cnt_eq, div_real _ _ (by norm_num), EReal.coe_add, EReal.coe_mul, ← sum_coe]
      refine congrArg (fun z : EReal => z * (((2048 : ℝ)⁻¹ : ℝ) : EReal) + (e : EReal)) ?_
      exact Finset.sum_congr rfl fun k _ => by rw [hg k, EReal.coe_mul]
    have hp : 0 < (∑ k, g k * g k) * (2048 : ℝ)⁻¹ + e := by
      have : 0 ≤ ∑ k, g k * g k := Finset.sum_nonneg fun k _ => mul_self_nonneg _
      positivity
    refine ⟨_, hp, hv, ?_, fun k => ⟨g k, hg k⟩⟩
    unfold inv
    rw [hv, Ideal.rsqrt_coe, if_neg (not_lt.mpr hp.le), if_neg hp.ne']
  · left
    have hv : ms x = ⊤ := by
      push Not at h
      obtain ⟨k, hk⟩ := h
      have hs : x k * x k = ⊤ := by
        generalize x k = z at hk
        induction z using EReal.rec with
        | bot => simp
        | top => simp
        | coe z => exact absurd rfl (hk z)
      have : ∑ k, x k * x k = ⊤ := top_le_iff.mp (hs ▸ Finset.single_le_sum (f := fun k => x k * x k) (fun k _ => sq_nonneg' (x k)) (Finset.mem_univ k))
      unfold ms
      rw [this, hE, cnt_eq, div_real _ _ (by norm_num), EReal.top_mul_coe_of_pos (by norm_num), EReal.top_add_coe]
    exact ⟨hv, by unfold inv; rw [hv, Ideal.rsqrt_top]⟩

/-- Twice a product by a real. -/
theorem add_self_mul (D : EReal) (t : ℝ) : D * (t : EReal) + D * (t : EReal) = D * ((t + t : ℝ) : EReal) := by
  induction D using EReal.rec with
  | coe d => norm_cast; ring
  | bot =>
    rcases lt_trichotomy t 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy t 0 with h | h | h
    · rw [EReal.top_mul_coe_of_neg h, EReal.top_mul_coe_of_neg (by linarith)]; rfl
    · subst h; simp
    · rw [EReal.top_mul_coe_of_pos h, EReal.top_mul_coe_of_pos (by linarith)]; rfl

/-- What the mean square's cotangent gives each element of the row. -/
def spread (x d : Fin 2048 → EReal) : EReal :=
  Ideal.div ((∑ k, x k * d k) * (mhalf * Ideal.div (inv x) (ms x))) cnt

/-- The gradient of the norm in the closed form and as it is derived, added to a residual's. -/
theorem grad (x d : Fin 2048 → EReal) (j : Fin 2048) (a : EReal) :
    a + inv x * (d j - x j * inv x * Ideal.div (∑ k, d k * (x k * inv x)) cnt)
      = a + d j * inv x + x j * spread x d + spread x d * x j := by
  unfold spread
  rcases inv_cases x with ⟨hm, hi⟩ | ⟨v, hv, hm, hi, hx⟩
  · have h0 : Ideal.div 0 cnt = 0 := by rw [cnt_eq, div_real _ _ (by norm_num), zero_mul]
    rw [hi, hm, show Ideal.div 0 ⊤ = 0 by simp [Ideal.div], mul_zero mhalf, mul_zero (∑ k, x k * d k), h0]
    simp
  · rw [hi, hm]
    have hr : 0 < (Real.sqrt v)⁻¹ := by positivity
    have hrr : (Real.sqrt v)⁻¹ * (Real.sqrt v)⁻¹ = v⁻¹ := by rw [← mul_inv, Real.mul_self_sqrt hv.le]
    generalize (Real.sqrt v)⁻¹ = r at hr hrr
    obtain ⟨y, hy⟩ := hx j
    have hD : ∑ k, d k * (x k * (r : EReal)) = (∑ k, x k * d k) * (r : EReal) := by
      rw [sum_mul_real _ r hr.le]
      exact Finset.sum_congr rfl fun k _ => by rw [mul_comm (x k) (d k), mul_assoc]
    rw [hD]
    generalize ∑ k, x k * d k = D
    rw [hy, cnt_eq, mhalf_eq, div_real _ _ hv.ne', div_real _ _ (by norm_num), div_real _ _ (by norm_num), sub_eq_add_neg,
      EReal.left_distrib_of_nonneg_of_ne_top (EReal.coe_nonneg.mpr hr.le) (EReal.coe_ne_top r), add_assoc, add_assoc]
    congr 1
    rw [mul_comm (d j)]
    congr 1
    have e1 : (y : EReal) * (D * (((-(1 / 2) : ℝ) : EReal) * ((r : EReal) * ((v⁻¹ : ℝ) : EReal))) * (((2048 : ℝ)⁻¹ : ℝ) : EReal))
        = D * ((y * (-(1 / 2) * (r * v⁻¹)) * 2048⁻¹ : ℝ) : EReal) := by
      simp only [EReal.coe_mul]; ac_rfl
    rw [mul_comm _ (y : EReal), e1, add_self_mul, ← mul_neg_one (_ : EReal), show (-1 : EReal) = ((-1 : ℝ) : EReal) by norm_num]
    have e2 : (r : EReal) * ((y : EReal) * (r : EReal) * (D * (r : EReal) * (((2048 : ℝ)⁻¹ : ℝ) : EReal)) * ((-1 : ℝ) : EReal))
        = D * ((y * r * (r * r) * 2048⁻¹ * -1 : ℝ) : EReal) := by
      simp only [EReal.coe_mul]; ac_rfl
    rw [e2, hrr]
    congr 2
    ring

end Cert.Norm

end
-- ==== Proof.OutForward.lean ====
/-
  The residual stream after an output projection, and its norm.
-/
module

public import proofs.«01_k».proof.Proof.Gen.OutFwd.Frame
public import proofs.«01_k».proof.Proof.Gen.OutFwdIdeal.Value
public import proofs.«01_k».proof.Proof.Gen.OutFwdRefIdeal.Read
public import proofs.«01_k».proof.Proof.Gen.OutFwdRefIdeal.Run
public import proofs.«01_k».proof.Defs
public import proofs.«01_k».proof.Proof.Rows
public import Idealize.ShloMosaic.Lib.Pipeline.ReadBack
public import proofs.«01_k».proof.Proof.NormGradient

@[expose] public section

set_option maxRecDepth 16384

noncomputable section

namespace Cert.OutForward

open Idealize.ShloMosaic Idealize.SL.Sem Cert.Rows Cert.Norm

/-- The kernel terminates without a fault and keeps its arguments. -/
theorem frame_p : Cert.quiescent_OutFwd := fun m ρ _ => Cert.OutFwd.Gen.frame m ρ

/-- So does its idealization. -/
theorem frame_pi : Cert.quiescent_OutFwdIdeal := fun m ρ _ => Cert.OutFwdIdeal.Gen.frame m ρ

/-- The reference terminates and keeps its arguments; it has no semaphore. -/
theorem frame_ri : Cert.quiescent_OutFwdRefIdeal := fun m ρ _ =>
  (θ_run Cert.OutFwdRefIdeal.defs _ _).mono (fun r h => ⟨fun c => (h c).2.2,
      Idealize.ShloMosaic.sem_eq_zero_of_no_sems (by decide) r.2⟩)
    (Cert.OutFwdRefIdeal.Value.run (F := Ideal) m ρ)

/-- A row of the residual stream after the projection. -/
def sum (h : Fin 2048 → EReal) (w : (⟨2, ![2048, 2048]⟩ : Shape).Idx → EReal) (x : Fin 2048 → EReal) : Fin 2048 → EReal :=
  fun j => x j + ∑ k, h k * w (ix2 k j)

section

open Cert.OutFwdIdeal Cert.OutFwdIdeal.Gen

section

variable (x0 : Vec Ideal S512x2048 .bf16) (x1 : Vec Ideal S2048x2048 .bf16) (x2 : Vec Ideal S512x2048 .f32) (x3 : Vec Ideal S1x2048 .f32)

/-- The residual stream's block, and its norm's. -/
def resBlk : S512x2048.Idx → EReal := fun y => sum (row x0 (y 0)) x1 (row x2 (y 0)) (y 1)
def normBlk : S512x2048.Idx → EReal := fun y => normed (sum (row x0 (y 0)) x1 (row x2 (y 0))) (row x3 0) (y 1)

/-- The residual stream's block. -/
theorem out4 (y : S512x2048.Idx) : out0_4 x0 x1 x2 x3 y = resBlk x0 x1 x2 y := by
  unfold_out out0_4
  refine View.canon_append_of_piecesOf (Val := Elt Ideal) (e := .f32) (resBlk x0 x1 x2) [] [_, _, _, _] ⟨?_, ?_, ?_, ?_, trivial⟩ y ?_
  · refine store_rows (L := 512) (n := 128) (w := 2048) 384 inb_S512x2048_S128x2048_384_0 (resBlk x0 x1 x2) _ fun r d => ?_
    unfold resBlk sum
    pointwise [k0_pay10, k0_pay2]
  · refine store_rows (L := 512) (n := 128) (w := 2048) 256 inb_S512x2048_S128x2048_256_0 (resBlk x0 x1 x2) _ fun r d => ?_
    unfold resBlk sum
    pointwise [k0_pay8, k0_pay2]
  · refine store_rows (L := 512) (n := 128) (w := 2048) 128 inb_S512x2048_S128x2048_128_0 (resBlk x0 x1 x2) _ fun r d => ?_
    unfold resBlk sum
    pointwise [k0_pay5, k0_pay2]
  · refine store_rows (L := 512) (n := 128) (w := 2048) 0 inb_S512x2048_S128x2048_0_0 (resBlk x0 x1 x2) _ fun r d => ?_
    unfold resBlk sum
    pointwise [k0_pay3, k0_pay2]
  · exact View.cover_of_tiledL _ ![128, 2048] (by rfl) y

/-- Its norm's block. -/
theorem out5 (y : S512x2048.Idx) : out0_5 x0 x1 x2 x3 y = normBlk x0 x1 x2 x3 y := by
  unfold_out out0_5
  refine View.canon_append_of_piecesOf (Val := Elt Ideal) (e := .bf16) (normBlk x0 x1 x2 x3) [] [_, _, _, _] ⟨?_, ?_, ?_, ?_, trivial⟩ y ?_
  · refine store_rows (L := 512) (n := 128) (w := 2048) 384 inb_S512x2048_S128x2048_384_0 (normBlk x0 x1 x2 x3) _ fun r d => ?_
    unfold normBlk normed sum Norm.inv ms
    pointwise [k0_pay1, k0_pay12, k0_pay11, k0_pay10, k0_pay2]
  · refine store_rows (L := 512) (n := 128) (w := 2048) 256 inb_S512x2048_S128x2048_256_0 (normBlk x0 x1 x2 x3) _ fun r d => ?_
    unfold normBlk normed sum Norm.inv ms
    pointwise [k0_pay9, k0_pay8, k0_pay2]
  · refine store_rows (L := 512) (n := 128) (w := 2048) 128 inb_S512x2048_S128x2048_128_0 (normBlk x0 x1 x2 x3) _ fun r d => ?_
    unfold normBlk normed sum Norm.inv ms
    pointwise [k0_pay7, k0_pay6, k0_pay5, k0_pay2]
  · refine store_rows (L := 512) (n := 128) (w := 2048) 0 inb_S512x2048_S128x2048_0_0 (normBlk x0 x1 x2 x3) _ fun r d => ?_
    unfold normBlk normed sum Norm.inv ms
    pointwise [k0_pay4, k0_pay3, k0_pay2]
  · exact View.cover_of_tiledL _ ![128, 2048] (by rfl) y

end

variable (m : (ℓ : Loc nD τ sig) → Buf (Elt Ideal) ℓ) (c : Dev nD)

/-- The arguments: the projection's input, its weight, the residual stream and the gain. -/
abbrev h : S4096x2048.Idx → EReal := m ((c.tc : Thread nD τ).loc main_arg0)
abbrev w : S2048x2048.Idx → EReal := m ((c.tc : Thread nD τ).loc main_arg1)
abbrev x : S4096x2048.Idx → EReal := m ((c.tc : Thread nD τ).loc main_arg2)
abbrev g : S1x2048.Idx → EReal := m ((c.tc : Thread nD τ).loc main_arg3)

/-- Which block each window holds at a point. -/
theorem idx (t : Fin cfg0.N) : win0_0.index t = ![t.val, 0] ∧ win0_1.index t = ![0, 0] ∧ win0_2.index t = ![t.val, 0] ∧ win0_3.index t = ![0, 0] ∧ win0_4.index t = ![t.val, 0] ∧ win0_5.index t = ![t.val, 0] := by
  revert t; decide +kernel

/-- The residual stream after the call. -/
theorem arr4 : (dats m 0 c).arrAt 4 cfg0.N = fun i : S4096x2048.Idx => sum (row (h m c) (i 0)) (w m c) (row (x m c) (i 0)) (i 1) := by
  refine (dats m 0 c).arrAt_eq_of_covers 4 _ (by decide +kernel) fun t hf y => ?_
  blk_simp
  rw [after0_4, out4]
  have hy : y = (ix2 (y 0) (y 1) : S512x2048.Idx) := (ix2_eta (n0 := 512) (n1 := 2048) y).symm
  rw [hy]
  unfold resBlk sum row
  beta_reduce
  blk_point [iblk, V, idx t]

/-- Its norm. -/
theorem arr5 : (dats m 0 c).arrAt 5 cfg0.N = fun i : S4096x2048.Idx => normed (sum (row (h m c) (i 0)) (w m c) (row (x m c) (i 0))) (row (g m c) 0) (i 1) := by
  refine (dats m 0 c).arrAt_eq_of_covers 5 _ (by decide +kernel) fun t hf y => ?_
  blk_simp
  rw [after0_5, out5]
  have hy : y = (ix2 (y 0) (y 1) : S512x2048.Idx) := (ix2_eta (n0 := 512) (n1 := 2048) y).symm
  rw [hy]
  unfold normBlk normed sum Norm.inv ms row
  beta_reduce
  blk_point [iblk, V, idx t]

end

section

open Cert.OutFwdRefIdeal.Read

variable (h : FVec Ideal Cert.OutFwdRefIdeal.S4096x2048 .bf16) (w : FVec Ideal Cert.OutFwdRefIdeal.S2048x2048 .f32) (x : FVec Ideal Cert.OutFwdRefIdeal.S4096x2048 .f32) (g : FVec Ideal Cert.OutFwdRefIdeal.S1x2048 .f32) (i : Fin 4096) (j : Fin 2048)

/-- The reference's residual stream at an element. -/
theorem ref2 : val_main_v2 (F := Ideal) h w x (ix2 i j) = sum (row h i) w (row x i) j := by
  unfold sum
  pointwise [val_main_v2, val_main_v1, val_main_v0]

/-- Its norm at an element. -/
theorem ref17 : val_main_v17 (F := Ideal) h w x g (ix2 i j) = normed (sum (row h i) w (row x i)) (row g 0) j := by
  unfold normed sum Norm.inv ms
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end

/-- What the kernel's idealization ends with is the reference's residual stream and its norm. -/
theorem algebraic : Cert.algebraic_OutFwdIdeal_OutFwdRefIdeal := by
  intro m g m' g' _ hagree
  refine ⟨fun c => (Cert.OutFwdIdeal.Gen.dats m 0 c).arrAt 4 Cert.OutFwdIdeal.cfg0.N, fun c => (Cert.OutFwdIdeal.Gen.dats m 0 c).arrAt 5 Cert.OutFwdIdeal.cfg0.N, Cert.OutFwdIdeal.Value.run_blocks m g, ?_⟩
  refine (θ_run Cert.OutFwdRefIdeal.defs _ _).mono (fun r h c => ?_) (Cert.OutFwdRefIdeal.Value.run (F := Ideal) m' g')
  obtain ⟨h0, h1, h2, h3⟩ := hagree c
  refine ⟨(h c).1.trans ?_, (h c).2.1.trans ?_, (h c).2.2⟩
  · rw [Cert.OutFwdRefIdeal.Read.val_main_v2_eq, h0, h1, h2]
    refine Eq.trans ?_ (arr4 m c).symm
    funext j
    idx_vars j
    exact ref2 _ _ _ _ _
  · rw [Cert.OutFwdRefIdeal.Read.val_main_v17_eq, h0, h1, h2, h3]
    refine Eq.trans ?_ (arr5 m c).symm
    funext j
    idx_vars j
    exact ref17 _ _ _ _ _ _

end Cert.OutForward

end
-- ==== Proof.MixNormForward.lean ====
/-
  The norm before the mixer.
-/
module

public import proofs.«01_k».proof.Proof.Gen.MixNorm.Frame
public import proofs.«01_k».proof.Proof.Gen.MixNormIdeal.Value
public import proofs.«01_k».proof.Proof.Gen.MixNormRefIdeal.Read
public import proofs.«01_k».proof.Proof.Gen.MixNormRefIdeal.Run
public import proofs.«01_k».proof.Defs
public import proofs.«01_k».proof.Proof.Rows
public import proofs.«01_k».proof.Proof.NormGradient

@[expose] public section

set_option maxRecDepth 16384

noncomputable section

namespace Cert.MixNormForward

open Idealize.ShloMosaic Idealize.SL.Sem Cert.Rows Cert.Norm

/-- The kernel terminates without a fault and keeps its arguments. -/
theorem frame_p : Cert.quiescent_MixNorm := fun m ρ _ => Cert.MixNorm.Gen.frame m ρ

/-- So does its idealization. -/
theorem frame_pi : Cert.quiescent_MixNormIdeal := fun m ρ _ => Cert.MixNormIdeal.Gen.frame m ρ

/-- The reference terminates and keeps its arguments; it has no semaphore. -/
theorem frame_ri : Cert.quiescent_MixNormRefIdeal := fun m ρ _ =>
  (θ_run Cert.MixNormRefIdeal.defs _ _).mono (fun r h => ⟨fun c => (h c).2,
      Idealize.ShloMosaic.sem_eq_zero_of_no_sems (by decide) r.2⟩)
    (Cert.MixNormRefIdeal.Value.run (F := Ideal) m ρ)

section

open Cert.MixNormIdeal Cert.MixNormIdeal.Gen

variable (m : (ℓ : Loc nD τ sig) → Buf (Elt Ideal) ℓ) (c : Dev nD)

/-- The arguments: the rows and the gain. -/
abbrev x : S4096x2048.Idx → EReal := m ((c.tc : Thread nD τ).loc main_arg0)
abbrev g : S1x2048.Idx → EReal := m ((c.tc : Thread nD τ).loc main_arg1)

/-- Which block each window holds at a point. -/
theorem idx (t : Fin cfg0.N) : win0_0.index t = ![t.val, 0] ∧ win0_1.index t = ![0, 0] ∧ win0_2.index t = ![t.val, 0] := by
  revert t; decide +kernel

/-- Each row is its norm. -/
theorem arr2 : (dats m 0 c).arrAt 2 cfg0.N = fun i : S4096x2048.Idx => normed (row (x m c) (i 0)) (row (g m c) 0) (i 1) := by
  refine (dats m 0 c).arrAt_eq_of_covers 2 _ (by decide +kernel) fun t hf y => ?_
  blk_simp
  rw [after0_2]
  frame_out
  have hy : y = (ix2 (y 0) (y 1) : S512x2048.Idx) := (ix2_eta (n0 := 512) (n1 := 2048) y).symm
  rw [hy]
  unfold normed Norm.inv ms row
  beta_reduce
  pointwise [k0_pay1]
  blk_point [iblk, V, idx t]

end

open Cert.MixNormRefIdeal.Read in
/-- The reference's result at an element. -/
theorem ref14 (x : FVec Ideal Cert.MixNormRefIdeal.S4096x2048 .f32) (g : FVec Ideal Cert.MixNormRefIdeal.S1x2048 .f32) (i : Fin 4096) (j : Fin 2048) :
    val_main_v14 (F := Ideal) x g (ix2 i j) = normed (row x i) (row g 0) j := by
  unfold normed Norm.inv ms
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- What the kernel's idealization ends with is the reference's result. -/
theorem algebraic : Cert.algebraic_MixNormIdeal_MixNormRefIdeal := by
  intro m g m' g' _ hagree
  refine ⟨fun c => (Cert.MixNormIdeal.Gen.dats m 0 c).arrAt 2 Cert.MixNormIdeal.cfg0.N, Cert.MixNormIdeal.Value.run_blocks m g, ?_⟩
  refine (θ_run Cert.MixNormRefIdeal.defs _ _).mono (fun r h c => ?_) (Cert.MixNormRefIdeal.Value.run (F := Ideal) m' g')
  obtain ⟨h0, h1⟩ := hagree c
  refine ⟨(h c).1.trans ?_, (h c).2⟩
  rw [Cert.MixNormRefIdeal.Read.val_main_v14_eq, h0, h1]
  refine Eq.trans ?_ (arr2 m c).symm
  funext j
  idx_vars j
  exact ref14 _ _ _ _

end Cert.MixNormForward

end
-- ==== Proof.MemNormForward.lean ====
/-
  The norm of the memory.
-/
module

public import proofs.«01_k».proof.Proof.Gen.MemNorm.Frame
public import proofs.«01_k».proof.Proof.Gen.MemNormIdeal.Value
public import proofs.«01_k».proof.Proof.Gen.MemNormRefIdeal.Read
public import proofs.«01_k».proof.Proof.Gen.MemNormRefIdeal.Run
public import proofs.«01_k».proof.Defs
public import proofs.«01_k».proof.Proof.Rows
public import proofs.«01_k».proof.Proof.NormGradient

@[expose] public section

set_option maxRecDepth 16384

noncomputable section

namespace Cert.MemNormForward

open Idealize.ShloMosaic Idealize.SL.Sem Cert.Rows Cert.Norm

/-- The kernel terminates without a fault and keeps its arguments. -/
theorem frame_p : Cert.quiescent_MemNorm := fun m ρ _ => Cert.MemNorm.Gen.frame m ρ

/-- So does its idealization. -/
theorem frame_pi : Cert.quiescent_MemNormIdeal := fun m ρ _ => Cert.MemNormIdeal.Gen.frame m ρ

/-- The reference terminates and keeps its arguments; it has no semaphore. -/
theorem frame_ri : Cert.quiescent_MemNormRefIdeal := fun m ρ _ =>
  (θ_run Cert.MemNormRefIdeal.defs _ _).mono (fun r h => ⟨fun c => (h c).2,
      Idealize.ShloMosaic.sem_eq_zero_of_no_sems (by decide) r.2⟩)
    (Cert.MemNormRefIdeal.Value.run (F := Ideal) m ρ)

section

open Cert.MemNormIdeal Cert.MemNormIdeal.Gen

variable (m : (ℓ : Loc nD τ sig) → Buf (Elt Ideal) ℓ) (c : Dev nD)

/-- The arguments: the rows and the gain. -/
abbrev x : S256x2048.Idx → EReal := m ((c.tc : Thread nD τ).loc main_arg0)
abbrev g : S1x2048.Idx → EReal := m ((c.tc : Thread nD τ).loc main_arg1)

/-- Which block each window holds at a point. -/
theorem idx (t : Fin cfg0.N) : win0_0.index t = ![t.val, 0] ∧ win0_1.index t = ![0, 0] ∧ win0_2.index t = ![t.val, 0] := by
  revert t; decide +kernel

/-- Each row is its norm. -/
theorem arr2 : (dats m 0 c).arrAt 2 cfg0.N = fun i : S256x2048.Idx => normed (row (x m c) (i 0)) (row (g m c) 0) (i 1) := by
  refine (dats m 0 c).arrAt_eq_of_covers 2 _ (by decide +kernel) fun t hf y => ?_
  blk_simp
  rw [after0_2]
  frame_out
  have hy : y = (ix2 (y 0) (y 1) : S256x2048.Idx) := (ix2_eta (n0 := 256) (n1 := 2048) y).symm
  rw [hy]
  unfold normed Norm.inv ms row
  beta_reduce
  pointwise [k0_pay1]
  blk_point [iblk, V, idx t]

end

open Cert.MemNormRefIdeal.Read in
/-- The reference's result at an element. -/
theorem ref14 (x : FVec Ideal Cert.MemNormRefIdeal.S256x2048 .f32) (g : FVec Ideal Cert.MemNormRefIdeal.S1x2048 .f32) (i : Fin 256) (j : Fin 2048) :
    val_main_v14 (F := Ideal) x g (ix2 i j) = normed (row x i) (row g 0) j := by
  unfold normed Norm.inv ms
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- What the kernel's idealization ends with is the reference's result. -/
theorem algebraic : Cert.algebraic_MemNormIdeal_MemNormRefIdeal := by
  intro m g m' g' _ hagree
  refine ⟨fun c => (Cert.MemNormIdeal.Gen.dats m 0 c).arrAt 2 Cert.MemNormIdeal.cfg0.N, Cert.MemNormIdeal.Value.run_blocks m g, ?_⟩
  refine (θ_run Cert.MemNormRefIdeal.defs _ _).mono (fun r h c => ?_) (Cert.MemNormRefIdeal.Value.run (F := Ideal) m' g')
  obtain ⟨h0, h1⟩ := hagree c
  refine ⟨(h c).1.trans ?_, (h c).2⟩
  rw [Cert.MemNormRefIdeal.Read.val_main_v14_eq, h0, h1]
  refine Eq.trans ?_ (arr2 m c).symm
  funext j
  idx_vars j
  exact ref14 _ _ _ _

end Cert.MemNormForward

end
-- ==== Proof.MemNormBackward.lean ====
/-
  The gain's gradient of the memory's norm.
-/
module

public import proofs.«01_k».proof.Proof.Gen.MemG.Frame
public import proofs.«01_k».proof.Proof.Gen.MemGIdeal.Value
public import proofs.«01_k».proof.Proof.Gen.MemGRefIdeal.Read
public import proofs.«01_k».proof.Proof.Gen.MemGRefIdeal.Run
public import proofs.«01_k».proof.Defs
public import proofs.«01_k».proof.Proof.Rows
public import proofs.«01_k».proof.Proof.NormGradient
public import Idealize.ShloMosaic.Lib.Pipeline.ReadBack

@[expose] public section

set_option maxRecDepth 16384

noncomputable section

namespace Cert.MemNormBackward

open Idealize.ShloMosaic Idealize.SL.Sem Cert.Rows Cert.Norm

/-- The kernel terminates without a fault and keeps its arguments. -/
theorem frame_p : Cert.quiescent_MemG := fun m ρ _ => Cert.MemG.Gen.frame m ρ

/-- So does its idealization. -/
theorem frame_pi : Cert.quiescent_MemGIdeal := fun m ρ _ => Cert.MemGIdeal.Gen.frame m ρ

/-- The reference terminates and keeps its arguments; it has no semaphore. -/
theorem frame_ri : Cert.quiescent_MemGRefIdeal := fun m ρ _ =>
  (θ_run Cert.MemGRefIdeal.defs _ _).mono (fun r h => ⟨fun c => (h c).2,
      Idealize.ShloMosaic.sem_eq_zero_of_no_sems (by decide) r.2⟩)
    (Cert.MemGRefIdeal.Value.run (F := Ideal) m ρ)

section

open Cert.MemGIdeal Cert.MemGIdeal.Gen

section

variable (x0 x1 : Vec Ideal S256x2048 .f32)

/-- A row's part of the gain's gradient. -/
def dgTerm (j : Fin 2048) (i : Fin 256) : EReal := x0 (ix2 i j) * (x1 (ix2 i j) * Norm.inv (row x1 i))

/-- Its sum, eight rows apart. -/
theorem pay2_apply (r : Fin 8) (j : Fin 2048) : k0_pay2 x1 x0 (ix2 r j) = ∑ q : Fin 32, dgTerm x0 x1 j ⟨q.val * 8 + r.val, by omega⟩ := by
  unfold dgTerm Norm.inv ms
  pointwise [k0_pay2, k0_pay1]

/-- The eight rows added: the sum over all rows. -/
theorem pay4_apply (j : Fin 2048) : k0_pay4 (k0_pay2 x1 x0) (ix2 0 j) = ∑ r : Fin 256, dgTerm x0 x1 j r := by
  refine Eq.trans ?_ (fold32 (dgTerm x0 x1 j))
  refine Eq.trans ?_ (Finset.sum_congr rfl fun r _ => pay2_apply x0 x1 r j)
  generalize k0_pay2 x1 x0 = z
  pointwise [k0_pay4]

end

variable (m : (ℓ : Loc nD τ sig) → Buf (Elt Ideal) ℓ) (c : Dev nD)

/-- The arguments: the cotangent and the rows. -/
abbrev h : S256x2048.Idx → EReal := m ((c.tc : Thread nD τ).loc main_arg0)
abbrev x : S256x2048.Idx → EReal := m ((c.tc : Thread nD τ).loc main_arg1)

/-- Which block each window holds at a point. -/
theorem idx (t : Fin cfg0.N) : win0_0.index t = ![0, 0] ∧ win0_1.index t = ![0, 0] ∧ win0_3.index t = ![0, 0] := by
  revert t; decide +kernel

theorem in0 (t : Fin cfg0.N) : (iblk m c 0 t : S256x2048.Idx → EReal) = h m c := by
  funext y
  idx_vars y
  blk_ext [iblk, V, idx t]

theorem in1 (t : Fin cfg0.N) : (iblk m c 1 t : S256x2048.Idx → EReal) = x m c := by
  funext y
  idx_vars y
  blk_ext [iblk, V, idx t]

/-- The array of the gain's gradient. -/
def dgArr : S1x2048.Idx → EReal := fun i => ∑ r : Fin 256, dgTerm (h m c) (x m c) (i 1) r

/-- What the one point leaves. -/
theorem outs3 (t : Fin cfg0.N) (j : Fin 2048) : outsAt0 m c t (ix2 0 j) = dgArr m c (ix2 0 j) := by
  unfold outsAt0
  frame_open
  simp (disch := decide) only [↓ View.readCov_skip, ↓ View.readCov_cons_toLoadRect, ↓ View.readCov_fill]
  frame_out
  refine (pay4_apply _ _ j).trans ?_
  rw [in0, in1]
  rfl

/-- The gain's gradient after the run. -/
theorem arr3 : (dats m 0 c).arrAt 3 cfg0.N = dgArr m c := by
  refine (dats m 0 c).arrAt_eq_of_covers 3 _ (by decide +kernel) fun t hf y => ?_
  blk_simp
  rw [after0_3]
  idx_vars y
  obtain rfl : y0 = 0 := Subsingleton.elim _ _
  refine (outs3 m c t y1).trans (congrArg (dgArr m c) ?_)
  blk_ext [idx t]

end

section

open Cert.MemGRefIdeal.Read

variable (h x : FVec Ideal Cert.MemGRefIdeal.S256x2048 .f32) (j : Fin 2048)

/-- The reference's gradient at an element. -/
theorem ref18 : val_main_v18 (F := Ideal) h x (ix2 0 j) = ∑ r : Fin 256, h (ix2 r j) * (x (ix2 r j) * Norm.inv (row x r)) := by
  unfold Norm.inv ms
  pointwise [val_main_v18, val_main_v17, val_main_v16, val_main_v15, val_main_v14, val_main_v10, val_main_v9, val_main_v8, val_main_v7, val_main_v6, val_main_v5, val_main_v4, val_main_v3, val_main_v2, val_main_v1, val_main_cst, val_main_cst_0, val_main_cst_1, val_main_cst_2, val_main_cst_3]
  rw [Fin.sum_univ_one]
  exact Finset.sum_congr rfl fun r _ => mul_comm _ _

end

/-- What the kernel's idealization ends with is the reference's gradient. -/
theorem algebraic : Cert.algebraic_MemGIdeal_MemGRefIdeal := by
  intro m g m' g' _ hagree
  refine ⟨fun c => (Cert.MemGIdeal.Gen.dats m 0 c).arrAt 3 Cert.MemGIdeal.cfg0.N, Cert.MemGIdeal.Value.run_blocks m g, ?_⟩
  refine (θ_run Cert.MemGRefIdeal.defs _ _).mono (fun r h c => ?_) (Cert.MemGRefIdeal.Value.run (F := Ideal) m' g')
  obtain ⟨h0, h1, h2⟩ := hagree c
  refine ⟨(h c).1.trans ?_, (h c).2⟩
  rw [Cert.MemGRefIdeal.Read.val_main_v18_eq, h0, h1]
  refine Eq.trans ?_ (arr3 m c).symm
  funext j
  idx_vars j
  obtain rfl : j0 = 0 := Subsingleton.elim _ _
  exact ref18 _ _ _

end Cert.MemNormBackward

end
-- ==== Proof.FfnNormBackward.lean ====
/-
  The feed-forward norm's backward pass, added to the residual stream's gradient.
-/
module

public import proofs.«01_k».proof.Proof.Gen.FfnG.Frame
public import proofs.«01_k».proof.Proof.Gen.FfnGIdeal.Value
public import proofs.«01_k».proof.Proof.Gen.FfnGRefIdeal.Read
public import proofs.«01_k».proof.Proof.Gen.FfnGRefIdeal.Run
public import proofs.«01_k».proof.Defs
public import proofs.«01_k».proof.Proof.Rows
public import proofs.«01_k».proof.Proof.NormGradient
public import Idealize.ShloMosaic.Lib.Pipeline.ReadBack

@[expose] public section

set_option maxRecDepth 16384

noncomputable section

namespace Cert.FfnNormBackward

open Idealize.ShloMosaic Idealize.SL.Sem Cert.Rows Cert.Norm

/-- The kernel terminates without a fault and keeps its arguments. -/
theorem frame_p : Cert.quiescent_FfnG := fun m ρ _ => Cert.FfnG.Gen.frame m ρ

/-- So does its idealization. -/
theorem frame_pi : Cert.quiescent_FfnGIdeal := fun m ρ _ => Cert.FfnGIdeal.Gen.frame m ρ

/-- The reference terminates and keeps its arguments; it has no semaphore. -/
theorem frame_ri : Cert.quiescent_FfnGRefIdeal := fun m ρ _ =>
  (θ_run Cert.FfnGRefIdeal.defs _ _).mono (fun r h => ⟨fun c => (h c).2.2.2,
      Idealize.ShloMosaic.sem_eq_zero_of_no_sems (by decide) r.2⟩)
    (Cert.FfnGRefIdeal.Value.run (F := Ideal) m ρ)

section

open Cert.FfnGIdeal Cert.FfnGIdeal.Gen

section

variable (x0 : Vec Ideal S512x2048 .f32) (x1 : Vec Ideal S512x2048 .f32) (x2 : Vec Ideal S1x2048 .f32) (x3 : Vec Ideal S512x2048 .f32)

/-- The input gradient's block. -/
def dxBlk : S512x2048.Idx → EReal := fun y => back (row x3 (y 0)) (row x1 (y 0)) (fun j => x0 (ix2 (y 0) j) * x2 (ix2 0 j)) (y 1)

theorem pay1_apply (r : Fin 512) (d : Fin 2048) : k0_pay1 (k0_pay3 x1) x3 (k0_pay9 x1 x0 x2) (ix2 r d) = dxBlk x0 x1 x2 x3 (ix2 r d) := by
  unfold dxBlk back Norm.inv ms row
  beta_reduce
  pointwise [k0_pay1, k0_pay9, k0_pay4, k0_pay3]

/-- The same block, rounded. -/
theorem pay2_apply (r : Fin 512) (d : Fin 2048) : k0_pay2 (k0_pay3 x1) x3 (k0_pay9 x1 x0 x2) (ix2 r d) = dxBlk x0 x1 x2 x3 (ix2 r d) := by
  refine Eq.trans ?_ (pay1_apply x0 x1 x2 x3 r d)
  pointwise [k0_pay2]

/-- A row's part of the gain's gradient. -/
def dgTerm (j : Fin 2048) (i : Fin 512) : EReal := x0 (ix2 i j) * (x1 (ix2 i j) * Norm.inv (row x1 i))

/-- The gain's gradient's part, eight rows apart. -/
theorem pay5_apply (r : Fin 8) (j : Fin 2048) : k0_pay5 x1 x0 (ix2 r j) = ∑ q : Fin 64, dgTerm x0 x1 j ⟨q.val * 8 + r.val, by omega⟩ := by
  unfold dgTerm Norm.inv ms
  pointwise [k0_pay5, k0_pay4, k0_pay3]

/-- That part alone, at the first point, and after what the scratch held, at a later one. -/
theorem pay6_eq : k0_pay6 x1 x0 = k0_pay5 x1 x0 := by
  funext y; idx_vars y; pointwise [k0_pay6]

theorem pay7_eq (z : Vec Ideal S8x2048 .f32) (y : S8x2048.Idx) : k0_pay7 x1 x0 z y = z y + k0_pay5 x1 x0 y := by
  idx_vars y; pointwise [k0_pay7]

theorem pay8_apply (z : Vec Ideal S8x2048 .f32) (j : Fin 2048) : k0_pay8 z (ix2 0 j) = ∑ r : Fin 8, z (ix2 r j) := by
  pointwise [k0_pay8]

/-- A point's part of the gain's gradient. -/
def dgSum (r : Fin 8) (j : Fin 2048) : EReal := ∑ q : Fin 64, dgTerm x0 x1 j ⟨q.val * 8 + r.val, by omega⟩
def dgBlk : S8x2048.Idx → EReal := fun y => dgSum x0 x1 (y 0) (y 1)

theorem pay5_eq (y : S8x2048.Idx) : k0_pay5 x1 x0 y = dgBlk x0 x1 y := by
  idx_vars y
  exact pay5_apply _ _ _ _

end

variable (m : (ℓ : Loc nD τ sig) → Buf (Elt Ideal) ℓ) (c : Dev nD)

/-- The arguments: the cotangent, the rows, the gain and the residual stream's cotangent. -/
abbrev h : S4096x2048.Idx → EReal := m ((c.tc : Thread nD τ).loc main_arg0)
abbrev x : S4096x2048.Idx → EReal := m ((c.tc : Thread nD τ).loc main_arg1)
abbrev g : S1x2048.Idx → EReal := m ((c.tc : Thread nD τ).loc main_arg2)
abbrev a : S4096x2048.Idx → EReal := m ((c.tc : Thread nD τ).loc main_arg3)

/-- Which block each window holds at a point. -/
theorem idx (t : Fin cfg0.N) : win0_0.index t = ![t.val, 0] ∧ win0_1.index t = ![t.val, 0] ∧ win0_2.index t = ![0, 0] ∧ win0_3.index t = ![t.val, 0] ∧ win0_4.index t = ![t.val, 0] ∧ win0_5.index t = ![t.val, 0] := by
  revert t; decide +kernel

section
variable (t : Fin cfg0.N) (r : Fin 512) (hl : t.val * 512 + r.val < 4096)

theorem in0 (k : Fin 2048) : (iblk m c 0 t : S512x2048.Idx → EReal) (ix2 r k) = h m c (ix2 ⟨t.val * 512 + r.val, hl⟩ k) := by
  blk_ext [iblk, V, idx t]

theorem in1 : row (iblk m c 1 t : S512x2048.Idx → EReal) r = row (x m c) ⟨t.val * 512 + r.val, hl⟩ := by
  funext k
  change iblk m c 1 t (ix2 r k : S512x2048.Idx) = x m c (ix2 _ k)
  blk_ext [iblk, V, idx t]

theorem in2 (j : Fin 2048) : (iblk m c 2 t : S1x2048.Idx → EReal) (ix2 0 j) = g m c (ix2 0 j) := by
  blk_ext [iblk, V, idx t]

theorem in3 : row (iblk m c 3 t : S512x2048.Idx → EReal) r = row (a m c) ⟨t.val * 512 + r.val, hl⟩ := by
  funext k
  change iblk m c 3 t (ix2 r k : S512x2048.Idx) = a m c (ix2 _ k)
  blk_ext [iblk, V, idx t]

end

/-- The input gradient's block at any point. -/
theorem outs4 (t : Fin cfg0.N) (y : S512x2048.Idx) :
    (outsAt0 m c t.val t.isLt).1 y = dxBlk (iblk m c 0 t) (iblk m c 1 t) (iblk m c 2 t) (iblk m c 3 t) y := by
  have ht : t.val < 8 := t.isLt
  by_cases h0 : t.val % 8 = 0
  · rw [outsAt0_A m c t h0 (by omega) (by omega)]
    frame_open
    simp (disch := decide) only [↓ View.readCov_skip, ↓ View.readCov_cons_toLoadRect, ↓ View.readCov_fill]
    frame_out
    idx_vars y
    exact pay1_apply _ _ _ _ _ _
  by_cases h2 : t.val % 8 = 7
  · rw [outsAt0_C m c t h0 (by omega) h2]
    frame_open
    simp (disch := decide) only [↓ View.readCov_skip, ↓ View.readCov_cons_toLoadRect, ↓ View.readCov_fill]
    frame_out
    idx_vars y
    exact pay1_apply _ _ _ _ _ _
  · rw [outsAt0_B m c t h0 (by omega) h2]
    frame_open
    simp (disch := decide) only [↓ View.readCov_skip, ↓ View.readCov_cons_toLoadRect, ↓ View.readCov_fill]
    frame_out
    idx_vars y
    exact pay1_apply _ _ _ _ _ _

/-- Its rounding at any point. -/
theorem outs5 (t : Fin cfg0.N) (y : S512x2048.Idx) :
    (outsAt0 m c t.val t.isLt).2.1 y = dxBlk (iblk m c 0 t) (iblk m c 1 t) (iblk m c 2 t) (iblk m c 3 t) y := by
  have ht : t.val < 8 := t.isLt
  by_cases h0 : t.val % 8 = 0
  · rw [outsAt0_A m c t h0 (by omega) (by omega)]
    frame_open
    simp (disch := decide) only [↓ View.readCov_skip, ↓ View.readCov_cons_toLoadRect, ↓ View.readCov_fill]
    frame_out
    idx_vars y
    exact pay2_apply _ _ _ _ _ _
  by_cases h2 : t.val % 8 = 7
  · rw [outsAt0_C m c t h0 (by omega) h2]
    frame_open
    simp (disch := decide) only [↓ View.readCov_skip, ↓ View.readCov_cons_toLoadRect, ↓ View.readCov_fill]
    frame_out
    idx_vars y
    exact pay2_apply _ _ _ _ _ _
  · rw [outsAt0_B m c t h0 (by omega) h2]
    frame_open
    simp (disch := decide) only [↓ View.readCov_skip, ↓ View.readCov_cons_toLoadRect, ↓ View.readCov_fill]
    frame_out
    idx_vars y
    exact pay2_apply _ _ _ _ _ _

/-- What the scratch holds after the first point, and after a later one. -/
theorem scr_A (t : Fin cfg0.N) (h0 : t.val % 8 = 0) (y : S8x2048.Idx) :
    (outsAt0 m c t.val t.isLt).2.2.2 y = 0 + dgBlk (iblk m c 0 t) (iblk m c 1 t) y := by
  have ht : t.val < 8 := t.isLt
  rw [outsAt0_A m c t h0 (by omega) (by omega)]
  frame_open
  simp (disch := decide) only [↓ View.readCov_skip, ↓ View.readCov_cons_toLoadRect, ↓ View.readCov_fill]
  frame_out
  rw [zero_add, pay6_eq]
  exact pay5_eq _ _ _

theorem scr_B (t : Fin cfg0.N) (h0 : ¬t.val % 8 = 0) (y : S8x2048.Idx) :
    (outsAt0 m c t.val t.isLt).2.2.2 y = (outsAt0 m c (t.val - 1) (Nat.lt_of_le_of_lt (Nat.sub_le _ _) t.isLt)).2.2.2 y + dgBlk (iblk m c 0 t) (iblk m c 1 t) y := by
  have ht : t.val < 8 := t.isLt
  by_cases h2 : t.val % 8 = 7
  · rw [outsAt0_C m c t h0 (by omega) h2]
    frame_open
    simp (disch := decide) only [↓ View.readCov_skip, ↓ View.readCov_cons_toLoadRect, ↓ View.readCov_fill]
    frame_out
    rw [pay7_eq, pay5_eq]
    simp only [read_unread_whole]
  · rw [outsAt0_B m c t h0 (by omega) h2]
    frame_open
    simp (disch := decide) only [↓ View.readCov_skip, ↓ View.readCov_cons_toLoadRect, ↓ View.readCov_fill]
    frame_out
    rw [pay7_eq, pay5_eq]
    simp only [read_unread_whole]

/-- The gain's gradient at the last point: the scratch's eight rows added. -/
theorem outs6 (t : Fin cfg0.N) (h2 : t.val % 8 = 7) (j : Fin 2048) :
    (outsAt0 m c t.val t.isLt).2.2.1 (ix2 0 j) = ∑ r : Fin 8, (outsAt0 m c t.val t.isLt).2.2.2 (ix2 r j) := by
  have ht : t.val < 8 := t.isLt
  rw [outsAt0_C m c t (by omega) (by omega) h2]
  frame_open
  simp (disch := decide) only [↓ View.readCov_skip, ↓ View.readCov_cons_toLoadRect, ↓ View.readCov_fill]
  frame_out
  exact pay8_apply _ _

/-- The array of the input gradient, and of the gain's. -/
def dxArr : S4096x2048.Idx → EReal := fun i =>
  back (row (a m c) (i 0)) (row (x m c) (i 0)) (fun j => h m c (ix2 (i 0) j) * g m c (ix2 0 j)) (i 1)
def dgArr : S1x2048.Idx → EReal := fun i =>
  ∑ r : Fin 4096, h m c (ix2 r (i 1)) * (x m c (ix2 r (i 1)) * Norm.inv (row (x m c) r))

theorem dxBlk_eq (t : Fin cfg0.N) (r : Fin 512) (d : Fin 2048) (hl : t.val * 512 + r.val < 4096) :
    dxBlk (iblk m c 0 t) (iblk m c 1 t) (iblk m c 2 t) (iblk m c 3 t) (ix2 r d) = dxArr m c (ix2 ⟨t.val * 512 + r.val, hl⟩ d) := by
  unfold dxBlk dxArr
  simp only [ix2_0, ix2_1, in0 m c t r hl, in1 m c t r hl, in2, in3 m c t r hl]

/-- The input gradient after the run. -/
theorem arr4 : (dats m 0 c).arrAt 4 cfg0.N = dxArr m c := by
  refine (dats m 0 c).arrAt_eq_of_covers 4 _ (by decide +kernel) fun t hf y => ?_
  blk_simp
  rw [after0_4, outs4]
  have hy : y = (ix2 (y 0) (y 1) : S512x2048.Idx) := (ix2_eta (n0 := 512) (n1 := 2048) y).symm
  have ht : t.val < 8 := t.isLt
  have hr : (y 0).val < 512 := (y 0).isLt
  have hb : t.val * 512 + (y 0).val < 4096 := by omega
  refine (congrArg _ hy).trans ((dxBlk_eq m c t (y 0) (y 1) hb).trans (congrArg (dxArr m c) ?_))
  blk_ext [idx t]

/-- Its rounding after the run. -/
theorem arr5 : (dats m 0 c).arrAt 5 cfg0.N = dxArr m c := by
  refine (dats m 0 c).arrAt_eq_of_covers 5 _ (by decide +kernel) fun t hf y => ?_
  blk_simp
  rw [after0_5, outs5]
  have hy : y = (ix2 (y 0) (y 1) : S512x2048.Idx) := (ix2_eta (n0 := 512) (n1 := 2048) y).symm
  have ht : t.val < 8 := t.isLt
  have hr : (y 0).val < 512 := (y 0).isLt
  have hb : t.val * 512 + (y 0).val < 4096 := by omega
  refine (congrArg _ hy).trans ((dxBlk_eq m c t (y 0) (y 1) hb).trans (congrArg (dxArr m c) ?_))
  blk_ext [idx t]

/-- A sum over the points' rows is the sum over all rows. -/
theorem rows_sum (F : Fin cfg0.N → Fin 512 → EReal) (f : Fin 4096 → EReal)
    (h : ∀ (t : Fin cfg0.N) (r : Fin 512) (hl : t.val * 512 + r.val < 4096), F t r = f ⟨t.val * 512 + r.val, hl⟩) :
    ∑ t, ∑ r, F t r = ∑ r, f r :=
  Fin.sum_mul_add_congr (S := 8) (n := 512) (L := 4096) (F := F) h

/-- The scratch after the last point: the eight rows of all points. -/
theorem scr_last (r : Fin 8) (j : Fin 2048) :
    (outsAt0 m c t0_7.val t0_7.isLt).2.2.2 (ix2 r j) = ∑ t, dgBlk (iblk m c 0 t) (iblk m c 1 t) (ix2 r j) := by
  rw [Pipeline.eq_sum_fin_of_reset_step_apply_last (fun n h => (outsAt0 m c n h).2.2.2) 8 (fun _ => (0 : EReal))
    (fun t => dgBlk (iblk m c 0 t) (iblk m c 1 t))
    (fun t h y => scr_A m c t h y) (fun t h y => scr_B m c t h y) (le_of_eq rfl) t0_7 rfl, zero_add]

/-- A point's eight rows added: the sum over its rows. -/
theorem dgBlk_sum (x0 : Vec Ideal S512x2048 .f32) (x1 : Vec Ideal S512x2048 .f32) (j : Fin 2048) :
    ∑ r : Fin 8, dgBlk x0 x1 (ix2 r j) = ∑ r : Fin 512, dgTerm x0 x1 j r :=
  fold64 (dgTerm x0 x1 j)

/-- Its eight rows added are the gain's gradient. -/
theorem scr_sum (j : Fin 2048) :
    ∑ r : Fin 8, (outsAt0 m c t0_7.val t0_7.isLt).2.2.2 (ix2 r j) = dgArr m c (ix2 0 j) := by
  refine (Finset.sum_congr rfl fun r _ => scr_last m c r j).trans (Finset.sum_comm.trans ((Finset.sum_congr rfl fun t _ => dgBlk_sum _ _ j).trans ?_))
  unfold dgArr
  simp only [ix2_1]
  refine rows_sum _ _ fun t r hl => ?_
  have hx : (iblk m c 1 t : S512x2048.Idx → EReal) (ix2 r j) = x m c (ix2 ⟨t.val * 512 + r.val, hl⟩ j) := congrFun (in1 m c t r hl) j
  unfold dgTerm
  simp only [in0 m c t r hl, hx, in1 m c t r hl]

/-- The gain's gradient after the run. -/
theorem arr6 : (dats m 0 c).arrAt 6 cfg0.N = dgArr m c := by
  refine (dats m 0 c).arrAt_eq_of_after_last 6 t0_7 (by decide +kernel) _ fun j => ?_
  blk_simp
  rw [after0_6]
  idx_vars j
  obtain rfl : j0 = 0 := Subsingleton.elim _ _
  exact (outs6 m c t0_7 rfl j1).trans (scr_sum m c j1)

end

section

open Cert.FfnGRefIdeal.Read

variable (h x a : FVec Ideal Cert.FfnGRefIdeal.S4096x2048 .f32) (g : FVec Ideal Cert.FfnGRefIdeal.S1x2048 .f32) (j : Fin 2048)

/-- The reference's input gradient at an element. -/
theorem ref37 (i : Fin 4096) : val_main_v37 (F := Ideal) h x g a (ix2 i j) = back (row a i) (row x i) (fun j => h (ix2 i j) * g (ix2 0 j)) j := by
  refine Eq.trans ?_ (grad (row x i) (fun j => h (ix2 i j) * g (ix2 0 j)) j (row a i j)).symm
  unfold spread Norm.inv ms
  pointwise [val_main_v37, val_main_v36, val_main_v35, val_main_v34, val_main_v33, val_main_v32, val_main_v31, val_main_v30, val_main_v29, val_main_v28, val_main_v27, val_main_v26, val_main_v25, val_main_v24, val_main_v23, val_main_v21, val_main_v20, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]

/-- Its rounding. -/
theorem ref39 (i : Fin 4096) : val_main_v39 (F := Ideal) h x g a (ix2 i j) = back (row a i) (row x i) (fun j => h (ix2 i j) * g (ix2 0 j)) j := by
  refine Eq.trans ?_ (ref37 h x a g j i)
  pointwise [val_main_v39]

/-- Its gain's gradient at an element. -/
theorem ref38 : val_main_v38 (F := Ideal) h x (ix2 0 j) = ∑ r : Fin 4096, h (ix2 r j) * (x (ix2 r j) * Norm.inv (row x r)) := by
  unfold Norm.inv ms
  pointwise [val_main_v38, val_main_v22, val_main_v19, val_main_v18, val_main_v17, val_main_v13, val_main_v12, val_main_v8, val_main_v7, val_main_v6, val_main_v5, val_main_v4, val_main_v3, val_main_v2, val_main_v1, val_main_cst, val_main_cst_0, val_main_cst_1, val_main_cst_3, val_main_cst_4]
  rw [Fin.sum_univ_one]
  exact Finset.sum_congr rfl fun r _ => mul_comm _ _

end

/-- What the kernel's idealization ends with is the reference's gradients. -/
theorem algebraic : Cert.algebraic_FfnGIdeal_FfnGRefIdeal := by
  intro m g m' g' _ hagree
  refine ⟨fun c => (Cert.FfnGIdeal.Gen.dats m 0 c).arrAt 4 Cert.FfnGIdeal.cfg0.N, fun c => (Cert.FfnGIdeal.Gen.dats m 0 c).arrAt 5 Cert.FfnGIdeal.cfg0.N, fun c => (Cert.FfnGIdeal.Gen.dats m 0 c).arrAt 6 Cert.FfnGIdeal.cfg0.N, Cert.FfnGIdeal.Value.run_blocks m g, ?_⟩
  refine (θ_run Cert.FfnGRefIdeal.defs _ _).mono (fun r h c => ?_) (Cert.FfnGRefIdeal.Value.run (F := Ideal) m' g')
  obtain ⟨h0, h1, h2, h3⟩ := hagree c
  refine ⟨(h c).1.trans ?_, (h c).2.1.trans ?_, (h c).2.2.1.trans ?_, (h c).2.2.2⟩
  · rw [Cert.FfnGRefIdeal.Read.val_main_v37_eq, h0, h1, h2, h3]
    refine Eq.trans ?_ (arr4 m c).symm
    funext j
    idx_vars j
    exact ref37 _ _ _ _ _ _
  · rw [Cert.FfnGRefIdeal.Read.val_main_v39_eq, h0, h1, h2, h3]
    refine Eq.trans ?_ (arr5 m c).symm
    funext j
    idx_vars j
    exact ref39 _ _ _ _ _ _
  · rw [Cert.FfnGRefIdeal.Read.val_main_v38_eq, h0, h1]
    refine Eq.trans ?_ (arr6 m c).symm
    funext j
    idx_vars j
    obtain rfl : j0 = 0 := Subsingleton.elim _ _
    exact ref38 _ _ _

end Cert.FfnNormBackward

end
-- ==== Proof.QueryInput.lean ====
/-
  The query projection's input gradient: the norm's backward pass of a product, added to the residual stream's.
-/
module

public import proofs.«01_k».proof.Proof.Gen.QIn.Frame
public import proofs.«01_k».proof.Proof.Gen.QInIdeal.Value
public import proofs.«01_k».proof.Proof.Gen.QInRefIdeal.Read
public import proofs.«01_k».proof.Proof.Gen.QInRefIdeal.Run
public import proofs.«01_k».proof.Defs
public import proofs.«01_k».proof.Proof.Rows
public import proofs.«01_k».proof.Proof.NormGradient
public import Idealize.ShloMosaic.Lib.Pipeline.ReadBack

@[expose] public section

set_option maxRecDepth 16384

noncomputable section

namespace Cert.QueryInput

open Idealize.ShloMosaic Idealize.SL.Sem Cert.Rows Cert.Norm

/-- The kernel terminates without a fault and keeps its arguments. -/
theorem frame_p : Cert.quiescent_QIn := fun m ρ _ => Cert.QIn.Gen.frame m ρ

/-- So does its idealization. -/
theorem frame_pi : Cert.quiescent_QInIdeal := fun m ρ _ => Cert.QInIdeal.Gen.frame m ρ

/-- The reference terminates and keeps its arguments; it has no semaphore. -/
theorem frame_ri : Cert.quiescent_QInRefIdeal := fun m ρ _ =>
  (θ_run Cert.QInRefIdeal.defs _ _).mono (fun r h => ⟨fun c => (h c).2.2.2,
      Idealize.ShloMosaic.sem_eq_zero_of_no_sems (by decide) r.2⟩)
    (Cert.QInRefIdeal.Value.run (F := Ideal) m ρ)

section

open Cert.QInIdeal Cert.QInIdeal.Gen

/-- A row's product with the weight's rows. -/
def prod (h : Fin 2048 → EReal) (w : S2048x2048.Idx → EReal) : Fin 2048 → EReal := fun j => ∑ k, h k * w (ix2 j k)

section

variable (x0 : Vec Ideal S512x2048 .bf16) (x1 : Vec Ideal S2048x2048 .bf16) (x2 : Vec Ideal S512x2048 .f32) (x3 : Vec Ideal S512x2048 .f32) (x4 : Vec Ideal S1x2048 .f32)

/-- The input gradient's block. -/
def dxBlk : S512x2048.Idx → EReal := fun y => back (row x3 (y 0)) (row x2 (y 0)) (fun j => prod (row x0 (y 0)) x1 j * x4 (ix2 0 j)) (y 1)

/-- A row's part of the gain's gradient. -/
def dgTerm (j : Fin 2048) (i : Fin 512) : EReal := prod (row x0 i) x1 j * (x2 (ix2 i j) * Norm.inv (row x2 i))

/-- The first band's rows. -/
theorem band0 (r : Fin 128) (d : Fin 2048) :
    k0_pay11 x0 x1 x4 (View.ld x2 (Rect.unit ![0, 0] ![128, 2048] inb_S512x2048_S128x2048_0_0)) (View.ld x3 (Rect.unit ![0, 0] ![128, 2048] inb_S512x2048_S128x2048_0_0)) (ix2 r d)
      = dxBlk x0 x1 x2 x3 x4 (ix2 ⟨0 + r.val, by omega⟩ d) := by
  unfold dxBlk back prod Norm.inv ms
  pointwise [k0_pay11, k0_pay10, k0_pay9, k0_pay8, k0_pay7]

/-- The same rows, rounded. -/
theorem round0 (r : Fin 128) (d : Fin 2048) :
    k0_pay13 x0 x1 x4 (View.ld x2 (Rect.unit ![0, 0] ![128, 2048] inb_S512x2048_S128x2048_0_0)) (View.ld x3 (Rect.unit ![0, 0] ![128, 2048] inb_S512x2048_S128x2048_0_0)) (ix2 r d)
      = dxBlk x0 x1 x2 x3 x4 (ix2 ⟨0 + r.val, by omega⟩ d) := by
  refine Eq.trans ?_ (band0 x0 x1 x2 x3 x4 r d)
  pointwise [k0_pay13]

/-- The second band's rows. -/
theorem band1 (r : Fin 128) (d : Fin 2048) :
    k0_pay17 (k0_pay7 x0 x1) x4 (View.ld x2 (Rect.unit ![128, 0] ![128, 2048] inb_S512x2048_S128x2048_128_0)) (View.ld x3 (Rect.unit ![128, 0] ![128, 2048] inb_S512x2048_S128x2048_128_0)) (ix2 r d)
      = dxBlk x0 x1 x2 x3 x4 (ix2 ⟨128 + r.val, by omega⟩ d) := by
  unfold dxBlk back prod Norm.inv ms
  pointwise [k0_pay17, k0_pay16, k0_pay15, k0_pay14, k0_pay7]

/-- The same rows, rounded. -/
theorem round1 (r : Fin 128) (d : Fin 2048) :
    k0_pay18 (k0_pay7 x0 x1) x4 (View.ld x2 (Rect.unit ![128, 0] ![128, 2048] inb_S512x2048_S128x2048_128_0)) (View.ld x3 (Rect.unit ![128, 0] ![128, 2048] inb_S512x2048_S128x2048_128_0)) (ix2 r d)
      = dxBlk x0 x1 x2 x3 x4 (ix2 ⟨128 + r.val, by omega⟩ d) := by
  refine Eq.trans ?_ (band1 x0 x1 x2 x3 x4 r d)
  pointwise [k0_pay18]

/-- The third band's rows. -/
theorem band2 (r : Fin 128) (d : Fin 2048) :
    k0_pay24 x4 (k0_pay20 (k0_pay7 x0 x1)) (View.ld x2 (Rect.unit ![256, 0] ![128, 2048] inb_S512x2048_S128x2048_256_0)) (View.ld x3 (Rect.unit ![256, 0] ![128, 2048] inb_S512x2048_S128x2048_256_0)) (k0_pay21 (View.ld x2 (Rect.unit ![256, 0] ![128, 2048] inb_S512x2048_S128x2048_256_0))) (ix2 r d)
      = dxBlk x0 x1 x2 x3 x4 (ix2 ⟨256 + r.val, by omega⟩ d) := by
  unfold dxBlk back prod Norm.inv ms
  pointwise [k0_pay24, k0_pay23, k0_pay22, k0_pay21, k0_pay20, k0_pay7]

/-- The same rows, rounded. -/
theorem round2 (r : Fin 128) (d : Fin 2048) :
    k0_pay25 x4 (k0_pay20 (k0_pay7 x0 x1)) (View.ld x2 (Rect.unit ![256, 0] ![128, 2048] inb_S512x2048_S128x2048_256_0)) (View.ld x3 (Rect.unit ![256, 0] ![128, 2048] inb_S512x2048_S128x2048_256_0)) (k0_pay21 (View.ld x2 (Rect.unit ![256, 0] ![128, 2048] inb_S512x2048_S128x2048_256_0))) (ix2 r d)
      = dxBlk x0 x1 x2 x3 x4 (ix2 ⟨256 + r.val, by omega⟩ d) := by
  refine Eq.trans ?_ (band2 x0 x1 x2 x3 x4 r d)
  pointwise [k0_pay25]

/-- The last band's rows. -/
theorem band3 (r : Fin 128) (d : Fin 2048) :
    k0_pay1 x4 (k0_pay27 (k0_pay7 x0 x1)) (View.ld x3 (Rect.unit ![384, 0] ![128, 2048] inb_S512x2048_S128x2048_384_0)) (k0_pay28 (View.ld x2 (Rect.unit ![384, 0] ![128, 2048] inb_S512x2048_S128x2048_384_0))) (k0_pay29 (View.ld x2 (Rect.unit ![384, 0] ![128, 2048] inb_S512x2048_S128x2048_384_0))) (ix2 r d)
      = dxBlk x0 x1 x2 x3 x4 (ix2 ⟨384 + r.val, by omega⟩ d) := by
  unfold dxBlk back prod Norm.inv ms
  pointwise [k0_pay1, k0_pay28, k0_pay29, k0_pay27, k0_pay7]

/-- The same rows, rounded. -/
theorem round3 (r : Fin 128) (d : Fin 2048) :
    k0_pay2 x4 (k0_pay27 (k0_pay7 x0 x1)) (View.ld x3 (Rect.unit ![384, 0] ![128, 2048] inb_S512x2048_S128x2048_384_0)) (k0_pay28 (View.ld x2 (Rect.unit ![384, 0] ![128, 2048] inb_S512x2048_S128x2048_384_0))) (k0_pay29 (View.ld x2 (Rect.unit ![384, 0] ![128, 2048] inb_S512x2048_S128x2048_384_0))) (ix2 r d)
      = dxBlk x0 x1 x2 x3 x4 (ix2 ⟨384 + r.val, by omega⟩ d) := by
  refine Eq.trans ?_ (band3 x0 x1 x2 x3 x4 r d)
  pointwise [k0_pay2]

/-- The gain's gradient's part, eight rows apart. -/
theorem pay12_apply (r : Fin 8) (j : Fin 2048) :
    k0_pay12 x0 x1 (View.ld x2 (Rect.unit ![0, 0] ![128, 2048] inb_S512x2048_S128x2048_0_0)) (ix2 r j) = ∑ q : Fin 16, dgTerm x0 x1 x2 j ⟨q.val * 8 + r.val, by omega⟩ := by
  unfold dgTerm prod Norm.inv ms
  pointwise [k0_pay12, k0_pay10, k0_pay9, k0_pay8, k0_pay7]

theorem pay19_apply (r : Fin 8) (j : Fin 2048) (z : FVec Ideal S8x2048 .f32) :
    k0_pay19 (k0_pay7 x0 x1) z (View.ld x2 (Rect.unit ![128, 0] ![128, 2048] inb_S512x2048_S128x2048_128_0)) (ix2 r j)
      = z (ix2 r j) + ∑ q : Fin 16, dgTerm x0 x1 x2 j ⟨128 + (q.val * 8 + r.val), by omega⟩ := by
  unfold dgTerm prod Norm.inv ms
  pointwise [k0_pay19, k0_pay16, k0_pay15, k0_pay14, k0_pay7]

theorem pay26_apply (r : Fin 8) (j : Fin 2048) (z : FVec Ideal S8x2048 .f32) :
    k0_pay26 z (k0_pay20 (k0_pay7 x0 x1)) (View.ld x2 (Rect.unit ![256, 0] ![128, 2048] inb_S512x2048_S128x2048_256_0)) (k0_pay21 (View.ld x2 (Rect.unit ![256, 0] ![128, 2048] inb_S512x2048_S128x2048_256_0))) (ix2 r j)
      = z (ix2 r j) + ∑ q : Fin 16, dgTerm x0 x1 x2 j ⟨256 + (q.val * 8 + r.val), by omega⟩ := by
  unfold dgTerm prod Norm.inv ms
  pointwise [k0_pay26, k0_pay23, k0_pay22, k0_pay21, k0_pay20, k0_pay7]

theorem pay3_apply (r : Fin 8) (j : Fin 2048) (z : FVec Ideal S8x2048 .f32) :
    k0_pay3 z (k0_pay27 (k0_pay7 x0 x1)) (k0_pay29 (View.ld x2 (Rect.unit ![384, 0] ![128, 2048] inb_S512x2048_S128x2048_384_0))) (ix2 r j)
      = z (ix2 r j) + ∑ q : Fin 16, dgTerm x0 x1 x2 j ⟨384 + (q.val * 8 + r.val), by omega⟩ := by
  unfold dgTerm prod Norm.inv ms
  pointwise [k0_pay3, k0_pay29, k0_pay28, k0_pay27, k0_pay7]

/-- The sum alone, at the first point, and after what the scratch held, at a later one. -/
theorem pay4_eq (v102 : FVec Ideal S8x2048 .f32) (v103 v115 : FVec Ideal S128x2048 .f32) : k0_pay4 v102 v103 v115 = k0_pay3 v102 v103 v115 := by
  funext y; idx_vars y; pointwise [k0_pay4]

theorem pay5_eq (v102 : FVec Ideal S8x2048 .f32) (v103 v115 : FVec Ideal S128x2048 .f32) (z : Vec Ideal S8x2048 .f32) (y : S8x2048.Idx) :
    k0_pay5 v102 v103 v115 z y = z y + k0_pay3 v102 v103 v115 y := by
  idx_vars y; pointwise [k0_pay5]

theorem pay6_apply (z : Vec Ideal S8x2048 .f32) (j : Fin 2048) : k0_pay6 z (ix2 0 j) = ∑ r : Fin 8, z (ix2 r j) := by
  pointwise [k0_pay6]

/-- A point's part of the gain's gradient. -/
def dgSum (r : Fin 8) (j : Fin 2048) : EReal :=
  ∑ q : Fin 16, dgTerm x0 x1 x2 j ⟨q.val * 8 + r.val, by omega⟩ + ∑ q : Fin 16, dgTerm x0 x1 x2 j ⟨128 + (q.val * 8 + r.val), by omega⟩
    + ∑ q : Fin 16, dgTerm x0 x1 x2 j ⟨256 + (q.val * 8 + r.val), by omega⟩ + ∑ q : Fin 16, dgTerm x0 x1 x2 j ⟨384 + (q.val * 8 + r.val), by omega⟩
def dgBlk : S8x2048.Idx → EReal := fun y => dgSum x0 x1 x2 (y 0) (y 1)

theorem pay3_eq (y : S8x2048.Idx) :
    k0_pay3 (k0_pay26 (k0_pay19 (k0_pay7 x0 x1) (k0_pay12 x0 x1 (View.ld x2 (Rect.unit ![0, 0] ![128, 2048] inb_S512x2048_S128x2048_0_0))) (View.ld x2 (Rect.unit ![128, 0] ![128, 2048] inb_S512x2048_S128x2048_128_0))) (k0_pay20 (k0_pay7 x0 x1)) (View.ld x2 (Rect.unit ![256, 0] ![128, 2048] inb_S512x2048_S128x2048_256_0)) (k0_pay21 (View.ld x2 (Rect.unit ![256, 0] ![128, 2048] inb_S512x2048_S128x2048_256_0)))) (k0_pay27 (k0_pay7 x0 x1)) (k0_pay29 (View.ld x2 (Rect.unit ![384, 0] ![128, 2048] inb_S512x2048_S128x2048_384_0))) y
      = dgBlk x0 x1 x2 y := by
  idx_vars y
  rw [pay3_apply, pay26_apply, pay19_apply, pay12_apply]
  rfl

end

variable (m : (ℓ : Loc nD τ sig) → Buf (Elt Ideal) ℓ) (c : Dev nD)

/-- The arguments: the cotangent, the weight, the rows, the residual stream's cotangent and the gain. -/
abbrev h : S4096x2048.Idx → EReal := m ((c.tc : Thread nD τ).loc main_arg0)
abbrev w : S2048x2048.Idx → EReal := m ((c.tc : Thread nD τ).loc main_arg1)
abbrev x : S4096x2048.Idx → EReal := m ((c.tc : Thread nD τ).loc main_arg2)
abbrev a : S4096x2048.Idx → EReal := m ((c.tc : Thread nD τ).loc main_arg3)
abbrev g : S1x2048.Idx → EReal := m ((c.tc : Thread nD τ).loc main_arg4)

/-- Which block each window holds at a point. -/
theorem idx (t : Fin cfg0.N) : win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] := by
  revert t; decide +kernel

section
variable (t : Fin cfg0.N) (r : Fin 512) (hl : t.val * 512 + r.val < 4096)

theorem in0 : row (iblk m c 0 t : S512x2048.Idx → EReal) r = row (h m c) ⟨t.val * 512 + r.val, hl⟩ := by
  funext k
  change iblk m c 0 t (ix2 r k : S512x2048.Idx) = h m c (ix2 _ k)
  blk_ext [iblk, V, idx t]

theorem in1 (k : Fin 2048) (j : Fin 2048) : (iblk m c 1 t : S2048x2048.Idx → EReal) (ix2 j k) = w m c (ix2 j k) := by
  blk_point [iblk, V, idx t]

theorem in2 : row (iblk m c 2 t : S512x2048.Idx → EReal) r = row (x m c) ⟨t.val * 512 + r.val, hl⟩ := by
  funext k
  change iblk m c 2 t (ix2 r k : S512x2048.Idx) = x m c (ix2 _ k)
  blk_ext [iblk, V, idx t]

theorem in3 : row (iblk m c 3 t : S512x2048.Idx → EReal) r = row (a m c) ⟨t.val * 512 + r.val, hl⟩ := by
  funext k
  change iblk m c 3 t (ix2 r k : S512x2048.Idx) = a m c (ix2 _ k)
  blk_ext [iblk, V, idx t]

theorem in4 (j : Fin 2048) : (iblk m c 4 t : S1x2048.Idx → EReal) (ix2 0 j) = g m c (ix2 0 j) := by
  blk_ext [iblk, V, idx t]

end

/-- The four stores of the input gradient's block. -/
theorem dx_canon (x0 : Vec Ideal S512x2048 .bf16) (x1 : Vec Ideal S2048x2048 .bf16) (x2 : Vec Ideal S512x2048 .f32) (x3 : Vec Ideal S512x2048 .f32) (x4 : Vec Ideal S1x2048 .f32) (y : S512x2048.Idx) :
    View.canon (Val := Elt Ideal) (e := .f32)
      [
        ⟨Rect.unit ![384, 0] ![128, 2048] inb_S512x2048_S128x2048_384_0,
          k0_pay1 x4 (k0_pay27 (k0_pay7 x0 x1)) (View.ld x3 (Rect.unit ![384, 0] ![128, 2048] inb_S512x2048_S128x2048_384_0)) (k0_pay28 (View.ld x2 (Rect.unit ![384, 0] ![128, 2048] inb_S512x2048_S128x2048_384_0))) (k0_pay29 (View.ld x2 (Rect.unit ![384, 0] ![128, 2048] inb_S512x2048_S128x2048_384_0)))⟩,
        ⟨Rect.unit ![256, 0] ![128, 2048] inb_S512x2048_S128x2048_256_0,
          k0_pay24 x4 (k0_pay20 (k0_pay7 x0 x1)) (View.ld x2 (Rect.unit ![256, 0] ![128, 2048] inb_S512x2048_S128x2048_256_0)) (View.ld x3 (Rect.unit ![256, 0] ![128, 2048] inb_S512x2048_S128x2048_256_0)) (k0_pay21 (View.ld x2 (Rect.unit ![256, 0] ![128, 2048] inb_S512x2048_S128x2048_256_0)))⟩,
        ⟨Rect.unit ![128, 0] ![128, 2048] inb_S512x2048_S128x2048_128_0,
          k0_pay17 (k0_pay7 x0 x1) x4 (View.ld x2 (Rect.unit ![128, 0] ![128, 2048] inb_S512x2048_S128x2048_128_0)) (View.ld x3 (Rect.unit ![128, 0] ![128, 2048] inb_S512x2048_S128x2048_128_0))⟩,
        ⟨Rect.unit ![0, 0] ![128, 2048] inb_S512x2048_S128x2048_0_0,
          k0_pay11 x0 x1 x4 (View.ld x2 (Rect.unit ![0, 0] ![128, 2048] inb_S512x2048_S128x2048_0_0)) (View.ld x3 (Rect.unit ![0, 0] ![128, 2048] inb_S512x2048_S128x2048_0_0))⟩] y = dxBlk x0 x1 x2 x3 x4 y := by
  refine View.canon_append_of_piecesOf (Val := Elt Ideal) (e := .f32) (dxBlk x0 x1 x2 x3 x4) [] [_, _, _, _] ⟨?_, ?_, ?_, ?_, trivial⟩ y ?_
  · exact store_rows (L := 512) (n := 128) (w := 2048) 384 inb_S512x2048_S128x2048_384_0 (dxBlk x0 x1 x2 x3 x4) _ (band3 x0 x1 x2 x3 x4)
  · exact store_rows (L := 512) (n := 128) (w := 2048) 256 inb_S512x2048_S128x2048_256_0 (dxBlk x0 x1 x2 x3 x4) _ (band2 x0 x1 x2 x3 x4)
  · exact store_rows (L := 512) (n := 128) (w := 2048) 128 inb_S512x2048_S128x2048_128_0 (dxBlk x0 x1 x2 x3 x4) _ (band1 x0 x1 x2 x3 x4)
  · exact store_rows (L := 512) (n := 128) (w := 2048) 0 inb_S512x2048_S128x2048_0_0 (dxBlk x0 x1 x2 x3 x4) _ (band0 x0 x1 x2 x3 x4)
  · exact View.cover_of_tiledL _ ![128, 2048] (by rfl) y

/-- The four stores of its rounding. -/
theorem dxr_canon (x0 : Vec Ideal S512x2048 .bf16) (x1 : Vec Ideal S2048x2048 .bf16) (x2 : Vec Ideal S512x2048 .f32) (x3 : Vec Ideal S512x2048 .f32) (x4 : Vec Ideal S1x2048 .f32) (y : S512x2048.Idx) :
    View.canon (Val := Elt Ideal) (e := .bf16)
      [
        ⟨Rect.unit ![384, 0] ![128, 2048] inb_S512x2048_S128x2048_384_0,
          k0_pay2 x4 (k0_pay27 (k0_pay7 x0 x1)) (View.ld x3 (Rect.unit ![384, 0] ![128, 2048] inb_S512x2048_S128x2048_384_0)) (k0_pay28 (View.ld x2 (Rect.unit ![384, 0] ![128, 2048] inb_S512x2048_S128x2048_384_0))) (k0_pay29 (View.ld x2 (Rect.unit ![384, 0] ![128, 2048] inb_S512x2048_S128x2048_384_0)))⟩,
        ⟨Rect.unit ![256, 0] ![128, 2048] inb_S512x2048_S128x2048_256_0,
          k0_pay25 x4 (k0_pay20 (k0_pay7 x0 x1)) (View.ld x2 (Rect.unit ![256, 0] ![128, 2048] inb_S512x2048_S128x2048_256_0)) (View.ld x3 (Rect.unit ![256, 0] ![128, 2048] inb_S512x2048_S128x2048_256_0)) (k0_pay21 (View.ld x2 (Rect.unit ![256, 0] ![128, 2048] inb_S512x2048_S128x2048_256_0)))⟩,
        ⟨Rect.unit ![128, 0] ![128, 2048] inb_S512x2048_S128x2048_128_0,
          k0_pay18 (k0_pay7 x0 x1) x4 (View.ld x2 (Rect.unit ![128, 0] ![128, 2048] inb_S512x2048_S128x2048_128_0)) (View.ld x3 (Rect.unit ![128, 0] ![128, 2048] inb_S512x2048_S128x2048_128_0))⟩,
        ⟨Rect.unit ![0, 0] ![128, 2048] inb_S512x2048_S128x2048_0_0,
          k0_pay13 x0 x1 x4 (View.ld x2 (Rect.unit ![0, 0] ![128, 2048] inb_S512x2048_S128x2048_0_0)) (View.ld x3 (Rect.unit ![0, 0] ![128, 2048] inb_S512x2048_S128x2048_0_0))⟩] y = dxBlk x0 x1 x2 x3 x4 y := by
  refine View.canon_append_of_piecesOf (Val := Elt Ideal) (e := .bf16) (dxBlk x0 x1 x2 x3 x4) [] [_, _, _, _] ⟨?_, ?_, ?_, ?_, trivial⟩ y ?_
  · exact store_rows (L := 512) (n := 128) (w := 2048) 384 inb_S512x2048_S128x2048_384_0 (dxBlk x0 x1 x2 x3 x4) _ (round3 x0 x1 x2 x3 x4)
  · exact store_rows (L := 512) (n := 128) (w := 2048) 256 inb_S512x2048_S128x2048_256_0 (dxBlk x0 x1 x2 x3 x4) _ (round2 x0 x1 x2 x3 x4)
  · exact store_rows (L := 512) (n := 128) (w := 2048) 128 inb_S512x2048_S128x2048_128_0 (dxBlk x0 x1 x2 x3 x4) _ (round1 x0 x1 x2 x3 x4)
  · exact store_rows (L := 512) (n := 128) (w := 2048) 0 inb_S512x2048_S128x2048_0_0 (dxBlk x0 x1 x2 x3 x4) _ (round0 x0 x1 x2 x3 x4)
  · exact View.cover_of_tiledL _ ![128, 2048] (by rfl) y

/-- The input gradient's block at any point. -/
theorem outs5 (t : Fin cfg0.N) (y : S512x2048.Idx) :
    (outsAt0 m c t.val t.isLt).1 y = dxBlk (iblk m c 0 t) (iblk m c 1 t) (iblk m c 2 t) (iblk m c 3 t) (iblk m c 4 t) y := by
  have ht : t.val < 8 := t.isLt
  by_cases h0 : t.val % 8 = 0
  · rw [outsAt0_A m c t h0 (by omega) (by omega)]
    frame_open
    simp (disch := decide) only [↓ View.readCov_skip, ↓ View.readCov_cons_toLoadRect, ↓ View.readCov_fill]
    frame_out
    exact dx_canon _ _ _ _ _ _
  by_cases h2 : t.val % 8 = 7
  · rw [outsAt0_C m c t h0 (by omega) h2]
    frame_open
    simp (disch := decide) only [↓ View.readCov_skip, ↓ View.readCov_cons_toLoadRect, ↓ View.readCov_fill]
    frame_out
    exact dx_canon _ _ _ _ _ _
  · rw [outsAt0_B m c t h0 (by omega) h2]
    frame_open
    simp (disch := decide) only [↓ View.readCov_skip, ↓ View.readCov_cons_toLoadRect, ↓ View.readCov_fill]
    frame_out
    exact dx_canon _ _ _ _ _ _

/-- Its rounding at any point. -/
theorem outs6 (t : Fin cfg0.N) (y : S512x2048.Idx) :
    (outsAt0 m c t.val t.isLt).2.1 y = dxBlk (iblk m c 0 t) (iblk m c 1 t) (iblk m c 2 t) (iblk m c 3 t) (iblk m c 4 t) y := by
  have ht : t.val < 8 := t.isLt
  by_cases h0 : t.val % 8 = 0
  · rw [outsAt0_A m c t h0 (by omega) (by omega)]
    frame_open
    simp (disch := decide) only [↓ View.readCov_skip, ↓ View.readCov_cons_toLoadRect, ↓ View.readCov_fill]
    frame_out
    exact dxr_canon _ _ _ _ _ _
  by_cases h2 : t.val % 8 = 7
  · rw [outsAt0_C m c t h0 (by omega) h2]
    frame_open
    simp (disch := decide) only [↓ View.readCov_skip, ↓ View.readCov_cons_toLoadRect, ↓ View.readCov_fill]
    frame_out
    exact dxr_canon _ _ _ _ _ _
  · rw [outsAt0_B m c t h0 (by omega) h2]
    frame_open
    simp (disch := decide) only [↓ View.readCov_skip, ↓ View.readCov_cons_toLoadRect, ↓ View.readCov_fill]
    frame_out
    exact dxr_canon _ _ _ _ _ _

/-- What the scratch holds after the first point, and after a later one. -/
theorem scr_A (t : Fin cfg0.N) (h0 : t.val % 8 = 0) (y : S8x2048.Idx) :
    (outsAt0 m c t.val t.isLt).2.2.2 y = 0 + dgBlk (iblk m c 0 t) (iblk m c 1 t) (iblk m c 2 t) y := by
  have ht : t.val < 8 := t.isLt
  rw [outsAt0_A m c t h0 (by omega) (by omega)]
  frame_open
  simp (disch := decide) only [↓ View.readCov_skip, ↓ View.readCov_cons_toLoadRect, ↓ View.readCov_fill]
  frame_out
  rw [zero_add, pay4_eq]
  exact pay3_eq _ _ _ _

theorem scr_B (t : Fin cfg0.N) (h0 : ¬t.val % 8 = 0) (y : S8x2048.Idx) :
    (outsAt0 m c t.val t.isLt).2.2.2 y = (outsAt0 m c (t.val - 1) (Nat.lt_of_le_of_lt (Nat.sub_le _ _) t.isLt)).2.2.2 y + dgBlk (iblk m c 0 t) (iblk m c 1 t) (iblk m c 2 t) y := by
  have ht : t.val < 8 := t.isLt
  by_cases h2 : t.val % 8 = 7
  · rw [outsAt0_C m c t h0 (by omega) h2]
    frame_open
    simp (disch := decide) only [↓ View.readCov_skip, ↓ View.readCov_cons_toLoadRect, ↓ View.readCov_fill]
    frame_out
    rw [pay5_eq, pay3_eq]
    simp only [read_unread_whole]
  · rw [outsAt0_B m c t h0 (by omega) h2]
    frame_open
    simp (disch := decide) only [↓ View.readCov_skip, ↓ View.readCov_cons_toLoadRect, ↓ View.readCov_fill]
    frame_out
    rw [pay5_eq, pay3_eq]
    simp only [read_unread_whole]

/-- The gain's gradient at the last point: the scratch's eight rows added. -/
theorem outs7 (t : Fin cfg0.N) (h2 : t.val % 8 = 7) (j : Fin 2048) :
    (outsAt0 m c t.val t.isLt).2.2.1 (ix2 0 j) = ∑ r : Fin 8, (outsAt0 m c t.val t.isLt).2.2.2 (ix2 r j) := by
  have ht : t.val < 8 := t.isLt
  rw [outsAt0_C m c t (by omega) (by omega) h2]
  frame_open
  simp (disch := decide) only [↓ View.readCov_skip, ↓ View.readCov_cons_toLoadRect, ↓ View.readCov_fill]
  frame_out
  exact pay6_apply _ _

/-- The normed rows' cotangent, row by row. -/
def cot (h : S4096x2048.Idx → EReal) (w : S2048x2048.Idx → EReal) (i : Fin 4096) : Fin 2048 → EReal := fun j => ∑ k : Fin 2048, h (ix2 i k) * w (ix2 j k)

/-- The array of the input gradient, and of the gain's. -/
def dxArr : S4096x2048.Idx → EReal := fun i =>
  back (row (a m c) (i 0)) (row (x m c) (i 0)) (fun j => cot (h m c) (w m c) (i 0) j * g m c (ix2 0 j)) (i 1)
def dgArr : S1x2048.Idx → EReal := fun i =>
  ∑ r : Fin 4096, cot (h m c) (w m c) r (i 1) * (x m c (ix2 r (i 1)) * Norm.inv (row (x m c) r))

theorem dxBlk_eq (t : Fin cfg0.N) (r : Fin 512) (d : Fin 2048) (hl : t.val * 512 + r.val < 4096) :
    dxBlk (iblk m c 0 t) (iblk m c 1 t) (iblk m c 2 t) (iblk m c 3 t) (iblk m c 4 t) (ix2 r d) = dxArr m c (ix2 ⟨t.val * 512 + r.val, hl⟩ d) := by
  have hh : ∀ k, (iblk m c 0 t : S512x2048.Idx → EReal) (ix2 r k) = h m c (ix2 ⟨t.val * 512 + r.val, hl⟩ k) := fun k => congrFun (in0 m c t r hl) k
  unfold dxBlk dxArr prod cot
  simp only [ix2_0, ix2_1, in2 m c t r hl, in3 m c t r hl, in1, in4, hh]

/-- The input gradient after the run. -/
theorem arr5 : (dats m 0 c).arrAt 5 cfg0.N = dxArr m c := by
  refine (dats m 0 c).arrAt_eq_of_covers 5 _ (by decide +kernel) fun t hf y => ?_
  blk_simp
  rw [after0_5, outs5]
  have hy : y = (ix2 (y 0) (y 1) : S512x2048.Idx) := (ix2_eta (n0 := 512) (n1 := 2048) y).symm
  have ht : t.val < 8 := t.isLt
  have hr : (y 0).val < 512 := (y 0).isLt
  have hb : t.val * 512 + (y 0).val < 4096 := by omega
  refine (congrArg _ hy).trans ((dxBlk_eq m c t (y 0) (y 1) hb).trans (congrArg (dxArr m c) ?_))
  blk_ext [idx t]

/-- Its rounding after the run. -/
theorem arr6 : (dats m 0 c).arrAt 6 cfg0.N = dxArr m c := by
  refine (dats m 0 c).arrAt_eq_of_covers 6 _ (by decide +kernel) fun t hf y => ?_
  blk_simp
  rw [after0_6, outs6]
  have hy : y = (ix2 (y 0) (y 1) : S512x2048.Idx) := (ix2_eta (n0 := 512) (n1 := 2048) y).symm
  have ht : t.val < 8 := t.isLt
  have hr : (y 0).val < 512 := (y 0).isLt
  have hb : t.val * 512 + (y 0).val < 4096 := by omega
  refine (congrArg _ hy).trans ((dxBlk_eq m c t (y 0) (y 1) hb).trans (congrArg (dxArr m c) ?_))
  blk_ext [idx t]

/-- A sum over the points' rows is the sum over all rows. -/
theorem rows_sum (F : Fin cfg0.N → Fin 512 → EReal) (f : Fin 4096 → EReal)
    (h : ∀ (t : Fin cfg0.N) (r : Fin 512) (hl : t.val * 512 + r.val < 4096), F t r = f ⟨t.val * 512 + r.val, hl⟩) :
    ∑ t, ∑ r, F t r = ∑ r, f r :=
  Fin.sum_mul_add_congr (S := 8) (n := 512) (L := 4096) (F := F) h

/-- The scratch after the last point: the eight rows of all points. -/
theorem scr_last (r : Fin 8) (j : Fin 2048) :
    (outsAt0 m c t0_7.val t0_7.isLt).2.2.2 (ix2 r j) = ∑ t, dgBlk (iblk m c 0 t) (iblk m c 1 t) (iblk m c 2 t) (ix2 r j) := by
  rw [Pipeline.eq_sum_fin_of_reset_step_apply_last (fun n h => (outsAt0 m c n h).2.2.2) 8 (fun _ => (0 : EReal))
    (fun t => dgBlk (iblk m c 0 t) (iblk m c 1 t) (iblk m c 2 t))
    (fun t h y => scr_A m c t h y) (fun t h y => scr_B m c t h y) (le_of_eq rfl) t0_7 rfl, zero_add]

/-- A point's eight rows added: the sum over its rows. -/
theorem dgBlk_sum (x0 : Vec Ideal S512x2048 .bf16) (x1 : Vec Ideal S2048x2048 .bf16) (x2 : Vec Ideal S512x2048 .f32) (j : Fin 2048) :
    ∑ r : Fin 8, dgBlk x0 x1 x2 (ix2 r j) = ∑ r : Fin 512, dgTerm x0 x1 x2 j r :=
  fold512 (dgTerm x0 x1 x2 j)

/-- Its eight rows added are the gain's gradient. -/
theorem scr_sum (j : Fin 2048) :
    ∑ r : Fin 8, (outsAt0 m c t0_7.val t0_7.isLt).2.2.2 (ix2 r j) = dgArr m c (ix2 0 j) := by
  refine (Finset.sum_congr rfl fun r _ => scr_last m c r j).trans (Finset.sum_comm.trans ((Finset.sum_congr rfl fun t _ => dgBlk_sum _ _ _ j).trans ?_))
  unfold dgArr
  simp only [ix2_1]
  refine rows_sum _ _ fun t r hl => ?_
  have hh : ∀ k, (iblk m c 0 t : S512x2048.Idx → EReal) (ix2 r k) = h m c (ix2 ⟨t.val * 512 + r.val, hl⟩ k) := fun k => congrFun (in0 m c t r hl) k
  have hx : (iblk m c 2 t : S512x2048.Idx → EReal) (ix2 r j) = x m c (ix2 ⟨t.val * 512 + r.val, hl⟩ j) := congrFun (in2 m c t r hl) j
  unfold dgTerm prod cot
  simp only [ix2_1, hh, hx, in2 m c t r hl, in1]

/-- The gain's gradient after the run. -/
theorem arr7 : (dats m 0 c).arrAt 7 cfg0.N = dgArr m c := by
  refine (dats m 0 c).arrAt_eq_of_after_last 7 t0_7 (by decide +kernel) _ fun j => ?_
  blk_simp
  rw [after0_7]
  idx_vars j
  obtain rfl : j0 = 0 := Subsingleton.elim _ _
  exact (outs7 m c t0_7 rfl j1).trans (scr_sum m c j1)

end

section

open Cert.QInRefIdeal.Read

variable (h : FVec Ideal Cert.QInRefIdeal.S4096x2048 .bf16) (w : FVec Ideal Cert.QInRefIdeal.S2048x2048 .f32) (x a : FVec Ideal Cert.QInRefIdeal.S4096x2048 .f32) (g : FVec Ideal Cert.QInRefIdeal.S1x2048 .f32) (j : Fin 2048)

/-- The reference's input gradient at an element. -/
theorem ref41 (i : Fin 4096) : val_main_v41 (F := Ideal) h w x a g (ix2 i j) = back (row a i) (row x i) (fun j => cot h w i j * g (ix2 0 j)) j := by
  refine Eq.trans ?_ (grad (row x i) (fun j => cot h w i j * g (ix2 0 j)) j (row a i j)).symm
  unfold spread Norm.inv ms cot
  pointwise [val_main_v41, val_main_v40, val_main_v39, val_main_v38, val_main_v37, val_main_v36, val_main_v35, val_main_v34, val_main_v33, val_main_v32, val_main_v31, val_main_v30, val_main_v29, val_main_v28, val_main_v27, val_main_v25, val_main_v24, val_main_v18, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_6, val_main_cst_7, val_main_cst_8]
  simp only [Fin.sum_univ_one]

/-- Its rounding. -/
theorem ref43 (i : Fin 4096) : val_main_v43 (F := Ideal) h w x a g (ix2 i j) = back (row a i) (row x i) (fun j => cot h w i j * g (ix2 0 j)) j := by
  refine Eq.trans ?_ (ref41 h w x a g j i)
  pointwise [val_main_v43]

/-- Its gain's gradient at an element. -/
theorem ref42 : val_main_v42 (F := Ideal) h w x (ix2 0 j) = ∑ r : Fin 4096, cot h w r j * (x (ix2 r j) * Norm.inv (row x r)) := by
  unfold Norm.inv ms cot
  pointwise [val_main_v42, val_main_v26, val_main_v23, val_main_v22, val_main_v21, val_main_v17, val_main_v16, val_main_v12, val_main_v11, val_main_v10, val_main_v9, val_main_v8, val_main_v7, val_main_v6, val_main_v5, val_main_v3, val_main_v2, val_main_cst_0, val_main_cst_1, val_main_cst_2, val_main_cst_4, val_main_cst_5]
  rw [Fin.sum_univ_one]
  exact Finset.sum_congr rfl fun r _ => mul_comm _ _

end

/-- What the kernel's idealization ends with is the reference's gradients. -/
theorem algebraic : Cert.algebraic_QInIdeal_QInRefIdeal := by
  intro m g m' g' _ hagree
  refine ⟨fun c => (Cert.QInIdeal.Gen.dats m 0 c).arrAt 5 Cert.QInIdeal.cfg0.N, fun c => (Cert.QInIdeal.Gen.dats m 0 c).arrAt 6 Cert.QInIdeal.cfg0.N, fun c => (Cert.QInIdeal.Gen.dats m 0 c).arrAt 7 Cert.QInIdeal.cfg0.N, Cert.QInIdeal.Value.run_blocks m g, ?_⟩
  refine (θ_run Cert.QInRefIdeal.defs _ _).mono (fun r h c => ?_) (Cert.QInRefIdeal.Value.run (F := Ideal) m' g')
  obtain ⟨h0, h1, h2, h3, h4⟩ := hagree c
  refine ⟨(h c).1.trans ?_, (h c).2.1.trans ?_, (h c).2.2.1.trans ?_, (h c).2.2.2⟩
  · rw [Cert.QInRefIdeal.Read.val_main_v41_eq, h0, h1, h2, h3, h4]
    refine Eq.trans ?_ (arr5 m c).symm
    funext j
    idx_vars j
    exact ref41 _ _ _ _ _ _ _
  · rw [Cert.QInRefIdeal.Read.val_main_v43_eq, h0, h1, h2, h3, h4]
    refine Eq.trans ?_ (arr6 m c).symm
    funext j
    idx_vars j
    exact ref43 _ _ _ _ _ _ _
  · rw [Cert.QInRefIdeal.Read.val_main_v42_eq, h0, h1, h2]
    refine Eq.trans ?_ (arr7 m c).symm
    funext j
    idx_vars j
    obtain rfl : j0 = 0 := Subsingleton.elim _ _
    exact ref42 _ _ _ _

end Cert.QueryInput

end
-- ==== Proof.StreamInput.lean ====
/-
  The mixer's input gradient: the norm's backward pass of a product, added to the residual stream's.
-/
module

public import proofs.«01_k».proof.Proof.Gen.MixIn.Frame
public import proofs.«01_k».proof.Proof.Gen.MixInIdeal.Value
public import proofs.«01_k».proof.Proof.Gen.MixInRefIdeal.Read
public import proofs.«01_k».proof.Proof.Gen.MixInRefIdeal.Run
public import proofs.«01_k».proof.Defs
public import proofs.«01_k».proof.Proof.Rows
public import proofs.«01_k».proof.Proof.NormGradient
public import Idealize.ShloMosaic.Lib.Pipeline.ReadBack

@[expose] public section

set_option maxRecDepth 16384

noncomputable section

namespace Cert.StreamInput

open Idealize.ShloMosaic Idealize.SL.Sem Cert.Rows Cert.Norm

/-- The kernel terminates without a fault and keeps its arguments. -/
theorem frame_p : Cert.quiescent_MixIn := fun m ρ _ => Cert.MixIn.Gen.frame m ρ

/-- So does its idealization. -/
theorem frame_pi : Cert.quiescent_MixInIdeal := fun m ρ _ => Cert.MixInIdeal.Gen.frame m ρ

/-- The reference terminates and keeps its arguments; it has no semaphore. -/
theorem frame_ri : Cert.quiescent_MixInRefIdeal := fun m ρ _ =>
  (θ_run Cert.MixInRefIdeal.defs _ _).mono (fun r h => ⟨fun c => (h c).2.2,
      Idealize.ShloMosaic.sem_eq_zero_of_no_sems (by decide) r.2⟩)
    (Cert.MixInRefIdeal.Value.run (F := Ideal) m ρ)

section

open Cert.MixInIdeal Cert.MixInIdeal.Gen

/-- A row's product with the weight transposed for the call. -/
def prod (h : Fin 3072 → EReal) (w : S3072x2048.Idx → EReal) : Fin 2048 → EReal := fun j => ∑ k, h k * w (ix2 k j)

section

variable (x0 : Vec Ideal S256x3072 .bf16) (x1 : Vec Ideal S3072x2048 .bf16) (x2 : Vec Ideal S256x2048 .f32) (x3 : Vec Ideal S256x2048 .f32) (x4 : Vec Ideal S1x2048 .f32)

/-- The input gradient's block. -/
def dxBlk : S256x2048.Idx → EReal := fun y => back (row x3 (y 0)) (row x2 (y 0)) (fun j => prod (row x0 (y 0)) x1 j * x4 (ix2 0 j)) (y 1)

/-- A row's part of the gain's gradient. -/
def dgTerm (j : Fin 2048) (i : Fin 256) : EReal := prod (row x0 i) x1 j * (x2 (ix2 i j) * Norm.inv (row x2 i))

/-- The first band's rows. -/
theorem pay5_apply (r : Fin 128) (d : Fin 2048) :
    k0_pay5 x0 x1 x4 (View.ld x2 (Rect.unit ![0, 0] ![128, 2048] inb_S256x2048_S128x2048_0_0)) (View.ld x3 (Rect.unit ![0, 0] ![128, 2048] inb_S256x2048_S128x2048_0_0)) (ix2 r d)
      = dxBlk x0 x1 x2 x3 x4 (ix2 ⟨0 + r.val, by omega⟩ d) := by
  unfold dxBlk back prod Norm.inv ms
  pointwise [k0_pay5, k0_pay4, k0_pay3, k0_pay2, k0_pay1]

/-- The second band's rows. -/
theorem pay10_apply (r : Fin 128) (d : Fin 2048) :
    k0_pay10 x4 (k0_pay7 x0 x1) (View.ld x2 (Rect.unit ![128, 0] ![128, 2048] inb_S256x2048_S128x2048_128_0)) (View.ld x3 (Rect.unit ![128, 0] ![128, 2048] inb_S256x2048_S128x2048_128_0)) (ix2 r d)
      = dxBlk x0 x1 x2 x3 x4 (ix2 ⟨128 + r.val, by omega⟩ d) := by
  unfold dxBlk back prod Norm.inv ms
  pointwise [k0_pay10, k0_pay9, k0_pay8, k0_pay7, k0_pay1]

/-- The gain's gradient's part, eight rows apart. -/
theorem pay11_apply (r : Fin 8) (j : Fin 2048) :
    k0_pay11 (k0_pay6 x0 x1 (View.ld x2 (Rect.unit ![0, 0] ![128, 2048] inb_S256x2048_S128x2048_0_0))) (k0_pay7 x0 x1) (View.ld x2 (Rect.unit ![128, 0] ![128, 2048] inb_S256x2048_S128x2048_128_0)) (ix2 r j)
      = ∑ q : Fin 16, dgTerm x0 x1 x2 j ⟨q.val * 8 + r.val, by omega⟩ + ∑ q : Fin 16, dgTerm x0 x1 x2 j ⟨128 + (q.val * 8 + r.val), by omega⟩ := by
  unfold dgTerm prod Norm.inv ms
  pointwise [k0_pay11, k0_pay9, k0_pay8, k0_pay7, k0_pay6, k0_pay4, k0_pay3, k0_pay2, k0_pay1]

/-- The first band's part alone, at the first point, and after what the scratch held, at a later one. -/
theorem pay12_eq (v33 : FVec Ideal S8x2048 .f32) (v35 : FVec Ideal S128x2048 .f32) (v36 : Vec Ideal S128x2048 .f32) : k0_pay12 v33 v35 v36 = k0_pay11 v33 v35 v36 := by
  funext y; idx_vars y; pointwise [k0_pay12]

theorem pay13_eq (v33 : FVec Ideal S8x2048 .f32) (v35 : FVec Ideal S128x2048 .f32) (v36 : Vec Ideal S128x2048 .f32) (z : Vec Ideal S8x2048 .f32) (y : S8x2048.Idx) :
    k0_pay13 v33 v35 v36 z y = z y + k0_pay11 v33 v35 v36 y := by
  idx_vars y; pointwise [k0_pay13]

theorem pay14_apply (z : Vec Ideal S8x2048 .f32) (j : Fin 2048) : k0_pay14 z (ix2 0 j) = ∑ r : Fin 8, z (ix2 r j) := by
  pointwise [k0_pay14]

/-- A point's part of the gain's gradient. -/
def dgBlk : S8x2048.Idx → EReal := fun y =>
  ∑ q : Fin 16, dgTerm x0 x1 x2 (y 1) ⟨q.val * 8 + (y 0).val, by have := (y 0).isLt; change (y 0).val < 8 at this; omega⟩
    + ∑ q : Fin 16, dgTerm x0 x1 x2 (y 1) ⟨128 + (q.val * 8 + (y 0).val), by have := (y 0).isLt; change (y 0).val < 8 at this; omega⟩

theorem pay11_eq (y : S8x2048.Idx) :
    k0_pay11 (k0_pay6 x0 x1 (View.ld x2 (Rect.unit ![0, 0] ![128, 2048] inb_S256x2048_S128x2048_0_0))) (k0_pay7 x0 x1) (View.ld x2 (Rect.unit ![128, 0] ![128, 2048] inb_S256x2048_S128x2048_128_0)) y
      = dgBlk x0 x1 x2 y := by
  idx_vars y; exact pay11_apply _ _ _ _ _

end

variable (m : (ℓ : Loc nD τ sig) → Buf (Elt Ideal) ℓ) (c : Dev nD)

/-- The arguments: the cotangent, the weight, the rows, the residual stream's cotangent and the gain. -/
abbrev h : S4096x3072.Idx → EReal := m ((c.tc : Thread nD τ).loc main_arg0)
abbrev w : S2048x3072.Idx → EReal := m ((c.tc : Thread nD τ).loc main_arg1)
abbrev x : S4096x2048.Idx → EReal := m ((c.tc : Thread nD τ).loc main_arg2)
abbrev a : S4096x2048.Idx → EReal := m ((c.tc : Thread nD τ).loc main_arg3)
abbrev g : S1x2048.Idx → EReal := m ((c.tc : Thread nD τ).loc main_arg4)

/-- Which block each window holds at a point. -/
theorem idx (t : Fin cfg0.N) : win0_0.index t = ![t.val, 0] ∧ win0_1.index t = ![0, 0] ∧ win0_2.index t = ![t.val, 0] ∧ win0_3.index t = ![t.val, 0] ∧ win0_4.index t = ![0, 0] ∧ win0_5.index t = ![t.val, 0] := by
  revert t; decide +kernel

section
variable (t : Fin cfg0.N) (r : Fin 256) (hl : t.val * 256 + r.val < 4096)

theorem in0 : row (iblk m c 0 t : S256x3072.Idx → EReal) r = row (h m c) ⟨t.val * 256 + r.val, hl⟩ := by
  funext k
  change iblk m c 0 t (ix2 r k : S256x3072.Idx) = h m c (ix2 _ k)
  blk_ext [iblk, V, idx t]

theorem in1 (k : Fin 3072) (j : Fin 2048) : (iblk m c 1 t : S3072x2048.Idx → EReal) (ix2 k j) = w m c (ix2 j k) := by
  blk_point [iblk, V, idx t]

theorem in2 : row (iblk m c 2 t : S256x2048.Idx → EReal) r = row (x m c) ⟨t.val * 256 + r.val, hl⟩ := by
  funext k
  change iblk m c 2 t (ix2 r k : S256x2048.Idx) = x m c (ix2 _ k)
  blk_ext [iblk, V, idx t]

theorem in3 : row (iblk m c 3 t : S256x2048.Idx → EReal) r = row (a m c) ⟨t.val * 256 + r.val, hl⟩ := by
  funext k
  change iblk m c 3 t (ix2 r k : S256x2048.Idx) = a m c (ix2 _ k)
  blk_ext [iblk, V, idx t]

theorem in4 (j : Fin 2048) : (iblk m c 4 t : S1x2048.Idx → EReal) (ix2 0 j) = g m c (ix2 0 j) := by
  blk_ext [iblk, V, idx t]

end

/-- The two stores of the input gradient's block. -/
theorem dx_canon (x0 : Vec Ideal S256x3072 .bf16) (x1 : Vec Ideal S3072x2048 .bf16) (x2 : Vec Ideal S256x2048 .f32) (x3 : Vec Ideal S256x2048 .f32) (x4 : Vec Ideal S1x2048 .f32) (y : S256x2048.Idx) :
    View.canon (Val := Elt Ideal) (e := .f32)
      [⟨Rect.unit ![128, 0] ![128, 2048] inb_S256x2048_S128x2048_128_0,
          k0_pay10 x4 (k0_pay7 x0 x1) (View.ld x2 (Rect.unit ![128, 0] ![128, 2048] inb_S256x2048_S128x2048_128_0))
            (View.ld x3 (Rect.unit ![128, 0] ![128, 2048] inb_S256x2048_S128x2048_128_0))⟩,
        ⟨Rect.unit ![0, 0] ![128, 2048] inb_S256x2048_S128x2048_0_0,
          k0_pay5 x0 x1 x4 (View.ld x2 (Rect.unit ![0, 0] ![128, 2048] inb_S256x2048_S128x2048_0_0))
            (View.ld x3 (Rect.unit ![0, 0] ![128, 2048] inb_S256x2048_S128x2048_0_0))⟩] y = dxBlk x0 x1 x2 x3 x4 y := by
  refine View.canon_append_of_piecesOf (Val := Elt Ideal) (e := .f32) (dxBlk x0 x1 x2 x3 x4) [] [_, _] ⟨?_, ?_, trivial⟩ y ?_
  · exact store_rows (L := 256) (n := 128) (w := 2048) 128 inb_S256x2048_S128x2048_128_0 (dxBlk x0 x1 x2 x3 x4) _ (pay10_apply x0 x1 x2 x3 x4)
  · exact store_rows (L := 256) (n := 128) (w := 2048) 0 inb_S256x2048_S128x2048_0_0 (dxBlk x0 x1 x2 x3 x4) _ (pay5_apply x0 x1 x2 x3 x4)
  · exact View.cover_of_tiledL _ ![128, 2048] (by rfl) y

/-- The input gradient's block at any point. -/
theorem outs5 (t : Fin cfg0.N) (y : S256x2048.Idx) :
    (outsAt0 m c t.val t.isLt).1 y = dxBlk (iblk m c 0 t) (iblk m c 1 t) (iblk m c 2 t) (iblk m c 3 t) (iblk m c 4 t) y := by
  have ht : t.val < 16 := t.isLt
  by_cases h0 : t.val % 16 = 0
  · rw [outsAt0_A m c t h0 (by omega) (by omega)]
    frame_open
    simp (disch := decide) only [↓ View.readCov_skip, ↓ View.readCov_cons_toLoadRect, ↓ View.readCov_fill]
    frame_out
    exact dx_canon _ _ _ _ _ _
  by_cases h2 : t.val % 16 = 15
  · rw [outsAt0_C m c t h0 (by omega) h2]
    frame_open
    simp (disch := decide) only [↓ View.readCov_skip, ↓ View.readCov_cons_toLoadRect, ↓ View.readCov_fill]
    frame_out
    exact dx_canon _ _ _ _ _ _
  · rw [outsAt0_B m c t h0 (by omega) h2]
    frame_open
    simp (disch := decide) only [↓ View.readCov_skip, ↓ View.readCov_cons_toLoadRect, ↓ View.readCov_fill]
    frame_out
    exact dx_canon _ _ _ _ _ _

/-- What the scratch holds after the first point, and after a later one. -/
theorem scr_A (t : Fin cfg0.N) (h0 : t.val % 16 = 0) (y : S8x2048.Idx) :
    (outsAt0 m c t.val t.isLt).2.2 y = 0 + dgBlk (iblk m c 0 t) (iblk m c 1 t) (iblk m c 2 t) y := by
  have ht : t.val < 16 := t.isLt
  rw [outsAt0_A m c t h0 (by omega) (by omega)]
  frame_open
  simp (disch := decide) only [↓ View.readCov_skip, ↓ View.readCov_cons_toLoadRect, ↓ View.readCov_fill]
  frame_out
  rw [zero_add, pay12_eq]
  exact pay11_eq _ _ _ _

theorem scr_B (t : Fin cfg0.N) (h0 : ¬t.val % 16 = 0) (y : S8x2048.Idx) :
    (outsAt0 m c t.val t.isLt).2.2 y = (outsAt0 m c (t.val - 1) (Nat.lt_of_le_of_lt (Nat.sub_le _ _) t.isLt)).2.2 y + dgBlk (iblk m c 0 t) (iblk m c 1 t) (iblk m c 2 t) y := by
  have ht : t.val < 16 := t.isLt
  by_cases h2 : t.val % 16 = 15
  · rw [outsAt0_C m c t h0 (by omega) h2]
    frame_open
    simp (disch := decide) only [↓ View.readCov_skip, ↓ View.readCov_cons_toLoadRect, ↓ View.readCov_fill]
    frame_out
    rw [pay13_eq, pay11_eq]
    simp only [read_unread_whole]
  · rw [outsAt0_B m c t h0 (by omega) h2]
    frame_open
    simp (disch := decide) only [↓ View.readCov_skip, ↓ View.readCov_cons_toLoadRect, ↓ View.readCov_fill]
    frame_out
    rw [pay13_eq, pay11_eq]
    simp only [read_unread_whole]

/-- The gain's gradient at the last point: the scratch's eight rows added. -/
theorem outs6 (t : Fin cfg0.N) (h2 : t.val % 16 = 15) (j : Fin 2048) :
    (outsAt0 m c t.val t.isLt).2.1 (ix2 0 j) = ∑ r : Fin 8, (outsAt0 m c t.val t.isLt).2.2 (ix2 r j) := by
  have ht : t.val < 16 := t.isLt
  rw [outsAt0_C m c t (by omega) (by omega) h2]
  frame_open
  simp (disch := decide) only [↓ View.readCov_skip, ↓ View.readCov_cons_toLoadRect, ↓ View.readCov_fill]
  frame_out
  exact pay14_apply _ _

/-- The normed rows' cotangent, row by row. -/
def cot (h : S4096x3072.Idx → EReal) (w : S2048x3072.Idx → EReal) (i : Fin 4096) : Fin 2048 → EReal := fun j => ∑ k : Fin 3072, h (ix2 i k) * w (ix2 j k)

/-- The array of the input gradient, and of the gain's. -/
def dxArr : S4096x2048.Idx → EReal := fun i =>
  back (row (a m c) (i 0)) (row (x m c) (i 0)) (fun j => cot (h m c) (w m c) (i 0) j * g m c (ix2 0 j)) (i 1)
def dgArr : S1x2048.Idx → EReal := fun i =>
  ∑ r : Fin 4096, cot (h m c) (w m c) r (i 1) * (x m c (ix2 r (i 1)) * Norm.inv (row (x m c) r))

theorem dxBlk_eq (t : Fin cfg0.N) (r : Fin 256) (d : Fin 2048) (hl : t.val * 256 + r.val < 4096) :
    dxBlk (iblk m c 0 t) (iblk m c 1 t) (iblk m c 2 t) (iblk m c 3 t) (iblk m c 4 t) (ix2 r d) = dxArr m c (ix2 ⟨t.val * 256 + r.val, hl⟩ d) := by
  have hh : ∀ k, (iblk m c 0 t : S256x3072.Idx → EReal) (ix2 r k) = h m c (ix2 ⟨t.val * 256 + r.val, hl⟩ k) := fun k => congrFun (in0 m c t r hl) k
  unfold dxBlk dxArr prod cot
  simp only [ix2_0, ix2_1, in2 m c t r hl, in3 m c t r hl, in1, in4, hh]

/-- The input gradient after the run. -/
theorem arr5 : (dats m 0 c).arrAt 5 cfg0.N = dxArr m c := by
  refine (dats m 0 c).arrAt_eq_of_covers 5 _ (by decide +kernel) fun t hf y => ?_
  blk_simp
  rw [after0_5, outs5]
  have hy : y = (ix2 (y 0) (y 1) : S256x2048.Idx) := (ix2_eta (n0 := 256) (n1 := 2048) y).symm
  have ht : t.val < 16 := t.isLt
  have hr : (y 0).val < 256 := (y 0).isLt
  have hb : t.val * 256 + (y 0).val < 4096 := by omega
  refine (congrArg _ hy).trans ((dxBlk_eq m c t (y 0) (y 1) hb).trans (congrArg (dxArr m c) ?_))
  blk_ext [idx t]

/-- A sum over the points' rows is the sum over all rows. -/
theorem rows_sum (F : Fin cfg0.N → Fin 256 → EReal) (f : Fin 4096 → EReal)
    (h : ∀ (t : Fin cfg0.N) (r : Fin 256) (hl : t.val * 256 + r.val < 4096), F t r = f ⟨t.val * 256 + r.val, hl⟩) :
    ∑ t, ∑ r, F t r = ∑ r, f r :=
  Fin.sum_mul_add_congr (S := 16) (n := 256) (L := 4096) (F := F) h

/-- The scratch after the last point: the eight rows of all points. -/
theorem scr_last (r : Fin 8) (j : Fin 2048) :
    (outsAt0 m c t0_15.val t0_15.isLt).2.2 (ix2 r j) = ∑ t, dgBlk (iblk m c 0 t) (iblk m c 1 t) (iblk m c 2 t) (ix2 r j) := by
  rw [Pipeline.eq_sum_fin_of_reset_step_apply_last (fun n h => (outsAt0 m c n h).2.2) 16 (fun _ => (0 : EReal))
    (fun t => dgBlk (iblk m c 0 t) (iblk m c 1 t) (iblk m c 2 t))
    (fun t h y => scr_A m c t h y) (fun t h y => scr_B m c t h y) (le_of_eq rfl) t0_15 rfl, zero_add]

/-- A point's eight rows added: the sum over its rows. -/
theorem dgBlk_sum (x0 : Vec Ideal S256x3072 .bf16) (x1 : Vec Ideal S3072x2048 .bf16) (x2 : Vec Ideal S256x2048 .f32) (j : Fin 2048) :
    ∑ r : Fin 8, dgBlk x0 x1 x2 (ix2 r j) = ∑ r : Fin 256, dgTerm x0 x1 x2 j r :=
  fold256 (dgTerm x0 x1 x2 j)

/-- Its eight rows added are the gain's gradient. -/
theorem scr_sum (j : Fin 2048) :
    ∑ r : Fin 8, (outsAt0 m c t0_15.val t0_15.isLt).2.2 (ix2 r j) = dgArr m c (ix2 0 j) := by
  refine (Finset.sum_congr rfl fun r _ => scr_last m c r j).trans (Finset.sum_comm.trans ((Finset.sum_congr rfl fun t _ => dgBlk_sum _ _ _ j).trans ?_))
  unfold dgArr
  simp only [ix2_1]
  refine rows_sum _ _ fun t r hl => ?_
  have hh : ∀ k, (iblk m c 0 t : S256x3072.Idx → EReal) (ix2 r k) = h m c (ix2 ⟨t.val * 256 + r.val, hl⟩ k) := fun k => congrFun (in0 m c t r hl) k
  have hx : (iblk m c 2 t : S256x2048.Idx → EReal) (ix2 r j) = x m c (ix2 ⟨t.val * 256 + r.val, hl⟩ j) := congrFun (in2 m c t r hl) j
  unfold dgTerm prod cot
  simp only [ix2_1, hh, hx, in2 m c t r hl, in1]

/-- The gain's gradient after the run. -/
theorem arr6 : (dats m 0 c).arrAt 6 cfg0.N = dgArr m c := by
  refine (dats m 0 c).arrAt_eq_of_after_last 6 t0_15 (by decide +kernel) _ fun j => ?_
  blk_simp
  rw [after0_6]
  idx_vars j
  obtain rfl : j0 = 0 := Subsingleton.elim _ _
  exact (outs6 m c t0_15 rfl j1).trans (scr_sum m c j1)

end

section

open Cert.MixInRefIdeal.Read

variable (h : FVec Ideal Cert.MixInRefIdeal.S4096x3072 .bf16) (w : FVec Ideal Cert.MixInRefIdeal.S2048x3072 .f32) (x a : FVec Ideal Cert.MixInRefIdeal.S4096x2048 .f32) (g : FVec Ideal Cert.MixInRefIdeal.S1x2048 .f32) (j : Fin 2048)

/-- The reference's input gradient at an element. -/
theorem ref40 (i : Fin 4096) : val_main_v40 (F := Ideal) h w x a g (ix2 i j) = back (row a i) (row x i) (fun j => cot h w i j * g (ix2 0 j)) j := by
  refine Eq.trans ?_ (grad (row x i) (fun j => cot h w i j * g (ix2 0 j)) j (row a i j)).symm
  unfold spread Norm.inv ms cot
  pointwise [val_main_v40, val_main_v39, val_main_v38, val_main_v37, val_main_v36, val_main_v35, val_main_v34, val_main_v33, val_main_v32, val_main_v31, val_main_v30, val_main_v29, val_main_v28, val_main_v27, val_main_v26, val_main_v24, val_main_v23, val_main_v19, val_main_v18, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]

/-- Its gain's gradient at an element. -/
theorem ref41 : val_main_v41 (F := Ideal) h w x (ix2 0 j) = ∑ r : Fin 4096, cot h w r j * (x (ix2 r j) * Norm.inv (row x r)) := by
  unfold Norm.inv ms cot
  pointwise [val_main_v41, val_main_v25, val_main_v22, val_main_v21, val_main_v20, val_main_v19, val_main_v18, val_main_v13, val_main_v12, val_main_v8, val_main_v7, val_main_v6, val_main_v5, val_main_v4, val_main_v3, val_main_v2, val_main_v1, val_main_cst, val_main_cst_0, val_main_cst_1, val_main_cst_3, val_main_cst_4]
  rw [Fin.sum_univ_one]
  exact Finset.sum_congr rfl fun r _ => mul_comm _ _

end

/-- What the kernel's idealization ends with is the reference's two gradients. -/
theorem algebraic : Cert.algebraic_MixInIdeal_MixInRefIdeal := by
  intro m g m' g' _ hagree
  refine ⟨fun c => (Cert.MixInIdeal.Gen.dats m 0 c).arrAt 5 Cert.MixInIdeal.cfg0.N, fun c => (Cert.MixInIdeal.Gen.dats m 0 c).arrAt 6 Cert.MixInIdeal.cfg0.N, Cert.MixInIdeal.Value.run_blocks m g, ?_⟩
  refine (θ_run Cert.MixInRefIdeal.defs _ _).mono (fun r h c => ?_) (Cert.MixInRefIdeal.Value.run (F := Ideal) m' g')
  obtain ⟨h0, h1, h2, h3, h4⟩ := hagree c
  refine ⟨(h c).1.trans ?_, (h c).2.1.trans ?_, (h c).2.2⟩
  · rw [Cert.MixInRefIdeal.Read.val_main_v40_eq, h0, h1, h2, h3, h4]
    refine Eq.trans ?_ (arr5 m c).symm
    funext j
    idx_vars j
    exact ref40 _ _ _ _ _ _ _
  · rw [Cert.MixInRefIdeal.Read.val_main_v41_eq, h0, h1, h2]
    refine Eq.trans ?_ (arr6 m c).symm
    funext j
    idx_vars j
    obtain rfl : j0 = 0 := Subsingleton.elim _ _
    exact ref41 _ _ _ _

end Cert.StreamInput

end
-- ==== Proof.DownLoss.lean ====
/-
  The down projection added to the residual stream, the loss of its norm against the target, and the loss's gradients.
-/
module

public import proofs.«01_k».proof.Proof.Gen.Down.Frame
public import proofs.«01_k».proof.Proof.Gen.DownIdeal.Value
public import proofs.«01_k».proof.Proof.Gen.DownRefIdeal.Read
public import proofs.«01_k».proof.Proof.Gen.DownRefIdeal.Run
public import proofs.«01_k».proof.Defs
public import proofs.«01_k».proof.Proof.Rows
public import proofs.«01_k».proof.Proof.NormGradient
public import Idealize.ShloMosaic.Lib.Pipeline.ReadBack

@[expose] public section

set_option maxRecDepth 16384

noncomputable section

namespace Cert.DownLoss

open Idealize.ShloMosaic Idealize.SL.Sem Cert.Rows Cert.Norm
open Cert.Attn (div_real sum_mul_real)

/-- The kernel terminates without a fault and keeps its arguments. -/
theorem frame_p : Cert.quiescent_Down := fun m ρ _ => Cert.Down.Gen.frame m ρ

/-- So does its idealization. -/
theorem frame_pi : Cert.quiescent_DownIdeal := fun m ρ _ => Cert.DownIdeal.Gen.frame m ρ

/-- The reference terminates and keeps its arguments; it has no semaphore. -/
theorem frame_ri : Cert.quiescent_DownRefIdeal := fun m ρ _ =>
  (θ_run Cert.DownRefIdeal.defs _ _).mono (fun r h => ⟨fun c => (h c).2.2.2.2,
      Idealize.ShloMosaic.sem_eq_zero_of_no_sems (by decide) r.2⟩)
    (Cert.DownRefIdeal.Value.run (F := Ideal) m ρ)

/-- The literals the loss is scaled by. -/
theorem scale_eq : Ideal.ofBits .f32 0x39800000#32 = (((4096 : ℝ)⁻¹ : ℝ) : EReal) := by
  simp [Ideal.ofBits, Ideal.ieee]
  norm_cast
  norm_num

theorem step_eq : Ideal.ofBits .f32 0x3A000000#32 = (((2048 : ℝ)⁻¹ : ℝ) : EReal) := by
  simp [Ideal.ofBits, Ideal.ieee]
  norm_cast
  norm_num

theorem half_eq : Ideal.ofBits .f32 0x3F000000#32 = (((2 : ℝ)⁻¹ : ℝ) : EReal) := by
  simp [Ideal.ofBits, Ideal.ieee]
  norm_cast
  norm_num

theorem two_eq : Ideal.ofBits .f32 0x40000000#32 = ((2 : ℝ) : EReal) := by
  simp [Ideal.ofBits, Ideal.ieee]
  norm_cast
  norm_num

/-- The kernel's step and the reference's: an error over the row's length. -/
theorem step (e : EReal) : e * Ideal.ofBits .f32 0x3A000000#32
    = Ideal.div (Ideal.ofBits .f32 0x3F000000#32) (Ideal.ofBits .f32 0x45000000#32) * (Ideal.ofBits .f32 0x40000000#32 * e) := by
  rw [show Ideal.ofBits .f32 0x45000000#32 = ((2048 : ℝ) : EReal) from cnt_eq, step_eq, half_eq, two_eq, div_real _ _ (by norm_num), ← mul_assoc, mul_comm e]
  norm_cast
  congr 2
  norm_num

/-- The mean of the rows' means, halved, is the sum of the scaled squares. -/
theorem loss_eq (E : Fin 4096 → Fin 2048 → EReal) :
    Ideal.ofBits .f32 0x3F000000#32 * ∑ i, Ideal.div (∑ j, E i j * E i j) (Ideal.ofBits .f32 0x45000000#32)
      = ∑ j, (∑ i, E i j * E i j) * Ideal.ofBits .f32 0x39800000#32 := by
  rw [show Ideal.ofBits .f32 0x45000000#32 = ((2048 : ℝ) : EReal) from cnt_eq, half_eq, scale_eq, mul_comm, sum_mul_real _ _ (by norm_num)]
  have h1 : ∀ i, Ideal.div (∑ j, E i j * E i j) ((2048 : ℝ) : EReal) * (((2 : ℝ)⁻¹ : ℝ) : EReal) = ∑ j, E i j * E i j * (((4096 : ℝ)⁻¹ : ℝ) : EReal) := fun i => by
    rw [div_real _ _ (by norm_num), mul_assoc, ← EReal.coe_mul, show (2048 : ℝ)⁻¹ * 2⁻¹ = 4096⁻¹ by norm_num, sum_mul_real _ _ (by norm_num)]
  rw [Finset.sum_congr rfl fun i _ => h1 i, Finset.sum_comm]
  exact Finset.sum_congr rfl fun j _ => (sum_mul_real _ _ (by norm_num)).symm

section

open Cert.DownIdeal Cert.DownIdeal.Gen

/-- A row of the residual stream with the product added. -/
def res (h : Fin 5632 → EReal) (w : S5632x2048.Idx → EReal) (x : Fin 2048 → EReal) : Fin 2048 → EReal := fun j => x j + ∑ k, h k * w (ix2 k j)

/-- A row's difference from its target, after the norm. -/
def err (y g t : Fin 2048 → EReal) : Fin 2048 → EReal := fun j => y j * Norm.inv y * g j - t j

/-- The norm's output's cotangent. -/
def dy (y g t : Fin 2048 → EReal) : Fin 2048 → EReal := fun j => err y g t j * Ideal.ofBits .f32 0x3A000000#32

/-- The row's gradient. -/
def dres (y g t : Fin 2048 → EReal) : Fin 2048 → EReal := fun j =>
  Norm.inv y * (dy y g t j * g j - y j * Norm.inv y * Ideal.div (∑ k, dy y g t k * g k * (y k * Norm.inv y)) cnt)

section

variable (x0 : Vec Ideal S256x5632 .bf16) (x1 : Vec Ideal S5632x2048 .bf16) (x2 : Vec Ideal S256x2048 .f32) (x3 : Vec Ideal S256x2048 .f32) (x4 : Vec Ideal S1x2048 .f32)

/-- The gradient's block. -/
def dxBlk : S256x2048.Idx → EReal := fun y => dres (res (row x0 (y 0)) x1 (row x2 (y 0))) (row x4 0) (row x3 (y 0)) (y 1)

/-- A row's part of the gain's gradient. -/
def dgTerm (j : Fin 2048) (i : Fin 256) : EReal :=
  dy (res (row x0 i) x1 (row x2 i)) (row x4 0) (row x3 i) j * (res (row x0 i) x1 (row x2 i) j * Norm.inv (res (row x0 i) x1 (row x2 i)))

/-- An element's squared error. -/
def sqTerm (j : Fin 2048) (i : Fin 256) : EReal :=
  err (res (row x0 i) x1 (row x2 i)) (row x4 0) (row x3 i) j * err (res (row x0 i) x1 (row x2 i)) (row x4 0) (row x3 i) j

/-- The first band's rows. -/
theorem band0 (r : Fin 128) (d : Fin 2048) :
    k0_pay16 x0 x1 x4 (View.ld x2 (Rect.unit ![0, 0] ![128, 2048] inb_S256x2048_S128x2048_0_0)) (View.ld x3 (Rect.unit ![0, 0] ![128, 2048] inb_S256x2048_S128x2048_0_0)) (ix2 r d) = dxBlk x0 x1 x2 x3 x4 (ix2 ⟨0 + r.val, by omega⟩ d) := by
  unfold dxBlk dres dy err Norm.inv ms res
  pointwise [k0_pay18, k0_pay17, k0_pay16, k0_pay15, k0_pay14, k0_pay13, k0_pay12, k0_pay11, k0_pay10]

/-- The second band's rows. -/
theorem band1 (r : Fin 128) (d : Fin 2048) :
    k0_pay26 (k0_pay10 x0 x1) x4 (View.ld x2 (Rect.unit ![128, 0] ![128, 2048] inb_S256x2048_S128x2048_128_0)) (View.ld x3 (Rect.unit ![128, 0] ![128, 2048] inb_S256x2048_S128x2048_128_0)) (ix2 r d) = dxBlk x0 x1 x2 x3 x4 (ix2 ⟨128 + r.val, by omega⟩ d) := by
  unfold dxBlk dres dy err Norm.inv ms res
  pointwise [k0_pay27, k0_pay26, k0_pay25, k0_pay24, k0_pay23, k0_pay22, k0_pay21, k0_pay10]

/-- The same rows, rounded. -/
theorem round0 (r : Fin 128) (d : Fin 2048) :
    k0_pay20 (k0_pay16 x0 x1 x4 (View.ld x2 (Rect.unit ![0, 0] ![128, 2048] inb_S256x2048_S128x2048_0_0)) (View.ld x3 (Rect.unit ![0, 0] ![128, 2048] inb_S256x2048_S128x2048_0_0))) (ix2 r d) = dxBlk x0 x1 x2 x3 x4 (ix2 ⟨0 + r.val, by omega⟩ d) := by
  refine Eq.trans ?_ (band0 x0 x1 x2 x3 x4 r d)
  pointwise [k0_pay20]

theorem round1 (r : Fin 128) (d : Fin 2048) :
    k0_pay1 (k0_pay26 (k0_pay10 x0 x1) x4 (View.ld x2 (Rect.unit ![128, 0] ![128, 2048] inb_S256x2048_S128x2048_128_0)) (View.ld x3 (Rect.unit ![128, 0] ![128, 2048] inb_S256x2048_S128x2048_128_0))) (ix2 r d) = dxBlk x0 x1 x2 x3 x4 (ix2 ⟨128 + r.val, by omega⟩ d) := by
  refine Eq.trans ?_ (band1 x0 x1 x2 x3 x4 r d)
  pointwise [k0_pay1]

/-- The two bands' parts of the gain's gradient, eight rows apart. -/
theorem pay17_apply (r : Fin 8) (j : Fin 2048) :
    k0_pay17 x0 x1 x4 (View.ld x2 (Rect.unit ![0, 0] ![128, 2048] inb_S256x2048_S128x2048_0_0)) (View.ld x3 (Rect.unit ![0, 0] ![128, 2048] inb_S256x2048_S128x2048_0_0)) (ix2 r j) = ∑ q : Fin 16, dgTerm x0 x1 x2 x3 x4 j ⟨q.val * 8 + r.val, by omega⟩ := by
  unfold dgTerm dy err Norm.inv ms res
  pointwise [k0_pay18, k0_pay17, k0_pay16, k0_pay15, k0_pay14, k0_pay13, k0_pay12, k0_pay11, k0_pay10]

theorem pay27_apply (r : Fin 8) (j : Fin 2048) :
    k0_pay27 (k0_pay10 x0 x1) x4 (View.ld x2 (Rect.unit ![128, 0] ![128, 2048] inb_S256x2048_S128x2048_128_0)) (View.ld x3 (Rect.unit ![128, 0] ![128, 2048] inb_S256x2048_S128x2048_128_0)) (ix2 r j) = ∑ q : Fin 16, dgTerm x0 x1 x2 x3 x4 j ⟨128 + (q.val * 8 + r.val), by omega⟩ := by
  unfold dgTerm dy err Norm.inv ms res
  pointwise [k0_pay27, k0_pay26, k0_pay25, k0_pay24, k0_pay23, k0_pay22, k0_pay21, k0_pay10]

/-- A point's part of the gain's gradient. -/
def dgSum (r : Fin 8) (j : Fin 2048) : EReal := ∑ q : Fin 16, dgTerm x0 x1 x2 x3 x4 j ⟨q.val * 8 + r.val, by omega⟩ + ∑ q : Fin 16, dgTerm x0 x1 x2 x3 x4 j ⟨128 + (q.val * 8 + r.val), by omega⟩
def dgBlk : S8x2048.Idx → EReal := fun y => dgSum x0 x1 x2 x3 x4 (y 0) (y 1)

theorem pay2_eq (y : S8x2048.Idx) :
    k0_pay2 (k0_pay17 x0 x1 x4 (View.ld x2 (Rect.unit ![0, 0] ![128, 2048] inb_S256x2048_S128x2048_0_0)) (View.ld x3 (Rect.unit ![0, 0] ![128, 2048] inb_S256x2048_S128x2048_0_0))) (k0_pay27 (k0_pay10 x0 x1) x4 (View.ld x2 (Rect.unit ![128, 0] ![128, 2048] inb_S256x2048_S128x2048_128_0)) (View.ld x3 (Rect.unit ![128, 0] ![128, 2048] inb_S256x2048_S128x2048_128_0))) y = dgBlk x0 x1 x2 x3 x4 y := by
  idx_vars y
  refine Eq.trans ?_ (congrArg₂ (· + ·) (pay17_apply x0 x1 x2 x3 x4 y0 y1) (pay27_apply x0 x1 x2 x3 x4 y0 y1))
  generalize k0_pay17 x0 x1 x4 (View.ld x2 (Rect.unit ![0, 0] ![128, 2048] inb_S256x2048_S128x2048_0_0)) (View.ld x3 (Rect.unit ![0, 0] ![128, 2048] inb_S256x2048_S128x2048_0_0)) = u
  generalize k0_pay27 (k0_pay10 x0 x1) x4 (View.ld x2 (Rect.unit ![128, 0] ![128, 2048] inb_S256x2048_S128x2048_128_0)) (View.ld x3 (Rect.unit ![128, 0] ![128, 2048] inb_S256x2048_S128x2048_128_0)) = v
  pointwise [k0_pay2]

/-- The two bands' parts of the loss, eight rows apart. -/
theorem pay19_apply (r : Fin 8) (j : Fin 2048) :
    k0_pay19 (k0_pay18 x0 x1 x4 (View.ld x2 (Rect.unit ![0, 0] ![128, 2048] inb_S256x2048_S128x2048_0_0)) (View.ld x3 (Rect.unit ![0, 0] ![128, 2048] inb_S256x2048_S128x2048_0_0))) (ix2 r j) = (∑ q : Fin 16, sqTerm x0 x1 x2 x3 x4 j ⟨q.val * 8 + r.val, by omega⟩) * Ideal.ofBits .f32 0x39800000#32 := by
  unfold sqTerm err Norm.inv ms res
  pointwise [k0_pay19, k0_pay18, k0_pay17, k0_pay16, k0_pay15, k0_pay14, k0_pay13, k0_pay12, k0_pay11, k0_pay10]

theorem sq1_apply (r : Fin 8) (j : Fin 2048) (z : FVec Ideal S8x2048 .f32) :
    k0_pay3 z (k0_pay24 (k0_pay10 x0 x1) x4 (View.ld x2 (Rect.unit ![128, 0] ![128, 2048] inb_S256x2048_S128x2048_128_0)) (View.ld x3 (Rect.unit ![128, 0] ![128, 2048] inb_S256x2048_S128x2048_128_0))) (ix2 r j) = z (ix2 r j) + (∑ q : Fin 16, sqTerm x0 x1 x2 x3 x4 j ⟨128 + (q.val * 8 + r.val), by omega⟩) * Ideal.ofBits .f32 0x39800000#32 := by
  unfold sqTerm err Norm.inv ms res
  pointwise [k0_pay3, k0_pay27, k0_pay26, k0_pay25, k0_pay24, k0_pay23, k0_pay22, k0_pay21, k0_pay10]

/-- A point's part of the loss. -/
def sqSum (r : Fin 8) (j : Fin 2048) : EReal :=
  (∑ q : Fin 16, sqTerm x0 x1 x2 x3 x4 j ⟨q.val * 8 + r.val, by omega⟩) * Ideal.ofBits .f32 0x39800000#32 + (∑ q : Fin 16, sqTerm x0 x1 x2 x3 x4 j ⟨128 + (q.val * 8 + r.val), by omega⟩) * Ideal.ofBits .f32 0x39800000#32
def sqBlk : S8x2048.Idx → EReal := fun y => sqSum x0 x1 x2 x3 x4 (y 0) (y 1)

theorem pay3_eq (y : S8x2048.Idx) :
    k0_pay3 (k0_pay19 (k0_pay18 x0 x1 x4 (View.ld x2 (Rect.unit ![0, 0] ![128, 2048] inb_S256x2048_S128x2048_0_0)) (View.ld x3 (Rect.unit ![0, 0] ![128, 2048] inb_S256x2048_S128x2048_0_0)))) (k0_pay24 (k0_pay10 x0 x1) x4 (View.ld x2 (Rect.unit ![128, 0] ![128, 2048] inb_S256x2048_S128x2048_128_0)) (View.ld x3 (Rect.unit ![128, 0] ![128, 2048] inb_S256x2048_S128x2048_128_0))) y = sqBlk x0 x1 x2 x3 x4 y := by
  idx_vars y
  rw [sq1_apply, pay19_apply]
  rfl

/-- The parts alone, at the first point, and after what the scratch held, at a later one. -/
theorem pay4_eq (u v : FVec Ideal S8x2048 .f32) : k0_pay4 u v = k0_pay2 u v := by
  funext y; idx_vars y; pointwise [k0_pay4]

theorem pay6_eq (u v : FVec Ideal S8x2048 .f32) (z : Vec Ideal S8x2048 .f32) (y : S8x2048.Idx) : k0_pay6 u v z y = z y + k0_pay2 u v y := by
  idx_vars y; pointwise [k0_pay6]

theorem pay5_eq (u : FVec Ideal S8x2048 .f32) (v : FVec Ideal S128x2048 .f32) : k0_pay5 u v = k0_pay3 u v := by
  funext y; idx_vars y; pointwise [k0_pay5]

theorem pay7_eq (u : FVec Ideal S8x2048 .f32) (v : FVec Ideal S128x2048 .f32) (z : Vec Ideal S8x2048 .f32) (y : S8x2048.Idx) : k0_pay7 u v z y = z y + k0_pay3 u v y := by
  idx_vars y; pointwise [k0_pay7]

/-- The eight rows added, and for the loss the columns too. -/
theorem pay8_apply (z : Vec Ideal S8x2048 .f32) (j : Fin 2048) : k0_pay8 z (ix2 0 j) = ∑ r : Fin 8, z (ix2 r j) := by
  pointwise [k0_pay8]

theorem pay9_apply (z : Vec Ideal S8x2048 .f32) : k0_pay9 z (ix2 0 0) = ∑ j : Fin 2048, ∑ r : Fin 8, z (ix2 r j) := by
  pointwise [k0_pay9]

end

variable (m : (ℓ : Loc nD τ sig) → Buf (Elt Ideal) ℓ) (c : Dev nD)

/-- The arguments: the activations, the weight, the residual stream, the target and the gain. -/
abbrev h : S4096x5632.Idx → EReal := m ((c.tc : Thread nD τ).loc main_arg0)
abbrev w : S5632x2048.Idx → EReal := m ((c.tc : Thread nD τ).loc main_arg1)
abbrev x : S4096x2048.Idx → EReal := m ((c.tc : Thread nD τ).loc main_arg2)
abbrev a : S4096x2048.Idx → EReal := m ((c.tc : Thread nD τ).loc main_arg3)
abbrev g : S1x2048.Idx → EReal := m ((c.tc : Thread nD τ).loc main_arg4)

/-- Which block each window holds at a point. -/
theorem idx (t : Fin cfg0.N) : win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] := by
  revert t; decide +kernel

/-- The weight's block and the gain's are the whole arrays. -/
theorem in1 (t : Fin cfg0.N) : (iblk m c 1 t : S5632x2048.Idx → EReal) = w m c := by
  funext y
  idx_vars y
  blk_point [iblk, V, idx t]

theorem in4 (t : Fin cfg0.N) : (iblk m c 4 t : S1x2048.Idx → EReal) = g m c := by
  funext y
  idx_vars y
  blk_ext [iblk, V, idx t]

section
variable (t : Fin cfg0.N) (r : Fin 256) (hl : t.val * 256 + r.val < 4096)

theorem in0 : row (iblk m c 0 t : S256x5632.Idx → EReal) r = row (h m c) ⟨t.val * 256 + r.val, hl⟩ := by
  funext k
  change iblk m c 0 t (ix2 r k : S256x5632.Idx) = h m c (ix2 _ k)
  blk_ext [iblk, V, idx t]

theorem in2 : row (iblk m c 2 t : S256x2048.Idx → EReal) r = row (x m c) ⟨t.val * 256 + r.val, hl⟩ := by
  funext k
  change iblk m c 2 t (ix2 r k : S256x2048.Idx) = x m c (ix2 _ k)
  blk_ext [iblk, V, idx t]

theorem in3 : row (iblk m c 3 t : S256x2048.Idx → EReal) r = row (a m c) ⟨t.val * 256 + r.val, hl⟩ := by
  funext k
  change iblk m c 3 t (ix2 r k : S256x2048.Idx) = a m c (ix2 _ k)
  blk_ext [iblk, V, idx t]

end

/-- The two stores of the gradient's block. -/
theorem dx_canon (x0 : Vec Ideal S256x5632 .bf16) (x1 : Vec Ideal S5632x2048 .bf16) (x2 : Vec Ideal S256x2048 .f32) (x3 : Vec Ideal S256x2048 .f32) (x4 : Vec Ideal S1x2048 .f32) (y : S256x2048.Idx) :
    View.canon (Val := Elt Ideal) (e := .f32)
      [
        ⟨Rect.unit ![128, 0] ![128, 2048] inb_S256x2048_S128x2048_128_0,
          k0_pay26 (k0_pay10 x0 x1) x4 (View.ld x2 (Rect.unit ![128, 0] ![128, 2048] inb_S256x2048_S128x2048_128_0)) (View.ld x3 (Rect.unit ![128, 0] ![128, 2048] inb_S256x2048_S128x2048_128_0))⟩,
        ⟨Rect.unit ![0, 0] ![128, 2048] inb_S256x2048_S128x2048_0_0,
          k0_pay16 x0 x1 x4 (View.ld x2 (Rect.unit ![0, 0] ![128, 2048] inb_S256x2048_S128x2048_0_0)) (View.ld x3 (Rect.unit ![0, 0] ![128, 2048] inb_S256x2048_S128x2048_0_0))⟩] y = dxBlk x0 x1 x2 x3 x4 y := by
  refine View.canon_append_of_piecesOf (Val := Elt Ideal) (e := .f32) (dxBlk x0 x1 x2 x3 x4) [] [_, _] ⟨?_, ?_, trivial⟩ y ?_
  · exact store_rows (L := 256) (n := 128) (w := 2048) 128 inb_S256x2048_S128x2048_128_0 (dxBlk x0 x1 x2 x3 x4) _ (band1 x0 x1 x2 x3 x4)
  · exact store_rows (L := 256) (n := 128) (w := 2048) 0 inb_S256x2048_S128x2048_0_0 (dxBlk x0 x1 x2 x3 x4) _ (band0 x0 x1 x2 x3 x4)
  · exact View.cover_of_tiledL _ ![128, 2048] (by rfl) y

/-- The two stores of its rounding. -/
theorem dxr_canon (x0 : Vec Ideal S256x5632 .bf16) (x1 : Vec Ideal S5632x2048 .bf16) (x2 : Vec Ideal S256x2048 .f32) (x3 : Vec Ideal S256x2048 .f32) (x4 : Vec Ideal S1x2048 .f32) (y : S256x2048.Idx) :
    View.canon (Val := Elt Ideal) (e := .bf16)
      [
        ⟨Rect.unit ![128, 0] ![128, 2048] inb_S256x2048_S128x2048_128_0,
          k0_pay1 (k0_pay26 (k0_pay10 x0 x1) x4 (View.ld x2 (Rect.unit ![128, 0] ![128, 2048] inb_S256x2048_S128x2048_128_0)) (View.ld x3 (Rect.unit ![128, 0] ![128, 2048] inb_S256x2048_S128x2048_128_0)))⟩,
        ⟨Rect.unit ![0, 0] ![128, 2048] inb_S256x2048_S128x2048_0_0,
          k0_pay20 (k0_pay16 x0 x1 x4 (View.ld x2 (Rect.unit ![0, 0] ![128, 2048] inb_S256x2048_S128x2048_0_0)) (View.ld x3 (Rect.unit ![0, 0] ![128, 2048] inb_S256x2048_S128x2048_0_0)))⟩] y = dxBlk x0 x1 x2 x3 x4 y := by
  refine View.canon_append_of_piecesOf (Val := Elt Ideal) (e := .bf16) (dxBlk x0 x1 x2 x3 x4) [] [_, _] ⟨?_, ?_, trivial⟩ y ?_
  · exact store_rows (L := 256) (n := 128) (w := 2048) 128 inb_S256x2048_S128x2048_128_0 (dxBlk x0 x1 x2 x3 x4) _ (round1 x0 x1 x2 x3 x4)
  · exact store_rows (L := 256) (n := 128) (w := 2048) 0 inb_S256x2048_S128x2048_0_0 (dxBlk x0 x1 x2 x3 x4) _ (round0 x0 x1 x2 x3 x4)
  · exact View.cover_of_tiledL _ ![128, 2048] (by rfl) y

/-- The gradient's block at any point. -/
theorem outs5 (t : Fin cfg0.N) (y : S256x2048.Idx) :
    (outsAt0 m c t.val t.isLt).1 y = dxBlk (iblk m c 0 t) (iblk m c 1 t) (iblk m c 2 t) (iblk m c 3 t) (iblk m c 4 t) y := by
  have ht : t.val < 16 := t.isLt
  by_cases h0 : t.val % 16 = 0
  · rw [outsAt0_A m c t h0 (by omega) (by omega)]
    frame_open
    simp (disch := decide) only [↓ View.readCov_skip, ↓ View.readCov_cons_toLoadRect, ↓ View.readCov_fill]
    frame_out
    exact dx_canon _ _ _ _ _ _
  by_cases h2 : t.val % 16 = 15
  · rw [outsAt0_C m c t h0 (by omega) h2]
    frame_open
    simp (disch := decide) only [↓ View.readCov_skip, ↓ View.readCov_cons_toLoadRect, ↓ View.readCov_fill]
    frame_out
    exact dx_canon _ _ _ _ _ _
  · rw [outsAt0_B m c t h0 (by omega) h2]
    frame_open
    simp (disch := decide) only [↓ View.readCov_skip, ↓ View.readCov_cons_toLoadRect, ↓ View.readCov_fill]
    frame_out
    exact dx_canon _ _ _ _ _ _

/-- Its rounding at any point. -/
theorem outs6 (t : Fin cfg0.N) (y : S256x2048.Idx) :
    (outsAt0 m c t.val t.isLt).2.1 y = dxBlk (iblk m c 0 t) (iblk m c 1 t) (iblk m c 2 t) (iblk m c 3 t) (iblk m c 4 t) y := by
  have ht : t.val < 16 := t.isLt
  by_cases h0 : t.val % 16 = 0
  · rw [outsAt0_A m c t h0 (by omega) (by omega)]
    frame_open
    simp (disch := decide) only [↓ View.readCov_skip, ↓ View.readCov_cons_toLoadRect, ↓ View.readCov_fill]
    frame_out
    exact dxr_canon _ _ _ _ _ _
  by_cases h2 : t.val % 16 = 15
  · rw [outsAt0_C m c t h0 (by omega) h2]
    frame_open
    simp (disch := decide) only [↓ View.readCov_skip, ↓ View.readCov_cons_toLoadRect, ↓ View.readCov_fill]
    frame_out
    exact dxr_canon _ _ _ _ _ _
  · rw [outsAt0_B m c t h0 (by omega) h2]
    frame_open
    simp (disch := decide) only [↓ View.readCov_skip, ↓ View.readCov_cons_toLoadRect, ↓ View.readCov_fill]
    frame_out
    exact dxr_canon _ _ _ _ _ _

/-- What the gain's scratch holds after the first point, and after a later one. -/
theorem dg_A (t : Fin cfg0.N) (h0 : t.val % 16 = 0) (y : S8x2048.Idx) :
    (outsAt0 m c t.val t.isLt).2.2.2.2.1 y = 0 + dgBlk (iblk m c 0 t) (iblk m c 1 t) (iblk m c 2 t) (iblk m c 3 t) (iblk m c 4 t) y := by
  have ht : t.val < 16 := t.isLt
  rw [outsAt0_A m c t h0 (by omega) (by omega)]
  frame_open
  simp (disch := decide) only [↓ View.readCov_skip, ↓ View.readCov_cons_toLoadRect, ↓ View.readCov_fill]
  frame_out
  rw [zero_add, pay4_eq]
  exact pay2_eq _ _ _ _ _ _

theorem dg_B (t : Fin cfg0.N) (h0 : ¬t.val % 16 = 0) (y : S8x2048.Idx) :
    (outsAt0 m c t.val t.isLt).2.2.2.2.1 y = (outsAt0 m c (t.val - 1) (Nat.lt_of_le_of_lt (Nat.sub_le _ _) t.isLt)).2.2.2.2.1 y + dgBlk (iblk m c 0 t) (iblk m c 1 t) (iblk m c 2 t) (iblk m c 3 t) (iblk m c 4 t) y := by
  have ht : t.val < 16 := t.isLt
  by_cases h2 : t.val % 16 = 15
  · rw [outsAt0_C m c t h0 (by omega) h2]
    frame_open
    simp (disch := decide) only [↓ View.readCov_skip, ↓ View.readCov_cons_toLoadRect, ↓ View.readCov_fill]
    frame_out
    rw [pay6_eq, pay2_eq]
    simp only [read_unread_whole]
  · rw [outsAt0_B m c t h0 (by omega) h2]
    frame_open
    simp (disch := decide) only [↓ View.readCov_skip, ↓ View.readCov_cons_toLoadRect, ↓ View.readCov_fill]
    frame_out
    rw [pay6_eq, pay2_eq]
    simp only [read_unread_whole]

/-- After the last point it holds the parts of all points. -/
theorem dg_last (y : S8x2048.Idx) :
    (outsAt0 m c t0_15.val t0_15.isLt).2.2.2.2.1 y = ∑ t, dgBlk (iblk m c 0 t) (iblk m c 1 t) (iblk m c 2 t) (iblk m c 3 t) (iblk m c 4 t) y := by
  rw [Pipeline.eq_sum_fin_of_reset_step_apply_last (fun n h => (outsAt0 m c n h).2.2.2.2.1) 16 (fun _ => (0 : EReal))
    (fun t => dgBlk (iblk m c 0 t) (iblk m c 1 t) (iblk m c 2 t) (iblk m c 3 t) (iblk m c 4 t))
    (fun t h y => dg_A m c t h y) (fun t h y => dg_B m c t h y) (le_of_eq rfl) t0_15 rfl, zero_add]

/-- What the loss's scratch holds after the first point, and after a later one. -/
theorem sq_A (t : Fin cfg0.N) (h0 : t.val % 16 = 0) (y : S8x2048.Idx) :
    (outsAt0 m c t.val t.isLt).2.2.2.2.2 y = 0 + sqBlk (iblk m c 0 t) (iblk m c 1 t) (iblk m c 2 t) (iblk m c 3 t) (iblk m c 4 t) y := by
  have ht : t.val < 16 := t.isLt
  rw [outsAt0_A m c t h0 (by omega) (by omega)]
  frame_open
  simp (disch := decide) only [↓ View.readCov_skip, ↓ View.readCov_cons_toLoadRect, ↓ View.readCov_fill]
  frame_out
  rw [zero_add, pay5_eq]
  exact pay3_eq _ _ _ _ _ _

theorem sq_B (t : Fin cfg0.N) (h0 : ¬t.val % 16 = 0) (y : S8x2048.Idx) :
    (outsAt0 m c t.val t.isLt).2.2.2.2.2 y = (outsAt0 m c (t.val - 1) (Nat.lt_of_le_of_lt (Nat.sub_le _ _) t.isLt)).2.2.2.2.2 y + sqBlk (iblk m c 0 t) (iblk m c 1 t) (iblk m c 2 t) (iblk m c 3 t) (iblk m c 4 t) y := by
  have ht : t.val < 16 := t.isLt
  by_cases h2 : t.val % 16 = 15
  · rw [outsAt0_C m c t h0 (by omega) h2]
    frame_open
    simp (disch := decide) only [↓ View.readCov_skip, ↓ View.readCov_cons_toLoadRect, ↓ View.readCov_fill]
    frame_out
    rw [pay7_eq, pay3_eq]
    simp only [read_unread_whole]
  · rw [outsAt0_B m c t h0 (by omega) h2]
    frame_open
    simp (disch := decide) only [↓ View.readCov_skip, ↓ View.readCov_cons_toLoadRect, ↓ View.readCov_fill]
    frame_out
    rw [pay7_eq, pay3_eq]
    simp only [read_unread_whole]

/-- After the last point it holds the parts of all points. -/
theorem sq_last (y : S8x2048.Idx) :
    (outsAt0 m c t0_15.val t0_15.isLt).2.2.2.2.2 y = ∑ t, sqBlk (iblk m c 0 t) (iblk m c 1 t) (iblk m c 2 t) (iblk m c 3 t) (iblk m c 4 t) y := by
  rw [Pipeline.eq_sum_fin_of_reset_step_apply_last (fun n h => (outsAt0 m c n h).2.2.2.2.2) 16 (fun _ => (0 : EReal))
    (fun t => sqBlk (iblk m c 0 t) (iblk m c 1 t) (iblk m c 2 t) (iblk m c 3 t) (iblk m c 4 t))
    (fun t h y => sq_A m c t h y) (fun t h y => sq_B m c t h y) (le_of_eq rfl) t0_15 rfl, zero_add]

/-- The gain's gradient at the last point: the scratch's eight rows added. -/
theorem outs7 (t : Fin cfg0.N) (h2 : t.val % 16 = 15) (j : Fin 2048) :
    (outsAt0 m c t.val t.isLt).2.2.1 (ix2 0 j) = ∑ r : Fin 8, (outsAt0 m c t.val t.isLt).2.2.2.2.1 (ix2 r j) := by
  have ht : t.val < 16 := t.isLt
  rw [outsAt0_C m c t (by omega) (by omega) h2]
  frame_open
  simp (disch := decide) only [↓ View.readCov_skip, ↓ View.readCov_cons_toLoadRect, ↓ View.readCov_fill]
  frame_out
  exact pay8_apply _ _

/-- The loss at the last point: the scratch's elements added. -/
theorem outs8 (t : Fin cfg0.N) (h2 : t.val % 16 = 15) :
    (outsAt0 m c t.val t.isLt).2.2.2.1 (ix2 0 0) = ∑ j : Fin 2048, ∑ r : Fin 8, (outsAt0 m c t.val t.isLt).2.2.2.2.2 (ix2 r j) := by
  have ht : t.val < 16 := t.isLt
  rw [outsAt0_C m c t (by omega) (by omega) h2]
  frame_open
  simp (disch := decide) only [↓ View.readCov_skip, ↓ View.readCov_cons_toLoadRect, ↓ View.readCov_fill]
  frame_out
  exact pay9_apply _

/-- A row of the residual stream after the down projection. -/
def out (h : S4096x5632.Idx → EReal) (w : S5632x2048.Idx → EReal) (x : S4096x2048.Idx → EReal) (i : Fin 4096) : Fin 2048 → EReal := res (row h i) w (row x i)

/-- The arrays of the gradient, of the gain's and of the loss. -/
def dxArr : S4096x2048.Idx → EReal := fun i => dres (out (h m c) (w m c) (x m c) (i 0)) (row (g m c) 0) (row (a m c) (i 0)) (i 1)
def dgArr : S1x2048.Idx → EReal := fun i =>
  ∑ r : Fin 4096, dy (out (h m c) (w m c) (x m c) r) (row (g m c) 0) (row (a m c) r) (i 1) * (out (h m c) (w m c) (x m c) r (i 1) * Norm.inv (out (h m c) (w m c) (x m c) r))
def lossArr : S1x1.Idx → EReal := fun _ =>
  ∑ j : Fin 2048, (∑ r : Fin 4096, err (out (h m c) (w m c) (x m c) r) (row (g m c) 0) (row (a m c) r) j * err (out (h m c) (w m c) (x m c) r) (row (g m c) 0) (row (a m c) r) j) * Ideal.ofBits .f32 0x39800000#32

theorem dxBlk_eq (t : Fin cfg0.N) (r : Fin 256) (d : Fin 2048) (hl : t.val * 256 + r.val < 4096) :
    dxBlk (iblk m c 0 t) (iblk m c 1 t) (iblk m c 2 t) (iblk m c 3 t) (iblk m c 4 t) (ix2 r d) = dxArr m c (ix2 ⟨t.val * 256 + r.val, hl⟩ d) := by
  unfold dxBlk dxArr out
  rw [ix2_0, ix2_1, ix2_0, ix2_1, in0 m c t r hl, in1, in2 m c t r hl, in3 m c t r hl, in4]

/-- The gradient after the run. -/
theorem arr5 : (dats m 0 c).arrAt 5 cfg0.N = dxArr m c := by
  refine (dats m 0 c).arrAt_eq_of_covers 5 _ (by decide +kernel) fun t hf y => ?_
  blk_simp
  rw [after0_5, outs5]
  have hy : y = (ix2 (y 0) (y 1) : S256x2048.Idx) := (ix2_eta (n0 := 256) (n1 := 2048) y).symm
  have ht : t.val < 16 := t.isLt
  have hr : (y 0).val < 256 := (y 0).isLt
  have hb : t.val * 256 + (y 0).val < 4096 := by omega
  refine (congrArg _ hy).trans ((dxBlk_eq m c t (y 0) (y 1) hb).trans (congrArg (dxArr m c) ?_))
  blk_ext [idx t]

/-- Its rounding after the run. -/
theorem arr6 : (dats m 0 c).arrAt 6 cfg0.N = dxArr m c := by
  refine (dats m 0 c).arrAt_eq_of_covers 6 _ (by decide +kernel) fun t hf y => ?_
  blk_simp
  rw [after0_6, outs6]
  have hy : y = (ix2 (y 0) (y 1) : S256x2048.Idx) := (ix2_eta (n0 := 256) (n1 := 2048) y).symm
  have ht : t.val < 16 := t.isLt
  have hr : (y 0).val < 256 := (y 0).isLt
  have hb : t.val * 256 + (y 0).val < 4096 := by omega
  refine (congrArg _ hy).trans ((dxBlk_eq m c t (y 0) (y 1) hb).trans (congrArg (dxArr m c) ?_))
  blk_ext [idx t]

/-- A sum over the points' rows is the sum over all rows. -/
theorem rows_sum (F : Fin cfg0.N → Fin 256 → EReal) (f : Fin 4096 → EReal)
    (h : ∀ (t : Fin cfg0.N) (r : Fin 256) (hl : t.val * 256 + r.val < 4096), F t r = f ⟨t.val * 256 + r.val, hl⟩) :
    ∑ t, ∑ r, F t r = ∑ r, f r :=
  Fin.sum_mul_add_congr (S := 16) (n := 256) (L := 4096) (F := F) h

/-- A point's eight rows added: the sum over its rows. -/
theorem dgBlk_sum (x0 : Vec Ideal S256x5632 .bf16) (x1 : Vec Ideal S5632x2048 .bf16) (x2 : Vec Ideal S256x2048 .f32) (x3 : Vec Ideal S256x2048 .f32) (x4 : Vec Ideal S1x2048 .f32) (j : Fin 2048) :
    ∑ r : Fin 8, dgBlk x0 x1 x2 x3 x4 (ix2 r j) = ∑ r : Fin 256, dgTerm x0 x1 x2 x3 x4 j r :=
  fold256 (dgTerm x0 x1 x2 x3 x4 j)

/-- A sum times the loss's scale. -/
theorem scale_sum {n : Nat} (f : Fin n → EReal) : (∑ i, f i) * Ideal.ofBits .f32 0x39800000#32 = ∑ i, f i * Ideal.ofBits .f32 0x39800000#32 := by
  rw [scale_eq]
  exact sum_mul_real f _ (by norm_num)

theorem sqBlk_sum (x0 : Vec Ideal S256x5632 .bf16) (x1 : Vec Ideal S5632x2048 .bf16) (x2 : Vec Ideal S256x2048 .f32) (x3 : Vec Ideal S256x2048 .f32) (x4 : Vec Ideal S1x2048 .f32) (j : Fin 2048) :
    ∑ r : Fin 8, sqBlk x0 x1 x2 x3 x4 (ix2 r j) = ∑ r : Fin 256, sqTerm x0 x1 x2 x3 x4 j r * Ideal.ofBits .f32 0x39800000#32 := by
  refine Eq.trans (Finset.sum_congr rfl fun r _ => ?_) (fold256 fun i => sqTerm x0 x1 x2 x3 x4 j i * Ideal.ofBits .f32 0x39800000#32)
  exact congrArg₂ (· + ·) (scale_sum _) (scale_sum _)

/-- The gain's scratch's eight rows added are the gain's gradient. -/
theorem dg_sum (j : Fin 2048) :
    ∑ r : Fin 8, (outsAt0 m c t0_15.val t0_15.isLt).2.2.2.2.1 (ix2 r j) = dgArr m c (ix2 0 j) := by
  refine (Finset.sum_congr rfl fun r _ => dg_last m c (ix2 r j)).trans (Finset.sum_comm.trans ((Finset.sum_congr rfl fun t _ => dgBlk_sum _ _ _ _ _ j).trans ?_))
  unfold dgArr
  rw [ix2_1]
  refine rows_sum _ _ fun t r hl => ?_
  unfold dgTerm out
  rw [in0 m c t r hl, in1, in2 m c t r hl, in3 m c t r hl, in4]

/-- The loss's scratch's elements added are the loss. -/
theorem sq_sum :
    ∑ j : Fin 2048, ∑ r : Fin 8, (outsAt0 m c t0_15.val t0_15.isLt).2.2.2.2.2 (ix2 r j) = lossArr m c (ix2 0 0) := by
  unfold lossArr
  refine Finset.sum_congr rfl fun j _ => ?_
  refine (Finset.sum_congr rfl fun r _ => sq_last m c (ix2 r j)).trans (Finset.sum_comm.trans ((Finset.sum_congr rfl fun t _ => sqBlk_sum _ _ _ _ _ j).trans ?_))
  rw [scale_sum]
  refine rows_sum _ _ fun t r hl => ?_
  unfold sqTerm out
  rw [in0 m c t r hl, in1, in2 m c t r hl, in3 m c t r hl, in4]

/-- The gain's gradient after the run. -/
theorem arr7 : (dats m 0 c).arrAt 7 cfg0.N = dgArr m c := by
  refine (dats m 0 c).arrAt_eq_of_after_last 7 t0_15 (by decide +kernel) _ fun j => ?_
  blk_simp
  rw [after0_7]
  idx_vars j
  obtain rfl : j0 = 0 := Subsingleton.elim _ _
  exact (outs7 m c t0_15 rfl j1).trans (dg_sum m c j1)

/-- The loss after the run. -/
theorem arr8 : (dats m 0 c).arrAt 8 cfg0.N = lossArr m c := by
  refine (dats m 0 c).arrAt_eq_of_after_last 8 t0_15 (by decide +kernel) _ fun j => ?_
  blk_simp
  rw [after0_8]
  idx_vars j
  obtain rfl : j0 = 0 := Subsingleton.elim _ _
  obtain rfl : j1 = 0 := Subsingleton.elim _ _
  exact (outs8 m c t0_15 rfl).trans (sq_sum m c)

end

section

open Cert.DownRefIdeal.Read

variable (h : FVec Ideal Cert.DownRefIdeal.S4096x5632 .bf16) (w : FVec Ideal Cert.DownRefIdeal.S5632x2048 .f32) (x t : FVec Ideal Cert.DownRefIdeal.S4096x2048 .f32) (g : FVec Ideal Cert.DownRefIdeal.S1x2048 .f32)

/-- The reference's rows: the residual stream, its difference from the target and the norm's output's cotangent. -/
theorem ref2 (i : Fin 4096) (j : Fin 2048) : val_main_v2 (F := Ideal) h w x (ix2 i j) = out h w x i j := by
  unfold out res
  pointwise [val_main_v2, val_main_v1, val_main_v0]

theorem ref11 (i : Fin 4096) : val_main_v11 (F := Ideal) h w x (ix2 i 0) = Norm.inv (out h w x i) := by
  unfold Norm.inv ms out res
  pointwise [val_main_v11, val_main_v10, val_main_v9, val_main_v8, val_main_v7, val_main_v6, val_main_v5, val_main_v4, val_main_v2, val_main_v1, val_main_v0, val_main_cst, val_main_cst_0, val_main_cst_1]

theorem ref14 (i : Fin 4096) : val_main_v14 (F := Ideal) h w x (ix2 i 0) = mhalf * Ideal.div (Norm.inv (out h w x i)) (ms (out h w x i)) := by
  unfold Norm.inv ms out res
  pointwise [val_main_v14, val_main_v13, val_main_v12, val_main_v11, val_main_v10, val_main_v9, val_main_v8, val_main_v7, val_main_v6, val_main_v5, val_main_v4, val_main_v2, val_main_v1, val_main_v0, val_main_cst, val_main_cst_0, val_main_cst_1, val_main_cst_2]

theorem ref16 (i : Fin 4096) (j : Fin 2048) : val_main_v16 (F := Ideal) h w x (ix2 i j) = (out h w x i) j * Norm.inv (out h w x i) := by
  refine Eq.trans ?_ (congrArg₂ (· * ·) (ref2 h w x i j) (ref11 h w x i))
  pointwise [val_main_v16, val_main_v15]

theorem ref20 (i : Fin 4096) (j : Fin 2048) : val_main_v20 (F := Ideal) h w x t g (ix2 i j) = err (out h w x i) (row g 0) (row t i) j := by
  refine Eq.trans ?_ (congrArg (fun z : EReal => z * g (ix2 0 j) - t (ix2 i j)) (ref16 h w x i j))
  pointwise [val_main_v20, val_main_v19, val_main_v18, val_main_v17, val_main_v3]

theorem ref34 (i : Fin 4096) (j : Fin 2048) : val_main_v34 (F := Ideal) h w x t g (ix2 i j) = dy (out h w x i) (row g 0) (row t i) j := by
  unfold dy
  rw [← ref20 h w x t g i j]
  refine Eq.trans ?_ (step _).symm
  pointwise [val_main_v34, val_main_v33, val_main_v32, val_main_v31, val_main_v30, val_main_v29, val_main_v23, val_main_v22, val_main_cst_3, val_main_cst_8, val_main_cst_9, val_main_cst_10]

theorem ref39 (i : Fin 4096) (j : Fin 2048) : val_main_v39 (F := Ideal) h w x t g (ix2 i j) = dy (out h w x i) (row g 0) (row t i) j * g (ix2 0 j) := by
  refine Eq.trans ?_ (congrArg (fun z : EReal => z * g (ix2 0 j)) (ref34 h w x t g i j))
  pointwise [val_main_v39, val_main_v38, val_main_v17, val_main_v3]

/-- The mean square's part of the reference's gradient. -/
theorem ref50 (i : Fin 4096) (j : Fin 2048) : val_main_v50 (F := Ideal) h w x t g (ix2 i j) = spread (out h w x i) (fun j => dy (out h w x i) (row g 0) (row t i) j * g (ix2 0 j)) := by
  unfold spread
  rw [← ref14 h w x i]
  refine Eq.trans ?_ (congrArg (fun z : EReal => Ideal.div (z * val_main_v14 (F := Ideal) h w x (ix2 i 0)) cnt)
    (Finset.sum_congr rfl fun k _ => congrArg₂ (· * ·) (ref2 h w x i k) (ref39 h w x t g i k)))
  pointwise [val_main_v50, val_main_v49, val_main_v48, val_main_v47, val_main_v46, val_main_v43, val_main_v42, val_main_v41, val_main_cst_13, val_main_cst_14, val_main_cst_15]
  simp only [Fin.sum_univ_one]

/-- The reference's gradient at an element. -/
theorem ref54 (i : Fin 4096) (j : Fin 2048) : val_main_v54 (F := Ideal) h w x t g (ix2 i j) = dres (out h w x i) (row g 0) (row t i) j := by
  have e := grad (out h w x i) (fun j => dy (out h w x i) (row g 0) (row t i) j * g (ix2 0 j)) j 0
  rw [zero_add, zero_add] at e
  refine Eq.trans ?_ e.symm
  rw [← ref50 h w x t g i j, ← ref39 h w x t g i j, ← ref11 h w x i, ← ref2 h w x i j]
  pointwise [val_main_v54, val_main_v53, val_main_v52, val_main_v51, val_main_v45, val_main_v44]

/-- Its rounding. -/
theorem ref56 (i : Fin 4096) (j : Fin 2048) : val_main_v56 (F := Ideal) h w x t g (ix2 i j) = dres (out h w x i) (row g 0) (row t i) j := by
  refine Eq.trans ?_ (ref54 h w x t g i j)
  pointwise [val_main_v56]

/-- Its gain's gradient at an element. -/
theorem ref55 (j : Fin 2048) : val_main_v55 (F := Ideal) h w x t g (ix2 0 j) = ∑ i : Fin 4096, dy (out h w x i) (row g 0) (row t i) j * ((out h w x i) j * Norm.inv (out h w x i)) := by
  refine Eq.trans ?_ (Finset.sum_congr rfl fun i _ => congrArg₂ (· * ·) (ref34 h w x t g i j) (ref16 h w x i j))
  pointwise [val_main_v55, val_main_v40, val_main_v37, val_main_v36, val_main_v35, val_main_cst_11, val_main_cst_12]
  rw [Fin.sum_univ_one]
  exact Finset.sum_congr rfl fun r _ => mul_comm _ _

/-- Its loss. -/
theorem ref57 : val_main_v57 (F := Ideal) h w x t g (ix2 0 0)
    = ∑ j : Fin 2048, (∑ i : Fin 4096, err (out h w x i) (row g 0) (row t i) j * err (out h w x i) (row g 0) (row t i) j) * Ideal.ofBits .f32 0x39800000#32 := by
  refine Eq.trans ?_ (loss_eq _)
  simp only [← ref20 h w x t g]
  pointwise [val_main_v57, val_main_v28, val_main_v27, val_main_v26, val_main_v25, val_main_v24, val_main_v21, val_main_cst_4, val_main_cst_5, val_main_cst_6, val_main_cst_7]

end

/-- What the kernel's idealization ends with is the reference's gradients and loss. -/
theorem algebraic : Cert.algebraic_DownIdeal_DownRefIdeal := by
  intro m g m' g' _ hagree
  refine ⟨fun c => (Cert.DownIdeal.Gen.dats m 0 c).arrAt 5 Cert.DownIdeal.cfg0.N, fun c => (Cert.DownIdeal.Gen.dats m 0 c).arrAt 6 Cert.DownIdeal.cfg0.N, fun c => (Cert.DownIdeal.Gen.dats m 0 c).arrAt 7 Cert.DownIdeal.cfg0.N, fun c => (Cert.DownIdeal.Gen.dats m 0 c).arrAt 8 Cert.DownIdeal.cfg0.N, Cert.DownIdeal.Value.run_blocks m g, ?_⟩
  refine (θ_run Cert.DownRefIdeal.defs _ _).mono (fun r h c => ?_) (Cert.DownRefIdeal.Value.run (F := Ideal) m' g')
  obtain ⟨h0, h1, h2, h3, h4⟩ := hagree c
  refine ⟨(h c).1.trans ?_, (h c).2.1.trans ?_, (h c).2.2.1.trans ?_, (h c).2.2.2.1.trans ?_, (h c).2.2.2.2⟩
  · rw [Cert.DownRefIdeal.Read.val_main_v54_eq, h0, h1, h2, h3, h4]
    refine Eq.trans ?_ (arr5 m c).symm
    funext j
    idx_vars j
    exact ref54 _ _ _ _ _ _ _
  · rw [Cert.DownRefIdeal.Read.val_main_v56_eq, h0, h1, h2, h3, h4]
    refine Eq.trans ?_ (arr6 m c).symm
    funext j
    idx_vars j
    exact ref56 _ _ _ _ _ _ _
  · rw [Cert.DownRefIdeal.Read.val_main_v55_eq, h0, h1, h2, h3, h4]
    refine Eq.trans ?_ (arr7 m c).symm
    funext j
    idx_vars j
    obtain rfl : j0 = 0 := Subsingleton.elim _ _
    exact ref55 _ _ _ _ _ _
  · rw [Cert.DownRefIdeal.Read.val_main_v57_eq, h0, h1, h2, h3, h4]
    refine Eq.trans ?_ (arr8 m c).symm
    funext j
    idx_vars j
    obtain rfl : j0 = 0 := Subsingleton.elim _ _
    obtain rfl : j1 = 0 := Subsingleton.elim _ _
    exact ref57 _ _ _ _ _

end Cert.DownLoss

end
-- ==== Proof.SmallSums.lean ====
/-
  The sums over the devices of the small weights' gradients and of the loss.
-/
module

public import proofs.«01_k».proof.Proof.Gen.SumEarly.Frame
public import proofs.«01_k».proof.Proof.Gen.SumEarlyIdeal.Value
public import proofs.«01_k».proof.Proof.Gen.SumEarlyRefIdeal.Read
public import proofs.«01_k».proof.Proof.Gen.SumEarlyRefIdeal.Run
public import proofs.«01_k».proof.Proof.Gen.SumLate.Frame
public import proofs.«01_k».proof.Proof.Gen.SumLateIdeal.Value
public import proofs.«01_k».proof.Proof.Gen.SumLateRefIdeal.Read
public import proofs.«01_k».proof.Proof.Gen.SumLateRefIdeal.Run
public import proofs.«01_k».proof.Defs
public import proofs.«01_k».proof.Proof.Rows
public import Idealize.ShloMosaic.Lib.Pipeline.ReadBack

@[expose] public section

set_option maxRecDepth 16384

noncomputable section

namespace Cert.SmallSums.Early

open Idealize.ShloMosaic Idealize.SL.Sem

/-- The kernel terminates without a fault and keeps its arguments. -/
theorem frame_p : Cert.quiescent_SumEarly := fun m ρ _ => Cert.SumEarly.Gen.frame m ρ

/-- So does its idealization. -/
theorem frame_pi : Cert.quiescent_SumEarlyIdeal := fun m ρ _ => Cert.SumEarlyIdeal.Gen.frame m ρ

/-- The reference terminates and keeps its arguments; it has no semaphore. -/
theorem frame_ri : Cert.quiescent_SumEarlyRefIdeal := fun m ρ _ =>
  (θ_run Cert.SumEarlyRefIdeal.defs _ _).mono (fun r h => ⟨fun c => (h c).2,
      Idealize.ShloMosaic.sem_eq_zero_of_no_sems (by decide) r.2⟩)
    (Cert.SumEarlyRefIdeal.Value.run (F := Ideal) m ρ)

section

open Cert.SumEarlyIdeal Cert.SumEarlyIdeal.Gen

variable (m : (ℓ : Loc nD τ sig) → Buf (Elt Ideal) ℓ) (c : Dev nD)

/-- The devices' packed gradients. -/
abbrev parts : S8x1536x128.Idx → EReal := m ((c.tc : Thread nD τ).loc main_arg0)

/-- Which block each window holds at a point. -/
theorem idx (t : Fin cfg0.N) : win0_0.index t = ![0, t.val, 0] ∧ win0_1.index t = ![t.val, 0] := by
  revert t; decide +kernel

/-- Each element is the sum of the eight devices' elements. -/
theorem arr1 : (dats m 0 c).arrAt 1 cfg0.N = fun i : S1536x128.Idx => ∑ d : Fin 8, parts m c (ix3 d (i 0) (i 1)) := by
  refine (dats m 0 c).arrAt_eq_of_covers 1 _ (by decide +kernel) fun t hf y => ?_
  blk_simp
  rw [after0_1]
  frame_out
  have hy : y = (ix2 (y 0) (y 1) : S512x128.Idx) := (ix2_eta (n0 := 512) (n1 := 128) y).symm
  rw [hy]
  beta_reduce
  rw [Fin.sum_univ_eight]
  pointwise [k0_pay1]
  blk_point [iblk, V, idx t]

end

open Cert.SumEarlyRefIdeal.Read in
/-- The reference's result at an element. -/
theorem ref0 (p : FVec Ideal Cert.SumEarlyRefIdeal.S8x1536x128 .f32) (i : Fin 1536) (j : Fin 128) :
    val_main_v0 (F := Ideal) p (ix2 i j) = ∑ d : Fin 8, p (ix3 d i j) := by
  pointwise [val_main_v0, val_main_cst]

/-- What the kernel's idealization ends with is the reference's result. -/
theorem algebraic : Cert.algebraic_SumEarlyIdeal_SumEarlyRefIdeal := by
  intro m g m' g' _ hagree
  refine ⟨fun c => (Cert.SumEarlyIdeal.Gen.dats m 0 c).arrAt 1 Cert.SumEarlyIdeal.cfg0.N, Cert.SumEarlyIdeal.Value.run_blocks m g, ?_⟩
  refine (θ_run Cert.SumEarlyRefIdeal.defs _ _).mono (fun r h c => ?_) (Cert.SumEarlyRefIdeal.Value.run (F := Ideal) m' g')
  have h0 := hagree c
  refine ⟨(h c).1.trans ?_, (h c).2⟩
  rw [Cert.SumEarlyRefIdeal.Read.val_main_v0_eq, h0]
  refine Eq.trans ?_ (arr1 m c).symm
  funext j
  idx_vars j
  exact ref0 _ _ _

end Cert.SmallSums.Early

namespace Cert.SmallSums.Late

open Idealize.ShloMosaic Idealize.SL.Sem

/-- The kernel terminates without a fault and keeps its arguments. -/
theorem frame_p : Cert.quiescent_SumLate := fun m ρ _ => Cert.SumLate.Gen.frame m ρ

/-- So does its idealization. -/
theorem frame_pi : Cert.quiescent_SumLateIdeal := fun m ρ _ => Cert.SumLateIdeal.Gen.frame m ρ

/-- The reference terminates and keeps its arguments; it has no semaphore. -/
theorem frame_ri : Cert.quiescent_SumLateRefIdeal := fun m ρ _ =>
  (θ_run Cert.SumLateRefIdeal.defs _ _).mono (fun r h => ⟨fun c => (h c).2,
      Idealize.ShloMosaic.sem_eq_zero_of_no_sems (by decide) r.2⟩)
    (Cert.SumLateRefIdeal.Value.run (F := Ideal) m ρ)

section

open Cert.SumLateIdeal Cert.SumLateIdeal.Gen

variable (m : (ℓ : Loc nD τ sig) → Buf (Elt Ideal) ℓ) (c : Dev nD)

/-- The devices' packed gradients. -/
abbrev parts : S8x24x128.Idx → EReal := m ((c.tc : Thread nD τ).loc main_arg0)

/-- Which block each window holds at a point. -/
theorem idx (t : Fin cfg0.N) : win0_0.index t = ![0, t.val, 0] ∧ win0_1.index t = ![t.val, 0] := by
  revert t; decide +kernel

/-- Each element is the sum of the eight devices' elements. -/
theorem arr1 : (dats m 0 c).arrAt 1 cfg0.N = fun i : S24x128.Idx => ∑ d : Fin 8, parts m c (ix3 d (i 0) (i 1)) := by
  refine (dats m 0 c).arrAt_eq_of_covers 1 _ (by decide +kernel) fun t hf y => ?_
  blk_simp
  rw [after0_1]
  frame_out
  have hy : y = (ix2 (y 0) (y 1) : S24x128.Idx) := (ix2_eta (n0 := 24) (n1 := 128) y).symm
  rw [hy]
  beta_reduce
  rw [Fin.sum_univ_eight]
  pointwise [k0_pay1]
  blk_point [iblk, V, idx t]

end

open Cert.SumLateRefIdeal.Read in
/-- The reference's result at an element. -/
theorem ref0 (p : FVec Ideal Cert.SumLateRefIdeal.S8x24x128 .f32) (i : Fin 24) (j : Fin 128) :
    val_main_v0 (F := Ideal) p (ix2 i j) = ∑ d : Fin 8, p (ix3 d i j) := by
  pointwise [val_main_v0, val_main_cst]

/-- What the kernel's idealization ends with is the reference's result. -/
theorem algebraic : Cert.algebraic_SumLateIdeal_SumLateRefIdeal := by
  intro m g m' g' _ hagree
  refine ⟨fun c => (Cert.SumLateIdeal.Gen.dats m 0 c).arrAt 1 Cert.SumLateIdeal.cfg0.N, Cert.SumLateIdeal.Value.run_blocks m g, ?_⟩
  refine (θ_run Cert.SumLateRefIdeal.defs _ _).mono (fun r h c => ?_) (Cert.SumLateRefIdeal.Value.run (F := Ideal) m' g')
  have h0 := hagree c
  refine ⟨(h c).1.trans ?_, (h c).2⟩
  rw [Cert.SumLateRefIdeal.Read.val_main_v0_eq, h0]
  refine Eq.trans ?_ (arr1 m c).symm
  funext j
  idx_vars j
  exact ref0 _ _ _

end Cert.SmallSums.Late

end
-- ==== Proof.AdamStep.lean ====
/-
  One step of the optimiser on one weight's element.
-/
module

public import proofs.«01_k».proof.Proof.Rows

@[expose] public section

noncomputable section

namespace Cert.Adam

open Idealize.ShloMosaic

/-- The first moment after the step. -/
def fst (g m : EReal) : EReal := Ideal.ofBits .f32 0x3F666666#32 * m + Ideal.ofBits .f32 0x3DCCCCCD#32 * g

/-- The second moment after the step. -/
def snd (g v : EReal) : EReal := Ideal.ofBits .f32 0x3F7FBE77#32 * v + Ideal.ofBits .f32 0x3A83126F#32 * (g * g)

/-- What the step adds to the weight, of the moments after it. -/
def delta (w a b : EReal) : EReal :=
  Ideal.ofBits .f32 0xBA83126F#32 * (Ideal.div (Ideal.div a (Ideal.ofBits .f32 0x3F26BD02#32))
    (Ideal.sqrt (Ideal.div b (Ideal.ofBits .f32 0x3C231ACC#32)) + Ideal.ofBits .f32 0x322BCC77#32) + Ideal.ofBits .f32 0x3C23D70A#32 * w)

end Cert.Adam

end
-- ==== Proof.SmallUpdate.lean ====
/-
  The optimiser's step on the small weights, packed.
-/
module

public import proofs.«01_k».proof.Proof.Gen.SmallAdamw.Frame
public import proofs.«01_k».proof.Proof.Gen.SmallAdamwIdeal.Value
public import proofs.«01_k».proof.Proof.Gen.SmallAdamwRefIdeal.Read
public import proofs.«01_k».proof.Proof.Gen.SmallAdamwRefIdeal.Run
public import proofs.«01_k».proof.Defs
public import proofs.«01_k».proof.Proof.AdamStep
public import Idealize.ShloMosaic.Lib.Pipeline.ReadBack

@[expose] public section

set_option maxRecDepth 16384

noncomputable section

namespace Cert.SmallUpdate

open Idealize.ShloMosaic Idealize.SL.Sem

/-- The kernel terminates without a fault and keeps its arguments. -/
theorem frame_p : Cert.quiescent_SmallAdamw := fun m ρ _ => Cert.SmallAdamw.Gen.frame m ρ

/-- So does its idealization. -/
theorem frame_pi : Cert.quiescent_SmallAdamwIdeal := fun m ρ _ => Cert.SmallAdamwIdeal.Gen.frame m ρ

/-- The reference terminates and keeps its arguments; it has no semaphore. -/
theorem frame_ri : Cert.quiescent_SmallAdamwRefIdeal := fun m ρ _ =>
  (θ_run Cert.SmallAdamwRefIdeal.defs _ _).mono (fun r h => ⟨fun c => (h c).2.2.2,
      Idealize.ShloMosaic.sem_eq_zero_of_no_sems (by decide) r.2⟩)
    (Cert.SmallAdamwRefIdeal.Value.run (F := Ideal) m ρ)

section

open Cert.SmallAdamwIdeal Cert.SmallAdamwIdeal.Gen

variable (m : (ℓ : Loc nD τ sig) → Buf (Elt Ideal) ℓ) (c : Dev nD)

/-- The arguments: the weights, their gradients and the two moments. -/
abbrev w : S1536x128.Idx → EReal := m ((c.tc : Thread nD τ).loc main_arg0)
abbrev g : S1536x128.Idx → EReal := m ((c.tc : Thread nD τ).loc main_arg1)
abbrev mo : S1536x128.Idx → EReal := m ((c.tc : Thread nD τ).loc main_arg2)
abbrev ve : S1536x128.Idx → EReal := m ((c.tc : Thread nD τ).loc main_arg3)

/-- Which block each window holds at a point. -/
theorem idx (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  revert t; decide +kernel

/-- What the step adds to each weight. -/
theorem arr4 : (dats m 0 c).arrAt 4 cfg0.N = fun i : S1536x128.Idx => Adam.delta (w m c i) (Adam.fst (g m c i) (mo m c i)) (Adam.snd (g m c i) (ve m c i)) := by
  refine (dats m 0 c).arrAt_eq_of_covers 4 _ (by decide +kernel) fun t hf y => ?_
  blk_simp
  rw [after0_4]
  frame_out
  have hy : y = (ix2 (y 0) (y 1) : S512x128.Idx) := (ix2_eta (n0 := 512) (n1 := 128) y).symm
  rw [hy]
  unfold Adam.delta Adam.fst Adam.snd
  beta_reduce
  pointwise [k0_pay3, k0_pay2, k0_pay1]
  blk_point [iblk, V, idx t]

/-- The first moments. -/
theorem arr5 : (dats m 0 c).arrAt 5 cfg0.N = fun i : S1536x128.Idx => Adam.fst (g m c i) (mo m c i) := by
  refine (dats m 0 c).arrAt_eq_of_covers 5 _ (by decide +kernel) fun t hf y => ?_
  blk_simp
  rw [after0_5]
  frame_out
  have hy : y = (ix2 (y 0) (y 1) : S512x128.Idx) := (ix2_eta (n0 := 512) (n1 := 128) y).symm
  rw [hy]
  unfold Adam.fst
  beta_reduce
  pointwise [k0_pay1]
  blk_point [iblk, V, idx t]

/-- The second moments. -/
theorem arr6 : (dats m 0 c).arrAt 6 cfg0.N = fun i : S1536x128.Idx => Adam.snd (g m c i) (ve m c i) := by
  refine (dats m 0 c).arrAt_eq_of_covers 6 _ (by decide +kernel) fun t hf y => ?_
  blk_simp
  rw [after0_6]
  frame_out
  have hy : y = (ix2 (y 0) (y 1) : S512x128.Idx) := (ix2_eta (n0 := 512) (n1 := 128) y).symm
  rw [hy]
  unfold Adam.snd
  beta_reduce
  pointwise [k0_pay2]
  blk_point [iblk, V, idx t]

end

section

open Cert.SmallAdamwRefIdeal.Read

variable (w g m v : FVec Ideal Cert.SmallAdamwRefIdeal.S1536x128 .f32) (i : Fin 1536) (j : Fin 128)

/-- The reference's first moment at an element. -/
theorem ref4 : val_main_v4 (F := Ideal) g m (ix2 i j) = Adam.fst (g (ix2 i j)) (m (ix2 i j)) := by
  unfold Adam.fst
  pointwise [val_main_v4, val_main_v3, val_main_v2, val_main_v1, val_main_v0, val_main_cst, val_main_cst_0, val_main_cst_1, val_main_cst_2, val_main_cst_3, val_main_cst_4, val_main_cst_5, val_main_cst_6, val_main_cst_7]

/-- Its second moment. -/
theorem ref10 : val_main_v10 (F := Ideal) g v (ix2 i j) = Adam.snd (g (ix2 i j)) (v (ix2 i j)) := by
  unfold Adam.snd
  pointwise [val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

/-- What it adds to the weight. -/
theorem ref23 : val_main_v23 (F := Ideal) w g m v (ix2 i j)
    = Adam.delta (w (ix2 i j)) (Adam.fst (g (ix2 i j)) (m (ix2 i j))) (Adam.snd (g (ix2 i j)) (v (ix2 i j))) := by
  unfold Adam.delta Adam.fst Adam.snd
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

end

/-- What the kernel's idealization ends with is the reference's step. -/
theorem algebraic : Cert.algebraic_SmallAdamwIdeal_SmallAdamwRefIdeal := by
  intro m g m' g' _ hagree
  refine ⟨fun c => (Cert.SmallAdamwIdeal.Gen.dats m 0 c).arrAt 4 Cert.SmallAdamwIdeal.cfg0.N, fun c => (Cert.SmallAdamwIdeal.Gen.dats m 0 c).arrAt 5 Cert.SmallAdamwIdeal.cfg0.N, fun c => (Cert.SmallAdamwIdeal.Gen.dats m 0 c).arrAt 6 Cert.SmallAdamwIdeal.cfg0.N, Cert.SmallAdamwIdeal.Value.run_blocks m g, ?_⟩
  refine (θ_run Cert.SmallAdamwRefIdeal.defs _ _).mono (fun r h c => ?_) (Cert.SmallAdamwRefIdeal.Value.run (F := Ideal) m' g')
  obtain ⟨h0, h1, h2, h3⟩ := hagree c
  refine ⟨(h c).1.trans ?_, (h c).2.1.trans ?_, (h c).2.2.1.trans ?_, (h c).2.2.2⟩
  · rw [Cert.SmallAdamwRefIdeal.Read.val_main_v23_eq, h0, h1, h2, h3]
    refine Eq.trans ?_ (arr4 m c).symm
    funext j
    idx_vars j
    exact ref23 _ _ _ _ _ _
  · rw [Cert.SmallAdamwRefIdeal.Read.val_main_v4_eq, h1, h2]
    refine Eq.trans ?_ (arr5 m c).symm
    funext j
    idx_vars j
    exact ref4 _ _ _ _
  · rw [Cert.SmallAdamwRefIdeal.Read.val_main_v10_eq, h1, h3]
    refine Eq.trans ?_ (arr6 m c).symm
    funext j
    idx_vars j
    exact ref10 _ _ _ _

end Cert.SmallUpdate

end
-- ==== Proof.ChipWord.lean ====
/-
  A chip's index, a word from 0 to 3, and the chip whose landed part a point reads.
-/
module

public import proofs.«01_k».proof.Proof.Rows

@[expose] public section

namespace Cert.Chip

open Idealize.ShloMosaic

/-- A word between 0 and 3, read signed, is one of the four. -/
theorem of_bounds (b : BitVec 32) (h : IntOp.andi (IntOp.cmpi .sge b 0#32) (IntOp.cmpi .sle b 3#32) = 1#1) : ∃ p : Fin 4, b = BitVec.ofNat 32 p.val := by
  have h4 : b = 0#32 ∨ b = 1#32 ∨ b = 2#32 ∨ b = 3#32 := by
    have key : IntOp.cmpi .sge b 0#32 = 1#1 ∧ IntOp.cmpi .sle b 3#32 = 1#1 := by
      revert h; generalize IntOp.cmpi .sge b 0#32 = x; generalize IntOp.cmpi .sle b 3#32 = y; revert x y; decide
    obtain ⟨k0, k3⟩ := key
    have e0 : (0#32).sle b = true := by
      revert k0; unfold IntOp.cmpi; cases (0#32).sle b <;> simp
    have e3 : b.sle 3#32 = true := by
      revert k3; unfold IntOp.cmpi; cases b.sle 3#32 <;> simp
    rw [BitVec.sle_iff_toInt_le] at e0 e3
    have z0 : (0#32).toInt = 0 := by decide
    have z3 : (3#32).toInt = 3 := by decide
    rw [z0] at e0
    rw [z3] at e3
    have : b.toInt = 0 ∨ b.toInt = 1 ∨ b.toInt = 2 ∨ b.toInt = 3 := by omega
    rcases this with e | e | e | e
    · exact .inl (BitVec.eq_of_toInt_eq e)
    · exact .inr (.inl (BitVec.eq_of_toInt_eq e))
    · exact .inr (.inr (.inl (BitVec.eq_of_toInt_eq e)))
    · exact .inr (.inr (.inr (BitVec.eq_of_toInt_eq e)))
  rcases h4 with e | e | e | e
  · exact ⟨0, e⟩
  · exact ⟨1, e⟩
  · exact ⟨2, e⟩
  · exact ⟨3, e⟩

/-- The chip whose landed part is read at chip `k`'s point: `k`, and at chip `p`'s own point the next one. -/
def other (p k : Fin 4) : Fin 4 := if k = p then k + 1 else k

theorem other_ne (p k : Fin 4) (h : ¬k = p) : other p k = k := if_neg h

/-- Two words naming chips are equal where the chips are. -/
theorem eq_word (p k : Fin 4) : IntOp.cmpi .eq (BitVec.ofNat 32 k.val) (BitVec.ofNat 32 p.val) = if k = p then 1#1 else 0#1 := by
  revert p k; decide

/-- The sum over the chips, chip `p`'s own part among the landed ones. -/
noncomputable def total (p : Fin 4) (own landed : Fin 4 → EReal) : EReal := ∑ k : Fin 4, if k = p then own k else landed k

end Cert.Chip

end
-- ==== Proof.FinishSquare.lean ====
/-
  The last call of a square weight: the four chips' parts of the gradient added and the optimiser's step.
-/
module

public import proofs.«01_k».proof.Proof.Gen.FinSquare.Frame
public import proofs.«01_k».proof.Proof.Gen.FinSquareIdeal.Frame
public import proofs.«01_k».proof.Proof.Gen.FinSquareRefIdeal.Read
public import proofs.«01_k».proof.Proof.Gen.FinSquareRefIdeal.Run
public import proofs.«01_k».proof.Defs
public import proofs.«01_k».proof.Proof.ChipWord
public import proofs.«01_k».proof.Proof.AdamStep
public import Idealize.ShloMosaic.Lib.Pipeline.Covers
public import Idealize.ShloMosaic.Lib.Pipeline.ReadBack

@[expose] public section

set_option maxRecDepth 16384

noncomputable section

namespace Cert.FinishSquare

open Idealize.ShloMosaic Idealize.SL.Sem Cert.Chip

section

open Cert.FinSquareIdeal Cert.FinSquareIdeal.Gen

section

variable {F : FTy → Type} [FloatOps F]

/-- The chip's index as the index maps read it. -/
abbrev word (pf : pre0.Contents (Elt F)) : BitVec 32 := pf.at 0 (Rect.unit (s := S2) ![1] S1.size inb_S2_S1_1) numel1_S1

/-- The block of the chips' own parts that a point holds. -/
theorem own_index (pf : pre0.Contents (Elt F)) (p : Fin 4) (hp : word pf = BitVec.ofNat 32 p.val) (i : grid0.Coords) :
    cc0_transform_0 inb_S2_S1_1 numel1_S1 pf i = ![p.val, (i 0).val, 0] := by
  have e : ∀ (p : Fin 4) (a : Fin 1), ![(BitVec.ofNat 32 p.val).toNat, (BitVec.ofNat 32 a.val).toNat, (0#32).toNat] = ![p.val, a.val, 0] := by decide
  refine Eq.trans ?_ (e p (i 0))
  exact congrArg (fun b : BitVec 32 => (![b.toNat, (BitVec.ofNat 32 (i 0).val).toNat, (0#32).toNat] : Fin 3 → Nat)) hp

/-- The block of the landed parts that a point holds. -/
theorem land_index (pf : pre0.Contents (Elt F)) (p : Fin 4) (hp : word pf = BitVec.ofNat 32 p.val) (i : grid0.Coords) :
    cc0_transform_1 inb_S2_S1_1 numel1_S1 pf i = ![(other p (i 1)).val, (i 0).val, 0] := by
  unfold cc0_transform_1
  rw [show pf.at 0 (Rect.unit (s := S2) ![1] S1.size inb_S2_S1_1) numel1_S1 = BitVec.ofNat 32 p.val from hp]
  generalize i 1 = k
  generalize i 0 = a
  change Fin 4 at k
  change Fin 1 at a
  clear hp
  revert p k a
  decide

/-- With the word a chip's index, every block lies inside its array. -/
theorem ok_of_word (pf : pre0.Contents (Elt F)) (p : Fin 4) (hp : word pf = BitVec.ofNat 32 p.val) : ok0 pf := by
  refine ⟨fun i => ?_, fun i => ?_⟩
  · rw [own_index pf p hp i]
    generalize i 0 = a
    change Fin 1 at a
    clear hp
    revert p a
    decide +kernel
  · rw [land_index pf p hp i]
    generalize other p (i 1) = k
    generalize i 0 = a
    change Fin 1 at a
    revert k a
    decide

end

section
variable (x0 x1 x2 x3 : Vec Ideal S256x2048 .f32) (i : Fin 256) (j : Fin 2048)

/-- The first moment, the second, and what the step adds, at an element. -/
theorem pay4_apply : k0_pay4 x0 x1 (ix2 i j) = Adam.fst (x0 (ix2 i j)) (x1 (ix2 i j)) := by
  unfold Adam.fst
  pointwise [k0_pay4]

theorem pay5_apply : k0_pay5 x0 x1 (ix2 i j) = Adam.snd (x0 (ix2 i j)) (x1 (ix2 i j)) := by
  unfold Adam.snd
  pointwise [k0_pay5]

theorem pay6_apply : k0_pay6 x0 x1 x2 x3 (ix2 i j) = Adam.delta (x1 (ix2 i j)) (Adam.fst (x0 (ix2 i j)) (x2 (ix2 i j))) (Adam.snd (x0 (ix2 i j)) (x3 (ix2 i j))) := by
  unfold Adam.delta Adam.fst Adam.snd
  pointwise [k0_pay6, k0_pay5, k0_pay4]

end

variable (m : (ℓ : Loc nD τ sig) → Buf (Elt Ideal) ℓ) (c : Dev nD)

/-- The arguments: the chip's index, the chips' own and landed parts, the weights and the two moments. -/
abbrev pos : S2.Idx → BitVec 32 := m ((c.tc : Thread nD τ).loc main_arg0)
abbrev pair : S4x256x2048.Idx → EReal := m ((c.tc : Thread nD τ).loc main_arg1)
abbrev landed : S4x256x2048.Idx → EReal := m ((c.tc : Thread nD τ).loc main_arg2)
abbrev w : S256x2048.Idx → EReal := m ((c.tc : Thread nD τ).loc main_arg3)
abbrev mo : S256x2048.Idx → EReal := m ((c.tc : Thread nD τ).loc main_arg4)
abbrev ve : S256x2048.Idx → EReal := m ((c.tc : Thread nD τ).loc main_arg5)

variable (p : Fin 4) (hp : word (tbl m) = BitVec.ofNat 32 p.val) (hO : Ok m)

/-- The chip whose part a point adds, and the row of the array that a row of the point's block is. -/
def chip (t : Fin (cfgM m hO).N) : Fin 4 := ⟨t.val % 4, Nat.mod_lt _ (by decide)⟩
def row (t : Fin (cfgM m hO).N) (r : Fin 256) : Fin 256 := ⟨t.val / 4 * 256 + r.val, by have ht : t.val < 4 := t.isLt; omega⟩

theorem coords0 (t : Fin grid0.N) : (grid0.coords t 0).val = t.val / 4 ∧ (grid0.coords t 1).val = t.val % 4 := by
  revert t; decide +kernel

theorem tile (t : Fin grid0.N) : cc0_transform_2 (grid0.coords t) = ![t.val / 4, 0] := by
  revert t; decide +kernel

/-- Which block each window of one chip's arrays holds at a point. -/
theorem idx (t : Fin (cfgM m hO).N) : ((cfgM m hO).win 2).index t = ![t.val / 4, 0] ∧ ((cfgM m hO).win 3).index t = ![t.val / 4, 0]
    ∧ ((cfgM m hO).win 4).index t = ![t.val / 4, 0] ∧ ((cfgM m hO).win 5).index t = ![t.val / 4, 0] ∧ ((cfgM m hO).win 6).index t = ![t.val / 4, 0]
    ∧ ((cfgM m hO).win 7).index t = ![t.val / 4, 0] ∧ ((cfgM m hO).win 8).index t = ![t.val / 4, 0] :=
  ⟨tile t, tile t, tile t, tile t, tile t, tile t, tile t⟩

theorem in2 (t : Fin (cfgM m hO).N) (r : Fin 256) (j : Fin 2048) : (iblk m hO c 2 t : S256x2048.Idx → EReal) (ix2 r j) = w m c (ix2 (row m hO t r) j) := by
  unfold row
  blk_ext [iblk, V, idx m hO t]

theorem in3 (t : Fin (cfgM m hO).N) (r : Fin 256) (j : Fin 2048) : (iblk m hO c 3 t : S256x2048.Idx → EReal) (ix2 r j) = mo m c (ix2 (row m hO t r) j) := by
  unfold row
  blk_ext [iblk, V, idx m hO t]

theorem in4 (t : Fin (cfgM m hO).N) (r : Fin 256) (j : Fin 2048) : (iblk m hO c 4 t : S256x2048.Idx → EReal) (ix2 r j) = ve m c (ix2 (row m hO t r) j) := by
  unfold row
  blk_ext [iblk, V, idx m hO t]

/-- What a point adds: the chip's part. -/
def added (t : Fin (cfgM m hO).N) : S256x2048.Idx → EReal := k0_pay1 (grid0.coords t) (word (tbl m)) (iblk m hO c 0 t) (iblk m hO c 1 t)

/-- What the scratch holds after a point. -/
def scr (n : ℕ) (hn : n < (cfgM m hO).N) : S256x2048.Idx → EReal := (outsAt0 m hO c n hn).2.2.2.2

theorem scr_A (t : Fin (cfgM m hO).N) (h0 : t.val % 4 = 0) : scr m c hO t.val t.isLt = added m c hO t := by
  have ht : t.val < 4 := t.isLt
  unfold scr added
  rw [outsAt0_A m hO c t h0 (by omega) (by omega)]
  frame_open
  simp (disch := decide) only [↓ View.readCov_skip, ↓ View.readCov_cons_toLoadRect, ↓ View.readCov_fill]
  frame_out
  funext y
  idx_vars y
  pointwise [k0_pay2]
  exact congrFun (congrArg₂ (k0_pay1 _ _) ((hs0_0 m hO t).read_unread _) ((hs0_1 m hO t).read_unread _)) _

theorem scr_B (t : Fin (cfgM m hO).N) (h0 : ¬t.val % 4 = 0) :
    scr m c hO t.val t.isLt = fun y => scr m c hO (t.val - 1) (Nat.lt_of_le_of_lt (Nat.sub_le _ _) t.isLt) y + added m c hO t y := by
  have ht : t.val < 4 := t.isLt
  unfold scr added
  by_cases h2 : t.val % 4 = 3
  · rw [outsAt0_C m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)
  · rw [outsAt0_B m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)

/-- What a tile's last point leaves: the sum, the step, and the two moments. -/
theorem outs_last (t : Fin (cfgM m hO).N) (h2 : t.val % 4 = 3) :
    (outsAt0 m hO c t.val t.isLt).1 = scr m c hO t.val t.isLt
    ∧ (outsAt0 m hO c t.val t.isLt).2.1 = k0_pay6 (scr m c hO t.val t.isLt) (iblk m hO c 2 t) (iblk m hO c 3 t) (iblk m hO c 4 t)
    ∧ (outsAt0 m hO c t.val t.isLt).2.2.1 = k0_pay4 (scr m c hO t.val t.isLt) (iblk m hO c 3 t)
    ∧ (outsAt0 m hO c t.val t.isLt).2.2.2.1 = k0_pay5 (scr m c hO t.val t.isLt) (iblk m hO c 4 t) := by
  have ht : t.val < 4 := t.isLt
  unfold scr
  rw [outsAt0_C m hO c t (by omega) (by omega) h2]
  frame_open
  simp (disch := decide) only [↓ View.readCov_skip, ↓ View.readCov_cons_toLoadRect, ↓ View.readCov_fill]
  frame_out
  exact ⟨trivial, congr (congr (congrArg (k0_pay6 _) ((hs0_2 m hO t).read_unread _)) ((hs0_3 m hO t).read_unread _)) ((hs0_4 m hO t).read_unread _),
    congrArg (k0_pay4 _) ((hs0_3 m hO t).read_unread _), congrArg (k0_pay5 _) ((hs0_4 m hO t).read_unread _)⟩

section
include hp

theorem idx0 (t : Fin (cfgM m hO).N) : ((cfgM m hO).win 0).index t = ![p.val, t.val / 4, 0] :=
  (own_index (tbl m) p hp (grid0.coords t)).trans (by rw [(coords0 t).1])

theorem idx1 (t : Fin (cfgM m hO).N) : ((cfgM m hO).win 1).index t = ![(other p (chip m hO t)).val, t.val / 4, 0] :=
  (land_index (tbl m) p hp (grid0.coords t)).trans (by rw [(coords0 t).1, show grid0.coords t 1 = chip m hO t from Fin.ext (coords0 t).2])

theorem in0 (t : Fin (cfgM m hO).N) (r : Fin 256) (j : Fin 2048) : (iblk m hO c 0 t : S1x256x2048.Idx → EReal) (ix3 0 r j) = pair m c (ix3 p (row m hO t r) j) := by
  unfold row
  blk_ext [iblk, V, idx0 m p hp hO t]

theorem in1 (t : Fin (cfgM m hO).N) (r : Fin 256) (j : Fin 2048) : (iblk m hO c 1 t : S1x256x2048.Idx → EReal) (ix3 0 r j) = landed m c (ix3 (other p (chip m hO t)) (row m hO t r) j) := by
  unfold row
  blk_ext [iblk, V, idx1 m p hp hO t]

theorem added_apply (t : Fin (cfgM m hO).N) (r : Fin 256) (j : Fin 2048) :
    added m c hO t (ix2 r j) = if chip m hO t = p then pair m c (ix3 (chip m hO t) (row m hO t r) j) else landed m c (ix3 (chip m hO t) (row m hO t r) j) := by
  unfold added
  rw [hp]
  pointwise [k0_pay1]
  rw [in0 m c p hp hO t r j, in1 m c p hp hO t r j, show (grid0.coords t 1).val = (chip m hO t).val from (coords0 t).2]
  refine (congrArg (fun b => Scalar.select b _ _) (eq_word p (chip m hO t))).trans ?_
  by_cases h : chip m hO t = p
  · rw [if_pos h, if_pos h, h]; rfl
  · rw [if_neg h, if_neg h, other_ne p _ h]; rfl

/-- The same at a point of a tile, named by its chip and by another point of the tile. -/
theorem added_at (s t : Fin (cfgM m hO).N) (k : Fin 4) (hs : s.val % 4 = k.val) (ht : s.val / 4 = t.val / 4) (r : Fin 256) (j : Fin 2048) :
    added m c hO s (ix2 r j) = if k = p then pair m c (ix3 k (row m hO t r) j) else landed m c (ix3 k (row m hO t r) j) := by
  rw [added_apply m c p hp hO s r j, show chip m hO s = k from Fin.ext hs, show row m hO s r = row m hO t r from Fin.ext (by change s.val / 4 * 256 + r.val = t.val / 4 * 256 + r.val; rw [ht])]

/-- The gradient's element: the sum over the chips. -/
def sum (i : Fin 256) (j : Fin 2048) : EReal := total p (fun k => pair m c (ix3 k i j)) (fun k => landed m c (ix3 k i j))

/-- After a tile's last point the scratch holds the sum over the chips. -/
theorem scr_last (t : Fin (cfgM m hO).N) (h : t.val % 4 = 3) (r : Fin 256) (j : Fin 2048) :
    scr m c hO t.val t.isLt (ix2 r j) = sum m c p (row m hO t r) j := by
  have hn : ∀ k, t.val - k < (cfgM m hO).N := fun k => Nat.lt_of_le_of_lt (Nat.sub_le _ _) t.isLt
  have e0 := congrFun (scr_B m c hO t (by omega)) (ix2 r j)
  have e1 := congrFun (scr_B m c hO ⟨t.val - 1, hn 1⟩ (by change ¬(t.val - 1) % 4 = 0; omega)) (ix2 r j)
  have e2 := congrFun (scr_B m c hO ⟨t.val - 2, hn 2⟩ (by change ¬(t.val - 2) % 4 = 0; omega)) (ix2 r j)
  have e3 := congrFun (scr_A m c hO ⟨t.val - 3, hn 3⟩ (by change (t.val - 3) % 4 = 0; omega)) (ix2 r j)
  unfold sum total
  rw [Fin.sum_univ_four, ← added_at m c p hp hO ⟨t.val - 3, hn 3⟩ t 0 (by change (t.val - 3) % 4 = 0; omega) (by change (t.val - 3) / 4 = _; omega) r j,
    ← added_at m c p hp hO ⟨t.val - 2, hn 2⟩ t 1 (by change (t.val - 2) % 4 = 1; omega) (by change (t.val - 2) / 4 = _; omega) r j,
    ← added_at m c p hp hO ⟨t.val - 1, hn 1⟩ t 2 (by change (t.val - 1) % 4 = 2; omega) (by change (t.val - 1) / 4 = _; omega) r j,
    ← added_at m c p hp hO t t 3 h rfl r j]
  exact e0.trans (congrArg (· + _) (e1.trans (congrArg (· + _) (e2.trans (congrArg (· + _) e3)))))

end

/-- The last point of a tile. -/
def last (b : Fin 1) : Fin (cfgM m hO).N := ⟨4 * b.val + 3, show 4 * b.val + 3 < 4 by omega⟩

theorem sizes (a : Fin 2) : 0 < S256x2048.size a := by revert a; decide

/-- Every block of a result is some tile's. -/
theorem blocks (b : (a : Fin 2) → Fin ((S256x2048.size a + S256x2048.size a - 1) / S256x2048.size a)) :
    ∃ t : Fin (cfgM m hO).N, ∀ a : Fin 2, (![t.val / 4, 0] : Fin 2 → ℕ) a = (b a).val := by
  have h0 : (b 0).val < 1 := (b 0).isLt
  have h1 : (b 1).val < 1 := (b 1).isLt
  exact ⟨last m hO ⟨(b 0).val, h0⟩, Fin.forall_fin_two.2 ⟨by change (4 * (b 0).val + 3) / 4 = (b 0).val; omega, by change 0 = (b 1).val; omega⟩⟩

theorem covers5 : ((cfgM m hO).win 5).Covers :=
  Pipeline.Window.covers_of_index_surj _ rfl sizes fun b => (blocks m hO b).imp fun t h a => (congrFun ((idx m hO t).2.2.2.1) a).trans (h a)

theorem emb5 (t : Fin (cfgM m hO).N) (y : S256x2048.Idx) : (((cfgM m hO).win 5).blk t).view.emb y = (ix2 (row m hO t (y 0)) (y 1) : S256x2048.Idx) := by
  unfold row
  blk_ext [idx m hO t]

theorem covers6 : ((cfgM m hO).win 6).Covers :=
  Pipeline.Window.covers_of_index_surj _ rfl sizes fun b => (blocks m hO b).imp fun t h a => (congrFun (idx m hO t).2.2.2.2.1 a).trans (h a)

theorem emb6 (t : Fin (cfgM m hO).N) (y : S256x2048.Idx) : (((cfgM m hO).win 6).blk t).view.emb y = (ix2 (row m hO t (y 0)) (y 1) : S256x2048.Idx) := by
  unfold row
  blk_ext [idx m hO t]

theorem covers7 : ((cfgM m hO).win 7).Covers :=
  Pipeline.Window.covers_of_index_surj _ rfl sizes fun b => (blocks m hO b).imp fun t h a => (congrFun (idx m hO t).2.2.2.2.2.1 a).trans (h a)

theorem emb7 (t : Fin (cfgM m hO).N) (y : S256x2048.Idx) : (((cfgM m hO).win 7).blk t).view.emb y = (ix2 (row m hO t (y 0)) (y 1) : S256x2048.Idx) := by
  unfold row
  blk_ext [idx m hO t]

theorem covers8 : ((cfgM m hO).win 8).Covers :=
  Pipeline.Window.covers_of_index_surj _ rfl sizes fun b => (blocks m hO b).imp fun t h a => (congrFun (idx m hO t).2.2.2.2.2.2 a).trans (h a)

theorem emb8 (t : Fin (cfgM m hO).N) (y : S256x2048.Idx) : (((cfgM m hO).win 8).blk t).view.emb y = (ix2 (row m hO t (y 0)) (y 1) : S256x2048.Idx) := by
  unfold row
  blk_ext [idx m hO t]

section
include hp

/-- The gradient after the run. -/
theorem arr5 : (dats m hO 0 c).arrAt 5 (cfgM m hO).N = fun i : S256x2048.Idx => sum m c p (i 0) (i 1) := by
  refine (dats m hO 0 c).arrAt_eq_of_covers 5 _ (covers5 m hO) fun t hf (y : S256x2048.Idx) => ?_
  have h := (flush0_5 _ t).1 hf
  blk_simp
  rw [after0_5, (outs_last m c hO t h).1]
  refine Eq.trans ?_ (congrArg (fun i : S256x2048.Idx => sum m c p (i 0) (i 1)) (emb5 m hO t y)).symm
  idx_vars y
  exact scr_last m c p hp hO t h y0 y1

/-- What the step adds to the weights. -/
theorem arr6 : (dats m hO 0 c).arrAt 6 (cfgM m hO).N
    = fun i : S256x2048.Idx => Adam.delta (w m c i) (Adam.fst (sum m c p (i 0) (i 1)) (mo m c i)) (Adam.snd (sum m c p (i 0) (i 1)) (ve m c i)) := by
  refine (dats m hO 0 c).arrAt_eq_of_covers 6 _ (covers6 m hO) fun t hf (y : S256x2048.Idx) => ?_
  have h := (flush0_6 _ t).1 hf
  blk_simp
  rw [after0_6, (outs_last m c hO t h).2.1]
  refine Eq.trans ?_ (congrArg (fun i : S256x2048.Idx => Adam.delta (w m c i) (Adam.fst (sum m c p (i 0) (i 1)) (mo m c i)) (Adam.snd (sum m c p (i 0) (i 1)) (ve m c i))) (emb6 m hO t y)).symm
  idx_vars y
  exact (pay6_apply _ _ _ _ y0 y1).trans (by rw [scr_last m c p hp hO t h y0 y1, in2 m c hO t y0 y1, in3 m c hO t y0 y1, in4 m c hO t y0 y1])

/-- The first moments. -/
theorem arr7 : (dats m hO 0 c).arrAt 7 (cfgM m hO).N = fun i : S256x2048.Idx => Adam.fst (sum m c p (i 0) (i 1)) (mo m c i) := by
  refine (dats m hO 0 c).arrAt_eq_of_covers 7 _ (covers7 m hO) fun t hf (y : S256x2048.Idx) => ?_
  have h := (flush0_7 _ t).1 hf
  blk_simp
  rw [after0_7, (outs_last m c hO t h).2.2.1]
  refine Eq.trans ?_ (congrArg (fun i : S256x2048.Idx => Adam.fst (sum m c p (i 0) (i 1)) (mo m c i)) (emb7 m hO t y)).symm
  idx_vars y
  exact (pay4_apply _ _ y0 y1).trans (by rw [scr_last m c p hp hO t h y0 y1, in3 m c hO t y0 y1])

/-- The second moments. -/
theorem arr8 : (dats m hO 0 c).arrAt 8 (cfgM m hO).N = fun i : S256x2048.Idx => Adam.snd (sum m c p (i 0) (i 1)) (ve m c i) := by
  refine (dats m hO 0 c).arrAt_eq_of_covers 8 _ (covers8 m hO) fun t hf (y : S256x2048.Idx) => ?_
  have h := (flush0_8 _ t).1 hf
  blk_simp
  rw [after0_8, (outs_last m c hO t h).2.2.2]
  refine Eq.trans ?_ (congrArg (fun i : S256x2048.Idx => Adam.snd (sum m c p (i 0) (i 1)) (ve m c i)) (emb8 m hO t y)).symm
  idx_vars y
  exact (pay5_apply _ _ y0 y1).trans (by rw [scr_last m c p hp hO t h y0 y1, in4 m c hO t y0 y1])

end

end

section

open Cert.FinSquareIdeal Cert.FinSquareIdeal.Gen

variable {F : FTy → Type} [FloatOps F] (m : (ℓ : Loc nD τ sig) → Buf (Elt F) ℓ) (c : Dev nD)

/-- The word is the chip's index that the call is given. -/
theorem word_eq : word (tbl m) = (m ((c.tc : Thread nD τ).loc main_arg0) : S2.Idx → BitVec 32) (ix1 (1 : Fin 2)) := by
  obtain rfl : c = 0 := Subsingleton.elim _ _
  have e : (tbl m 0 : S2.Idx → BitVec 32) = m (((0 : Dev nD).tc : Thread nD τ).loc main_arg0) := V_main_arg0 m 0
  refine Eq.trans (congrArg (tbl m 0) ?_) (congrFun e _)
  blk_ext
  rfl

end

/-- The side conditions of the precondition's text. -/
theorem chipFacts : Cert.Pre_chip_square.Facts := ⟨by decide, by decide⟩

/-- The precondition says that the word is a chip's index. -/
theorem named {F : FTy → Type} [FloatOps F] (x0 : IVec Cert.Pre_chip_square.S2 32) (x1 x2 : FVec F Cert.Pre_chip_square.S4x256x2048 .bf16) (x3 x4 x5 : FVec F Cert.Pre_chip_square.S256x2048 .f32)
    (h : @Cert.Pre_chip_square.fn chipFacts F _ x0 x1 x2 x3 x4 x5 = fun _ => 1#1) : ∃ p : Fin 4, x0 (ix1 (1 : Fin 2)) = BitVec.ofNat 32 p.val := by
  refine of_bounds _ (Eq.trans ?_ (congrFun h (fun a => a.elim0)))
  pointwise [Cert.Pre_chip_square.fn]

/-- The kernel terminates without a fault and keeps its arguments. -/
theorem frame_p : Cert.quiescent_FinSquare (hPre_chip_square := chipFacts) := fun m ρ h => by
  obtain ⟨p, hp⟩ := named _ _ _ _ _ _ (h 0)
  exact Cert.FinSquare.Gen.frame m ρ (ok_of_word (F := Bits) (Cert.FinSquareIdeal.Gen.tbl (F := Bits) m) p ((word_eq (F := Bits) m 0).trans hp))

/-- So does its idealization. -/
theorem frame_pi : Cert.quiescent_FinSquareIdeal (hPre_chip_square := chipFacts) := fun m ρ h => by
  obtain ⟨p, hp⟩ := named _ _ _ _ _ _ (h 0)
  exact Cert.FinSquareIdeal.Gen.frame m ρ (ok_of_word _ p ((word_eq m 0).trans hp))

/-- The reference terminates and keeps its arguments; it has no semaphore. -/
theorem frame_ri : Cert.quiescent_FinSquareRefIdeal := fun m ρ _ =>
  (θ_run Cert.FinSquareRefIdeal.defs _ _).mono (fun r h => ⟨fun c => (h c).2.2.2.2,
      Idealize.ShloMosaic.sem_eq_zero_of_no_sems (by decide) r.2⟩)
    (Cert.FinSquareRefIdeal.Value.run (F := Ideal) m ρ)

section

open Cert.FinSquareRefIdeal.Read

variable (x0 : IVec Cert.FinSquareRefIdeal.S2 32) (x1 x2 : FVec Ideal Cert.FinSquareRefIdeal.S4x256x2048 .bf16) (w m v : FVec Ideal Cert.FinSquareRefIdeal.S256x2048 .f32)
  (p : Fin 4) (hp : x0 (ix1 (1 : Fin 2)) = BitVec.ofNat 32 p.val) (i : Fin 256) (j : Fin 2048)
include hp

/-- The reference's sum over the chips at an element. -/
theorem ref8 : val_main_v8 (F := Ideal) x0 x1 x2 (ix2 i j) = total p (fun k => x1 (ix3 k i j)) (fun k => x2 (ix3 k i j)) := by
  unfold total
  pointwise [val_main_v8, val_main_v7, val_main_v6, val_main_call0_v0, val_main_v5, val_main_v4, val_main_v3, val_main_v2, val_main_v1, val_main_v0, val_main_cst]
  refine Finset.sum_congr rfl fun k _ => ?_
  rw [hp, eq_word p k]
  by_cases h : k = p
  · rw [if_pos h, if_pos h]; rfl
  · rw [if_neg h, if_neg h]; rfl

omit hp in
/-- The first moment, of its sum. -/
theorem ref13 : val_main_v13 (F := Ideal) x0 x1 x2 m (ix2 i j) = Adam.fst (val_main_v8 (F := Ideal) x0 x1 x2 (ix2 i j)) (m (ix2 i j)) := by
  unfold Adam.fst
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

omit hp in
/-- The second moment. -/
theorem ref19 : val_main_v19 (F := Ideal) x0 x1 x2 v (ix2 i j) = Adam.snd (val_main_v8 (F := Ideal) x0 x1 x2 (ix2 i j)) (v (ix2 i j)) := by
  unfold Adam.snd
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

omit hp in
/-- What it adds to the weight. -/
theorem ref32 : val_main_v32 (F := Ideal) x0 x1 x2 w m v (ix2 i j)
    = Adam.delta (w (ix2 i j)) (Adam.fst (val_main_v8 (F := Ideal) x0 x1 x2 (ix2 i j)) (m (ix2 i j))) (Adam.snd (val_main_v8 (F := Ideal) x0 x1 x2 (ix2 i j)) (v (ix2 i j))) := by
  unfold Adam.delta Adam.fst Adam.snd
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

end

open Cert.FinSquareIdeal Cert.FinSquareIdeal.Gen in
/-- The kernel's idealization ends with its arrays of results, its arguments kept. -/
theorem run (m : (ℓ : Loc nD τ sig) → Buf (Elt Ideal) ℓ) (g : Dev nD → PrngReg) (hO : Ok m) :
    θ_run defs (onTc (τ := τ) (main (F := Ideal))) ⟨m, fun _ => 0, g⟩ (fun r => ∀ c : Dev nD,
      r.2.mem ((c.tc : Thread nD τ).loc main_v0_0) = (dats m hO 0 c).arrAt 5 (cfgM m hO).N
      ∧ r.2.mem ((c.tc : Thread nD τ).loc main_v0_1) = (dats m hO 0 c).arrAt 6 (cfgM m hO).N
      ∧ r.2.mem ((c.tc : Thread nD τ).loc main_v0_2) = (dats m hO 0 c).arrAt 7 (cfgM m hO).N
      ∧ r.2.mem ((c.tc : Thread nD τ).loc main_v0_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.2 c).1 5, (h.2 c).1 6, (h.2 c).1 7, (h.2 c).1 8, h.1 c⟩)
    (θ_run_and (unchanged m g hO) (run_main m g hO))

/-- What the kernel's idealization ends with is the reference's sum over the chips and its step. -/
theorem algebraic : Cert.algebraic_FinSquareIdeal_FinSquareRefIdeal (hPre_chip_square := chipFacts) := by
  intro m g m' g' hpre hagree
  obtain ⟨p, hp0⟩ := named _ _ _ _ _ _ (hpre 0)
  have hp := (word_eq m 0).trans hp0
  have hO : Cert.FinSquareIdeal.Gen.Ok m := ok_of_word _ p hp
  have hc : ∀ c : Dev Cert.FinSquareIdeal.nD, (m ((c.tc : Thread Cert.FinSquareIdeal.nD Cert.FinSquareIdeal.τ).loc Cert.FinSquareIdeal.main_arg0) : Cert.FinSquareIdeal.S2.Idx → BitVec 32) (ix1 (1 : Fin 2)) = BitVec.ofNat 32 p.val :=
    fun c => (word_eq m c).symm.trans hp
  refine ⟨fun c => (Cert.FinSquareIdeal.Gen.dats m hO 0 c).arrAt 5 (Cert.FinSquareIdeal.Gen.cfgM m hO).N, fun c => (Cert.FinSquareIdeal.Gen.dats m hO 0 c).arrAt 6 (Cert.FinSquareIdeal.Gen.cfgM m hO).N,
    fun c => (Cert.FinSquareIdeal.Gen.dats m hO 0 c).arrAt 7 (Cert.FinSquareIdeal.Gen.cfgM m hO).N, fun c => (Cert.FinSquareIdeal.Gen.dats m hO 0 c).arrAt 8 (Cert.FinSquareIdeal.Gen.cfgM m hO).N, run m g hO, ?_⟩
  refine (θ_run Cert.FinSquareRefIdeal.defs _ _).mono (fun r h c => ?_) (Cert.FinSquareRefIdeal.Value.run (F := Ideal) m' g')
  obtain ⟨h0, h1, h2, h3, h4, h5⟩ := hagree c
  refine ⟨(h c).1.trans ?_, (h c).2.1.trans ?_, (h c).2.2.1.trans ?_, (h c).2.2.2.1.trans ?_, (h c).2.2.2.2⟩
  · rw [Cert.FinSquareRefIdeal.Read.val_main_v8_eq, h0, h1, h2]
    refine Eq.trans ?_ (arr5 m c p hp hO).symm
    funext j
    idx_vars j
    exact ref8 _ _ _ p (hc c) _ _
  · rw [Cert.FinSquareRefIdeal.Read.val_main_v32_eq, h0, h1, h2, h3, h4, h5]
    refine Eq.trans ?_ (arr6 m c p hp hO).symm
    funext j
    idx_vars j
    exact (ref32 _ _ _ _ _ _ _ _).trans (by rw [ref8 _ _ _ p (hc c)]; rfl)
  · rw [Cert.FinSquareRefIdeal.Read.val_main_v13_eq, h0, h1, h2, h4]
    refine Eq.trans ?_ (arr7 m c p hp hO).symm
    funext j
    idx_vars j
    exact (ref13 _ _ _ _ _ _).trans (by rw [ref8 _ _ _ p (hc c)]; rfl)
  · rw [Cert.FinSquareRefIdeal.Read.val_main_v19_eq, h0, h1, h2, h5]
    refine Eq.trans ?_ (arr8 m c p hp hO).symm
    funext j
    idx_vars j
    exact (ref19 _ _ _ _ _ _).trans (by rw [ref8 _ _ _ p (hc c)]; rfl)

end Cert.FinishSquare

end
-- ==== Proof.FinishFfn.lean ====
/-
  The last call of a feed-forward weight: the four chips' parts of the gradient added and the optimiser's step.
-/
module

public import proofs.«01_k».proof.Proof.Gen.FinFfn.Frame
public import proofs.«01_k».proof.Proof.Gen.FinFfnIdeal.Frame
public import proofs.«01_k».proof.Proof.Gen.FinFfnRefIdeal.Read
public import proofs.«01_k».proof.Proof.Gen.FinFfnRefIdeal.Run
public import proofs.«01_k».proof.Defs
public import proofs.«01_k».proof.Proof.ChipWord
public import proofs.«01_k».proof.Proof.AdamStep
public import Idealize.ShloMosaic.Lib.Pipeline.Covers
public import Idealize.ShloMosaic.Lib.Pipeline.ReadBack

@[expose] public section

set_option maxRecDepth 16384

noncomputable section

namespace Cert.FinishFfn

open Idealize.ShloMosaic Idealize.SL.Sem Cert.Chip

section

open Cert.FinFfnIdeal Cert.FinFfnIdeal.Gen

section

variable {F : FTy → Type} [FloatOps F]

/-- The chip's index as the index maps read it. -/
abbrev word (pf : pre0.Contents (Elt F)) : BitVec 32 := pf.at 0 (Rect.unit (s := S2) ![1] S1.size inb_S2_S1_1) numel1_S1

/-- The block of the chips' own parts that a point holds. -/
theorem own_index (pf : pre0.Contents (Elt F)) (p : Fin 4) (hp : word pf = BitVec.ofNat 32 p.val) (i : grid0.Coords) :
    cc0_transform_0 inb_S2_S1_1 numel1_S1 pf i = ![p.val, (i 0).val, 0] := by
  have e : ∀ (p : Fin 4) (a : Fin 2), ![(BitVec.ofNat 32 p.val).toNat, (BitVec.ofNat 32 a.val).toNat, (0#32).toNat] = ![p.val, a.val, 0] := by decide
  refine Eq.trans ?_ (e p (i 0))
  exact congrArg (fun b : BitVec 32 => (![b.toNat, (BitVec.ofNat 32 (i 0).val).toNat, (0#32).toNat] : Fin 3 → Nat)) hp

/-- The block of the landed parts that a point holds. -/
theorem land_index (pf : pre0.Contents (Elt F)) (p : Fin 4) (hp : word pf = BitVec.ofNat 32 p.val) (i : grid0.Coords) :
    cc0_transform_1 inb_S2_S1_1 numel1_S1 pf i = ![(other p (i 1)).val, (i 0).val, 0] := by
  unfold cc0_transform_1
  rw [show pf.at 0 (Rect.unit (s := S2) ![1] S1.size inb_S2_S1_1) numel1_S1 = BitVec.ofNat 32 p.val from hp]
  generalize i 1 = k
  generalize i 0 = a
  change Fin 4 at k
  change Fin 2 at a
  clear hp
  revert p k a
  decide

/-- With the word a chip's index, every block lies inside its array. -/
theorem ok_of_word (pf : pre0.Contents (Elt F)) (p : Fin 4) (hp : word pf = BitVec.ofNat 32 p.val) : ok0 pf := by
  refine ⟨fun i => ?_, fun i => ?_⟩
  · rw [own_index pf p hp i]
    generalize i 0 = a
    change Fin 2 at a
    clear hp
    revert p a
    decide +kernel
  · rw [land_index pf p hp i]
    generalize other p (i 1) = k
    generalize i 0 = a
    change Fin 2 at a
    revert k a
    decide

end

section
variable (x0 x1 x2 x3 : Vec Ideal S352x2048 .f32) (i : Fin 352) (j : Fin 2048)

/-- The first moment, the second, and what the step adds, at an element. -/
theorem pay4_apply : k0_pay4 x0 x1 (ix2 i j) = Adam.fst (x0 (ix2 i j)) (x1 (ix2 i j)) := by
  unfold Adam.fst
  pointwise [k0_pay4]

theorem pay5_apply : k0_pay5 x0 x1 (ix2 i j) = Adam.snd (x0 (ix2 i j)) (x1 (ix2 i j)) := by
  unfold Adam.snd
  pointwise [k0_pay5]

theorem pay6_apply : k0_pay6 x0 x1 x2 x3 (ix2 i j) = Adam.delta (x1 (ix2 i j)) (Adam.fst (x0 (ix2 i j)) (x2 (ix2 i j))) (Adam.snd (x0 (ix2 i j)) (x3 (ix2 i j))) := by
  unfold Adam.delta Adam.fst Adam.snd
  pointwise [k0_pay6, k0_pay5, k0_pay4]

end

variable (m : (ℓ : Loc nD τ sig) → Buf (Elt Ideal) ℓ) (c : Dev nD)

/-- The arguments: the chip's index, the chips' own and landed parts, the weights and the two moments. -/
abbrev pos : S2.Idx → BitVec 32 := m ((c.tc : Thread nD τ).loc main_arg0)
abbrev pair : S4x704x2048.Idx → EReal := m ((c.tc : Thread nD τ).loc main_arg1)
abbrev landed : S4x704x2048.Idx → EReal := m ((c.tc : Thread nD τ).loc main_arg2)
abbrev w : S704x2048.Idx → EReal := m ((c.tc : Thread nD τ).loc main_arg3)
abbrev mo : S704x2048.Idx → EReal := m ((c.tc : Thread nD τ).loc main_arg4)
abbrev ve : S704x2048.Idx → EReal := m ((c.tc : Thread nD τ).loc main_arg5)

variable (p : Fin 4) (hp : word (tbl m) = BitVec.ofNat 32 p.val) (hO : Ok m)

/-- The chip whose part a point adds, and the row of the array that a row of the point's block is. -/
def chip (t : Fin (cfgM m hO).N) : Fin 4 := ⟨t.val % 4, Nat.mod_lt _ (by decide)⟩
def row (t : Fin (cfgM m hO).N) (r : Fin 352) : Fin 704 := ⟨t.val / 4 * 352 + r.val, by have ht : t.val < 8 := t.isLt; omega⟩

theorem coords0 (t : Fin grid0.N) : (grid0.coords t 0).val = t.val / 4 ∧ (grid0.coords t 1).val = t.val % 4 := by
  revert t; decide +kernel

theorem tile (t : Fin grid0.N) : cc0_transform_2 (grid0.coords t) = ![t.val / 4, 0] := by
  revert t; decide +kernel

/-- Which block each window of one chip's arrays holds at a point. -/
theorem idx (t : Fin (cfgM m hO).N) : ((cfgM m hO).win 2).index t = ![t.val / 4, 0] ∧ ((cfgM m hO).win 3).index t = ![t.val / 4, 0]
    ∧ ((cfgM m hO).win 4).index t = ![t.val / 4, 0] ∧ ((cfgM m hO).win 5).index t = ![t.val / 4, 0] ∧ ((cfgM m hO).win 6).index t = ![t.val / 4, 0]
    ∧ ((cfgM m hO).win 7).index t = ![t.val / 4, 0] ∧ ((cfgM m hO).win 8).index t = ![t.val / 4, 0] :=
  ⟨tile t, tile t, tile t, tile t, tile t, tile t, tile t⟩

theorem in2 (t : Fin (cfgM m hO).N) (r : Fin 352) (j : Fin 2048) : (iblk m hO c 2 t : S352x2048.Idx → EReal) (ix2 r j) = w m c (ix2 (row m hO t r) j) := by
  unfold row
  blk_ext [iblk, V, idx m hO t]

theorem in3 (t : Fin (cfgM m hO).N) (r : Fin 352) (j : Fin 2048) : (iblk m hO c 3 t : S352x2048.Idx → EReal) (ix2 r j) = mo m c (ix2 (row m hO t r) j) := by
  unfold row
  blk_ext [iblk, V, idx m hO t]

theorem in4 (t : Fin (cfgM m hO).N) (r : Fin 352) (j : Fin 2048) : (iblk m hO c 4 t : S352x2048.Idx → EReal) (ix2 r j) = ve m c (ix2 (row m hO t r) j) := by
  unfold row
  blk_ext [iblk, V, idx m hO t]

/-- What a point adds: the chip's part. -/
def added (t : Fin (cfgM m hO).N) : S352x2048.Idx → EReal := k0_pay1 (grid0.coords t) (word (tbl m)) (iblk m hO c 0 t) (iblk m hO c 1 t)

/-- What the scratch holds after a point. -/
def scr (n : ℕ) (hn : n < (cfgM m hO).N) : S352x2048.Idx → EReal := (outsAt0 m hO c n hn).2.2.2.2

theorem scr_A (t : Fin (cfgM m hO).N) (h0 : t.val % 4 = 0) : scr m c hO t.val t.isLt = added m c hO t := by
  have ht : t.val < 8 := t.isLt
  unfold scr added
  rw [outsAt0_A m hO c t h0 (by omega) (by omega)]
  frame_open
  simp (disch := decide) only [↓ View.readCov_skip, ↓ View.readCov_cons_toLoadRect, ↓ View.readCov_fill]
  frame_out
  funext y
  idx_vars y
  pointwise [k0_pay2]
  exact congrFun (congrArg₂ (k0_pay1 _ _) ((hs0_0 m hO t).read_unread _) ((hs0_1 m hO t).read_unread _)) _

theorem scr_B (t : Fin (cfgM m hO).N) (h0 : ¬t.val % 4 = 0) :
    scr m c hO t.val t.isLt = fun y => scr m c hO (t.val - 1) (Nat.lt_of_le_of_lt (Nat.sub_le _ _) t.isLt) y + added m c hO t y := by
  have ht : t.val < 8 := t.isLt
  unfold scr added
  by_cases h2 : t.val % 4 = 3
  · rw [outsAt0_C m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)
  · rw [outsAt0_B m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)

/-- What a tile's last point leaves: the sum, the step, and the two moments. -/
theorem outs_last (t : Fin (cfgM m hO).N) (h2 : t.val % 4 = 3) :
    (outsAt0 m hO c t.val t.isLt).1 = scr m c hO t.val t.isLt
    ∧ (outsAt0 m hO c t.val t.isLt).2.1 = k0_pay6 (scr m c hO t.val t.isLt) (iblk m hO c 2 t) (iblk m hO c 3 t) (iblk m hO c 4 t)
    ∧ (outsAt0 m hO c t.val t.isLt).2.2.1 = k0_pay4 (scr m c hO t.val t.isLt) (iblk m hO c 3 t)
    ∧ (outsAt0 m hO c t.val t.isLt).2.2.2.1 = k0_pay5 (scr m c hO t.val t.isLt) (iblk m hO c 4 t) := by
  have ht : t.val < 8 := t.isLt
  unfold scr
  rw [outsAt0_C m hO c t (by omega) (by omega) h2]
  frame_open
  simp (disch := decide) only [↓ View.readCov_skip, ↓ View.readCov_cons_toLoadRect, ↓ View.readCov_fill]
  frame_out
  exact ⟨trivial, congr (congr (congrArg (k0_pay6 _) ((hs0_2 m hO t).read_unread _)) ((hs0_3 m hO t).read_unread _)) ((hs0_4 m hO t).read_unread _),
    congrArg (k0_pay4 _) ((hs0_3 m hO t).read_unread _), congrArg (k0_pay5 _) ((hs0_4 m hO t).read_unread _)⟩

section
include hp

theorem idx0 (t : Fin (cfgM m hO).N) : ((cfgM m hO).win 0).index t = ![p.val, t.val / 4, 0] :=
  (own_index (tbl m) p hp (grid0.coords t)).trans (by rw [(coords0 t).1])

theorem idx1 (t : Fin (cfgM m hO).N) : ((cfgM m hO).win 1).index t = ![(other p (chip m hO t)).val, t.val / 4, 0] :=
  (land_index (tbl m) p hp (grid0.coords t)).trans (by rw [(coords0 t).1, show grid0.coords t 1 = chip m hO t from Fin.ext (coords0 t).2])

theorem in0 (t : Fin (cfgM m hO).N) (r : Fin 352) (j : Fin 2048) : (iblk m hO c 0 t : S1x352x2048.Idx → EReal) (ix3 0 r j) = pair m c (ix3 p (row m hO t r) j) := by
  unfold row
  blk_ext [iblk, V, idx0 m p hp hO t]

theorem in1 (t : Fin (cfgM m hO).N) (r : Fin 352) (j : Fin 2048) : (iblk m hO c 1 t : S1x352x2048.Idx → EReal) (ix3 0 r j) = landed m c (ix3 (other p (chip m hO t)) (row m hO t r) j) := by
  unfold row
  blk_ext [iblk, V, idx1 m p hp hO t]

theorem added_apply (t : Fin (cfgM m hO).N) (r : Fin 352) (j : Fin 2048) :
    added m c hO t (ix2 r j) = if chip m hO t = p then pair m c (ix3 (chip m hO t) (row m hO t r) j) else landed m c (ix3 (chip m hO t) (row m hO t r) j) := by
  unfold added
  rw [hp]
  pointwise [k0_pay1]
  rw [in0 m c p hp hO t r j, in1 m c p hp hO t r j, show (grid0.coords t 1).val = (chip m hO t).val from (coords0 t).2]
  refine (congrArg (fun b => Scalar.select b _ _) (eq_word p (chip m hO t))).trans ?_
  by_cases h : chip m hO t = p
  · rw [if_pos h, if_pos h, h]; rfl
  · rw [if_neg h, if_neg h, other_ne p _ h]; rfl

/-- The same at a point of a tile, named by its chip and by another point of the tile. -/
theorem added_at (s t : Fin (cfgM m hO).N) (k : Fin 4) (hs : s.val % 4 = k.val) (ht : s.val / 4 = t.val / 4) (r : Fin 352) (j : Fin 2048) :
    added m c hO s (ix2 r j) = if k = p then pair m c (ix3 k (row m hO t r) j) else landed m c (ix3 k (row m hO t r) j) := by
  rw [added_apply m c p hp hO s r j, show chip m hO s = k from Fin.ext hs, show row m hO s r = row m hO t r from Fin.ext (by change s.val / 4 * 352 + r.val = t.val / 4 * 352 + r.val; rw [ht])]

/-- The gradient's element: the sum over the chips. -/
def sum (i : Fin 704) (j : Fin 2048) : EReal := total p (fun k => pair m c (ix3 k i j)) (fun k => landed m c (ix3 k i j))

/-- After a tile's last point the scratch holds the sum over the chips. -/
theorem scr_last (t : Fin (cfgM m hO).N) (h : t.val % 4 = 3) (r : Fin 352) (j : Fin 2048) :
    scr m c hO t.val t.isLt (ix2 r j) = sum m c p (row m hO t r) j := by
  have hn : ∀ k, t.val - k < (cfgM m hO).N := fun k => Nat.lt_of_le_of_lt (Nat.sub_le _ _) t.isLt
  have e0 := congrFun (scr_B m c hO t (by omega)) (ix2 r j)
  have e1 := congrFun (scr_B m c hO ⟨t.val - 1, hn 1⟩ (by change ¬(t.val - 1) % 4 = 0; omega)) (ix2 r j)
  have e2 := congrFun (scr_B m c hO ⟨t.val - 2, hn 2⟩ (by change ¬(t.val - 2) % 4 = 0; omega)) (ix2 r j)
  have e3 := congrFun (scr_A m c hO ⟨t.val - 3, hn 3⟩ (by change (t.val - 3) % 4 = 0; omega)) (ix2 r j)
  unfold sum total
  rw [Fin.sum_univ_four, ← added_at m c p hp hO ⟨t.val - 3, hn 3⟩ t 0 (by change (t.val - 3) % 4 = 0; omega) (by change (t.val - 3) / 4 = _; omega) r j,
    ← added_at m c p hp hO ⟨t.val - 2, hn 2⟩ t 1 (by change (t.val - 2) % 4 = 1; omega) (by change (t.val - 2) / 4 = _; omega) r j,
    ← added_at m c p hp hO ⟨t.val - 1, hn 1⟩ t 2 (by change (t.val - 1) % 4 = 2; omega) (by change (t.val - 1) / 4 = _; omega) r j,
    ← added_at m c p hp hO t t 3 h rfl r j]
  exact e0.trans (congrArg (· + _) (e1.trans (congrArg (· + _) (e2.trans (congrArg (· + _) e3)))))

end

/-- The last point of a tile. -/
def last (b : Fin 2) : Fin (cfgM m hO).N := ⟨4 * b.val + 3, show 4 * b.val + 3 < 8 by omega⟩

theorem sizes (a : Fin 2) : 0 < S352x2048.size a := by revert a; decide

/-- Every block of a result is some tile's. -/
theorem blocks (b : (a : Fin 2) → Fin ((S704x2048.size a + S352x2048.size a - 1) / S352x2048.size a)) :
    ∃ t : Fin (cfgM m hO).N, ∀ a : Fin 2, (![t.val / 4, 0] : Fin 2 → ℕ) a = (b a).val := by
  have h0 : (b 0).val < 2 := (b 0).isLt
  have h1 : (b 1).val < 1 := (b 1).isLt
  exact ⟨last m hO ⟨(b 0).val, h0⟩, Fin.forall_fin_two.2 ⟨by change (4 * (b 0).val + 3) / 4 = (b 0).val; omega, by change 0 = (b 1).val; omega⟩⟩

theorem covers5 : ((cfgM m hO).win 5).Covers :=
  Pipeline.Window.covers_of_index_surj _ rfl sizes fun b => (blocks m hO b).imp fun t h a => (congrFun ((idx m hO t).2.2.2.1) a).trans (h a)

theorem emb5 (t : Fin (cfgM m hO).N) (y : S352x2048.Idx) : (((cfgM m hO).win 5).blk t).view.emb y = (ix2 (row m hO t (y 0)) (y 1) : S704x2048.Idx) := by
  unfold row
  blk_ext [idx m hO t]

theorem covers6 : ((cfgM m hO).win 6).Covers :=
  Pipeline.Window.covers_of_index_surj _ rfl sizes fun b => (blocks m hO b).imp fun t h a => (congrFun (idx m hO t).2.2.2.2.1 a).trans (h a)

theorem emb6 (t : Fin (cfgM m hO).N) (y : S352x2048.Idx) : (((cfgM m hO).win 6).blk t).view.emb y = (ix2 (row m hO t (y 0)) (y 1) : S704x2048.Idx) := by
  unfold row
  blk_ext [idx m hO t]

theorem covers7 : ((cfgM m hO).win 7).Covers :=
  Pipeline.Window.covers_of_index_surj _ rfl sizes fun b => (blocks m hO b).imp fun t h a => (congrFun (idx m hO t).2.2.2.2.2.1 a).trans (h a)

theorem emb7 (t : Fin (cfgM m hO).N) (y : S352x2048.Idx) : (((cfgM m hO).win 7).blk t).view.emb y = (ix2 (row m hO t (y 0)) (y 1) : S704x2048.Idx) := by
  unfold row
  blk_ext [idx m hO t]

theorem covers8 : ((cfgM m hO).win 8).Covers :=
  Pipeline.Window.covers_of_index_surj _ rfl sizes fun b => (blocks m hO b).imp fun t h a => (congrFun (idx m hO t).2.2.2.2.2.2 a).trans (h a)

theorem emb8 (t : Fin (cfgM m hO).N) (y : S352x2048.Idx) : (((cfgM m hO).win 8).blk t).view.emb y = (ix2 (row m hO t (y 0)) (y 1) : S704x2048.Idx) := by
  unfold row
  blk_ext [idx m hO t]

section
include hp

/-- The gradient after the run. -/
theorem arr5 : (dats m hO 0 c).arrAt 5 (cfgM m hO).N = fun i : S704x2048.Idx => sum m c p (i 0) (i 1) := by
  refine (dats m hO 0 c).arrAt_eq_of_covers 5 _ (covers5 m hO) fun t hf (y : S352x2048.Idx) => ?_
  have h := (flush0_5 _ t).1 hf
  blk_simp
  rw [after0_5, (outs_last m c hO t h).1]
  refine Eq.trans ?_ (congrArg (fun i : S704x2048.Idx => sum m c p (i 0) (i 1)) (emb5 m hO t y)).symm
  idx_vars y
  exact scr_last m c p hp hO t h y0 y1

/-- What the step adds to the weights. -/
theorem arr6 : (dats m hO 0 c).arrAt 6 (cfgM m hO).N
    = fun i : S704x2048.Idx => Adam.delta (w m c i) (Adam.fst (sum m c p (i 0) (i 1)) (mo m c i)) (Adam.snd (sum m c p (i 0) (i 1)) (ve m c i)) := by
  refine (dats m hO 0 c).arrAt_eq_of_covers 6 _ (covers6 m hO) fun t hf (y : S352x2048.Idx) => ?_
  have h := (flush0_6 _ t).1 hf
  blk_simp
  rw [after0_6, (outs_last m c hO t h).2.1]
  refine Eq.trans ?_ (congrArg (fun i : S704x2048.Idx => Adam.delta (w m c i) (Adam.fst (sum m c p (i 0) (i 1)) (mo m c i)) (Adam.snd (sum m c p (i 0) (i 1)) (ve m c i))) (emb6 m hO t y)).symm
  idx_vars y
  exact (pay6_apply _ _ _ _ y0 y1).trans (by rw [scr_last m c p hp hO t h y0 y1, in2 m c hO t y0 y1, in3 m c hO t y0 y1, in4 m c hO t y0 y1])

/-- The first moments. -/
theorem arr7 : (dats m hO 0 c).arrAt 7 (cfgM m hO).N = fun i : S704x2048.Idx => Adam.fst (sum m c p (i 0) (i 1)) (mo m c i) := by
  refine (dats m hO 0 c).arrAt_eq_of_covers 7 _ (covers7 m hO) fun t hf (y : S352x2048.Idx) => ?_
  have h := (flush0_7 _ t).1 hf
  blk_simp
  rw [after0_7, (outs_last m c hO t h).2.2.1]
  refine Eq.trans ?_ (congrArg (fun i : S704x2048.Idx => Adam.fst (sum m c p (i 0) (i 1)) (mo m c i)) (emb7 m hO t y)).symm
  idx_vars y
  exact (pay4_apply _ _ y0 y1).trans (by rw [scr_last m c p hp hO t h y0 y1, in3 m c hO t y0 y1])

/-- The second moments. -/
theorem arr8 : (dats m hO 0 c).arrAt 8 (cfgM m hO).N = fun i : S704x2048.Idx => Adam.snd (sum m c p (i 0) (i 1)) (ve m c i) := by
  refine (dats m hO 0 c).arrAt_eq_of_covers 8 _ (covers8 m hO) fun t hf (y : S352x2048.Idx) => ?_
  have h := (flush0_8 _ t).1 hf
  blk_simp
  rw [after0_8, (outs_last m c hO t h).2.2.2]
  refine Eq.trans ?_ (congrArg (fun i : S704x2048.Idx => Adam.snd (sum m c p (i 0) (i 1)) (ve m c i)) (emb8 m hO t y)).symm
  idx_vars y
  exact (pay5_apply _ _ y0 y1).trans (by rw [scr_last m c p hp hO t h y0 y1, in4 m c hO t y0 y1])

end

end

section

open Cert.FinFfnIdeal Cert.FinFfnIdeal.Gen

variable {F : FTy → Type} [FloatOps F] (m : (ℓ : Loc nD τ sig) → Buf (Elt F) ℓ) (c : Dev nD)

/-- The word is the chip's index that the call is given. -/
theorem word_eq : word (tbl m) = (m ((c.tc : Thread nD τ).loc main_arg0) : S2.Idx → BitVec 32) (ix1 (1 : Fin 2)) := by
  obtain rfl : c = 0 := Subsingleton.elim _ _
  have e : (tbl m 0 : S2.Idx → BitVec 32) = m (((0 : Dev nD).tc : Thread nD τ).loc main_arg0) := V_main_arg0 m 0
  refine Eq.trans (congrArg (tbl m 0) ?_) (congrFun e _)
  blk_ext
  rfl

end

/-- The side conditions of the precondition's text. -/
theorem chipFacts : Cert.Pre_chip_ffn.Facts := ⟨by decide, by decide⟩

/-- The precondition says that the word is a chip's index. -/
theorem named {F : FTy → Type} [FloatOps F] (x0 : IVec Cert.Pre_chip_ffn.S2 32) (x1 x2 : FVec F Cert.Pre_chip_ffn.S4x704x2048 .bf16) (x3 x4 x5 : FVec F Cert.Pre_chip_ffn.S704x2048 .f32)
    (h : @Cert.Pre_chip_ffn.fn chipFacts F _ x0 x1 x2 x3 x4 x5 = fun _ => 1#1) : ∃ p : Fin 4, x0 (ix1 (1 : Fin 2)) = BitVec.ofNat 32 p.val := by
  refine of_bounds _ (Eq.trans ?_ (congrFun h (fun a => a.elim0)))
  pointwise [Cert.Pre_chip_ffn.fn]

/-- The kernel terminates without a fault and keeps its arguments. -/
theorem frame_p : Cert.quiescent_FinFfn (hPre_chip_ffn := chipFacts) := fun m ρ h => by
  obtain ⟨p, hp⟩ := named _ _ _ _ _ _ (h 0)
  exact Cert.FinFfn.Gen.frame m ρ (ok_of_word (F := Bits) (Cert.FinFfnIdeal.Gen.tbl (F := Bits) m) p ((word_eq (F := Bits) m 0).trans hp))

/-- So does its idealization. -/
theorem frame_pi : Cert.quiescent_FinFfnIdeal (hPre_chip_ffn := chipFacts) := fun m ρ h => by
  obtain ⟨p, hp⟩ := named _ _ _ _ _ _ (h 0)
  exact Cert.FinFfnIdeal.Gen.frame m ρ (ok_of_word _ p ((word_eq m 0).trans hp))

/-- The reference terminates and keeps its arguments; it has no semaphore. -/
theorem frame_ri : Cert.quiescent_FinFfnRefIdeal := fun m ρ _ =>
  (θ_run Cert.FinFfnRefIdeal.defs _ _).mono (fun r h => ⟨fun c => (h c).2.2.2.2,
      Idealize.ShloMosaic.sem_eq_zero_of_no_sems (by decide) r.2⟩)
    (Cert.FinFfnRefIdeal.Value.run (F := Ideal) m ρ)

section

open Cert.FinFfnRefIdeal.Read

variable (x0 : IVec Cert.FinFfnRefIdeal.S2 32) (x1 x2 : FVec Ideal Cert.FinFfnRefIdeal.S4x704x2048 .bf16) (w m v : FVec Ideal Cert.FinFfnRefIdeal.S704x2048 .f32)
  (p : Fin 4) (hp : x0 (ix1 (1 : Fin 2)) = BitVec.ofNat 32 p.val) (i : Fin 704) (j : Fin 2048)
include hp

/-- The reference's sum over the chips at an element. -/
theorem ref8 : val_main_v8 (F := Ideal) x0 x1 x2 (ix2 i j) = total p (fun k => x1 (ix3 k i j)) (fun k => x2 (ix3 k i j)) := by
  unfold total
  pointwise [val_main_v8, val_main_v7, val_main_v6, val_main_call0_v0, val_main_v5, val_main_v4, val_main_v3, val_main_v2, val_main_v1, val_main_v0, val_main_cst]
  refine Finset.sum_congr rfl fun k _ => ?_
  rw [hp, eq_word p k]
  by_cases h : k = p
  · rw [if_pos h, if_pos h]; rfl
  · rw [if_neg h, if_neg h]; rfl

omit hp in
/-- The first moment, of its sum. -/
theorem ref13 : val_main_v13 (F := Ideal) x0 x1 x2 m (ix2 i j) = Adam.fst (val_main_v8 (F := Ideal) x0 x1 x2 (ix2 i j)) (m (ix2 i j)) := by
  unfold Adam.fst
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

omit hp in
/-- The second moment. -/
theorem ref19 : val_main_v19 (F := Ideal) x0 x1 x2 v (ix2 i j) = Adam.snd (val_main_v8 (F := Ideal) x0 x1 x2 (ix2 i j)) (v (ix2 i j)) := by
  unfold Adam.snd
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

omit hp in
/-- What it adds to the weight. -/
theorem ref32 : val_main_v32 (F := Ideal) x0 x1 x2 w m v (ix2 i j)
    = Adam.delta (w (ix2 i j)) (Adam.fst (val_main_v8 (F := Ideal) x0 x1 x2 (ix2 i j)) (m (ix2 i j))) (Adam.snd (val_main_v8 (F := Ideal) x0 x1 x2 (ix2 i j)) (v (ix2 i j))) := by
  unfold Adam.delta Adam.fst Adam.snd
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

end

open Cert.FinFfnIdeal Cert.FinFfnIdeal.Gen in
/-- The kernel's idealization ends with its arrays of results, its arguments kept. -/
theorem run (m : (ℓ : Loc nD τ sig) → Buf (Elt Ideal) ℓ) (g : Dev nD → PrngReg) (hO : Ok m) :
    θ_run defs (onTc (τ := τ) (main (F := Ideal))) ⟨m, fun _ => 0, g⟩ (fun r => ∀ c : Dev nD,
      r.2.mem ((c.tc : Thread nD τ).loc main_v0_0) = (dats m hO 0 c).arrAt 5 (cfgM m hO).N
      ∧ r.2.mem ((c.tc : Thread nD τ).loc main_v0_1) = (dats m hO 0 c).arrAt 6 (cfgM m hO).N
      ∧ r.2.mem ((c.tc : Thread nD τ).loc main_v0_2) = (dats m hO 0 c).arrAt 7 (cfgM m hO).N
      ∧ r.2.mem ((c.tc : Thread nD τ).loc main_v0_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.2 c).1 5, (h.2 c).1 6, (h.2 c).1 7, (h.2 c).1 8, h.1 c⟩)
    (θ_run_and (unchanged m g hO) (run_main m g hO))

/-- What the kernel's idealization ends with is the reference's sum over the chips and its step. -/
theorem algebraic : Cert.algebraic_FinFfnIdeal_FinFfnRefIdeal (hPre_chip_ffn := chipFacts) := by
  intro m g m' g' hpre hagree
  obtain ⟨p, hp0⟩ := named _ _ _ _ _ _ (hpre 0)
  have hp := (word_eq m 0).trans hp0
  have hO : Cert.FinFfnIdeal.Gen.Ok m := ok_of_word _ p hp
  have hc : ∀ c : Dev Cert.FinFfnIdeal.nD, (m ((c.tc : Thread Cert.FinFfnIdeal.nD Cert.FinFfnIdeal.τ).loc Cert.FinFfnIdeal.main_arg0) : Cert.FinFfnIdeal.S2.Idx → BitVec 32) (ix1 (1 : Fin 2)) = BitVec.ofNat 32 p.val :=
    fun c => (word_eq m c).symm.trans hp
  refine ⟨fun c => (Cert.FinFfnIdeal.Gen.dats m hO 0 c).arrAt 5 (Cert.FinFfnIdeal.Gen.cfgM m hO).N, fun c => (Cert.FinFfnIdeal.Gen.dats m hO 0 c).arrAt 6 (Cert.FinFfnIdeal.Gen.cfgM m hO).N,
    fun c => (Cert.FinFfnIdeal.Gen.dats m hO 0 c).arrAt 7 (Cert.FinFfnIdeal.Gen.cfgM m hO).N, fun c => (Cert.FinFfnIdeal.Gen.dats m hO 0 c).arrAt 8 (Cert.FinFfnIdeal.Gen.cfgM m hO).N, run m g hO, ?_⟩
  refine (θ_run Cert.FinFfnRefIdeal.defs _ _).mono (fun r h c => ?_) (Cert.FinFfnRefIdeal.Value.run (F := Ideal) m' g')
  obtain ⟨h0, h1, h2, h3, h4, h5⟩ := hagree c
  refine ⟨(h c).1.trans ?_, (h c).2.1.trans ?_, (h c).2.2.1.trans ?_, (h c).2.2.2.1.trans ?_, (h c).2.2.2.2⟩
  · rw [Cert.FinFfnRefIdeal.Read.val_main_v8_eq, h0, h1, h2]
    refine Eq.trans ?_ (arr5 m c p hp hO).symm
    funext j
    idx_vars j
    exact ref8 _ _ _ p (hc c) _ _
  · rw [Cert.FinFfnRefIdeal.Read.val_main_v32_eq, h0, h1, h2, h3, h4, h5]
    refine Eq.trans ?_ (arr6 m c p hp hO).symm
    funext j
    idx_vars j
    exact (ref32 _ _ _ _ _ _ _ _).trans (by rw [ref8 _ _ _ p (hc c)]; rfl)
  · rw [Cert.FinFfnRefIdeal.Read.val_main_v13_eq, h0, h1, h2, h4]
    refine Eq.trans ?_ (arr7 m c p hp hO).symm
    funext j
    idx_vars j
    exact (ref13 _ _ _ _ _ _).trans (by rw [ref8 _ _ _ p (hc c)]; rfl)
  · rw [Cert.FinFfnRefIdeal.Read.val_main_v19_eq, h0, h1, h2, h5]
    refine Eq.trans ?_ (arr8 m c p hp hO).symm
    funext j
    idx_vars j
    exact (ref19 _ _ _ _ _ _).trans (by rw [ref8 _ _ _ p (hc c)]; rfl)

end Cert.FinishFfn

end
-- ==== Proof.FinishPool.lean ====
/-
  The last call of the pooling weight: the four chips' parts of the gradient added and the optimiser's step.
-/
module

public import proofs.«01_k».proof.Proof.Gen.FinPool.Frame
public import proofs.«01_k».proof.Proof.Gen.FinPoolIdeal.Frame
public import proofs.«01_k».proof.Proof.Gen.FinPoolRefIdeal.Read
public import proofs.«01_k».proof.Proof.Gen.FinPoolRefIdeal.Run
public import proofs.«01_k».proof.Defs
public import proofs.«01_k».proof.Proof.ChipWord
public import proofs.«01_k».proof.Proof.AdamStep
public import Idealize.ShloMosaic.Lib.Pipeline.Covers
public import Idealize.ShloMosaic.Lib.Pipeline.ReadBack

@[expose] public section

set_option maxRecDepth 16384

noncomputable section

namespace Cert.FinishPool

open Idealize.ShloMosaic Idealize.SL.Sem Cert.Chip

section

open Cert.FinPoolIdeal Cert.FinPoolIdeal.Gen

section

variable {F : FTy → Type} [FloatOps F]

/-- The chip's index as the index maps read it. -/
abbrev word (pf : pre0.Contents (Elt F)) : BitVec 32 := pf.at 0 (Rect.unit (s := S2) ![1] S1.size inb_S2_S1_1) numel1_S1

/-- The block of the chips' own parts that a point holds. -/
theorem own_index (pf : pre0.Contents (Elt F)) (p : Fin 4) (hp : word pf = BitVec.ofNat 32 p.val) (i : grid0.Coords) :
    cc0_transform_0 inb_S2_S1_1 numel1_S1 pf i = ![p.val, (i 0).val, 0] := by
  have e : ∀ (p : Fin 4) (a : Fin 1), ![(BitVec.ofNat 32 p.val).toNat, (BitVec.ofNat 32 a.val).toNat, (0#32).toNat] = ![p.val, a.val, 0] := by decide
  refine Eq.trans ?_ (e p (i 0))
  exact congrArg (fun b : BitVec 32 => (![b.toNat, (BitVec.ofNat 32 (i 0).val).toNat, (0#32).toNat] : Fin 3 → Nat)) hp

/-- The block of the landed parts that a point holds. -/
theorem land_index (pf : pre0.Contents (Elt F)) (p : Fin 4) (hp : word pf = BitVec.ofNat 32 p.val) (i : grid0.Coords) :
    cc0_transform_1 inb_S2_S1_1 numel1_S1 pf i = ![(other p (i 1)).val, (i 0).val, 0] := by
  unfold cc0_transform_1
  rw [show pf.at 0 (Rect.unit (s := S2) ![1] S1.size inb_S2_S1_1) numel1_S1 = BitVec.ofNat 32 p.val from hp]
  generalize i 1 = k
  generalize i 0 = a
  change Fin 4 at k
  change Fin 1 at a
  clear hp
  revert p k a
  decide

/-- With the word a chip's index, every block lies inside its array. -/
theorem ok_of_word (pf : pre0.Contents (Elt F)) (p : Fin 4) (hp : word pf = BitVec.ofNat 32 p.val) : ok0 pf := by
  refine ⟨fun i => ?_, fun i => ?_⟩
  · rw [own_index pf p hp i]
    generalize i 0 = a
    change Fin 1 at a
    clear hp
    revert p a
    decide +kernel
  · rw [land_index pf p hp i]
    generalize other p (i 1) = k
    generalize i 0 = a
    change Fin 1 at a
    revert k a
    decide

end

section
variable (x0 x1 x2 x3 : Vec Ideal S128x256 .f32) (i : Fin 128) (j : Fin 256)

/-- The first moment, the second, and what the step adds, at an element. -/
theorem pay4_apply : k0_pay4 x0 x1 (ix2 i j) = Adam.fst (x0 (ix2 i j)) (x1 (ix2 i j)) := by
  unfold Adam.fst
  pointwise [k0_pay4]

theorem pay5_apply : k0_pay5 x0 x1 (ix2 i j) = Adam.snd (x0 (ix2 i j)) (x1 (ix2 i j)) := by
  unfold Adam.snd
  pointwise [k0_pay5]

theorem pay6_apply : k0_pay6 x0 x1 x2 x3 (ix2 i j) = Adam.delta (x1 (ix2 i j)) (Adam.fst (x0 (ix2 i j)) (x2 (ix2 i j))) (Adam.snd (x0 (ix2 i j)) (x3 (ix2 i j))) := by
  unfold Adam.delta Adam.fst Adam.snd
  pointwise [k0_pay6, k0_pay5, k0_pay4]

end

variable (m : (ℓ : Loc nD τ sig) → Buf (Elt Ideal) ℓ) (c : Dev nD)

/-- The arguments: the chip's index, the chips' own and landed parts, the weights and the two moments. -/
abbrev pos : S2.Idx → BitVec 32 := m ((c.tc : Thread nD τ).loc main_arg0)
abbrev pair : S4x128x256.Idx → EReal := m ((c.tc : Thread nD τ).loc main_arg1)
abbrev landed : S4x128x256.Idx → EReal := m ((c.tc : Thread nD τ).loc main_arg2)
abbrev w : S128x256.Idx → EReal := m ((c.tc : Thread nD τ).loc main_arg3)
abbrev mo : S128x256.Idx → EReal := m ((c.tc : Thread nD τ).loc main_arg4)
abbrev ve : S128x256.Idx → EReal := m ((c.tc : Thread nD τ).loc main_arg5)

variable (p : Fin 4) (hp : word (tbl m) = BitVec.ofNat 32 p.val) (hO : Ok m)

/-- The chip whose part a point adds, and the row of the array that a row of the point's block is. -/
def chip (t : Fin (cfgM m hO).N) : Fin 4 := ⟨t.val % 4, Nat.mod_lt _ (by decide)⟩
def row (t : Fin (cfgM m hO).N) (r : Fin 128) : Fin 128 := ⟨t.val / 4 * 128 + r.val, by have ht : t.val < 4 := t.isLt; omega⟩

theorem coords0 (t : Fin grid0.N) : (grid0.coords t 0).val = t.val / 4 ∧ (grid0.coords t 1).val = t.val % 4 := by
  revert t; decide +kernel

theorem tile (t : Fin grid0.N) : cc0_transform_2 (grid0.coords t) = ![t.val / 4, 0] := by
  revert t; decide +kernel

/-- Which block each window of one chip's arrays holds at a point. -/
theorem idx (t : Fin (cfgM m hO).N) : ((cfgM m hO).win 2).index t = ![t.val / 4, 0] ∧ ((cfgM m hO).win 3).index t = ![t.val / 4, 0]
    ∧ ((cfgM m hO).win 4).index t = ![t.val / 4, 0] ∧ ((cfgM m hO).win 5).index t = ![t.val / 4, 0] ∧ ((cfgM m hO).win 6).index t = ![t.val / 4, 0]
    ∧ ((cfgM m hO).win 7).index t = ![t.val / 4, 0] ∧ ((cfgM m hO).win 8).index t = ![t.val / 4, 0] :=
  ⟨tile t, tile t, tile t, tile t, tile t, tile t, tile t⟩

theorem in2 (t : Fin (cfgM m hO).N) (r : Fin 128) (j : Fin 256) : (iblk m hO c 2 t : S128x256.Idx → EReal) (ix2 r j) = w m c (ix2 (row m hO t r) j) := by
  unfold row
  blk_ext [iblk, V, idx m hO t]

theorem in3 (t : Fin (cfgM m hO).N) (r : Fin 128) (j : Fin 256) : (iblk m hO c 3 t : S128x256.Idx → EReal) (ix2 r j) = mo m c (ix2 (row m hO t r) j) := by
  unfold row
  blk_ext [iblk, V, idx m hO t]

theorem in4 (t : Fin (cfgM m hO).N) (r : Fin 128) (j : Fin 256) : (iblk m hO c 4 t : S128x256.Idx → EReal) (ix2 r j) = ve m c (ix2 (row m hO t r) j) := by
  unfold row
  blk_ext [iblk, V, idx m hO t]

/-- What a point adds: the chip's part. -/
def added (t : Fin (cfgM m hO).N) : S128x256.Idx → EReal := k0_pay1 (grid0.coords t) (word (tbl m)) (iblk m hO c 0 t) (iblk m hO c 1 t)

/-- What the scratch holds after a point. -/
def scr (n : ℕ) (hn : n < (cfgM m hO).N) : S128x256.Idx → EReal := (outsAt0 m hO c n hn).2.2.2.2

theorem scr_A (t : Fin (cfgM m hO).N) (h0 : t.val % 4 = 0) : scr m c hO t.val t.isLt = added m c hO t := by
  have ht : t.val < 4 := t.isLt
  unfold scr added
  rw [outsAt0_A m hO c t h0 (by omega) (by omega)]
  frame_open
  simp (disch := decide) only [↓ View.readCov_skip, ↓ View.readCov_cons_toLoadRect, ↓ View.readCov_fill]
  frame_out
  funext y
  idx_vars y
  pointwise [k0_pay2]
  exact congrFun (congrArg₂ (k0_pay1 _ _) ((hs0_0 m hO t).read_unread _) ((hs0_1 m hO t).read_unread _)) _

theorem scr_B (t : Fin (cfgM m hO).N) (h0 : ¬t.val % 4 = 0) :
    scr m c hO t.val t.isLt = fun y => scr m c hO (t.val - 1) (Nat.lt_of_le_of_lt (Nat.sub_le _ _) t.isLt) y + added m c hO t y := by
  have ht : t.val < 4 := t.isLt
  unfold scr added
  by_cases h2 : t.val % 4 = 3
  · rw [outsAt0_C m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)
  · rw [outsAt0_B m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)

/-- What a tile's last point leaves: the sum, the step, and the two moments. -/
theorem outs_last (t : Fin (cfgM m hO).N) (h2 : t.val % 4 = 3) :
    (outsAt0 m hO c t.val t.isLt).1 = scr m c hO t.val t.isLt
    ∧ (outsAt0 m hO c t.val t.isLt).2.1 = k0_pay6 (scr m c hO t.val t.isLt) (iblk m hO c 2 t) (iblk m hO c 3 t) (iblk m hO c 4 t)
    ∧ (outsAt0 m hO c t.val t.isLt).2.2.1 = k0_pay4 (scr m c hO t.val t.isLt) (iblk m hO c 3 t)
    ∧ (outsAt0 m hO c t.val t.isLt).2.2.2.1 = k0_pay5 (scr m c hO t.val t.isLt) (iblk m hO c 4 t) := by
  have ht : t.val < 4 := t.isLt
  unfold scr
  rw [outsAt0_C m hO c t (by omega) (by omega) h2]
  frame_open
  simp (disch := decide) only [↓ View.readCov_skip, ↓ View.readCov_cons_toLoadRect, ↓ View.readCov_fill]
  frame_out
  exact ⟨trivial, congr (congr (congrArg (k0_pay6 _) ((hs0_2 m hO t).read_unread _)) ((hs0_3 m hO t).read_unread _)) ((hs0_4 m hO t).read_unread _),
    congrArg (k0_pay4 _) ((hs0_3 m hO t).read_unread _), congrArg (k0_pay5 _) ((hs0_4 m hO t).read_unread _)⟩

section
include hp

theorem idx0 (t : Fin (cfgM m hO).N) : ((cfgM m hO).win 0).index t = ![p.val, t.val / 4, 0] :=
  (own_index (tbl m) p hp (grid0.coords t)).trans (by rw [(coords0 t).1])

theorem idx1 (t : Fin (cfgM m hO).N) : ((cfgM m hO).win 1).index t = ![(other p (chip m hO t)).val, t.val / 4, 0] :=
  (land_index (tbl m) p hp (grid0.coords t)).trans (by rw [(coords0 t).1, show grid0.coords t 1 = chip m hO t from Fin.ext (coords0 t).2])

theorem in0 (t : Fin (cfgM m hO).N) (r : Fin 128) (j : Fin 256) : (iblk m hO c 0 t : S1x128x256.Idx → EReal) (ix3 0 r j) = pair m c (ix3 p (row m hO t r) j) := by
  unfold row
  blk_ext [iblk, V, idx0 m p hp hO t]

theorem in1 (t : Fin (cfgM m hO).N) (r : Fin 128) (j : Fin 256) : (iblk m hO c 1 t : S1x128x256.Idx → EReal) (ix3 0 r j) = landed m c (ix3 (other p (chip m hO t)) (row m hO t r) j) := by
  unfold row
  blk_ext [iblk, V, idx1 m p hp hO t]

theorem added_apply (t : Fin (cfgM m hO).N) (r : Fin 128) (j : Fin 256) :
    added m c hO t (ix2 r j) = if chip m hO t = p then pair m c (ix3 (chip m hO t) (row m hO t r) j) else landed m c (ix3 (chip m hO t) (row m hO t r) j) := by
  unfold added
  rw [hp]
  pointwise [k0_pay1]
  rw [in0 m c p hp hO t r j, in1 m c p hp hO t r j, show (grid0.coords t 1).val = (chip m hO t).val from (coords0 t).2]
  refine (congrArg (fun b => Scalar.select b _ _) (eq_word p (chip m hO t))).trans ?_
  by_cases h : chip m hO t = p
  · rw [if_pos h, if_pos h, h]; rfl
  · rw [if_neg h, if_neg h, other_ne p _ h]; rfl

/-- The same at a point of a tile, named by its chip and by another point of the tile. -/
theorem added_at (s t : Fin (cfgM m hO).N) (k : Fin 4) (hs : s.val % 4 = k.val) (ht : s.val / 4 = t.val / 4) (r : Fin 128) (j : Fin 256) :
    added m c hO s (ix2 r j) = if k = p then pair m c (ix3 k (row m hO t r) j) else landed m c (ix3 k (row m hO t r) j) := by
  rw [added_apply m c p hp hO s r j, show chip m hO s = k from Fin.ext hs, show row m hO s r = row m hO t r from Fin.ext (by change s.val / 4 * 128 + r.val = t.val / 4 * 128 + r.val; rw [ht])]

/-- The gradient's element: the sum over the chips. -/
def sum (i : Fin 128) (j : Fin 256) : EReal := total p (fun k => pair m c (ix3 k i j)) (fun k => landed m c (ix3 k i j))

/-- After a tile's last point the scratch holds the sum over the chips. -/
theorem scr_last (t : Fin (cfgM m hO).N) (h : t.val % 4 = 3) (r : Fin 128) (j : Fin 256) :
    scr m c hO t.val t.isLt (ix2 r j) = sum m c p (row m hO t r) j := by
  have hn : ∀ k, t.val - k < (cfgM m hO).N := fun k => Nat.lt_of_le_of_lt (Nat.sub_le _ _) t.isLt
  have e0 := congrFun (scr_B m c hO t (by omega)) (ix2 r j)
  have e1 := congrFun (scr_B m c hO ⟨t.val - 1, hn 1⟩ (by change ¬(t.val - 1) % 4 = 0; omega)) (ix2 r j)
  have e2 := congrFun (scr_B m c hO ⟨t.val - 2, hn 2⟩ (by change ¬(t.val - 2) % 4 = 0; omega)) (ix2 r j)
  have e3 := congrFun (scr_A m c hO ⟨t.val - 3, hn 3⟩ (by change (t.val - 3) % 4 = 0; omega)) (ix2 r j)
  unfold sum total
  rw [Fin.sum_univ_four, ← added_at m c p hp hO ⟨t.val - 3, hn 3⟩ t 0 (by change (t.val - 3) % 4 = 0; omega) (by change (t.val - 3) / 4 = _; omega) r j,
    ← added_at m c p hp hO ⟨t.val - 2, hn 2⟩ t 1 (by change (t.val - 2) % 4 = 1; omega) (by change (t.val - 2) / 4 = _; omega) r j,
    ← added_at m c p hp hO ⟨t.val - 1, hn 1⟩ t 2 (by change (t.val - 1) % 4 = 2; omega) (by change (t.val - 1) / 4 = _; omega) r j,
    ← added_at m c p hp hO t t 3 h rfl r j]
  exact e0.trans (congrArg (· + _) (e1.trans (congrArg (· + _) (e2.trans (congrArg (· + _) e3)))))

end

/-- The last point of a tile. -/
def last (b : Fin 1) : Fin (cfgM m hO).N := ⟨4 * b.val + 3, show 4 * b.val + 3 < 4 by omega⟩

theorem sizes (a : Fin 2) : 0 < S128x256.size a := by revert a; decide

/-- Every block of a result is some tile's. -/
theorem blocks (b : (a : Fin 2) → Fin ((S128x256.size a + S128x256.size a - 1) / S128x256.size a)) :
    ∃ t : Fin (cfgM m hO).N, ∀ a : Fin 2, (![t.val / 4, 0] : Fin 2 → ℕ) a = (b a).val := by
  have h0 : (b 0).val < 1 := (b 0).isLt
  have h1 : (b 1).val < 1 := (b 1).isLt
  exact ⟨last m hO ⟨(b 0).val, h0⟩, Fin.forall_fin_two.2 ⟨by change (4 * (b 0).val + 3) / 4 = (b 0).val; omega, by change 0 = (b 1).val; omega⟩⟩

theorem covers5 : ((cfgM m hO).win 5).Covers :=
  Pipeline.Window.covers_of_index_surj _ rfl sizes fun b => (blocks m hO b).imp fun t h a => (congrFun ((idx m hO t).2.2.2.1) a).trans (h a)

theorem emb5 (t : Fin (cfgM m hO).N) (y : S128x256.Idx) : (((cfgM m hO).win 5).blk t).view.emb y = (ix2 (row m hO t (y 0)) (y 1) : S128x256.Idx) := by
  unfold row
  blk_ext [idx m hO t]

theorem covers6 : ((cfgM m hO).win 6).Covers :=
  Pipeline.Window.covers_of_index_surj _ rfl sizes fun b => (blocks m hO b).imp fun t h a => (congrFun (idx m hO t).2.2.2.2.1 a).trans (h a)

theorem emb6 (t : Fin (cfgM m hO).N) (y : S128x256.Idx) : (((cfgM m hO).win 6).blk t).view.emb y = (ix2 (row m hO t (y 0)) (y 1) : S128x256.Idx) := by
  unfold row
  blk_ext [idx m hO t]

theorem covers7 : ((cfgM m hO).win 7).Covers :=
  Pipeline.Window.covers_of_index_surj _ rfl sizes fun b => (blocks m hO b).imp fun t h a => (congrFun (idx m hO t).2.2.2.2.2.1 a).trans (h a)

theorem emb7 (t : Fin (cfgM m hO).N) (y : S128x256.Idx) : (((cfgM m hO).win 7).blk t).view.emb y = (ix2 (row m hO t (y 0)) (y 1) : S128x256.Idx) := by
  unfold row
  blk_ext [idx m hO t]

theorem covers8 : ((cfgM m hO).win 8).Covers :=
  Pipeline.Window.covers_of_index_surj _ rfl sizes fun b => (blocks m hO b).imp fun t h a => (congrFun (idx m hO t).2.2.2.2.2.2 a).trans (h a)

theorem emb8 (t : Fin (cfgM m hO).N) (y : S128x256.Idx) : (((cfgM m hO).win 8).blk t).view.emb y = (ix2 (row m hO t (y 0)) (y 1) : S128x256.Idx) := by
  unfold row
  blk_ext [idx m hO t]

section
include hp

/-- The gradient after the run. -/
theorem arr5 : (dats m hO 0 c).arrAt 5 (cfgM m hO).N = fun i : S128x256.Idx => sum m c p (i 0) (i 1) := by
  refine (dats m hO 0 c).arrAt_eq_of_covers 5 _ (covers5 m hO) fun t hf (y : S128x256.Idx) => ?_
  have h := (flush0_5 _ t).1 hf
  blk_simp
  rw [after0_5, (outs_last m c hO t h).1]
  refine Eq.trans ?_ (congrArg (fun i : S128x256.Idx => sum m c p (i 0) (i 1)) (emb5 m hO t y)).symm
  idx_vars y
  exact scr_last m c p hp hO t h y0 y1

/-- What the step adds to the weights. -/
theorem arr6 : (dats m hO 0 c).arrAt 6 (cfgM m hO).N
    = fun i : S128x256.Idx => Adam.delta (w m c i) (Adam.fst (sum m c p (i 0) (i 1)) (mo m c i)) (Adam.snd (sum m c p (i 0) (i 1)) (ve m c i)) := by
  refine (dats m hO 0 c).arrAt_eq_of_covers 6 _ (covers6 m hO) fun t hf (y : S128x256.Idx) => ?_
  have h := (flush0_6 _ t).1 hf
  blk_simp
  rw [after0_6, (outs_last m c hO t h).2.1]
  refine Eq.trans ?_ (congrArg (fun i : S128x256.Idx => Adam.delta (w m c i) (Adam.fst (sum m c p (i 0) (i 1)) (mo m c i)) (Adam.snd (sum m c p (i 0) (i 1)) (ve m c i))) (emb6 m hO t y)).symm
  idx_vars y
  exact (pay6_apply _ _ _ _ y0 y1).trans (by rw [scr_last m c p hp hO t h y0 y1, in2 m c hO t y0 y1, in3 m c hO t y0 y1, in4 m c hO t y0 y1])

/-- The first moments. -/
theorem arr7 : (dats m hO 0 c).arrAt 7 (cfgM m hO).N = fun i : S128x256.Idx => Adam.fst (sum m c p (i 0) (i 1)) (mo m c i) := by
  refine (dats m hO 0 c).arrAt_eq_of_covers 7 _ (covers7 m hO) fun t hf (y : S128x256.Idx) => ?_
  have h := (flush0_7 _ t).1 hf
  blk_simp
  rw [after0_7, (outs_last m c hO t h).2.2.1]
  refine Eq.trans ?_ (congrArg (fun i : S128x256.Idx => Adam.fst (sum m c p (i 0) (i 1)) (mo m c i)) (emb7 m hO t y)).symm
  idx_vars y
  exact (pay4_apply _ _ y0 y1).trans (by rw [scr_last m c p hp hO t h y0 y1, in3 m c hO t y0 y1])

/-- The second moments. -/
theorem arr8 : (dats m hO 0 c).arrAt 8 (cfgM m hO).N = fun i : S128x256.Idx => Adam.snd (sum m c p (i 0) (i 1)) (ve m c i) := by
  refine (dats m hO 0 c).arrAt_eq_of_covers 8 _ (covers8 m hO) fun t hf (y : S128x256.Idx) => ?_
  have h := (flush0_8 _ t).1 hf
  blk_simp
  rw [after0_8, (outs_last m c hO t h).2.2.2]
  refine Eq.trans ?_ (congrArg (fun i : S128x256.Idx => Adam.snd (sum m c p (i 0) (i 1)) (ve m c i)) (emb8 m hO t y)).symm
  idx_vars y
  exact (pay5_apply _ _ y0 y1).trans (by rw [scr_last m c p hp hO t h y0 y1, in4 m c hO t y0 y1])

end

end

section

open Cert.FinPoolIdeal Cert.FinPoolIdeal.Gen

variable {F : FTy → Type} [FloatOps F] (m : (ℓ : Loc nD τ sig) → Buf (Elt F) ℓ) (c : Dev nD)

/-- The word is the chip's index that the call is given. -/
theorem word_eq : word (tbl m) = (m ((c.tc : Thread nD τ).loc main_arg0) : S2.Idx → BitVec 32) (ix1 (1 : Fin 2)) := by
  obtain rfl : c = 0 := Subsingleton.elim _ _
  have e : (tbl m 0 : S2.Idx → BitVec 32) = m (((0 : Dev nD).tc : Thread nD τ).loc main_arg0) := V_main_arg0 m 0
  refine Eq.trans (congrArg (tbl m 0) ?_) (congrFun e _)
  blk_ext
  rfl

end

/-- The side conditions of the precondition's text. -/
theorem chipFacts : Cert.Pre_chip_pool.Facts := ⟨by decide, by decide⟩

/-- The precondition says that the word is a chip's index. -/
theorem named {F : FTy → Type} [FloatOps F] (x0 : IVec Cert.Pre_chip_pool.S2 32) (x1 x2 : FVec F Cert.Pre_chip_pool.S4x128x256 .bf16) (x3 x4 x5 : FVec F Cert.Pre_chip_pool.S128x256 .f32)
    (h : @Cert.Pre_chip_pool.fn chipFacts F _ x0 x1 x2 x3 x4 x5 = fun _ => 1#1) : ∃ p : Fin 4, x0 (ix1 (1 : Fin 2)) = BitVec.ofNat 32 p.val := by
  refine of_bounds _ (Eq.trans ?_ (congrFun h (fun a => a.elim0)))
  pointwise [Cert.Pre_chip_pool.fn]

/-- The kernel terminates without a fault and keeps its arguments. -/
theorem frame_p : Cert.quiescent_FinPool (hPre_chip_pool := chipFacts) := fun m ρ h => by
  obtain ⟨p, hp⟩ := named _ _ _ _ _ _ (h 0)
  exact Cert.FinPool.Gen.frame m ρ (ok_of_word (F := Bits) (Cert.FinPoolIdeal.Gen.tbl (F := Bits) m) p ((word_eq (F := Bits) m 0).trans hp))

/-- So does its idealization. -/
theorem frame_pi : Cert.quiescent_FinPoolIdeal (hPre_chip_pool := chipFacts) := fun m ρ h => by
  obtain ⟨p, hp⟩ := named _ _ _ _ _ _ (h 0)
  exact Cert.FinPoolIdeal.Gen.frame m ρ (ok_of_word _ p ((word_eq m 0).trans hp))

/-- The reference terminates and keeps its arguments; it has no semaphore. -/
theorem frame_ri : Cert.quiescent_FinPoolRefIdeal := fun m ρ _ =>
  (θ_run Cert.FinPoolRefIdeal.defs _ _).mono (fun r h => ⟨fun c => (h c).2.2.2.2,
      Idealize.ShloMosaic.sem_eq_zero_of_no_sems (by decide) r.2⟩)
    (Cert.FinPoolRefIdeal.Value.run (F := Ideal) m ρ)

section

open Cert.FinPoolRefIdeal.Read

variable (x0 : IVec Cert.FinPoolRefIdeal.S2 32) (x1 x2 : FVec Ideal Cert.FinPoolRefIdeal.S4x128x256 .bf16) (w m v : FVec Ideal Cert.FinPoolRefIdeal.S128x256 .f32)
  (p : Fin 4) (hp : x0 (ix1 (1 : Fin 2)) = BitVec.ofNat 32 p.val) (i : Fin 128) (j : Fin 256)
include hp

/-- The reference's sum over the chips at an element. -/
theorem ref8 : val_main_v8 (F := Ideal) x0 x1 x2 (ix2 i j) = total p (fun k => x1 (ix3 k i j)) (fun k => x2 (ix3 k i j)) := by
  unfold total
  pointwise [val_main_v8, val_main_v7, val_main_v6, val_main_call0_v0, val_main_v5, val_main_v4, val_main_v3, val_main_v2, val_main_v1, val_main_v0, val_main_cst]
  refine Finset.sum_congr rfl fun k _ => ?_
  rw [hp, eq_word p k]
  by_cases h : k = p
  · rw [if_pos h, if_pos h]; rfl
  · rw [if_neg h, if_neg h]; rfl

omit hp in
/-- The first moment, of its sum. -/
theorem ref13 : val_main_v13 (F := Ideal) x0 x1 x2 m (ix2 i j) = Adam.fst (val_main_v8 (F := Ideal) x0 x1 x2 (ix2 i j)) (m (ix2 i j)) := by
  unfold Adam.fst
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

omit hp in
/-- The second moment. -/
theorem ref19 : val_main_v19 (F := Ideal) x0 x1 x2 v (ix2 i j) = Adam.snd (val_main_v8 (F := Ideal) x0 x1 x2 (ix2 i j)) (v (ix2 i j)) := by
  unfold Adam.snd
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

omit hp in
/-- What it adds to the weight. -/
theorem ref32 : val_main_v32 (F := Ideal) x0 x1 x2 w m v (ix2 i j)
    = Adam.delta (w (ix2 i j)) (Adam.fst (val_main_v8 (F := Ideal) x0 x1 x2 (ix2 i j)) (m (ix2 i j))) (Adam.snd (val_main_v8 (F := Ideal) x0 x1 x2 (ix2 i j)) (v (ix2 i j))) := by
  unfold Adam.delta Adam.fst Adam.snd
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5, val_main_cst_6, val_main_cst_7, val_main_cst_8]

end

open Cert.FinPoolIdeal Cert.FinPoolIdeal.Gen in
/-- The kernel's idealization ends with its arrays of results, its arguments kept. -/
theorem run (m : (ℓ : Loc nD τ sig) → Buf (Elt Ideal) ℓ) (g : Dev nD → PrngReg) (hO : Ok m) :
    θ_run defs (onTc (τ := τ) (main (F := Ideal))) ⟨m, fun _ => 0, g⟩ (fun r => ∀ c : Dev nD,
      r.2.mem ((c.tc : Thread nD τ).loc main_v0_0) = (dats m hO 0 c).arrAt 5 (cfgM m hO).N
      ∧ r.2.mem ((c.tc : Thread nD τ).loc main_v0_1) = (dats m hO 0 c).arrAt 6 (cfgM m hO).N
      ∧ r.2.mem ((c.tc : Thread nD τ).loc main_v0_2) = (dats m hO 0 c).arrAt 7 (cfgM m hO).N
      ∧ r.2.mem ((c.tc : Thread nD τ).loc main_v0_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.2 c).1 5, (h.2 c).1 6, (h.2 c).1 7, (h.2 c).1 8, h.1 c⟩)
    (θ_run_and (unchanged m g hO) (run_main m g hO))

/-- What the kernel's idealization ends with is the reference's sum over the chips and its step. -/
theorem algebraic : Cert.algebraic_FinPoolIdeal_FinPoolRefIdeal (hPre_chip_pool := chipFacts) := by
  intro m g m' g' hpre hagree
  obtain ⟨p, hp0⟩ := named _ _ _ _ _ _ (hpre 0)
  have hp := (word_eq m 0).trans hp0
  have hO : Cert.FinPoolIdeal.Gen.Ok m := ok_of_word _ p hp
  have hc : ∀ c : Dev Cert.FinPoolIdeal.nD, (m ((c.tc : Thread Cert.FinPoolIdeal.nD Cert.FinPoolIdeal.τ).loc Cert.FinPoolIdeal.main_arg0) : Cert.FinPoolIdeal.S2.Idx → BitVec 32) (ix1 (1 : Fin 2)) = BitVec.ofNat 32 p.val :=
    fun c => (word_eq m c).symm.trans hp
  refine ⟨fun c => (Cert.FinPoolIdeal.Gen.dats m hO 0 c).arrAt 5 (Cert.FinPoolIdeal.Gen.cfgM m hO).N, fun c => (Cert.FinPoolIdeal.Gen.dats m hO 0 c).arrAt 6 (Cert.FinPoolIdeal.Gen.cfgM m hO).N,
    fun c => (Cert.FinPoolIdeal.Gen.dats m hO 0 c).arrAt 7 (Cert.FinPoolIdeal.Gen.cfgM m hO).N, fun c => (Cert.FinPoolIdeal.Gen.dats m hO 0 c).arrAt 8 (Cert.FinPoolIdeal.Gen.cfgM m hO).N, run m g hO, ?_⟩
  refine (θ_run Cert.FinPoolRefIdeal.defs _ _).mono (fun r h c => ?_) (Cert.FinPoolRefIdeal.Value.run (F := Ideal) m' g')
  obtain ⟨h0, h1, h2, h3, h4, h5⟩ := hagree c
  refine ⟨(h c).1.trans ?_, (h c).2.1.trans ?_, (h c).2.2.1.trans ?_, (h c).2.2.2.1.trans ?_, (h c).2.2.2.2⟩
  · rw [Cert.FinPoolRefIdeal.Read.val_main_v8_eq, h0, h1, h2]
    refine Eq.trans ?_ (arr5 m c p hp hO).symm
    funext j
    idx_vars j
    exact ref8 _ _ _ p (hc c) _ _
  · rw [Cert.FinPoolRefIdeal.Read.val_main_v32_eq, h0, h1, h2, h3, h4, h5]
    refine Eq.trans ?_ (arr6 m c p hp hO).symm
    funext j
    idx_vars j
    exact (ref32 _ _ _ _ _ _ _ _).trans (by rw [ref8 _ _ _ p (hc c)]; rfl)
  · rw [Cert.FinPoolRefIdeal.Read.val_main_v13_eq, h0, h1, h2, h4]
    refine Eq.trans ?_ (arr7 m c p hp hO).symm
    funext j
    idx_vars j
    exact (ref13 _ _ _ _ _ _).trans (by rw [ref8 _ _ _ p (hc c)]; rfl)
  · rw [Cert.FinPoolRefIdeal.Read.val_main_v19_eq, h0, h1, h2, h5]
    refine Eq.trans ?_ (arr8 m c p hp hO).symm
    funext j
    idx_vars j
    exact (ref19 _ _ _ _ _ _).trans (by rw [ref8 _ _ _ p (hc c)]; rfl)

end Cert.FinishPool

end
-- ==== Proof.FinishIn.lean ====
/-
  The last call of the input weight, whose gradient arrives transposed: the four chips' parts of the gradient added and the optimiser's step.
-/
module

public import proofs.«01_k».proof.Proof.Gen.FinIn.Frame
public import proofs.«01_k».proof.Proof.Gen.FinInIdeal.Frame
public import proofs.«01_k».proof.Proof.Gen.FinInRefIdeal.Read
public import proofs.«01_k».proof.Proof.Gen.FinInRefIdeal.Run
public import proofs.«01_k».proof.Defs
public import proofs.«01_k».proof.Proof.ChipWord
public import proofs.«01_k».proof.Proof.AdamStep
public import Idealize.ShloMosaic.Lib.Pipeline.Covers
public import Idealize.ShloMosaic.Lib.Pipeline.ReadBack

@[expose] public section

set_option maxRecDepth 16384

noncomputable section

namespace Cert.FinishIn

open Idealize.ShloMosaic Idealize.SL.Sem Cert.Chip

section

open Cert.FinInIdeal Cert.FinInIdeal.Gen

section

variable {F : FTy → Type} [FloatOps F]

/-- The chip's index as the index maps read it. -/
abbrev word (pf : pre0.Contents (Elt F)) : BitVec 32 := pf.at 0 (Rect.unit (s := S2) ![1] S1.size inb_S2_S1_1) numel1_S1

/-- The block of the chips' own parts that a point holds. -/
theorem own_index (pf : pre0.Contents (Elt F)) (p : Fin 4) (hp : word pf = BitVec.ofNat 32 p.val) (i : grid0.Coords) :
    cc0_transform_0 inb_S2_S1_1 numel1_S1 pf i = ![p.val, 0, (i 0).val] := by
  have e : ∀ (p : Fin 4) (a : Fin 4), ![(BitVec.ofNat 32 p.val).toNat, (0#32).toNat, (BitVec.ofNat 32 a.val).toNat] = ![p.val, 0, a.val] := by decide
  refine Eq.trans ?_ (e p (i 0))
  exact congrArg (fun b : BitVec 32 => (![b.toNat, (0#32).toNat, (BitVec.ofNat 32 (i 0).val).toNat] : Fin 3 → Nat)) hp

/-- The block of the landed parts that a point holds. -/
theorem land_index (pf : pre0.Contents (Elt F)) (p : Fin 4) (hp : word pf = BitVec.ofNat 32 p.val) (i : grid0.Coords) :
    cc0_transform_1 inb_S2_S1_1 numel1_S1 pf i = ![(other p (i 1)).val, 0, (i 0).val] := by
  unfold cc0_transform_1
  rw [show pf.at 0 (Rect.unit (s := S2) ![1] S1.size inb_S2_S1_1) numel1_S1 = BitVec.ofNat 32 p.val from hp]
  generalize i 1 = k
  generalize i 0 = a
  change Fin 4 at k
  change Fin 4 at a
  clear hp
  revert p k a
  decide

/-- With the word a chip's index, every block lies inside its array. -/
theorem ok_of_word (pf : pre0.Contents (Elt F)) (p : Fin 4) (hp : word pf = BitVec.ofNat 32 p.val) : ok0 pf := by
  refine ⟨fun i => ?_, fun i => ?_⟩
  · rw [own_index pf p hp i]
    generalize i 0 = a
    change Fin 4 at a
    clear hp
    revert p a
    decide +kernel
  · rw [land_index pf p hp i]
    generalize other p (i 1) = k
    generalize i 0 = a
    change Fin 4 at a
    revert k a
    decide

end

section
variable (x0 x1 x2 x3 : Vec Ideal S512x384 .f32) (i : Fin 512) (j : Fin 384)

/-- The sum turned. -/
def turned (x : Vec Ideal S384x512 .f32) : Vec Ideal S512x384 .f32 := k0_pay4 x

theorem pay4_apply (x : Vec Ideal S384x512 .f32) : turned x (ix2 i j) = x (ix2 j i) := by
  pointwise [turned, k0_pay4]

/-- The first moment, the second, and what the step adds, at an element. -/
theorem pay5_apply : k0_pay5 x0 x1 (ix2 i j) = Adam.fst (x0 (ix2 i j)) (x1 (ix2 i j)) := by
  unfold Adam.fst
  pointwise [k0_pay5]

theorem pay6_apply : k0_pay6 x0 x1 (ix2 i j) = Adam.snd (x0 (ix2 i j)) (x1 (ix2 i j)) := by
  unfold Adam.snd
  pointwise [k0_pay6]

theorem pay7_apply : k0_pay7 x0 x1 x2 x3 (ix2 i j) = Adam.delta (x1 (ix2 i j)) (Adam.fst (x0 (ix2 i j)) (x2 (ix2 i j))) (Adam.snd (x0 (ix2 i j)) (x3 (ix2 i j))) := by
  unfold Adam.delta Adam.fst Adam.snd
  pointwise [k0_pay7, k0_pay6, k0_pay5]

end

variable (m : (ℓ : Loc nD τ sig) → Buf (Elt Ideal) ℓ) (c : Dev nD)

/-- The arguments: the chip's index, the chips' own and landed parts, the weights and the two moments. -/
abbrev pos : S2.Idx → BitVec 32 := m ((c.tc : Thread nD τ).loc main_arg0)
abbrev pair : S4x384x2048.Idx → EReal := m ((c.tc : Thread nD τ).loc main_arg1)
abbrev landed : S4x384x2048.Idx → EReal := m ((c.tc : Thread nD τ).loc main_arg2)
abbrev w : S2048x384.Idx → EReal := m ((c.tc : Thread nD τ).loc main_arg3)
abbrev mo : S2048x384.Idx → EReal := m ((c.tc : Thread nD τ).loc main_arg4)
abbrev ve : S2048x384.Idx → EReal := m ((c.tc : Thread nD τ).loc main_arg5)

variable (p : Fin 4) (hp : word (tbl m) = BitVec.ofNat 32 p.val) (hO : Ok m)

/-- The chip whose part a point adds, and the row of the array that a row of the point's block is. -/
def chip (t : Fin (cfgM m hO).N) : Fin 4 := ⟨t.val % 4, Nat.mod_lt _ (by decide)⟩
def row (t : Fin (cfgM m hO).N) (r : Fin 512) : Fin 2048 := ⟨t.val / 4 * 512 + r.val, by have ht : t.val < 16 := t.isLt; omega⟩

theorem coords0 (t : Fin grid0.N) : (grid0.coords t 0).val = t.val / 4 ∧ (grid0.coords t 1).val = t.val % 4 := by
  revert t; decide +kernel

theorem tile (t : Fin grid0.N) : cc0_transform_2 (grid0.coords t) = ![t.val / 4, 0] := by
  revert t; decide +kernel

/-- Which block each window of one chip's arrays holds at a point. -/
theorem idx (t : Fin (cfgM m hO).N) : ((cfgM m hO).win 2).index t = ![t.val / 4, 0] ∧ ((cfgM m hO).win 3).index t = ![t.val / 4, 0]
    ∧ ((cfgM m hO).win 4).index t = ![t.val / 4, 0] ∧ ((cfgM m hO).win 5).index t = ![t.val / 4, 0] ∧ ((cfgM m hO).win 6).index t = ![t.val / 4, 0]
    ∧ ((cfgM m hO).win 7).index t = ![t.val / 4, 0] ∧ ((cfgM m hO).win 8).index t = ![t.val / 4, 0] :=
  ⟨tile t, tile t, tile t, tile t, tile t, tile t, tile t⟩

theorem in2 (t : Fin (cfgM m hO).N) (r : Fin 512) (j : Fin 384) : (iblk m hO c 2 t : S512x384.Idx → EReal) (ix2 r j) = w m c (ix2 (row m hO t r) j) := by
  unfold row
  blk_ext [iblk, V, idx m hO t]

theorem in3 (t : Fin (cfgM m hO).N) (r : Fin 512) (j : Fin 384) : (iblk m hO c 3 t : S512x384.Idx → EReal) (ix2 r j) = mo m c (ix2 (row m hO t r) j) := by
  unfold row
  blk_ext [iblk, V, idx m hO t]

theorem in4 (t : Fin (cfgM m hO).N) (r : Fin 512) (j : Fin 384) : (iblk m hO c 4 t : S512x384.Idx → EReal) (ix2 r j) = ve m c (ix2 (row m hO t r) j) := by
  unfold row
  blk_ext [iblk, V, idx m hO t]

/-- What a point adds: the chip's part. -/
def added (t : Fin (cfgM m hO).N) : S384x512.Idx → EReal := k0_pay1 (grid0.coords t) (word (tbl m)) (iblk m hO c 0 t) (iblk m hO c 1 t)

/-- What the scratch holds after a point. -/
def scr (n : ℕ) (hn : n < (cfgM m hO).N) : S384x512.Idx → EReal := (outsAt0 m hO c n hn).2.2.2.2

theorem scr_A (t : Fin (cfgM m hO).N) (h0 : t.val % 4 = 0) : scr m c hO t.val t.isLt = added m c hO t := by
  have ht : t.val < 16 := t.isLt
  unfold scr added
  rw [outsAt0_A m hO c t h0 (by omega) (by omega)]
  frame_open
  simp (disch := decide) only [↓ View.readCov_skip, ↓ View.readCov_cons_toLoadRect, ↓ View.readCov_fill]
  frame_out
  funext y
  idx_vars y
  pointwise [k0_pay2]
  exact congrFun (congrArg₂ (k0_pay1 _ _) ((hs0_0 m hO t).read_unread _) ((hs0_1 m hO t).read_unread _)) _

theorem scr_B (t : Fin (cfgM m hO).N) (h0 : ¬t.val % 4 = 0) :
    scr m c hO t.val t.isLt = fun y => scr m c hO (t.val - 1) (Nat.lt_of_le_of_lt (Nat.sub_le _ _) t.isLt) y + added m c hO t y := by
  have ht : t.val < 16 := t.isLt
  unfold scr added
  by_cases h2 : t.val % 4 = 3
  · rw [outsAt0_C m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)
  · rw [outsAt0_B m hO c t h0 (by omega) h2]
    frame_open
    simp (disch := decide) only [↓ View.readCov_skip, ↓ View.readCov_cons_toLoadRect, ↓ View.readCov_fill]
    frame_out
    funext y
    idx_vars y
    pointwise [k0_pay3]
    exact congr (congrArg HAdd.hAdd (congrFun (read_unread_whole _ _ _) _)) (congrFun (congrArg₂ (k0_pay1 _ _) ((hs0_0 m hO t).read_unread _) ((hs0_1 m hO t).read_unread _)) _)

/-- What a tile's last point leaves: the sum, the step, and the two moments. -/
theorem outs_last (t : Fin (cfgM m hO).N) (h2 : t.val % 4 = 3) :
    (outsAt0 m hO c t.val t.isLt).1 = turned (scr m c hO t.val t.isLt)
    ∧ (outsAt0 m hO c t.val t.isLt).2.1 = k0_pay7 (turned (scr m c hO t.val t.isLt)) (iblk m hO c 2 t) (iblk m hO c 3 t) (iblk m hO c 4 t)
    ∧ (outsAt0 m hO c t.val t.isLt).2.2.1 = k0_pay5 (turned (scr m c hO t.val t.isLt)) (iblk m hO c 3 t)
    ∧ (outsAt0 m hO c t.val t.isLt).2.2.2.1 = k0_pay6 (turned (scr m c hO t.val t.isLt)) (iblk m hO c 4 t) := by
  have ht : t.val < 16 := t.isLt
  unfold scr
  rw [outsAt0_C m hO c t (by omega) (by omega) h2]
  frame_open
  simp (disch := decide) only [↓ View.readCov_skip, ↓ View.readCov_cons_toLoadRect, ↓ View.readCov_fill]
  frame_out
  exact ⟨rfl, congr (congr (congrArg (k0_pay7 _) ((hs0_2 m hO t).read_unread _)) ((hs0_3 m hO t).read_unread _)) ((hs0_4 m hO t).read_unread _),
    congrArg (k0_pay5 _) ((hs0_3 m hO t).read_unread _), congrArg (k0_pay6 _) ((hs0_4 m hO t).read_unread _)⟩

section
include hp

theorem idx0 (t : Fin (cfgM m hO).N) : ((cfgM m hO).win 0).index t = ![p.val, 0, t.val / 4] :=
  (own_index (tbl m) p hp (grid0.coords t)).trans (by rw [(coords0 t).1])

theorem idx1 (t : Fin (cfgM m hO).N) : ((cfgM m hO).win 1).index t = ![(other p (chip m hO t)).val, 0, t.val / 4] :=
  (land_index (tbl m) p hp (grid0.coords t)).trans (by rw [(coords0 t).1, show grid0.coords t 1 = chip m hO t from Fin.ext (coords0 t).2])

theorem in0 (t : Fin (cfgM m hO).N) (j : Fin 384) (r : Fin 512) : (iblk m hO c 0 t : S1x384x512.Idx → EReal) (ix3 0 j r) = pair m c (ix3 p j (row m hO t r)) := by
  unfold row
  blk_ext [iblk, V, idx0 m p hp hO t]

theorem in1 (t : Fin (cfgM m hO).N) (j : Fin 384) (r : Fin 512) : (iblk m hO c 1 t : S1x384x512.Idx → EReal) (ix3 0 j r) = landed m c (ix3 (other p (chip m hO t)) j (row m hO t r)) := by
  unfold row
  blk_ext [iblk, V, idx1 m p hp hO t]

theorem added_apply (t : Fin (cfgM m hO).N) (j : Fin 384) (r : Fin 512) :
    added m c hO t (ix2 j r) = if chip m hO t = p then pair m c (ix3 (chip m hO t) j (row m hO t r)) else landed m c (ix3 (chip m hO t) j (row m hO t r)) := by
  unfold added
  rw [hp]
  pointwise [k0_pay1]
  rw [in0 m c p hp hO t j r, in1 m c p hp hO t j r, show (grid0.coords t 1).val = (chip m hO t).val from (coords0 t).2]
  refine (congrArg (fun b => Scalar.select b _ _) (eq_word p (chip m hO t))).trans ?_
  by_cases h : chip m hO t = p
  · rw [if_pos h, if_pos h, h]; rfl
  · rw [if_neg h, if_neg h, other_ne p _ h]; rfl

/-- The same at a point of a tile, named by its chip and by another point of the tile. -/
theorem added_at (s t : Fin (cfgM m hO).N) (k : Fin 4) (hs : s.val % 4 = k.val) (ht : s.val / 4 = t.val / 4) (j : Fin 384) (r : Fin 512) :
    added m c hO s (ix2 j r) = if k = p then pair m c (ix3 k j (row m hO t r)) else landed m c (ix3 k j (row m hO t r)) := by
  rw [added_apply m c p hp hO s j r, show chip m hO s = k from Fin.ext hs, show row m hO s r = row m hO t r from Fin.ext (by change s.val / 4 * 512 + r.val = t.val / 4 * 512 + r.val; rw [ht])]

/-- The gradient's element: the sum over the chips. -/
def sum (i : Fin 2048) (j : Fin 384) : EReal := total p (fun k => pair m c (ix3 k j i)) (fun k => landed m c (ix3 k j i))

/-- After a tile's last point the scratch holds the sum over the chips. -/
theorem scr_last (t : Fin (cfgM m hO).N) (h : t.val % 4 = 3) (j : Fin 384) (r : Fin 512) :
    scr m c hO t.val t.isLt (ix2 j r) = sum m c p (row m hO t r) j := by
  have hn : ∀ k, t.val - k < (cfgM m hO).N := fun k => Nat.lt_of_le_of_lt (Nat.sub_le _ _) t.isLt
  have e0 := congrFun (scr_B m c hO t (by omega)) (ix2 j r)
  have e1 := congrFun (scr_B m c hO ⟨t.val - 1, hn 1⟩ (by change ¬(t.val - 1) % 4 = 0; omega)) (ix2 j r)
  have e2 := congrFun (scr_B m c hO ⟨t.val - 2, hn 2⟩ (by change ¬(t.val - 2) % 4 = 0; omega)) (ix2 j r)
  have e3 := congrFun (scr_A m c hO ⟨t.val - 3, hn 3⟩ (by change (t.val - 3) % 4 = 0; omega)) (ix2 j r)
  unfold sum total
  rw [Fin.sum_univ_four, ← added_at m c p hp hO ⟨t.val - 3, hn 3⟩ t 0 (by change (t.val - 3) % 4 = 0; omega) (by change (t.val - 3) / 4 = _; omega) j r,
    ← added_at m c p hp hO ⟨t.val - 2, hn 2⟩ t 1 (by change (t.val - 2) % 4 = 1; omega) (by change (t.val - 2) / 4 = _; omega) j r,
    ← added_at m c p hp hO ⟨t.val - 1, hn 1⟩ t 2 (by change (t.val - 1) % 4 = 2; omega) (by change (t.val - 1) / 4 = _; omega) j r,
    ← added_at m c p hp hO t t 3 h rfl j r]
  exact e0.trans (congrArg (· + _) (e1.trans (congrArg (· + _) (e2.trans (congrArg (· + _) e3)))))

end

/-- The last point of a tile. -/
def last (b : Fin 4) : Fin (cfgM m hO).N := ⟨4 * b.val + 3, show 4 * b.val + 3 < 16 by omega⟩

theorem sizes (a : Fin 2) : 0 < S512x384.size a := by revert a; decide

/-- Every block of a result is some tile's. -/
theorem blocks (b : (a : Fin 2) → Fin ((S2048x384.size a + S512x384.size a - 1) / S512x384.size a)) :
    ∃ t : Fin (cfgM m hO).N, ∀ a : Fin 2, (![t.val / 4, 0] : Fin 2 → ℕ) a = (b a).val := by
  have h0 : (b 0).val < 4 := (b 0).isLt
  have h1 : (b 1).val < 1 := (b 1).isLt
  exact ⟨last m hO ⟨(b 0).val, h0⟩, Fin.forall_fin_two.2 ⟨by change (4 * (b 0).val + 3) / 4 = (b 0).val; omega, by change 0 = (b 1).val; omega⟩⟩

theorem covers5 : ((cfgM m hO).win 5).Covers :=
  Pipeline.Window.covers_of_index_surj _ rfl sizes fun b => (blocks m hO b).imp fun t h a => (congrFun ((idx m hO t).2.2.2.1) a).trans (h a)

theorem emb5 (t : Fin (cfgM m hO).N) (y : S512x384.Idx) : (((cfgM m hO).win 5).blk t).view.emb y = (ix2 (row m hO t (y 0)) (y 1) : S2048x384.Idx) := by
  unfold row
  blk_ext [idx m hO t]

theorem covers6 : ((cfgM m hO).win 6).Covers :=
  Pipeline.Window.covers_of_index_surj _ rfl sizes fun b => (blocks m hO b).imp fun t h a => (congrFun (idx m hO t).2.2.2.2.1 a).trans (h a)

theorem emb6 (t : Fin (cfgM m hO).N) (y : S512x384.Idx) : (((cfgM m hO).win 6).blk t).view.emb y = (ix2 (row m hO t (y 0)) (y 1) : S2048x384.Idx) := by
  unfold row
  blk_ext [idx m hO t]

theorem covers7 : ((cfgM m hO).win 7).Covers :=
  Pipeline.Window.covers_of_index_surj _ rfl sizes fun b => (blocks m hO b).imp fun t h a => (congrFun (idx m hO t).2.2.2.2.2.1 a).trans (h a)

theorem emb7 (t : Fin (cfgM m hO).N) (y : S512x384.Idx) : (((cfgM m hO).win 7).blk t).view.emb y = (ix2 (row m hO t (y 0)) (y 1) : S2048x384.Idx) := by
  unfold row
  blk_ext [idx m hO t]

theorem covers8 : ((cfgM m hO).win 8).Covers :=
  Pipeline.Window.covers_of_index_surj _ rfl sizes fun b => (blocks m hO b).imp fun t h a => (congrFun (idx m hO t).2.2.2.2.2.2 a).trans (h a)

theorem emb8 (t : Fin (cfgM m hO).N) (y : S512x384.Idx) : (((cfgM m hO).win 8).blk t).view.emb y = (ix2 (row m hO t (y 0)) (y 1) : S2048x384.Idx) := by
  unfold row
  blk_ext [idx m hO t]

section
include hp

/-- The gradient after the run. -/
theorem arr5 : (dats m hO 0 c).arrAt 5 (cfgM m hO).N = fun i : S2048x384.Idx => sum m c p (i 0) (i 1) := by
  refine (dats m hO 0 c).arrAt_eq_of_covers 5 _ (covers5 m hO) fun t hf (y : S512x384.Idx) => ?_
  have h := (flush0_5 _ t).1 hf
  blk_simp
  rw [after0_5, (outs_last m c hO t h).1]
  refine Eq.trans ?_ (congrArg (fun i : S2048x384.Idx => sum m c p (i 0) (i 1)) (emb5 m hO t y)).symm
  idx_vars y
  exact (pay4_apply y0 y1 _).trans (scr_last m c p hp hO t h y1 y0)

/-- What the step adds to the weights. -/
theorem arr6 : (dats m hO 0 c).arrAt 6 (cfgM m hO).N
    = fun i : S2048x384.Idx => Adam.delta (w m c i) (Adam.fst (sum m c p (i 0) (i 1)) (mo m c i)) (Adam.snd (sum m c p (i 0) (i 1)) (ve m c i)) := by
  refine (dats m hO 0 c).arrAt_eq_of_covers 6 _ (covers6 m hO) fun t hf (y : S512x384.Idx) => ?_
  have h := (flush0_6 _ t).1 hf
  blk_simp
  rw [after0_6, (outs_last m c hO t h).2.1]
  refine Eq.trans ?_ (congrArg (fun i : S2048x384.Idx => Adam.delta (w m c i) (Adam.fst (sum m c p (i 0) (i 1)) (mo m c i)) (Adam.snd (sum m c p (i 0) (i 1)) (ve m c i))) (emb6 m hO t y)).symm
  idx_vars y
  exact (pay7_apply _ _ _ _ y0 y1).trans (by rw [pay4_apply, scr_last m c p hp hO t h y1 y0, in2 m c hO t y0 y1, in3 m c hO t y0 y1, in4 m c hO t y0 y1])

/-- The first moments. -/
theorem arr7 : (dats m hO 0 c).arrAt 7 (cfgM m hO).N = fun i : S2048x384.Idx => Adam.fst (sum m c p (i 0) (i 1)) (mo m c i) := by
  refine (dats m hO 0 c).arrAt_eq_of_covers 7 _ (covers7 m hO) fun t hf (y : S512x384.Idx) => ?_
  have h := (flush0_7 _ t).1 hf
  blk_simp
  rw [after0_7, (outs_last m c hO t h).2.2.1]
  refine Eq.trans ?_ (congrArg (fun i : S2048x384.Idx => Adam.fst (sum m c p (i 0) (i 1)) (mo m c i)) (emb7 m hO t y)).symm
  idx_vars y
  exact (pay5_apply _ _ y0 y1).trans (by rw [pay4_apply, scr_last m c p hp hO t h y1 y0, in3 m c hO t y0 y1])

/-- The second moments. -/
theorem arr8 : (dats m hO 0 c).arrAt 8 (cfgM m hO).N = fun i : S2048x384.Idx => Adam.snd (sum m c p (i 0) (i 1)) (ve m c i) := by
  refine (dats m hO 0 c).arrAt_eq_of_covers 8 _ (covers8 m hO) fun t hf (y : S512x384.Idx) => ?_
  have h := (flush0_8 _ t).1 hf
  blk_simp
  rw [after0_8, (outs_last m c hO t h).2.2.2]
  refine Eq.trans ?_ (congrArg (fun i : S2048x384.Idx => Adam.snd (sum m c p (i 0) (i 1)) (ve m c i)) (emb8 m hO t y)).symm
  idx_vars y
  exact (pay6_apply _ _ y0 y1).trans (by rw [pay4_apply, scr_last m c p hp hO t h y1 y0, in4 m c hO t y0 y1])

end

end

section

open Cert.FinInIdeal Cert.FinInIdeal.Gen

variable {F : FTy → Type} [FloatOps F] (m : (ℓ : Loc nD τ sig) → Buf (Elt F) ℓ) (c : Dev nD)

/-- The word is the chip's index that the call is given. -/
theorem word_eq : word (tbl m) = (m ((c.tc : Thread nD τ).loc main_arg0) : S2.Idx → BitVec 32) (ix1 (1 : Fin 2)) := by
  obtain rfl : c = 0 := Subsingleton.elim _ _
  have e : (tbl m 0 : S2.Idx → BitVec 32) = m (((0 : Dev nD).tc : Thread nD τ).loc main_arg0) := V_main_arg0 m 0
  refine Eq.trans (congrArg (tbl m 0) ?_) (congrFun e _)
  blk_ext
  rfl

end

/-- The side conditions of the precondition's text. -/
theorem chipFacts : Cert.Pre_chip_in.Facts := ⟨by decide, by decide⟩

/-- The precondition says that the word is a chip's index. -/
theorem named {F : FTy → Type} [FloatOps F] (x0 : IVec Cert.Pre_chip_in.S2 32) (x1 x2 : FVec F Cert.Pre_chip_in.S4x384x2048 .bf16) (x3 x4 x5 : FVec F Cert.Pre_chip_in.S2048x384 .f32)
    (h : @Cert.Pre_chip_in.fn chipFacts F _ x0 x1 x2 x3 x4 x5 = fun _ => 1#1) : ∃ p : Fin 4, x0 (ix1 (1 : Fin 2)) = BitVec.ofNat 32 p.val := by
  refine of_bounds _ (Eq.trans ?_ (congrFun h (fun a => a.elim0)))
  pointwise [Cert.Pre_chip_in.fn]

/-- The kernel terminates without a fault and keeps its arguments. -/
theorem frame_p : Cert.quiescent_FinIn (hPre_chip_in := chipFacts) := fun m ρ h => by
  obtain ⟨p, hp⟩ := named _ _ _ _ _ _ (h 0)
  exact Cert.FinIn.Gen.frame m ρ (ok_of_word (F := Bits) (Cert.FinInIdeal.Gen.tbl (F := Bits) m) p ((word_eq (F := Bits) m 0).trans hp))

/-- So does its idealization. -/
theorem frame_pi : Cert.quiescent_FinInIdeal (hPre_chip_in := chipFacts) := fun m ρ h => by
  obtain ⟨p, hp⟩ := named _ _ _ _ _ _ (h 0)
  exact Cert.FinInIdeal.Gen.frame m ρ (ok_of_word _ p ((word_eq m 0).trans hp))

/-- The reference terminates and keeps its arguments; it has no semaphore. -/
theorem frame_ri : Cert.quiescent_FinInRefIdeal := fun m ρ _ =>
  (θ_run Cert.FinInRefIdeal.defs _ _).mono (fun r h => ⟨fun c => (h c).2.2.2.2,
      Idealize.ShloMosaic.sem_eq_zero_of_no_sems (by decide) r.2⟩)
    (Cert.FinInRefIdeal.Value.run (F := Ideal) m ρ)

section

open Cert.FinInRefIdeal.Read

variable (x0 : IVec Cert.FinInRefIdeal.S2 32) (x1 x2 : FVec Ideal Cert.FinInRefIdeal.S4x384x2048 .bf16) (w m v : FVec Ideal Cert.FinInRefIdeal.S2048x384 .f32)
  (p : Fin 4) (hp : x0 (ix1 (1 : Fin 2)) = BitVec.ofNat 32 p.val) (i : Fin 2048) (j : Fin 384)
include hp

/-- The reference's sum over the chips at an element. -/
theorem ref9 : val_main_v9 (F := Ideal) x0 x1 x2 (ix2 i j) = total p (fun k => x1 (ix3 k j i)) (fun k => x2 (ix3 k j i)) := by
  unfold total
  pointwise [val_main_v9, val_main_v8, val_main_v7, val_main_v6, val_main_call0_v0, val_main_v5, val_main_v4, val_main_v3, val_main_v2, val_main_v1, val_main_v0, val_main_cst]
  refine Finset.sum_congr rfl fun k _ => ?_
  rw [hp, eq_word p k]
  by_cases h : k = p
  · rw [if_pos h, if_pos h]; rfl
  · rw [if_neg h, if_neg h]; rfl

omit hp in
/-- The first moment, of its sum. -/
theorem ref14 : val_main_v14 (F := Ideal) x0 x1 x2 m (ix2 i j) = Adam.fst (val_main_v9 (F := Ideal) x0 x1 x2 (ix2 i j)) (m (ix2 i j)) := by
  unfold Adam.fst
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2, val_main_cst_3, val_main_cst_4, val_main_cst_5, val_main_cst_6, val_main_cst_7, val_main_cst_8]

omit hp in
/-- The second moment. -/
theorem ref20 : val_main_v20 (F := Ideal) x0 x1 x2 v (ix2 i j) = Adam.snd (val_main_v9 (F := Ideal) x0 x1 x2 (ix2 i j)) (v (ix2 i j)) := by
  unfold Adam.snd
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2, val_main_cst_3, val_main_cst_4, val_main_cst_5, val_main_cst_6, val_main_cst_7, val_main_cst_8]

omit hp in
/-- What it adds to the weight. -/
theorem ref33 : val_main_v33 (F := Ideal) x0 x1 x2 w m v (ix2 i j)
    = Adam.delta (w (ix2 i j)) (Adam.fst (val_main_v9 (F := Ideal) x0 x1 x2 (ix2 i j)) (m (ix2 i j))) (Adam.snd (val_main_v9 (F := Ideal) x0 x1 x2 (ix2 i j)) (v (ix2 i j))) := by
  unfold Adam.delta Adam.fst Adam.snd
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2, val_main_cst_3, val_main_cst_4, val_main_cst_5, val_main_cst_6, val_main_cst_7, val_main_cst_8]

end

open Cert.FinInIdeal Cert.FinInIdeal.Gen in
/-- The kernel's idealization ends with its arrays of results, its arguments kept. -/
theorem run (m : (ℓ : Loc nD τ sig) → Buf (Elt Ideal) ℓ) (g : Dev nD → PrngReg) (hO : Ok m) :
    θ_run defs (onTc (τ := τ) (main (F := Ideal))) ⟨m, fun _ => 0, g⟩ (fun r => ∀ c : Dev nD,
      r.2.mem ((c.tc : Thread nD τ).loc main_v0_0) = (dats m hO 0 c).arrAt 5 (cfgM m hO).N
      ∧ r.2.mem ((c.tc : Thread nD τ).loc main_v0_1) = (dats m hO 0 c).arrAt 6 (cfgM m hO).N
      ∧ r.2.mem ((c.tc : Thread nD τ).loc main_v0_2) = (dats m hO 0 c).arrAt 7 (cfgM m hO).N
      ∧ r.2.mem ((c.tc : Thread nD τ).loc main_v0_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.2 c).1 5, (h.2 c).1 6, (h.2 c).1 7, (h.2 c).1 8, h.1 c⟩)
    (θ_run_and (unchanged m g hO) (run_main m g hO))

/-- What the kernel's idealization ends with is the reference's sum over the chips and its step. -/
theorem algebraic : Cert.algebraic_FinInIdeal_FinInRefIdeal (hPre_chip_in := chipFacts) := by
  intro m g m' g' hpre hagree
  obtain ⟨p, hp0⟩ := named _ _ _ _ _ _ (hpre 0)
  have hp := (word_eq m 0).trans hp0
  have hO : Cert.FinInIdeal.Gen.Ok m := ok_of_word _ p hp
  have hc : ∀ c : Dev Cert.FinInIdeal.nD, (m ((c.tc : Thread Cert.FinInIdeal.nD Cert.FinInIdeal.τ).loc Cert.FinInIdeal.main_arg0) : Cert.FinInIdeal.S2.Idx → BitVec 32) (ix1 (1 : Fin 2)) = BitVec.ofNat 32 p.val :=
    fun c => (word_eq m c).symm.trans hp
  refine ⟨fun c => (Cert.FinInIdeal.Gen.dats m hO 0 c).arrAt 5 (Cert.FinInIdeal.Gen.cfgM m hO).N, fun c => (Cert.FinInIdeal.Gen.dats m hO 0 c).arrAt 6 (Cert.FinInIdeal.Gen.cfgM m hO).N,
    fun c => (Cert.FinInIdeal.Gen.dats m hO 0 c).arrAt 7 (Cert.FinInIdeal.Gen.cfgM m hO).N, fun c => (Cert.FinInIdeal.Gen.dats m hO 0 c).arrAt 8 (Cert.FinInIdeal.Gen.cfgM m hO).N, run m g hO, ?_⟩
  refine (θ_run Cert.FinInRefIdeal.defs _ _).mono (fun r h c => ?_) (Cert.FinInRefIdeal.Value.run (F := Ideal) m' g')
  obtain ⟨h0, h1, h2, h3, h4, h5⟩ := hagree c
  refine ⟨(h c).1.trans ?_, (h c).2.1.trans ?_, (h c).2.2.1.trans ?_, (h c).2.2.2.1.trans ?_, (h c).2.2.2.2⟩
  · rw [Cert.FinInRefIdeal.Read.val_main_v9_eq, h0, h1, h2]
    refine Eq.trans ?_ (arr5 m c p hp hO).symm
    funext j
    idx_vars j
    exact ref9 _ _ _ p (hc c) _ _
  · rw [Cert.FinInRefIdeal.Read.val_main_v33_eq, h0, h1, h2, h3, h4, h5]
    refine Eq.trans ?_ (arr6 m c p hp hO).symm
    funext j
    idx_vars j
    exact (ref33 _ _ _ _ _ _ _ _).trans (by rw [ref9 _ _ _ p (hc c)]; rfl)
  · rw [Cert.FinInRefIdeal.Read.val_main_v14_eq, h0, h1, h2, h4]
    refine Eq.trans ?_ (arr7 m c p hp hO).symm
    funext j
    idx_vars j
    exact (ref14 _ _ _ _ _ _).trans (by rw [ref9 _ _ _ p (hc c)]; rfl)
  · rw [Cert.FinInRefIdeal.Read.val_main_v20_eq, h0, h1, h2, h5]
    refine Eq.trans ?_ (arr8 m c p hp hO).symm
    funext j
    idx_vars j
    exact (ref20 _ _ _ _ _ _).trans (by rw [ref9 _ _ _ p (hc c)]; rfl)

end Cert.FinishIn

end
-- ==== Proof.lean ====
/-
  The certificate's proof: the claims proved in `Proof/`, put together.
-/
module

public import proofs.«01_k».proof.Proof.AttnClaim
public import proofs.«01_k».proof.Proof.GateClaim
public import proofs.«01_k».proof.Proof.UpClaim
public import proofs.«01_k».proof.Proof.WeightClaim
public import proofs.«01_k».proof.Proof.InputWeight
public import proofs.«01_k».proof.Proof.SquareWeight
public import proofs.«01_k».proof.Proof.MemoryWeight
public import proofs.«01_k».proof.Proof.HeadsInput
public import proofs.«01_k».proof.Proof.MixInput
public import proofs.«01_k».proof.Proof.MemoryInput
public import proofs.«01_k».proof.Proof.InputForward
public import proofs.«01_k».proof.Proof.QueryForward
public import proofs.«01_k».proof.Proof.MemoryForward
public import proofs.«01_k».proof.Proof.GateForward
public import proofs.«01_k».proof.Proof.UpForward
public import proofs.«01_k».proof.Proof.AttnForward
public import proofs.«01_k».proof.Proof.Pooling
public import proofs.«01_k».proof.Proof.OutForward
public import proofs.«01_k».proof.Proof.MixNormForward
public import proofs.«01_k».proof.Proof.MemNormForward
public import proofs.«01_k».proof.Proof.MemNormBackward
public import proofs.«01_k».proof.Proof.FfnNormBackward
public import proofs.«01_k».proof.Proof.QueryInput
public import proofs.«01_k».proof.Proof.StreamInput
public import proofs.«01_k».proof.Proof.DownLoss
public import proofs.«01_k».proof.Proof.SmallSums
public import proofs.«01_k».proof.Proof.SmallUpdate
public import proofs.«01_k».proof.Proof.FinishSquare
public import proofs.«01_k».proof.Proof.FinishFfn
public import proofs.«01_k».proof.Proof.FinishPool
public import proofs.«01_k».proof.Proof.FinishIn

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Gate.Gen.facts, Cert.GateIdeal.Gen.facts, Cert.GateRefIdeal.Gen.facts,
    Cert.Up.Gen.facts, Cert.UpIdeal.Gen.facts, Cert.UpRefIdeal.Gen.facts,
    Cert.DownW.Gen.facts, Cert.DownWIdeal.Gen.facts, Cert.DownWRefIdeal.Gen.facts,
    Cert.InW.Gen.facts, Cert.InWIdeal.Gen.facts, Cert.InWRefIdeal.Gen.facts,
    Cert.OutW.Gen.facts, Cert.OutWIdeal.Gen.facts, Cert.OutWRefIdeal.Gen.facts,
    Cert.KvW.Gen.facts, Cert.KvWIdeal.Gen.facts, Cert.KvWRefIdeal.Gen.facts,
    Cert.OIn.Gen.facts, Cert.OInIdeal.Gen.facts, Cert.OInRefIdeal.Gen.facts,
    Cert.OutIn.Gen.facts, Cert.OutInIdeal.Gen.facts, Cert.OutInRefIdeal.Gen.facts,
    Cert.KvIn.Gen.facts, Cert.KvInIdeal.Gen.facts, Cert.KvInRefIdeal.Gen.facts,
    Cert.ProjIn.Gen.facts, Cert.ProjInIdeal.Gen.facts, Cert.ProjInRefIdeal.Gen.facts,
    Cert.ProjQ.Gen.facts, Cert.ProjQIdeal.Gen.facts, Cert.ProjQRefIdeal.Gen.facts,
    Cert.ProjKv.Gen.facts, Cert.ProjKvIdeal.Gen.facts, Cert.ProjKvRefIdeal.Gen.facts,
    Cert.FfnGate.Gen.facts, Cert.FfnGateIdeal.Gen.facts, Cert.FfnGateRefIdeal.Gen.facts,
    Cert.FfnUp.Gen.facts, Cert.FfnUpIdeal.Gen.facts, Cert.FfnUpRefIdeal.Gen.facts,
    Cert.AttnFwd.Gen.facts, Cert.AttnFwdIdeal.Gen.facts, Cert.AttnFwdRefIdeal.Gen.facts,
    Cert.Mixer.Gen.facts, Cert.MixerIdeal.Gen.facts, Cert.MixerRefIdeal.Gen.facts,
    Cert.OutFwd.Gen.facts, Cert.OutFwdIdeal.Gen.facts, Cert.OutFwdRefIdeal.Gen.facts,
    Cert.MixNorm.Gen.facts, Cert.MixNormIdeal.Gen.facts, Cert.MixNormRefIdeal.Gen.facts,
    Cert.MemNorm.Gen.facts, Cert.MemNormIdeal.Gen.facts, Cert.MemNormRefIdeal.Gen.facts,
    Cert.MemG.Gen.facts, Cert.MemGIdeal.Gen.facts, Cert.MemGRefIdeal.Gen.facts,
    Cert.FfnG.Gen.facts, Cert.FfnGIdeal.Gen.facts, Cert.FfnGRefIdeal.Gen.facts,
    Cert.QIn.Gen.facts, Cert.QInIdeal.Gen.facts, Cert.QInRefIdeal.Gen.facts,
    Cert.MixIn.Gen.facts, Cert.MixInIdeal.Gen.facts, Cert.MixInRefIdeal.Gen.facts,
    Cert.Down.Gen.facts, Cert.DownIdeal.Gen.facts, Cert.DownRefIdeal.Gen.facts,
    Cert.SumEarly.Gen.facts, Cert.SumEarlyIdeal.Gen.facts, Cert.SumEarlyRefIdeal.Gen.facts,
    Cert.SumLate.Gen.facts, Cert.SumLateIdeal.Gen.facts, Cert.SumLateRefIdeal.Gen.facts,
    Cert.SmallAdamw.Gen.facts, Cert.SmallAdamwIdeal.Gen.facts, Cert.SmallAdamwRefIdeal.Gen.facts,
    Cert.FinSquare.Gen.facts, Cert.FinSquareIdeal.Gen.facts, Cert.FinSquareRefIdeal.Gen.facts,
    Cert.FinFfn.Gen.facts, Cert.FinFfnIdeal.Gen.facts, Cert.FinFfnRefIdeal.Gen.facts,
    Cert.FinPool.Gen.facts, Cert.FinPoolIdeal.Gen.facts, Cert.FinPoolRefIdeal.Gen.facts,
    Cert.FinIn.Gen.facts, Cert.FinInIdeal.Gen.facts, Cert.FinInRefIdeal.Gen.facts,
    Cert.Attn.finiteFacts, Cert.GateGrad.gateFiniteFacts, Cert.Pooling.mixerFiniteFacts, Cert.FinishSquare.chipFacts, Cert.FinishFfn.chipFacts, Cert.FinishPool.chipFacts, Cert.FinishIn.chipFacts,
    Cert.Attn.frame_p, Cert.Attn.frame_pi, fun m ρ _ => Cert.Attn.frame_pi m ρ trivial, Cert.Attn.frame_ri,
    fun m ρ _ => Cert.Attn.frame_ri m ρ trivial,
    Cert.GateGrad.frame_p, Cert.GateGrad.frame_pi, fun m ρ _ => Cert.GateGrad.frame_pi m ρ trivial, Cert.GateGrad.frame_ri,
    fun m ρ _ => Cert.GateGrad.frame_ri m ρ trivial,
    Cert.UpGrad.frame_p, Cert.UpGrad.frame_pi, Cert.UpGrad.frame_ri,
    Cert.WeightGrad.frame_p, Cert.WeightGrad.frame_pi, Cert.WeightGrad.frame_ri,
    Cert.InputWeight.frame_p, Cert.InputWeight.frame_pi, Cert.InputWeight.frame_ri,
    Cert.SquareWeight.frame_p, Cert.SquareWeight.frame_pi, Cert.SquareWeight.frame_ri,
    Cert.MemoryWeight.frame_p, Cert.MemoryWeight.frame_pi, Cert.MemoryWeight.frame_ri,
    Cert.HeadsInput.frame_p, Cert.HeadsInput.frame_pi, Cert.HeadsInput.frame_ri,
    Cert.MixInput.frame_p, Cert.MixInput.frame_pi, Cert.MixInput.frame_ri,
    Cert.MemoryInput.frame_p, Cert.MemoryInput.frame_pi, Cert.MemoryInput.frame_ri,
    Cert.InputForward.frame_p, Cert.InputForward.frame_pi, Cert.InputForward.frame_ri,
    Cert.QueryForward.frame_p, Cert.QueryForward.frame_pi, Cert.QueryForward.frame_ri,
    Cert.MemoryForward.frame_p, Cert.MemoryForward.frame_pi, Cert.MemoryForward.frame_ri,
    Cert.GateForward.frame_p, Cert.GateForward.frame_pi, Cert.GateForward.frame_ri,
    Cert.UpForward.frame_p, Cert.UpForward.frame_pi, Cert.UpForward.frame_ri,
    Cert.AttnForward.frame_p, Cert.AttnForward.frame_pi, Cert.AttnForward.frame_ri,
    Cert.Pooling.frame_p, Cert.Pooling.frame_pi, fun m ρ _ => Cert.Pooling.frame_pi m ρ trivial, Cert.Pooling.frame_ri,
    fun m ρ _ => Cert.Pooling.frame_ri m ρ trivial,
    Cert.OutForward.frame_p, Cert.OutForward.frame_pi, Cert.OutForward.frame_ri,
    Cert.MixNormForward.frame_p, Cert.MixNormForward.frame_pi, Cert.MixNormForward.frame_ri,
    Cert.MemNormForward.frame_p, Cert.MemNormForward.frame_pi, Cert.MemNormForward.frame_ri,
    Cert.MemNormBackward.frame_p, Cert.MemNormBackward.frame_pi, Cert.MemNormBackward.frame_ri,
    Cert.FfnNormBackward.frame_p, Cert.FfnNormBackward.frame_pi, Cert.FfnNormBackward.frame_ri,
    Cert.QueryInput.frame_p, Cert.QueryInput.frame_pi, Cert.QueryInput.frame_ri,
    Cert.StreamInput.frame_p, Cert.StreamInput.frame_pi, Cert.StreamInput.frame_ri,
    Cert.DownLoss.frame_p, Cert.DownLoss.frame_pi, Cert.DownLoss.frame_ri,
    Cert.SmallSums.Early.frame_p, Cert.SmallSums.Early.frame_pi, Cert.SmallSums.Early.frame_ri,
    Cert.SmallSums.Late.frame_p, Cert.SmallSums.Late.frame_pi, Cert.SmallSums.Late.frame_ri,
    Cert.SmallUpdate.frame_p, Cert.SmallUpdate.frame_pi, Cert.SmallUpdate.frame_ri,
    Cert.FinishSquare.frame_p, Cert.FinishSquare.frame_pi, Cert.FinishSquare.frame_ri, fun m ρ _ => Cert.FinishSquare.frame_ri m ρ trivial,
    Cert.FinishFfn.frame_p, Cert.FinishFfn.frame_pi, Cert.FinishFfn.frame_ri, fun m ρ _ => Cert.FinishFfn.frame_ri m ρ trivial,
    Cert.FinishPool.frame_p, Cert.FinishPool.frame_pi, Cert.FinishPool.frame_ri, fun m ρ _ => Cert.FinishPool.frame_ri m ρ trivial,
    Cert.FinishIn.frame_p, Cert.FinishIn.frame_pi, Cert.FinishIn.frame_ri, fun m ρ _ => Cert.FinishIn.frame_ri m ρ trivial,
    trivial, Cert.Attn.algebraic,
    trivial, Cert.GateGrad.algebraic,
    trivial, Cert.UpGrad.algebraic,
    trivial, Cert.WeightGrad.algebraic,
    trivial, Cert.InputWeight.algebraic,
    trivial, Cert.SquareWeight.algebraic,
    trivial, Cert.MemoryWeight.algebraic,
    trivial, Cert.HeadsInput.algebraic,
    trivial, Cert.MixInput.algebraic,
    trivial, Cert.MemoryInput.algebraic,
    trivial, Cert.InputForward.algebraic,
    trivial, Cert.QueryForward.algebraic,
    trivial, Cert.MemoryForward.algebraic,
    trivial, Cert.GateForward.algebraic,
    trivial, Cert.UpForward.algebraic,
    trivial, Cert.AttnForward.algebraic,
    trivial, Cert.Pooling.algebraic,
    trivial, Cert.OutForward.algebraic,
    trivial, Cert.MixNormForward.algebraic,
    trivial, Cert.MemNormForward.algebraic,
    trivial, Cert.MemNormBackward.algebraic,
    trivial, Cert.FfnNormBackward.algebraic,
    trivial, Cert.QueryInput.algebraic,
    trivial, Cert.StreamInput.algebraic,
    trivial, Cert.DownLoss.algebraic,
    trivial, Cert.SmallSums.Early.algebraic,
    trivial, Cert.SmallSums.Late.algebraic,
    trivial, Cert.SmallUpdate.algebraic,
    trivial, Cert.FinishSquare.algebraic,
    trivial, Cert.FinishFfn.algebraic,
    trivial, Cert.FinishPool.algebraic,
    trivial, Cert.FinishIn.algebraic⟩

end Cert.Proof

end
